-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2 = (fun _ => 1#1)

def Pre_Kernel4 (m : (ℓ : Loc Cert.Kernel4.nD Cert.Kernel4.τ Cert.Kernel4.sig) → Buf (Elt Bits) ℓ) : Prop :=
  True

def Pre_Reference4 (m : (ℓ : Loc Cert.Reference4.nD Cert.Reference4.τ Cert.Reference4.sig) → Buf (Elt Bits) ℓ) : Prop :=
  True

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_v77) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_v91) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def bitexact_Kernel4_Reference4 [hKernel4 : Cert.Kernel4.Facts] [hReference4 : Cert.Reference4.Facts] : Prop :=
  ∀ (m : (ℓ : Loc Cert.Kernel4.nD Cert.Kernel4.τ Cert.Kernel4.sig) → Buf (Elt Bits) ℓ) (g : Dev Cert.Kernel4.nD → PrngReg)
    (m' : (ℓ : Loc Cert.Reference4.nD Cert.Reference4.τ Cert.Reference4.sig) → Buf (Elt Bits) ℓ) (g' : Dev Cert.Reference4.nD → PrngReg), Pre_Kernel4 m →
    (∀ c : Dev Cert.Kernel4.nD,
      m' ((c.tc : Thread Cert.Reference4.nD Cert.Reference4.τ).loc Cert.Reference4.main_arg0) = m ((c.tc : Thread Cert.Kernel4.nD Cert.Kernel4.τ).loc Cert.Kernel4.main_arg0)) →
    ∃ (v0 : (c : Dev Cert.Kernel4.nD) → Buf (Elt Bits) ((c.tc : Thread Cert.Kernel4.nD Cert.Kernel4.τ).loc Cert.Kernel4.main_v0)),
      θ_run (Cert.Kernel4.defs (F := Bits)) (onTc (τ := Cert.Kernel4.τ) (Cert.Kernel4.main (F := Bits))) ⟨m, fun _ => 0, g⟩ (fun r => ∀ c : Dev Cert.Kernel4.nD,
          r.2.mem ((c.tc : Thread Cert.Kernel4.nD Cert.Kernel4.τ).loc Cert.Kernel4.main_v0) = v0 c
          ∧ r.2.mem ((c.tc : Thread Cert.Kernel4.nD Cert.Kernel4.τ).loc Cert.Kernel4.main_arg0) = m ((c.tc : Thread Cert.Kernel4.nD Cert.Kernel4.τ).loc Cert.Kernel4.main_arg0))
      ∧ θ_run (Cert.Reference4.defs (F := Bits)) (onTc (τ := Cert.Reference4.τ) (Cert.Reference4.main (F := Bits))) ⟨m', fun _ => 0, g'⟩ (fun r => ∀ c : Dev Cert.Reference4.nD,
          r.2.mem ((c.tc : Thread Cert.Reference4.nD Cert.Reference4.τ).loc Cert.Reference4.main_v8) = v0 c
          ∧ r.2.mem ((c.tc : Thread Cert.Reference4.nD Cert.Reference4.τ).loc Cert.Reference4.main_arg0) = m' ((c.tc : Thread Cert.Reference4.nD Cert.Reference4.τ).loc Cert.Reference4.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hReference4 : Cert.Reference4.Facts) (hPre_experts_exist : Cert.Pre_experts_exist.Facts) (hPre_finite : Cert.Pre_finite.Facts),
    quiescent_Kernel (hKernel := hKernel) (hPre_experts_exist := hPre_experts_exist)
    ∧ quiescent_KernelIdeal (hKernelIdeal := hKernelIdeal) (hPre_experts_exist := hPre_experts_exist)
    ∧ quiescent_ReferenceIdeal (hReferenceIdeal := hReferenceIdeal) (hPre_experts_exist := hPre_experts_exist)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Reference4 (hReference4 := hReference4)
    ∧ preserves_Kernel_KernelIdeal
    ∧ algebraic_KernelIdeal_ReferenceIdeal (hKernelIdeal := hKernelIdeal) (hReferenceIdeal := hReferenceIdeal) (hPre_experts_exist := hPre_experts_exist)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ bitexact_Kernel4_Reference4 (hKernel4 := hKernel4) (hReference4 := hReference4)
-- ==== Pre_experts_exist.lean ====
abbrev S32768x1024 : Shape := ⟨2, ![32768, 1024]⟩
abbrev S32768x128 : Shape := ⟨2, ![32768, 128]⟩
abbrev S65536x128 : Shape := ⟨2, ![65536, 128]⟩
abbrev S_ : Shape := ⟨0, ![]⟩

class Facts : Prop where
  bcast_S_S32768x128 : S_.BroadcastsInDim S32768x128 (![] : Fin 0 → Fin S32768x128.rank)

variable [Facts]

def fn {F : FTy → Type} [FloatOps F] (main_arg0 : FVec F S32768x1024 .f32) (main_arg1 : IVec S32768x128 32) (main_arg2 : FVec F S32768x128 .f32) (main_arg3 : IVec S65536x128 32) : IVec S32768x128 1 :=
  let main_c : IVec S_ 32 := constantI S_ 32 0#32
  let main_v0 : IVec S32768x128 32 := broadcastInDim S32768x128 ![] bcast_S_S32768x128 main_c
  let main_v1 : IVec S32768x128 1 := cmpi .sge main_arg1 main_v0
  let main_c_0 : IVec S_ 32 := constantI S_ 32 16384#32
  let main_v2 : IVec S32768x128 32 := broadcastInDim S32768x128 ![] bcast_S_S32768x128 main_c_0
  let main_v3 : IVec S32768x128 1 := cmpi .slt main_arg1 main_v2
  let main_v4 : IVec S32768x128 1 := andi main_v1 main_v3
  main_v4
-- ==== Pre_finite.lean ====
abbrev S32768x1024 : Shape := ⟨2, ![32768, 1024]⟩
abbrev S1024 : Shape := ⟨1, ![1024]⟩
abbrev S1024x2560 : Shape := ⟨2, ![1024, 2560]⟩
abbrev S64 : Shape := ⟨1, ![64]⟩
abbrev S512 : Shape := ⟨1, ![512]⟩
abbrev S8x128x128 : Shape := ⟨3, ![8, 128, 128]⟩
abbrev S8x128 : Shape := ⟨2, ![8, 128]⟩
abbrev S_ : Shape := ⟨0, ![]⟩

class Facts : Prop where
  bcast_S_S1024 : S_.BroadcastsInDim S1024 (![] : Fin 0 → Fin S1024.rank)
  bcast_S_S1024x2560 : S_.BroadcastsInDim S1024x2560 (![] : Fin 0 → Fin S1024x2560.rank)

variable [Facts]

def fn {F : FTy → Type} [FloatOps F] (main_arg0 : FVec F S32768x1024 .f32) (main_arg1 : FVec F S1024 .f32) (main_arg2 : FVec F S1024x2560 .f32) (main_arg3 : FVec F S64 .f32) (main_arg4 : FVec F S64 .f32) (main_arg5 : FVec F S512 .f32) (main_arg6 : FVec F S8x128x128 .f32) (main_arg7 : FVec F S8x128 .f32) (main_arg8 : FVec F S512 .f32) : IVec S1024 1 × IVec S1024x2560 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2560 .f32 := Host.absf main_arg2
  let main_cst_0 : FVec F S_ .f32 := constant S_ .f32 0x7F800000#32
  let main_v4 : FVec F S1024x2560 .f32 := broadcastInDim S1024x2560 ![] bcast_S_S1024x2560 main_cst_0
  let main_v5 : IVec S1024x2560 1 := cmpf .olt main_v3 main_v4
  (main_v2, main_v5)
-- ==== Kernel.lean ====
abbrev S32768x1024 : Shape := ⟨2, ![32768, 1024]⟩
abbrev S32768x128 : Shape := ⟨2, ![32768, 128]⟩
abbrev S65536x128 : Shape := ⟨2, ![65536, 128]⟩
abbrev S_ : Shape := ⟨0, ![]⟩
abbrev S256x128x128 : Shape := ⟨3, ![256, 128, 128]⟩
abbrev S256x16384 : Shape := ⟨2, ![256, 16384]⟩
abbrev S32768x8x128 : Shape := ⟨3, ![32768, 8, 128]⟩
abbrev S128x8x128 : Shape := ⟨3, ![128, 8, 128]⟩
abbrev S1x128x128 : Shape := ⟨3, ![1, 128, 128]⟩
abbrev S65552x128 : Shape := ⟨2, ![65552, 128]⟩
abbrev S32768 : Shape := ⟨1, ![32768]⟩
abbrev S512x128 : Shape := ⟨2, ![512, 128]⟩
abbrev S129x128x128 : Shape := ⟨3, ![129, 128, 128]⟩
abbrev S128x128 : Shape := ⟨2, ![128, 128]⟩
abbrev S2 : Shape := ⟨1, ![2]⟩
abbrev S1 : Shape := ⟨1, ![1]⟩
abbrev S16384 : Shape := ⟨1, ![16384]⟩
abbrev S1x16384 : Shape := ⟨2, ![1, 16384]⟩
abbrev S8x128 : Shape := ⟨2, ![8, 128]⟩
abbrev S16512 : Shape := ⟨1, ![16512]⟩
abbrev S1x8x128 : Shape := ⟨3, ![1, 8, 128]⟩
abbrev S1x128 : Shape := ⟨2, ![1, 128]⟩
abbrev S128 : Shape := ⟨1, ![128]⟩
abbrev S128x1 : Shape := ⟨2, ![128, 1]⟩

abbrev nBuf : Space → Nat
  | .hbm => 44
  | .vmem => 11
  | .smem => 1
  | _ => 0

abbrev bufTy : (tb : Table) → Fin (tcTables nBuf tb) → BufTy
  | .hbm, ⟨0, _⟩ => ⟨S32768x1024, .f32⟩
  | .hbm, ⟨1, _⟩ => ⟨S32768x128, .i32⟩
  | .hbm, ⟨2, _⟩ => ⟨S32768x128, .f32⟩
  | .hbm, ⟨3, _⟩ => ⟨S65536x128, .i32⟩
  | .hbm, ⟨4, _⟩ => ⟨S32768x128, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S32768x128, .i32⟩
  | .hbm, ⟨12, _⟩ => ⟨S32768x128, .i32⟩
  | .hbm, ⟨13, _⟩ => ⟨S_, .i32⟩
  | .hbm, ⟨14, _⟩ => ⟨S32768x128, .i32⟩
  | .hbm, ⟨15, _⟩ => ⟨S32768x128, .i1⟩
  | .hbm, ⟨16, _⟩ => ⟨S_, .i32⟩
  | .hbm, ⟨17, _⟩ => ⟨S32768x128, .i32⟩
  | .hbm, ⟨18, _⟩ => ⟨S32768x128, .i1⟩
  | .hbm, ⟨19, _⟩ => ⟨S_, .i32⟩
  | .hbm, ⟨20, _⟩ => ⟨S_, .i1⟩
  | .hbm, ⟨21, _⟩ => ⟨S32768x128, .i1⟩
  | .hbm, ⟨22, _⟩ => ⟨S32768x128, .i1⟩
  | .hbm, ⟨23, _⟩ => ⟨S32768x128, .i1⟩
  | .hbm, ⟨24, _⟩ => ⟨S32768x128, .i32⟩
  | .hbm, ⟨25, _⟩ => ⟨S32768x128, .i32⟩
  | .hbm, ⟨26, _⟩ => ⟨S32768x128, .i32⟩
  | .hbm, ⟨27, _⟩ => ⟨S_, .i32⟩
  | .hbm, ⟨28, _⟩ => ⟨S32768x128, .i32⟩
  | .hbm, ⟨29, _⟩ => ⟨S32768x128, .i32⟩
  | .hbm, ⟨30, _⟩ => ⟨S_, .i32⟩
  | .hbm, ⟨31, _⟩ => ⟨S32768x128, .i32⟩
  | .hbm, ⟨32, _⟩ => ⟨S32768x128, .i32⟩
  | .hbm, ⟨33, _⟩ => ⟨S_, .i32⟩
  | .hbm, ⟨34, _⟩ => ⟨S32768x128, .i32⟩
  | .hbm, ⟨35, _⟩ => ⟨S32768x128, .i32⟩
  | .hbm, ⟨36, _⟩ => ⟨S32768x128, .i32⟩
  | .hbm, ⟨37, _⟩ => ⟨S256x128x128, .i32⟩
  | .hbm, ⟨38, _⟩ => ⟨S256x128x128, .i32⟩
  | .hbm, ⟨39, _⟩ => ⟨S256x16384, .i32⟩
  | .hbm, ⟨40, _⟩ => ⟨S32768x8x128, .f32⟩
  | .hbm, ⟨41, _⟩ => ⟨S256x128x128, .f32⟩
  | .hbm, ⟨42, _⟩ => ⟨S256x128x128, .f32⟩
  | .hbm, ⟨43, _⟩ => ⟨S256x128x128, .f32⟩
  | .local _ .vmem, ⟨0, _⟩ => ⟨S128x8x128, .f32⟩
  | .local _ .vmem, ⟨1, _⟩ => ⟨S128x8x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S65552x128, .i32⟩
  | .local _ .vmem, ⟨7, _⟩ => ⟨S512x128, .i32⟩
  | .local _ .vmem, ⟨8, _⟩ => ⟨S512x128, .i32⟩
  | .local _ .vmem, ⟨9, _⟩ => ⟨S129x128x128, .f32⟩
  | .local _ .vmem, ⟨10, _⟩ => ⟨S128x128, .f32⟩
  | .local _ .smem, ⟨0, _⟩ => ⟨S32768, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_v4 : Ref sig .tc := ⟨.hbm, 31, rfl⟩
abbrev main_v5 : Ref sig .tc := ⟨.hbm, 32, rfl⟩
abbrev main_c_2 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 1 → Nat :=
  let arg0 : BitVec 32 := BitVec.ofNat 32 (i 0).val
  let c2_i32 : BitVec 32 := 2#32
  let v0 : BitVec 32 := Scalar.remsi arg0 c2_i32
  let c16384_i32 : BitVec 32 := 16384#32
  let v4 : BitVec 32 := Scalar.muli v0 c16384_i32
  ![v4.toNat]
def k0_off3 (i : grid0.Coords) : Fin 2 → Nat :=
  let arg0 : BitVec 32 := BitVec.ofNat 32 (i 0).val
  let c0_i32_1 : BitVec 32 := 0#32
  ![arg0.toNat, 0]
def k0_cond2 (i : grid0.Coords) : BitVec 1 :=
  let arg0 : BitVec 32 := BitVec.ofNat 32 (i 0).val
  let c1_i32 : BitVec 32 := 1#32
  let v10 : BitVec 32 := Scalar.addi arg0 c1_i32
  let c256_i32 : BitVec 32 := 256#32
  let v11 : BitVec 1 := Scalar.cmpi .slt v10 c256_i32
  let v12 : BitVec 32 := Scalar.extui v11
  let c0_i32_2 : BitVec 32 := 0#32
  let v13 : BitVec 1 := Scalar.cmpi .ne v12 c0_i32_2
  v13

def k0_off4 (i : grid0.Coords) : Fin 1 → Nat :=
  let c1_i32_286 : BitVec 32 := 1#32
  let arg0 : BitVec 32 := BitVec.ofNat 32 (i 0).val
  let c2_i32 : BitVec 32 := 2#32
  let v0 : BitVec 32 := Scalar.remsi arg0 c2_i32
  let v1203 : BitVec 32 := Scalar.subi c1_i32_286 v0
  ![v1203.toNat]
def k0_off5 (i : grid0.Coords) : Fin 1 → Nat :=
  let c1_i32_286 : BitVec 32 := 1#32
  let arg0 : BitVec 32 := BitVec.ofNat 32 (i 0).val
  let c2_i32 : BitVec 32 := 2#32
  let v0 : BitVec 32 := Scalar.remsi arg0 c2_i32
  let v1203 : BitVec 32 := Scalar.subi c1_i32_286 v0
  let c16384_i32_287 : BitVec 32 := 16384#32
  let v1204 : BitVec 32 := Scalar.muli v1203 c16384_i32_287
  ![v1204.toNat]
def k0_off6 (i : grid0.Coords) : Fin 2 → Nat :=
  let arg0 : BitVec 32 := BitVec.ofNat 32 (i 0).val
  let c1_i32_285 : BitVec 32 := 1#32
  let v1202 : BitVec 32 := Scalar.addi arg0 c1_i32_285
  let c0_i32_288 : BitVec 32 := 0#32
  ![v1202.toNat, 0]
def k0_off7 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v23 : Index := Scalar.indexCast v20
  ![v23.toNat]
def k0_mult1 (v24 : BitVec 32) : BitVec 32 :=
  v24

def k0_off8 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v27 : Index := Scalar.indexCast v20
  ![v27.toNat]
def k0_mult2 (v28 : BitVec 32) : BitVec 32 :=
  v28

def k0_off9 (v24 : BitVec 32) : Fin 2 → Nat :=
  let v25 : BitVec 32 := v24
  let v30 : Index := Scalar.indexCast v25
  let c0_8 : Index := 0#32
  ![v30.toNat, 0]

def k0_chk1 (v24 : BitVec 32) : Prop :=
  (4 ∣ (k0_mult1 v24).toNat) ∧
  (∀ a, (k0_off9 v24) a + S8x128.size a ≤ S65552x128.size a)
theorem k0_mult1_dvd : ∀ (v24 : BitVec 32) (k0_hw1 : k0_chk1 v24), 4 ∣ (k0_mult1 v24).toNat := fun v24 k0_hw1 => k0_hw1.1
theorem k0_off9_inb : ∀ (v24 : BitVec 32) (k0_hw1 : k0_chk1 v24), ∀ a, (k0_off9 v24) a + S8x128.size a ≤ S65552x128.size a := fun v24 k0_hw1 => k0_hw1.2

def k0_off10 (v28 : BitVec 32) : Fin 2 → Nat :=
  let v29 : BitVec 32 := v28
  let v32 : Index := Scalar.indexCast v29
  let c0_9 : Index := 0#32
  ![v32.toNat, 0]

def k0_chk2 (v28 : BitVec 32) : Prop :=
  (4 ∣ (k0_mult2 v28).toNat) ∧
  (∀ a, (k0_off10 v28) a + S8x128.size a ≤ S65552x128.size a)
theorem k0_mult2_dvd : ∀ (v28 : BitVec 32) (k0_hw2 : k0_chk2 v28), 4 ∣ (k0_mult2 v28).toNat := fun v28 k0_hw2 => k0_hw2.1
theorem k0_off10_inb : ∀ (v28 : BitVec 32) (k0_hw2 : k0_chk2 v28), ∀ a, (k0_off10 v28) a + S8x128.size a ≤ S65552x128.size a := fun v28 k0_hw2 => k0_hw2.2

def k0_off11 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v41 : Index := Scalar.indexCast v20
  ![v41.toNat]
def k0_mult3 (v42 : BitVec 32) : BitVec 32 :=
  v42

def k0_off12 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v45 : Index := Scalar.indexCast v20
  ![v45.toNat]
def k0_mult4 (v46 : BitVec 32) : BitVec 32 :=
  v46

def k0_off13 (v42 : BitVec 32) : Fin 2 → Nat :=
  let v43 : BitVec 32 := v42
  let v48 : Index := Scalar.indexCast v43
  let c0_13 : Index := 0#32
  ![v48.toNat, 0]

def k0_chk3 (v42 : BitVec 32) : Prop :=
  (4 ∣ (k0_mult3 v42).toNat) ∧
  (∀ a, (k0_off13 v42) a + S8x128.size a ≤ S65552x128.size a)
theorem k0_mult3_dvd : ∀ (v42 : BitVec 32) (k0_hw3 : k0_chk3 v42), 4 ∣ (k0_mult3 v42).toNat := fun v42 k0_hw3 => k0_hw3.1
theorem k0_off13_inb : ∀ (v42 : BitVec 32) (k0_hw3 : k0_chk3 v42), ∀ a, (k0_off13 v42) a + S8x128.size a ≤ S65552x128.size a := fun v42 k0_hw3 => k0_hw3.2

def k0_off14 (v46 : BitVec 32) : Fin 2 → Nat :=
  let v47 : BitVec 32 := v46
  let v50 : Index := Scalar.indexCast v47
  let c0_14 : Index := 0#32
  ![v50.toNat, 0]

def k0_chk4 (v46 : BitVec 32) : Prop :=
  (4 ∣ (k0_mult4 v46).toNat) ∧
  (∀ a, (k0_off14 v46) a + S8x128.size a ≤ S65552x128.size a)
theorem k0_mult4_dvd : ∀ (v46 : BitVec 32) (k0_hw4 : k0_chk4 v46), 4 ∣ (k0_mult4 v46).toNat := fun v46 k0_hw4 => k0_hw4.1
theorem k0_off14_inb : ∀ (v46 : BitVec 32) (k0_hw4 : k0_chk4 v46), ∀ a, (k0_off14 v46) a + S8x128.size a ≤ S65552x128.size a := fun v46 k0_hw4 => k0_hw4.2

def k0_off15 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v59 : Index := Scalar.indexCast v20
  ![v59.toNat]
def k0_mult5 (v60 : BitVec 32) : BitVec 32 :=
  v60

def k0_off16 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v63 : Index := Scalar.indexCast v20
  ![v63.toNat]
def k0_mult6 (v64 : BitVec 32) : BitVec 32 :=
  v64

def k0_off17 (v60 : BitVec 32) : Fin 2 → Nat :=
  let v61 : BitVec 32 := v60
  let v66 : Index := Scalar.indexCast v61
  let c0_17 : Index := 0#32
  ![v66.toNat, 0]

def k0_chk5 (v60 : BitVec 32) : Prop :=
  (4 ∣ (k0_mult5 v60).toNat) ∧
  (∀ a, (k0_off17 v60) a + S8x128.size a ≤ S65552x128.size a)
theorem k0_mult5_dvd : ∀ (v60 : BitVec 32) (k0_hw5 : k0_chk5 v60), 4 ∣ (k0_mult5 v60).toNat := fun v60 k0_hw5 => k0_hw5.1
theorem k0_off17_inb : ∀ (v60 : BitVec 32) (k0_hw5 : k0_chk5 v60), ∀ a, (k0_off17 v60) a + S8x128.size a ≤ S65552x128.size a := fun v60 k0_hw5 => k0_hw5.2

def k0_off18 (v64 : BitVec 32) : Fin 2 → Nat :=
  let v65 : BitVec 32 := v64
  let v68 : Index := Scalar.indexCast v65
  let c0_18 : Index := 0#32
  ![v68.toNat, 0]

def k0_chk6 (v64 : BitVec 32) : Prop :=
  (4 ∣ (k0_mult6 v64).toNat) ∧
  (∀ a, (k0_off18 v64) a + S8x128.size a ≤ S65552x128.size a)
theorem k0_mult6_dvd : ∀ (v64 : BitVec 32) (k0_hw6 : k0_chk6 v64), 4 ∣ (k0_mult6 v64).toNat := fun v64 k0_hw6 => k0_hw6.1
theorem k0_off18_inb : ∀ (v64 : BitVec 32) (k0_hw6 : k0_chk6 v64), ∀ a, (k0_off18 v64) a + S8x128.size a ≤ S65552x128.size a := fun v64 k0_hw6 => k0_hw6.2

def k0_off19 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v77 : Index := Scalar.indexCast v20
  ![v77.toNat]
def k0_mult7 (v78 : BitVec 32) : BitVec 32 :=
  v78

def k0_off20 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v81 : Index := Scalar.indexCast v20
  ![v81.toNat]
def k0_mult8 (v82 : BitVec 32) : BitVec 32 :=
  v82

def k0_off21 (v78 : BitVec 32) : Fin 2 → Nat :=
  let v79 : BitVec 32 := v78
  let v84 : Index := Scalar.indexCast v79
  let c0_21 : Index := 0#32
  ![v84.toNat, 0]

def k0_chk7 (v78 : BitVec 32) : Prop :=
  (4 ∣ (k0_mult7 v78).toNat) ∧
  (∀ a, (k0_off21 v78) a + S8x128.size a ≤ S65552x128.size a)
theorem k0_mult7_dvd : ∀ (v78 : BitVec 32) (k0_hw7 : k0_chk7 v78), 4 ∣ (k0_mult7 v78).toNat := fun v78 k0_hw7 => k0_hw7.1
theorem k0_off21_inb : ∀ (v78 : BitVec 32) (k0_hw7 : k0_chk7 v78), ∀ a, (k0_off21 v78) a + S8x128.size a ≤ S65552x128.size a := fun v78 k0_hw7 => k0_hw7.2

def k0_off22 (v82 : BitVec 32) : Fin 2 → Nat :=
  let v83 : BitVec 32 := v82
  let v86 : Index := Scalar.indexCast v83
  let c0_22 : Index := 0#32
  ![v86.toNat, 0]

def k0_chk8 (v82 : BitVec 32) : Prop :=
  (4 ∣ (k0_mult8 v82).toNat) ∧
  (∀ a, (k0_off22 v82) a + S8x128.size a ≤ S65552x128.size a)
theorem k0_mult8_dvd : ∀ (v82 : BitVec 32) (k0_hw8 : k0_chk8 v82), 4 ∣ (k0_mult8 v82).toNat := fun v82 k0_hw8 => k0_hw8.1
theorem k0_off22_inb : ∀ (v82 : BitVec 32) (k0_hw8 : k0_chk8 v82), ∀ a, (k0_off22 v82) a + S8x128.size a ≤ S65552x128.size a := fun v82 k0_hw8 => k0_hw8.2

def k0_off23 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v95 : Index := Scalar.indexCast v20
  ![v95.toNat]
def k0_mult9 (v96 : BitVec 32) : BitVec 32 :=
  v96

def k0_off24 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v99 : Index := Scalar.indexCast v20
  ![v99.toNat]
def k0_mult10 (v100 : BitVec 32) : BitVec 32 :=
  v100

def k0_off25 (v96 : BitVec 32) : Fin 2 → Nat :=
  let v97 : BitVec 32 := v96
  let v102 : Index := Scalar.indexCast v97
  let c0_25 : Index := 0#32
  ![v102.toNat, 0]

def k0_chk9 (v96 : BitVec 32) : Prop :=
  (4 ∣ (k0_mult9 v96).toNat) ∧
  (∀ a, (k0_off25 v96) a + S8x128.size a ≤ S65552x128.size a)
theorem k0_mult9_dvd : ∀ (v96 : BitVec 32) (k0_hw9 : k0_chk9 v96), 4 ∣ (k0_mult9 v96).toNat := fun v96 k0_hw9 => k0_hw9.1
theorem k0_off25_inb : ∀ (v96 : BitVec 32) (k0_hw9 : k0_chk9 v96), ∀ a, (k0_off25 v96) a + S8x128.size a ≤ S65552x128.size a := fun v96 k0_hw9 => k0_hw9.2

def k0_off26 (v100 : BitVec 32) : Fin 2 → Nat :=
  let v101 : BitVec 32 := v100
  let v104 : Index := Scalar.indexCast v101
  let c0_26 : Index := 0#32
  ![v104.toNat, 0]

def k0_chk10 (v100 : BitVec 32) : Prop :=
  (4 ∣ (k0_mult10 v100).toNat) ∧
  (∀ a, (k0_off26 v100) a + S8x128.size a ≤ S65552x128.size a)
theorem k0_mult10_dvd : ∀ (v100 : BitVec 32) (k0_hw10 : k0_chk10 v100), 4 ∣ (k0_mult10 v100).toNat := fun v100 k0_hw10 => k0_hw10.1
theorem k0_off26_inb : ∀ (v100 : BitVec 32) (k0_hw10 : k0_chk10 v100), ∀ a, (k0_off26 v100) a + S8x128.size a ≤ S65552x128.size a := fun v100 k0_hw10 => k0_hw10.2

def k0_off27 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v113 : Index := Scalar.indexCast v20
  ![v113.toNat]
def k0_mult11 (v114 : BitVec 32) : BitVec 32 :=
  v114

def k0_off28 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v117 : Index := Scalar.indexCast v20
  ![v117.toNat]
def k0_mult12 (v118 : BitVec 32) : BitVec 32 :=
  v118

def k0_off29 (v114 : BitVec 32) : Fin 2 → Nat :=
  let v115 : BitVec 32 := v114
  let v120 : Index := Scalar.indexCast v115
  let c0_29 : Index := 0#32
  ![v120.toNat, 0]

def k0_chk11 (v114 : BitVec 32) : Prop :=
  (4 ∣ (k0_mult11 v114).toNat) ∧
  (∀ a, (k0_off29 v114) a + S8x128.size a ≤ S65552x128.size a)
theorem k0_mult11_dvd : ∀ (v114 : BitVec 32) (k0_hw11 : k0_chk11 v114), 4 ∣ (k0_mult11 v114).toNat := fun v114 k0_hw11 => k0_hw11.1
theorem k0_off29_inb : ∀ (v114 : BitVec 32) (k0_hw11 : k0_chk11 v114), ∀ a, (k0_off29 v114) a + S8x128.size a ≤ S65552x128.size a := fun v114 k0_hw11 => k0_hw11.2

def k0_off30 (v118 : BitVec 32) : Fin 2 → Nat :=
  let v119 : BitVec 32 := v118
  let v122 : Index := Scalar.indexCast v119
  let c0_30 : Index := 0#32
  ![v122.toNat, 0]

def k0_chk12 (v118 : BitVec 32) : Prop :=
  (4 ∣ (k0_mult12 v118).toNat) ∧
  (∀ a, (k0_off30 v118) a + S8x128.size a ≤ S65552x128.size a)
theorem k0_mult12_dvd : ∀ (v118 : BitVec 32) (k0_hw12 : k0_chk12 v118), 4 ∣ (k0_mult12 v118).toNat := fun v118 k0_hw12 => k0_hw12.1
theorem k0_off30_inb : ∀ (v118 : BitVec 32) (k0_hw12 : k0_chk12 v118), ∀ a, (k0_off30 v118) a + S8x128.size a ≤ S65552x128.size a := fun v118 k0_hw12 => k0_hw12.2

def k0_off31 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v131 : Index := Scalar.indexCast v20
  ![v131.toNat]
def k0_mult13 (v132 : BitVec 32) : BitVec 32 :=
  v132

def k0_off32 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v135 : Index := Scalar.indexCast v20
  ![v135.toNat]
def k0_mult14 (v136 : BitVec 32) : BitVec 32 :=
  v136

def k0_off33 (v132 : BitVec 32) : Fin 2 → Nat :=
  let v133 : BitVec 32 := v132
  let v138 : Index := Scalar.indexCast v133
  let c0_33 : Index := 0#32
  ![v138.toNat, 0]

def k0_chk13 (v132 : BitVec 32) : Prop :=
  (4 ∣ (k0_mult13 v132).toNat) ∧
  (∀ a, (k0_off33 v132) a + S8x128.size a ≤ S65552x128.size a)
theorem k0_mult13_dvd : ∀ (v132 : BitVec 32) (k0_hw13 : k0_chk13 v132), 4 ∣ (k0_mult13 v132).toNat := fun v132 k0_hw13 => k0_hw13.1
theorem k0_off33_inb : ∀ (v132 : BitVec 32) (k0_hw13 : k0_chk13 v132), ∀ a, (k0_off33 v132) a + S8x128.size a ≤ S65552x128.size a := fun v132 k0_hw13 => k0_hw13.2

def k0_off34 (v136 : BitVec 32) : Fin 2 → Nat :=
  let v137 : BitVec 32 := v136
  let v140 : Index := Scalar.indexCast v137
  let c0_34 : Index := 0#32
  ![v140.toNat, 0]

def k0_chk14 (v136 : BitVec 32) : Prop :=
  (4 ∣ (k0_mult14 v136).toNat) ∧
  (∀ a, (k0_off34 v136) a + S8x128.size a ≤ S65552x128.size a)
theorem k0_mult14_dvd : ∀ (v136 : BitVec 32) (k0_hw14 : k0_chk14 v136), 4 ∣ (k0_mult14 v136).toNat := fun v136 k0_hw14 => k0_hw14.1
theorem k0_off34_inb : ∀ (v136 : BitVec 32) (k0_hw14 : k0_chk14 v136), ∀ a, (k0_off34 v136) a + S8x128.size a ≤ S65552x128.size a := fun v136 k0_hw14 => k0_hw14.2

def k0_off35 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v149 : Index := Scalar.indexCast v20
  ![v149.toNat]
def k0_mult15 (v150 : BitVec 32) : BitVec 32 :=
  v150

def k0_off36 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v153 : Index := Scalar.indexCast v20
  ![v153.toNat]
def k0_mult16 (v154 : BitVec 32) : BitVec 32 :=
  v154

def k0_off37 (v150 : BitVec 32) : Fin 2 → Nat :=
  let v151 : BitVec 32 := v150
  let v156 : Index := Scalar.indexCast v151
  let c0_37 : Index := 0#32
  ![v156.toNat, 0]

def k0_chk15 (v150 : BitVec 32) : Prop :=
  (4 ∣ (k0_mult15 v150).toNat) ∧
  (∀ a, (k0_off37 v150) a + S8x128.size a ≤ S65552x128.size a)
theorem k0_mult15_dvd : ∀ (v150 : BitVec 32) (k0_hw15 : k0_chk15 v150), 4 ∣ (k0_mult15 v150).toNat := fun v150 k0_hw15 => k0_hw15.1
theorem k0_off37_inb : ∀ (v150 : BitVec 32) (k0_hw15 : k0_chk15 v150), ∀ a, (k0_off37 v150) a + S8x128.size a ≤ S65552x128.size a := fun v150 k0_hw15 => k0_hw15.2

def k0_off38 (v154 : BitVec 32) : Fin 2 → Nat :=
  let v155 : BitVec 32 := v154
  let v158 : Index := Scalar.indexCast v155
  let c0_38 : Index := 0#32
  ![v158.toNat, 0]

def k0_chk16 (v154 : BitVec 32) : Prop :=
  (4 ∣ (k0_mult16 v154).toNat) ∧
  (∀ a, (k0_off38 v154) a + S8x128.size a ≤ S65552x128.size a)
theorem k0_mult16_dvd : ∀ (v154 : BitVec 32) (k0_hw16 : k0_chk16 v154), 4 ∣ (k0_mult16 v154).toNat := fun v154 k0_hw16 => k0_hw16.1
theorem k0_off38_inb : ∀ (v154 : BitVec 32) (k0_hw16 : k0_chk16 v154), ∀ a, (k0_off38 v154) a + S8x128.size a ≤ S65552x128.size a := fun v154 k0_hw16 => k0_hw16.2

def k0_off39 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v167 : Index := Scalar.indexCast v20
  ![v167.toNat]
def k0_mult17 (v168 : BitVec 32) : BitVec 32 :=
  v168

def k0_off40 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v171 : Index := Scalar.indexCast v20
  ![v171.toNat]
def k0_mult18 (v172 : BitVec 32) : BitVec 32 :=
  v172

def k0_off41 (v168 : BitVec 32) : Fin 2 → Nat :=
  let v169 : BitVec 32 := v168
  let v174 : Index := Scalar.indexCast v169
  let c0_41 : Index := 0#32
  ![v174.toNat, 0]

def k0_chk17 (v168 : BitVec 32) : Prop :=
  (4 ∣ (k0_mult17 v168).toNat) ∧
  (∀ a, (k0_off41 v168) a + S8x128.size a ≤ S65552x128.size a)
theorem k0_mult17_dvd : ∀ (v168 : BitVec 32) (k0_hw17 : k0_chk17 v168), 4 ∣ (k0_mult17 v168).toNat := fun v168 k0_hw17 => k0_hw17.1
theorem k0_off41_inb : ∀ (v168 : BitVec 32) (k0_hw17 : k0_chk17 v168), ∀ a, (k0_off41 v168) a + S8x128.size a ≤ S65552x128.size a := fun v168 k0_hw17 => k0_hw17.2

def k0_off42 (v172 : BitVec 32) : Fin 2 → Nat :=
  let v173 : BitVec 32 := v172
  let v176 : Index := Scalar.indexCast v173
  let c0_42 : Index := 0#32
  ![v176.toNat, 0]

def k0_chk18 (v172 : BitVec 32) : Prop :=
  (4 ∣ (k0_mult18 v172).toNat) ∧
  (∀ a, (k0_off42 v172) a + S8x128.size a ≤ S65552x128.size a)
theorem k0_mult18_dvd : ∀ (v172 : BitVec 32) (k0_hw18 : k0_chk18 v172), 4 ∣ (k0_mult18 v172).toNat := fun v172 k0_hw18 => k0_hw18.1
theorem k0_off42_inb : ∀ (v172 : BitVec 32) (k0_hw18 : k0_chk18 v172), ∀ a, (k0_off42 v172) a + S8x128.size a ≤ S65552x128.size a := fun v172 k0_hw18 => k0_hw18.2

def k0_off43 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v185 : Index := Scalar.indexCast v20
  ![v185.toNat]
def k0_mult19 (v186 : BitVec 32) : BitVec 32 :=
  v186

def k0_off44 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v189 : Index := Scalar.indexCast v20
  ![v189.toNat]
def k0_mult20 (v190 : BitVec 32) : BitVec 32 :=
  v190

def k0_off45 (v186 : BitVec 32) : Fin 2 → Nat :=
  let v187 : BitVec 32 := v186
  let v192 : Index := Scalar.indexCast v187
  let c0_45 : Index := 0#32
  ![v192.toNat, 0]

def k0_chk19 (v186 : BitVec 32) : Prop :=
  (4 ∣ (k0_mult19 v186).toNat) ∧
  (∀ a, (k0_off45 v186) a + S8x128.size a ≤ S65552x128.size a)
theorem k0_mult19_dvd : ∀ (v186 : BitVec 32) (k0_hw19 : k0_chk19 v186), 4 ∣ (k0_mult19 v186).toNat := fun v186 k0_hw19 => k0_hw19.1
theorem k0_off45_inb : ∀ (v186 : BitVec 32) (k0_hw19 : k0_chk19 v186), ∀ a, (k0_off45 v186) a + S8x128.size a ≤ S65552x128.size a := fun v186 k0_hw19 => k0_hw19.2

def k0_off46 (v190 : BitVec 32) : Fin 2 → Nat :=
  let v191 : BitVec 32 := v190
  let v194 : Index := Scalar.indexCast v191
  let c0_46 : Index := 0#32
  ![v194.toNat, 0]

def k0_chk20 (v190 : BitVec 32) : Prop :=
  (4 ∣ (k0_mult20 v190).toNat) ∧
  (∀ a, (k0_off46 v190) a + S8x128.size a ≤ S65552x128.size a)
theorem k0_mult20_dvd : ∀ (v190 : BitVec 32) (k0_hw20 : k0_chk20 v190), 4 ∣ (k0_mult20 v190).toNat := fun v190 k0_hw20 => k0_hw20.1
theorem k0_off46_inb : ∀ (v190 : BitVec 32) (k0_hw20 : k0_chk20 v190), ∀ a, (k0_off46 v190) a + S8x128.size a ≤ S65552x128.size a := fun v190 k0_hw20 => k0_hw20.2

def k0_off47 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v203 : Index := Scalar.indexCast v20
  ![v203.toNat]
def k0_mult21 (v204 : BitVec 32) : BitVec 32 :=
  v204

def k0_off48 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v207 : Index := Scalar.indexCast v20
  ![v207.toNat]
def k0_mult22 (v208 : BitVec 32) : BitVec 32 :=
  v208

def k0_off49 (v204 : BitVec 32) : Fin 2 → Nat :=
  let v205 : BitVec 32 := v204
  let v210 : Index := Scalar.indexCast v205
  let c0_49 : Index := 0#32
  ![v210.toNat, 0]

def k0_chk21 (v204 : BitVec 32) : Prop :=
  (4 ∣ (k0_mult21 v204).toNat) ∧
  (∀ a, (k0_off49 v204) a + S8x128.size a ≤ S65552x128.size a)
theorem k0_mult21_dvd : ∀ (v204 : BitVec 32) (k0_hw21 : k0_chk21 v204), 4 ∣ (k0_mult21 v204).toNat := fun v204 k0_hw21 => k0_hw21.1
theorem k0_off49_inb : ∀ (v204 : BitVec 32) (k0_hw21 : k0_chk21 v204), ∀ a, (k0_off49 v204) a + S8x128.size a ≤ S65552x128.size a := fun v204 k0_hw21 => k0_hw21.2

def k0_off50 (v208 : BitVec 32) : Fin 2 → Nat :=
  let v209 : BitVec 32 := v208
  let v212 : Index := Scalar.indexCast v209
  let c0_50 : Index := 0#32
  ![v212.toNat, 0]

def k0_chk22 (v208 : BitVec 32) : Prop :=
  (4 ∣ (k0_mult22 v208).toNat) ∧
  (∀ a, (k0_off50 v208) a + S8x128.size a ≤ S65552x128.size a)
theorem k0_mult22_dvd : ∀ (v208 : BitVec 32) (k0_hw22 : k0_chk22 v208), 4 ∣ (k0_mult22 v208).toNat := fun v208 k0_hw22 => k0_hw22.1
theorem k0_off50_inb : ∀ (v208 : BitVec 32) (k0_hw22 : k0_chk22 v208), ∀ a, (k0_off50 v208) a + S8x128.size a ≤ S65552x128.size a := fun v208 k0_hw22 => k0_hw22.2

def k0_off51 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v221 : Index := Scalar.indexCast v20
  ![v221.toNat]
def k0_mult23 (v222 : BitVec 32) : BitVec 32 :=
  v222

def k0_off52 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v225 : Index := Scalar.indexCast v20
  ![v225.toNat]
def k0_mult24 (v226 : BitVec 32) : BitVec 32 :=
  v226

def k0_off53 (v222 : BitVec 32) : Fin 2 → Nat :=
  let v223 : BitVec 32 := v222
  let v228 : Index := Scalar.indexCast v223
  let c0_53 : Index := 0#32
  ![v228.toNat, 0]

def k0_chk23 (v222 : BitVec 32) : Prop :=
  (4 ∣ (k0_mult23 v222).toNat) ∧
  (∀ a, (k0_off53 v222) a + S8x128.size a ≤ S65552x128.size a)
theorem k0_mult23_dvd : ∀ (v222 : BitVec 32) (k0_hw23 : k0_chk23 v222), 4 ∣ (k0_mult23 v222).toNat := fun v222 k0_hw23 => k0_hw23.1
theorem k0_off53_inb : ∀ (v222 : BitVec 32) (k0_hw23 : k0_chk23 v222), ∀ a, (k0_off53 v222) a + S8x128.size a ≤ S65552x128.size a := fun v222 k0_hw23 => k0_hw23.2

def k0_off54 (v226 : BitVec 32) : Fin 2 → Nat :=
  let v227 : BitVec 32 := v226
  let v230 : Index := Scalar.indexCast v227
  let c0_54 : Index := 0#32
  ![v230.toNat, 0]

def k0_chk24 (v226 : BitVec 32) : Prop :=
  (4 ∣ (k0_mult24 v226).toNat) ∧
  (∀ a, (k0_off54 v226) a + S8x128.size a ≤ S65552x128.size a)
theorem k0_mult24_dvd : ∀ (v226 : BitVec 32) (k0_hw24 : k0_chk24 v226), 4 ∣ (k0_mult24 v226).toNat := fun v226 k0_hw24 => k0_hw24.1
theorem k0_off54_inb : ∀ (v226 : BitVec 32) (k0_hw24 : k0_chk24 v226), ∀ a, (k0_off54 v226) a + S8x128.size a ≤ S65552x128.size a := fun v226 k0_hw24 => k0_hw24.2

def k0_off55 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v239 : Index := Scalar.indexCast v20
  ![v239.toNat]
def k0_mult25 (v240 : BitVec 32) : BitVec 32 :=
  v240

def k0_off56 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v243 : Index := Scalar.indexCast v20
  ![v243.toNat]
def k0_mult26 (v244 : BitVec 32) : BitVec 32 :=
  v244

def k0_off57 (v240 : BitVec 32) : Fin 2 → Nat :=
  let v241 : BitVec 32 := v240
  let v246 : Index := Scalar.indexCast v241
  let c0_57 : Index := 0#32
  ![v246.toNat, 0]

def k0_chk25 (v240 : BitVec 32) : Prop :=
  (4 ∣ (k0_mult25 v240).toNat) ∧
  (∀ a, (k0_off57 v240) a + S8x128.size a ≤ S65552x128.size a)
theorem k0_mult25_dvd : ∀ (v240 : BitVec 32) (k0_hw25 : k0_chk25 v240), 4 ∣ (k0_mult25 v240).toNat := fun v240 k0_hw25 => k0_hw25.1
theorem k0_off57_inb : ∀ (v240 : BitVec 32) (k0_hw25 : k0_chk25 v240), ∀ a, (k0_off57 v240) a + S8x128.size a ≤ S65552x128.size a := fun v240 k0_hw25 => k0_hw25.2

def k0_off58 (v244 : BitVec 32) : Fin 2 → Nat :=
  let v245 : BitVec 32 := v244
  let v248 : Index := Scalar.indexCast v245
  let c0_58 : Index := 0#32
  ![v248.toNat, 0]

def k0_chk26 (v244 : BitVec 32) : Prop :=
  (4 ∣ (k0_mult26 v244).toNat) ∧
  (∀ a, (k0_off58 v244) a + S8x128.size a ≤ S65552x128.size a)
theorem k0_mult26_dvd : ∀ (v244 : BitVec 32) (k0_hw26 : k0_chk26 v244), 4 ∣ (k0_mult26 v244).toNat := fun v244 k0_hw26 => k0_hw26.1
theorem k0_off58_inb : ∀ (v244 : BitVec 32) (k0_hw26 : k0_chk26 v244), ∀ a, (k0_off58 v244) a + S8x128.size a ≤ S65552x128.size a := fun v244 k0_hw26 => k0_hw26.2

def k0_off59 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v257 : Index := Scalar.indexCast v20
  ![v257.toNat]
def k0_mult27 (v258 : BitVec 32) : BitVec 32 :=
  v258

def k0_off60 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v261 : Index := Scalar.indexCast v20
  ![v261.toNat]
def k0_mult28 (v262 : BitVec 32) : BitVec 32 :=
  v262

def k0_off61 (v258 : BitVec 32) : Fin 2 → Nat :=
  let v259 : BitVec 32 := v258
  let v264 : Index := Scalar.indexCast v259
  let c0_61 : Index := 0#32
  ![v264.toNat, 0]

def k0_chk27 (v258 : BitVec 32) : Prop :=
  (4 ∣ (k0_mult27 v258).toNat) ∧
  (∀ a, (k0_off61 v258) a + S8x128.size a ≤ S65552x128.size a)
theorem k0_mult27_dvd : ∀ (v258 : BitVec 32) (k0_hw27 : k0_chk27 v258), 4 ∣ (k0_mult27 v258).toNat := fun v258 k0_hw27 => k0_hw27.1
theorem k0_off61_inb : ∀ (v258 : BitVec 32) (k0_hw27 : k0_chk27 v258), ∀ a, (k0_off61 v258) a + S8x128.size a ≤ S65552x128.size a := fun v258 k0_hw27 => k0_hw27.2

def k0_off62 (v262 : BitVec 32) : Fin 2 → Nat :=
  let v263 : BitVec 32 := v262
  let v266 : Index := Scalar.indexCast v263
  let c0_62 : Index := 0#32
  ![v266.toNat, 0]

def k0_chk28 (v262 : BitVec 32) : Prop :=
  (4 ∣ (k0_mult28 v262).toNat) ∧
  (∀ a, (k0_off62 v262) a + S8x128.size a ≤ S65552x128.size a)
theorem k0_mult28_dvd : ∀ (v262 : BitVec 32) (k0_hw28 : k0_chk28 v262), 4 ∣ (k0_mult28 v262).toNat := fun v262 k0_hw28 => k0_hw28.1
theorem k0_off62_inb : ∀ (v262 : BitVec 32) (k0_hw28 : k0_chk28 v262), ∀ a, (k0_off62 v262) a + S8x128.size a ≤ S65552x128.size a := fun v262 k0_hw28 => k0_hw28.2

def k0_off63 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v275 : Index := Scalar.indexCast v20
  ![v275.toNat]
def k0_mult29 (v276 : BitVec 32) : BitVec 32 :=
  v276

def k0_off64 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v279 : Index := Scalar.indexCast v20
  ![v279.toNat]
def k0_mult30 (v280 : BitVec 32) : BitVec 32 :=
  v280

def k0_off65 (v276 : BitVec 32) : Fin 2 → Nat :=
  let v277 : BitVec 32 := v276
  let v282 : Index := Scalar.indexCast v277
  let c0_65 : Index := 0#32
  ![v282.toNat, 0]

def k0_chk29 (v276 : BitVec 32) : Prop :=
  (4 ∣ (k0_mult29 v276).toNat) ∧
  (∀ a, (k0_off65 v276) a + S8x128.size a ≤ S65552x128.size a)
theorem k0_mult29_dvd : ∀ (v276 : BitVec 32) (k0_hw29 : k0_chk29 v276), 4 ∣ (k0_mult29 v276).toNat := fun v276 k0_hw29 => k0_hw29.1
theorem k0_off65_inb : ∀ (v276 : BitVec 32) (k0_hw29 : k0_chk29 v276), ∀ a, (k0_off65 v276) a + S8x128.size a ≤ S65552x128.size a := fun v276 k0_hw29 => k0_hw29.2

def k0_off66 (v280 : BitVec 32) : Fin 2 → Nat :=
  let v281 : BitVec 32 := v280
  let v284 : Index := Scalar.indexCast v281
  let c0_66 : Index := 0#32
  ![v284.toNat, 0]

def k0_chk30 (v280 : BitVec 32) : Prop :=
  (4 ∣ (k0_mult30 v280).toNat) ∧
  (∀ a, (k0_off66 v280) a + S8x128.size a ≤ S65552x128.size a)
theorem k0_mult30_dvd : ∀ (v280 : BitVec 32) (k0_hw30 : k0_chk30 v280), 4 ∣ (k0_mult30 v280).toNat := fun v280 k0_hw30 => k0_hw30.1
theorem k0_off66_inb : ∀ (v280 : BitVec 32) (k0_hw30 : k0_chk30 v280), ∀ a, (k0_off66 v280) a + S8x128.size a ≤ S65552x128.size a := fun v280 k0_hw30 => k0_hw30.2

def k0_off67 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v293 : Index := Scalar.indexCast v20
  ![v293.toNat]
def k0_mult31 (v294 : BitVec 32) : BitVec 32 :=
  v294

def k0_off68 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v297 : Index := Scalar.indexCast v20
  ![v297.toNat]
def k0_mult32 (v298 : BitVec 32) : BitVec 32 :=
  v298

def k0_off69 (v294 : BitVec 32) : Fin 2 → Nat :=
  let v295 : BitVec 32 := v294
  let v300 : Index := Scalar.indexCast v295
  let c0_69 : Index := 0#32
  ![v300.toNat, 0]

def k0_chk31 (v294 : BitVec 32) : Prop :=
  (4 ∣ (k0_mult31 v294).toNat) ∧
  (∀ a, (k0_off69 v294) a + S8x128.size a ≤ S65552x128.size a)
theorem k0_mult31_dvd : ∀ (v294 : BitVec 32) (k0_hw31 : k0_chk31 v294), 4 ∣ (k0_mult31 v294).toNat := fun v294 k0_hw31 => k0_hw31.1
theorem k0_off69_inb : ∀ (v294 : BitVec 32) (k0_hw31 : k0_chk31 v294), ∀ a, (k0_off69 v294) a + S8x128.size a ≤ S65552x128.size a := fun v294 k0_hw31 => k0_hw31.2

def k0_off70 (v298 : BitVec 32) : Fin 2 → Nat :=
  let v299 : BitVec 32 := v298
  let v302 : Index := Scalar.indexCast v299
  let c0_70 : Index := 0#32
  ![v302.toNat, 0]

def k0_chk32 (v298 : BitVec 32) : Prop :=
  (4 ∣ (k0_mult32 v298).toNat) ∧
  (∀ a, (k0_off70 v298) a + S8x128.size a ≤ S65552x128.size a)
theorem k0_mult32_dvd : ∀ (v298 : BitVec 32) (k0_hw32 : k0_chk32 v298), 4 ∣ (k0_mult32 v298).toNat := fun v298 k0_hw32 => k0_hw32.1
theorem k0_off70_inb : ∀ (v298 : BitVec 32) (k0_hw32 : k0_chk32 v298), ∀ a, (k0_off70 v298) a + S8x128.size a ≤ S65552x128.size a := fun v298 k0_hw32 => k0_hw32.2

def k0_off71 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v311 : Index := Scalar.indexCast v20
  ![v311.toNat]
def k0_mult33 (v312 : BitVec 32) : BitVec 32 :=
  v312

def k0_off72 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v315 : Index := Scalar.indexCast v20
  ![v315.toNat]
def k0_mult34 (v316 : BitVec 32) : BitVec 32 :=
  v316

def k0_off73 (v312 : BitVec 32) : Fin 2 → Nat :=
  let v313 : BitVec 32 := v312
  let v318 : Index := Scalar.indexCast v313
  let c0_73 : Index := 0#32
  ![v318.toNat, 0]

def k0_chk33 (v312 : BitVec 32) : Prop :=
  (4 ∣ (k0_mult33 v312).toNat) ∧
  (∀ a, (k0_off73 v312) a + S8x128.size a ≤ S65552x128.size a)
theorem k0_mult33_dvd : ∀ (v312 : BitVec 32) (k0_hw33 : k0_chk33 v312), 4 ∣ (k0_mult33 v312).toNat := fun v312 k0_hw33 => k0_hw33.1
theorem k0_off73_inb : ∀ (v312 : BitVec 32) (k0_hw33 : k0_chk33 v312), ∀ a, (k0_off73 v312) a + S8x128.size a ≤ S65552x128.size a := fun v312 k0_hw33 => k0_hw33.2

def k0_off74 (v316 : BitVec 32) : Fin 2 → Nat :=
  let v317 : BitVec 32 := v316
  let v320 : Index := Scalar.indexCast v317
  let c0_74 : Index := 0#32
  ![v320.toNat, 0]

def k0_chk34 (v316 : BitVec 32) : Prop :=
  (4 ∣ (k0_mult34 v316).toNat) ∧
  (∀ a, (k0_off74 v316) a + S8x128.size a ≤ S65552x128.size a)
theorem k0_mult34_dvd : ∀ (v316 : BitVec 32) (k0_hw34 : k0_chk34 v316), 4 ∣ (k0_mult34 v316).toNat := fun v316 k0_hw34 => k0_hw34.1
theorem k0_off74_inb : ∀ (v316 : BitVec 32) (k0_hw34 : k0_chk34 v316), ∀ a, (k0_off74 v316) a + S8x128.size a ≤ S65552x128.size a := fun v316 k0_hw34 => k0_hw34.2

def k0_off75 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v329 : Index := Scalar.indexCast v20
  ![v329.toNat]
def k0_mult35 (v330 : BitVec 32) : BitVec 32 :=
  v330

def k0_off76 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v333 : Index := Scalar.indexCast v20
  ![v333.toNat]
def k0_mult36 (v334 : BitVec 32) : BitVec 32 :=
  v334

def k0_off77 (v330 : BitVec 32) : Fin 2 → Nat :=
  let v331 : BitVec 32 := v330
  let v336 : Index := Scalar.indexCast v331
  let c0_77 : Index := 0#32
  ![v336.toNat, 0]

def k0_chk35 (v330 : BitVec 32) : Prop :=
  (4 ∣ (k0_mult35 v330).toNat) ∧
  (∀ a, (k0_off77 v330) a + S8x128.size a ≤ S65552x128.size a)
theorem k0_mult35_dvd : ∀ (v330 : BitVec 32) (k0_hw35 : k0_chk35 v330), 4 ∣ (k0_mult35 v330).toNat := fun v330 k0_hw35 => k0_hw35.1
theorem k0_off77_inb : ∀ (v330 : BitVec 32) (k0_hw35 : k0_chk35 v330), ∀ a, (k0_off77 v330) a + S8x128.size a ≤ S65552x128.size a := fun v330 k0_hw35 => k0_hw35.2

def k0_off78 (v334 : BitVec 32) : Fin 2 → Nat :=
  let v335 : BitVec 32 := v334
  let v338 : Index := Scalar.indexCast v335
  let c0_78 : Index := 0#32
  ![v338.toNat, 0]

def k0_chk36 (v334 : BitVec 32) : Prop :=
  (4 ∣ (k0_mult36 v334).toNat) ∧
  (∀ a, (k0_off78 v334) a + S8x128.size a ≤ S65552x128.size a)
theorem k0_mult36_dvd : ∀ (v334 : BitVec 32) (k0_hw36 : k0_chk36 v334), 4 ∣ (k0_mult36 v334).toNat := fun v334 k0_hw36 => k0_hw36.1
theorem k0_off78_inb : ∀ (v334 : BitVec 32) (k0_hw36 : k0_chk36 v334), ∀ a, (k0_off78 v334) a + S8x128.size a ≤ S65552x128.size a := fun v334 k0_hw36 => k0_hw36.2

def k0_off79 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v347 : Index := Scalar.indexCast v20
  ![v347.toNat]
def k0_mult37 (v348 : BitVec 32) : BitVec 32 :=
  v348

def k0_off80 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v351 : Index := Scalar.indexCast v20
  ![v351.toNat]
def k0_mult38 (v352 : BitVec 32) : BitVec 32 :=
  v352

def k0_off81 (v348 : BitVec 32) : Fin 2 → Nat :=
  let v349 : BitVec 32 := v348
  let v354 : Index := Scalar.indexCast v349
  let c0_81 : Index := 0#32
  ![v354.toNat, 0]

def k0_chk37 (v348 : BitVec 32) : Prop :=
  (4 ∣ (k0_mult37 v348).toNat) ∧
  (∀ a, (k0_off81 v348) a + S8x128.size a ≤ S65552x128.size a)
theorem k0_mult37_dvd : ∀ (v348 : BitVec 32) (k0_hw37 : k0_chk37 v348), 4 ∣ (k0_mult37 v348).toNat := fun v348 k0_hw37 => k0_hw37.1
theorem k0_off81_inb : ∀ (v348 : BitVec 32) (k0_hw37 : k0_chk37 v348), ∀ a, (k0_off81 v348) a + S8x128.size a ≤ S65552x128.size a := fun v348 k0_hw37 => k0_hw37.2

def k0_off82 (v352 : BitVec 32) : Fin 2 → Nat :=
  let v353 : BitVec 32 := v352
  let v356 : Index := Scalar.indexCast v353
  let c0_82 : Index := 0#32
  ![v356.toNat, 0]

def k0_chk38 (v352 : BitVec 32) : Prop :=
  (4 ∣ (k0_mult38 v352).toNat) ∧
  (∀ a, (k0_off82 v352) a + S8x128.size a ≤ S65552x128.size a)
theorem k0_mult38_dvd : ∀ (v352 : BitVec 32) (k0_hw38 : k0_chk38 v352), 4 ∣ (k0_mult38 v352).toNat := fun v352 k0_hw38 => k0_hw38.1
theorem k0_off82_inb : ∀ (v352 : BitVec 32) (k0_hw38 : k0_chk38 v352), ∀ a, (k0_off82 v352) a + S8x128.size a ≤ S65552x128.size a := fun v352 k0_hw38 => k0_hw38.2

def k0_off83 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v365 : Index := Scalar.indexCast v20
  ![v365.toNat]
def k0_mult39 (v366 : BitVec 32) : BitVec 32 :=
  v366

def k0_off84 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v369 : Index := Scalar.indexCast v20
  ![v369.toNat]
def k0_mult40 (v370 : BitVec 32) : BitVec 32 :=
  v370

def k0_off85 (v366 : BitVec 32) : Fin 2 → Nat :=
  let v367 : BitVec 32 := v366
  let v372 : Index := Scalar.indexCast v367
  let c0_85 : Index := 0#32
  ![v372.toNat, 0]

def k0_chk39 (v366 : BitVec 32) : Prop :=
  (4 ∣ (k0_mult39 v366).toNat) ∧
  (∀ a, (k0_off85 v366) a + S8x128.size a ≤ S65552x128.size a)
theorem k0_mult39_dvd : ∀ (v366 : BitVec 32) (k0_hw39 : k0_chk39 v366), 4 ∣ (k0_mult39 v366).toNat := fun v366 k0_hw39 => k0_hw39.1
theorem k0_off85_inb : ∀ (v366 : BitVec 32) (k0_hw39 : k0_chk39 v366), ∀ a, (k0_off85 v366) a + S8x128.size a ≤ S65552x128.size a := fun v366 k0_hw39 => k0_hw39.2

def k0_off86 (v370 : BitVec 32) : Fin 2 → Nat :=
  let v371 : BitVec 32 := v370
  let v374 : Index := Scalar.indexCast v371
  let c0_86 : Index := 0#32
  ![v374.toNat, 0]

def k0_chk40 (v370 : BitVec 32) : Prop :=
  (4 ∣ (k0_mult40 v370).toNat) ∧
  (∀ a, (k0_off86 v370) a + S8x128.size a ≤ S65552x128.size a)
theorem k0_mult40_dvd : ∀ (v370 : BitVec 32) (k0_hw40 : k0_chk40 v370), 4 ∣ (k0_mult40 v370).toNat := fun v370 k0_hw40 => k0_hw40.1
theorem k0_off86_inb : ∀ (v370 : BitVec 32) (k0_hw40 : k0_chk40 v370), ∀ a, (k0_off86 v370) a + S8x128.size a ≤ S65552x128.size a := fun v370 k0_hw40 => k0_hw40.2

def k0_off87 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v383 : Index := Scalar.indexCast v20
  ![v383.toNat]
def k0_mult41 (v384 : BitVec 32) : BitVec 32 :=
  v384

def k0_off88 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v387 : Index := Scalar.indexCast v20
  ![v387.toNat]
def k0_mult42 (v388 : BitVec 32) : BitVec 32 :=
  v388

def k0_off89 (v384 : BitVec 32) : Fin 2 → Nat :=
  let v385 : BitVec 32 := v384
  let v390 : Index := Scalar.indexCast v385
  let c0_89 : Index := 0#32
  ![v390.toNat, 0]

def k0_chk41 (v384 : BitVec 32) : Prop :=
  (4 ∣ (k0_mult41 v384).toNat) ∧
  (∀ a, (k0_off89 v384) a + S8x128.size a ≤ S65552x128.size a)
theorem k0_mult41_dvd : ∀ (v384 : BitVec 32) (k0_hw41 : k0_chk41 v384), 4 ∣ (k0_mult41 v384).toNat := fun v384 k0_hw41 => k0_hw41.1
theorem k0_off89_inb : ∀ (v384 : BitVec 32) (k0_hw41 : k0_chk41 v384), ∀ a, (k0_off89 v384) a + S8x128.size a ≤ S65552x128.size a := fun v384 k0_hw41 => k0_hw41.2

def k0_off90 (v388 : BitVec 32) : Fin 2 → Nat :=
  let v389 : BitVec 32 := v388
  let v392 : Index := Scalar.indexCast v389
  let c0_90 : Index := 0#32
  ![v392.toNat, 0]

def k0_chk42 (v388 : BitVec 32) : Prop :=
  (4 ∣ (k0_mult42 v388).toNat) ∧
  (∀ a, (k0_off90 v388) a + S8x128.size a ≤ S65552x128.size a)
theorem k0_mult42_dvd : ∀ (v388 : BitVec 32) (k0_hw42 : k0_chk42 v388), 4 ∣ (k0_mult42 v388).toNat := fun v388 k0_hw42 => k0_hw42.1
theorem k0_off90_inb : ∀ (v388 : BitVec 32) (k0_hw42 : k0_chk42 v388), ∀ a, (k0_off90 v388) a + S8x128.size a ≤ S65552x128.size a := fun v388 k0_hw42 => k0_hw42.2

def k0_off91 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v401 : Index := Scalar.indexCast v20
  ![v401.toNat]
def k0_mult43 (v402 : BitVec 32) : BitVec 32 :=
  v402

def k0_off92 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v405 : Index := Scalar.indexCast v20
  ![v405.toNat]
def k0_mult44 (v406 : BitVec 32) : BitVec 32 :=
  v406

def k0_off93 (v402 : BitVec 32) : Fin 2 → Nat :=
  let v403 : BitVec 32 := v402
  let v408 : Index := Scalar.indexCast v403
  let c0_93 : Index := 0#32
  ![v408.toNat, 0]

def k0_chk43 (v402 : BitVec 32) : Prop :=
  (4 ∣ (k0_mult43 v402).toNat) ∧
  (∀ a, (k0_off93 v402) a + S8x128.size a ≤ S65552x128.size a)
theorem k0_mult43_dvd : ∀ (v402 : BitVec 32) (k0_hw43 : k0_chk43 v402), 4 ∣ (k0_mult43 v402).toNat := fun v402 k0_hw43 => k0_hw43.1
theorem k0_off93_inb : ∀ (v402 : BitVec 32) (k0_hw43 : k0_chk43 v402), ∀ a, (k0_off93 v402) a + S8x128.size a ≤ S65552x128.size a := fun v402 k0_hw43 => k0_hw43.2

def k0_off94 (v406 : BitVec 32) : Fin 2 → Nat :=
  let v407 : BitVec 32 := v406
  let v410 : Index := Scalar.indexCast v407
  let c0_94 : Index := 0#32
  ![v410.toNat, 0]

def k0_chk44 (v406 : BitVec 32) : Prop :=
  (4 ∣ (k0_mult44 v406).toNat) ∧
  (∀ a, (k0_off94 v406) a + S8x128.size a ≤ S65552x128.size a)
theorem k0_mult44_dvd : ∀ (v406 : BitVec 32) (k0_hw44 : k0_chk44 v406), 4 ∣ (k0_mult44 v406).toNat := fun v406 k0_hw44 => k0_hw44.1
theorem k0_off94_inb : ∀ (v406 : BitVec 32) (k0_hw44 : k0_chk44 v406), ∀ a, (k0_off94 v406) a + S8x128.size a ≤ S65552x128.size a := fun v406 k0_hw44 => k0_hw44.2

def k0_off95 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v419 : Index := Scalar.indexCast v20
  ![v419.toNat]
def k0_mult45 (v420 : BitVec 32) : BitVec 32 :=
  v420

def k0_off96 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v423 : Index := Scalar.indexCast v20
  ![v423.toNat]
def k0_mult46 (v424 : BitVec 32) : BitVec 32 :=
  v424

def k0_off97 (v420 : BitVec 32) : Fin 2 → Nat :=
  let v421 : BitVec 32 := v420
  let v426 : Index := Scalar.indexCast v421
  let c0_97 : Index := 0#32
  ![v426.toNat, 0]

def k0_chk45 (v420 : BitVec 32) : Prop :=
  (4 ∣ (k0_mult45 v420).toNat) ∧
  (∀ a, (k0_off97 v420) a + S8x128.size a ≤ S65552x128.size a)
theorem k0_mult45_dvd : ∀ (v420 : BitVec 32) (k0_hw45 : k0_chk45 v420), 4 ∣ (k0_mult45 v420).toNat := fun v420 k0_hw45 => k0_hw45.1
theorem k0_off97_inb : ∀ (v420 : BitVec 32) (k0_hw45 : k0_chk45 v420), ∀ a, (k0_off97 v420) a + S8x128.size a ≤ S65552x128.size a := fun v420 k0_hw45 => k0_hw45.2

def k0_off98 (v424 : BitVec 32) : Fin 2 → Nat :=
  let v425 : BitVec 32 := v424
  let v428 : Index := Scalar.indexCast v425
  let c0_98 : Index := 0#32
  ![v428.toNat, 0]

def k0_chk46 (v424 : BitVec 32) : Prop :=
  (4 ∣ (k0_mult46 v424).toNat) ∧
  (∀ a, (k0_off98 v424) a + S8x128.size a ≤ S65552x128.size a)
theorem k0_mult46_dvd : ∀ (v424 : BitVec 32) (k0_hw46 : k0_chk46 v424), 4 ∣ (k0_mult46 v424).toNat := fun v424 k0_hw46 => k0_hw46.1
theorem k0_off98_inb : ∀ (v424 : BitVec 32) (k0_hw46 : k0_chk46 v424), ∀ a, (k0_off98 v424) a + S8x128.size a ≤ S65552x128.size a := fun v424 k0_hw46 => k0_hw46.2

def k0_off99 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v437 : Index := Scalar.indexCast v20
  ![v437.toNat]
def k0_mult47 (v438 : BitVec 32) : BitVec 32 :=
  v438

def k0_off100 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v441 : Index := Scalar.indexCast v20
  ![v441.toNat]
def k0_mult48 (v442 : BitVec 32) : BitVec 32 :=
  v442

def k0_off101 (v438 : BitVec 32) : Fin 2 → Nat :=
  let v439 : BitVec 32 := v438
  let v444 : Index := Scalar.indexCast v439
  let c0_101 : Index := 0#32
  ![v444.toNat, 0]

def k0_chk47 (v438 : BitVec 32) : Prop :=
  (4 ∣ (k0_mult47 v438).toNat) ∧
  (∀ a, (k0_off101 v438) a + S8x128.size a ≤ S65552x128.size a)
theorem k0_mult47_dvd : ∀ (v438 : BitVec 32) (k0_hw47 : k0_chk47 v438), 4 ∣ (k0_mult47 v438).toNat := fun v438 k0_hw47 => k0_hw47.1
theorem k0_off101_inb : ∀ (v438 : BitVec 32) (k0_hw47 : k0_chk47 v438), ∀ a, (k0_off101 v438) a + S8x128.size a ≤ S65552x128.size a := fun v438 k0_hw47 => k0_hw47.2

def k0_off102 (v442 : BitVec 32) : Fin 2 → Nat :=
  let v443 : BitVec 32 := v442
  let v446 : Index := Scalar.indexCast v443
  let c0_102 : Index := 0#32
  ![v446.toNat, 0]

def k0_chk48 (v442 : BitVec 32) : Prop :=
  (4 ∣ (k0_mult48 v442).toNat) ∧
  (∀ a, (k0_off102 v442) a + S8x128.size a ≤ S65552x128.size a)
theorem k0_mult48_dvd : ∀ (v442 : BitVec 32) (k0_hw48 : k0_chk48 v442), 4 ∣ (k0_mult48 v442).toNat := fun v442 k0_hw48 => k0_hw48.1
theorem k0_off102_inb : ∀ (v442 : BitVec 32) (k0_hw48 : k0_chk48 v442), ∀ a, (k0_off102 v442) a + S8x128.size a ≤ S65552x128.size a := fun v442 k0_hw48 => k0_hw48.2

def k0_off103 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v455 : Index := Scalar.indexCast v20
  ![v455.toNat]
def k0_mult49 (v456 : BitVec 32) : BitVec 32 :=
  v456

def k0_off104 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v459 : Index := Scalar.indexCast v20
  ![v459.toNat]
def k0_mult50 (v460 : BitVec 32) : BitVec 32 :=
  v460

def k0_off105 (v456 : BitVec 32) : Fin 2 → Nat :=
  let v457 : BitVec 32 := v456
  let v462 : Index := Scalar.indexCast v457
  let c0_105 : Index := 0#32
  ![v462.toNat, 0]

def k0_chk49 (v456 : BitVec 32) : Prop :=
  (4 ∣ (k0_mult49 v456).toNat) ∧
  (∀ a, (k0_off105 v456) a + S8x128.size a ≤ S65552x128.size a)
theorem k0_mult49_dvd : ∀ (v456 : BitVec 32) (k0_hw49 : k0_chk49 v456), 4 ∣ (k0_mult49 v456).toNat := fun v456 k0_hw49 => k0_hw49.1
theorem k0_off105_inb : ∀ (v456 : BitVec 32) (k0_hw49 : k0_chk49 v456), ∀ a, (k0_off105 v456) a + S8x128.size a ≤ S65552x128.size a := fun v456 k0_hw49 => k0_hw49.2

def k0_off106 (v460 : BitVec 32) : Fin 2 → Nat :=
  let v461 : BitVec 32 := v460
  let v464 : Index := Scalar.indexCast v461
  let c0_106 : Index := 0#32
  ![v464.toNat, 0]

def k0_chk50 (v460 : BitVec 32) : Prop :=
  (4 ∣ (k0_mult50 v460).toNat) ∧
  (∀ a, (k0_off106 v460) a + S8x128.size a ≤ S65552x128.size a)
theorem k0_mult50_dvd : ∀ (v460 : BitVec 32) (k0_hw50 : k0_chk50 v460), 4 ∣ (k0_mult50 v460).toNat := fun v460 k0_hw50 => k0_hw50.1
theorem k0_off106_inb : ∀ (v460 : BitVec 32) (k0_hw50 : k0_chk50 v460), ∀ a, (k0_off106 v460) a + S8x128.size a ≤ S65552x128.size a := fun v460 k0_hw50 => k0_hw50.2

def k0_off107 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v473 : Index := Scalar.indexCast v20
  ![v473.toNat]
def k0_mult51 (v474 : BitVec 32) : BitVec 32 :=
  v474

def k0_off108 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v477 : Index := Scalar.indexCast v20
  ![v477.toNat]
def k0_mult52 (v478 : BitVec 32) : BitVec 32 :=
  v478

def k0_off109 (v474 : BitVec 32) : Fin 2 → Nat :=
  let v475 : BitVec 32 := v474
  let v480 : Index := Scalar.indexCast v475
  let c0_109 : Index := 0#32
  ![v480.toNat, 0]

def k0_chk51 (v474 : BitVec 32) : Prop :=
  (4 ∣ (k0_mult51 v474).toNat) ∧
  (∀ a, (k0_off109 v474) a + S8x128.size a ≤ S65552x128.size a)
theorem k0_mult51_dvd : ∀ (v474 : BitVec 32) (k0_hw51 : k0_chk51 v474), 4 ∣ (k0_mult51 v474).toNat := fun v474 k0_hw51 => k0_hw51.1
theorem k0_off109_inb : ∀ (v474 : BitVec 32) (k0_hw51 : k0_chk51 v474), ∀ a, (k0_off109 v474) a + S8x128.size a ≤ S65552x128.size a := fun v474 k0_hw51 => k0_hw51.2

def k0_off110 (v478 : BitVec 32) : Fin 2 → Nat :=
  let v479 : BitVec 32 := v478
  let v482 : Index := Scalar.indexCast v479
  let c0_110 : Index := 0#32
  ![v482.toNat, 0]

def k0_chk52 (v478 : BitVec 32) : Prop :=
  (4 ∣ (k0_mult52 v478).toNat) ∧
  (∀ a, (k0_off110 v478) a + S8x128.size a ≤ S65552x128.size a)
theorem k0_mult52_dvd : ∀ (v478 : BitVec 32) (k0_hw52 : k0_chk52 v478), 4 ∣ (k0_mult52 v478).toNat := fun v478 k0_hw52 => k0_hw52.1
theorem k0_off110_inb : ∀ (v478 : BitVec 32) (k0_hw52 : k0_chk52 v478), ∀ a, (k0_off110 v478) a + S8x128.size a ≤ S65552x128.size a := fun v478 k0_hw52 => k0_hw52.2

def k0_off111 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v491 : Index := Scalar.indexCast v20
  ![v491.toNat]
def k0_mult53 (v492 : BitVec 32) : BitVec 32 :=
  v492

def k0_off112 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v495 : Index := Scalar.indexCast v20
  ![v495.toNat]
def k0_mult54 (v496 : BitVec 32) : BitVec 32 :=
  v496

def k0_off113 (v492 : BitVec 32) : Fin 2 → Nat :=
  let v493 : BitVec 32 := v492
  let v498 : Index := Scalar.indexCast v493
  let c0_113 : Index := 0#32
  ![v498.toNat, 0]

def k0_chk53 (v492 : BitVec 32) : Prop :=
  (4 ∣ (k0_mult53 v492).toNat) ∧
  (∀ a, (k0_off113 v492) a + S8x128.size a ≤ S65552x128.size a)
theorem k0_mult53_dvd : ∀ (v492 : BitVec 32) (k0_hw53 : k0_chk53 v492), 4 ∣ (k0_mult53 v492).toNat := fun v492 k0_hw53 => k0_hw53.1
theorem k0_off113_inb : ∀ (v492 : BitVec 32) (k0_hw53 : k0_chk53 v492), ∀ a, (k0_off113 v492) a + S8x128.size a ≤ S65552x128.size a := fun v492 k0_hw53 => k0_hw53.2

def k0_off114 (v496 : BitVec 32) : Fin 2 → Nat :=
  let v497 : BitVec 32 := v496
  let v500 : Index := Scalar.indexCast v497
  let c0_114 : Index := 0#32
  ![v500.toNat, 0]

def k0_chk54 (v496 : BitVec 32) : Prop :=
  (4 ∣ (k0_mult54 v496).toNat) ∧
  (∀ a, (k0_off114 v496) a + S8x128.size a ≤ S65552x128.size a)
theorem k0_mult54_dvd : ∀ (v496 : BitVec 32) (k0_hw54 : k0_chk54 v496), 4 ∣ (k0_mult54 v496).toNat := fun v496 k0_hw54 => k0_hw54.1
theorem k0_off114_inb : ∀ (v496 : BitVec 32) (k0_hw54 : k0_chk54 v496), ∀ a, (k0_off114 v496) a + S8x128.size a ≤ S65552x128.size a := fun v496 k0_hw54 => k0_hw54.2

def k0_off115 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v509 : Index := Scalar.indexCast v20
  ![v509.toNat]
def k0_mult55 (v510 : BitVec 32) : BitVec 32 :=
  v510

def k0_off116 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v513 : Index := Scalar.indexCast v20
  ![v513.toNat]
def k0_mult56 (v514 : BitVec 32) : BitVec 32 :=
  v514

def k0_off117 (v510 : BitVec 32) : Fin 2 → Nat :=
  let v511 : BitVec 32 := v510
  let v516 : Index := Scalar.indexCast v511
  let c0_117 : Index := 0#32
  ![v516.toNat, 0]

def k0_chk55 (v510 : BitVec 32) : Prop :=
  (4 ∣ (k0_mult55 v510).toNat) ∧
  (∀ a, (k0_off117 v510) a + S8x128.size a ≤ S65552x128.size a)
theorem k0_mult55_dvd : ∀ (v510 : BitVec 32) (k0_hw55 : k0_chk55 v510), 4 ∣ (k0_mult55 v510).toNat := fun v510 k0_hw55 => k0_hw55.1
theorem k0_off117_inb : ∀ (v510 : BitVec 32) (k0_hw55 : k0_chk55 v510), ∀ a, (k0_off117 v510) a + S8x128.size a ≤ S65552x128.size a := fun v510 k0_hw55 => k0_hw55.2

def k0_off118 (v514 : BitVec 32) : Fin 2 → Nat :=
  let v515 : BitVec 32 := v514
  let v518 : Index := Scalar.indexCast v515
  let c0_118 : Index := 0#32
  ![v518.toNat, 0]

def k0_chk56 (v514 : BitVec 32) : Prop :=
  (4 ∣ (k0_mult56 v514).toNat) ∧
  (∀ a, (k0_off118 v514) a + S8x128.size a ≤ S65552x128.size a)
theorem k0_mult56_dvd : ∀ (v514 : BitVec 32) (k0_hw56 : k0_chk56 v514), 4 ∣ (k0_mult56 v514).toNat := fun v514 k0_hw56 => k0_hw56.1
theorem k0_off118_inb : ∀ (v514 : BitVec 32) (k0_hw56 : k0_chk56 v514), ∀ a, (k0_off118 v514) a + S8x128.size a ≤ S65552x128.size a := fun v514 k0_hw56 => k0_hw56.2

def k0_off119 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v527 : Index := Scalar.indexCast v20
  ![v527.toNat]
def k0_mult57 (v528 : BitVec 32) : BitVec 32 :=
  v528

def k0_off120 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v531 : Index := Scalar.indexCast v20
  ![v531.toNat]
def k0_mult58 (v532 : BitVec 32) : BitVec 32 :=
  v532

def k0_off121 (v528 : BitVec 32) : Fin 2 → Nat :=
  let v529 : BitVec 32 := v528
  let v534 : Index := Scalar.indexCast v529
  let c0_121 : Index := 0#32
  ![v534.toNat, 0]

def k0_chk57 (v528 : BitVec 32) : Prop :=
  (4 ∣ (k0_mult57 v528).toNat) ∧
  (∀ a, (k0_off121 v528) a + S8x128.size a ≤ S65552x128.size a)
theorem k0_mult57_dvd : ∀ (v528 : BitVec 32) (k0_hw57 : k0_chk57 v528), 4 ∣ (k0_mult57 v528).toNat := fun v528 k0_hw57 => k0_hw57.1
theorem k0_off121_inb : ∀ (v528 : BitVec 32) (k0_hw57 : k0_chk57 v528), ∀ a, (k0_off121 v528) a + S8x128.size a ≤ S65552x128.size a := fun v528 k0_hw57 => k0_hw57.2

def k0_off122 (v532 : BitVec 32) : Fin 2 → Nat :=
  let v533 : BitVec 32 := v532
  let v536 : Index := Scalar.indexCast v533
  let c0_122 : Index := 0#32
  ![v536.toNat, 0]

def k0_chk58 (v532 : BitVec 32) : Prop :=
  (4 ∣ (k0_mult58 v532).toNat) ∧
  (∀ a, (k0_off122 v532) a + S8x128.size a ≤ S65552x128.size a)
theorem k0_mult58_dvd : ∀ (v532 : BitVec 32) (k0_hw58 : k0_chk58 v532), 4 ∣ (k0_mult58 v532).toNat := fun v532 k0_hw58 => k0_hw58.1
theorem k0_off122_inb : ∀ (v532 : BitVec 32) (k0_hw58 : k0_chk58 v532), ∀ a, (k0_off122 v532) a + S8x128.size a ≤ S65552x128.size a := fun v532 k0_hw58 => k0_hw58.2

def k0_off123 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v545 : Index := Scalar.indexCast v20
  ![v545.toNat]
def k0_mult59 (v546 : BitVec 32) : BitVec 32 :=
  v546

def k0_off124 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v549 : Index := Scalar.indexCast v20
  ![v549.toNat]
def k0_mult60 (v550 : BitVec 32) : BitVec 32 :=
  v550

def k0_off125 (v546 : BitVec 32) : Fin 2 → Nat :=
  let v547 : BitVec 32 := v546
  let v552 : Index := Scalar.indexCast v547
  let c0_125 : Index := 0#32
  ![v552.toNat, 0]

def k0_chk59 (v546 : BitVec 32) : Prop :=
  (4 ∣ (k0_mult59 v546).toNat) ∧
  (∀ a, (k0_off125 v546) a + S8x128.size a ≤ S65552x128.size a)
theorem k0_mult59_dvd : ∀ (v546 : BitVec 32) (k0_hw59 : k0_chk59 v546), 4 ∣ (k0_mult59 v546).toNat := fun v546 k0_hw59 => k0_hw59.1
theorem k0_off125_inb : ∀ (v546 : BitVec 32) (k0_hw59 : k0_chk59 v546), ∀ a, (k0_off125 v546) a + S8x128.size a ≤ S65552x128.size a := fun v546 k0_hw59 => k0_hw59.2

def k0_off126 (v550 : BitVec 32) : Fin 2 → Nat :=
  let v551 : BitVec 32 := v550
  let v554 : Index := Scalar.indexCast v551
  let c0_126 : Index := 0#32
  ![v554.toNat, 0]

def k0_chk60 (v550 : BitVec 32) : Prop :=
  (4 ∣ (k0_mult60 v550).toNat) ∧
  (∀ a, (k0_off126 v550) a + S8x128.size a ≤ S65552x128.size a)
theorem k0_mult60_dvd : ∀ (v550 : BitVec 32) (k0_hw60 : k0_chk60 v550), 4 ∣ (k0_mult60 v550).toNat := fun v550 k0_hw60 => k0_hw60.1
theorem k0_off126_inb : ∀ (v550 : BitVec 32) (k0_hw60 : k0_chk60 v550), ∀ a, (k0_off126 v550) a + S8x128.size a ≤ S65552x128.size a := fun v550 k0_hw60 => k0_hw60.2

def k0_off127 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v563 : Index := Scalar.indexCast v20
  ![v563.toNat]
def k0_mult61 (v564 : BitVec 32) : BitVec 32 :=
  v564

def k0_off128 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v567 : Index := Scalar.indexCast v20
  ![v567.toNat]
def k0_mult62 (v568 : BitVec 32) : BitVec 32 :=
  v568

def k0_off129 (v564 : BitVec 32) : Fin 2 → Nat :=
  let v565 : BitVec 32 := v564
  let v570 : Index := Scalar.indexCast v565
  let c0_129 : Index := 0#32
  ![v570.toNat, 0]

def k0_chk61 (v564 : BitVec 32) : Prop :=
  (4 ∣ (k0_mult61 v564).toNat) ∧
  (∀ a, (k0_off129 v564) a + S8x128.size a ≤ S65552x128.size a)
theorem k0_mult61_dvd : ∀ (v564 : BitVec 32) (k0_hw61 : k0_chk61 v564), 4 ∣ (k0_mult61 v564).toNat := fun v564 k0_hw61 => k0_hw61.1
theorem k0_off129_inb : ∀ (v564 : BitVec 32) (k0_hw61 : k0_chk61 v564), ∀ a, (k0_off129 v564) a + S8x128.size a ≤ S65552x128.size a := fun v564 k0_hw61 => k0_hw61.2

def k0_off130 (v568 : BitVec 32) : Fin 2 → Nat :=
  let v569 : BitVec 32 := v568
  let v572 : Index := Scalar.indexCast v569
  let c0_130 : Index := 0#32
  ![v572.toNat, 0]

def k0_chk62 (v568 : BitVec 32) : Prop :=
  (4 ∣ (k0_mult62 v568).toNat) ∧
  (∀ a, (k0_off130 v568) a + S8x128.size a ≤ S65552x128.size a)
theorem k0_mult62_dvd : ∀ (v568 : BitVec 32) (k0_hw62 : k0_chk62 v568), 4 ∣ (k0_mult62 v568).toNat := fun v568 k0_hw62 => k0_hw62.1
theorem k0_off130_inb : ∀ (v568 : BitVec 32) (k0_hw62 : k0_chk62 v568), ∀ a, (k0_off130 v568) a + S8x128.size a ≤ S65552x128.size a := fun v568 k0_hw62 => k0_hw62.2

def k0_off131 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v581 : Index := Scalar.indexCast v20
  ![v581.toNat]
def k0_mult63 (v582 : BitVec 32) : BitVec 32 :=
  v582

def k0_off132 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v585 : Index := Scalar.indexCast v20
  ![v585.toNat]
def k0_mult64 (v586 : BitVec 32) : BitVec 32 :=
  v586

def k0_off133 (v582 : BitVec 32) : Fin 2 → Nat :=
  let v583 : BitVec 32 := v582
  let v588 : Index := Scalar.indexCast v583
  let c0_133 : Index := 0#32
  ![v588.toNat, 0]

def k0_chk63 (v582 : BitVec 32) : Prop :=
  (4 ∣ (k0_mult63 v582).toNat) ∧
  (∀ a, (k0_off133 v582) a + S8x128.size a ≤ S65552x128.size a)
theorem k0_mult63_dvd : ∀ (v582 : BitVec 32) (k0_hw63 : k0_chk63 v582), 4 ∣ (k0_mult63 v582).toNat := fun v582 k0_hw63 => k0_hw63.1
theorem k0_off133_inb : ∀ (v582 : BitVec 32) (k0_hw63 : k0_chk63 v582), ∀ a, (k0_off133 v582) a + S8x128.size a ≤ S65552x128.size a := fun v582 k0_hw63 => k0_hw63.2

def k0_off134 (v586 : BitVec 32) : Fin 2 → Nat :=
  let v587 : BitVec 32 := v586
  let v590 : Index := Scalar.indexCast v587
  let c0_134 : Index := 0#32
  ![v590.toNat, 0]

def k0_chk64 (v586 : BitVec 32) : Prop :=
  (4 ∣ (k0_mult64 v586).toNat) ∧
  (∀ a, (k0_off134 v586) a + S8x128.size a ≤ S65552x128.size a)
theorem k0_mult64_dvd : ∀ (v586 : BitVec 32) (k0_hw64 : k0_chk64 v586), 4 ∣ (k0_mult64 v586).toNat := fun v586 k0_hw64 => k0_hw64.1
theorem k0_off134_inb : ∀ (v586 : BitVec 32) (k0_hw64 : k0_chk64 v586), ∀ a, (k0_off134 v586) a + S8x128.size a ≤ S65552x128.size a := fun v586 k0_hw64 => k0_hw64.2

def k0_off135 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v599 : Index := Scalar.indexCast v20
  ![v599.toNat]
def k0_mult65 (v600 : BitVec 32) : BitVec 32 :=
  v600

def k0_off136 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v603 : Index := Scalar.indexCast v20
  ![v603.toNat]
def k0_mult66 (v604 : BitVec 32) : BitVec 32 :=
  v604

def k0_off137 (v600 : BitVec 32) : Fin 2 → Nat :=
  let v601 : BitVec 32 := v600
  let v606 : Index := Scalar.indexCast v601
  let c0_137 : Index := 0#32
  ![v606.toNat, 0]

def k0_chk65 (v600 : BitVec 32) : Prop :=
  (4 ∣ (k0_mult65 v600).toNat) ∧
  (∀ a, (k0_off137 v600) a + S8x128.size a ≤ S65552x128.size a)
theorem k0_mult65_dvd : ∀ (v600 : BitVec 32) (k0_hw65 : k0_chk65 v600), 4 ∣ (k0_mult65 v600).toNat := fun v600 k0_hw65 => k0_hw65.1
theorem k0_off137_inb : ∀ (v600 : BitVec 32) (k0_hw65 : k0_chk65 v600), ∀ a, (k0_off137 v600) a + S8x128.size a ≤ S65552x128.size a := fun v600 k0_hw65 => k0_hw65.2

def k0_off138 (v604 : BitVec 32) : Fin 2 → Nat :=
  let v605 : BitVec 32 := v604
  let v608 : Index := Scalar.indexCast v605
  let c0_138 : Index := 0#32
  ![v608.toNat, 0]

def k0_chk66 (v604 : BitVec 32) : Prop :=
  (4 ∣ (k0_mult66 v604).toNat) ∧
  (∀ a, (k0_off138 v604) a + S8x128.size a ≤ S65552x128.size a)
theorem k0_mult66_dvd : ∀ (v604 : BitVec 32) (k0_hw66 : k0_chk66 v604), 4 ∣ (k0_mult66 v604).toNat := fun v604 k0_hw66 => k0_hw66.1
theorem k0_off138_inb : ∀ (v604 : BitVec 32) (k0_hw66 : k0_chk66 v604), ∀ a, (k0_off138 v604) a + S8x128.size a ≤ S65552x128.size a := fun v604 k0_hw66 => k0_hw66.2

def k0_off139 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v617 : Index := Scalar.indexCast v20
  ![v617.toNat]
def k0_mult67 (v618 : BitVec 32) : BitVec 32 :=
  v618

def k0_off140 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v621 : Index := Scalar.indexCast v20
  ![v621.toNat]
def k0_mult68 (v622 : BitVec 32) : BitVec 32 :=
  v622

def k0_off141 (v618 : BitVec 32) : Fin 2 → Nat :=
  let v619 : BitVec 32 := v618
  let v624 : Index := Scalar.indexCast v619
  let c0_141 : Index := 0#32
  ![v624.toNat, 0]

def k0_chk67 (v618 : BitVec 32) : Prop :=
  (4 ∣ (k0_mult67 v618).toNat) ∧
  (∀ a, (k0_off141 v618) a + S8x128.size a ≤ S65552x128.size a)
theorem k0_mult67_dvd : ∀ (v618 : BitVec 32) (k0_hw67 : k0_chk67 v618), 4 ∣ (k0_mult67 v618).toNat := fun v618 k0_hw67 => k0_hw67.1
theorem k0_off141_inb : ∀ (v618 : BitVec 32) (k0_hw67 : k0_chk67 v618), ∀ a, (k0_off141 v618) a + S8x128.size a ≤ S65552x128.size a := fun v618 k0_hw67 => k0_hw67.2

def k0_off142 (v622 : BitVec 32) : Fin 2 → Nat :=
  let v623 : BitVec 32 := v622
  let v626 : Index := Scalar.indexCast v623
  let c0_142 : Index := 0#32
  ![v626.toNat, 0]

def k0_chk68 (v622 : BitVec 32) : Prop :=
  (4 ∣ (k0_mult68 v622).toNat) ∧
  (∀ a, (k0_off142 v622) a + S8x128.size a ≤ S65552x128.size a)
theorem k0_mult68_dvd : ∀ (v622 : BitVec 32) (k0_hw68 : k0_chk68 v622), 4 ∣ (k0_mult68 v622).toNat := fun v622 k0_hw68 => k0_hw68.1
theorem k0_off142_inb : ∀ (v622 : BitVec 32) (k0_hw68 : k0_chk68 v622), ∀ a, (k0_off142 v622) a + S8x128.size a ≤ S65552x128.size a := fun v622 k0_hw68 => k0_hw68.2

def k0_off143 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v635 : Index := Scalar.indexCast v20
  ![v635.toNat]
def k0_mult69 (v636 : BitVec 32) : BitVec 32 :=
  v636

def k0_off144 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v639 : Index := Scalar.indexCast v20
  ![v639.toNat]
def k0_mult70 (v640 : BitVec 32) : BitVec 32 :=
  v640

def k0_off145 (v636 : BitVec 32) : Fin 2 → Nat :=
  let v637 : BitVec 32 := v636
  let v642 : Index := Scalar.indexCast v637
  let c0_145 : Index := 0#32
  ![v642.toNat, 0]

def k0_chk69 (v636 : BitVec 32) : Prop :=
  (4 ∣ (k0_mult69 v636).toNat) ∧
  (∀ a, (k0_off145 v636) a + S8x128.size a ≤ S65552x128.size a)
theorem k0_mult69_dvd : ∀ (v636 : BitVec 32) (k0_hw69 : k0_chk69 v636), 4 ∣ (k0_mult69 v636).toNat := fun v636 k0_hw69 => k0_hw69.1
theorem k0_off145_inb : ∀ (v636 : BitVec 32) (k0_hw69 : k0_chk69 v636), ∀ a, (k0_off145 v636) a + S8x128.size a ≤ S65552x128.size a := fun v636 k0_hw69 => k0_hw69.2

def k0_off146 (v640 : BitVec 32) : Fin 2 → Nat :=
  let v641 : BitVec 32 := v640
  let v644 : Index := Scalar.indexCast v641
  let c0_146 : Index := 0#32
  ![v644.toNat, 0]

def k0_chk70 (v640 : BitVec 32) : Prop :=
  (4 ∣ (k0_mult70 v640).toNat) ∧
  (∀ a, (k0_off146 v640) a + S8x128.size a ≤ S65552x128.size a)
theorem k0_mult70_dvd : ∀ (v640 : BitVec 32) (k0_hw70 : k0_chk70 v640), 4 ∣ (k0_mult70 v640).toNat := fun v640 k0_hw70 => k0_hw70.1
theorem k0_off146_inb : ∀ (v640 : BitVec 32) (k0_hw70 : k0_chk70 v640), ∀ a, (k0_off146 v640) a + S8x128.size a ≤ S65552x128.size a := fun v640 k0_hw70 => k0_hw70.2

def k0_off147 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v653 : Index := Scalar.indexCast v20
  ![v653.toNat]
def k0_mult71 (v654 : BitVec 32) : BitVec 32 :=
  v654

def k0_off148 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v657 : Index := Scalar.indexCast v20
  ![v657.toNat]
def k0_mult72 (v658 : BitVec 32) : BitVec 32 :=
  v658

def k0_off149 (v654 : BitVec 32) : Fin 2 → Nat :=
  let v655 : BitVec 32 := v654
  let v660 : Index := Scalar.indexCast v655
  let c0_149 : Index := 0#32
  ![v660.toNat, 0]

def k0_chk71 (v654 : BitVec 32) : Prop :=
  (4 ∣ (k0_mult71 v654).toNat) ∧
  (∀ a, (k0_off149 v654) a + S8x128.size a ≤ S65552x128.size a)
theorem k0_mult71_dvd : ∀ (v654 : BitVec 32) (k0_hw71 : k0_chk71 v654), 4 ∣ (k0_mult71 v654).toNat := fun v654 k0_hw71 => k0_hw71.1
theorem k0_off149_inb : ∀ (v654 : BitVec 32) (k0_hw71 : k0_chk71 v654), ∀ a, (k0_off149 v654) a + S8x128.size a ≤ S65552x128.size a := fun v654 k0_hw71 => k0_hw71.2

def k0_off150 (v658 : BitVec 32) : Fin 2 → Nat :=
  let v659 : BitVec 32 := v658
  let v662 : Index := Scalar.indexCast v659
  let c0_150 : Index := 0#32
  ![v662.toNat, 0]

def k0_chk72 (v658 : BitVec 32) : Prop :=
  (4 ∣ (k0_mult72 v658).toNat) ∧
  (∀ a, (k0_off150 v658) a + S8x128.size a ≤ S65552x128.size a)
theorem k0_mult72_dvd : ∀ (v658 : BitVec 32) (k0_hw72 : k0_chk72 v658), 4 ∣ (k0_mult72 v658).toNat := fun v658 k0_hw72 => k0_hw72.1
theorem k0_off150_inb : ∀ (v658 : BitVec 32) (k0_hw72 : k0_chk72 v658), ∀ a, (k0_off150 v658) a + S8x128.size a ≤ S65552x128.size a := fun v658 k0_hw72 => k0_hw72.2

def k0_off151 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v671 : Index := Scalar.indexCast v20
  ![v671.toNat]
def k0_mult73 (v672 : BitVec 32) : BitVec 32 :=
  v672

def k0_off152 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v675 : Index := Scalar.indexCast v20
  ![v675.toNat]
def k0_mult74 (v676 : BitVec 32) : BitVec 32 :=
  v676

def k0_off153 (v672 : BitVec 32) : Fin 2 → Nat :=
  let v673 : BitVec 32 := v672
  let v678 : Index := Scalar.indexCast v673
  let c0_153 : Index := 0#32
  ![v678.toNat, 0]

def k0_chk73 (v672 : BitVec 32) : Prop :=
  (4 ∣ (k0_mult73 v672).toNat) ∧
  (∀ a, (k0_off153 v672) a + S8x128.size a ≤ S65552x128.size a)
theorem k0_mult73_dvd : ∀ (v672 : BitVec 32) (k0_hw73 : k0_chk73 v672), 4 ∣ (k0_mult73 v672).toNat := fun v672 k0_hw73 => k0_hw73.1
theorem k0_off153_inb : ∀ (v672 : BitVec 32) (k0_hw73 : k0_chk73 v672), ∀ a, (k0_off153 v672) a + S8x128.size a ≤ S65552x128.size a := fun v672 k0_hw73 => k0_hw73.2

def k0_off154 (v676 : BitVec 32) : Fin 2 → Nat :=
  let v677 : BitVec 32 := v676
  let v680 : Index := Scalar.indexCast v677
  let c0_154 : Index := 0#32
  ![v680.toNat, 0]

def k0_chk74 (v676 : BitVec 32) : Prop :=
  (4 ∣ (k0_mult74 v676).toNat) ∧
  (∀ a, (k0_off154 v676) a + S8x128.size a ≤ S65552x128.size a)
theorem k0_mult74_dvd : ∀ (v676 : BitVec 32) (k0_hw74 : k0_chk74 v676), 4 ∣ (k0_mult74 v676).toNat := fun v676 k0_hw74 => k0_hw74.1
theorem k0_off154_inb : ∀ (v676 : BitVec 32) (k0_hw74 : k0_chk74 v676), ∀ a, (k0_off154 v676) a + S8x128.size a ≤ S65552x128.size a := fun v676 k0_hw74 => k0_hw74.2

def k0_off155 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v689 : Index := Scalar.indexCast v20
  ![v689.toNat]
def k0_mult75 (v690 : BitVec 32) : BitVec 32 :=
  v690

def k0_off156 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v693 : Index := Scalar.indexCast v20
  ![v693.toNat]
def k0_mult76 (v694 : BitVec 32) : BitVec 32 :=
  v694

def k0_off157 (v690 : BitVec 32) : Fin 2 → Nat :=
  let v691 : BitVec 32 := v690
  let v696 : Index := Scalar.indexCast v691
  let c0_157 : Index := 0#32
  ![v696.toNat, 0]

def k0_chk75 (v690 : BitVec 32) : Prop :=
  (4 ∣ (k0_mult75 v690).toNat) ∧
  (∀ a, (k0_off157 v690) a + S8x128.size a ≤ S65552x128.size a)
theorem k0_mult75_dvd : ∀ (v690 : BitVec 32) (k0_hw75 : k0_chk75 v690), 4 ∣ (k0_mult75 v690).toNat := fun v690 k0_hw75 => k0_hw75.1
theorem k0_off157_inb : ∀ (v690 : BitVec 32) (k0_hw75 : k0_chk75 v690), ∀ a, (k0_off157 v690) a + S8x128.size a ≤ S65552x128.size a := fun v690 k0_hw75 => k0_hw75.2

def k0_off158 (v694 : BitVec 32) : Fin 2 → Nat :=
  let v695 : BitVec 32 := v694
  let v698 : Index := Scalar.indexCast v695
  let c0_158 : Index := 0#32
  ![v698.toNat, 0]

def k0_chk76 (v694 : BitVec 32) : Prop :=
  (4 ∣ (k0_mult76 v694).toNat) ∧
  (∀ a, (k0_off158 v694) a + S8x128.size a ≤ S65552x128.size a)
theorem k0_mult76_dvd : ∀ (v694 : BitVec 32) (k0_hw76 : k0_chk76 v694), 4 ∣ (k0_mult76 v694).toNat := fun v694 k0_hw76 => k0_hw76.1
theorem k0_off158_inb : ∀ (v694 : BitVec 32) (k0_hw76 : k0_chk76 v694), ∀ a, (k0_off158 v694) a + S8x128.size a ≤ S65552x128.size a := fun v694 k0_hw76 => k0_hw76.2

def k0_off159 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v707 : Index := Scalar.indexCast v20
  ![v707.toNat]
def k0_mult77 (v708 : BitVec 32) : BitVec 32 :=
  v708

def k0_off160 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v711 : Index := Scalar.indexCast v20
  ![v711.toNat]
def k0_mult78 (v712 : BitVec 32) : BitVec 32 :=
  v712

def k0_off161 (v708 : BitVec 32) : Fin 2 → Nat :=
  let v709 : BitVec 32 := v708
  let v714 : Index := Scalar.indexCast v709
  let c0_161 : Index := 0#32
  ![v714.toNat, 0]

def k0_chk77 (v708 : BitVec 32) : Prop :=
  (4 ∣ (k0_mult77 v708).toNat) ∧
  (∀ a, (k0_off161 v708) a + S8x128.size a ≤ S65552x128.size a)
theorem k0_mult77_dvd : ∀ (v708 : BitVec 32) (k0_hw77 : k0_chk77 v708), 4 ∣ (k0_mult77 v708).toNat := fun v708 k0_hw77 => k0_hw77.1
theorem k0_off161_inb : ∀ (v708 : BitVec 32) (k0_hw77 : k0_chk77 v708), ∀ a, (k0_off161 v708) a + S8x128.size a ≤ S65552x128.size a := fun v708 k0_hw77 => k0_hw77.2

def k0_off162 (v712 : BitVec 32) : Fin 2 → Nat :=
  let v713 : BitVec 32 := v712
  let v716 : Index := Scalar.indexCast v713
  let c0_162 : Index := 0#32
  ![v716.toNat, 0]

def k0_chk78 (v712 : BitVec 32) : Prop :=
  (4 ∣ (k0_mult78 v712).toNat) ∧
  (∀ a, (k0_off162 v712) a + S8x128.size a ≤ S65552x128.size a)
theorem k0_mult78_dvd : ∀ (v712 : BitVec 32) (k0_hw78 : k0_chk78 v712), 4 ∣ (k0_mult78 v712).toNat := fun v712 k0_hw78 => k0_hw78.1
theorem k0_off162_inb : ∀ (v712 : BitVec 32) (k0_hw78 : k0_chk78 v712), ∀ a, (k0_off162 v712) a + S8x128.size a ≤ S65552x128.size a := fun v712 k0_hw78 => k0_hw78.2

def k0_off163 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v725 : Index := Scalar.indexCast v20
  ![v725.toNat]
def k0_mult79 (v726 : BitVec 32) : BitVec 32 :=
  v726

def k0_off164 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v729 : Index := Scalar.indexCast v20
  ![v729.toNat]
def k0_mult80 (v730 : BitVec 32) : BitVec 32 :=
  v730

def k0_off165 (v726 : BitVec 32) : Fin 2 → Nat :=
  let v727 : BitVec 32 := v726
  let v732 : Index := Scalar.indexCast v727
  let c0_165 : Index := 0#32
  ![v732.toNat, 0]

def k0_chk79 (v726 : BitVec 32) : Prop :=
  (4 ∣ (k0_mult79 v726).toNat) ∧
  (∀ a, (k0_off165 v726) a + S8x128.size a ≤ S65552x128.size a)
theorem k0_mult79_dvd : ∀ (v726 : BitVec 32) (k0_hw79 : k0_chk79 v726), 4 ∣ (k0_mult79 v726).toNat := fun v726 k0_hw79 => k0_hw79.1
theorem k0_off165_inb : ∀ (v726 : BitVec 32) (k0_hw79 : k0_chk79 v726), ∀ a, (k0_off165 v726) a + S8x128.size a ≤ S65552x128.size a := fun v726 k0_hw79 => k0_hw79.2

def k0_off166 (v730 : BitVec 32) : Fin 2 → Nat :=
  let v731 : BitVec 32 := v730
  let v734 : Index := Scalar.indexCast v731
  let c0_166 : Index := 0#32
  ![v734.toNat, 0]

def k0_chk80 (v730 : BitVec 32) : Prop :=
  (4 ∣ (k0_mult80 v730).toNat) ∧
  (∀ a, (k0_off166 v730) a + S8x128.size a ≤ S65552x128.size a)
theorem k0_mult80_dvd : ∀ (v730 : BitVec 32) (k0_hw80 : k0_chk80 v730), 4 ∣ (k0_mult80 v730).toNat := fun v730 k0_hw80 => k0_hw80.1
theorem k0_off166_inb : ∀ (v730 : BitVec 32) (k0_hw80 : k0_chk80 v730), ∀ a, (k0_off166 v730) a + S8x128.size a ≤ S65552x128.size a := fun v730 k0_hw80 => k0_hw80.2

def k0_off167 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v743 : Index := Scalar.indexCast v20
  ![v743.toNat]
def k0_mult81 (v744 : BitVec 32) : BitVec 32 :=
  v744

def k0_off168 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v747 : Index := Scalar.indexCast v20
  ![v747.toNat]
def k0_mult82 (v748 : BitVec 32) : BitVec 32 :=
  v748

def k0_off169 (v744 : BitVec 32) : Fin 2 → Nat :=
  let v745 : BitVec 32 := v744
  let v750 : Index := Scalar.indexCast v745
  let c0_169 : Index := 0#32
  ![v750.toNat, 0]

def k0_chk81 (v744 : BitVec 32) : Prop :=
  (4 ∣ (k0_mult81 v744).toNat) ∧
  (∀ a, (k0_off169 v744) a + S8x128.size a ≤ S65552x128.size a)
theorem k0_mult81_dvd : ∀ (v744 : BitVec 32) (k0_hw81 : k0_chk81 v744), 4 ∣ (k0_mult81 v744).toNat := fun v744 k0_hw81 => k0_hw81.1
theorem k0_off169_inb : ∀ (v744 : BitVec 32) (k0_hw81 : k0_chk81 v744), ∀ a, (k0_off169 v744) a + S8x128.size a ≤ S65552x128.size a := fun v744 k0_hw81 => k0_hw81.2

def k0_off170 (v748 : BitVec 32) : Fin 2 → Nat :=
  let v749 : BitVec 32 := v748
  let v752 : Index := Scalar.indexCast v749
  let c0_170 : Index := 0#32
  ![v752.toNat, 0]

def k0_chk82 (v748 : BitVec 32) : Prop :=
  (4 ∣ (k0_mult82 v748).toNat) ∧
  (∀ a, (k0_off170 v748) a + S8x128.size a ≤ S65552x128.size a)
theorem k0_mult82_dvd : ∀ (v748 : BitVec 32) (k0_hw82 : k0_chk82 v748), 4 ∣ (k0_mult82 v748).toNat := fun v748 k0_hw82 => k0_hw82.1
theorem k0_off170_inb : ∀ (v748 : BitVec 32) (k0_hw82 : k0_chk82 v748), ∀ a, (k0_off170 v748) a + S8x128.size a ≤ S65552x128.size a := fun v748 k0_hw82 => k0_hw82.2

def k0_off171 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v761 : Index := Scalar.indexCast v20
  ![v761.toNat]
def k0_mult83 (v762 : BitVec 32) : BitVec 32 :=
  v762

def k0_off172 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v765 : Index := Scalar.indexCast v20
  ![v765.toNat]
def k0_mult84 (v766 : BitVec 32) : BitVec 32 :=
  v766

def k0_off173 (v762 : BitVec 32) : Fin 2 → Nat :=
  let v763 : BitVec 32 := v762
  let v768 : Index := Scalar.indexCast v763
  let c0_173 : Index := 0#32
  ![v768.toNat, 0]

def k0_chk83 (v762 : BitVec 32) : Prop :=
  (4 ∣ (k0_mult83 v762).toNat) ∧
  (∀ a, (k0_off173 v762) a + S8x128.size a ≤ S65552x128.size a)
theorem k0_mult83_dvd : ∀ (v762 : BitVec 32) (k0_hw83 : k0_chk83 v762), 4 ∣ (k0_mult83 v762).toNat := fun v762 k0_hw83 => k0_hw83.1
theorem k0_off173_inb : ∀ (v762 : BitVec 32) (k0_hw83 : k0_chk83 v762), ∀ a, (k0_off173 v762) a + S8x128.size a ≤ S65552x128.size a := fun v762 k0_hw83 => k0_hw83.2

def k0_off174 (v766 : BitVec 32) : Fin 2 → Nat :=
  let v767 : BitVec 32 := v766
  let v770 : Index := Scalar.indexCast v767
  let c0_174 : Index := 0#32
  ![v770.toNat, 0]

def k0_chk84 (v766 : BitVec 32) : Prop :=
  (4 ∣ (k0_mult84 v766).toNat) ∧
  (∀ a, (k0_off174 v766) a + S8x128.size a ≤ S65552x128.size a)
theorem k0_mult84_dvd : ∀ (v766 : BitVec 32) (k0_hw84 : k0_chk84 v766), 4 ∣ (k0_mult84 v766).toNat := fun v766 k0_hw84 => k0_hw84.1
theorem k0_off174_inb : ∀ (v766 : BitVec 32) (k0_hw84 : k0_chk84 v766), ∀ a, (k0_off174 v766) a + S8x128.size a ≤ S65552x128.size a := fun v766 k0_hw84 => k0_hw84.2

def k0_off175 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v779 : Index := Scalar.indexCast v20
  ![v779.toNat]
def k0_mult85 (v780 : BitVec 32) : BitVec 32 :=
  v780

def k0_off176 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v783 : Index := Scalar.indexCast v20
  ![v783.toNat]
def k0_mult86 (v784 : BitVec 32) : BitVec 32 :=
  v784

def k0_off177 (v780 : BitVec 32) : Fin 2 → Nat :=
  let v781 : BitVec 32 := v780
  let v786 : Index := Scalar.indexCast v781
  let c0_177 : Index := 0#32
  ![v786.toNat, 0]

def k0_chk85 (v780 : BitVec 32) : Prop :=
  (4 ∣ (k0_mult85 v780).toNat) ∧
  (∀ a, (k0_off177 v780) a + S8x128.size a ≤ S65552x128.size a)
theorem k0_mult85_dvd : ∀ (v780 : BitVec 32) (k0_hw85 : k0_chk85 v780), 4 ∣ (k0_mult85 v780).toNat := fun v780 k0_hw85 => k0_hw85.1
theorem k0_off177_inb : ∀ (v780 : BitVec 32) (k0_hw85 : k0_chk85 v780), ∀ a, (k0_off177 v780) a + S8x128.size a ≤ S65552x128.size a := fun v780 k0_hw85 => k0_hw85.2

def k0_off178 (v784 : BitVec 32) : Fin 2 → Nat :=
  let v785 : BitVec 32 := v784
  let v788 : Index := Scalar.indexCast v785
  let c0_178 : Index := 0#32
  ![v788.toNat, 0]

def k0_chk86 (v784 : BitVec 32) : Prop :=
  (4 ∣ (k0_mult86 v784).toNat) ∧
  (∀ a, (k0_off178 v784) a + S8x128.size a ≤ S65552x128.size a)
theorem k0_mult86_dvd : ∀ (v784 : BitVec 32) (k0_hw86 : k0_chk86 v784), 4 ∣ (k0_mult86 v784).toNat := fun v784 k0_hw86 => k0_hw86.1
theorem k0_off178_inb : ∀ (v784 : BitVec 32) (k0_hw86 : k0_chk86 v784), ∀ a, (k0_off178 v784) a + S8x128.size a ≤ S65552x128.size a := fun v784 k0_hw86 => k0_hw86.2

def k0_off179 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v797 : Index := Scalar.indexCast v20
  ![v797.toNat]
def k0_mult87 (v798 : BitVec 32) : BitVec 32 :=
  v798

def k0_off180 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v801 : Index := Scalar.indexCast v20
  ![v801.toNat]
def k0_mult88 (v802 : BitVec 32) : BitVec 32 :=
  v802

def k0_off181 (v798 : BitVec 32) : Fin 2 → Nat :=
  let v799 : BitVec 32 := v798
  let v804 : Index := Scalar.indexCast v799
  let c0_181 : Index := 0#32
  ![v804.toNat, 0]

def k0_chk87 (v798 : BitVec 32) : Prop :=
  (4 ∣ (k0_mult87 v798).toNat) ∧
  (∀ a, (k0_off181 v798) a + S8x128.size a ≤ S65552x128.size a)
theorem k0_mult87_dvd : ∀ (v798 : BitVec 32) (k0_hw87 : k0_chk87 v798), 4 ∣ (k0_mult87 v798).toNat := fun v798 k0_hw87 => k0_hw87.1
theorem k0_off181_inb : ∀ (v798 : BitVec 32) (k0_hw87 : k0_chk87 v798), ∀ a, (k0_off181 v798) a + S8x128.size a ≤ S65552x128.size a := fun v798 k0_hw87 => k0_hw87.2

def k0_off182 (v802 : BitVec 32) : Fin 2 → Nat :=
  let v803 : BitVec 32 := v802
  let v806 : Index := Scalar.indexCast v803
  let c0_182 : Index := 0#32
  ![v806.toNat, 0]

def k0_chk88 (v802 : BitVec 32) : Prop :=
  (4 ∣ (k0_mult88 v802).toNat) ∧
  (∀ a, (k0_off182 v802) a + S8x128.size a ≤ S65552x128.size a)
theorem k0_mult88_dvd : ∀ (v802 : BitVec 32) (k0_hw88 : k0_chk88 v802), 4 ∣ (k0_mult88 v802).toNat := fun v802 k0_hw88 => k0_hw88.1
theorem k0_off182_inb : ∀ (v802 : BitVec 32) (k0_hw88 : k0_chk88 v802), ∀ a, (k0_off182 v802) a + S8x128.size a ≤ S65552x128.size a := fun v802 k0_hw88 => k0_hw88.2

def k0_off183 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v815 : Index := Scalar.indexCast v20
  ![v815.toNat]
def k0_mult89 (v816 : BitVec 32) : BitVec 32 :=
  v816

def k0_off184 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v819 : Index := Scalar.indexCast v20
  ![v819.toNat]
def k0_mult90 (v820 : BitVec 32) : BitVec 32 :=
  v820

def k0_off185 (v816 : BitVec 32) : Fin 2 → Nat :=
  let v817 : BitVec 32 := v816
  let v822 : Index := Scalar.indexCast v817
  let c0_185 : Index := 0#32
  ![v822.toNat, 0]

def k0_chk89 (v816 : BitVec 32) : Prop :=
  (4 ∣ (k0_mult89 v816).toNat) ∧
  (∀ a, (k0_off185 v816) a + S8x128.size a ≤ S65552x128.size a)
theorem k0_mult89_dvd : ∀ (v816 : BitVec 32) (k0_hw89 : k0_chk89 v816), 4 ∣ (k0_mult89 v816).toNat := fun v816 k0_hw89 => k0_hw89.1
theorem k0_off185_inb : ∀ (v816 : BitVec 32) (k0_hw89 : k0_chk89 v816), ∀ a, (k0_off185 v816) a + S8x128.size a ≤ S65552x128.size a := fun v816 k0_hw89 => k0_hw89.2

def k0_off186 (v820 : BitVec 32) : Fin 2 → Nat :=
  let v821 : BitVec 32 := v820
  let v824 : Index := Scalar.indexCast v821
  let c0_186 : Index := 0#32
  ![v824.toNat, 0]

def k0_chk90 (v820 : BitVec 32) : Prop :=
  (4 ∣ (k0_mult90 v820).toNat) ∧
  (∀ a, (k0_off186 v820) a + S8x128.size a ≤ S65552x128.size a)
theorem k0_mult90_dvd : ∀ (v820 : BitVec 32) (k0_hw90 : k0_chk90 v820), 4 ∣ (k0_mult90 v820).toNat := fun v820 k0_hw90 => k0_hw90.1
theorem k0_off186_inb : ∀ (v820 : BitVec 32) (k0_hw90 : k0_chk90 v820), ∀ a, (k0_off186 v820) a + S8x128.size a ≤ S65552x128.size a := fun v820 k0_hw90 => k0_hw90.2

def k0_off187 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v833 : Index := Scalar.indexCast v20
  ![v833.toNat]
def k0_mult91 (v834 : BitVec 32) : BitVec 32 :=
  v834

def k0_off188 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v837 : Index := Scalar.indexCast v20
  ![v837.toNat]
def k0_mult92 (v838 : BitVec 32) : BitVec 32 :=
  v838

def k0_off189 (v834 : BitVec 32) : Fin 2 → Nat :=
  let v835 : BitVec 32 := v834
  let v840 : Index := Scalar.indexCast v835
  let c0_189 : Index := 0#32
  ![v840.toNat, 0]

def k0_chk91 (v834 : BitVec 32) : Prop :=
  (4 ∣ (k0_mult91 v834).toNat) ∧
  (∀ a, (k0_off189 v834) a + S8x128.size a ≤ S65552x128.size a)
theorem k0_mult91_dvd : ∀ (v834 : BitVec 32) (k0_hw91 : k0_chk91 v834), 4 ∣ (k0_mult91 v834).toNat := fun v834 k0_hw91 => k0_hw91.1
theorem k0_off189_inb : ∀ (v834 : BitVec 32) (k0_hw91 : k0_chk91 v834), ∀ a, (k0_off189 v834) a + S8x128.size a ≤ S65552x128.size a := fun v834 k0_hw91 => k0_hw91.2

def k0_off190 (v838 : BitVec 32) : Fin 2 → Nat :=
  let v839 : BitVec 32 := v838
  let v842 : Index := Scalar.indexCast v839
  let c0_190 : Index := 0#32
  ![v842.toNat, 0]

def k0_chk92 (v838 : BitVec 32) : Prop :=
  (4 ∣ (k0_mult92 v838).toNat) ∧
  (∀ a, (k0_off190 v838) a + S8x128.size a ≤ S65552x128.size a)
theorem k0_mult92_dvd : ∀ (v838 : BitVec 32) (k0_hw92 : k0_chk92 v838), 4 ∣ (k0_mult92 v838).toNat := fun v838 k0_hw92 => k0_hw92.1
theorem k0_off190_inb : ∀ (v838 : BitVec 32) (k0_hw92 : k0_chk92 v838), ∀ a, (k0_off190 v838) a + S8x128.size a ≤ S65552x128.size a := fun v838 k0_hw92 => k0_hw92.2

def k0_off191 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v851 : Index := Scalar.indexCast v20
  ![v851.toNat]
def k0_mult93 (v852 : BitVec 32) : BitVec 32 :=
  v852

def k0_off192 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v855 : Index := Scalar.indexCast v20
  ![v855.toNat]
def k0_mult94 (v856 : BitVec 32) : BitVec 32 :=
  v856

def k0_off193 (v852 : BitVec 32) : Fin 2 → Nat :=
  let v853 : BitVec 32 := v852
  let v858 : Index := Scalar.indexCast v853
  let c0_193 : Index := 0#32
  ![v858.toNat, 0]

def k0_chk93 (v852 : BitVec 32) : Prop :=
  (4 ∣ (k0_mult93 v852).toNat) ∧
  (∀ a, (k0_off193 v852) a + S8x128.size a ≤ S65552x128.size a)
theorem k0_mult93_dvd : ∀ (v852 : BitVec 32) (k0_hw93 : k0_chk93 v852), 4 ∣ (k0_mult93 v852).toNat := fun v852 k0_hw93 => k0_hw93.1
theorem k0_off193_inb : ∀ (v852 : BitVec 32) (k0_hw93 : k0_chk93 v852), ∀ a, (k0_off193 v852) a + S8x128.size a ≤ S65552x128.size a := fun v852 k0_hw93 => k0_hw93.2

def k0_off194 (v856 : BitVec 32) : Fin 2 → Nat :=
  let v857 : BitVec 32 := v856
  let v860 : Index := Scalar.indexCast v857
  let c0_194 : Index := 0#32
  ![v860.toNat, 0]

def k0_chk94 (v856 : BitVec 32) : Prop :=
  (4 ∣ (k0_mult94 v856).toNat) ∧
  (∀ a, (k0_off194 v856) a + S8x128.size a ≤ S65552x128.size a)
theorem k0_mult94_dvd : ∀ (v856 : BitVec 32) (k0_hw94 : k0_chk94 v856), 4 ∣ (k0_mult94 v856).toNat := fun v856 k0_hw94 => k0_hw94.1
theorem k0_off194_inb : ∀ (v856 : BitVec 32) (k0_hw94 : k0_chk94 v856), ∀ a, (k0_off194 v856) a + S8x128.size a ≤ S65552x128.size a := fun v856 k0_hw94 => k0_hw94.2

def k0_off195 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v869 : Index := Scalar.indexCast v20
  ![v869.toNat]
def k0_mult95 (v870 : BitVec 32) : BitVec 32 :=
  v870

def k0_off196 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v873 : Index := Scalar.indexCast v20
  ![v873.toNat]
def k0_mult96 (v874 : BitVec 32) : BitVec 32 :=
  v874

def k0_off197 (v870 : BitVec 32) : Fin 2 → Nat :=
  let v871 : BitVec 32 := v870
  let v876 : Index := Scalar.indexCast v871
  let c0_197 : Index := 0#32
  ![v876.toNat, 0]

def k0_chk95 (v870 : BitVec 32) : Prop :=
  (4 ∣ (k0_mult95 v870).toNat) ∧
  (∀ a, (k0_off197 v870) a + S8x128.size a ≤ S65552x128.size a)
theorem k0_mult95_dvd : ∀ (v870 : BitVec 32) (k0_hw95 : k0_chk95 v870), 4 ∣ (k0_mult95 v870).toNat := fun v870 k0_hw95 => k0_hw95.1
theorem k0_off197_inb : ∀ (v870 : BitVec 32) (k0_hw95 : k0_chk95 v870), ∀ a, (k0_off197 v870) a + S8x128.size a ≤ S65552x128.size a := fun v870 k0_hw95 => k0_hw95.2

def k0_off198 (v874 : BitVec 32) : Fin 2 → Nat :=
  let v875 : BitVec 32 := v874
  let v878 : Index := Scalar.indexCast v875
  let c0_198 : Index := 0#32
  ![v878.toNat, 0]

def k0_chk96 (v874 : BitVec 32) : Prop :=
  (4 ∣ (k0_mult96 v874).toNat) ∧
  (∀ a, (k0_off198 v874) a + S8x128.size a ≤ S65552x128.size a)
theorem k0_mult96_dvd : ∀ (v874 : BitVec 32) (k0_hw96 : k0_chk96 v874), 4 ∣ (k0_mult96 v874).toNat := fun v874 k0_hw96 => k0_hw96.1
theorem k0_off198_inb : ∀ (v874 : BitVec 32) (k0_hw96 : k0_chk96 v874), ∀ a, (k0_off198 v874) a + S8x128.size a ≤ S65552x128.size a := fun v874 k0_hw96 => k0_hw96.2

def k0_off199 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v887 : Index := Scalar.indexCast v20
  ![v887.toNat]
def k0_mult97 (v888 : BitVec 32) : BitVec 32 :=
  v888

def k0_off200 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v891 : Index := Scalar.indexCast v20
  ![v891.toNat]
def k0_mult98 (v892 : BitVec 32) : BitVec 32 :=
  v892

def k0_off201 (v888 : BitVec 32) : Fin 2 → Nat :=
  let v889 : BitVec 32 := v888
  let v894 : Index := Scalar.indexCast v889
  let c0_201 : Index := 0#32
  ![v894.toNat, 0]

def k0_chk97 (v888 : BitVec 32) : Prop :=
  (4 ∣ (k0_mult97 v888).toNat) ∧
  (∀ a, (k0_off201 v888) a + S8x128.size a ≤ S65552x128.size a)
theorem k0_mult97_dvd : ∀ (v888 : BitVec 32) (k0_hw97 : k0_chk97 v888), 4 ∣ (k0_mult97 v888).toNat := fun v888 k0_hw97 => k0_hw97.1
theorem k0_off201_inb : ∀ (v888 : BitVec 32) (k0_hw97 : k0_chk97 v888), ∀ a, (k0_off201 v888) a + S8x128.size a ≤ S65552x128.size a := fun v888 k0_hw97 => k0_hw97.2

def k0_off202 (v892 : BitVec 32) : Fin 2 → Nat :=
  let v893 : BitVec 32 := v892
  let v896 : Index := Scalar.indexCast v893
  let c0_202 : Index := 0#32
  ![v896.toNat, 0]

def k0_chk98 (v892 : BitVec 32) : Prop :=
  (4 ∣ (k0_mult98 v892).toNat) ∧
  (∀ a, (k0_off202 v892) a + S8x128.size a ≤ S65552x128.size a)
theorem k0_mult98_dvd : ∀ (v892 : BitVec 32) (k0_hw98 : k0_chk98 v892), 4 ∣ (k0_mult98 v892).toNat := fun v892 k0_hw98 => k0_hw98.1
theorem k0_off202_inb : ∀ (v892 : BitVec 32) (k0_hw98 : k0_chk98 v892), ∀ a, (k0_off202 v892) a + S8x128.size a ≤ S65552x128.size a := fun v892 k0_hw98 => k0_hw98.2

def k0_off203 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v905 : Index := Scalar.indexCast v20
  ![v905.toNat]
def k0_mult99 (v906 : BitVec 32) : BitVec 32 :=
  v906

def k0_off204 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v909 : Index := Scalar.indexCast v20
  ![v909.toNat]
def k0_mult100 (v910 : BitVec 32) : BitVec 32 :=
  v910

def k0_off205 (v906 : BitVec 32) : Fin 2 → Nat :=
  let v907 : BitVec 32 := v906
  let v912 : Index := Scalar.indexCast v907
  let c0_205 : Index := 0#32
  ![v912.toNat, 0]

def k0_chk99 (v906 : BitVec 32) : Prop :=
  (4 ∣ (k0_mult99 v906).toNat) ∧
  (∀ a, (k0_off205 v906) a + S8x128.size a ≤ S65552x128.size a)
theorem k0_mult99_dvd : ∀ (v906 : BitVec 32) (k0_hw99 : k0_chk99 v906), 4 ∣ (k0_mult99 v906).toNat := fun v906 k0_hw99 => k0_hw99.1
theorem k0_off205_inb : ∀ (v906 : BitVec 32) (k0_hw99 : k0_chk99 v906), ∀ a, (k0_off205 v906) a + S8x128.size a ≤ S65552x128.size a := fun v906 k0_hw99 => k0_hw99.2

def k0_off206 (v910 : BitVec 32) : Fin 2 → Nat :=
  let v911 : BitVec 32 := v910
  let v914 : Index := Scalar.indexCast v911
  let c0_206 : Index := 0#32
  ![v914.toNat, 0]

def k0_chk100 (v910 : BitVec 32) : Prop :=
  (4 ∣ (k0_mult100 v910).toNat) ∧
  (∀ a, (k0_off206 v910) a + S8x128.size a ≤ S65552x128.size a)
theorem k0_mult100_dvd : ∀ (v910 : BitVec 32) (k0_hw100 : k0_chk100 v910), 4 ∣ (k0_mult100 v910).toNat := fun v910 k0_hw100 => k0_hw100.1
theorem k0_off206_inb : ∀ (v910 : BitVec 32) (k0_hw100 : k0_chk100 v910), ∀ a, (k0_off206 v910) a + S8x128.size a ≤ S65552x128.size a := fun v910 k0_hw100 => k0_hw100.2

def k0_off207 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v923 : Index := Scalar.indexCast v20
  ![v923.toNat]
def k0_mult101 (v924 : BitVec 32) : BitVec 32 :=
  v924

def k0_off208 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v927 : Index := Scalar.indexCast v20
  ![v927.toNat]
def k0_mult102 (v928 : BitVec 32) : BitVec 32 :=
  v928

def k0_off209 (v924 : BitVec 32) : Fin 2 → Nat :=
  let v925 : BitVec 32 := v924
  let v930 : Index := Scalar.indexCast v925
  let c0_209 : Index := 0#32
  ![v930.toNat, 0]

def k0_chk101 (v924 : BitVec 32) : Prop :=
  (4 ∣ (k0_mult101 v924).toNat) ∧
  (∀ a, (k0_off209 v924) a + S8x128.size a ≤ S65552x128.size a)
theorem k0_mult101_dvd : ∀ (v924 : BitVec 32) (k0_hw101 : k0_chk101 v924), 4 ∣ (k0_mult101 v924).toNat := fun v924 k0_hw101 => k0_hw101.1
theorem k0_off209_inb : ∀ (v924 : BitVec 32) (k0_hw101 : k0_chk101 v924), ∀ a, (k0_off209 v924) a + S8x128.size a ≤ S65552x128.size a := fun v924 k0_hw101 => k0_hw101.2

def k0_off210 (v928 : BitVec 32) : Fin 2 → Nat :=
  let v929 : BitVec 32 := v928
  let v932 : Index := Scalar.indexCast v929
  let c0_210 : Index := 0#32
  ![v932.toNat, 0]

def k0_chk102 (v928 : BitVec 32) : Prop :=
  (4 ∣ (k0_mult102 v928).toNat) ∧
  (∀ a, (k0_off210 v928) a + S8x128.size a ≤ S65552x128.size a)
theorem k0_mult102_dvd : ∀ (v928 : BitVec 32) (k0_hw102 : k0_chk102 v928), 4 ∣ (k0_mult102 v928).toNat := fun v928 k0_hw102 => k0_hw102.1
theorem k0_off210_inb : ∀ (v928 : BitVec 32) (k0_hw102 : k0_chk102 v928), ∀ a, (k0_off210 v928) a + S8x128.size a ≤ S65552x128.size a := fun v928 k0_hw102 => k0_hw102.2

def k0_off211 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v941 : Index := Scalar.indexCast v20
  ![v941.toNat]
def k0_mult103 (v942 : BitVec 32) : BitVec 32 :=
  v942

def k0_off212 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v945 : Index := Scalar.indexCast v20
  ![v945.toNat]
def k0_mult104 (v946 : BitVec 32) : BitVec 32 :=
  v946

def k0_off213 (v942 : BitVec 32) : Fin 2 → Nat :=
  let v943 : BitVec 32 := v942
  let v948 : Index := Scalar.indexCast v943
  let c0_213 : Index := 0#32
  ![v948.toNat, 0]

def k0_chk103 (v942 : BitVec 32) : Prop :=
  (4 ∣ (k0_mult103 v942).toNat) ∧
  (∀ a, (k0_off213 v942) a + S8x128.size a ≤ S65552x128.size a)
theorem k0_mult103_dvd : ∀ (v942 : BitVec 32) (k0_hw103 : k0_chk103 v942), 4 ∣ (k0_mult103 v942).toNat := fun v942 k0_hw103 => k0_hw103.1
theorem k0_off213_inb : ∀ (v942 : BitVec 32) (k0_hw103 : k0_chk103 v942), ∀ a, (k0_off213 v942) a + S8x128.size a ≤ S65552x128.size a := fun v942 k0_hw103 => k0_hw103.2

def k0_off214 (v946 : BitVec 32) : Fin 2 → Nat :=
  let v947 : BitVec 32 := v946
  let v950 : Index := Scalar.indexCast v947
  let c0_214 : Index := 0#32
  ![v950.toNat, 0]

def k0_chk104 (v946 : BitVec 32) : Prop :=
  (4 ∣ (k0_mult104 v946).toNat) ∧
  (∀ a, (k0_off214 v946) a + S8x128.size a ≤ S65552x128.size a)
theorem k0_mult104_dvd : ∀ (v946 : BitVec 32) (k0_hw104 : k0_chk104 v946), 4 ∣ (k0_mult104 v946).toNat := fun v946 k0_hw104 => k0_hw104.1
theorem k0_off214_inb : ∀ (v946 : BitVec 32) (k0_hw104 : k0_chk104 v946), ∀ a, (k0_off214 v946) a + S8x128.size a ≤ S65552x128.size a := fun v946 k0_hw104 => k0_hw104.2

def k0_off215 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v959 : Index := Scalar.indexCast v20
  ![v959.toNat]
def k0_mult105 (v960 : BitVec 32) : BitVec 32 :=
  v960

def k0_off216 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v963 : Index := Scalar.indexCast v20
  ![v963.toNat]
def k0_mult106 (v964 : BitVec 32) : BitVec 32 :=
  v964

def k0_off217 (v960 : BitVec 32) : Fin 2 → Nat :=
  let v961 : BitVec 32 := v960
  let v966 : Index := Scalar.indexCast v961
  let c0_217 : Index := 0#32
  ![v966.toNat, 0]

def k0_chk105 (v960 : BitVec 32) : Prop :=
  (4 ∣ (k0_mult105 v960).toNat) ∧
  (∀ a, (k0_off217 v960) a + S8x128.size a ≤ S65552x128.size a)
theorem k0_mult105_dvd : ∀ (v960 : BitVec 32) (k0_hw105 : k0_chk105 v960), 4 ∣ (k0_mult105 v960).toNat := fun v960 k0_hw105 => k0_hw105.1
theorem k0_off217_inb : ∀ (v960 : BitVec 32) (k0_hw105 : k0_chk105 v960), ∀ a, (k0_off217 v960) a + S8x128.size a ≤ S65552x128.size a := fun v960 k0_hw105 => k0_hw105.2

def k0_off218 (v964 : BitVec 32) : Fin 2 → Nat :=
  let v965 : BitVec 32 := v964
  let v968 : Index := Scalar.indexCast v965
  let c0_218 : Index := 0#32
  ![v968.toNat, 0]

def k0_chk106 (v964 : BitVec 32) : Prop :=
  (4 ∣ (k0_mult106 v964).toNat) ∧
  (∀ a, (k0_off218 v964) a + S8x128.size a ≤ S65552x128.size a)
theorem k0_mult106_dvd : ∀ (v964 : BitVec 32) (k0_hw106 : k0_chk106 v964), 4 ∣ (k0_mult106 v964).toNat := fun v964 k0_hw106 => k0_hw106.1
theorem k0_off218_inb : ∀ (v964 : BitVec 32) (k0_hw106 : k0_chk106 v964), ∀ a, (k0_off218 v964) a + S8x128.size a ≤ S65552x128.size a := fun v964 k0_hw106 => k0_hw106.2

def k0_off219 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v977 : Index := Scalar.indexCast v20
  ![v977.toNat]
def k0_mult107 (v978 : BitVec 32) : BitVec 32 :=
  v978

def k0_off220 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v981 : Index := Scalar.indexCast v20
  ![v981.toNat]
def k0_mult108 (v982 : BitVec 32) : BitVec 32 :=
  v982

def k0_off221 (v978 : BitVec 32) : Fin 2 → Nat :=
  let v979 : BitVec 32 := v978
  let v984 : Index := Scalar.indexCast v979
  let c0_221 : Index := 0#32
  ![v984.toNat, 0]

def k0_chk107 (v978 : BitVec 32) : Prop :=
  (4 ∣ (k0_mult107 v978).toNat) ∧
  (∀ a, (k0_off221 v978) a + S8x128.size a ≤ S65552x128.size a)
theorem k0_mult107_dvd : ∀ (v978 : BitVec 32) (k0_hw107 : k0_chk107 v978), 4 ∣ (k0_mult107 v978).toNat := fun v978 k0_hw107 => k0_hw107.1
theorem k0_off221_inb : ∀ (v978 : BitVec 32) (k0_hw107 : k0_chk107 v978), ∀ a, (k0_off221 v978) a + S8x128.size a ≤ S65552x128.size a := fun v978 k0_hw107 => k0_hw107.2

def k0_off222 (v982 : BitVec 32) : Fin 2 → Nat :=
  let v983 : BitVec 32 := v982
  let v986 : Index := Scalar.indexCast v983
  let c0_222 : Index := 0#32
  ![v986.toNat, 0]

def k0_chk108 (v982 : BitVec 32) : Prop :=
  (4 ∣ (k0_mult108 v982).toNat) ∧
  (∀ a, (k0_off222 v982) a + S8x128.size a ≤ S65552x128.size a)
theorem k0_mult108_dvd : ∀ (v982 : BitVec 32) (k0_hw108 : k0_chk108 v982), 4 ∣ (k0_mult108 v982).toNat := fun v982 k0_hw108 => k0_hw108.1
theorem k0_off222_inb : ∀ (v982 : BitVec 32) (k0_hw108 : k0_chk108 v982), ∀ a, (k0_off222 v982) a + S8x128.size a ≤ S65552x128.size a := fun v982 k0_hw108 => k0_hw108.2

def k0_off223 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v995 : Index := Scalar.indexCast v20
  ![v995.toNat]
def k0_mult109 (v996 : BitVec 32) : BitVec 32 :=
  v996

def k0_off224 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v999 : Index := Scalar.indexCast v20
  ![v999.toNat]
def k0_mult110 (v1000 : BitVec 32) : BitVec 32 :=
  v1000

def k0_off225 (v996 : BitVec 32) : Fin 2 → Nat :=
  let v997 : BitVec 32 := v996
  let v1002 : Index := Scalar.indexCast v997
  let c0_225 : Index := 0#32
  ![v1002.toNat, 0]

def k0_chk109 (v996 : BitVec 32) : Prop :=
  (4 ∣ (k0_mult109 v996).toNat) ∧
  (∀ a, (k0_off225 v996) a + S8x128.size a ≤ S65552x128.size a)
theorem k0_mult109_dvd : ∀ (v996 : BitVec 32) (k0_hw109 : k0_chk109 v996), 4 ∣ (k0_mult109 v996).toNat := fun v996 k0_hw109 => k0_hw109.1
theorem k0_off225_inb : ∀ (v996 : BitVec 32) (k0_hw109 : k0_chk109 v996), ∀ a, (k0_off225 v996) a + S8x128.size a ≤ S65552x128.size a := fun v996 k0_hw109 => k0_hw109.2

def k0_off226 (v1000 : BitVec 32) : Fin 2 → Nat :=
  let v1001 : BitVec 32 := v1000
  let v1004 : Index := Scalar.indexCast v1001
  let c0_226 : Index := 0#32
  ![v1004.toNat, 0]

def k0_chk110 (v1000 : BitVec 32) : Prop :=
  (4 ∣ (k0_mult110 v1000).toNat) ∧
  (∀ a, (k0_off226 v1000) a + S8x128.size a ≤ S65552x128.size a)
theorem k0_mult110_dvd : ∀ (v1000 : BitVec 32) (k0_hw110 : k0_chk110 v1000), 4 ∣ (k0_mult110 v1000).toNat := fun v1000 k0_hw110 => k0_hw110.1
theorem k0_off226_inb : ∀ (v1000 : BitVec 32) (k0_hw110 : k0_chk110 v1000), ∀ a, (k0_off226 v1000) a + S8x128.size a ≤ S65552x128.size a := fun v1000 k0_hw110 => k0_hw110.2

def k0_off227 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1013 : Index := Scalar.indexCast v20
  ![v1013.toNat]
def k0_mult111 (v1014 : BitVec 32) : BitVec 32 :=
  v1014

def k0_off228 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1017 : Index := Scalar.indexCast v20
  ![v1017.toNat]
def k0_mult112 (v1018 : BitVec 32) : BitVec 32 :=
  v1018

def k0_off229 (v1014 : BitVec 32) : Fin 2 → Nat :=
  let v1015 : BitVec 32 := v1014
  let v1020 : Index := Scalar.indexCast v1015
  let c0_229 : Index := 0#32
  ![v1020.toNat, 0]

def k0_chk111 (v1014 : BitVec 32) : Prop :=
  (4 ∣ (k0_mult111 v1014).toNat) ∧
  (∀ a, (k0_off229 v1014) a + S8x128.size a ≤ S65552x128.size a)
theorem k0_mult111_dvd : ∀ (v1014 : BitVec 32) (k0_hw111 : k0_chk111 v1014), 4 ∣ (k0_mult111 v1014).toNat := fun v1014 k0_hw111 => k0_hw111.1
theorem k0_off229_inb : ∀ (v1014 : BitVec 32) (k0_hw111 : k0_chk111 v1014), ∀ a, (k0_off229 v1014) a + S8x128.size a ≤ S65552x128.size a := fun v1014 k0_hw111 => k0_hw111.2

def k0_off230 (v1018 : BitVec 32) : Fin 2 → Nat :=
  let v1019 : BitVec 32 := v1018
  let v1022 : Index := Scalar.indexCast v1019
  let c0_230 : Index := 0#32
  ![v1022.toNat, 0]

def k0_chk112 (v1018 : BitVec 32) : Prop :=
  (4 ∣ (k0_mult112 v1018).toNat) ∧
  (∀ a, (k0_off230 v1018) a + S8x128.size a ≤ S65552x128.size a)
theorem k0_mult112_dvd : ∀ (v1018 : BitVec 32) (k0_hw112 : k0_chk112 v1018), 4 ∣ (k0_mult112 v1018).toNat := fun v1018 k0_hw112 => k0_hw112.1
theorem k0_off230_inb : ∀ (v1018 : BitVec 32) (k0_hw112 : k0_chk112 v1018), ∀ a, (k0_off230 v1018) a + S8x128.size a ≤ S65552x128.size a := fun v1018 k0_hw112 => k0_hw112.2

def k0_off231 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1031 : Index := Scalar.indexCast v20
  ![v1031.toNat]
def k0_mult113 (v1032 : BitVec 32) : BitVec 32 :=
  v1032

def k0_off232 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1035 : Index := Scalar.indexCast v20
  ![v1035.toNat]
def k0_mult114 (v1036 : BitVec 32) : BitVec 32 :=
  v1036

def k0_off233 (v1032 : BitVec 32) : Fin 2 → Nat :=
  let v1033 : BitVec 32 := v1032
  let v1038 : Index := Scalar.indexCast v1033
  let c0_233 : Index := 0#32
  ![v1038.toNat, 0]

def k0_chk113 (v1032 : BitVec 32) : Prop :=
  (4 ∣ (k0_mult113 v1032).toNat) ∧
  (∀ a, (k0_off233 v1032) a + S8x128.size a ≤ S65552x128.size a)
theorem k0_mult113_dvd : ∀ (v1032 : BitVec 32) (k0_hw113 : k0_chk113 v1032), 4 ∣ (k0_mult113 v1032).toNat := fun v1032 k0_hw113 => k0_hw113.1
theorem k0_off233_inb : ∀ (v1032 : BitVec 32) (k0_hw113 : k0_chk113 v1032), ∀ a, (k0_off233 v1032) a + S8x128.size a ≤ S65552x128.size a := fun v1032 k0_hw113 => k0_hw113.2

def k0_off234 (v1036 : BitVec 32) : Fin 2 → Nat :=
  let v1037 : BitVec 32 := v1036
  let v1040 : Index := Scalar.indexCast v1037
  let c0_234 : Index := 0#32
  ![v1040.toNat, 0]

def k0_chk114 (v1036 : BitVec 32) : Prop :=
  (4 ∣ (k0_mult114 v1036).toNat) ∧
  (∀ a, (k0_off234 v1036) a + S8x128.size a ≤ S65552x128.size a)
theorem k0_mult114_dvd : ∀ (v1036 : BitVec 32) (k0_hw114 : k0_chk114 v1036), 4 ∣ (k0_mult114 v1036).toNat := fun v1036 k0_hw114 => k0_hw114.1
theorem k0_off234_inb : ∀ (v1036 : BitVec 32) (k0_hw114 : k0_chk114 v1036), ∀ a, (k0_off234 v1036) a + S8x128.size a ≤ S65552x128.size a := fun v1036 k0_hw114 => k0_hw114.2

def k0_off235 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1049 : Index := Scalar.indexCast v20
  ![v1049.toNat]
def k0_mult115 (v1050 : BitVec 32) : BitVec 32 :=
  v1050

def k0_off236 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1053 : Index := Scalar.indexCast v20
  ![v1053.toNat]
def k0_mult116 (v1054 : BitVec 32) : BitVec 32 :=
  v1054

def k0_off237 (v1050 : BitVec 32) : Fin 2 → Nat :=
  let v1051 : BitVec 32 := v1050
  let v1056 : Index := Scalar.indexCast v1051
  let c0_237 : Index := 0#32
  ![v1056.toNat, 0]

def k0_chk115 (v1050 : BitVec 32) : Prop :=
  (4 ∣ (k0_mult115 v1050).toNat) ∧
  (∀ a, (k0_off237 v1050) a + S8x128.size a ≤ S65552x128.size a)
theorem k0_mult115_dvd : ∀ (v1050 : BitVec 32) (k0_hw115 : k0_chk115 v1050), 4 ∣ (k0_mult115 v1050).toNat := fun v1050 k0_hw115 => k0_hw115.1
theorem k0_off237_inb : ∀ (v1050 : BitVec 32) (k0_hw115 : k0_chk115 v1050), ∀ a, (k0_off237 v1050) a + S8x128.size a ≤ S65552x128.size a := fun v1050 k0_hw115 => k0_hw115.2

def k0_off238 (v1054 : BitVec 32) : Fin 2 → Nat :=
  let v1055 : BitVec 32 := v1054
  let v1058 : Index := Scalar.indexCast v1055
  let c0_238 : Index := 0#32
  ![v1058.toNat, 0]

def k0_chk116 (v1054 : BitVec 32) : Prop :=
  (4 ∣ (k0_mult116 v1054).toNat) ∧
  (∀ a, (k0_off238 v1054) a + S8x128.size a ≤ S65552x128.size a)
theorem k0_mult116_dvd : ∀ (v1054 : BitVec 32) (k0_hw116 : k0_chk116 v1054), 4 ∣ (k0_mult116 v1054).toNat := fun v1054 k0_hw116 => k0_hw116.1
theorem k0_off238_inb : ∀ (v1054 : BitVec 32) (k0_hw116 : k0_chk116 v1054), ∀ a, (k0_off238 v1054) a + S8x128.size a ≤ S65552x128.size a := fun v1054 k0_hw116 => k0_hw116.2

def k0_off239 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1067 : Index := Scalar.indexCast v20
  ![v1067.toNat]
def k0_mult117 (v1068 : BitVec 32) : BitVec 32 :=
  v1068

def k0_off240 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1071 : Index := Scalar.indexCast v20
  ![v1071.toNat]
def k0_mult118 (v1072 : BitVec 32) : BitVec 32 :=
  v1072

def k0_off241 (v1068 : BitVec 32) : Fin 2 → Nat :=
  let v1069 : BitVec 32 := v1068
  let v1074 : Index := Scalar.indexCast v1069
  let c0_241 : Index := 0#32
  ![v1074.toNat, 0]

def k0_chk117 (v1068 : BitVec 32) : Prop :=
  (4 ∣ (k0_mult117 v1068).toNat) ∧
  (∀ a, (k0_off241 v1068) a + S8x128.size a ≤ S65552x128.size a)
theorem k0_mult117_dvd : ∀ (v1068 : BitVec 32) (k0_hw117 : k0_chk117 v1068), 4 ∣ (k0_mult117 v1068).toNat := fun v1068 k0_hw117 => k0_hw117.1
theorem k0_off241_inb : ∀ (v1068 : BitVec 32) (k0_hw117 : k0_chk117 v1068), ∀ a, (k0_off241 v1068) a + S8x128.size a ≤ S65552x128.size a := fun v1068 k0_hw117 => k0_hw117.2

def k0_off242 (v1072 : BitVec 32) : Fin 2 → Nat :=
  let v1073 : BitVec 32 := v1072
  let v1076 : Index := Scalar.indexCast v1073
  let c0_242 : Index := 0#32
  ![v1076.toNat, 0]

def k0_chk118 (v1072 : BitVec 32) : Prop :=
  (4 ∣ (k0_mult118 v1072).toNat) ∧
  (∀ a, (k0_off242 v1072) a + S8x128.size a ≤ S65552x128.size a)
theorem k0_mult118_dvd : ∀ (v1072 : BitVec 32) (k0_hw118 : k0_chk118 v1072), 4 ∣ (k0_mult118 v1072).toNat := fun v1072 k0_hw118 => k0_hw118.1
theorem k0_off242_inb : ∀ (v1072 : BitVec 32) (k0_hw118 : k0_chk118 v1072), ∀ a, (k0_off242 v1072) a + S8x128.size a ≤ S65552x128.size a := fun v1072 k0_hw118 => k0_hw118.2

def k0_off243 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1085 : Index := Scalar.indexCast v20
  ![v1085.toNat]
def k0_mult119 (v1086 : BitVec 32) : BitVec 32 :=
  v1086

def k0_off244 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1089 : Index := Scalar.indexCast v20
  ![v1089.toNat]
def k0_mult120 (v1090 : BitVec 32) : BitVec 32 :=
  v1090

def k0_off245 (v1086 : BitVec 32) : Fin 2 → Nat :=
  let v1087 : BitVec 32 := v1086
  let v1092 : Index := Scalar.indexCast v1087
  let c0_245 : Index := 0#32
  ![v1092.toNat, 0]

def k0_chk119 (v1086 : BitVec 32) : Prop :=
  (4 ∣ (k0_mult119 v1086).toNat) ∧
  (∀ a, (k0_off245 v1086) a + S8x128.size a ≤ S65552x128.size a)
theorem k0_mult119_dvd : ∀ (v1086 : BitVec 32) (k0_hw119 : k0_chk119 v1086), 4 ∣ (k0_mult119 v1086).toNat := fun v1086 k0_hw119 => k0_hw119.1
theorem k0_off245_inb : ∀ (v1086 : BitVec 32) (k0_hw119 : k0_chk119 v1086), ∀ a, (k0_off245 v1086) a + S8x128.size a ≤ S65552x128.size a := fun v1086 k0_hw119 => k0_hw119.2

def k0_off246 (v1090 : BitVec 32) : Fin 2 → Nat :=
  let v1091 : BitVec 32 := v1090
  let v1094 : Index := Scalar.indexCast v1091
  let c0_246 : Index := 0#32
  ![v1094.toNat, 0]

def k0_chk120 (v1090 : BitVec 32) : Prop :=
  (4 ∣ (k0_mult120 v1090).toNat) ∧
  (∀ a, (k0_off246 v1090) a + S8x128.size a ≤ S65552x128.size a)
theorem k0_mult120_dvd : ∀ (v1090 : BitVec 32) (k0_hw120 : k0_chk120 v1090), 4 ∣ (k0_mult120 v1090).toNat := fun v1090 k0_hw120 => k0_hw120.1
theorem k0_off246_inb : ∀ (v1090 : BitVec 32) (k0_hw120 : k0_chk120 v1090), ∀ a, (k0_off246 v1090) a + S8x128.size a ≤ S65552x128.size a := fun v1090 k0_hw120 => k0_hw120.2

def k0_off247 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1103 : Index := Scalar.indexCast v20
  ![v1103.toNat]
def k0_mult121 (v1104 : BitVec 32) : BitVec 32 :=
  v1104

def k0_off248 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1107 : Index := Scalar.indexCast v20
  ![v1107.toNat]
def k0_mult122 (v1108 : BitVec 32) : BitVec 32 :=
  v1108

def k0_off249 (v1104 : BitVec 32) : Fin 2 → Nat :=
  let v1105 : BitVec 32 := v1104
  let v1110 : Index := Scalar.indexCast v1105
  let c0_249 : Index := 0#32
  ![v1110.toNat, 0]

def k0_chk121 (v1104 : BitVec 32) : Prop :=
  (4 ∣ (k0_mult121 v1104).toNat) ∧
  (∀ a, (k0_off249 v1104) a + S8x128.size a ≤ S65552x128.size a)
theorem k0_mult121_dvd : ∀ (v1104 : BitVec 32) (k0_hw121 : k0_chk121 v1104), 4 ∣ (k0_mult121 v1104).toNat := fun v1104 k0_hw121 => k0_hw121.1
theorem k0_off249_inb : ∀ (v1104 : BitVec 32) (k0_hw121 : k0_chk121 v1104), ∀ a, (k0_off249 v1104) a + S8x128.size a ≤ S65552x128.size a := fun v1104 k0_hw121 => k0_hw121.2

def k0_off250 (v1108 : BitVec 32) : Fin 2 → Nat :=
  let v1109 : BitVec 32 := v1108
  let v1112 : Index := Scalar.indexCast v1109
  let c0_250 : Index := 0#32
  ![v1112.toNat, 0]

def k0_chk122 (v1108 : BitVec 32) : Prop :=
  (4 ∣ (k0_mult122 v1108).toNat) ∧
  (∀ a, (k0_off250 v1108) a + S8x128.size a ≤ S65552x128.size a)
theorem k0_mult122_dvd : ∀ (v1108 : BitVec 32) (k0_hw122 : k0_chk122 v1108), 4 ∣ (k0_mult122 v1108).toNat := fun v1108 k0_hw122 => k0_hw122.1
theorem k0_off250_inb : ∀ (v1108 : BitVec 32) (k0_hw122 : k0_chk122 v1108), ∀ a, (k0_off250 v1108) a + S8x128.size a ≤ S65552x128.size a := fun v1108 k0_hw122 => k0_hw122.2

def k0_off251 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1121 : Index := Scalar.indexCast v20
  ![v1121.toNat]
def k0_mult123 (v1122 : BitVec 32) : BitVec 32 :=
  v1122

def k0_off252 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1125 : Index := Scalar.indexCast v20
  ![v1125.toNat]
def k0_mult124 (v1126 : BitVec 32) : BitVec 32 :=
  v1126

def k0_off253 (v1122 : BitVec 32) : Fin 2 → Nat :=
  let v1123 : BitVec 32 := v1122
  let v1128 : Index := Scalar.indexCast v1123
  let c0_253 : Index := 0#32
  ![v1128.toNat, 0]

def k0_chk123 (v1122 : BitVec 32) : Prop :=
  (4 ∣ (k0_mult123 v1122).toNat) ∧
  (∀ a, (k0_off253 v1122) a + S8x128.size a ≤ S65552x128.size a)
theorem k0_mult123_dvd : ∀ (v1122 : BitVec 32) (k0_hw123 : k0_chk123 v1122), 4 ∣ (k0_mult123 v1122).toNat := fun v1122 k0_hw123 => k0_hw123.1
theorem k0_off253_inb : ∀ (v1122 : BitVec 32) (k0_hw123 : k0_chk123 v1122), ∀ a, (k0_off253 v1122) a + S8x128.size a ≤ S65552x128.size a := fun v1122 k0_hw123 => k0_hw123.2

def k0_off254 (v1126 : BitVec 32) : Fin 2 → Nat :=
  let v1127 : BitVec 32 := v1126
  let v1130 : Index := Scalar.indexCast v1127
  let c0_254 : Index := 0#32
  ![v1130.toNat, 0]

def k0_chk124 (v1126 : BitVec 32) : Prop :=
  (4 ∣ (k0_mult124 v1126).toNat) ∧
  (∀ a, (k0_off254 v1126) a + S8x128.size a ≤ S65552x128.size a)
theorem k0_mult124_dvd : ∀ (v1126 : BitVec 32) (k0_hw124 : k0_chk124 v1126), 4 ∣ (k0_mult124 v1126).toNat := fun v1126 k0_hw124 => k0_hw124.1
theorem k0_off254_inb : ∀ (v1126 : BitVec 32) (k0_hw124 : k0_chk124 v1126), ∀ a, (k0_off254 v1126) a + S8x128.size a ≤ S65552x128.size a := fun v1126 k0_hw124 => k0_hw124.2

def k0_off255 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1139 : Index := Scalar.indexCast v20
  ![v1139.toNat]
def k0_mult125 (v1140 : BitVec 32) : BitVec 32 :=
  v1140

def k0_off256 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1143 : Index := Scalar.indexCast v20
  ![v1143.toNat]
def k0_mult126 (v1144 : BitVec 32) : BitVec 32 :=
  v1144

def k0_off257 (v1140 : BitVec 32) : Fin 2 → Nat :=
  let v1141 : BitVec 32 := v1140
  let v1146 : Index := Scalar.indexCast v1141
  let c0_257 : Index := 0#32
  ![v1146.toNat, 0]

def k0_chk125 (v1140 : BitVec 32) : Prop :=
  (4 ∣ (k0_mult125 v1140).toNat) ∧
  (∀ a, (k0_off257 v1140) a + S8x128.size a ≤ S65552x128.size a)
theorem k0_mult125_dvd : ∀ (v1140 : BitVec 32) (k0_hw125 : k0_chk125 v1140), 4 ∣ (k0_mult125 v1140).toNat := fun v1140 k0_hw125 => k0_hw125.1
theorem k0_off257_inb : ∀ (v1140 : BitVec 32) (k0_hw125 : k0_chk125 v1140), ∀ a, (k0_off257 v1140) a + S8x128.size a ≤ S65552x128.size a := fun v1140 k0_hw125 => k0_hw125.2

def k0_off258 (v1144 : BitVec 32) : Fin 2 → Nat :=
  let v1145 : BitVec 32 := v1144
  let v1148 : Index := Scalar.indexCast v1145
  let c0_258 : Index := 0#32
  ![v1148.toNat, 0]

def k0_chk126 (v1144 : BitVec 32) : Prop :=
  (4 ∣ (k0_mult126 v1144).toNat) ∧
  (∀ a, (k0_off258 v1144) a + S8x128.size a ≤ S65552x128.size a)
theorem k0_mult126_dvd : ∀ (v1144 : BitVec 32) (k0_hw126 : k0_chk126 v1144), 4 ∣ (k0_mult126 v1144).toNat := fun v1144 k0_hw126 => k0_hw126.1
theorem k0_off258_inb : ∀ (v1144 : BitVec 32) (k0_hw126 : k0_chk126 v1144), ∀ a, (k0_off258 v1144) a + S8x128.size a ≤ S65552x128.size a := fun v1144 k0_hw126 => k0_hw126.2

def k0_off259 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1157 : Index := Scalar.indexCast v20
  ![v1157.toNat]
def k0_mult127 (v1158 : BitVec 32) : BitVec 32 :=
  v1158

def k0_off260 (i : grid0.Coords) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c0_i32_6 : BitVec 32 := 0#32
  let v20 : BitVec 32 := Scalar.addi v14 c0_i32_6
  let v1161 : Index := Scalar.indexCast v20
  ![v1161.toNat]
def k0_mult128 (v1162 : BitVec 32) : BitVec 32 :=
  v1162

def k0_off261 (v1158 : BitVec 32) : Fin 2 → Nat :=
  let v1159 : BitVec 32 := v1158
  let v1164 : Index := Scalar.indexCast v1159
  let c0_261 : Index := 0#32
  ![v1164.toNat, 0]

def k0_chk127 (v1158 : BitVec 32) : Prop :=
  (4 ∣ (k0_mult127 v1158).toNat) ∧
  (∀ a, (k0_off261 v1158) a + S8x128.size a ≤ S65552x128.size a)
theorem k0_mult127_dvd : ∀ (v1158 : BitVec 32) (k0_hw127 : k0_chk127 v1158), 4 ∣ (k0_mult127 v1158).toNat := fun v1158 k0_hw127 => k0_hw127.1
theorem k0_off261_inb : ∀ (v1158 : BitVec 32) (k0_hw127 : k0_chk127 v1158), ∀ a, (k0_off261 v1158) a + S8x128.size a ≤ S65552x128.size a := fun v1158 k0_hw127 => k0_hw127.2

def k0_off262 (v1162 : BitVec 32) : Fin 2 → Nat :=
  let v1163 : BitVec 32 := v1162
  let v1166 : Index := Scalar.indexCast v1163
  let c0_262 : Index := 0#32
  ![v1166.toNat, 0]

def k0_chk128 (v1162 : BitVec 32) : Prop :=
  (4 ∣ (k0_mult128 v1162).toNat) ∧
  (∀ a, (k0_off262 v1162) a + S8x128.size a ≤ S65552x128.size a)
theorem k0_mult128_dvd : ∀ (v1162 : BitVec 32) (k0_hw128 : k0_chk128 v1162), 4 ∣ (k0_mult128 v1162).toNat := fun v1162 k0_hw128 => k0_hw128.1
theorem k0_off262_inb : ∀ (v1162 : BitVec 32) (k0_hw128 : k0_chk128 v1162), ∀ a, (k0_off262 v1162) a + S8x128.size a ≤ S65552x128.size a := fun v1162 k0_hw128 => k0_hw128.2

@[reducible] def k0_t1_loop : Scf.Loop 32 :=
  let c0_i32_265 : BitVec 32 := 0#32
  let c64_i32 : BitVec 32 := 64#32
  let v1174 : BitVec 32 := Scalar.addi c0_i32_265 c64_i32
  let c1_i32_266 : BitVec 32 := 1#32
  ⟨c0_i32_265, v1174, c1_i32_266⟩
def k0_off263 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1209 : Index := Scalar.indexCast v1206
  ![v1209.toNat]
def k0_mult129 (v1210 : BitVec 32) : BitVec 32 :=
  v1210

def k0_off264 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1213 : Index := Scalar.indexCast v1206
  ![v1213.toNat]
def k0_mult130 (v1214 : BitVec 32) : BitVec 32 :=
  v1214

def k0_off265 (v1210 : BitVec 32) : Fin 2 → Nat :=
  let v1211 : BitVec 32 := v1210
  let v1216 : Index := Scalar.indexCast v1211
  let c0_291 : Index := 0#32
  ![v1216.toNat, 0]

def k0_chk129 (v1210 : BitVec 32) : Prop :=
  (4 ∣ (k0_mult129 v1210).toNat) ∧
  (∀ a, (k0_off265 v1210) a + S8x128.size a ≤ S65552x128.size a)
theorem k0_mult129_dvd : ∀ (v1210 : BitVec 32) (k0_hw129 : k0_chk129 v1210), 4 ∣ (k0_mult129 v1210).toNat := fun v1210 k0_hw129 => k0_hw129.1
theorem k0_off265_inb : ∀ (v1210 : BitVec 32) (k0_hw129 : k0_chk129 v1210), ∀ a, (k0_off265 v1210) a + S8x128.size a ≤ S65552x128.size a := fun v1210 k0_hw129 => k0_hw129.2

def k0_off266 (v1214 : BitVec 32) : Fin 2 → Nat :=
  let v1215 : BitVec 32 := v1214
  let v1218 : Index := Scalar.indexCast v1215
  let c0_292 : Index := 0#32
  ![v1218.toNat, 0]

def k0_chk130 (v1214 : BitVec 32) : Prop :=
  (4 ∣ (k0_mult130 v1214).toNat) ∧
  (∀ a, (k0_off266 v1214) a + S8x128.size a ≤ S65552x128.size a)
theorem k0_mult130_dvd : ∀ (v1214 : BitVec 32) (k0_hw130 : k0_chk130 v1214), 4 ∣ (k0_mult130 v1214).toNat := fun v1214 k0_hw130 => k0_hw130.1
theorem k0_off266_inb : ∀ (v1214 : BitVec 32) (k0_hw130 : k0_chk130 v1214), ∀ a, (k0_off266 v1214) a + S8x128.size a ≤ S65552x128.size a := fun v1214 k0_hw130 => k0_hw130.2

def k0_off267 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1227 : Index := Scalar.indexCast v1206
  ![v1227.toNat]
def k0_mult131 (v1228 : BitVec 32) : BitVec 32 :=
  v1228

def k0_off268 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1231 : Index := Scalar.indexCast v1206
  ![v1231.toNat]
def k0_mult132 (v1232 : BitVec 32) : BitVec 32 :=
  v1232

def k0_off269 (v1228 : BitVec 32) : Fin 2 → Nat :=
  let v1229 : BitVec 32 := v1228
  let v1234 : Index := Scalar.indexCast v1229
  let c0_298 : Index := 0#32
  ![v1234.toNat, 0]

def k0_chk131 (v1228 : BitVec 32) : Prop :=
  (4 ∣ (k0_mult131 v1228).toNat) ∧
  (∀ a, (k0_off269 v1228) a + S8x128.size a ≤ S65552x128.size a)
theorem k0_mult131_dvd : ∀ (v1228 : BitVec 32) (k0_hw131 : k0_chk131 v1228), 4 ∣ (k0_mult131 v1228).toNat := fun v1228 k0_hw131 => k0_hw131.1
theorem k0_off269_inb : ∀ (v1228 : BitVec 32) (k0_hw131 : k0_chk131 v1228), ∀ a, (k0_off269 v1228) a + S8x128.size a ≤ S65552x128.size a := fun v1228 k0_hw131 => k0_hw131.2

def k0_off270 (v1232 : BitVec 32) : Fin 2 → Nat :=
  let v1233 : BitVec 32 := v1232
  let v1236 : Index := Scalar.indexCast v1233
  let c0_299 : Index := 0#32
  ![v1236.toNat, 0]

def k0_chk132 (v1232 : BitVec 32) : Prop :=
  (4 ∣ (k0_mult132 v1232).toNat) ∧
  (∀ a, (k0_off270 v1232) a + S8x128.size a ≤ S65552x128.size a)
theorem k0_mult132_dvd : ∀ (v1232 : BitVec 32) (k0_hw132 : k0_chk132 v1232), 4 ∣ (k0_mult132 v1232).toNat := fun v1232 k0_hw132 => k0_hw132.1
theorem k0_off270_inb : ∀ (v1232 : BitVec 32) (k0_hw132 : k0_chk132 v1232), ∀ a, (k0_off270 v1232) a + S8x128.size a ≤ S65552x128.size a := fun v1232 k0_hw132 => k0_hw132.2

def k0_off271 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1245 : Index := Scalar.indexCast v1206
  ![v1245.toNat]
def k0_mult133 (v1246 : BitVec 32) : BitVec 32 :=
  v1246

def k0_off272 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1249 : Index := Scalar.indexCast v1206
  ![v1249.toNat]
def k0_mult134 (v1250 : BitVec 32) : BitVec 32 :=
  v1250

def k0_off273 (v1246 : BitVec 32) : Fin 2 → Nat :=
  let v1247 : BitVec 32 := v1246
  let v1252 : Index := Scalar.indexCast v1247
  let c0_305 : Index := 0#32
  ![v1252.toNat, 0]

def k0_chk133 (v1246 : BitVec 32) : Prop :=
  (4 ∣ (k0_mult133 v1246).toNat) ∧
  (∀ a, (k0_off273 v1246) a + S8x128.size a ≤ S65552x128.size a)
theorem k0_mult133_dvd : ∀ (v1246 : BitVec 32) (k0_hw133 : k0_chk133 v1246), 4 ∣ (k0_mult133 v1246).toNat := fun v1246 k0_hw133 => k0_hw133.1
theorem k0_off273_inb : ∀ (v1246 : BitVec 32) (k0_hw133 : k0_chk133 v1246), ∀ a, (k0_off273 v1246) a + S8x128.size a ≤ S65552x128.size a := fun v1246 k0_hw133 => k0_hw133.2

def k0_off274 (v1250 : BitVec 32) : Fin 2 → Nat :=
  let v1251 : BitVec 32 := v1250
  let v1254 : Index := Scalar.indexCast v1251
  let c0_306 : Index := 0#32
  ![v1254.toNat, 0]

def k0_chk134 (v1250 : BitVec 32) : Prop :=
  (4 ∣ (k0_mult134 v1250).toNat) ∧
  (∀ a, (k0_off274 v1250) a + S8x128.size a ≤ S65552x128.size a)
theorem k0_mult134_dvd : ∀ (v1250 : BitVec 32) (k0_hw134 : k0_chk134 v1250), 4 ∣ (k0_mult134 v1250).toNat := fun v1250 k0_hw134 => k0_hw134.1
theorem k0_off274_inb : ∀ (v1250 : BitVec 32) (k0_hw134 : k0_chk134 v1250), ∀ a, (k0_off274 v1250) a + S8x128.size a ≤ S65552x128.size a := fun v1250 k0_hw134 => k0_hw134.2

def k0_off275 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1263 : Index := Scalar.indexCast v1206
  ![v1263.toNat]
def k0_mult135 (v1264 : BitVec 32) : BitVec 32 :=
  v1264

def k0_off276 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1267 : Index := Scalar.indexCast v1206
  ![v1267.toNat]
def k0_mult136 (v1268 : BitVec 32) : BitVec 32 :=
  v1268

def k0_off277 (v1264 : BitVec 32) : Fin 2 → Nat :=
  let v1265 : BitVec 32 := v1264
  let v1270 : Index := Scalar.indexCast v1265
  let c0_312 : Index := 0#32
  ![v1270.toNat, 0]

def k0_chk135 (v1264 : BitVec 32) : Prop :=
  (4 ∣ (k0_mult135 v1264).toNat) ∧
  (∀ a, (k0_off277 v1264) a + S8x128.size a ≤ S65552x128.size a)
theorem k0_mult135_dvd : ∀ (v1264 : BitVec 32) (k0_hw135 : k0_chk135 v1264), 4 ∣ (k0_mult135 v1264).toNat := fun v1264 k0_hw135 => k0_hw135.1
theorem k0_off277_inb : ∀ (v1264 : BitVec 32) (k0_hw135 : k0_chk135 v1264), ∀ a, (k0_off277 v1264) a + S8x128.size a ≤ S65552x128.size a := fun v1264 k0_hw135 => k0_hw135.2

def k0_off278 (v1268 : BitVec 32) : Fin 2 → Nat :=
  let v1269 : BitVec 32 := v1268
  let v1272 : Index := Scalar.indexCast v1269
  let c0_313 : Index := 0#32
  ![v1272.toNat, 0]

def k0_chk136 (v1268 : BitVec 32) : Prop :=
  (4 ∣ (k0_mult136 v1268).toNat) ∧
  (∀ a, (k0_off278 v1268) a + S8x128.size a ≤ S65552x128.size a)
theorem k0_mult136_dvd : ∀ (v1268 : BitVec 32) (k0_hw136 : k0_chk136 v1268), 4 ∣ (k0_mult136 v1268).toNat := fun v1268 k0_hw136 => k0_hw136.1
theorem k0_off278_inb : ∀ (v1268 : BitVec 32) (k0_hw136 : k0_chk136 v1268), ∀ a, (k0_off278 v1268) a + S8x128.size a ≤ S65552x128.size a := fun v1268 k0_hw136 => k0_hw136.2

def k0_off279 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1281 : Index := Scalar.indexCast v1206
  ![v1281.toNat]
def k0_mult137 (v1282 : BitVec 32) : BitVec 32 :=
  v1282

def k0_off280 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1285 : Index := Scalar.indexCast v1206
  ![v1285.toNat]
def k0_mult138 (v1286 : BitVec 32) : BitVec 32 :=
  v1286

def k0_off281 (v1282 : BitVec 32) : Fin 2 → Nat :=
  let v1283 : BitVec 32 := v1282
  let v1288 : Index := Scalar.indexCast v1283
  let c0_319 : Index := 0#32
  ![v1288.toNat, 0]

def k0_chk137 (v1282 : BitVec 32) : Prop :=
  (4 ∣ (k0_mult137 v1282).toNat) ∧
  (∀ a, (k0_off281 v1282) a + S8x128.size a ≤ S65552x128.size a)
theorem k0_mult137_dvd : ∀ (v1282 : BitVec 32) (k0_hw137 : k0_chk137 v1282), 4 ∣ (k0_mult137 v1282).toNat := fun v1282 k0_hw137 => k0_hw137.1
theorem k0_off281_inb : ∀ (v1282 : BitVec 32) (k0_hw137 : k0_chk137 v1282), ∀ a, (k0_off281 v1282) a + S8x128.size a ≤ S65552x128.size a := fun v1282 k0_hw137 => k0_hw137.2

def k0_off282 (v1286 : BitVec 32) : Fin 2 → Nat :=
  let v1287 : BitVec 32 := v1286
  let v1290 : Index := Scalar.indexCast v1287
  let c0_320 : Index := 0#32
  ![v1290.toNat, 0]

def k0_chk138 (v1286 : BitVec 32) : Prop :=
  (4 ∣ (k0_mult138 v1286).toNat) ∧
  (∀ a, (k0_off282 v1286) a + S8x128.size a ≤ S65552x128.size a)
theorem k0_mult138_dvd : ∀ (v1286 : BitVec 32) (k0_hw138 : k0_chk138 v1286), 4 ∣ (k0_mult138 v1286).toNat := fun v1286 k0_hw138 => k0_hw138.1
theorem k0_off282_inb : ∀ (v1286 : BitVec 32) (k0_hw138 : k0_chk138 v1286), ∀ a, (k0_off282 v1286) a + S8x128.size a ≤ S65552x128.size a := fun v1286 k0_hw138 => k0_hw138.2

def k0_off283 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1299 : Index := Scalar.indexCast v1206
  ![v1299.toNat]
def k0_mult139 (v1300 : BitVec 32) : BitVec 32 :=
  v1300

def k0_off284 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1303 : Index := Scalar.indexCast v1206
  ![v1303.toNat]
def k0_mult140 (v1304 : BitVec 32) : BitVec 32 :=
  v1304

def k0_off285 (v1300 : BitVec 32) : Fin 2 → Nat :=
  let v1301 : BitVec 32 := v1300
  let v1306 : Index := Scalar.indexCast v1301
  let c0_326 : Index := 0#32
  ![v1306.toNat, 0]

def k0_chk139 (v1300 : BitVec 32) : Prop :=
  (4 ∣ (k0_mult139 v1300).toNat) ∧
  (∀ a, (k0_off285 v1300) a + S8x128.size a ≤ S65552x128.size a)
theorem k0_mult139_dvd : ∀ (v1300 : BitVec 32) (k0_hw139 : k0_chk139 v1300), 4 ∣ (k0_mult139 v1300).toNat := fun v1300 k0_hw139 => k0_hw139.1
theorem k0_off285_inb : ∀ (v1300 : BitVec 32) (k0_hw139 : k0_chk139 v1300), ∀ a, (k0_off285 v1300) a + S8x128.size a ≤ S65552x128.size a := fun v1300 k0_hw139 => k0_hw139.2

def k0_off286 (v1304 : BitVec 32) : Fin 2 → Nat :=
  let v1305 : BitVec 32 := v1304
  let v1308 : Index := Scalar.indexCast v1305
  let c0_327 : Index := 0#32
  ![v1308.toNat, 0]

def k0_chk140 (v1304 : BitVec 32) : Prop :=
  (4 ∣ (k0_mult140 v1304).toNat) ∧
  (∀ a, (k0_off286 v1304) a + S8x128.size a ≤ S65552x128.size a)
theorem k0_mult140_dvd : ∀ (v1304 : BitVec 32) (k0_hw140 : k0_chk140 v1304), 4 ∣ (k0_mult140 v1304).toNat := fun v1304 k0_hw140 => k0_hw140.1
theorem k0_off286_inb : ∀ (v1304 : BitVec 32) (k0_hw140 : k0_chk140 v1304), ∀ a, (k0_off286 v1304) a + S8x128.size a ≤ S65552x128.size a := fun v1304 k0_hw140 => k0_hw140.2

def k0_off287 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1317 : Index := Scalar.indexCast v1206
  ![v1317.toNat]
def k0_mult141 (v1318 : BitVec 32) : BitVec 32 :=
  v1318

def k0_off288 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1321 : Index := Scalar.indexCast v1206
  ![v1321.toNat]
def k0_mult142 (v1322 : BitVec 32) : BitVec 32 :=
  v1322

def k0_off289 (v1318 : BitVec 32) : Fin 2 → Nat :=
  let v1319 : BitVec 32 := v1318
  let v1324 : Index := Scalar.indexCast v1319
  let c0_333 : Index := 0#32
  ![v1324.toNat, 0]

def k0_chk141 (v1318 : BitVec 32) : Prop :=
  (4 ∣ (k0_mult141 v1318).toNat) ∧
  (∀ a, (k0_off289 v1318) a + S8x128.size a ≤ S65552x128.size a)
theorem k0_mult141_dvd : ∀ (v1318 : BitVec 32) (k0_hw141 : k0_chk141 v1318), 4 ∣ (k0_mult141 v1318).toNat := fun v1318 k0_hw141 => k0_hw141.1
theorem k0_off289_inb : ∀ (v1318 : BitVec 32) (k0_hw141 : k0_chk141 v1318), ∀ a, (k0_off289 v1318) a + S8x128.size a ≤ S65552x128.size a := fun v1318 k0_hw141 => k0_hw141.2

def k0_off290 (v1322 : BitVec 32) : Fin 2 → Nat :=
  let v1323 : BitVec 32 := v1322
  let v1326 : Index := Scalar.indexCast v1323
  let c0_334 : Index := 0#32
  ![v1326.toNat, 0]

def k0_chk142 (v1322 : BitVec 32) : Prop :=
  (4 ∣ (k0_mult142 v1322).toNat) ∧
  (∀ a, (k0_off290 v1322) a + S8x128.size a ≤ S65552x128.size a)
theorem k0_mult142_dvd : ∀ (v1322 : BitVec 32) (k0_hw142 : k0_chk142 v1322), 4 ∣ (k0_mult142 v1322).toNat := fun v1322 k0_hw142 => k0_hw142.1
theorem k0_off290_inb : ∀ (v1322 : BitVec 32) (k0_hw142 : k0_chk142 v1322), ∀ a, (k0_off290 v1322) a + S8x128.size a ≤ S65552x128.size a := fun v1322 k0_hw142 => k0_hw142.2

def k0_off291 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1335 : Index := Scalar.indexCast v1206
  ![v1335.toNat]
def k0_mult143 (v1336 : BitVec 32) : BitVec 32 :=
  v1336

def k0_off292 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1339 : Index := Scalar.indexCast v1206
  ![v1339.toNat]
def k0_mult144 (v1340 : BitVec 32) : BitVec 32 :=
  v1340

def k0_off293 (v1336 : BitVec 32) : Fin 2 → Nat :=
  let v1337 : BitVec 32 := v1336
  let v1342 : Index := Scalar.indexCast v1337
  let c0_340 : Index := 0#32
  ![v1342.toNat, 0]

def k0_chk143 (v1336 : BitVec 32) : Prop :=
  (4 ∣ (k0_mult143 v1336).toNat) ∧
  (∀ a, (k0_off293 v1336) a + S8x128.size a ≤ S65552x128.size a)
theorem k0_mult143_dvd : ∀ (v1336 : BitVec 32) (k0_hw143 : k0_chk143 v1336), 4 ∣ (k0_mult143 v1336).toNat := fun v1336 k0_hw143 => k0_hw143.1
theorem k0_off293_inb : ∀ (v1336 : BitVec 32) (k0_hw143 : k0_chk143 v1336), ∀ a, (k0_off293 v1336) a + S8x128.size a ≤ S65552x128.size a := fun v1336 k0_hw143 => k0_hw143.2

def k0_off294 (v1340 : BitVec 32) : Fin 2 → Nat :=
  let v1341 : BitVec 32 := v1340
  let v1344 : Index := Scalar.indexCast v1341
  let c0_341 : Index := 0#32
  ![v1344.toNat, 0]

def k0_chk144 (v1340 : BitVec 32) : Prop :=
  (4 ∣ (k0_mult144 v1340).toNat) ∧
  (∀ a, (k0_off294 v1340) a + S8x128.size a ≤ S65552x128.size a)
theorem k0_mult144_dvd : ∀ (v1340 : BitVec 32) (k0_hw144 : k0_chk144 v1340), 4 ∣ (k0_mult144 v1340).toNat := fun v1340 k0_hw144 => k0_hw144.1
theorem k0_off294_inb : ∀ (v1340 : BitVec 32) (k0_hw144 : k0_chk144 v1340), ∀ a, (k0_off294 v1340) a + S8x128.size a ≤ S65552x128.size a := fun v1340 k0_hw144 => k0_hw144.2

def k0_off295 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1353 : Index := Scalar.indexCast v1206
  ![v1353.toNat]
def k0_mult145 (v1354 : BitVec 32) : BitVec 32 :=
  v1354

def k0_off296 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1357 : Index := Scalar.indexCast v1206
  ![v1357.toNat]
def k0_mult146 (v1358 : BitVec 32) : BitVec 32 :=
  v1358

def k0_off297 (v1354 : BitVec 32) : Fin 2 → Nat :=
  let v1355 : BitVec 32 := v1354
  let v1360 : Index := Scalar.indexCast v1355
  let c0_347 : Index := 0#32
  ![v1360.toNat, 0]

def k0_chk145 (v1354 : BitVec 32) : Prop :=
  (4 ∣ (k0_mult145 v1354).toNat) ∧
  (∀ a, (k0_off297 v1354) a + S8x128.size a ≤ S65552x128.size a)
theorem k0_mult145_dvd : ∀ (v1354 : BitVec 32) (k0_hw145 : k0_chk145 v1354), 4 ∣ (k0_mult145 v1354).toNat := fun v1354 k0_hw145 => k0_hw145.1
theorem k0_off297_inb : ∀ (v1354 : BitVec 32) (k0_hw145 : k0_chk145 v1354), ∀ a, (k0_off297 v1354) a + S8x128.size a ≤ S65552x128.size a := fun v1354 k0_hw145 => k0_hw145.2

def k0_off298 (v1358 : BitVec 32) : Fin 2 → Nat :=
  let v1359 : BitVec 32 := v1358
  let v1362 : Index := Scalar.indexCast v1359
  let c0_348 : Index := 0#32
  ![v1362.toNat, 0]

def k0_chk146 (v1358 : BitVec 32) : Prop :=
  (4 ∣ (k0_mult146 v1358).toNat) ∧
  (∀ a, (k0_off298 v1358) a + S8x128.size a ≤ S65552x128.size a)
theorem k0_mult146_dvd : ∀ (v1358 : BitVec 32) (k0_hw146 : k0_chk146 v1358), 4 ∣ (k0_mult146 v1358).toNat := fun v1358 k0_hw146 => k0_hw146.1
theorem k0_off298_inb : ∀ (v1358 : BitVec 32) (k0_hw146 : k0_chk146 v1358), ∀ a, (k0_off298 v1358) a + S8x128.size a ≤ S65552x128.size a := fun v1358 k0_hw146 => k0_hw146.2

def k0_off299 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1371 : Index := Scalar.indexCast v1206
  ![v1371.toNat]
def k0_mult147 (v1372 : BitVec 32) : BitVec 32 :=
  v1372

def k0_off300 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1375 : Index := Scalar.indexCast v1206
  ![v1375.toNat]
def k0_mult148 (v1376 : BitVec 32) : BitVec 32 :=
  v1376

def k0_off301 (v1372 : BitVec 32) : Fin 2 → Nat :=
  let v1373 : BitVec 32 := v1372
  let v1378 : Index := Scalar.indexCast v1373
  let c0_354 : Index := 0#32
  ![v1378.toNat, 0]

def k0_chk147 (v1372 : BitVec 32) : Prop :=
  (4 ∣ (k0_mult147 v1372).toNat) ∧
  (∀ a, (k0_off301 v1372) a + S8x128.size a ≤ S65552x128.size a)
theorem k0_mult147_dvd : ∀ (v1372 : BitVec 32) (k0_hw147 : k0_chk147 v1372), 4 ∣ (k0_mult147 v1372).toNat := fun v1372 k0_hw147 => k0_hw147.1
theorem k0_off301_inb : ∀ (v1372 : BitVec 32) (k0_hw147 : k0_chk147 v1372), ∀ a, (k0_off301 v1372) a + S8x128.size a ≤ S65552x128.size a := fun v1372 k0_hw147 => k0_hw147.2

def k0_off302 (v1376 : BitVec 32) : Fin 2 → Nat :=
  let v1377 : BitVec 32 := v1376
  let v1380 : Index := Scalar.indexCast v1377
  let c0_355 : Index := 0#32
  ![v1380.toNat, 0]

def k0_chk148 (v1376 : BitVec 32) : Prop :=
  (4 ∣ (k0_mult148 v1376).toNat) ∧
  (∀ a, (k0_off302 v1376) a + S8x128.size a ≤ S65552x128.size a)
theorem k0_mult148_dvd : ∀ (v1376 : BitVec 32) (k0_hw148 : k0_chk148 v1376), 4 ∣ (k0_mult148 v1376).toNat := fun v1376 k0_hw148 => k0_hw148.1
theorem k0_off302_inb : ∀ (v1376 : BitVec 32) (k0_hw148 : k0_chk148 v1376), ∀ a, (k0_off302 v1376) a + S8x128.size a ≤ S65552x128.size a := fun v1376 k0_hw148 => k0_hw148.2

def k0_off303 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1389 : Index := Scalar.indexCast v1206
  ![v1389.toNat]
def k0_mult149 (v1390 : BitVec 32) : BitVec 32 :=
  v1390

def k0_off304 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1393 : Index := Scalar.indexCast v1206
  ![v1393.toNat]
def k0_mult150 (v1394 : BitVec 32) : BitVec 32 :=
  v1394

def k0_off305 (v1390 : BitVec 32) : Fin 2 → Nat :=
  let v1391 : BitVec 32 := v1390
  let v1396 : Index := Scalar.indexCast v1391
  let c0_361 : Index := 0#32
  ![v1396.toNat, 0]

def k0_chk149 (v1390 : BitVec 32) : Prop :=
  (4 ∣ (k0_mult149 v1390).toNat) ∧
  (∀ a, (k0_off305 v1390) a + S8x128.size a ≤ S65552x128.size a)
theorem k0_mult149_dvd : ∀ (v1390 : BitVec 32) (k0_hw149 : k0_chk149 v1390), 4 ∣ (k0_mult149 v1390).toNat := fun v1390 k0_hw149 => k0_hw149.1
theorem k0_off305_inb : ∀ (v1390 : BitVec 32) (k0_hw149 : k0_chk149 v1390), ∀ a, (k0_off305 v1390) a + S8x128.size a ≤ S65552x128.size a := fun v1390 k0_hw149 => k0_hw149.2

def k0_off306 (v1394 : BitVec 32) : Fin 2 → Nat :=
  let v1395 : BitVec 32 := v1394
  let v1398 : Index := Scalar.indexCast v1395
  let c0_362 : Index := 0#32
  ![v1398.toNat, 0]

def k0_chk150 (v1394 : BitVec 32) : Prop :=
  (4 ∣ (k0_mult150 v1394).toNat) ∧
  (∀ a, (k0_off306 v1394) a + S8x128.size a ≤ S65552x128.size a)
theorem k0_mult150_dvd : ∀ (v1394 : BitVec 32) (k0_hw150 : k0_chk150 v1394), 4 ∣ (k0_mult150 v1394).toNat := fun v1394 k0_hw150 => k0_hw150.1
theorem k0_off306_inb : ∀ (v1394 : BitVec 32) (k0_hw150 : k0_chk150 v1394), ∀ a, (k0_off306 v1394) a + S8x128.size a ≤ S65552x128.size a := fun v1394 k0_hw150 => k0_hw150.2

def k0_off307 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1407 : Index := Scalar.indexCast v1206
  ![v1407.toNat]
def k0_mult151 (v1408 : BitVec 32) : BitVec 32 :=
  v1408

def k0_off308 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1411 : Index := Scalar.indexCast v1206
  ![v1411.toNat]
def k0_mult152 (v1412 : BitVec 32) : BitVec 32 :=
  v1412

def k0_off309 (v1408 : BitVec 32) : Fin 2 → Nat :=
  let v1409 : BitVec 32 := v1408
  let v1414 : Index := Scalar.indexCast v1409
  let c0_368 : Index := 0#32
  ![v1414.toNat, 0]

def k0_chk151 (v1408 : BitVec 32) : Prop :=
  (4 ∣ (k0_mult151 v1408).toNat) ∧
  (∀ a, (k0_off309 v1408) a + S8x128.size a ≤ S65552x128.size a)
theorem k0_mult151_dvd : ∀ (v1408 : BitVec 32) (k0_hw151 : k0_chk151 v1408), 4 ∣ (k0_mult151 v1408).toNat := fun v1408 k0_hw151 => k0_hw151.1
theorem k0_off309_inb : ∀ (v1408 : BitVec 32) (k0_hw151 : k0_chk151 v1408), ∀ a, (k0_off309 v1408) a + S8x128.size a ≤ S65552x128.size a := fun v1408 k0_hw151 => k0_hw151.2

def k0_off310 (v1412 : BitVec 32) : Fin 2 → Nat :=
  let v1413 : BitVec 32 := v1412
  let v1416 : Index := Scalar.indexCast v1413
  let c0_369 : Index := 0#32
  ![v1416.toNat, 0]

def k0_chk152 (v1412 : BitVec 32) : Prop :=
  (4 ∣ (k0_mult152 v1412).toNat) ∧
  (∀ a, (k0_off310 v1412) a + S8x128.size a ≤ S65552x128.size a)
theorem k0_mult152_dvd : ∀ (v1412 : BitVec 32) (k0_hw152 : k0_chk152 v1412), 4 ∣ (k0_mult152 v1412).toNat := fun v1412 k0_hw152 => k0_hw152.1
theorem k0_off310_inb : ∀ (v1412 : BitVec 32) (k0_hw152 : k0_chk152 v1412), ∀ a, (k0_off310 v1412) a + S8x128.size a ≤ S65552x128.size a := fun v1412 k0_hw152 => k0_hw152.2

def k0_off311 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1425 : Index := Scalar.indexCast v1206
  ![v1425.toNat]
def k0_mult153 (v1426 : BitVec 32) : BitVec 32 :=
  v1426

def k0_off312 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1429 : Index := Scalar.indexCast v1206
  ![v1429.toNat]
def k0_mult154 (v1430 : BitVec 32) : BitVec 32 :=
  v1430

def k0_off313 (v1426 : BitVec 32) : Fin 2 → Nat :=
  let v1427 : BitVec 32 := v1426
  let v1432 : Index := Scalar.indexCast v1427
  let c0_375 : Index := 0#32
  ![v1432.toNat, 0]

def k0_chk153 (v1426 : BitVec 32) : Prop :=
  (4 ∣ (k0_mult153 v1426).toNat) ∧
  (∀ a, (k0_off313 v1426) a + S8x128.size a ≤ S65552x128.size a)
theorem k0_mult153_dvd : ∀ (v1426 : BitVec 32) (k0_hw153 : k0_chk153 v1426), 4 ∣ (k0_mult153 v1426).toNat := fun v1426 k0_hw153 => k0_hw153.1
theorem k0_off313_inb : ∀ (v1426 : BitVec 32) (k0_hw153 : k0_chk153 v1426), ∀ a, (k0_off313 v1426) a + S8x128.size a ≤ S65552x128.size a := fun v1426 k0_hw153 => k0_hw153.2

def k0_off314 (v1430 : BitVec 32) : Fin 2 → Nat :=
  let v1431 : BitVec 32 := v1430
  let v1434 : Index := Scalar.indexCast v1431
  let c0_376 : Index := 0#32
  ![v1434.toNat, 0]

def k0_chk154 (v1430 : BitVec 32) : Prop :=
  (4 ∣ (k0_mult154 v1430).toNat) ∧
  (∀ a, (k0_off314 v1430) a + S8x128.size a ≤ S65552x128.size a)
theorem k0_mult154_dvd : ∀ (v1430 : BitVec 32) (k0_hw154 : k0_chk154 v1430), 4 ∣ (k0_mult154 v1430).toNat := fun v1430 k0_hw154 => k0_hw154.1
theorem k0_off314_inb : ∀ (v1430 : BitVec 32) (k0_hw154 : k0_chk154 v1430), ∀ a, (k0_off314 v1430) a + S8x128.size a ≤ S65552x128.size a := fun v1430 k0_hw154 => k0_hw154.2

def k0_off315 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1443 : Index := Scalar.indexCast v1206
  ![v1443.toNat]
def k0_mult155 (v1444 : BitVec 32) : BitVec 32 :=
  v1444

def k0_off316 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1447 : Index := Scalar.indexCast v1206
  ![v1447.toNat]
def k0_mult156 (v1448 : BitVec 32) : BitVec 32 :=
  v1448

def k0_off317 (v1444 : BitVec 32) : Fin 2 → Nat :=
  let v1445 : BitVec 32 := v1444
  let v1450 : Index := Scalar.indexCast v1445
  let c0_382 : Index := 0#32
  ![v1450.toNat, 0]

def k0_chk155 (v1444 : BitVec 32) : Prop :=
  (4 ∣ (k0_mult155 v1444).toNat) ∧
  (∀ a, (k0_off317 v1444) a + S8x128.size a ≤ S65552x128.size a)
theorem k0_mult155_dvd : ∀ (v1444 : BitVec 32) (k0_hw155 : k0_chk155 v1444), 4 ∣ (k0_mult155 v1444).toNat := fun v1444 k0_hw155 => k0_hw155.1
theorem k0_off317_inb : ∀ (v1444 : BitVec 32) (k0_hw155 : k0_chk155 v1444), ∀ a, (k0_off317 v1444) a + S8x128.size a ≤ S65552x128.size a := fun v1444 k0_hw155 => k0_hw155.2

def k0_off318 (v1448 : BitVec 32) : Fin 2 → Nat :=
  let v1449 : BitVec 32 := v1448
  let v1452 : Index := Scalar.indexCast v1449
  let c0_383 : Index := 0#32
  ![v1452.toNat, 0]

def k0_chk156 (v1448 : BitVec 32) : Prop :=
  (4 ∣ (k0_mult156 v1448).toNat) ∧
  (∀ a, (k0_off318 v1448) a + S8x128.size a ≤ S65552x128.size a)
theorem k0_mult156_dvd : ∀ (v1448 : BitVec 32) (k0_hw156 : k0_chk156 v1448), 4 ∣ (k0_mult156 v1448).toNat := fun v1448 k0_hw156 => k0_hw156.1
theorem k0_off318_inb : ∀ (v1448 : BitVec 32) (k0_hw156 : k0_chk156 v1448), ∀ a, (k0_off318 v1448) a + S8x128.size a ≤ S65552x128.size a := fun v1448 k0_hw156 => k0_hw156.2

def k0_off319 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1461 : Index := Scalar.indexCast v1206
  ![v1461.toNat]
def k0_mult157 (v1462 : BitVec 32) : BitVec 32 :=
  v1462

def k0_off320 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1465 : Index := Scalar.indexCast v1206
  ![v1465.toNat]
def k0_mult158 (v1466 : BitVec 32) : BitVec 32 :=
  v1466

def k0_off321 (v1462 : BitVec 32) : Fin 2 → Nat :=
  let v1463 : BitVec 32 := v1462
  let v1468 : Index := Scalar.indexCast v1463
  let c0_389 : Index := 0#32
  ![v1468.toNat, 0]

def k0_chk157 (v1462 : BitVec 32) : Prop :=
  (4 ∣ (k0_mult157 v1462).toNat) ∧
  (∀ a, (k0_off321 v1462) a + S8x128.size a ≤ S65552x128.size a)
theorem k0_mult157_dvd : ∀ (v1462 : BitVec 32) (k0_hw157 : k0_chk157 v1462), 4 ∣ (k0_mult157 v1462).toNat := fun v1462 k0_hw157 => k0_hw157.1
theorem k0_off321_inb : ∀ (v1462 : BitVec 32) (k0_hw157 : k0_chk157 v1462), ∀ a, (k0_off321 v1462) a + S8x128.size a ≤ S65552x128.size a := fun v1462 k0_hw157 => k0_hw157.2

def k0_off322 (v1466 : BitVec 32) : Fin 2 → Nat :=
  let v1467 : BitVec 32 := v1466
  let v1470 : Index := Scalar.indexCast v1467
  let c0_390 : Index := 0#32
  ![v1470.toNat, 0]

def k0_chk158 (v1466 : BitVec 32) : Prop :=
  (4 ∣ (k0_mult158 v1466).toNat) ∧
  (∀ a, (k0_off322 v1466) a + S8x128.size a ≤ S65552x128.size a)
theorem k0_mult158_dvd : ∀ (v1466 : BitVec 32) (k0_hw158 : k0_chk158 v1466), 4 ∣ (k0_mult158 v1466).toNat := fun v1466 k0_hw158 => k0_hw158.1
theorem k0_off322_inb : ∀ (v1466 : BitVec 32) (k0_hw158 : k0_chk158 v1466), ∀ a, (k0_off322 v1466) a + S8x128.size a ≤ S65552x128.size a := fun v1466 k0_hw158 => k0_hw158.2

def k0_off323 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1479 : Index := Scalar.indexCast v1206
  ![v1479.toNat]
def k0_mult159 (v1480 : BitVec 32) : BitVec 32 :=
  v1480

def k0_off324 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1483 : Index := Scalar.indexCast v1206
  ![v1483.toNat]
def k0_mult160 (v1484 : BitVec 32) : BitVec 32 :=
  v1484

def k0_off325 (v1480 : BitVec 32) : Fin 2 → Nat :=
  let v1481 : BitVec 32 := v1480
  let v1486 : Index := Scalar.indexCast v1481
  let c0_396 : Index := 0#32
  ![v1486.toNat, 0]

def k0_chk159 (v1480 : BitVec 32) : Prop :=
  (4 ∣ (k0_mult159 v1480).toNat) ∧
  (∀ a, (k0_off325 v1480) a + S8x128.size a ≤ S65552x128.size a)
theorem k0_mult159_dvd : ∀ (v1480 : BitVec 32) (k0_hw159 : k0_chk159 v1480), 4 ∣ (k0_mult159 v1480).toNat := fun v1480 k0_hw159 => k0_hw159.1
theorem k0_off325_inb : ∀ (v1480 : BitVec 32) (k0_hw159 : k0_chk159 v1480), ∀ a, (k0_off325 v1480) a + S8x128.size a ≤ S65552x128.size a := fun v1480 k0_hw159 => k0_hw159.2

def k0_off326 (v1484 : BitVec 32) : Fin 2 → Nat :=
  let v1485 : BitVec 32 := v1484
  let v1488 : Index := Scalar.indexCast v1485
  let c0_397 : Index := 0#32
  ![v1488.toNat, 0]

def k0_chk160 (v1484 : BitVec 32) : Prop :=
  (4 ∣ (k0_mult160 v1484).toNat) ∧
  (∀ a, (k0_off326 v1484) a + S8x128.size a ≤ S65552x128.size a)
theorem k0_mult160_dvd : ∀ (v1484 : BitVec 32) (k0_hw160 : k0_chk160 v1484), 4 ∣ (k0_mult160 v1484).toNat := fun v1484 k0_hw160 => k0_hw160.1
theorem k0_off326_inb : ∀ (v1484 : BitVec 32) (k0_hw160 : k0_chk160 v1484), ∀ a, (k0_off326 v1484) a + S8x128.size a ≤ S65552x128.size a := fun v1484 k0_hw160 => k0_hw160.2

def k0_off327 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1497 : Index := Scalar.indexCast v1206
  ![v1497.toNat]
def k0_mult161 (v1498 : BitVec 32) : BitVec 32 :=
  v1498

def k0_off328 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1501 : Index := Scalar.indexCast v1206
  ![v1501.toNat]
def k0_mult162 (v1502 : BitVec 32) : BitVec 32 :=
  v1502

def k0_off329 (v1498 : BitVec 32) : Fin 2 → Nat :=
  let v1499 : BitVec 32 := v1498
  let v1504 : Index := Scalar.indexCast v1499
  let c0_403 : Index := 0#32
  ![v1504.toNat, 0]

def k0_chk161 (v1498 : BitVec 32) : Prop :=
  (4 ∣ (k0_mult161 v1498).toNat) ∧
  (∀ a, (k0_off329 v1498) a + S8x128.size a ≤ S65552x128.size a)
theorem k0_mult161_dvd : ∀ (v1498 : BitVec 32) (k0_hw161 : k0_chk161 v1498), 4 ∣ (k0_mult161 v1498).toNat := fun v1498 k0_hw161 => k0_hw161.1
theorem k0_off329_inb : ∀ (v1498 : BitVec 32) (k0_hw161 : k0_chk161 v1498), ∀ a, (k0_off329 v1498) a + S8x128.size a ≤ S65552x128.size a := fun v1498 k0_hw161 => k0_hw161.2

def k0_off330 (v1502 : BitVec 32) : Fin 2 → Nat :=
  let v1503 : BitVec 32 := v1502
  let v1506 : Index := Scalar.indexCast v1503
  let c0_404 : Index := 0#32
  ![v1506.toNat, 0]

def k0_chk162 (v1502 : BitVec 32) : Prop :=
  (4 ∣ (k0_mult162 v1502).toNat) ∧
  (∀ a, (k0_off330 v1502) a + S8x128.size a ≤ S65552x128.size a)
theorem k0_mult162_dvd : ∀ (v1502 : BitVec 32) (k0_hw162 : k0_chk162 v1502), 4 ∣ (k0_mult162 v1502).toNat := fun v1502 k0_hw162 => k0_hw162.1
theorem k0_off330_inb : ∀ (v1502 : BitVec 32) (k0_hw162 : k0_chk162 v1502), ∀ a, (k0_off330 v1502) a + S8x128.size a ≤ S65552x128.size a := fun v1502 k0_hw162 => k0_hw162.2

def k0_off331 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1515 : Index := Scalar.indexCast v1206
  ![v1515.toNat]
def k0_mult163 (v1516 : BitVec 32) : BitVec 32 :=
  v1516

def k0_off332 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1519 : Index := Scalar.indexCast v1206
  ![v1519.toNat]
def k0_mult164 (v1520 : BitVec 32) : BitVec 32 :=
  v1520

def k0_off333 (v1516 : BitVec 32) : Fin 2 → Nat :=
  let v1517 : BitVec 32 := v1516
  let v1522 : Index := Scalar.indexCast v1517
  let c0_410 : Index := 0#32
  ![v1522.toNat, 0]

def k0_chk163 (v1516 : BitVec 32) : Prop :=
  (4 ∣ (k0_mult163 v1516).toNat) ∧
  (∀ a, (k0_off333 v1516) a + S8x128.size a ≤ S65552x128.size a)
theorem k0_mult163_dvd : ∀ (v1516 : BitVec 32) (k0_hw163 : k0_chk163 v1516), 4 ∣ (k0_mult163 v1516).toNat := fun v1516 k0_hw163 => k0_hw163.1
theorem k0_off333_inb : ∀ (v1516 : BitVec 32) (k0_hw163 : k0_chk163 v1516), ∀ a, (k0_off333 v1516) a + S8x128.size a ≤ S65552x128.size a := fun v1516 k0_hw163 => k0_hw163.2

def k0_off334 (v1520 : BitVec 32) : Fin 2 → Nat :=
  let v1521 : BitVec 32 := v1520
  let v1524 : Index := Scalar.indexCast v1521
  let c0_411 : Index := 0#32
  ![v1524.toNat, 0]

def k0_chk164 (v1520 : BitVec 32) : Prop :=
  (4 ∣ (k0_mult164 v1520).toNat) ∧
  (∀ a, (k0_off334 v1520) a + S8x128.size a ≤ S65552x128.size a)
theorem k0_mult164_dvd : ∀ (v1520 : BitVec 32) (k0_hw164 : k0_chk164 v1520), 4 ∣ (k0_mult164 v1520).toNat := fun v1520 k0_hw164 => k0_hw164.1
theorem k0_off334_inb : ∀ (v1520 : BitVec 32) (k0_hw164 : k0_chk164 v1520), ∀ a, (k0_off334 v1520) a + S8x128.size a ≤ S65552x128.size a := fun v1520 k0_hw164 => k0_hw164.2

def k0_off335 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1533 : Index := Scalar.indexCast v1206
  ![v1533.toNat]
def k0_mult165 (v1534 : BitVec 32) : BitVec 32 :=
  v1534

def k0_off336 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1537 : Index := Scalar.indexCast v1206
  ![v1537.toNat]
def k0_mult166 (v1538 : BitVec 32) : BitVec 32 :=
  v1538

def k0_off337 (v1534 : BitVec 32) : Fin 2 → Nat :=
  let v1535 : BitVec 32 := v1534
  let v1540 : Index := Scalar.indexCast v1535
  let c0_417 : Index := 0#32
  ![v1540.toNat, 0]

def k0_chk165 (v1534 : BitVec 32) : Prop :=
  (4 ∣ (k0_mult165 v1534).toNat) ∧
  (∀ a, (k0_off337 v1534) a + S8x128.size a ≤ S65552x128.size a)
theorem k0_mult165_dvd : ∀ (v1534 : BitVec 32) (k0_hw165 : k0_chk165 v1534), 4 ∣ (k0_mult165 v1534).toNat := fun v1534 k0_hw165 => k0_hw165.1
theorem k0_off337_inb : ∀ (v1534 : BitVec 32) (k0_hw165 : k0_chk165 v1534), ∀ a, (k0_off337 v1534) a + S8x128.size a ≤ S65552x128.size a := fun v1534 k0_hw165 => k0_hw165.2

def k0_off338 (v1538 : BitVec 32) : Fin 2 → Nat :=
  let v1539 : BitVec 32 := v1538
  let v1542 : Index := Scalar.indexCast v1539
  let c0_418 : Index := 0#32
  ![v1542.toNat, 0]

def k0_chk166 (v1538 : BitVec 32) : Prop :=
  (4 ∣ (k0_mult166 v1538).toNat) ∧
  (∀ a, (k0_off338 v1538) a + S8x128.size a ≤ S65552x128.size a)
theorem k0_mult166_dvd : ∀ (v1538 : BitVec 32) (k0_hw166 : k0_chk166 v1538), 4 ∣ (k0_mult166 v1538).toNat := fun v1538 k0_hw166 => k0_hw166.1
theorem k0_off338_inb : ∀ (v1538 : BitVec 32) (k0_hw166 : k0_chk166 v1538), ∀ a, (k0_off338 v1538) a + S8x128.size a ≤ S65552x128.size a := fun v1538 k0_hw166 => k0_hw166.2

def k0_off339 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1551 : Index := Scalar.indexCast v1206
  ![v1551.toNat]
def k0_mult167 (v1552 : BitVec 32) : BitVec 32 :=
  v1552

def k0_off340 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1555 : Index := Scalar.indexCast v1206
  ![v1555.toNat]
def k0_mult168 (v1556 : BitVec 32) : BitVec 32 :=
  v1556

def k0_off341 (v1552 : BitVec 32) : Fin 2 → Nat :=
  let v1553 : BitVec 32 := v1552
  let v1558 : Index := Scalar.indexCast v1553
  let c0_424 : Index := 0#32
  ![v1558.toNat, 0]

def k0_chk167 (v1552 : BitVec 32) : Prop :=
  (4 ∣ (k0_mult167 v1552).toNat) ∧
  (∀ a, (k0_off341 v1552) a + S8x128.size a ≤ S65552x128.size a)
theorem k0_mult167_dvd : ∀ (v1552 : BitVec 32) (k0_hw167 : k0_chk167 v1552), 4 ∣ (k0_mult167 v1552).toNat := fun v1552 k0_hw167 => k0_hw167.1
theorem k0_off341_inb : ∀ (v1552 : BitVec 32) (k0_hw167 : k0_chk167 v1552), ∀ a, (k0_off341 v1552) a + S8x128.size a ≤ S65552x128.size a := fun v1552 k0_hw167 => k0_hw167.2

def k0_off342 (v1556 : BitVec 32) : Fin 2 → Nat :=
  let v1557 : BitVec 32 := v1556
  let v1560 : Index := Scalar.indexCast v1557
  let c0_425 : Index := 0#32
  ![v1560.toNat, 0]

def k0_chk168 (v1556 : BitVec 32) : Prop :=
  (4 ∣ (k0_mult168 v1556).toNat) ∧
  (∀ a, (k0_off342 v1556) a + S8x128.size a ≤ S65552x128.size a)
theorem k0_mult168_dvd : ∀ (v1556 : BitVec 32) (k0_hw168 : k0_chk168 v1556), 4 ∣ (k0_mult168 v1556).toNat := fun v1556 k0_hw168 => k0_hw168.1
theorem k0_off342_inb : ∀ (v1556 : BitVec 32) (k0_hw168 : k0_chk168 v1556), ∀ a, (k0_off342 v1556) a + S8x128.size a ≤ S65552x128.size a := fun v1556 k0_hw168 => k0_hw168.2

def k0_off343 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1569 : Index := Scalar.indexCast v1206
  ![v1569.toNat]
def k0_mult169 (v1570 : BitVec 32) : BitVec 32 :=
  v1570

def k0_off344 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1573 : Index := Scalar.indexCast v1206
  ![v1573.toNat]
def k0_mult170 (v1574 : BitVec 32) : BitVec 32 :=
  v1574

def k0_off345 (v1570 : BitVec 32) : Fin 2 → Nat :=
  let v1571 : BitVec 32 := v1570
  let v1576 : Index := Scalar.indexCast v1571
  let c0_431 : Index := 0#32
  ![v1576.toNat, 0]

def k0_chk169 (v1570 : BitVec 32) : Prop :=
  (4 ∣ (k0_mult169 v1570).toNat) ∧
  (∀ a, (k0_off345 v1570) a + S8x128.size a ≤ S65552x128.size a)
theorem k0_mult169_dvd : ∀ (v1570 : BitVec 32) (k0_hw169 : k0_chk169 v1570), 4 ∣ (k0_mult169 v1570).toNat := fun v1570 k0_hw169 => k0_hw169.1
theorem k0_off345_inb : ∀ (v1570 : BitVec 32) (k0_hw169 : k0_chk169 v1570), ∀ a, (k0_off345 v1570) a + S8x128.size a ≤ S65552x128.size a := fun v1570 k0_hw169 => k0_hw169.2

def k0_off346 (v1574 : BitVec 32) : Fin 2 → Nat :=
  let v1575 : BitVec 32 := v1574
  let v1578 : Index := Scalar.indexCast v1575
  let c0_432 : Index := 0#32
  ![v1578.toNat, 0]

def k0_chk170 (v1574 : BitVec 32) : Prop :=
  (4 ∣ (k0_mult170 v1574).toNat) ∧
  (∀ a, (k0_off346 v1574) a + S8x128.size a ≤ S65552x128.size a)
theorem k0_mult170_dvd : ∀ (v1574 : BitVec 32) (k0_hw170 : k0_chk170 v1574), 4 ∣ (k0_mult170 v1574).toNat := fun v1574 k0_hw170 => k0_hw170.1
theorem k0_off346_inb : ∀ (v1574 : BitVec 32) (k0_hw170 : k0_chk170 v1574), ∀ a, (k0_off346 v1574) a + S8x128.size a ≤ S65552x128.size a := fun v1574 k0_hw170 => k0_hw170.2

def k0_off347 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1587 : Index := Scalar.indexCast v1206
  ![v1587.toNat]
def k0_mult171 (v1588 : BitVec 32) : BitVec 32 :=
  v1588

def k0_off348 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1591 : Index := Scalar.indexCast v1206
  ![v1591.toNat]
def k0_mult172 (v1592 : BitVec 32) : BitVec 32 :=
  v1592

def k0_off349 (v1588 : BitVec 32) : Fin 2 → Nat :=
  let v1589 : BitVec 32 := v1588
  let v1594 : Index := Scalar.indexCast v1589
  let c0_438 : Index := 0#32
  ![v1594.toNat, 0]

def k0_chk171 (v1588 : BitVec 32) : Prop :=
  (4 ∣ (k0_mult171 v1588).toNat) ∧
  (∀ a, (k0_off349 v1588) a + S8x128.size a ≤ S65552x128.size a)
theorem k0_mult171_dvd : ∀ (v1588 : BitVec 32) (k0_hw171 : k0_chk171 v1588), 4 ∣ (k0_mult171 v1588).toNat := fun v1588 k0_hw171 => k0_hw171.1
theorem k0_off349_inb : ∀ (v1588 : BitVec 32) (k0_hw171 : k0_chk171 v1588), ∀ a, (k0_off349 v1588) a + S8x128.size a ≤ S65552x128.size a := fun v1588 k0_hw171 => k0_hw171.2

def k0_off350 (v1592 : BitVec 32) : Fin 2 → Nat :=
  let v1593 : BitVec 32 := v1592
  let v1596 : Index := Scalar.indexCast v1593
  let c0_439 : Index := 0#32
  ![v1596.toNat, 0]

def k0_chk172 (v1592 : BitVec 32) : Prop :=
  (4 ∣ (k0_mult172 v1592).toNat) ∧
  (∀ a, (k0_off350 v1592) a + S8x128.size a ≤ S65552x128.size a)
theorem k0_mult172_dvd : ∀ (v1592 : BitVec 32) (k0_hw172 : k0_chk172 v1592), 4 ∣ (k0_mult172 v1592).toNat := fun v1592 k0_hw172 => k0_hw172.1
theorem k0_off350_inb : ∀ (v1592 : BitVec 32) (k0_hw172 : k0_chk172 v1592), ∀ a, (k0_off350 v1592) a + S8x128.size a ≤ S65552x128.size a := fun v1592 k0_hw172 => k0_hw172.2

def k0_off351 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1605 : Index := Scalar.indexCast v1206
  ![v1605.toNat]
def k0_mult173 (v1606 : BitVec 32) : BitVec 32 :=
  v1606

def k0_off352 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1609 : Index := Scalar.indexCast v1206
  ![v1609.toNat]
def k0_mult174 (v1610 : BitVec 32) : BitVec 32 :=
  v1610

def k0_off353 (v1606 : BitVec 32) : Fin 2 → Nat :=
  let v1607 : BitVec 32 := v1606
  let v1612 : Index := Scalar.indexCast v1607
  let c0_445 : Index := 0#32
  ![v1612.toNat, 0]

def k0_chk173 (v1606 : BitVec 32) : Prop :=
  (4 ∣ (k0_mult173 v1606).toNat) ∧
  (∀ a, (k0_off353 v1606) a + S8x128.size a ≤ S65552x128.size a)
theorem k0_mult173_dvd : ∀ (v1606 : BitVec 32) (k0_hw173 : k0_chk173 v1606), 4 ∣ (k0_mult173 v1606).toNat := fun v1606 k0_hw173 => k0_hw173.1
theorem k0_off353_inb : ∀ (v1606 : BitVec 32) (k0_hw173 : k0_chk173 v1606), ∀ a, (k0_off353 v1606) a + S8x128.size a ≤ S65552x128.size a := fun v1606 k0_hw173 => k0_hw173.2

def k0_off354 (v1610 : BitVec 32) : Fin 2 → Nat :=
  let v1611 : BitVec 32 := v1610
  let v1614 : Index := Scalar.indexCast v1611
  let c0_446 : Index := 0#32
  ![v1614.toNat, 0]

def k0_chk174 (v1610 : BitVec 32) : Prop :=
  (4 ∣ (k0_mult174 v1610).toNat) ∧
  (∀ a, (k0_off354 v1610) a + S8x128.size a ≤ S65552x128.size a)
theorem k0_mult174_dvd : ∀ (v1610 : BitVec 32) (k0_hw174 : k0_chk174 v1610), 4 ∣ (k0_mult174 v1610).toNat := fun v1610 k0_hw174 => k0_hw174.1
theorem k0_off354_inb : ∀ (v1610 : BitVec 32) (k0_hw174 : k0_chk174 v1610), ∀ a, (k0_off354 v1610) a + S8x128.size a ≤ S65552x128.size a := fun v1610 k0_hw174 => k0_hw174.2

def k0_off355 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1623 : Index := Scalar.indexCast v1206
  ![v1623.toNat]
def k0_mult175 (v1624 : BitVec 32) : BitVec 32 :=
  v1624

def k0_off356 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1627 : Index := Scalar.indexCast v1206
  ![v1627.toNat]
def k0_mult176 (v1628 : BitVec 32) : BitVec 32 :=
  v1628

def k0_off357 (v1624 : BitVec 32) : Fin 2 → Nat :=
  let v1625 : BitVec 32 := v1624
  let v1630 : Index := Scalar.indexCast v1625
  let c0_452 : Index := 0#32
  ![v1630.toNat, 0]

def k0_chk175 (v1624 : BitVec 32) : Prop :=
  (4 ∣ (k0_mult175 v1624).toNat) ∧
  (∀ a, (k0_off357 v1624) a + S8x128.size a ≤ S65552x128.size a)
theorem k0_mult175_dvd : ∀ (v1624 : BitVec 32) (k0_hw175 : k0_chk175 v1624), 4 ∣ (k0_mult175 v1624).toNat := fun v1624 k0_hw175 => k0_hw175.1
theorem k0_off357_inb : ∀ (v1624 : BitVec 32) (k0_hw175 : k0_chk175 v1624), ∀ a, (k0_off357 v1624) a + S8x128.size a ≤ S65552x128.size a := fun v1624 k0_hw175 => k0_hw175.2

def k0_off358 (v1628 : BitVec 32) : Fin 2 → Nat :=
  let v1629 : BitVec 32 := v1628
  let v1632 : Index := Scalar.indexCast v1629
  let c0_453 : Index := 0#32
  ![v1632.toNat, 0]

def k0_chk176 (v1628 : BitVec 32) : Prop :=
  (4 ∣ (k0_mult176 v1628).toNat) ∧
  (∀ a, (k0_off358 v1628) a + S8x128.size a ≤ S65552x128.size a)
theorem k0_mult176_dvd : ∀ (v1628 : BitVec 32) (k0_hw176 : k0_chk176 v1628), 4 ∣ (k0_mult176 v1628).toNat := fun v1628 k0_hw176 => k0_hw176.1
theorem k0_off358_inb : ∀ (v1628 : BitVec 32) (k0_hw176 : k0_chk176 v1628), ∀ a, (k0_off358 v1628) a + S8x128.size a ≤ S65552x128.size a := fun v1628 k0_hw176 => k0_hw176.2

def k0_off359 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1641 : Index := Scalar.indexCast v1206
  ![v1641.toNat]
def k0_mult177 (v1642 : BitVec 32) : BitVec 32 :=
  v1642

def k0_off360 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1645 : Index := Scalar.indexCast v1206
  ![v1645.toNat]
def k0_mult178 (v1646 : BitVec 32) : BitVec 32 :=
  v1646

def k0_off361 (v1642 : BitVec 32) : Fin 2 → Nat :=
  let v1643 : BitVec 32 := v1642
  let v1648 : Index := Scalar.indexCast v1643
  let c0_459 : Index := 0#32
  ![v1648.toNat, 0]

def k0_chk177 (v1642 : BitVec 32) : Prop :=
  (4 ∣ (k0_mult177 v1642).toNat) ∧
  (∀ a, (k0_off361 v1642) a + S8x128.size a ≤ S65552x128.size a)
theorem k0_mult177_dvd : ∀ (v1642 : BitVec 32) (k0_hw177 : k0_chk177 v1642), 4 ∣ (k0_mult177 v1642).toNat := fun v1642 k0_hw177 => k0_hw177.1
theorem k0_off361_inb : ∀ (v1642 : BitVec 32) (k0_hw177 : k0_chk177 v1642), ∀ a, (k0_off361 v1642) a + S8x128.size a ≤ S65552x128.size a := fun v1642 k0_hw177 => k0_hw177.2

def k0_off362 (v1646 : BitVec 32) : Fin 2 → Nat :=
  let v1647 : BitVec 32 := v1646
  let v1650 : Index := Scalar.indexCast v1647
  let c0_460 : Index := 0#32
  ![v1650.toNat, 0]

def k0_chk178 (v1646 : BitVec 32) : Prop :=
  (4 ∣ (k0_mult178 v1646).toNat) ∧
  (∀ a, (k0_off362 v1646) a + S8x128.size a ≤ S65552x128.size a)
theorem k0_mult178_dvd : ∀ (v1646 : BitVec 32) (k0_hw178 : k0_chk178 v1646), 4 ∣ (k0_mult178 v1646).toNat := fun v1646 k0_hw178 => k0_hw178.1
theorem k0_off362_inb : ∀ (v1646 : BitVec 32) (k0_hw178 : k0_chk178 v1646), ∀ a, (k0_off362 v1646) a + S8x128.size a ≤ S65552x128.size a := fun v1646 k0_hw178 => k0_hw178.2

def k0_off363 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1659 : Index := Scalar.indexCast v1206
  ![v1659.toNat]
def k0_mult179 (v1660 : BitVec 32) : BitVec 32 :=
  v1660

def k0_off364 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1663 : Index := Scalar.indexCast v1206
  ![v1663.toNat]
def k0_mult180 (v1664 : BitVec 32) : BitVec 32 :=
  v1664

def k0_off365 (v1660 : BitVec 32) : Fin 2 → Nat :=
  let v1661 : BitVec 32 := v1660
  let v1666 : Index := Scalar.indexCast v1661
  let c0_466 : Index := 0#32
  ![v1666.toNat, 0]

def k0_chk179 (v1660 : BitVec 32) : Prop :=
  (4 ∣ (k0_mult179 v1660).toNat) ∧
  (∀ a, (k0_off365 v1660) a + S8x128.size a ≤ S65552x128.size a)
theorem k0_mult179_dvd : ∀ (v1660 : BitVec 32) (k0_hw179 : k0_chk179 v1660), 4 ∣ (k0_mult179 v1660).toNat := fun v1660 k0_hw179 => k0_hw179.1
theorem k0_off365_inb : ∀ (v1660 : BitVec 32) (k0_hw179 : k0_chk179 v1660), ∀ a, (k0_off365 v1660) a + S8x128.size a ≤ S65552x128.size a := fun v1660 k0_hw179 => k0_hw179.2

def k0_off366 (v1664 : BitVec 32) : Fin 2 → Nat :=
  let v1665 : BitVec 32 := v1664
  let v1668 : Index := Scalar.indexCast v1665
  let c0_467 : Index := 0#32
  ![v1668.toNat, 0]

def k0_chk180 (v1664 : BitVec 32) : Prop :=
  (4 ∣ (k0_mult180 v1664).toNat) ∧
  (∀ a, (k0_off366 v1664) a + S8x128.size a ≤ S65552x128.size a)
theorem k0_mult180_dvd : ∀ (v1664 : BitVec 32) (k0_hw180 : k0_chk180 v1664), 4 ∣ (k0_mult180 v1664).toNat := fun v1664 k0_hw180 => k0_hw180.1
theorem k0_off366_inb : ∀ (v1664 : BitVec 32) (k0_hw180 : k0_chk180 v1664), ∀ a, (k0_off366 v1664) a + S8x128.size a ≤ S65552x128.size a := fun v1664 k0_hw180 => k0_hw180.2

def k0_off367 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1677 : Index := Scalar.indexCast v1206
  ![v1677.toNat]
def k0_mult181 (v1678 : BitVec 32) : BitVec 32 :=
  v1678

def k0_off368 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1681 : Index := Scalar.indexCast v1206
  ![v1681.toNat]
def k0_mult182 (v1682 : BitVec 32) : BitVec 32 :=
  v1682

def k0_off369 (v1678 : BitVec 32) : Fin 2 → Nat :=
  let v1679 : BitVec 32 := v1678
  let v1684 : Index := Scalar.indexCast v1679
  let c0_473 : Index := 0#32
  ![v1684.toNat, 0]

def k0_chk181 (v1678 : BitVec 32) : Prop :=
  (4 ∣ (k0_mult181 v1678).toNat) ∧
  (∀ a, (k0_off369 v1678) a + S8x128.size a ≤ S65552x128.size a)
theorem k0_mult181_dvd : ∀ (v1678 : BitVec 32) (k0_hw181 : k0_chk181 v1678), 4 ∣ (k0_mult181 v1678).toNat := fun v1678 k0_hw181 => k0_hw181.1
theorem k0_off369_inb : ∀ (v1678 : BitVec 32) (k0_hw181 : k0_chk181 v1678), ∀ a, (k0_off369 v1678) a + S8x128.size a ≤ S65552x128.size a := fun v1678 k0_hw181 => k0_hw181.2

def k0_off370 (v1682 : BitVec 32) : Fin 2 → Nat :=
  let v1683 : BitVec 32 := v1682
  let v1686 : Index := Scalar.indexCast v1683
  let c0_474 : Index := 0#32
  ![v1686.toNat, 0]

def k0_chk182 (v1682 : BitVec 32) : Prop :=
  (4 ∣ (k0_mult182 v1682).toNat) ∧
  (∀ a, (k0_off370 v1682) a + S8x128.size a ≤ S65552x128.size a)
theorem k0_mult182_dvd : ∀ (v1682 : BitVec 32) (k0_hw182 : k0_chk182 v1682), 4 ∣ (k0_mult182 v1682).toNat := fun v1682 k0_hw182 => k0_hw182.1
theorem k0_off370_inb : ∀ (v1682 : BitVec 32) (k0_hw182 : k0_chk182 v1682), ∀ a, (k0_off370 v1682) a + S8x128.size a ≤ S65552x128.size a := fun v1682 k0_hw182 => k0_hw182.2

def k0_off371 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1695 : Index := Scalar.indexCast v1206
  ![v1695.toNat]
def k0_mult183 (v1696 : BitVec 32) : BitVec 32 :=
  v1696

def k0_off372 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1699 : Index := Scalar.indexCast v1206
  ![v1699.toNat]
def k0_mult184 (v1700 : BitVec 32) : BitVec 32 :=
  v1700

def k0_off373 (v1696 : BitVec 32) : Fin 2 → Nat :=
  let v1697 : BitVec 32 := v1696
  let v1702 : Index := Scalar.indexCast v1697
  let c0_480 : Index := 0#32
  ![v1702.toNat, 0]

def k0_chk183 (v1696 : BitVec 32) : Prop :=
  (4 ∣ (k0_mult183 v1696).toNat) ∧
  (∀ a, (k0_off373 v1696) a + S8x128.size a ≤ S65552x128.size a)
theorem k0_mult183_dvd : ∀ (v1696 : BitVec 32) (k0_hw183 : k0_chk183 v1696), 4 ∣ (k0_mult183 v1696).toNat := fun v1696 k0_hw183 => k0_hw183.1
theorem k0_off373_inb : ∀ (v1696 : BitVec 32) (k0_hw183 : k0_chk183 v1696), ∀ a, (k0_off373 v1696) a + S8x128.size a ≤ S65552x128.size a := fun v1696 k0_hw183 => k0_hw183.2

def k0_off374 (v1700 : BitVec 32) : Fin 2 → Nat :=
  let v1701 : BitVec 32 := v1700
  let v1704 : Index := Scalar.indexCast v1701
  let c0_481 : Index := 0#32
  ![v1704.toNat, 0]

def k0_chk184 (v1700 : BitVec 32) : Prop :=
  (4 ∣ (k0_mult184 v1700).toNat) ∧
  (∀ a, (k0_off374 v1700) a + S8x128.size a ≤ S65552x128.size a)
theorem k0_mult184_dvd : ∀ (v1700 : BitVec 32) (k0_hw184 : k0_chk184 v1700), 4 ∣ (k0_mult184 v1700).toNat := fun v1700 k0_hw184 => k0_hw184.1
theorem k0_off374_inb : ∀ (v1700 : BitVec 32) (k0_hw184 : k0_chk184 v1700), ∀ a, (k0_off374 v1700) a + S8x128.size a ≤ S65552x128.size a := fun v1700 k0_hw184 => k0_hw184.2

def k0_off375 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1713 : Index := Scalar.indexCast v1206
  ![v1713.toNat]
def k0_mult185 (v1714 : BitVec 32) : BitVec 32 :=
  v1714

def k0_off376 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1717 : Index := Scalar.indexCast v1206
  ![v1717.toNat]
def k0_mult186 (v1718 : BitVec 32) : BitVec 32 :=
  v1718

def k0_off377 (v1714 : BitVec 32) : Fin 2 → Nat :=
  let v1715 : BitVec 32 := v1714
  let v1720 : Index := Scalar.indexCast v1715
  let c0_487 : Index := 0#32
  ![v1720.toNat, 0]

def k0_chk185 (v1714 : BitVec 32) : Prop :=
  (4 ∣ (k0_mult185 v1714).toNat) ∧
  (∀ a, (k0_off377 v1714) a + S8x128.size a ≤ S65552x128.size a)
theorem k0_mult185_dvd : ∀ (v1714 : BitVec 32) (k0_hw185 : k0_chk185 v1714), 4 ∣ (k0_mult185 v1714).toNat := fun v1714 k0_hw185 => k0_hw185.1
theorem k0_off377_inb : ∀ (v1714 : BitVec 32) (k0_hw185 : k0_chk185 v1714), ∀ a, (k0_off377 v1714) a + S8x128.size a ≤ S65552x128.size a := fun v1714 k0_hw185 => k0_hw185.2

def k0_off378 (v1718 : BitVec 32) : Fin 2 → Nat :=
  let v1719 : BitVec 32 := v1718
  let v1722 : Index := Scalar.indexCast v1719
  let c0_488 : Index := 0#32
  ![v1722.toNat, 0]

def k0_chk186 (v1718 : BitVec 32) : Prop :=
  (4 ∣ (k0_mult186 v1718).toNat) ∧
  (∀ a, (k0_off378 v1718) a + S8x128.size a ≤ S65552x128.size a)
theorem k0_mult186_dvd : ∀ (v1718 : BitVec 32) (k0_hw186 : k0_chk186 v1718), 4 ∣ (k0_mult186 v1718).toNat := fun v1718 k0_hw186 => k0_hw186.1
theorem k0_off378_inb : ∀ (v1718 : BitVec 32) (k0_hw186 : k0_chk186 v1718), ∀ a, (k0_off378 v1718) a + S8x128.size a ≤ S65552x128.size a := fun v1718 k0_hw186 => k0_hw186.2

def k0_off379 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1731 : Index := Scalar.indexCast v1206
  ![v1731.toNat]
def k0_mult187 (v1732 : BitVec 32) : BitVec 32 :=
  v1732

def k0_off380 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1735 : Index := Scalar.indexCast v1206
  ![v1735.toNat]
def k0_mult188 (v1736 : BitVec 32) : BitVec 32 :=
  v1736

def k0_off381 (v1732 : BitVec 32) : Fin 2 → Nat :=
  let v1733 : BitVec 32 := v1732
  let v1738 : Index := Scalar.indexCast v1733
  let c0_494 : Index := 0#32
  ![v1738.toNat, 0]

def k0_chk187 (v1732 : BitVec 32) : Prop :=
  (4 ∣ (k0_mult187 v1732).toNat) ∧
  (∀ a, (k0_off381 v1732) a + S8x128.size a ≤ S65552x128.size a)
theorem k0_mult187_dvd : ∀ (v1732 : BitVec 32) (k0_hw187 : k0_chk187 v1732), 4 ∣ (k0_mult187 v1732).toNat := fun v1732 k0_hw187 => k0_hw187.1
theorem k0_off381_inb : ∀ (v1732 : BitVec 32) (k0_hw187 : k0_chk187 v1732), ∀ a, (k0_off381 v1732) a + S8x128.size a ≤ S65552x128.size a := fun v1732 k0_hw187 => k0_hw187.2

def k0_off382 (v1736 : BitVec 32) : Fin 2 → Nat :=
  let v1737 : BitVec 32 := v1736
  let v1740 : Index := Scalar.indexCast v1737
  let c0_495 : Index := 0#32
  ![v1740.toNat, 0]

def k0_chk188 (v1736 : BitVec 32) : Prop :=
  (4 ∣ (k0_mult188 v1736).toNat) ∧
  (∀ a, (k0_off382 v1736) a + S8x128.size a ≤ S65552x128.size a)
theorem k0_mult188_dvd : ∀ (v1736 : BitVec 32) (k0_hw188 : k0_chk188 v1736), 4 ∣ (k0_mult188 v1736).toNat := fun v1736 k0_hw188 => k0_hw188.1
theorem k0_off382_inb : ∀ (v1736 : BitVec 32) (k0_hw188 : k0_chk188 v1736), ∀ a, (k0_off382 v1736) a + S8x128.size a ≤ S65552x128.size a := fun v1736 k0_hw188 => k0_hw188.2

def k0_off383 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1749 : Index := Scalar.indexCast v1206
  ![v1749.toNat]
def k0_mult189 (v1750 : BitVec 32) : BitVec 32 :=
  v1750

def k0_off384 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1753 : Index := Scalar.indexCast v1206
  ![v1753.toNat]
def k0_mult190 (v1754 : BitVec 32) : BitVec 32 :=
  v1754

def k0_off385 (v1750 : BitVec 32) : Fin 2 → Nat :=
  let v1751 : BitVec 32 := v1750
  let v1756 : Index := Scalar.indexCast v1751
  let c0_501 : Index := 0#32
  ![v1756.toNat, 0]

def k0_chk189 (v1750 : BitVec 32) : Prop :=
  (4 ∣ (k0_mult189 v1750).toNat) ∧
  (∀ a, (k0_off385 v1750) a + S8x128.size a ≤ S65552x128.size a)
theorem k0_mult189_dvd : ∀ (v1750 : BitVec 32) (k0_hw189 : k0_chk189 v1750), 4 ∣ (k0_mult189 v1750).toNat := fun v1750 k0_hw189 => k0_hw189.1
theorem k0_off385_inb : ∀ (v1750 : BitVec 32) (k0_hw189 : k0_chk189 v1750), ∀ a, (k0_off385 v1750) a + S8x128.size a ≤ S65552x128.size a := fun v1750 k0_hw189 => k0_hw189.2

def k0_off386 (v1754 : BitVec 32) : Fin 2 → Nat :=
  let v1755 : BitVec 32 := v1754
  let v1758 : Index := Scalar.indexCast v1755
  let c0_502 : Index := 0#32
  ![v1758.toNat, 0]

def k0_chk190 (v1754 : BitVec 32) : Prop :=
  (4 ∣ (k0_mult190 v1754).toNat) ∧
  (∀ a, (k0_off386 v1754) a + S8x128.size a ≤ S65552x128.size a)
theorem k0_mult190_dvd : ∀ (v1754 : BitVec 32) (k0_hw190 : k0_chk190 v1754), 4 ∣ (k0_mult190 v1754).toNat := fun v1754 k0_hw190 => k0_hw190.1
theorem k0_off386_inb : ∀ (v1754 : BitVec 32) (k0_hw190 : k0_chk190 v1754), ∀ a, (k0_off386 v1754) a + S8x128.size a ≤ S65552x128.size a := fun v1754 k0_hw190 => k0_hw190.2

def k0_off387 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1767 : Index := Scalar.indexCast v1206
  ![v1767.toNat]
def k0_mult191 (v1768 : BitVec 32) : BitVec 32 :=
  v1768

def k0_off388 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1771 : Index := Scalar.indexCast v1206
  ![v1771.toNat]
def k0_mult192 (v1772 : BitVec 32) : BitVec 32 :=
  v1772

def k0_off389 (v1768 : BitVec 32) : Fin 2 → Nat :=
  let v1769 : BitVec 32 := v1768
  let v1774 : Index := Scalar.indexCast v1769
  let c0_508 : Index := 0#32
  ![v1774.toNat, 0]

def k0_chk191 (v1768 : BitVec 32) : Prop :=
  (4 ∣ (k0_mult191 v1768).toNat) ∧
  (∀ a, (k0_off389 v1768) a + S8x128.size a ≤ S65552x128.size a)
theorem k0_mult191_dvd : ∀ (v1768 : BitVec 32) (k0_hw191 : k0_chk191 v1768), 4 ∣ (k0_mult191 v1768).toNat := fun v1768 k0_hw191 => k0_hw191.1
theorem k0_off389_inb : ∀ (v1768 : BitVec 32) (k0_hw191 : k0_chk191 v1768), ∀ a, (k0_off389 v1768) a + S8x128.size a ≤ S65552x128.size a := fun v1768 k0_hw191 => k0_hw191.2

def k0_off390 (v1772 : BitVec 32) : Fin 2 → Nat :=
  let v1773 : BitVec 32 := v1772
  let v1776 : Index := Scalar.indexCast v1773
  let c0_509 : Index := 0#32
  ![v1776.toNat, 0]

def k0_chk192 (v1772 : BitVec 32) : Prop :=
  (4 ∣ (k0_mult192 v1772).toNat) ∧
  (∀ a, (k0_off390 v1772) a + S8x128.size a ≤ S65552x128.size a)
theorem k0_mult192_dvd : ∀ (v1772 : BitVec 32) (k0_hw192 : k0_chk192 v1772), 4 ∣ (k0_mult192 v1772).toNat := fun v1772 k0_hw192 => k0_hw192.1
theorem k0_off390_inb : ∀ (v1772 : BitVec 32) (k0_hw192 : k0_chk192 v1772), ∀ a, (k0_off390 v1772) a + S8x128.size a ≤ S65552x128.size a := fun v1772 k0_hw192 => k0_hw192.2

def k0_off391 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1785 : Index := Scalar.indexCast v1206
  ![v1785.toNat]
def k0_mult193 (v1786 : BitVec 32) : BitVec 32 :=
  v1786

def k0_off392 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1789 : Index := Scalar.indexCast v1206
  ![v1789.toNat]
def k0_mult194 (v1790 : BitVec 32) : BitVec 32 :=
  v1790

def k0_off393 (v1786 : BitVec 32) : Fin 2 → Nat :=
  let v1787 : BitVec 32 := v1786
  let v1792 : Index := Scalar.indexCast v1787
  let c0_515 : Index := 0#32
  ![v1792.toNat, 0]

def k0_chk193 (v1786 : BitVec 32) : Prop :=
  (4 ∣ (k0_mult193 v1786).toNat) ∧
  (∀ a, (k0_off393 v1786) a + S8x128.size a ≤ S65552x128.size a)
theorem k0_mult193_dvd : ∀ (v1786 : BitVec 32) (k0_hw193 : k0_chk193 v1786), 4 ∣ (k0_mult193 v1786).toNat := fun v1786 k0_hw193 => k0_hw193.1
theorem k0_off393_inb : ∀ (v1786 : BitVec 32) (k0_hw193 : k0_chk193 v1786), ∀ a, (k0_off393 v1786) a + S8x128.size a ≤ S65552x128.size a := fun v1786 k0_hw193 => k0_hw193.2

def k0_off394 (v1790 : BitVec 32) : Fin 2 → Nat :=
  let v1791 : BitVec 32 := v1790
  let v1794 : Index := Scalar.indexCast v1791
  let c0_516 : Index := 0#32
  ![v1794.toNat, 0]

def k0_chk194 (v1790 : BitVec 32) : Prop :=
  (4 ∣ (k0_mult194 v1790).toNat) ∧
  (∀ a, (k0_off394 v1790) a + S8x128.size a ≤ S65552x128.size a)
theorem k0_mult194_dvd : ∀ (v1790 : BitVec 32) (k0_hw194 : k0_chk194 v1790), 4 ∣ (k0_mult194 v1790).toNat := fun v1790 k0_hw194 => k0_hw194.1
theorem k0_off394_inb : ∀ (v1790 : BitVec 32) (k0_hw194 : k0_chk194 v1790), ∀ a, (k0_off394 v1790) a + S8x128.size a ≤ S65552x128.size a := fun v1790 k0_hw194 => k0_hw194.2

def k0_off395 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1803 : Index := Scalar.indexCast v1206
  ![v1803.toNat]
def k0_mult195 (v1804 : BitVec 32) : BitVec 32 :=
  v1804

def k0_off396 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1807 : Index := Scalar.indexCast v1206
  ![v1807.toNat]
def k0_mult196 (v1808 : BitVec 32) : BitVec 32 :=
  v1808

def k0_off397 (v1804 : BitVec 32) : Fin 2 → Nat :=
  let v1805 : BitVec 32 := v1804
  let v1810 : Index := Scalar.indexCast v1805
  let c0_522 : Index := 0#32
  ![v1810.toNat, 0]

def k0_chk195 (v1804 : BitVec 32) : Prop :=
  (4 ∣ (k0_mult195 v1804).toNat) ∧
  (∀ a, (k0_off397 v1804) a + S8x128.size a ≤ S65552x128.size a)
theorem k0_mult195_dvd : ∀ (v1804 : BitVec 32) (k0_hw195 : k0_chk195 v1804), 4 ∣ (k0_mult195 v1804).toNat := fun v1804 k0_hw195 => k0_hw195.1
theorem k0_off397_inb : ∀ (v1804 : BitVec 32) (k0_hw195 : k0_chk195 v1804), ∀ a, (k0_off397 v1804) a + S8x128.size a ≤ S65552x128.size a := fun v1804 k0_hw195 => k0_hw195.2

def k0_off398 (v1808 : BitVec 32) : Fin 2 → Nat :=
  let v1809 : BitVec 32 := v1808
  let v1812 : Index := Scalar.indexCast v1809
  let c0_523 : Index := 0#32
  ![v1812.toNat, 0]

def k0_chk196 (v1808 : BitVec 32) : Prop :=
  (4 ∣ (k0_mult196 v1808).toNat) ∧
  (∀ a, (k0_off398 v1808) a + S8x128.size a ≤ S65552x128.size a)
theorem k0_mult196_dvd : ∀ (v1808 : BitVec 32) (k0_hw196 : k0_chk196 v1808), 4 ∣ (k0_mult196 v1808).toNat := fun v1808 k0_hw196 => k0_hw196.1
theorem k0_off398_inb : ∀ (v1808 : BitVec 32) (k0_hw196 : k0_chk196 v1808), ∀ a, (k0_off398 v1808) a + S8x128.size a ≤ S65552x128.size a := fun v1808 k0_hw196 => k0_hw196.2

def k0_off399 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1821 : Index := Scalar.indexCast v1206
  ![v1821.toNat]
def k0_mult197 (v1822 : BitVec 32) : BitVec 32 :=
  v1822

def k0_off400 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1825 : Index := Scalar.indexCast v1206
  ![v1825.toNat]
def k0_mult198 (v1826 : BitVec 32) : BitVec 32 :=
  v1826

def k0_off401 (v1822 : BitVec 32) : Fin 2 → Nat :=
  let v1823 : BitVec 32 := v1822
  let v1828 : Index := Scalar.indexCast v1823
  let c0_529 : Index := 0#32
  ![v1828.toNat, 0]

def k0_chk197 (v1822 : BitVec 32) : Prop :=
  (4 ∣ (k0_mult197 v1822).toNat) ∧
  (∀ a, (k0_off401 v1822) a + S8x128.size a ≤ S65552x128.size a)
theorem k0_mult197_dvd : ∀ (v1822 : BitVec 32) (k0_hw197 : k0_chk197 v1822), 4 ∣ (k0_mult197 v1822).toNat := fun v1822 k0_hw197 => k0_hw197.1
theorem k0_off401_inb : ∀ (v1822 : BitVec 32) (k0_hw197 : k0_chk197 v1822), ∀ a, (k0_off401 v1822) a + S8x128.size a ≤ S65552x128.size a := fun v1822 k0_hw197 => k0_hw197.2

def k0_off402 (v1826 : BitVec 32) : Fin 2 → Nat :=
  let v1827 : BitVec 32 := v1826
  let v1830 : Index := Scalar.indexCast v1827
  let c0_530 : Index := 0#32
  ![v1830.toNat, 0]

def k0_chk198 (v1826 : BitVec 32) : Prop :=
  (4 ∣ (k0_mult198 v1826).toNat) ∧
  (∀ a, (k0_off402 v1826) a + S8x128.size a ≤ S65552x128.size a)
theorem k0_mult198_dvd : ∀ (v1826 : BitVec 32) (k0_hw198 : k0_chk198 v1826), 4 ∣ (k0_mult198 v1826).toNat := fun v1826 k0_hw198 => k0_hw198.1
theorem k0_off402_inb : ∀ (v1826 : BitVec 32) (k0_hw198 : k0_chk198 v1826), ∀ a, (k0_off402 v1826) a + S8x128.size a ≤ S65552x128.size a := fun v1826 k0_hw198 => k0_hw198.2

def k0_off403 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1839 : Index := Scalar.indexCast v1206
  ![v1839.toNat]
def k0_mult199 (v1840 : BitVec 32) : BitVec 32 :=
  v1840

def k0_off404 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1843 : Index := Scalar.indexCast v1206
  ![v1843.toNat]
def k0_mult200 (v1844 : BitVec 32) : BitVec 32 :=
  v1844

def k0_off405 (v1840 : BitVec 32) : Fin 2 → Nat :=
  let v1841 : BitVec 32 := v1840
  let v1846 : Index := Scalar.indexCast v1841
  let c0_536 : Index := 0#32
  ![v1846.toNat, 0]

def k0_chk199 (v1840 : BitVec 32) : Prop :=
  (4 ∣ (k0_mult199 v1840).toNat) ∧
  (∀ a, (k0_off405 v1840) a + S8x128.size a ≤ S65552x128.size a)
theorem k0_mult199_dvd : ∀ (v1840 : BitVec 32) (k0_hw199 : k0_chk199 v1840), 4 ∣ (k0_mult199 v1840).toNat := fun v1840 k0_hw199 => k0_hw199.1
theorem k0_off405_inb : ∀ (v1840 : BitVec 32) (k0_hw199 : k0_chk199 v1840), ∀ a, (k0_off405 v1840) a + S8x128.size a ≤ S65552x128.size a := fun v1840 k0_hw199 => k0_hw199.2

def k0_off406 (v1844 : BitVec 32) : Fin 2 → Nat :=
  let v1845 : BitVec 32 := v1844
  let v1848 : Index := Scalar.indexCast v1845
  let c0_537 : Index := 0#32
  ![v1848.toNat, 0]

def k0_chk200 (v1844 : BitVec 32) : Prop :=
  (4 ∣ (k0_mult200 v1844).toNat) ∧
  (∀ a, (k0_off406 v1844) a + S8x128.size a ≤ S65552x128.size a)
theorem k0_mult200_dvd : ∀ (v1844 : BitVec 32) (k0_hw200 : k0_chk200 v1844), 4 ∣ (k0_mult200 v1844).toNat := fun v1844 k0_hw200 => k0_hw200.1
theorem k0_off406_inb : ∀ (v1844 : BitVec 32) (k0_hw200 : k0_chk200 v1844), ∀ a, (k0_off406 v1844) a + S8x128.size a ≤ S65552x128.size a := fun v1844 k0_hw200 => k0_hw200.2

def k0_off407 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1857 : Index := Scalar.indexCast v1206
  ![v1857.toNat]
def k0_mult201 (v1858 : BitVec 32) : BitVec 32 :=
  v1858

def k0_off408 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1861 : Index := Scalar.indexCast v1206
  ![v1861.toNat]
def k0_mult202 (v1862 : BitVec 32) : BitVec 32 :=
  v1862

def k0_off409 (v1858 : BitVec 32) : Fin 2 → Nat :=
  let v1859 : BitVec 32 := v1858
  let v1864 : Index := Scalar.indexCast v1859
  let c0_543 : Index := 0#32
  ![v1864.toNat, 0]

def k0_chk201 (v1858 : BitVec 32) : Prop :=
  (4 ∣ (k0_mult201 v1858).toNat) ∧
  (∀ a, (k0_off409 v1858) a + S8x128.size a ≤ S65552x128.size a)
theorem k0_mult201_dvd : ∀ (v1858 : BitVec 32) (k0_hw201 : k0_chk201 v1858), 4 ∣ (k0_mult201 v1858).toNat := fun v1858 k0_hw201 => k0_hw201.1
theorem k0_off409_inb : ∀ (v1858 : BitVec 32) (k0_hw201 : k0_chk201 v1858), ∀ a, (k0_off409 v1858) a + S8x128.size a ≤ S65552x128.size a := fun v1858 k0_hw201 => k0_hw201.2

def k0_off410 (v1862 : BitVec 32) : Fin 2 → Nat :=
  let v1863 : BitVec 32 := v1862
  let v1866 : Index := Scalar.indexCast v1863
  let c0_544 : Index := 0#32
  ![v1866.toNat, 0]

def k0_chk202 (v1862 : BitVec 32) : Prop :=
  (4 ∣ (k0_mult202 v1862).toNat) ∧
  (∀ a, (k0_off410 v1862) a + S8x128.size a ≤ S65552x128.size a)
theorem k0_mult202_dvd : ∀ (v1862 : BitVec 32) (k0_hw202 : k0_chk202 v1862), 4 ∣ (k0_mult202 v1862).toNat := fun v1862 k0_hw202 => k0_hw202.1
theorem k0_off410_inb : ∀ (v1862 : BitVec 32) (k0_hw202 : k0_chk202 v1862), ∀ a, (k0_off410 v1862) a + S8x128.size a ≤ S65552x128.size a := fun v1862 k0_hw202 => k0_hw202.2

def k0_off411 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1875 : Index := Scalar.indexCast v1206
  ![v1875.toNat]
def k0_mult203 (v1876 : BitVec 32) : BitVec 32 :=
  v1876

def k0_off412 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1879 : Index := Scalar.indexCast v1206
  ![v1879.toNat]
def k0_mult204 (v1880 : BitVec 32) : BitVec 32 :=
  v1880

def k0_off413 (v1876 : BitVec 32) : Fin 2 → Nat :=
  let v1877 : BitVec 32 := v1876
  let v1882 : Index := Scalar.indexCast v1877
  let c0_550 : Index := 0#32
  ![v1882.toNat, 0]

def k0_chk203 (v1876 : BitVec 32) : Prop :=
  (4 ∣ (k0_mult203 v1876).toNat) ∧
  (∀ a, (k0_off413 v1876) a + S8x128.size a ≤ S65552x128.size a)
theorem k0_mult203_dvd : ∀ (v1876 : BitVec 32) (k0_hw203 : k0_chk203 v1876), 4 ∣ (k0_mult203 v1876).toNat := fun v1876 k0_hw203 => k0_hw203.1
theorem k0_off413_inb : ∀ (v1876 : BitVec 32) (k0_hw203 : k0_chk203 v1876), ∀ a, (k0_off413 v1876) a + S8x128.size a ≤ S65552x128.size a := fun v1876 k0_hw203 => k0_hw203.2

def k0_off414 (v1880 : BitVec 32) : Fin 2 → Nat :=
  let v1881 : BitVec 32 := v1880
  let v1884 : Index := Scalar.indexCast v1881
  let c0_551 : Index := 0#32
  ![v1884.toNat, 0]

def k0_chk204 (v1880 : BitVec 32) : Prop :=
  (4 ∣ (k0_mult204 v1880).toNat) ∧
  (∀ a, (k0_off414 v1880) a + S8x128.size a ≤ S65552x128.size a)
theorem k0_mult204_dvd : ∀ (v1880 : BitVec 32) (k0_hw204 : k0_chk204 v1880), 4 ∣ (k0_mult204 v1880).toNat := fun v1880 k0_hw204 => k0_hw204.1
theorem k0_off414_inb : ∀ (v1880 : BitVec 32) (k0_hw204 : k0_chk204 v1880), ∀ a, (k0_off414 v1880) a + S8x128.size a ≤ S65552x128.size a := fun v1880 k0_hw204 => k0_hw204.2

def k0_off415 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1893 : Index := Scalar.indexCast v1206
  ![v1893.toNat]
def k0_mult205 (v1894 : BitVec 32) : BitVec 32 :=
  v1894

def k0_off416 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1897 : Index := Scalar.indexCast v1206
  ![v1897.toNat]
def k0_mult206 (v1898 : BitVec 32) : BitVec 32 :=
  v1898

def k0_off417 (v1894 : BitVec 32) : Fin 2 → Nat :=
  let v1895 : BitVec 32 := v1894
  let v1900 : Index := Scalar.indexCast v1895
  let c0_557 : Index := 0#32
  ![v1900.toNat, 0]

def k0_chk205 (v1894 : BitVec 32) : Prop :=
  (4 ∣ (k0_mult205 v1894).toNat) ∧
  (∀ a, (k0_off417 v1894) a + S8x128.size a ≤ S65552x128.size a)
theorem k0_mult205_dvd : ∀ (v1894 : BitVec 32) (k0_hw205 : k0_chk205 v1894), 4 ∣ (k0_mult205 v1894).toNat := fun v1894 k0_hw205 => k0_hw205.1
theorem k0_off417_inb : ∀ (v1894 : BitVec 32) (k0_hw205 : k0_chk205 v1894), ∀ a, (k0_off417 v1894) a + S8x128.size a ≤ S65552x128.size a := fun v1894 k0_hw205 => k0_hw205.2

def k0_off418 (v1898 : BitVec 32) : Fin 2 → Nat :=
  let v1899 : BitVec 32 := v1898
  let v1902 : Index := Scalar.indexCast v1899
  let c0_558 : Index := 0#32
  ![v1902.toNat, 0]

def k0_chk206 (v1898 : BitVec 32) : Prop :=
  (4 ∣ (k0_mult206 v1898).toNat) ∧
  (∀ a, (k0_off418 v1898) a + S8x128.size a ≤ S65552x128.size a)
theorem k0_mult206_dvd : ∀ (v1898 : BitVec 32) (k0_hw206 : k0_chk206 v1898), 4 ∣ (k0_mult206 v1898).toNat := fun v1898 k0_hw206 => k0_hw206.1
theorem k0_off418_inb : ∀ (v1898 : BitVec 32) (k0_hw206 : k0_chk206 v1898), ∀ a, (k0_off418 v1898) a + S8x128.size a ≤ S65552x128.size a := fun v1898 k0_hw206 => k0_hw206.2

def k0_off419 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1911 : Index := Scalar.indexCast v1206
  ![v1911.toNat]
def k0_mult207 (v1912 : BitVec 32) : BitVec 32 :=
  v1912

def k0_off420 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1915 : Index := Scalar.indexCast v1206
  ![v1915.toNat]
def k0_mult208 (v1916 : BitVec 32) : BitVec 32 :=
  v1916

def k0_off421 (v1912 : BitVec 32) : Fin 2 → Nat :=
  let v1913 : BitVec 32 := v1912
  let v1918 : Index := Scalar.indexCast v1913
  let c0_564 : Index := 0#32
  ![v1918.toNat, 0]

def k0_chk207 (v1912 : BitVec 32) : Prop :=
  (4 ∣ (k0_mult207 v1912).toNat) ∧
  (∀ a, (k0_off421 v1912) a + S8x128.size a ≤ S65552x128.size a)
theorem k0_mult207_dvd : ∀ (v1912 : BitVec 32) (k0_hw207 : k0_chk207 v1912), 4 ∣ (k0_mult207 v1912).toNat := fun v1912 k0_hw207 => k0_hw207.1
theorem k0_off421_inb : ∀ (v1912 : BitVec 32) (k0_hw207 : k0_chk207 v1912), ∀ a, (k0_off421 v1912) a + S8x128.size a ≤ S65552x128.size a := fun v1912 k0_hw207 => k0_hw207.2

def k0_off422 (v1916 : BitVec 32) : Fin 2 → Nat :=
  let v1917 : BitVec 32 := v1916
  let v1920 : Index := Scalar.indexCast v1917
  let c0_565 : Index := 0#32
  ![v1920.toNat, 0]

def k0_chk208 (v1916 : BitVec 32) : Prop :=
  (4 ∣ (k0_mult208 v1916).toNat) ∧
  (∀ a, (k0_off422 v1916) a + S8x128.size a ≤ S65552x128.size a)
theorem k0_mult208_dvd : ∀ (v1916 : BitVec 32) (k0_hw208 : k0_chk208 v1916), 4 ∣ (k0_mult208 v1916).toNat := fun v1916 k0_hw208 => k0_hw208.1
theorem k0_off422_inb : ∀ (v1916 : BitVec 32) (k0_hw208 : k0_chk208 v1916), ∀ a, (k0_off422 v1916) a + S8x128.size a ≤ S65552x128.size a := fun v1916 k0_hw208 => k0_hw208.2

def k0_off423 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1929 : Index := Scalar.indexCast v1206
  ![v1929.toNat]
def k0_mult209 (v1930 : BitVec 32) : BitVec 32 :=
  v1930

def k0_off424 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1933 : Index := Scalar.indexCast v1206
  ![v1933.toNat]
def k0_mult210 (v1934 : BitVec 32) : BitVec 32 :=
  v1934

def k0_off425 (v1930 : BitVec 32) : Fin 2 → Nat :=
  let v1931 : BitVec 32 := v1930
  let v1936 : Index := Scalar.indexCast v1931
  let c0_571 : Index := 0#32
  ![v1936.toNat, 0]

def k0_chk209 (v1930 : BitVec 32) : Prop :=
  (4 ∣ (k0_mult209 v1930).toNat) ∧
  (∀ a, (k0_off425 v1930) a + S8x128.size a ≤ S65552x128.size a)
theorem k0_mult209_dvd : ∀ (v1930 : BitVec 32) (k0_hw209 : k0_chk209 v1930), 4 ∣ (k0_mult209 v1930).toNat := fun v1930 k0_hw209 => k0_hw209.1
theorem k0_off425_inb : ∀ (v1930 : BitVec 32) (k0_hw209 : k0_chk209 v1930), ∀ a, (k0_off425 v1930) a + S8x128.size a ≤ S65552x128.size a := fun v1930 k0_hw209 => k0_hw209.2

def k0_off426 (v1934 : BitVec 32) : Fin 2 → Nat :=
  let v1935 : BitVec 32 := v1934
  let v1938 : Index := Scalar.indexCast v1935
  let c0_572 : Index := 0#32
  ![v1938.toNat, 0]

def k0_chk210 (v1934 : BitVec 32) : Prop :=
  (4 ∣ (k0_mult210 v1934).toNat) ∧
  (∀ a, (k0_off426 v1934) a + S8x128.size a ≤ S65552x128.size a)
theorem k0_mult210_dvd : ∀ (v1934 : BitVec 32) (k0_hw210 : k0_chk210 v1934), 4 ∣ (k0_mult210 v1934).toNat := fun v1934 k0_hw210 => k0_hw210.1
theorem k0_off426_inb : ∀ (v1934 : BitVec 32) (k0_hw210 : k0_chk210 v1934), ∀ a, (k0_off426 v1934) a + S8x128.size a ≤ S65552x128.size a := fun v1934 k0_hw210 => k0_hw210.2

def k0_off427 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1947 : Index := Scalar.indexCast v1206
  ![v1947.toNat]
def k0_mult211 (v1948 : BitVec 32) : BitVec 32 :=
  v1948

def k0_off428 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1951 : Index := Scalar.indexCast v1206
  ![v1951.toNat]
def k0_mult212 (v1952 : BitVec 32) : BitVec 32 :=
  v1952

def k0_off429 (v1948 : BitVec 32) : Fin 2 → Nat :=
  let v1949 : BitVec 32 := v1948
  let v1954 : Index := Scalar.indexCast v1949
  let c0_578 : Index := 0#32
  ![v1954.toNat, 0]

def k0_chk211 (v1948 : BitVec 32) : Prop :=
  (4 ∣ (k0_mult211 v1948).toNat) ∧
  (∀ a, (k0_off429 v1948) a + S8x128.size a ≤ S65552x128.size a)
theorem k0_mult211_dvd : ∀ (v1948 : BitVec 32) (k0_hw211 : k0_chk211 v1948), 4 ∣ (k0_mult211 v1948).toNat := fun v1948 k0_hw211 => k0_hw211.1
theorem k0_off429_inb : ∀ (v1948 : BitVec 32) (k0_hw211 : k0_chk211 v1948), ∀ a, (k0_off429 v1948) a + S8x128.size a ≤ S65552x128.size a := fun v1948 k0_hw211 => k0_hw211.2

def k0_off430 (v1952 : BitVec 32) : Fin 2 → Nat :=
  let v1953 : BitVec 32 := v1952
  let v1956 : Index := Scalar.indexCast v1953
  let c0_579 : Index := 0#32
  ![v1956.toNat, 0]

def k0_chk212 (v1952 : BitVec 32) : Prop :=
  (4 ∣ (k0_mult212 v1952).toNat) ∧
  (∀ a, (k0_off430 v1952) a + S8x128.size a ≤ S65552x128.size a)
theorem k0_mult212_dvd : ∀ (v1952 : BitVec 32) (k0_hw212 : k0_chk212 v1952), 4 ∣ (k0_mult212 v1952).toNat := fun v1952 k0_hw212 => k0_hw212.1
theorem k0_off430_inb : ∀ (v1952 : BitVec 32) (k0_hw212 : k0_chk212 v1952), ∀ a, (k0_off430 v1952) a + S8x128.size a ≤ S65552x128.size a := fun v1952 k0_hw212 => k0_hw212.2

def k0_off431 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1965 : Index := Scalar.indexCast v1206
  ![v1965.toNat]
def k0_mult213 (v1966 : BitVec 32) : BitVec 32 :=
  v1966

def k0_off432 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1969 : Index := Scalar.indexCast v1206
  ![v1969.toNat]
def k0_mult214 (v1970 : BitVec 32) : BitVec 32 :=
  v1970

def k0_off433 (v1966 : BitVec 32) : Fin 2 → Nat :=
  let v1967 : BitVec 32 := v1966
  let v1972 : Index := Scalar.indexCast v1967
  let c0_585 : Index := 0#32
  ![v1972.toNat, 0]

def k0_chk213 (v1966 : BitVec 32) : Prop :=
  (4 ∣ (k0_mult213 v1966).toNat) ∧
  (∀ a, (k0_off433 v1966) a + S8x128.size a ≤ S65552x128.size a)
theorem k0_mult213_dvd : ∀ (v1966 : BitVec 32) (k0_hw213 : k0_chk213 v1966), 4 ∣ (k0_mult213 v1966).toNat := fun v1966 k0_hw213 => k0_hw213.1
theorem k0_off433_inb : ∀ (v1966 : BitVec 32) (k0_hw213 : k0_chk213 v1966), ∀ a, (k0_off433 v1966) a + S8x128.size a ≤ S65552x128.size a := fun v1966 k0_hw213 => k0_hw213.2

def k0_off434 (v1970 : BitVec 32) : Fin 2 → Nat :=
  let v1971 : BitVec 32 := v1970
  let v1974 : Index := Scalar.indexCast v1971
  let c0_586 : Index := 0#32
  ![v1974.toNat, 0]

def k0_chk214 (v1970 : BitVec 32) : Prop :=
  (4 ∣ (k0_mult214 v1970).toNat) ∧
  (∀ a, (k0_off434 v1970) a + S8x128.size a ≤ S65552x128.size a)
theorem k0_mult214_dvd : ∀ (v1970 : BitVec 32) (k0_hw214 : k0_chk214 v1970), 4 ∣ (k0_mult214 v1970).toNat := fun v1970 k0_hw214 => k0_hw214.1
theorem k0_off434_inb : ∀ (v1970 : BitVec 32) (k0_hw214 : k0_chk214 v1970), ∀ a, (k0_off434 v1970) a + S8x128.size a ≤ S65552x128.size a := fun v1970 k0_hw214 => k0_hw214.2

def k0_off435 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1983 : Index := Scalar.indexCast v1206
  ![v1983.toNat]
def k0_mult215 (v1984 : BitVec 32) : BitVec 32 :=
  v1984

def k0_off436 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v1987 : Index := Scalar.indexCast v1206
  ![v1987.toNat]
def k0_mult216 (v1988 : BitVec 32) : BitVec 32 :=
  v1988

def k0_off437 (v1984 : BitVec 32) : Fin 2 → Nat :=
  let v1985 : BitVec 32 := v1984
  let v1990 : Index := Scalar.indexCast v1985
  let c0_592 : Index := 0#32
  ![v1990.toNat, 0]

def k0_chk215 (v1984 : BitVec 32) : Prop :=
  (4 ∣ (k0_mult215 v1984).toNat) ∧
  (∀ a, (k0_off437 v1984) a + S8x128.size a ≤ S65552x128.size a)
theorem k0_mult215_dvd : ∀ (v1984 : BitVec 32) (k0_hw215 : k0_chk215 v1984), 4 ∣ (k0_mult215 v1984).toNat := fun v1984 k0_hw215 => k0_hw215.1
theorem k0_off437_inb : ∀ (v1984 : BitVec 32) (k0_hw215 : k0_chk215 v1984), ∀ a, (k0_off437 v1984) a + S8x128.size a ≤ S65552x128.size a := fun v1984 k0_hw215 => k0_hw215.2

def k0_off438 (v1988 : BitVec 32) : Fin 2 → Nat :=
  let v1989 : BitVec 32 := v1988
  let v1992 : Index := Scalar.indexCast v1989
  let c0_593 : Index := 0#32
  ![v1992.toNat, 0]

def k0_chk216 (v1988 : BitVec 32) : Prop :=
  (4 ∣ (k0_mult216 v1988).toNat) ∧
  (∀ a, (k0_off438 v1988) a + S8x128.size a ≤ S65552x128.size a)
theorem k0_mult216_dvd : ∀ (v1988 : BitVec 32) (k0_hw216 : k0_chk216 v1988), 4 ∣ (k0_mult216 v1988).toNat := fun v1988 k0_hw216 => k0_hw216.1
theorem k0_off438_inb : ∀ (v1988 : BitVec 32) (k0_hw216 : k0_chk216 v1988), ∀ a, (k0_off438 v1988) a + S8x128.size a ≤ S65552x128.size a := fun v1988 k0_hw216 => k0_hw216.2

def k0_off439 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2001 : Index := Scalar.indexCast v1206
  ![v2001.toNat]
def k0_mult217 (v2002 : BitVec 32) : BitVec 32 :=
  v2002

def k0_off440 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2005 : Index := Scalar.indexCast v1206
  ![v2005.toNat]
def k0_mult218 (v2006 : BitVec 32) : BitVec 32 :=
  v2006

def k0_off441 (v2002 : BitVec 32) : Fin 2 → Nat :=
  let v2003 : BitVec 32 := v2002
  let v2008 : Index := Scalar.indexCast v2003
  let c0_599 : Index := 0#32
  ![v2008.toNat, 0]

def k0_chk217 (v2002 : BitVec 32) : Prop :=
  (4 ∣ (k0_mult217 v2002).toNat) ∧
  (∀ a, (k0_off441 v2002) a + S8x128.size a ≤ S65552x128.size a)
theorem k0_mult217_dvd : ∀ (v2002 : BitVec 32) (k0_hw217 : k0_chk217 v2002), 4 ∣ (k0_mult217 v2002).toNat := fun v2002 k0_hw217 => k0_hw217.1
theorem k0_off441_inb : ∀ (v2002 : BitVec 32) (k0_hw217 : k0_chk217 v2002), ∀ a, (k0_off441 v2002) a + S8x128.size a ≤ S65552x128.size a := fun v2002 k0_hw217 => k0_hw217.2

def k0_off442 (v2006 : BitVec 32) : Fin 2 → Nat :=
  let v2007 : BitVec 32 := v2006
  let v2010 : Index := Scalar.indexCast v2007
  let c0_600 : Index := 0#32
  ![v2010.toNat, 0]

def k0_chk218 (v2006 : BitVec 32) : Prop :=
  (4 ∣ (k0_mult218 v2006).toNat) ∧
  (∀ a, (k0_off442 v2006) a + S8x128.size a ≤ S65552x128.size a)
theorem k0_mult218_dvd : ∀ (v2006 : BitVec 32) (k0_hw218 : k0_chk218 v2006), 4 ∣ (k0_mult218 v2006).toNat := fun v2006 k0_hw218 => k0_hw218.1
theorem k0_off442_inb : ∀ (v2006 : BitVec 32) (k0_hw218 : k0_chk218 v2006), ∀ a, (k0_off442 v2006) a + S8x128.size a ≤ S65552x128.size a := fun v2006 k0_hw218 => k0_hw218.2

def k0_off443 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2019 : Index := Scalar.indexCast v1206
  ![v2019.toNat]
def k0_mult219 (v2020 : BitVec 32) : BitVec 32 :=
  v2020

def k0_off444 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2023 : Index := Scalar.indexCast v1206
  ![v2023.toNat]
def k0_mult220 (v2024 : BitVec 32) : BitVec 32 :=
  v2024

def k0_off445 (v2020 : BitVec 32) : Fin 2 → Nat :=
  let v2021 : BitVec 32 := v2020
  let v2026 : Index := Scalar.indexCast v2021
  let c0_606 : Index := 0#32
  ![v2026.toNat, 0]

def k0_chk219 (v2020 : BitVec 32) : Prop :=
  (4 ∣ (k0_mult219 v2020).toNat) ∧
  (∀ a, (k0_off445 v2020) a + S8x128.size a ≤ S65552x128.size a)
theorem k0_mult219_dvd : ∀ (v2020 : BitVec 32) (k0_hw219 : k0_chk219 v2020), 4 ∣ (k0_mult219 v2020).toNat := fun v2020 k0_hw219 => k0_hw219.1
theorem k0_off445_inb : ∀ (v2020 : BitVec 32) (k0_hw219 : k0_chk219 v2020), ∀ a, (k0_off445 v2020) a + S8x128.size a ≤ S65552x128.size a := fun v2020 k0_hw219 => k0_hw219.2

def k0_off446 (v2024 : BitVec 32) : Fin 2 → Nat :=
  let v2025 : BitVec 32 := v2024
  let v2028 : Index := Scalar.indexCast v2025
  let c0_607 : Index := 0#32
  ![v2028.toNat, 0]

def k0_chk220 (v2024 : BitVec 32) : Prop :=
  (4 ∣ (k0_mult220 v2024).toNat) ∧
  (∀ a, (k0_off446 v2024) a + S8x128.size a ≤ S65552x128.size a)
theorem k0_mult220_dvd : ∀ (v2024 : BitVec 32) (k0_hw220 : k0_chk220 v2024), 4 ∣ (k0_mult220 v2024).toNat := fun v2024 k0_hw220 => k0_hw220.1
theorem k0_off446_inb : ∀ (v2024 : BitVec 32) (k0_hw220 : k0_chk220 v2024), ∀ a, (k0_off446 v2024) a + S8x128.size a ≤ S65552x128.size a := fun v2024 k0_hw220 => k0_hw220.2

def k0_off447 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2037 : Index := Scalar.indexCast v1206
  ![v2037.toNat]
def k0_mult221 (v2038 : BitVec 32) : BitVec 32 :=
  v2038

def k0_off448 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2041 : Index := Scalar.indexCast v1206
  ![v2041.toNat]
def k0_mult222 (v2042 : BitVec 32) : BitVec 32 :=
  v2042

def k0_off449 (v2038 : BitVec 32) : Fin 2 → Nat :=
  let v2039 : BitVec 32 := v2038
  let v2044 : Index := Scalar.indexCast v2039
  let c0_613 : Index := 0#32
  ![v2044.toNat, 0]

def k0_chk221 (v2038 : BitVec 32) : Prop :=
  (4 ∣ (k0_mult221 v2038).toNat) ∧
  (∀ a, (k0_off449 v2038) a + S8x128.size a ≤ S65552x128.size a)
theorem k0_mult221_dvd : ∀ (v2038 : BitVec 32) (k0_hw221 : k0_chk221 v2038), 4 ∣ (k0_mult221 v2038).toNat := fun v2038 k0_hw221 => k0_hw221.1
theorem k0_off449_inb : ∀ (v2038 : BitVec 32) (k0_hw221 : k0_chk221 v2038), ∀ a, (k0_off449 v2038) a + S8x128.size a ≤ S65552x128.size a := fun v2038 k0_hw221 => k0_hw221.2

def k0_off450 (v2042 : BitVec 32) : Fin 2 → Nat :=
  let v2043 : BitVec 32 := v2042
  let v2046 : Index := Scalar.indexCast v2043
  let c0_614 : Index := 0#32
  ![v2046.toNat, 0]

def k0_chk222 (v2042 : BitVec 32) : Prop :=
  (4 ∣ (k0_mult222 v2042).toNat) ∧
  (∀ a, (k0_off450 v2042) a + S8x128.size a ≤ S65552x128.size a)
theorem k0_mult222_dvd : ∀ (v2042 : BitVec 32) (k0_hw222 : k0_chk222 v2042), 4 ∣ (k0_mult222 v2042).toNat := fun v2042 k0_hw222 => k0_hw222.1
theorem k0_off450_inb : ∀ (v2042 : BitVec 32) (k0_hw222 : k0_chk222 v2042), ∀ a, (k0_off450 v2042) a + S8x128.size a ≤ S65552x128.size a := fun v2042 k0_hw222 => k0_hw222.2

def k0_off451 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2055 : Index := Scalar.indexCast v1206
  ![v2055.toNat]
def k0_mult223 (v2056 : BitVec 32) : BitVec 32 :=
  v2056

def k0_off452 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2059 : Index := Scalar.indexCast v1206
  ![v2059.toNat]
def k0_mult224 (v2060 : BitVec 32) : BitVec 32 :=
  v2060

def k0_off453 (v2056 : BitVec 32) : Fin 2 → Nat :=
  let v2057 : BitVec 32 := v2056
  let v2062 : Index := Scalar.indexCast v2057
  let c0_620 : Index := 0#32
  ![v2062.toNat, 0]

def k0_chk223 (v2056 : BitVec 32) : Prop :=
  (4 ∣ (k0_mult223 v2056).toNat) ∧
  (∀ a, (k0_off453 v2056) a + S8x128.size a ≤ S65552x128.size a)
theorem k0_mult223_dvd : ∀ (v2056 : BitVec 32) (k0_hw223 : k0_chk223 v2056), 4 ∣ (k0_mult223 v2056).toNat := fun v2056 k0_hw223 => k0_hw223.1
theorem k0_off453_inb : ∀ (v2056 : BitVec 32) (k0_hw223 : k0_chk223 v2056), ∀ a, (k0_off453 v2056) a + S8x128.size a ≤ S65552x128.size a := fun v2056 k0_hw223 => k0_hw223.2

def k0_off454 (v2060 : BitVec 32) : Fin 2 → Nat :=
  let v2061 : BitVec 32 := v2060
  let v2064 : Index := Scalar.indexCast v2061
  let c0_621 : Index := 0#32
  ![v2064.toNat, 0]

def k0_chk224 (v2060 : BitVec 32) : Prop :=
  (4 ∣ (k0_mult224 v2060).toNat) ∧
  (∀ a, (k0_off454 v2060) a + S8x128.size a ≤ S65552x128.size a)
theorem k0_mult224_dvd : ∀ (v2060 : BitVec 32) (k0_hw224 : k0_chk224 v2060), 4 ∣ (k0_mult224 v2060).toNat := fun v2060 k0_hw224 => k0_hw224.1
theorem k0_off454_inb : ∀ (v2060 : BitVec 32) (k0_hw224 : k0_chk224 v2060), ∀ a, (k0_off454 v2060) a + S8x128.size a ≤ S65552x128.size a := fun v2060 k0_hw224 => k0_hw224.2

def k0_off455 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2073 : Index := Scalar.indexCast v1206
  ![v2073.toNat]
def k0_mult225 (v2074 : BitVec 32) : BitVec 32 :=
  v2074

def k0_off456 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2077 : Index := Scalar.indexCast v1206
  ![v2077.toNat]
def k0_mult226 (v2078 : BitVec 32) : BitVec 32 :=
  v2078

def k0_off457 (v2074 : BitVec 32) : Fin 2 → Nat :=
  let v2075 : BitVec 32 := v2074
  let v2080 : Index := Scalar.indexCast v2075
  let c0_627 : Index := 0#32
  ![v2080.toNat, 0]

def k0_chk225 (v2074 : BitVec 32) : Prop :=
  (4 ∣ (k0_mult225 v2074).toNat) ∧
  (∀ a, (k0_off457 v2074) a + S8x128.size a ≤ S65552x128.size a)
theorem k0_mult225_dvd : ∀ (v2074 : BitVec 32) (k0_hw225 : k0_chk225 v2074), 4 ∣ (k0_mult225 v2074).toNat := fun v2074 k0_hw225 => k0_hw225.1
theorem k0_off457_inb : ∀ (v2074 : BitVec 32) (k0_hw225 : k0_chk225 v2074), ∀ a, (k0_off457 v2074) a + S8x128.size a ≤ S65552x128.size a := fun v2074 k0_hw225 => k0_hw225.2

def k0_off458 (v2078 : BitVec 32) : Fin 2 → Nat :=
  let v2079 : BitVec 32 := v2078
  let v2082 : Index := Scalar.indexCast v2079
  let c0_628 : Index := 0#32
  ![v2082.toNat, 0]

def k0_chk226 (v2078 : BitVec 32) : Prop :=
  (4 ∣ (k0_mult226 v2078).toNat) ∧
  (∀ a, (k0_off458 v2078) a + S8x128.size a ≤ S65552x128.size a)
theorem k0_mult226_dvd : ∀ (v2078 : BitVec 32) (k0_hw226 : k0_chk226 v2078), 4 ∣ (k0_mult226 v2078).toNat := fun v2078 k0_hw226 => k0_hw226.1
theorem k0_off458_inb : ∀ (v2078 : BitVec 32) (k0_hw226 : k0_chk226 v2078), ∀ a, (k0_off458 v2078) a + S8x128.size a ≤ S65552x128.size a := fun v2078 k0_hw226 => k0_hw226.2

def k0_off459 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2091 : Index := Scalar.indexCast v1206
  ![v2091.toNat]
def k0_mult227 (v2092 : BitVec 32) : BitVec 32 :=
  v2092

def k0_off460 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2095 : Index := Scalar.indexCast v1206
  ![v2095.toNat]
def k0_mult228 (v2096 : BitVec 32) : BitVec 32 :=
  v2096

def k0_off461 (v2092 : BitVec 32) : Fin 2 → Nat :=
  let v2093 : BitVec 32 := v2092
  let v2098 : Index := Scalar.indexCast v2093
  let c0_634 : Index := 0#32
  ![v2098.toNat, 0]

def k0_chk227 (v2092 : BitVec 32) : Prop :=
  (4 ∣ (k0_mult227 v2092).toNat) ∧
  (∀ a, (k0_off461 v2092) a + S8x128.size a ≤ S65552x128.size a)
theorem k0_mult227_dvd : ∀ (v2092 : BitVec 32) (k0_hw227 : k0_chk227 v2092), 4 ∣ (k0_mult227 v2092).toNat := fun v2092 k0_hw227 => k0_hw227.1
theorem k0_off461_inb : ∀ (v2092 : BitVec 32) (k0_hw227 : k0_chk227 v2092), ∀ a, (k0_off461 v2092) a + S8x128.size a ≤ S65552x128.size a := fun v2092 k0_hw227 => k0_hw227.2

def k0_off462 (v2096 : BitVec 32) : Fin 2 → Nat :=
  let v2097 : BitVec 32 := v2096
  let v2100 : Index := Scalar.indexCast v2097
  let c0_635 : Index := 0#32
  ![v2100.toNat, 0]

def k0_chk228 (v2096 : BitVec 32) : Prop :=
  (4 ∣ (k0_mult228 v2096).toNat) ∧
  (∀ a, (k0_off462 v2096) a + S8x128.size a ≤ S65552x128.size a)
theorem k0_mult228_dvd : ∀ (v2096 : BitVec 32) (k0_hw228 : k0_chk228 v2096), 4 ∣ (k0_mult228 v2096).toNat := fun v2096 k0_hw228 => k0_hw228.1
theorem k0_off462_inb : ∀ (v2096 : BitVec 32) (k0_hw228 : k0_chk228 v2096), ∀ a, (k0_off462 v2096) a + S8x128.size a ≤ S65552x128.size a := fun v2096 k0_hw228 => k0_hw228.2

def k0_off463 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2109 : Index := Scalar.indexCast v1206
  ![v2109.toNat]
def k0_mult229 (v2110 : BitVec 32) : BitVec 32 :=
  v2110

def k0_off464 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2113 : Index := Scalar.indexCast v1206
  ![v2113.toNat]
def k0_mult230 (v2114 : BitVec 32) : BitVec 32 :=
  v2114

def k0_off465 (v2110 : BitVec 32) : Fin 2 → Nat :=
  let v2111 : BitVec 32 := v2110
  let v2116 : Index := Scalar.indexCast v2111
  let c0_641 : Index := 0#32
  ![v2116.toNat, 0]

def k0_chk229 (v2110 : BitVec 32) : Prop :=
  (4 ∣ (k0_mult229 v2110).toNat) ∧
  (∀ a, (k0_off465 v2110) a + S8x128.size a ≤ S65552x128.size a)
theorem k0_mult229_dvd : ∀ (v2110 : BitVec 32) (k0_hw229 : k0_chk229 v2110), 4 ∣ (k0_mult229 v2110).toNat := fun v2110 k0_hw229 => k0_hw229.1
theorem k0_off465_inb : ∀ (v2110 : BitVec 32) (k0_hw229 : k0_chk229 v2110), ∀ a, (k0_off465 v2110) a + S8x128.size a ≤ S65552x128.size a := fun v2110 k0_hw229 => k0_hw229.2

def k0_off466 (v2114 : BitVec 32) : Fin 2 → Nat :=
  let v2115 : BitVec 32 := v2114
  let v2118 : Index := Scalar.indexCast v2115
  let c0_642 : Index := 0#32
  ![v2118.toNat, 0]

def k0_chk230 (v2114 : BitVec 32) : Prop :=
  (4 ∣ (k0_mult230 v2114).toNat) ∧
  (∀ a, (k0_off466 v2114) a + S8x128.size a ≤ S65552x128.size a)
theorem k0_mult230_dvd : ∀ (v2114 : BitVec 32) (k0_hw230 : k0_chk230 v2114), 4 ∣ (k0_mult230 v2114).toNat := fun v2114 k0_hw230 => k0_hw230.1
theorem k0_off466_inb : ∀ (v2114 : BitVec 32) (k0_hw230 : k0_chk230 v2114), ∀ a, (k0_off466 v2114) a + S8x128.size a ≤ S65552x128.size a := fun v2114 k0_hw230 => k0_hw230.2

def k0_off467 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2127 : Index := Scalar.indexCast v1206
  ![v2127.toNat]
def k0_mult231 (v2128 : BitVec 32) : BitVec 32 :=
  v2128

def k0_off468 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2131 : Index := Scalar.indexCast v1206
  ![v2131.toNat]
def k0_mult232 (v2132 : BitVec 32) : BitVec 32 :=
  v2132

def k0_off469 (v2128 : BitVec 32) : Fin 2 → Nat :=
  let v2129 : BitVec 32 := v2128
  let v2134 : Index := Scalar.indexCast v2129
  let c0_648 : Index := 0#32
  ![v2134.toNat, 0]

def k0_chk231 (v2128 : BitVec 32) : Prop :=
  (4 ∣ (k0_mult231 v2128).toNat) ∧
  (∀ a, (k0_off469 v2128) a + S8x128.size a ≤ S65552x128.size a)
theorem k0_mult231_dvd : ∀ (v2128 : BitVec 32) (k0_hw231 : k0_chk231 v2128), 4 ∣ (k0_mult231 v2128).toNat := fun v2128 k0_hw231 => k0_hw231.1
theorem k0_off469_inb : ∀ (v2128 : BitVec 32) (k0_hw231 : k0_chk231 v2128), ∀ a, (k0_off469 v2128) a + S8x128.size a ≤ S65552x128.size a := fun v2128 k0_hw231 => k0_hw231.2

def k0_off470 (v2132 : BitVec 32) : Fin 2 → Nat :=
  let v2133 : BitVec 32 := v2132
  let v2136 : Index := Scalar.indexCast v2133
  let c0_649 : Index := 0#32
  ![v2136.toNat, 0]

def k0_chk232 (v2132 : BitVec 32) : Prop :=
  (4 ∣ (k0_mult232 v2132).toNat) ∧
  (∀ a, (k0_off470 v2132) a + S8x128.size a ≤ S65552x128.size a)
theorem k0_mult232_dvd : ∀ (v2132 : BitVec 32) (k0_hw232 : k0_chk232 v2132), 4 ∣ (k0_mult232 v2132).toNat := fun v2132 k0_hw232 => k0_hw232.1
theorem k0_off470_inb : ∀ (v2132 : BitVec 32) (k0_hw232 : k0_chk232 v2132), ∀ a, (k0_off470 v2132) a + S8x128.size a ≤ S65552x128.size a := fun v2132 k0_hw232 => k0_hw232.2

def k0_off471 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2145 : Index := Scalar.indexCast v1206
  ![v2145.toNat]
def k0_mult233 (v2146 : BitVec 32) : BitVec 32 :=
  v2146

def k0_off472 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2149 : Index := Scalar.indexCast v1206
  ![v2149.toNat]
def k0_mult234 (v2150 : BitVec 32) : BitVec 32 :=
  v2150

def k0_off473 (v2146 : BitVec 32) : Fin 2 → Nat :=
  let v2147 : BitVec 32 := v2146
  let v2152 : Index := Scalar.indexCast v2147
  let c0_655 : Index := 0#32
  ![v2152.toNat, 0]

def k0_chk233 (v2146 : BitVec 32) : Prop :=
  (4 ∣ (k0_mult233 v2146).toNat) ∧
  (∀ a, (k0_off473 v2146) a + S8x128.size a ≤ S65552x128.size a)
theorem k0_mult233_dvd : ∀ (v2146 : BitVec 32) (k0_hw233 : k0_chk233 v2146), 4 ∣ (k0_mult233 v2146).toNat := fun v2146 k0_hw233 => k0_hw233.1
theorem k0_off473_inb : ∀ (v2146 : BitVec 32) (k0_hw233 : k0_chk233 v2146), ∀ a, (k0_off473 v2146) a + S8x128.size a ≤ S65552x128.size a := fun v2146 k0_hw233 => k0_hw233.2

def k0_off474 (v2150 : BitVec 32) : Fin 2 → Nat :=
  let v2151 : BitVec 32 := v2150
  let v2154 : Index := Scalar.indexCast v2151
  let c0_656 : Index := 0#32
  ![v2154.toNat, 0]

def k0_chk234 (v2150 : BitVec 32) : Prop :=
  (4 ∣ (k0_mult234 v2150).toNat) ∧
  (∀ a, (k0_off474 v2150) a + S8x128.size a ≤ S65552x128.size a)
theorem k0_mult234_dvd : ∀ (v2150 : BitVec 32) (k0_hw234 : k0_chk234 v2150), 4 ∣ (k0_mult234 v2150).toNat := fun v2150 k0_hw234 => k0_hw234.1
theorem k0_off474_inb : ∀ (v2150 : BitVec 32) (k0_hw234 : k0_chk234 v2150), ∀ a, (k0_off474 v2150) a + S8x128.size a ≤ S65552x128.size a := fun v2150 k0_hw234 => k0_hw234.2

def k0_off475 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2163 : Index := Scalar.indexCast v1206
  ![v2163.toNat]
def k0_mult235 (v2164 : BitVec 32) : BitVec 32 :=
  v2164

def k0_off476 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2167 : Index := Scalar.indexCast v1206
  ![v2167.toNat]
def k0_mult236 (v2168 : BitVec 32) : BitVec 32 :=
  v2168

def k0_off477 (v2164 : BitVec 32) : Fin 2 → Nat :=
  let v2165 : BitVec 32 := v2164
  let v2170 : Index := Scalar.indexCast v2165
  let c0_662 : Index := 0#32
  ![v2170.toNat, 0]

def k0_chk235 (v2164 : BitVec 32) : Prop :=
  (4 ∣ (k0_mult235 v2164).toNat) ∧
  (∀ a, (k0_off477 v2164) a + S8x128.size a ≤ S65552x128.size a)
theorem k0_mult235_dvd : ∀ (v2164 : BitVec 32) (k0_hw235 : k0_chk235 v2164), 4 ∣ (k0_mult235 v2164).toNat := fun v2164 k0_hw235 => k0_hw235.1
theorem k0_off477_inb : ∀ (v2164 : BitVec 32) (k0_hw235 : k0_chk235 v2164), ∀ a, (k0_off477 v2164) a + S8x128.size a ≤ S65552x128.size a := fun v2164 k0_hw235 => k0_hw235.2

def k0_off478 (v2168 : BitVec 32) : Fin 2 → Nat :=
  let v2169 : BitVec 32 := v2168
  let v2172 : Index := Scalar.indexCast v2169
  let c0_663 : Index := 0#32
  ![v2172.toNat, 0]

def k0_chk236 (v2168 : BitVec 32) : Prop :=
  (4 ∣ (k0_mult236 v2168).toNat) ∧
  (∀ a, (k0_off478 v2168) a + S8x128.size a ≤ S65552x128.size a)
theorem k0_mult236_dvd : ∀ (v2168 : BitVec 32) (k0_hw236 : k0_chk236 v2168), 4 ∣ (k0_mult236 v2168).toNat := fun v2168 k0_hw236 => k0_hw236.1
theorem k0_off478_inb : ∀ (v2168 : BitVec 32) (k0_hw236 : k0_chk236 v2168), ∀ a, (k0_off478 v2168) a + S8x128.size a ≤ S65552x128.size a := fun v2168 k0_hw236 => k0_hw236.2

def k0_off479 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2181 : Index := Scalar.indexCast v1206
  ![v2181.toNat]
def k0_mult237 (v2182 : BitVec 32) : BitVec 32 :=
  v2182

def k0_off480 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2185 : Index := Scalar.indexCast v1206
  ![v2185.toNat]
def k0_mult238 (v2186 : BitVec 32) : BitVec 32 :=
  v2186

def k0_off481 (v2182 : BitVec 32) : Fin 2 → Nat :=
  let v2183 : BitVec 32 := v2182
  let v2188 : Index := Scalar.indexCast v2183
  let c0_669 : Index := 0#32
  ![v2188.toNat, 0]

def k0_chk237 (v2182 : BitVec 32) : Prop :=
  (4 ∣ (k0_mult237 v2182).toNat) ∧
  (∀ a, (k0_off481 v2182) a + S8x128.size a ≤ S65552x128.size a)
theorem k0_mult237_dvd : ∀ (v2182 : BitVec 32) (k0_hw237 : k0_chk237 v2182), 4 ∣ (k0_mult237 v2182).toNat := fun v2182 k0_hw237 => k0_hw237.1
theorem k0_off481_inb : ∀ (v2182 : BitVec 32) (k0_hw237 : k0_chk237 v2182), ∀ a, (k0_off481 v2182) a + S8x128.size a ≤ S65552x128.size a := fun v2182 k0_hw237 => k0_hw237.2

def k0_off482 (v2186 : BitVec 32) : Fin 2 → Nat :=
  let v2187 : BitVec 32 := v2186
  let v2190 : Index := Scalar.indexCast v2187
  let c0_670 : Index := 0#32
  ![v2190.toNat, 0]

def k0_chk238 (v2186 : BitVec 32) : Prop :=
  (4 ∣ (k0_mult238 v2186).toNat) ∧
  (∀ a, (k0_off482 v2186) a + S8x128.size a ≤ S65552x128.size a)
theorem k0_mult238_dvd : ∀ (v2186 : BitVec 32) (k0_hw238 : k0_chk238 v2186), 4 ∣ (k0_mult238 v2186).toNat := fun v2186 k0_hw238 => k0_hw238.1
theorem k0_off482_inb : ∀ (v2186 : BitVec 32) (k0_hw238 : k0_chk238 v2186), ∀ a, (k0_off482 v2186) a + S8x128.size a ≤ S65552x128.size a := fun v2186 k0_hw238 => k0_hw238.2

def k0_off483 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2199 : Index := Scalar.indexCast v1206
  ![v2199.toNat]
def k0_mult239 (v2200 : BitVec 32) : BitVec 32 :=
  v2200

def k0_off484 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2203 : Index := Scalar.indexCast v1206
  ![v2203.toNat]
def k0_mult240 (v2204 : BitVec 32) : BitVec 32 :=
  v2204

def k0_off485 (v2200 : BitVec 32) : Fin 2 → Nat :=
  let v2201 : BitVec 32 := v2200
  let v2206 : Index := Scalar.indexCast v2201
  let c0_676 : Index := 0#32
  ![v2206.toNat, 0]

def k0_chk239 (v2200 : BitVec 32) : Prop :=
  (4 ∣ (k0_mult239 v2200).toNat) ∧
  (∀ a, (k0_off485 v2200) a + S8x128.size a ≤ S65552x128.size a)
theorem k0_mult239_dvd : ∀ (v2200 : BitVec 32) (k0_hw239 : k0_chk239 v2200), 4 ∣ (k0_mult239 v2200).toNat := fun v2200 k0_hw239 => k0_hw239.1
theorem k0_off485_inb : ∀ (v2200 : BitVec 32) (k0_hw239 : k0_chk239 v2200), ∀ a, (k0_off485 v2200) a + S8x128.size a ≤ S65552x128.size a := fun v2200 k0_hw239 => k0_hw239.2

def k0_off486 (v2204 : BitVec 32) : Fin 2 → Nat :=
  let v2205 : BitVec 32 := v2204
  let v2208 : Index := Scalar.indexCast v2205
  let c0_677 : Index := 0#32
  ![v2208.toNat, 0]

def k0_chk240 (v2204 : BitVec 32) : Prop :=
  (4 ∣ (k0_mult240 v2204).toNat) ∧
  (∀ a, (k0_off486 v2204) a + S8x128.size a ≤ S65552x128.size a)
theorem k0_mult240_dvd : ∀ (v2204 : BitVec 32) (k0_hw240 : k0_chk240 v2204), 4 ∣ (k0_mult240 v2204).toNat := fun v2204 k0_hw240 => k0_hw240.1
theorem k0_off486_inb : ∀ (v2204 : BitVec 32) (k0_hw240 : k0_chk240 v2204), ∀ a, (k0_off486 v2204) a + S8x128.size a ≤ S65552x128.size a := fun v2204 k0_hw240 => k0_hw240.2

def k0_off487 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2217 : Index := Scalar.indexCast v1206
  ![v2217.toNat]
def k0_mult241 (v2218 : BitVec 32) : BitVec 32 :=
  v2218

def k0_off488 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2221 : Index := Scalar.indexCast v1206
  ![v2221.toNat]
def k0_mult242 (v2222 : BitVec 32) : BitVec 32 :=
  v2222

def k0_off489 (v2218 : BitVec 32) : Fin 2 → Nat :=
  let v2219 : BitVec 32 := v2218
  let v2224 : Index := Scalar.indexCast v2219
  let c0_683 : Index := 0#32
  ![v2224.toNat, 0]

def k0_chk241 (v2218 : BitVec 32) : Prop :=
  (4 ∣ (k0_mult241 v2218).toNat) ∧
  (∀ a, (k0_off489 v2218) a + S8x128.size a ≤ S65552x128.size a)
theorem k0_mult241_dvd : ∀ (v2218 : BitVec 32) (k0_hw241 : k0_chk241 v2218), 4 ∣ (k0_mult241 v2218).toNat := fun v2218 k0_hw241 => k0_hw241.1
theorem k0_off489_inb : ∀ (v2218 : BitVec 32) (k0_hw241 : k0_chk241 v2218), ∀ a, (k0_off489 v2218) a + S8x128.size a ≤ S65552x128.size a := fun v2218 k0_hw241 => k0_hw241.2

def k0_off490 (v2222 : BitVec 32) : Fin 2 → Nat :=
  let v2223 : BitVec 32 := v2222
  let v2226 : Index := Scalar.indexCast v2223
  let c0_684 : Index := 0#32
  ![v2226.toNat, 0]

def k0_chk242 (v2222 : BitVec 32) : Prop :=
  (4 ∣ (k0_mult242 v2222).toNat) ∧
  (∀ a, (k0_off490 v2222) a + S8x128.size a ≤ S65552x128.size a)
theorem k0_mult242_dvd : ∀ (v2222 : BitVec 32) (k0_hw242 : k0_chk242 v2222), 4 ∣ (k0_mult242 v2222).toNat := fun v2222 k0_hw242 => k0_hw242.1
theorem k0_off490_inb : ∀ (v2222 : BitVec 32) (k0_hw242 : k0_chk242 v2222), ∀ a, (k0_off490 v2222) a + S8x128.size a ≤ S65552x128.size a := fun v2222 k0_hw242 => k0_hw242.2

def k0_off491 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2235 : Index := Scalar.indexCast v1206
  ![v2235.toNat]
def k0_mult243 (v2236 : BitVec 32) : BitVec 32 :=
  v2236

def k0_off492 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2239 : Index := Scalar.indexCast v1206
  ![v2239.toNat]
def k0_mult244 (v2240 : BitVec 32) : BitVec 32 :=
  v2240

def k0_off493 (v2236 : BitVec 32) : Fin 2 → Nat :=
  let v2237 : BitVec 32 := v2236
  let v2242 : Index := Scalar.indexCast v2237
  let c0_690 : Index := 0#32
  ![v2242.toNat, 0]

def k0_chk243 (v2236 : BitVec 32) : Prop :=
  (4 ∣ (k0_mult243 v2236).toNat) ∧
  (∀ a, (k0_off493 v2236) a + S8x128.size a ≤ S65552x128.size a)
theorem k0_mult243_dvd : ∀ (v2236 : BitVec 32) (k0_hw243 : k0_chk243 v2236), 4 ∣ (k0_mult243 v2236).toNat := fun v2236 k0_hw243 => k0_hw243.1
theorem k0_off493_inb : ∀ (v2236 : BitVec 32) (k0_hw243 : k0_chk243 v2236), ∀ a, (k0_off493 v2236) a + S8x128.size a ≤ S65552x128.size a := fun v2236 k0_hw243 => k0_hw243.2

def k0_off494 (v2240 : BitVec 32) : Fin 2 → Nat :=
  let v2241 : BitVec 32 := v2240
  let v2244 : Index := Scalar.indexCast v2241
  let c0_691 : Index := 0#32
  ![v2244.toNat, 0]

def k0_chk244 (v2240 : BitVec 32) : Prop :=
  (4 ∣ (k0_mult244 v2240).toNat) ∧
  (∀ a, (k0_off494 v2240) a + S8x128.size a ≤ S65552x128.size a)
theorem k0_mult244_dvd : ∀ (v2240 : BitVec 32) (k0_hw244 : k0_chk244 v2240), 4 ∣ (k0_mult244 v2240).toNat := fun v2240 k0_hw244 => k0_hw244.1
theorem k0_off494_inb : ∀ (v2240 : BitVec 32) (k0_hw244 : k0_chk244 v2240), ∀ a, (k0_off494 v2240) a + S8x128.size a ≤ S65552x128.size a := fun v2240 k0_hw244 => k0_hw244.2

def k0_off495 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2253 : Index := Scalar.indexCast v1206
  ![v2253.toNat]
def k0_mult245 (v2254 : BitVec 32) : BitVec 32 :=
  v2254

def k0_off496 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2257 : Index := Scalar.indexCast v1206
  ![v2257.toNat]
def k0_mult246 (v2258 : BitVec 32) : BitVec 32 :=
  v2258

def k0_off497 (v2254 : BitVec 32) : Fin 2 → Nat :=
  let v2255 : BitVec 32 := v2254
  let v2260 : Index := Scalar.indexCast v2255
  let c0_697 : Index := 0#32
  ![v2260.toNat, 0]

def k0_chk245 (v2254 : BitVec 32) : Prop :=
  (4 ∣ (k0_mult245 v2254).toNat) ∧
  (∀ a, (k0_off497 v2254) a + S8x128.size a ≤ S65552x128.size a)
theorem k0_mult245_dvd : ∀ (v2254 : BitVec 32) (k0_hw245 : k0_chk245 v2254), 4 ∣ (k0_mult245 v2254).toNat := fun v2254 k0_hw245 => k0_hw245.1
theorem k0_off497_inb : ∀ (v2254 : BitVec 32) (k0_hw245 : k0_chk245 v2254), ∀ a, (k0_off497 v2254) a + S8x128.size a ≤ S65552x128.size a := fun v2254 k0_hw245 => k0_hw245.2

def k0_off498 (v2258 : BitVec 32) : Fin 2 → Nat :=
  let v2259 : BitVec 32 := v2258
  let v2262 : Index := Scalar.indexCast v2259
  let c0_698 : Index := 0#32
  ![v2262.toNat, 0]

def k0_chk246 (v2258 : BitVec 32) : Prop :=
  (4 ∣ (k0_mult246 v2258).toNat) ∧
  (∀ a, (k0_off498 v2258) a + S8x128.size a ≤ S65552x128.size a)
theorem k0_mult246_dvd : ∀ (v2258 : BitVec 32) (k0_hw246 : k0_chk246 v2258), 4 ∣ (k0_mult246 v2258).toNat := fun v2258 k0_hw246 => k0_hw246.1
theorem k0_off498_inb : ∀ (v2258 : BitVec 32) (k0_hw246 : k0_chk246 v2258), ∀ a, (k0_off498 v2258) a + S8x128.size a ≤ S65552x128.size a := fun v2258 k0_hw246 => k0_hw246.2

def k0_off499 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2271 : Index := Scalar.indexCast v1206
  ![v2271.toNat]
def k0_mult247 (v2272 : BitVec 32) : BitVec 32 :=
  v2272

def k0_off500 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2275 : Index := Scalar.indexCast v1206
  ![v2275.toNat]
def k0_mult248 (v2276 : BitVec 32) : BitVec 32 :=
  v2276

def k0_off501 (v2272 : BitVec 32) : Fin 2 → Nat :=
  let v2273 : BitVec 32 := v2272
  let v2278 : Index := Scalar.indexCast v2273
  let c0_704 : Index := 0#32
  ![v2278.toNat, 0]

def k0_chk247 (v2272 : BitVec 32) : Prop :=
  (4 ∣ (k0_mult247 v2272).toNat) ∧
  (∀ a, (k0_off501 v2272) a + S8x128.size a ≤ S65552x128.size a)
theorem k0_mult247_dvd : ∀ (v2272 : BitVec 32) (k0_hw247 : k0_chk247 v2272), 4 ∣ (k0_mult247 v2272).toNat := fun v2272 k0_hw247 => k0_hw247.1
theorem k0_off501_inb : ∀ (v2272 : BitVec 32) (k0_hw247 : k0_chk247 v2272), ∀ a, (k0_off501 v2272) a + S8x128.size a ≤ S65552x128.size a := fun v2272 k0_hw247 => k0_hw247.2

def k0_off502 (v2276 : BitVec 32) : Fin 2 → Nat :=
  let v2277 : BitVec 32 := v2276
  let v2280 : Index := Scalar.indexCast v2277
  let c0_705 : Index := 0#32
  ![v2280.toNat, 0]

def k0_chk248 (v2276 : BitVec 32) : Prop :=
  (4 ∣ (k0_mult248 v2276).toNat) ∧
  (∀ a, (k0_off502 v2276) a + S8x128.size a ≤ S65552x128.size a)
theorem k0_mult248_dvd : ∀ (v2276 : BitVec 32) (k0_hw248 : k0_chk248 v2276), 4 ∣ (k0_mult248 v2276).toNat := fun v2276 k0_hw248 => k0_hw248.1
theorem k0_off502_inb : ∀ (v2276 : BitVec 32) (k0_hw248 : k0_chk248 v2276), ∀ a, (k0_off502 v2276) a + S8x128.size a ≤ S65552x128.size a := fun v2276 k0_hw248 => k0_hw248.2

def k0_off503 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2289 : Index := Scalar.indexCast v1206
  ![v2289.toNat]
def k0_mult249 (v2290 : BitVec 32) : BitVec 32 :=
  v2290

def k0_off504 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2293 : Index := Scalar.indexCast v1206
  ![v2293.toNat]
def k0_mult250 (v2294 : BitVec 32) : BitVec 32 :=
  v2294

def k0_off505 (v2290 : BitVec 32) : Fin 2 → Nat :=
  let v2291 : BitVec 32 := v2290
  let v2296 : Index := Scalar.indexCast v2291
  let c0_711 : Index := 0#32
  ![v2296.toNat, 0]

def k0_chk249 (v2290 : BitVec 32) : Prop :=
  (4 ∣ (k0_mult249 v2290).toNat) ∧
  (∀ a, (k0_off505 v2290) a + S8x128.size a ≤ S65552x128.size a)
theorem k0_mult249_dvd : ∀ (v2290 : BitVec 32) (k0_hw249 : k0_chk249 v2290), 4 ∣ (k0_mult249 v2290).toNat := fun v2290 k0_hw249 => k0_hw249.1
theorem k0_off505_inb : ∀ (v2290 : BitVec 32) (k0_hw249 : k0_chk249 v2290), ∀ a, (k0_off505 v2290) a + S8x128.size a ≤ S65552x128.size a := fun v2290 k0_hw249 => k0_hw249.2

def k0_off506 (v2294 : BitVec 32) : Fin 2 → Nat :=
  let v2295 : BitVec 32 := v2294
  let v2298 : Index := Scalar.indexCast v2295
  let c0_712 : Index := 0#32
  ![v2298.toNat, 0]

def k0_chk250 (v2294 : BitVec 32) : Prop :=
  (4 ∣ (k0_mult250 v2294).toNat) ∧
  (∀ a, (k0_off506 v2294) a + S8x128.size a ≤ S65552x128.size a)
theorem k0_mult250_dvd : ∀ (v2294 : BitVec 32) (k0_hw250 : k0_chk250 v2294), 4 ∣ (k0_mult250 v2294).toNat := fun v2294 k0_hw250 => k0_hw250.1
theorem k0_off506_inb : ∀ (v2294 : BitVec 32) (k0_hw250 : k0_chk250 v2294), ∀ a, (k0_off506 v2294) a + S8x128.size a ≤ S65552x128.size a := fun v2294 k0_hw250 => k0_hw250.2

def k0_off507 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2307 : Index := Scalar.indexCast v1206
  ![v2307.toNat]
def k0_mult251 (v2308 : BitVec 32) : BitVec 32 :=
  v2308

def k0_off508 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2311 : Index := Scalar.indexCast v1206
  ![v2311.toNat]
def k0_mult252 (v2312 : BitVec 32) : BitVec 32 :=
  v2312

def k0_off509 (v2308 : BitVec 32) : Fin 2 → Nat :=
  let v2309 : BitVec 32 := v2308
  let v2314 : Index := Scalar.indexCast v2309
  let c0_718 : Index := 0#32
  ![v2314.toNat, 0]

def k0_chk251 (v2308 : BitVec 32) : Prop :=
  (4 ∣ (k0_mult251 v2308).toNat) ∧
  (∀ a, (k0_off509 v2308) a + S8x128.size a ≤ S65552x128.size a)
theorem k0_mult251_dvd : ∀ (v2308 : BitVec 32) (k0_hw251 : k0_chk251 v2308), 4 ∣ (k0_mult251 v2308).toNat := fun v2308 k0_hw251 => k0_hw251.1
theorem k0_off509_inb : ∀ (v2308 : BitVec 32) (k0_hw251 : k0_chk251 v2308), ∀ a, (k0_off509 v2308) a + S8x128.size a ≤ S65552x128.size a := fun v2308 k0_hw251 => k0_hw251.2

def k0_off510 (v2312 : BitVec 32) : Fin 2 → Nat :=
  let v2313 : BitVec 32 := v2312
  let v2316 : Index := Scalar.indexCast v2313
  let c0_719 : Index := 0#32
  ![v2316.toNat, 0]

def k0_chk252 (v2312 : BitVec 32) : Prop :=
  (4 ∣ (k0_mult252 v2312).toNat) ∧
  (∀ a, (k0_off510 v2312) a + S8x128.size a ≤ S65552x128.size a)
theorem k0_mult252_dvd : ∀ (v2312 : BitVec 32) (k0_hw252 : k0_chk252 v2312), 4 ∣ (k0_mult252 v2312).toNat := fun v2312 k0_hw252 => k0_hw252.1
theorem k0_off510_inb : ∀ (v2312 : BitVec 32) (k0_hw252 : k0_chk252 v2312), ∀ a, (k0_off510 v2312) a + S8x128.size a ≤ S65552x128.size a := fun v2312 k0_hw252 => k0_hw252.2

def k0_off511 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2325 : Index := Scalar.indexCast v1206
  ![v2325.toNat]
def k0_mult253 (v2326 : BitVec 32) : BitVec 32 :=
  v2326

def k0_off512 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2329 : Index := Scalar.indexCast v1206
  ![v2329.toNat]
def k0_mult254 (v2330 : BitVec 32) : BitVec 32 :=
  v2330

def k0_off513 (v2326 : BitVec 32) : Fin 2 → Nat :=
  let v2327 : BitVec 32 := v2326
  let v2332 : Index := Scalar.indexCast v2327
  let c0_725 : Index := 0#32
  ![v2332.toNat, 0]

def k0_chk253 (v2326 : BitVec 32) : Prop :=
  (4 ∣ (k0_mult253 v2326).toNat) ∧
  (∀ a, (k0_off513 v2326) a + S8x128.size a ≤ S65552x128.size a)
theorem k0_mult253_dvd : ∀ (v2326 : BitVec 32) (k0_hw253 : k0_chk253 v2326), 4 ∣ (k0_mult253 v2326).toNat := fun v2326 k0_hw253 => k0_hw253.1
theorem k0_off513_inb : ∀ (v2326 : BitVec 32) (k0_hw253 : k0_chk253 v2326), ∀ a, (k0_off513 v2326) a + S8x128.size a ≤ S65552x128.size a := fun v2326 k0_hw253 => k0_hw253.2

def k0_off514 (v2330 : BitVec 32) : Fin 2 → Nat :=
  let v2331 : BitVec 32 := v2330
  let v2334 : Index := Scalar.indexCast v2331
  let c0_726 : Index := 0#32
  ![v2334.toNat, 0]

def k0_chk254 (v2330 : BitVec 32) : Prop :=
  (4 ∣ (k0_mult254 v2330).toNat) ∧
  (∀ a, (k0_off514 v2330) a + S8x128.size a ≤ S65552x128.size a)
theorem k0_mult254_dvd : ∀ (v2330 : BitVec 32) (k0_hw254 : k0_chk254 v2330), 4 ∣ (k0_mult254 v2330).toNat := fun v2330 k0_hw254 => k0_hw254.1
theorem k0_off514_inb : ∀ (v2330 : BitVec 32) (k0_hw254 : k0_chk254 v2330), ∀ a, (k0_off514 v2330) a + S8x128.size a ≤ S65552x128.size a := fun v2330 k0_hw254 => k0_hw254.2

def k0_off515 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2343 : Index := Scalar.indexCast v1206
  ![v2343.toNat]
def k0_mult255 (v2344 : BitVec 32) : BitVec 32 :=
  v2344

def k0_off516 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_287 : BitVec 32 := 1#32
  let v1204 : BitVec 32 := Scalar.addi v1203 c1_i32_287
  let c127_i32_288 : BitVec 32 := 127#32
  let v1205 : BitVec 32 := Scalar.minsi v1204 c127_i32_288
  let v1206 : BitVec 32 := Scalar.addi v14 v1205
  let v2347 : Index := Scalar.indexCast v1206
  ![v2347.toNat]
def k0_mult256 (v2348 : BitVec 32) : BitVec 32 :=
  v2348

def k0_off517 (v2344 : BitVec 32) : Fin 2 → Nat :=
  let v2345 : BitVec 32 := v2344
  let v2350 : Index := Scalar.indexCast v2345
  let c0_732 : Index := 0#32
  ![v2350.toNat, 0]

def k0_chk255 (v2344 : BitVec 32) : Prop :=
  (4 ∣ (k0_mult255 v2344).toNat) ∧
  (∀ a, (k0_off517 v2344) a + S8x128.size a ≤ S65552x128.size a)
theorem k0_mult255_dvd : ∀ (v2344 : BitVec 32) (k0_hw255 : k0_chk255 v2344), 4 ∣ (k0_mult255 v2344).toNat := fun v2344 k0_hw255 => k0_hw255.1
theorem k0_off517_inb : ∀ (v2344 : BitVec 32) (k0_hw255 : k0_chk255 v2344), ∀ a, (k0_off517 v2344) a + S8x128.size a ≤ S65552x128.size a := fun v2344 k0_hw255 => k0_hw255.2

def k0_off518 (v2348 : BitVec 32) : Fin 2 → Nat :=
  let v2349 : BitVec 32 := v2348
  let v2352 : Index := Scalar.indexCast v2349
  let c0_733 : Index := 0#32
  ![v2352.toNat, 0]

def k0_chk256 (v2348 : BitVec 32) : Prop :=
  (4 ∣ (k0_mult256 v2348).toNat) ∧
  (∀ a, (k0_off518 v2348) a + S8x128.size a ≤ S65552x128.size a)
theorem k0_mult256_dvd : ∀ (v2348 : BitVec 32) (k0_hw256 : k0_chk256 v2348), 4 ∣ (k0_mult256 v2348).toNat := fun v2348 k0_hw256 => k0_hw256.1
theorem k0_off518_inb : ∀ (v2348 : BitVec 32) (k0_hw256 : k0_chk256 v2348), ∀ a, (k0_off518 v2348) a + S8x128.size a ≤ S65552x128.size a := fun v2348 k0_hw256 => k0_hw256.2

def k0_off519 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let v2360 : Index := Scalar.indexCast v1203
  let c0_737 : Index := 0#32
  let c0_738 : Index := 0#32
  ![v2360.toNat, 0, 0]
def k0_off520 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_744 : BitVec 32 := 1#32
  let v2414 : BitVec 32 := Scalar.addi v1203 c1_i32_744
  let v2415 : Index := Scalar.indexCast v2414
  let c0_745 : Index := 0#32
  let c0_746 : Index := 0#32
  ![v2415.toNat, 0, 0]
def k0_off521 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_752 : BitVec 32 := 1#32
  let v2446 : BitVec 32 := Scalar.addi v1203 c1_i32_752
  let v2447 : Index := Scalar.indexCast v2446
  let c8_753 : Index := 8#32
  let c0_754 : Index := 0#32
  ![v2447.toNat, 8, 0]
def k0_off522 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_760 : BitVec 32 := 1#32
  let v2478 : BitVec 32 := Scalar.addi v1203 c1_i32_760
  let v2479 : Index := Scalar.indexCast v2478
  let c16_761 : Index := 16#32
  let c0_762 : Index := 0#32
  ![v2479.toNat, 16, 0]
def k0_off523 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_768 : BitVec 32 := 1#32
  let v2510 : BitVec 32 := Scalar.addi v1203 c1_i32_768
  let v2511 : Index := Scalar.indexCast v2510
  let c24_769 : Index := 24#32
  let c0_770 : Index := 0#32
  ![v2511.toNat, 24, 0]
def k0_off524 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_776 : BitVec 32 := 1#32
  let v2542 : BitVec 32 := Scalar.addi v1203 c1_i32_776
  let v2543 : Index := Scalar.indexCast v2542
  let c32_777 : Index := 32#32
  let c0_778 : Index := 0#32
  ![v2543.toNat, 32, 0]
def k0_off525 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_784 : BitVec 32 := 1#32
  let v2574 : BitVec 32 := Scalar.addi v1203 c1_i32_784
  let v2575 : Index := Scalar.indexCast v2574
  let c40_785 : Index := 40#32
  let c0_786 : Index := 0#32
  ![v2575.toNat, 40, 0]
def k0_off526 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_792 : BitVec 32 := 1#32
  let v2606 : BitVec 32 := Scalar.addi v1203 c1_i32_792
  let v2607 : Index := Scalar.indexCast v2606
  let c48_793 : Index := 48#32
  let c0_794 : Index := 0#32
  ![v2607.toNat, 48, 0]
def k0_off527 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_800 : BitVec 32 := 1#32
  let v2638 : BitVec 32 := Scalar.addi v1203 c1_i32_800
  let v2639 : Index := Scalar.indexCast v2638
  let c56_801 : Index := 56#32
  let c0_802 : Index := 0#32
  ![v2639.toNat, 56, 0]
def k0_off528 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_808 : BitVec 32 := 1#32
  let v2670 : BitVec 32 := Scalar.addi v1203 c1_i32_808
  let v2671 : Index := Scalar.indexCast v2670
  let c64_809 : Index := 64#32
  let c0_810 : Index := 0#32
  ![v2671.toNat, 64, 0]
def k0_off529 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_816 : BitVec 32 := 1#32
  let v2702 : BitVec 32 := Scalar.addi v1203 c1_i32_816
  let v2703 : Index := Scalar.indexCast v2702
  let c72_817 : Index := 72#32
  let c0_818 : Index := 0#32
  ![v2703.toNat, 72, 0]
def k0_off530 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_824 : BitVec 32 := 1#32
  let v2734 : BitVec 32 := Scalar.addi v1203 c1_i32_824
  let v2735 : Index := Scalar.indexCast v2734
  let c80_825 : Index := 80#32
  let c0_826 : Index := 0#32
  ![v2735.toNat, 80, 0]
def k0_off531 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_832 : BitVec 32 := 1#32
  let v2766 : BitVec 32 := Scalar.addi v1203 c1_i32_832
  let v2767 : Index := Scalar.indexCast v2766
  let c88_833 : Index := 88#32
  let c0_834 : Index := 0#32
  ![v2767.toNat, 88, 0]
def k0_off532 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_840 : BitVec 32 := 1#32
  let v2798 : BitVec 32 := Scalar.addi v1203 c1_i32_840
  let v2799 : Index := Scalar.indexCast v2798
  let c96_841 : Index := 96#32
  let c0_842 : Index := 0#32
  ![v2799.toNat, 96, 0]
def k0_off533 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_848 : BitVec 32 := 1#32
  let v2830 : BitVec 32 := Scalar.addi v1203 c1_i32_848
  let v2831 : Index := Scalar.indexCast v2830
  let c104_849 : Index := 104#32
  let c0_850 : Index := 0#32
  ![v2831.toNat, 104, 0]
def k0_off534 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_856 : BitVec 32 := 1#32
  let v2862 : BitVec 32 := Scalar.addi v1203 c1_i32_856
  let v2863 : Index := Scalar.indexCast v2862
  let c112_857 : Index := 112#32
  let c0_858 : Index := 0#32
  ![v2863.toNat, 112, 0]
def k0_off535 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_864 : BitVec 32 := 1#32
  let v2894 : BitVec 32 := Scalar.addi v1203 c1_i32_864
  let v2895 : Index := Scalar.indexCast v2894
  let c120_865 : Index := 120#32
  let c0_866 : Index := 0#32
  ![v2895.toNat, 120, 0]
def k0_off536 (k0_t1 : Fin k0_t1_loop.trips) : Fin 3 → Nat :=
  let c2_i32_285 : BitVec 32 := 2#32
  let c0_i32_265 : BitVec 32 := 0#32
  let c1_i32_266 : BitVec 32 := 1#32
  let arg14 : BitVec 32 := Scf.iv c0_i32_265 c1_i32_266 k0_t1
  let v1202 : BitVec 32 := Scalar.muli c2_i32_285 arg14
  let c0_i32_286 : BitVec 32 := 0#32
  let v1203 : BitVec 32 := Scalar.addi v1202 c0_i32_286
  let c1_i32_867 : BitVec 32 := 1#32
  let v2899 : BitVec 32 := Scalar.subi v1203 c1_i32_867
  let c1_i32_868 : BitVec 32 := 1#32
  let v2900 : BitVec 32 := Scalar.addi v2899 c1_i32_868
  let v2901 : Index := Scalar.indexCast v2900
  let c0_869 : Index := 0#32
  let c0_870 : Index := 0#32
  ![v2901.toNat, 0, 0]
def k0_off537 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v2921 : Index := Scalar.indexCast v2918
  ![v2921.toNat]
def k0_mult257 (v2922 : BitVec 32) : BitVec 32 :=
  v2922

def k0_off538 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v2925 : Index := Scalar.indexCast v2918
  ![v2925.toNat]
def k0_mult258 (v2926 : BitVec 32) : BitVec 32 :=
  v2926

def k0_off539 (v2922 : BitVec 32) : Fin 2 → Nat :=
  let v2923 : BitVec 32 := v2922
  let v2928 : Index := Scalar.indexCast v2923
  let c0_880 : Index := 0#32
  ![v2928.toNat, 0]

def k0_chk257 (v2922 : BitVec 32) : Prop :=
  (4 ∣ (k0_mult257 v2922).toNat) ∧
  (∀ a, (k0_off539 v2922) a + S8x128.size a ≤ S65552x128.size a)
theorem k0_mult257_dvd : ∀ (v2922 : BitVec 32) (k0_hw257 : k0_chk257 v2922), 4 ∣ (k0_mult257 v2922).toNat := fun v2922 k0_hw257 => k0_hw257.1
theorem k0_off539_inb : ∀ (v2922 : BitVec 32) (k0_hw257 : k0_chk257 v2922), ∀ a, (k0_off539 v2922) a + S8x128.size a ≤ S65552x128.size a := fun v2922 k0_hw257 => k0_hw257.2

def k0_off540 (v2926 : BitVec 32) : Fin 2 → Nat :=
  let v2927 : BitVec 32 := v2926
  let v2930 : Index := Scalar.indexCast v2927
  let c0_881 : Index := 0#32
  ![v2930.toNat, 0]

def k0_chk258 (v2926 : BitVec 32) : Prop :=
  (4 ∣ (k0_mult258 v2926).toNat) ∧
  (∀ a, (k0_off540 v2926) a + S8x128.size a ≤ S65552x128.size a)
theorem k0_mult258_dvd : ∀ (v2926 : BitVec 32) (k0_hw258 : k0_chk258 v2926), 4 ∣ (k0_mult258 v2926).toNat := fun v2926 k0_hw258 => k0_hw258.1
theorem k0_off540_inb : ∀ (v2926 : BitVec 32) (k0_hw258 : k0_chk258 v2926), ∀ a, (k0_off540 v2926) a + S8x128.size a ≤ S65552x128.size a := fun v2926 k0_hw258 => k0_hw258.2

def k0_off541 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v2939 : Index := Scalar.indexCast v2918
  ![v2939.toNat]
def k0_mult259 (v2940 : BitVec 32) : BitVec 32 :=
  v2940

def k0_off542 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v2943 : Index := Scalar.indexCast v2918
  ![v2943.toNat]
def k0_mult260 (v2944 : BitVec 32) : BitVec 32 :=
  v2944

def k0_off543 (v2940 : BitVec 32) : Fin 2 → Nat :=
  let v2941 : BitVec 32 := v2940
  let v2946 : Index := Scalar.indexCast v2941
  let c0_887 : Index := 0#32
  ![v2946.toNat, 0]

def k0_chk259 (v2940 : BitVec 32) : Prop :=
  (4 ∣ (k0_mult259 v2940).toNat) ∧
  (∀ a, (k0_off543 v2940) a + S8x128.size a ≤ S65552x128.size a)
theorem k0_mult259_dvd : ∀ (v2940 : BitVec 32) (k0_hw259 : k0_chk259 v2940), 4 ∣ (k0_mult259 v2940).toNat := fun v2940 k0_hw259 => k0_hw259.1
theorem k0_off543_inb : ∀ (v2940 : BitVec 32) (k0_hw259 : k0_chk259 v2940), ∀ a, (k0_off543 v2940) a + S8x128.size a ≤ S65552x128.size a := fun v2940 k0_hw259 => k0_hw259.2

def k0_off544 (v2944 : BitVec 32) : Fin 2 → Nat :=
  let v2945 : BitVec 32 := v2944
  let v2948 : Index := Scalar.indexCast v2945
  let c0_888 : Index := 0#32
  ![v2948.toNat, 0]

def k0_chk260 (v2944 : BitVec 32) : Prop :=
  (4 ∣ (k0_mult260 v2944).toNat) ∧
  (∀ a, (k0_off544 v2944) a + S8x128.size a ≤ S65552x128.size a)
theorem k0_mult260_dvd : ∀ (v2944 : BitVec 32) (k0_hw260 : k0_chk260 v2944), 4 ∣ (k0_mult260 v2944).toNat := fun v2944 k0_hw260 => k0_hw260.1
theorem k0_off544_inb : ∀ (v2944 : BitVec 32) (k0_hw260 : k0_chk260 v2944), ∀ a, (k0_off544 v2944) a + S8x128.size a ≤ S65552x128.size a := fun v2944 k0_hw260 => k0_hw260.2

def k0_off545 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v2957 : Index := Scalar.indexCast v2918
  ![v2957.toNat]
def k0_mult261 (v2958 : BitVec 32) : BitVec 32 :=
  v2958

def k0_off546 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v2961 : Index := Scalar.indexCast v2918
  ![v2961.toNat]
def k0_mult262 (v2962 : BitVec 32) : BitVec 32 :=
  v2962

def k0_off547 (v2958 : BitVec 32) : Fin 2 → Nat :=
  let v2959 : BitVec 32 := v2958
  let v2964 : Index := Scalar.indexCast v2959
  let c0_894 : Index := 0#32
  ![v2964.toNat, 0]

def k0_chk261 (v2958 : BitVec 32) : Prop :=
  (4 ∣ (k0_mult261 v2958).toNat) ∧
  (∀ a, (k0_off547 v2958) a + S8x128.size a ≤ S65552x128.size a)
theorem k0_mult261_dvd : ∀ (v2958 : BitVec 32) (k0_hw261 : k0_chk261 v2958), 4 ∣ (k0_mult261 v2958).toNat := fun v2958 k0_hw261 => k0_hw261.1
theorem k0_off547_inb : ∀ (v2958 : BitVec 32) (k0_hw261 : k0_chk261 v2958), ∀ a, (k0_off547 v2958) a + S8x128.size a ≤ S65552x128.size a := fun v2958 k0_hw261 => k0_hw261.2

def k0_off548 (v2962 : BitVec 32) : Fin 2 → Nat :=
  let v2963 : BitVec 32 := v2962
  let v2966 : Index := Scalar.indexCast v2963
  let c0_895 : Index := 0#32
  ![v2966.toNat, 0]

def k0_chk262 (v2962 : BitVec 32) : Prop :=
  (4 ∣ (k0_mult262 v2962).toNat) ∧
  (∀ a, (k0_off548 v2962) a + S8x128.size a ≤ S65552x128.size a)
theorem k0_mult262_dvd : ∀ (v2962 : BitVec 32) (k0_hw262 : k0_chk262 v2962), 4 ∣ (k0_mult262 v2962).toNat := fun v2962 k0_hw262 => k0_hw262.1
theorem k0_off548_inb : ∀ (v2962 : BitVec 32) (k0_hw262 : k0_chk262 v2962), ∀ a, (k0_off548 v2962) a + S8x128.size a ≤ S65552x128.size a := fun v2962 k0_hw262 => k0_hw262.2

def k0_off549 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v2975 : Index := Scalar.indexCast v2918
  ![v2975.toNat]
def k0_mult263 (v2976 : BitVec 32) : BitVec 32 :=
  v2976

def k0_off550 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v2979 : Index := Scalar.indexCast v2918
  ![v2979.toNat]
def k0_mult264 (v2980 : BitVec 32) : BitVec 32 :=
  v2980

def k0_off551 (v2976 : BitVec 32) : Fin 2 → Nat :=
  let v2977 : BitVec 32 := v2976
  let v2982 : Index := Scalar.indexCast v2977
  let c0_901 : Index := 0#32
  ![v2982.toNat, 0]

def k0_chk263 (v2976 : BitVec 32) : Prop :=
  (4 ∣ (k0_mult263 v2976).toNat) ∧
  (∀ a, (k0_off551 v2976) a + S8x128.size a ≤ S65552x128.size a)
theorem k0_mult263_dvd : ∀ (v2976 : BitVec 32) (k0_hw263 : k0_chk263 v2976), 4 ∣ (k0_mult263 v2976).toNat := fun v2976 k0_hw263 => k0_hw263.1
theorem k0_off551_inb : ∀ (v2976 : BitVec 32) (k0_hw263 : k0_chk263 v2976), ∀ a, (k0_off551 v2976) a + S8x128.size a ≤ S65552x128.size a := fun v2976 k0_hw263 => k0_hw263.2

def k0_off552 (v2980 : BitVec 32) : Fin 2 → Nat :=
  let v2981 : BitVec 32 := v2980
  let v2984 : Index := Scalar.indexCast v2981
  let c0_902 : Index := 0#32
  ![v2984.toNat, 0]

def k0_chk264 (v2980 : BitVec 32) : Prop :=
  (4 ∣ (k0_mult264 v2980).toNat) ∧
  (∀ a, (k0_off552 v2980) a + S8x128.size a ≤ S65552x128.size a)
theorem k0_mult264_dvd : ∀ (v2980 : BitVec 32) (k0_hw264 : k0_chk264 v2980), 4 ∣ (k0_mult264 v2980).toNat := fun v2980 k0_hw264 => k0_hw264.1
theorem k0_off552_inb : ∀ (v2980 : BitVec 32) (k0_hw264 : k0_chk264 v2980), ∀ a, (k0_off552 v2980) a + S8x128.size a ≤ S65552x128.size a := fun v2980 k0_hw264 => k0_hw264.2

def k0_off553 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v2993 : Index := Scalar.indexCast v2918
  ![v2993.toNat]
def k0_mult265 (v2994 : BitVec 32) : BitVec 32 :=
  v2994

def k0_off554 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v2997 : Index := Scalar.indexCast v2918
  ![v2997.toNat]
def k0_mult266 (v2998 : BitVec 32) : BitVec 32 :=
  v2998

def k0_off555 (v2994 : BitVec 32) : Fin 2 → Nat :=
  let v2995 : BitVec 32 := v2994
  let v3000 : Index := Scalar.indexCast v2995
  let c0_908 : Index := 0#32
  ![v3000.toNat, 0]

def k0_chk265 (v2994 : BitVec 32) : Prop :=
  (4 ∣ (k0_mult265 v2994).toNat) ∧
  (∀ a, (k0_off555 v2994) a + S8x128.size a ≤ S65552x128.size a)
theorem k0_mult265_dvd : ∀ (v2994 : BitVec 32) (k0_hw265 : k0_chk265 v2994), 4 ∣ (k0_mult265 v2994).toNat := fun v2994 k0_hw265 => k0_hw265.1
theorem k0_off555_inb : ∀ (v2994 : BitVec 32) (k0_hw265 : k0_chk265 v2994), ∀ a, (k0_off555 v2994) a + S8x128.size a ≤ S65552x128.size a := fun v2994 k0_hw265 => k0_hw265.2

def k0_off556 (v2998 : BitVec 32) : Fin 2 → Nat :=
  let v2999 : BitVec 32 := v2998
  let v3002 : Index := Scalar.indexCast v2999
  let c0_909 : Index := 0#32
  ![v3002.toNat, 0]

def k0_chk266 (v2998 : BitVec 32) : Prop :=
  (4 ∣ (k0_mult266 v2998).toNat) ∧
  (∀ a, (k0_off556 v2998) a + S8x128.size a ≤ S65552x128.size a)
theorem k0_mult266_dvd : ∀ (v2998 : BitVec 32) (k0_hw266 : k0_chk266 v2998), 4 ∣ (k0_mult266 v2998).toNat := fun v2998 k0_hw266 => k0_hw266.1
theorem k0_off556_inb : ∀ (v2998 : BitVec 32) (k0_hw266 : k0_chk266 v2998), ∀ a, (k0_off556 v2998) a + S8x128.size a ≤ S65552x128.size a := fun v2998 k0_hw266 => k0_hw266.2

def k0_off557 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3011 : Index := Scalar.indexCast v2918
  ![v3011.toNat]
def k0_mult267 (v3012 : BitVec 32) : BitVec 32 :=
  v3012

def k0_off558 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3015 : Index := Scalar.indexCast v2918
  ![v3015.toNat]
def k0_mult268 (v3016 : BitVec 32) : BitVec 32 :=
  v3016

def k0_off559 (v3012 : BitVec 32) : Fin 2 → Nat :=
  let v3013 : BitVec 32 := v3012
  let v3018 : Index := Scalar.indexCast v3013
  let c0_915 : Index := 0#32
  ![v3018.toNat, 0]

def k0_chk267 (v3012 : BitVec 32) : Prop :=
  (4 ∣ (k0_mult267 v3012).toNat) ∧
  (∀ a, (k0_off559 v3012) a + S8x128.size a ≤ S65552x128.size a)
theorem k0_mult267_dvd : ∀ (v3012 : BitVec 32) (k0_hw267 : k0_chk267 v3012), 4 ∣ (k0_mult267 v3012).toNat := fun v3012 k0_hw267 => k0_hw267.1
theorem k0_off559_inb : ∀ (v3012 : BitVec 32) (k0_hw267 : k0_chk267 v3012), ∀ a, (k0_off559 v3012) a + S8x128.size a ≤ S65552x128.size a := fun v3012 k0_hw267 => k0_hw267.2

def k0_off560 (v3016 : BitVec 32) : Fin 2 → Nat :=
  let v3017 : BitVec 32 := v3016
  let v3020 : Index := Scalar.indexCast v3017
  let c0_916 : Index := 0#32
  ![v3020.toNat, 0]

def k0_chk268 (v3016 : BitVec 32) : Prop :=
  (4 ∣ (k0_mult268 v3016).toNat) ∧
  (∀ a, (k0_off560 v3016) a + S8x128.size a ≤ S65552x128.size a)
theorem k0_mult268_dvd : ∀ (v3016 : BitVec 32) (k0_hw268 : k0_chk268 v3016), 4 ∣ (k0_mult268 v3016).toNat := fun v3016 k0_hw268 => k0_hw268.1
theorem k0_off560_inb : ∀ (v3016 : BitVec 32) (k0_hw268 : k0_chk268 v3016), ∀ a, (k0_off560 v3016) a + S8x128.size a ≤ S65552x128.size a := fun v3016 k0_hw268 => k0_hw268.2

def k0_off561 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3029 : Index := Scalar.indexCast v2918
  ![v3029.toNat]
def k0_mult269 (v3030 : BitVec 32) : BitVec 32 :=
  v3030

def k0_off562 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3033 : Index := Scalar.indexCast v2918
  ![v3033.toNat]
def k0_mult270 (v3034 : BitVec 32) : BitVec 32 :=
  v3034

def k0_off563 (v3030 : BitVec 32) : Fin 2 → Nat :=
  let v3031 : BitVec 32 := v3030
  let v3036 : Index := Scalar.indexCast v3031
  let c0_922 : Index := 0#32
  ![v3036.toNat, 0]

def k0_chk269 (v3030 : BitVec 32) : Prop :=
  (4 ∣ (k0_mult269 v3030).toNat) ∧
  (∀ a, (k0_off563 v3030) a + S8x128.size a ≤ S65552x128.size a)
theorem k0_mult269_dvd : ∀ (v3030 : BitVec 32) (k0_hw269 : k0_chk269 v3030), 4 ∣ (k0_mult269 v3030).toNat := fun v3030 k0_hw269 => k0_hw269.1
theorem k0_off563_inb : ∀ (v3030 : BitVec 32) (k0_hw269 : k0_chk269 v3030), ∀ a, (k0_off563 v3030) a + S8x128.size a ≤ S65552x128.size a := fun v3030 k0_hw269 => k0_hw269.2

def k0_off564 (v3034 : BitVec 32) : Fin 2 → Nat :=
  let v3035 : BitVec 32 := v3034
  let v3038 : Index := Scalar.indexCast v3035
  let c0_923 : Index := 0#32
  ![v3038.toNat, 0]

def k0_chk270 (v3034 : BitVec 32) : Prop :=
  (4 ∣ (k0_mult270 v3034).toNat) ∧
  (∀ a, (k0_off564 v3034) a + S8x128.size a ≤ S65552x128.size a)
theorem k0_mult270_dvd : ∀ (v3034 : BitVec 32) (k0_hw270 : k0_chk270 v3034), 4 ∣ (k0_mult270 v3034).toNat := fun v3034 k0_hw270 => k0_hw270.1
theorem k0_off564_inb : ∀ (v3034 : BitVec 32) (k0_hw270 : k0_chk270 v3034), ∀ a, (k0_off564 v3034) a + S8x128.size a ≤ S65552x128.size a := fun v3034 k0_hw270 => k0_hw270.2

def k0_off565 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3047 : Index := Scalar.indexCast v2918
  ![v3047.toNat]
def k0_mult271 (v3048 : BitVec 32) : BitVec 32 :=
  v3048

def k0_off566 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3051 : Index := Scalar.indexCast v2918
  ![v3051.toNat]
def k0_mult272 (v3052 : BitVec 32) : BitVec 32 :=
  v3052

def k0_off567 (v3048 : BitVec 32) : Fin 2 → Nat :=
  let v3049 : BitVec 32 := v3048
  let v3054 : Index := Scalar.indexCast v3049
  let c0_929 : Index := 0#32
  ![v3054.toNat, 0]

def k0_chk271 (v3048 : BitVec 32) : Prop :=
  (4 ∣ (k0_mult271 v3048).toNat) ∧
  (∀ a, (k0_off567 v3048) a + S8x128.size a ≤ S65552x128.size a)
theorem k0_mult271_dvd : ∀ (v3048 : BitVec 32) (k0_hw271 : k0_chk271 v3048), 4 ∣ (k0_mult271 v3048).toNat := fun v3048 k0_hw271 => k0_hw271.1
theorem k0_off567_inb : ∀ (v3048 : BitVec 32) (k0_hw271 : k0_chk271 v3048), ∀ a, (k0_off567 v3048) a + S8x128.size a ≤ S65552x128.size a := fun v3048 k0_hw271 => k0_hw271.2

def k0_off568 (v3052 : BitVec 32) : Fin 2 → Nat :=
  let v3053 : BitVec 32 := v3052
  let v3056 : Index := Scalar.indexCast v3053
  let c0_930 : Index := 0#32
  ![v3056.toNat, 0]

def k0_chk272 (v3052 : BitVec 32) : Prop :=
  (4 ∣ (k0_mult272 v3052).toNat) ∧
  (∀ a, (k0_off568 v3052) a + S8x128.size a ≤ S65552x128.size a)
theorem k0_mult272_dvd : ∀ (v3052 : BitVec 32) (k0_hw272 : k0_chk272 v3052), 4 ∣ (k0_mult272 v3052).toNat := fun v3052 k0_hw272 => k0_hw272.1
theorem k0_off568_inb : ∀ (v3052 : BitVec 32) (k0_hw272 : k0_chk272 v3052), ∀ a, (k0_off568 v3052) a + S8x128.size a ≤ S65552x128.size a := fun v3052 k0_hw272 => k0_hw272.2

def k0_off569 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3065 : Index := Scalar.indexCast v2918
  ![v3065.toNat]
def k0_mult273 (v3066 : BitVec 32) : BitVec 32 :=
  v3066

def k0_off570 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3069 : Index := Scalar.indexCast v2918
  ![v3069.toNat]
def k0_mult274 (v3070 : BitVec 32) : BitVec 32 :=
  v3070

def k0_off571 (v3066 : BitVec 32) : Fin 2 → Nat :=
  let v3067 : BitVec 32 := v3066
  let v3072 : Index := Scalar.indexCast v3067
  let c0_936 : Index := 0#32
  ![v3072.toNat, 0]

def k0_chk273 (v3066 : BitVec 32) : Prop :=
  (4 ∣ (k0_mult273 v3066).toNat) ∧
  (∀ a, (k0_off571 v3066) a + S8x128.size a ≤ S65552x128.size a)
theorem k0_mult273_dvd : ∀ (v3066 : BitVec 32) (k0_hw273 : k0_chk273 v3066), 4 ∣ (k0_mult273 v3066).toNat := fun v3066 k0_hw273 => k0_hw273.1
theorem k0_off571_inb : ∀ (v3066 : BitVec 32) (k0_hw273 : k0_chk273 v3066), ∀ a, (k0_off571 v3066) a + S8x128.size a ≤ S65552x128.size a := fun v3066 k0_hw273 => k0_hw273.2

def k0_off572 (v3070 : BitVec 32) : Fin 2 → Nat :=
  let v3071 : BitVec 32 := v3070
  let v3074 : Index := Scalar.indexCast v3071
  let c0_937 : Index := 0#32
  ![v3074.toNat, 0]

def k0_chk274 (v3070 : BitVec 32) : Prop :=
  (4 ∣ (k0_mult274 v3070).toNat) ∧
  (∀ a, (k0_off572 v3070) a + S8x128.size a ≤ S65552x128.size a)
theorem k0_mult274_dvd : ∀ (v3070 : BitVec 32) (k0_hw274 : k0_chk274 v3070), 4 ∣ (k0_mult274 v3070).toNat := fun v3070 k0_hw274 => k0_hw274.1
theorem k0_off572_inb : ∀ (v3070 : BitVec 32) (k0_hw274 : k0_chk274 v3070), ∀ a, (k0_off572 v3070) a + S8x128.size a ≤ S65552x128.size a := fun v3070 k0_hw274 => k0_hw274.2

def k0_off573 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3083 : Index := Scalar.indexCast v2918
  ![v3083.toNat]
def k0_mult275 (v3084 : BitVec 32) : BitVec 32 :=
  v3084

def k0_off574 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3087 : Index := Scalar.indexCast v2918
  ![v3087.toNat]
def k0_mult276 (v3088 : BitVec 32) : BitVec 32 :=
  v3088

def k0_off575 (v3084 : BitVec 32) : Fin 2 → Nat :=
  let v3085 : BitVec 32 := v3084
  let v3090 : Index := Scalar.indexCast v3085
  let c0_943 : Index := 0#32
  ![v3090.toNat, 0]

def k0_chk275 (v3084 : BitVec 32) : Prop :=
  (4 ∣ (k0_mult275 v3084).toNat) ∧
  (∀ a, (k0_off575 v3084) a + S8x128.size a ≤ S65552x128.size a)
theorem k0_mult275_dvd : ∀ (v3084 : BitVec 32) (k0_hw275 : k0_chk275 v3084), 4 ∣ (k0_mult275 v3084).toNat := fun v3084 k0_hw275 => k0_hw275.1
theorem k0_off575_inb : ∀ (v3084 : BitVec 32) (k0_hw275 : k0_chk275 v3084), ∀ a, (k0_off575 v3084) a + S8x128.size a ≤ S65552x128.size a := fun v3084 k0_hw275 => k0_hw275.2

def k0_off576 (v3088 : BitVec 32) : Fin 2 → Nat :=
  let v3089 : BitVec 32 := v3088
  let v3092 : Index := Scalar.indexCast v3089
  let c0_944 : Index := 0#32
  ![v3092.toNat, 0]

def k0_chk276 (v3088 : BitVec 32) : Prop :=
  (4 ∣ (k0_mult276 v3088).toNat) ∧
  (∀ a, (k0_off576 v3088) a + S8x128.size a ≤ S65552x128.size a)
theorem k0_mult276_dvd : ∀ (v3088 : BitVec 32) (k0_hw276 : k0_chk276 v3088), 4 ∣ (k0_mult276 v3088).toNat := fun v3088 k0_hw276 => k0_hw276.1
theorem k0_off576_inb : ∀ (v3088 : BitVec 32) (k0_hw276 : k0_chk276 v3088), ∀ a, (k0_off576 v3088) a + S8x128.size a ≤ S65552x128.size a := fun v3088 k0_hw276 => k0_hw276.2

def k0_off577 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3101 : Index := Scalar.indexCast v2918
  ![v3101.toNat]
def k0_mult277 (v3102 : BitVec 32) : BitVec 32 :=
  v3102

def k0_off578 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3105 : Index := Scalar.indexCast v2918
  ![v3105.toNat]
def k0_mult278 (v3106 : BitVec 32) : BitVec 32 :=
  v3106

def k0_off579 (v3102 : BitVec 32) : Fin 2 → Nat :=
  let v3103 : BitVec 32 := v3102
  let v3108 : Index := Scalar.indexCast v3103
  let c0_950 : Index := 0#32
  ![v3108.toNat, 0]

def k0_chk277 (v3102 : BitVec 32) : Prop :=
  (4 ∣ (k0_mult277 v3102).toNat) ∧
  (∀ a, (k0_off579 v3102) a + S8x128.size a ≤ S65552x128.size a)
theorem k0_mult277_dvd : ∀ (v3102 : BitVec 32) (k0_hw277 : k0_chk277 v3102), 4 ∣ (k0_mult277 v3102).toNat := fun v3102 k0_hw277 => k0_hw277.1
theorem k0_off579_inb : ∀ (v3102 : BitVec 32) (k0_hw277 : k0_chk277 v3102), ∀ a, (k0_off579 v3102) a + S8x128.size a ≤ S65552x128.size a := fun v3102 k0_hw277 => k0_hw277.2

def k0_off580 (v3106 : BitVec 32) : Fin 2 → Nat :=
  let v3107 : BitVec 32 := v3106
  let v3110 : Index := Scalar.indexCast v3107
  let c0_951 : Index := 0#32
  ![v3110.toNat, 0]

def k0_chk278 (v3106 : BitVec 32) : Prop :=
  (4 ∣ (k0_mult278 v3106).toNat) ∧
  (∀ a, (k0_off580 v3106) a + S8x128.size a ≤ S65552x128.size a)
theorem k0_mult278_dvd : ∀ (v3106 : BitVec 32) (k0_hw278 : k0_chk278 v3106), 4 ∣ (k0_mult278 v3106).toNat := fun v3106 k0_hw278 => k0_hw278.1
theorem k0_off580_inb : ∀ (v3106 : BitVec 32) (k0_hw278 : k0_chk278 v3106), ∀ a, (k0_off580 v3106) a + S8x128.size a ≤ S65552x128.size a := fun v3106 k0_hw278 => k0_hw278.2

def k0_off581 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3119 : Index := Scalar.indexCast v2918
  ![v3119.toNat]
def k0_mult279 (v3120 : BitVec 32) : BitVec 32 :=
  v3120

def k0_off582 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3123 : Index := Scalar.indexCast v2918
  ![v3123.toNat]
def k0_mult280 (v3124 : BitVec 32) : BitVec 32 :=
  v3124

def k0_off583 (v3120 : BitVec 32) : Fin 2 → Nat :=
  let v3121 : BitVec 32 := v3120
  let v3126 : Index := Scalar.indexCast v3121
  let c0_957 : Index := 0#32
  ![v3126.toNat, 0]

def k0_chk279 (v3120 : BitVec 32) : Prop :=
  (4 ∣ (k0_mult279 v3120).toNat) ∧
  (∀ a, (k0_off583 v3120) a + S8x128.size a ≤ S65552x128.size a)
theorem k0_mult279_dvd : ∀ (v3120 : BitVec 32) (k0_hw279 : k0_chk279 v3120), 4 ∣ (k0_mult279 v3120).toNat := fun v3120 k0_hw279 => k0_hw279.1
theorem k0_off583_inb : ∀ (v3120 : BitVec 32) (k0_hw279 : k0_chk279 v3120), ∀ a, (k0_off583 v3120) a + S8x128.size a ≤ S65552x128.size a := fun v3120 k0_hw279 => k0_hw279.2

def k0_off584 (v3124 : BitVec 32) : Fin 2 → Nat :=
  let v3125 : BitVec 32 := v3124
  let v3128 : Index := Scalar.indexCast v3125
  let c0_958 : Index := 0#32
  ![v3128.toNat, 0]

def k0_chk280 (v3124 : BitVec 32) : Prop :=
  (4 ∣ (k0_mult280 v3124).toNat) ∧
  (∀ a, (k0_off584 v3124) a + S8x128.size a ≤ S65552x128.size a)
theorem k0_mult280_dvd : ∀ (v3124 : BitVec 32) (k0_hw280 : k0_chk280 v3124), 4 ∣ (k0_mult280 v3124).toNat := fun v3124 k0_hw280 => k0_hw280.1
theorem k0_off584_inb : ∀ (v3124 : BitVec 32) (k0_hw280 : k0_chk280 v3124), ∀ a, (k0_off584 v3124) a + S8x128.size a ≤ S65552x128.size a := fun v3124 k0_hw280 => k0_hw280.2

def k0_off585 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3137 : Index := Scalar.indexCast v2918
  ![v3137.toNat]
def k0_mult281 (v3138 : BitVec 32) : BitVec 32 :=
  v3138

def k0_off586 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3141 : Index := Scalar.indexCast v2918
  ![v3141.toNat]
def k0_mult282 (v3142 : BitVec 32) : BitVec 32 :=
  v3142

def k0_off587 (v3138 : BitVec 32) : Fin 2 → Nat :=
  let v3139 : BitVec 32 := v3138
  let v3144 : Index := Scalar.indexCast v3139
  let c0_964 : Index := 0#32
  ![v3144.toNat, 0]

def k0_chk281 (v3138 : BitVec 32) : Prop :=
  (4 ∣ (k0_mult281 v3138).toNat) ∧
  (∀ a, (k0_off587 v3138) a + S8x128.size a ≤ S65552x128.size a)
theorem k0_mult281_dvd : ∀ (v3138 : BitVec 32) (k0_hw281 : k0_chk281 v3138), 4 ∣ (k0_mult281 v3138).toNat := fun v3138 k0_hw281 => k0_hw281.1
theorem k0_off587_inb : ∀ (v3138 : BitVec 32) (k0_hw281 : k0_chk281 v3138), ∀ a, (k0_off587 v3138) a + S8x128.size a ≤ S65552x128.size a := fun v3138 k0_hw281 => k0_hw281.2

def k0_off588 (v3142 : BitVec 32) : Fin 2 → Nat :=
  let v3143 : BitVec 32 := v3142
  let v3146 : Index := Scalar.indexCast v3143
  let c0_965 : Index := 0#32
  ![v3146.toNat, 0]

def k0_chk282 (v3142 : BitVec 32) : Prop :=
  (4 ∣ (k0_mult282 v3142).toNat) ∧
  (∀ a, (k0_off588 v3142) a + S8x128.size a ≤ S65552x128.size a)
theorem k0_mult282_dvd : ∀ (v3142 : BitVec 32) (k0_hw282 : k0_chk282 v3142), 4 ∣ (k0_mult282 v3142).toNat := fun v3142 k0_hw282 => k0_hw282.1
theorem k0_off588_inb : ∀ (v3142 : BitVec 32) (k0_hw282 : k0_chk282 v3142), ∀ a, (k0_off588 v3142) a + S8x128.size a ≤ S65552x128.size a := fun v3142 k0_hw282 => k0_hw282.2

def k0_off589 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3155 : Index := Scalar.indexCast v2918
  ![v3155.toNat]
def k0_mult283 (v3156 : BitVec 32) : BitVec 32 :=
  v3156

def k0_off590 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3159 : Index := Scalar.indexCast v2918
  ![v3159.toNat]
def k0_mult284 (v3160 : BitVec 32) : BitVec 32 :=
  v3160

def k0_off591 (v3156 : BitVec 32) : Fin 2 → Nat :=
  let v3157 : BitVec 32 := v3156
  let v3162 : Index := Scalar.indexCast v3157
  let c0_971 : Index := 0#32
  ![v3162.toNat, 0]

def k0_chk283 (v3156 : BitVec 32) : Prop :=
  (4 ∣ (k0_mult283 v3156).toNat) ∧
  (∀ a, (k0_off591 v3156) a + S8x128.size a ≤ S65552x128.size a)
theorem k0_mult283_dvd : ∀ (v3156 : BitVec 32) (k0_hw283 : k0_chk283 v3156), 4 ∣ (k0_mult283 v3156).toNat := fun v3156 k0_hw283 => k0_hw283.1
theorem k0_off591_inb : ∀ (v3156 : BitVec 32) (k0_hw283 : k0_chk283 v3156), ∀ a, (k0_off591 v3156) a + S8x128.size a ≤ S65552x128.size a := fun v3156 k0_hw283 => k0_hw283.2

def k0_off592 (v3160 : BitVec 32) : Fin 2 → Nat :=
  let v3161 : BitVec 32 := v3160
  let v3164 : Index := Scalar.indexCast v3161
  let c0_972 : Index := 0#32
  ![v3164.toNat, 0]

def k0_chk284 (v3160 : BitVec 32) : Prop :=
  (4 ∣ (k0_mult284 v3160).toNat) ∧
  (∀ a, (k0_off592 v3160) a + S8x128.size a ≤ S65552x128.size a)
theorem k0_mult284_dvd : ∀ (v3160 : BitVec 32) (k0_hw284 : k0_chk284 v3160), 4 ∣ (k0_mult284 v3160).toNat := fun v3160 k0_hw284 => k0_hw284.1
theorem k0_off592_inb : ∀ (v3160 : BitVec 32) (k0_hw284 : k0_chk284 v3160), ∀ a, (k0_off592 v3160) a + S8x128.size a ≤ S65552x128.size a := fun v3160 k0_hw284 => k0_hw284.2

def k0_off593 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3173 : Index := Scalar.indexCast v2918
  ![v3173.toNat]
def k0_mult285 (v3174 : BitVec 32) : BitVec 32 :=
  v3174

def k0_off594 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3177 : Index := Scalar.indexCast v2918
  ![v3177.toNat]
def k0_mult286 (v3178 : BitVec 32) : BitVec 32 :=
  v3178

def k0_off595 (v3174 : BitVec 32) : Fin 2 → Nat :=
  let v3175 : BitVec 32 := v3174
  let v3180 : Index := Scalar.indexCast v3175
  let c0_978 : Index := 0#32
  ![v3180.toNat, 0]

def k0_chk285 (v3174 : BitVec 32) : Prop :=
  (4 ∣ (k0_mult285 v3174).toNat) ∧
  (∀ a, (k0_off595 v3174) a + S8x128.size a ≤ S65552x128.size a)
theorem k0_mult285_dvd : ∀ (v3174 : BitVec 32) (k0_hw285 : k0_chk285 v3174), 4 ∣ (k0_mult285 v3174).toNat := fun v3174 k0_hw285 => k0_hw285.1
theorem k0_off595_inb : ∀ (v3174 : BitVec 32) (k0_hw285 : k0_chk285 v3174), ∀ a, (k0_off595 v3174) a + S8x128.size a ≤ S65552x128.size a := fun v3174 k0_hw285 => k0_hw285.2

def k0_off596 (v3178 : BitVec 32) : Fin 2 → Nat :=
  let v3179 : BitVec 32 := v3178
  let v3182 : Index := Scalar.indexCast v3179
  let c0_979 : Index := 0#32
  ![v3182.toNat, 0]

def k0_chk286 (v3178 : BitVec 32) : Prop :=
  (4 ∣ (k0_mult286 v3178).toNat) ∧
  (∀ a, (k0_off596 v3178) a + S8x128.size a ≤ S65552x128.size a)
theorem k0_mult286_dvd : ∀ (v3178 : BitVec 32) (k0_hw286 : k0_chk286 v3178), 4 ∣ (k0_mult286 v3178).toNat := fun v3178 k0_hw286 => k0_hw286.1
theorem k0_off596_inb : ∀ (v3178 : BitVec 32) (k0_hw286 : k0_chk286 v3178), ∀ a, (k0_off596 v3178) a + S8x128.size a ≤ S65552x128.size a := fun v3178 k0_hw286 => k0_hw286.2

def k0_off597 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3191 : Index := Scalar.indexCast v2918
  ![v3191.toNat]
def k0_mult287 (v3192 : BitVec 32) : BitVec 32 :=
  v3192

def k0_off598 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3195 : Index := Scalar.indexCast v2918
  ![v3195.toNat]
def k0_mult288 (v3196 : BitVec 32) : BitVec 32 :=
  v3196

def k0_off599 (v3192 : BitVec 32) : Fin 2 → Nat :=
  let v3193 : BitVec 32 := v3192
  let v3198 : Index := Scalar.indexCast v3193
  let c0_985 : Index := 0#32
  ![v3198.toNat, 0]

def k0_chk287 (v3192 : BitVec 32) : Prop :=
  (4 ∣ (k0_mult287 v3192).toNat) ∧
  (∀ a, (k0_off599 v3192) a + S8x128.size a ≤ S65552x128.size a)
theorem k0_mult287_dvd : ∀ (v3192 : BitVec 32) (k0_hw287 : k0_chk287 v3192), 4 ∣ (k0_mult287 v3192).toNat := fun v3192 k0_hw287 => k0_hw287.1
theorem k0_off599_inb : ∀ (v3192 : BitVec 32) (k0_hw287 : k0_chk287 v3192), ∀ a, (k0_off599 v3192) a + S8x128.size a ≤ S65552x128.size a := fun v3192 k0_hw287 => k0_hw287.2

def k0_off600 (v3196 : BitVec 32) : Fin 2 → Nat :=
  let v3197 : BitVec 32 := v3196
  let v3200 : Index := Scalar.indexCast v3197
  let c0_986 : Index := 0#32
  ![v3200.toNat, 0]

def k0_chk288 (v3196 : BitVec 32) : Prop :=
  (4 ∣ (k0_mult288 v3196).toNat) ∧
  (∀ a, (k0_off600 v3196) a + S8x128.size a ≤ S65552x128.size a)
theorem k0_mult288_dvd : ∀ (v3196 : BitVec 32) (k0_hw288 : k0_chk288 v3196), 4 ∣ (k0_mult288 v3196).toNat := fun v3196 k0_hw288 => k0_hw288.1
theorem k0_off600_inb : ∀ (v3196 : BitVec 32) (k0_hw288 : k0_chk288 v3196), ∀ a, (k0_off600 v3196) a + S8x128.size a ≤ S65552x128.size a := fun v3196 k0_hw288 => k0_hw288.2

def k0_off601 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3209 : Index := Scalar.indexCast v2918
  ![v3209.toNat]
def k0_mult289 (v3210 : BitVec 32) : BitVec 32 :=
  v3210

def k0_off602 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3213 : Index := Scalar.indexCast v2918
  ![v3213.toNat]
def k0_mult290 (v3214 : BitVec 32) : BitVec 32 :=
  v3214

def k0_off603 (v3210 : BitVec 32) : Fin 2 → Nat :=
  let v3211 : BitVec 32 := v3210
  let v3216 : Index := Scalar.indexCast v3211
  let c0_992 : Index := 0#32
  ![v3216.toNat, 0]

def k0_chk289 (v3210 : BitVec 32) : Prop :=
  (4 ∣ (k0_mult289 v3210).toNat) ∧
  (∀ a, (k0_off603 v3210) a + S8x128.size a ≤ S65552x128.size a)
theorem k0_mult289_dvd : ∀ (v3210 : BitVec 32) (k0_hw289 : k0_chk289 v3210), 4 ∣ (k0_mult289 v3210).toNat := fun v3210 k0_hw289 => k0_hw289.1
theorem k0_off603_inb : ∀ (v3210 : BitVec 32) (k0_hw289 : k0_chk289 v3210), ∀ a, (k0_off603 v3210) a + S8x128.size a ≤ S65552x128.size a := fun v3210 k0_hw289 => k0_hw289.2

def k0_off604 (v3214 : BitVec 32) : Fin 2 → Nat :=
  let v3215 : BitVec 32 := v3214
  let v3218 : Index := Scalar.indexCast v3215
  let c0_993 : Index := 0#32
  ![v3218.toNat, 0]

def k0_chk290 (v3214 : BitVec 32) : Prop :=
  (4 ∣ (k0_mult290 v3214).toNat) ∧
  (∀ a, (k0_off604 v3214) a + S8x128.size a ≤ S65552x128.size a)
theorem k0_mult290_dvd : ∀ (v3214 : BitVec 32) (k0_hw290 : k0_chk290 v3214), 4 ∣ (k0_mult290 v3214).toNat := fun v3214 k0_hw290 => k0_hw290.1
theorem k0_off604_inb : ∀ (v3214 : BitVec 32) (k0_hw290 : k0_chk290 v3214), ∀ a, (k0_off604 v3214) a + S8x128.size a ≤ S65552x128.size a := fun v3214 k0_hw290 => k0_hw290.2

def k0_off605 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3227 : Index := Scalar.indexCast v2918
  ![v3227.toNat]
def k0_mult291 (v3228 : BitVec 32) : BitVec 32 :=
  v3228

def k0_off606 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3231 : Index := Scalar.indexCast v2918
  ![v3231.toNat]
def k0_mult292 (v3232 : BitVec 32) : BitVec 32 :=
  v3232

def k0_off607 (v3228 : BitVec 32) : Fin 2 → Nat :=
  let v3229 : BitVec 32 := v3228
  let v3234 : Index := Scalar.indexCast v3229
  let c0_999 : Index := 0#32
  ![v3234.toNat, 0]

def k0_chk291 (v3228 : BitVec 32) : Prop :=
  (4 ∣ (k0_mult291 v3228).toNat) ∧
  (∀ a, (k0_off607 v3228) a + S8x128.size a ≤ S65552x128.size a)
theorem k0_mult291_dvd : ∀ (v3228 : BitVec 32) (k0_hw291 : k0_chk291 v3228), 4 ∣ (k0_mult291 v3228).toNat := fun v3228 k0_hw291 => k0_hw291.1
theorem k0_off607_inb : ∀ (v3228 : BitVec 32) (k0_hw291 : k0_chk291 v3228), ∀ a, (k0_off607 v3228) a + S8x128.size a ≤ S65552x128.size a := fun v3228 k0_hw291 => k0_hw291.2

def k0_off608 (v3232 : BitVec 32) : Fin 2 → Nat :=
  let v3233 : BitVec 32 := v3232
  let v3236 : Index := Scalar.indexCast v3233
  let c0_1000 : Index := 0#32
  ![v3236.toNat, 0]

def k0_chk292 (v3232 : BitVec 32) : Prop :=
  (4 ∣ (k0_mult292 v3232).toNat) ∧
  (∀ a, (k0_off608 v3232) a + S8x128.size a ≤ S65552x128.size a)
theorem k0_mult292_dvd : ∀ (v3232 : BitVec 32) (k0_hw292 : k0_chk292 v3232), 4 ∣ (k0_mult292 v3232).toNat := fun v3232 k0_hw292 => k0_hw292.1
theorem k0_off608_inb : ∀ (v3232 : BitVec 32) (k0_hw292 : k0_chk292 v3232), ∀ a, (k0_off608 v3232) a + S8x128.size a ≤ S65552x128.size a := fun v3232 k0_hw292 => k0_hw292.2

def k0_off609 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3245 : Index := Scalar.indexCast v2918
  ![v3245.toNat]
def k0_mult293 (v3246 : BitVec 32) : BitVec 32 :=
  v3246

def k0_off610 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3249 : Index := Scalar.indexCast v2918
  ![v3249.toNat]
def k0_mult294 (v3250 : BitVec 32) : BitVec 32 :=
  v3250

def k0_off611 (v3246 : BitVec 32) : Fin 2 → Nat :=
  let v3247 : BitVec 32 := v3246
  let v3252 : Index := Scalar.indexCast v3247
  let c0_1006 : Index := 0#32
  ![v3252.toNat, 0]

def k0_chk293 (v3246 : BitVec 32) : Prop :=
  (4 ∣ (k0_mult293 v3246).toNat) ∧
  (∀ a, (k0_off611 v3246) a + S8x128.size a ≤ S65552x128.size a)
theorem k0_mult293_dvd : ∀ (v3246 : BitVec 32) (k0_hw293 : k0_chk293 v3246), 4 ∣ (k0_mult293 v3246).toNat := fun v3246 k0_hw293 => k0_hw293.1
theorem k0_off611_inb : ∀ (v3246 : BitVec 32) (k0_hw293 : k0_chk293 v3246), ∀ a, (k0_off611 v3246) a + S8x128.size a ≤ S65552x128.size a := fun v3246 k0_hw293 => k0_hw293.2

def k0_off612 (v3250 : BitVec 32) : Fin 2 → Nat :=
  let v3251 : BitVec 32 := v3250
  let v3254 : Index := Scalar.indexCast v3251
  let c0_1007 : Index := 0#32
  ![v3254.toNat, 0]

def k0_chk294 (v3250 : BitVec 32) : Prop :=
  (4 ∣ (k0_mult294 v3250).toNat) ∧
  (∀ a, (k0_off612 v3250) a + S8x128.size a ≤ S65552x128.size a)
theorem k0_mult294_dvd : ∀ (v3250 : BitVec 32) (k0_hw294 : k0_chk294 v3250), 4 ∣ (k0_mult294 v3250).toNat := fun v3250 k0_hw294 => k0_hw294.1
theorem k0_off612_inb : ∀ (v3250 : BitVec 32) (k0_hw294 : k0_chk294 v3250), ∀ a, (k0_off612 v3250) a + S8x128.size a ≤ S65552x128.size a := fun v3250 k0_hw294 => k0_hw294.2

def k0_off613 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3263 : Index := Scalar.indexCast v2918
  ![v3263.toNat]
def k0_mult295 (v3264 : BitVec 32) : BitVec 32 :=
  v3264

def k0_off614 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3267 : Index := Scalar.indexCast v2918
  ![v3267.toNat]
def k0_mult296 (v3268 : BitVec 32) : BitVec 32 :=
  v3268

def k0_off615 (v3264 : BitVec 32) : Fin 2 → Nat :=
  let v3265 : BitVec 32 := v3264
  let v3270 : Index := Scalar.indexCast v3265
  let c0_1013 : Index := 0#32
  ![v3270.toNat, 0]

def k0_chk295 (v3264 : BitVec 32) : Prop :=
  (4 ∣ (k0_mult295 v3264).toNat) ∧
  (∀ a, (k0_off615 v3264) a + S8x128.size a ≤ S65552x128.size a)
theorem k0_mult295_dvd : ∀ (v3264 : BitVec 32) (k0_hw295 : k0_chk295 v3264), 4 ∣ (k0_mult295 v3264).toNat := fun v3264 k0_hw295 => k0_hw295.1
theorem k0_off615_inb : ∀ (v3264 : BitVec 32) (k0_hw295 : k0_chk295 v3264), ∀ a, (k0_off615 v3264) a + S8x128.size a ≤ S65552x128.size a := fun v3264 k0_hw295 => k0_hw295.2

def k0_off616 (v3268 : BitVec 32) : Fin 2 → Nat :=
  let v3269 : BitVec 32 := v3268
  let v3272 : Index := Scalar.indexCast v3269
  let c0_1014 : Index := 0#32
  ![v3272.toNat, 0]

def k0_chk296 (v3268 : BitVec 32) : Prop :=
  (4 ∣ (k0_mult296 v3268).toNat) ∧
  (∀ a, (k0_off616 v3268) a + S8x128.size a ≤ S65552x128.size a)
theorem k0_mult296_dvd : ∀ (v3268 : BitVec 32) (k0_hw296 : k0_chk296 v3268), 4 ∣ (k0_mult296 v3268).toNat := fun v3268 k0_hw296 => k0_hw296.1
theorem k0_off616_inb : ∀ (v3268 : BitVec 32) (k0_hw296 : k0_chk296 v3268), ∀ a, (k0_off616 v3268) a + S8x128.size a ≤ S65552x128.size a := fun v3268 k0_hw296 => k0_hw296.2

def k0_off617 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3281 : Index := Scalar.indexCast v2918
  ![v3281.toNat]
def k0_mult297 (v3282 : BitVec 32) : BitVec 32 :=
  v3282

def k0_off618 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3285 : Index := Scalar.indexCast v2918
  ![v3285.toNat]
def k0_mult298 (v3286 : BitVec 32) : BitVec 32 :=
  v3286

def k0_off619 (v3282 : BitVec 32) : Fin 2 → Nat :=
  let v3283 : BitVec 32 := v3282
  let v3288 : Index := Scalar.indexCast v3283
  let c0_1020 : Index := 0#32
  ![v3288.toNat, 0]

def k0_chk297 (v3282 : BitVec 32) : Prop :=
  (4 ∣ (k0_mult297 v3282).toNat) ∧
  (∀ a, (k0_off619 v3282) a + S8x128.size a ≤ S65552x128.size a)
theorem k0_mult297_dvd : ∀ (v3282 : BitVec 32) (k0_hw297 : k0_chk297 v3282), 4 ∣ (k0_mult297 v3282).toNat := fun v3282 k0_hw297 => k0_hw297.1
theorem k0_off619_inb : ∀ (v3282 : BitVec 32) (k0_hw297 : k0_chk297 v3282), ∀ a, (k0_off619 v3282) a + S8x128.size a ≤ S65552x128.size a := fun v3282 k0_hw297 => k0_hw297.2

def k0_off620 (v3286 : BitVec 32) : Fin 2 → Nat :=
  let v3287 : BitVec 32 := v3286
  let v3290 : Index := Scalar.indexCast v3287
  let c0_1021 : Index := 0#32
  ![v3290.toNat, 0]

def k0_chk298 (v3286 : BitVec 32) : Prop :=
  (4 ∣ (k0_mult298 v3286).toNat) ∧
  (∀ a, (k0_off620 v3286) a + S8x128.size a ≤ S65552x128.size a)
theorem k0_mult298_dvd : ∀ (v3286 : BitVec 32) (k0_hw298 : k0_chk298 v3286), 4 ∣ (k0_mult298 v3286).toNat := fun v3286 k0_hw298 => k0_hw298.1
theorem k0_off620_inb : ∀ (v3286 : BitVec 32) (k0_hw298 : k0_chk298 v3286), ∀ a, (k0_off620 v3286) a + S8x128.size a ≤ S65552x128.size a := fun v3286 k0_hw298 => k0_hw298.2

def k0_off621 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3299 : Index := Scalar.indexCast v2918
  ![v3299.toNat]
def k0_mult299 (v3300 : BitVec 32) : BitVec 32 :=
  v3300

def k0_off622 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3303 : Index := Scalar.indexCast v2918
  ![v3303.toNat]
def k0_mult300 (v3304 : BitVec 32) : BitVec 32 :=
  v3304

def k0_off623 (v3300 : BitVec 32) : Fin 2 → Nat :=
  let v3301 : BitVec 32 := v3300
  let v3306 : Index := Scalar.indexCast v3301
  let c0_1027 : Index := 0#32
  ![v3306.toNat, 0]

def k0_chk299 (v3300 : BitVec 32) : Prop :=
  (4 ∣ (k0_mult299 v3300).toNat) ∧
  (∀ a, (k0_off623 v3300) a + S8x128.size a ≤ S65552x128.size a)
theorem k0_mult299_dvd : ∀ (v3300 : BitVec 32) (k0_hw299 : k0_chk299 v3300), 4 ∣ (k0_mult299 v3300).toNat := fun v3300 k0_hw299 => k0_hw299.1
theorem k0_off623_inb : ∀ (v3300 : BitVec 32) (k0_hw299 : k0_chk299 v3300), ∀ a, (k0_off623 v3300) a + S8x128.size a ≤ S65552x128.size a := fun v3300 k0_hw299 => k0_hw299.2

def k0_off624 (v3304 : BitVec 32) : Fin 2 → Nat :=
  let v3305 : BitVec 32 := v3304
  let v3308 : Index := Scalar.indexCast v3305
  let c0_1028 : Index := 0#32
  ![v3308.toNat, 0]

def k0_chk300 (v3304 : BitVec 32) : Prop :=
  (4 ∣ (k0_mult300 v3304).toNat) ∧
  (∀ a, (k0_off624 v3304) a + S8x128.size a ≤ S65552x128.size a)
theorem k0_mult300_dvd : ∀ (v3304 : BitVec 32) (k0_hw300 : k0_chk300 v3304), 4 ∣ (k0_mult300 v3304).toNat := fun v3304 k0_hw300 => k0_hw300.1
theorem k0_off624_inb : ∀ (v3304 : BitVec 32) (k0_hw300 : k0_chk300 v3304), ∀ a, (k0_off624 v3304) a + S8x128.size a ≤ S65552x128.size a := fun v3304 k0_hw300 => k0_hw300.2

def k0_off625 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3317 : Index := Scalar.indexCast v2918
  ![v3317.toNat]
def k0_mult301 (v3318 : BitVec 32) : BitVec 32 :=
  v3318

def k0_off626 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3321 : Index := Scalar.indexCast v2918
  ![v3321.toNat]
def k0_mult302 (v3322 : BitVec 32) : BitVec 32 :=
  v3322

def k0_off627 (v3318 : BitVec 32) : Fin 2 → Nat :=
  let v3319 : BitVec 32 := v3318
  let v3324 : Index := Scalar.indexCast v3319
  let c0_1034 : Index := 0#32
  ![v3324.toNat, 0]

def k0_chk301 (v3318 : BitVec 32) : Prop :=
  (4 ∣ (k0_mult301 v3318).toNat) ∧
  (∀ a, (k0_off627 v3318) a + S8x128.size a ≤ S65552x128.size a)
theorem k0_mult301_dvd : ∀ (v3318 : BitVec 32) (k0_hw301 : k0_chk301 v3318), 4 ∣ (k0_mult301 v3318).toNat := fun v3318 k0_hw301 => k0_hw301.1
theorem k0_off627_inb : ∀ (v3318 : BitVec 32) (k0_hw301 : k0_chk301 v3318), ∀ a, (k0_off627 v3318) a + S8x128.size a ≤ S65552x128.size a := fun v3318 k0_hw301 => k0_hw301.2

def k0_off628 (v3322 : BitVec 32) : Fin 2 → Nat :=
  let v3323 : BitVec 32 := v3322
  let v3326 : Index := Scalar.indexCast v3323
  let c0_1035 : Index := 0#32
  ![v3326.toNat, 0]

def k0_chk302 (v3322 : BitVec 32) : Prop :=
  (4 ∣ (k0_mult302 v3322).toNat) ∧
  (∀ a, (k0_off628 v3322) a + S8x128.size a ≤ S65552x128.size a)
theorem k0_mult302_dvd : ∀ (v3322 : BitVec 32) (k0_hw302 : k0_chk302 v3322), 4 ∣ (k0_mult302 v3322).toNat := fun v3322 k0_hw302 => k0_hw302.1
theorem k0_off628_inb : ∀ (v3322 : BitVec 32) (k0_hw302 : k0_chk302 v3322), ∀ a, (k0_off628 v3322) a + S8x128.size a ≤ S65552x128.size a := fun v3322 k0_hw302 => k0_hw302.2

def k0_off629 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3335 : Index := Scalar.indexCast v2918
  ![v3335.toNat]
def k0_mult303 (v3336 : BitVec 32) : BitVec 32 :=
  v3336

def k0_off630 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3339 : Index := Scalar.indexCast v2918
  ![v3339.toNat]
def k0_mult304 (v3340 : BitVec 32) : BitVec 32 :=
  v3340

def k0_off631 (v3336 : BitVec 32) : Fin 2 → Nat :=
  let v3337 : BitVec 32 := v3336
  let v3342 : Index := Scalar.indexCast v3337
  let c0_1041 : Index := 0#32
  ![v3342.toNat, 0]

def k0_chk303 (v3336 : BitVec 32) : Prop :=
  (4 ∣ (k0_mult303 v3336).toNat) ∧
  (∀ a, (k0_off631 v3336) a + S8x128.size a ≤ S65552x128.size a)
theorem k0_mult303_dvd : ∀ (v3336 : BitVec 32) (k0_hw303 : k0_chk303 v3336), 4 ∣ (k0_mult303 v3336).toNat := fun v3336 k0_hw303 => k0_hw303.1
theorem k0_off631_inb : ∀ (v3336 : BitVec 32) (k0_hw303 : k0_chk303 v3336), ∀ a, (k0_off631 v3336) a + S8x128.size a ≤ S65552x128.size a := fun v3336 k0_hw303 => k0_hw303.2

def k0_off632 (v3340 : BitVec 32) : Fin 2 → Nat :=
  let v3341 : BitVec 32 := v3340
  let v3344 : Index := Scalar.indexCast v3341
  let c0_1042 : Index := 0#32
  ![v3344.toNat, 0]

def k0_chk304 (v3340 : BitVec 32) : Prop :=
  (4 ∣ (k0_mult304 v3340).toNat) ∧
  (∀ a, (k0_off632 v3340) a + S8x128.size a ≤ S65552x128.size a)
theorem k0_mult304_dvd : ∀ (v3340 : BitVec 32) (k0_hw304 : k0_chk304 v3340), 4 ∣ (k0_mult304 v3340).toNat := fun v3340 k0_hw304 => k0_hw304.1
theorem k0_off632_inb : ∀ (v3340 : BitVec 32) (k0_hw304 : k0_chk304 v3340), ∀ a, (k0_off632 v3340) a + S8x128.size a ≤ S65552x128.size a := fun v3340 k0_hw304 => k0_hw304.2

def k0_off633 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3353 : Index := Scalar.indexCast v2918
  ![v3353.toNat]
def k0_mult305 (v3354 : BitVec 32) : BitVec 32 :=
  v3354

def k0_off634 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3357 : Index := Scalar.indexCast v2918
  ![v3357.toNat]
def k0_mult306 (v3358 : BitVec 32) : BitVec 32 :=
  v3358

def k0_off635 (v3354 : BitVec 32) : Fin 2 → Nat :=
  let v3355 : BitVec 32 := v3354
  let v3360 : Index := Scalar.indexCast v3355
  let c0_1048 : Index := 0#32
  ![v3360.toNat, 0]

def k0_chk305 (v3354 : BitVec 32) : Prop :=
  (4 ∣ (k0_mult305 v3354).toNat) ∧
  (∀ a, (k0_off635 v3354) a + S8x128.size a ≤ S65552x128.size a)
theorem k0_mult305_dvd : ∀ (v3354 : BitVec 32) (k0_hw305 : k0_chk305 v3354), 4 ∣ (k0_mult305 v3354).toNat := fun v3354 k0_hw305 => k0_hw305.1
theorem k0_off635_inb : ∀ (v3354 : BitVec 32) (k0_hw305 : k0_chk305 v3354), ∀ a, (k0_off635 v3354) a + S8x128.size a ≤ S65552x128.size a := fun v3354 k0_hw305 => k0_hw305.2

def k0_off636 (v3358 : BitVec 32) : Fin 2 → Nat :=
  let v3359 : BitVec 32 := v3358
  let v3362 : Index := Scalar.indexCast v3359
  let c0_1049 : Index := 0#32
  ![v3362.toNat, 0]

def k0_chk306 (v3358 : BitVec 32) : Prop :=
  (4 ∣ (k0_mult306 v3358).toNat) ∧
  (∀ a, (k0_off636 v3358) a + S8x128.size a ≤ S65552x128.size a)
theorem k0_mult306_dvd : ∀ (v3358 : BitVec 32) (k0_hw306 : k0_chk306 v3358), 4 ∣ (k0_mult306 v3358).toNat := fun v3358 k0_hw306 => k0_hw306.1
theorem k0_off636_inb : ∀ (v3358 : BitVec 32) (k0_hw306 : k0_chk306 v3358), ∀ a, (k0_off636 v3358) a + S8x128.size a ≤ S65552x128.size a := fun v3358 k0_hw306 => k0_hw306.2

def k0_off637 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3371 : Index := Scalar.indexCast v2918
  ![v3371.toNat]
def k0_mult307 (v3372 : BitVec 32) : BitVec 32 :=
  v3372

def k0_off638 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3375 : Index := Scalar.indexCast v2918
  ![v3375.toNat]
def k0_mult308 (v3376 : BitVec 32) : BitVec 32 :=
  v3376

def k0_off639 (v3372 : BitVec 32) : Fin 2 → Nat :=
  let v3373 : BitVec 32 := v3372
  let v3378 : Index := Scalar.indexCast v3373
  let c0_1055 : Index := 0#32
  ![v3378.toNat, 0]

def k0_chk307 (v3372 : BitVec 32) : Prop :=
  (4 ∣ (k0_mult307 v3372).toNat) ∧
  (∀ a, (k0_off639 v3372) a + S8x128.size a ≤ S65552x128.size a)
theorem k0_mult307_dvd : ∀ (v3372 : BitVec 32) (k0_hw307 : k0_chk307 v3372), 4 ∣ (k0_mult307 v3372).toNat := fun v3372 k0_hw307 => k0_hw307.1
theorem k0_off639_inb : ∀ (v3372 : BitVec 32) (k0_hw307 : k0_chk307 v3372), ∀ a, (k0_off639 v3372) a + S8x128.size a ≤ S65552x128.size a := fun v3372 k0_hw307 => k0_hw307.2

def k0_off640 (v3376 : BitVec 32) : Fin 2 → Nat :=
  let v3377 : BitVec 32 := v3376
  let v3380 : Index := Scalar.indexCast v3377
  let c0_1056 : Index := 0#32
  ![v3380.toNat, 0]

def k0_chk308 (v3376 : BitVec 32) : Prop :=
  (4 ∣ (k0_mult308 v3376).toNat) ∧
  (∀ a, (k0_off640 v3376) a + S8x128.size a ≤ S65552x128.size a)
theorem k0_mult308_dvd : ∀ (v3376 : BitVec 32) (k0_hw308 : k0_chk308 v3376), 4 ∣ (k0_mult308 v3376).toNat := fun v3376 k0_hw308 => k0_hw308.1
theorem k0_off640_inb : ∀ (v3376 : BitVec 32) (k0_hw308 : k0_chk308 v3376), ∀ a, (k0_off640 v3376) a + S8x128.size a ≤ S65552x128.size a := fun v3376 k0_hw308 => k0_hw308.2

def k0_off641 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3389 : Index := Scalar.indexCast v2918
  ![v3389.toNat]
def k0_mult309 (v3390 : BitVec 32) : BitVec 32 :=
  v3390

def k0_off642 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3393 : Index := Scalar.indexCast v2918
  ![v3393.toNat]
def k0_mult310 (v3394 : BitVec 32) : BitVec 32 :=
  v3394

def k0_off643 (v3390 : BitVec 32) : Fin 2 → Nat :=
  let v3391 : BitVec 32 := v3390
  let v3396 : Index := Scalar.indexCast v3391
  let c0_1062 : Index := 0#32
  ![v3396.toNat, 0]

def k0_chk309 (v3390 : BitVec 32) : Prop :=
  (4 ∣ (k0_mult309 v3390).toNat) ∧
  (∀ a, (k0_off643 v3390) a + S8x128.size a ≤ S65552x128.size a)
theorem k0_mult309_dvd : ∀ (v3390 : BitVec 32) (k0_hw309 : k0_chk309 v3390), 4 ∣ (k0_mult309 v3390).toNat := fun v3390 k0_hw309 => k0_hw309.1
theorem k0_off643_inb : ∀ (v3390 : BitVec 32) (k0_hw309 : k0_chk309 v3390), ∀ a, (k0_off643 v3390) a + S8x128.size a ≤ S65552x128.size a := fun v3390 k0_hw309 => k0_hw309.2

def k0_off644 (v3394 : BitVec 32) : Fin 2 → Nat :=
  let v3395 : BitVec 32 := v3394
  let v3398 : Index := Scalar.indexCast v3395
  let c0_1063 : Index := 0#32
  ![v3398.toNat, 0]

def k0_chk310 (v3394 : BitVec 32) : Prop :=
  (4 ∣ (k0_mult310 v3394).toNat) ∧
  (∀ a, (k0_off644 v3394) a + S8x128.size a ≤ S65552x128.size a)
theorem k0_mult310_dvd : ∀ (v3394 : BitVec 32) (k0_hw310 : k0_chk310 v3394), 4 ∣ (k0_mult310 v3394).toNat := fun v3394 k0_hw310 => k0_hw310.1
theorem k0_off644_inb : ∀ (v3394 : BitVec 32) (k0_hw310 : k0_chk310 v3394), ∀ a, (k0_off644 v3394) a + S8x128.size a ≤ S65552x128.size a := fun v3394 k0_hw310 => k0_hw310.2

def k0_off645 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3407 : Index := Scalar.indexCast v2918
  ![v3407.toNat]
def k0_mult311 (v3408 : BitVec 32) : BitVec 32 :=
  v3408

def k0_off646 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3411 : Index := Scalar.indexCast v2918
  ![v3411.toNat]
def k0_mult312 (v3412 : BitVec 32) : BitVec 32 :=
  v3412

def k0_off647 (v3408 : BitVec 32) : Fin 2 → Nat :=
  let v3409 : BitVec 32 := v3408
  let v3414 : Index := Scalar.indexCast v3409
  let c0_1069 : Index := 0#32
  ![v3414.toNat, 0]

def k0_chk311 (v3408 : BitVec 32) : Prop :=
  (4 ∣ (k0_mult311 v3408).toNat) ∧
  (∀ a, (k0_off647 v3408) a + S8x128.size a ≤ S65552x128.size a)
theorem k0_mult311_dvd : ∀ (v3408 : BitVec 32) (k0_hw311 : k0_chk311 v3408), 4 ∣ (k0_mult311 v3408).toNat := fun v3408 k0_hw311 => k0_hw311.1
theorem k0_off647_inb : ∀ (v3408 : BitVec 32) (k0_hw311 : k0_chk311 v3408), ∀ a, (k0_off647 v3408) a + S8x128.size a ≤ S65552x128.size a := fun v3408 k0_hw311 => k0_hw311.2

def k0_off648 (v3412 : BitVec 32) : Fin 2 → Nat :=
  let v3413 : BitVec 32 := v3412
  let v3416 : Index := Scalar.indexCast v3413
  let c0_1070 : Index := 0#32
  ![v3416.toNat, 0]

def k0_chk312 (v3412 : BitVec 32) : Prop :=
  (4 ∣ (k0_mult312 v3412).toNat) ∧
  (∀ a, (k0_off648 v3412) a + S8x128.size a ≤ S65552x128.size a)
theorem k0_mult312_dvd : ∀ (v3412 : BitVec 32) (k0_hw312 : k0_chk312 v3412), 4 ∣ (k0_mult312 v3412).toNat := fun v3412 k0_hw312 => k0_hw312.1
theorem k0_off648_inb : ∀ (v3412 : BitVec 32) (k0_hw312 : k0_chk312 v3412), ∀ a, (k0_off648 v3412) a + S8x128.size a ≤ S65552x128.size a := fun v3412 k0_hw312 => k0_hw312.2

def k0_off649 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3425 : Index := Scalar.indexCast v2918
  ![v3425.toNat]
def k0_mult313 (v3426 : BitVec 32) : BitVec 32 :=
  v3426

def k0_off650 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3429 : Index := Scalar.indexCast v2918
  ![v3429.toNat]
def k0_mult314 (v3430 : BitVec 32) : BitVec 32 :=
  v3430

def k0_off651 (v3426 : BitVec 32) : Fin 2 → Nat :=
  let v3427 : BitVec 32 := v3426
  let v3432 : Index := Scalar.indexCast v3427
  let c0_1076 : Index := 0#32
  ![v3432.toNat, 0]

def k0_chk313 (v3426 : BitVec 32) : Prop :=
  (4 ∣ (k0_mult313 v3426).toNat) ∧
  (∀ a, (k0_off651 v3426) a + S8x128.size a ≤ S65552x128.size a)
theorem k0_mult313_dvd : ∀ (v3426 : BitVec 32) (k0_hw313 : k0_chk313 v3426), 4 ∣ (k0_mult313 v3426).toNat := fun v3426 k0_hw313 => k0_hw313.1
theorem k0_off651_inb : ∀ (v3426 : BitVec 32) (k0_hw313 : k0_chk313 v3426), ∀ a, (k0_off651 v3426) a + S8x128.size a ≤ S65552x128.size a := fun v3426 k0_hw313 => k0_hw313.2

def k0_off652 (v3430 : BitVec 32) : Fin 2 → Nat :=
  let v3431 : BitVec 32 := v3430
  let v3434 : Index := Scalar.indexCast v3431
  let c0_1077 : Index := 0#32
  ![v3434.toNat, 0]

def k0_chk314 (v3430 : BitVec 32) : Prop :=
  (4 ∣ (k0_mult314 v3430).toNat) ∧
  (∀ a, (k0_off652 v3430) a + S8x128.size a ≤ S65552x128.size a)
theorem k0_mult314_dvd : ∀ (v3430 : BitVec 32) (k0_hw314 : k0_chk314 v3430), 4 ∣ (k0_mult314 v3430).toNat := fun v3430 k0_hw314 => k0_hw314.1
theorem k0_off652_inb : ∀ (v3430 : BitVec 32) (k0_hw314 : k0_chk314 v3430), ∀ a, (k0_off652 v3430) a + S8x128.size a ≤ S65552x128.size a := fun v3430 k0_hw314 => k0_hw314.2

def k0_off653 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3443 : Index := Scalar.indexCast v2918
  ![v3443.toNat]
def k0_mult315 (v3444 : BitVec 32) : BitVec 32 :=
  v3444

def k0_off654 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3447 : Index := Scalar.indexCast v2918
  ![v3447.toNat]
def k0_mult316 (v3448 : BitVec 32) : BitVec 32 :=
  v3448

def k0_off655 (v3444 : BitVec 32) : Fin 2 → Nat :=
  let v3445 : BitVec 32 := v3444
  let v3450 : Index := Scalar.indexCast v3445
  let c0_1083 : Index := 0#32
  ![v3450.toNat, 0]

def k0_chk315 (v3444 : BitVec 32) : Prop :=
  (4 ∣ (k0_mult315 v3444).toNat) ∧
  (∀ a, (k0_off655 v3444) a + S8x128.size a ≤ S65552x128.size a)
theorem k0_mult315_dvd : ∀ (v3444 : BitVec 32) (k0_hw315 : k0_chk315 v3444), 4 ∣ (k0_mult315 v3444).toNat := fun v3444 k0_hw315 => k0_hw315.1
theorem k0_off655_inb : ∀ (v3444 : BitVec 32) (k0_hw315 : k0_chk315 v3444), ∀ a, (k0_off655 v3444) a + S8x128.size a ≤ S65552x128.size a := fun v3444 k0_hw315 => k0_hw315.2

def k0_off656 (v3448 : BitVec 32) : Fin 2 → Nat :=
  let v3449 : BitVec 32 := v3448
  let v3452 : Index := Scalar.indexCast v3449
  let c0_1084 : Index := 0#32
  ![v3452.toNat, 0]

def k0_chk316 (v3448 : BitVec 32) : Prop :=
  (4 ∣ (k0_mult316 v3448).toNat) ∧
  (∀ a, (k0_off656 v3448) a + S8x128.size a ≤ S65552x128.size a)
theorem k0_mult316_dvd : ∀ (v3448 : BitVec 32) (k0_hw316 : k0_chk316 v3448), 4 ∣ (k0_mult316 v3448).toNat := fun v3448 k0_hw316 => k0_hw316.1
theorem k0_off656_inb : ∀ (v3448 : BitVec 32) (k0_hw316 : k0_chk316 v3448), ∀ a, (k0_off656 v3448) a + S8x128.size a ≤ S65552x128.size a := fun v3448 k0_hw316 => k0_hw316.2

def k0_off657 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3461 : Index := Scalar.indexCast v2918
  ![v3461.toNat]
def k0_mult317 (v3462 : BitVec 32) : BitVec 32 :=
  v3462

def k0_off658 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3465 : Index := Scalar.indexCast v2918
  ![v3465.toNat]
def k0_mult318 (v3466 : BitVec 32) : BitVec 32 :=
  v3466

def k0_off659 (v3462 : BitVec 32) : Fin 2 → Nat :=
  let v3463 : BitVec 32 := v3462
  let v3468 : Index := Scalar.indexCast v3463
  let c0_1090 : Index := 0#32
  ![v3468.toNat, 0]

def k0_chk317 (v3462 : BitVec 32) : Prop :=
  (4 ∣ (k0_mult317 v3462).toNat) ∧
  (∀ a, (k0_off659 v3462) a + S8x128.size a ≤ S65552x128.size a)
theorem k0_mult317_dvd : ∀ (v3462 : BitVec 32) (k0_hw317 : k0_chk317 v3462), 4 ∣ (k0_mult317 v3462).toNat := fun v3462 k0_hw317 => k0_hw317.1
theorem k0_off659_inb : ∀ (v3462 : BitVec 32) (k0_hw317 : k0_chk317 v3462), ∀ a, (k0_off659 v3462) a + S8x128.size a ≤ S65552x128.size a := fun v3462 k0_hw317 => k0_hw317.2

def k0_off660 (v3466 : BitVec 32) : Fin 2 → Nat :=
  let v3467 : BitVec 32 := v3466
  let v3470 : Index := Scalar.indexCast v3467
  let c0_1091 : Index := 0#32
  ![v3470.toNat, 0]

def k0_chk318 (v3466 : BitVec 32) : Prop :=
  (4 ∣ (k0_mult318 v3466).toNat) ∧
  (∀ a, (k0_off660 v3466) a + S8x128.size a ≤ S65552x128.size a)
theorem k0_mult318_dvd : ∀ (v3466 : BitVec 32) (k0_hw318 : k0_chk318 v3466), 4 ∣ (k0_mult318 v3466).toNat := fun v3466 k0_hw318 => k0_hw318.1
theorem k0_off660_inb : ∀ (v3466 : BitVec 32) (k0_hw318 : k0_chk318 v3466), ∀ a, (k0_off660 v3466) a + S8x128.size a ≤ S65552x128.size a := fun v3466 k0_hw318 => k0_hw318.2

def k0_off661 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3479 : Index := Scalar.indexCast v2918
  ![v3479.toNat]
def k0_mult319 (v3480 : BitVec 32) : BitVec 32 :=
  v3480

def k0_off662 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3483 : Index := Scalar.indexCast v2918
  ![v3483.toNat]
def k0_mult320 (v3484 : BitVec 32) : BitVec 32 :=
  v3484

def k0_off663 (v3480 : BitVec 32) : Fin 2 → Nat :=
  let v3481 : BitVec 32 := v3480
  let v3486 : Index := Scalar.indexCast v3481
  let c0_1097 : Index := 0#32
  ![v3486.toNat, 0]

def k0_chk319 (v3480 : BitVec 32) : Prop :=
  (4 ∣ (k0_mult319 v3480).toNat) ∧
  (∀ a, (k0_off663 v3480) a + S8x128.size a ≤ S65552x128.size a)
theorem k0_mult319_dvd : ∀ (v3480 : BitVec 32) (k0_hw319 : k0_chk319 v3480), 4 ∣ (k0_mult319 v3480).toNat := fun v3480 k0_hw319 => k0_hw319.1
theorem k0_off663_inb : ∀ (v3480 : BitVec 32) (k0_hw319 : k0_chk319 v3480), ∀ a, (k0_off663 v3480) a + S8x128.size a ≤ S65552x128.size a := fun v3480 k0_hw319 => k0_hw319.2

def k0_off664 (v3484 : BitVec 32) : Fin 2 → Nat :=
  let v3485 : BitVec 32 := v3484
  let v3488 : Index := Scalar.indexCast v3485
  let c0_1098 : Index := 0#32
  ![v3488.toNat, 0]

def k0_chk320 (v3484 : BitVec 32) : Prop :=
  (4 ∣ (k0_mult320 v3484).toNat) ∧
  (∀ a, (k0_off664 v3484) a + S8x128.size a ≤ S65552x128.size a)
theorem k0_mult320_dvd : ∀ (v3484 : BitVec 32) (k0_hw320 : k0_chk320 v3484), 4 ∣ (k0_mult320 v3484).toNat := fun v3484 k0_hw320 => k0_hw320.1
theorem k0_off664_inb : ∀ (v3484 : BitVec 32) (k0_hw320 : k0_chk320 v3484), ∀ a, (k0_off664 v3484) a + S8x128.size a ≤ S65552x128.size a := fun v3484 k0_hw320 => k0_hw320.2

def k0_off665 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3497 : Index := Scalar.indexCast v2918
  ![v3497.toNat]
def k0_mult321 (v3498 : BitVec 32) : BitVec 32 :=
  v3498

def k0_off666 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3501 : Index := Scalar.indexCast v2918
  ![v3501.toNat]
def k0_mult322 (v3502 : BitVec 32) : BitVec 32 :=
  v3502

def k0_off667 (v3498 : BitVec 32) : Fin 2 → Nat :=
  let v3499 : BitVec 32 := v3498
  let v3504 : Index := Scalar.indexCast v3499
  let c0_1104 : Index := 0#32
  ![v3504.toNat, 0]

def k0_chk321 (v3498 : BitVec 32) : Prop :=
  (4 ∣ (k0_mult321 v3498).toNat) ∧
  (∀ a, (k0_off667 v3498) a + S8x128.size a ≤ S65552x128.size a)
theorem k0_mult321_dvd : ∀ (v3498 : BitVec 32) (k0_hw321 : k0_chk321 v3498), 4 ∣ (k0_mult321 v3498).toNat := fun v3498 k0_hw321 => k0_hw321.1
theorem k0_off667_inb : ∀ (v3498 : BitVec 32) (k0_hw321 : k0_chk321 v3498), ∀ a, (k0_off667 v3498) a + S8x128.size a ≤ S65552x128.size a := fun v3498 k0_hw321 => k0_hw321.2

def k0_off668 (v3502 : BitVec 32) : Fin 2 → Nat :=
  let v3503 : BitVec 32 := v3502
  let v3506 : Index := Scalar.indexCast v3503
  let c0_1105 : Index := 0#32
  ![v3506.toNat, 0]

def k0_chk322 (v3502 : BitVec 32) : Prop :=
  (4 ∣ (k0_mult322 v3502).toNat) ∧
  (∀ a, (k0_off668 v3502) a + S8x128.size a ≤ S65552x128.size a)
theorem k0_mult322_dvd : ∀ (v3502 : BitVec 32) (k0_hw322 : k0_chk322 v3502), 4 ∣ (k0_mult322 v3502).toNat := fun v3502 k0_hw322 => k0_hw322.1
theorem k0_off668_inb : ∀ (v3502 : BitVec 32) (k0_hw322 : k0_chk322 v3502), ∀ a, (k0_off668 v3502) a + S8x128.size a ≤ S65552x128.size a := fun v3502 k0_hw322 => k0_hw322.2

def k0_off669 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3515 : Index := Scalar.indexCast v2918
  ![v3515.toNat]
def k0_mult323 (v3516 : BitVec 32) : BitVec 32 :=
  v3516

def k0_off670 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3519 : Index := Scalar.indexCast v2918
  ![v3519.toNat]
def k0_mult324 (v3520 : BitVec 32) : BitVec 32 :=
  v3520

def k0_off671 (v3516 : BitVec 32) : Fin 2 → Nat :=
  let v3517 : BitVec 32 := v3516
  let v3522 : Index := Scalar.indexCast v3517
  let c0_1111 : Index := 0#32
  ![v3522.toNat, 0]

def k0_chk323 (v3516 : BitVec 32) : Prop :=
  (4 ∣ (k0_mult323 v3516).toNat) ∧
  (∀ a, (k0_off671 v3516) a + S8x128.size a ≤ S65552x128.size a)
theorem k0_mult323_dvd : ∀ (v3516 : BitVec 32) (k0_hw323 : k0_chk323 v3516), 4 ∣ (k0_mult323 v3516).toNat := fun v3516 k0_hw323 => k0_hw323.1
theorem k0_off671_inb : ∀ (v3516 : BitVec 32) (k0_hw323 : k0_chk323 v3516), ∀ a, (k0_off671 v3516) a + S8x128.size a ≤ S65552x128.size a := fun v3516 k0_hw323 => k0_hw323.2

def k0_off672 (v3520 : BitVec 32) : Fin 2 → Nat :=
  let v3521 : BitVec 32 := v3520
  let v3524 : Index := Scalar.indexCast v3521
  let c0_1112 : Index := 0#32
  ![v3524.toNat, 0]

def k0_chk324 (v3520 : BitVec 32) : Prop :=
  (4 ∣ (k0_mult324 v3520).toNat) ∧
  (∀ a, (k0_off672 v3520) a + S8x128.size a ≤ S65552x128.size a)
theorem k0_mult324_dvd : ∀ (v3520 : BitVec 32) (k0_hw324 : k0_chk324 v3520), 4 ∣ (k0_mult324 v3520).toNat := fun v3520 k0_hw324 => k0_hw324.1
theorem k0_off672_inb : ∀ (v3520 : BitVec 32) (k0_hw324 : k0_chk324 v3520), ∀ a, (k0_off672 v3520) a + S8x128.size a ≤ S65552x128.size a := fun v3520 k0_hw324 => k0_hw324.2

def k0_off673 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3533 : Index := Scalar.indexCast v2918
  ![v3533.toNat]
def k0_mult325 (v3534 : BitVec 32) : BitVec 32 :=
  v3534

def k0_off674 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3537 : Index := Scalar.indexCast v2918
  ![v3537.toNat]
def k0_mult326 (v3538 : BitVec 32) : BitVec 32 :=
  v3538

def k0_off675 (v3534 : BitVec 32) : Fin 2 → Nat :=
  let v3535 : BitVec 32 := v3534
  let v3540 : Index := Scalar.indexCast v3535
  let c0_1118 : Index := 0#32
  ![v3540.toNat, 0]

def k0_chk325 (v3534 : BitVec 32) : Prop :=
  (4 ∣ (k0_mult325 v3534).toNat) ∧
  (∀ a, (k0_off675 v3534) a + S8x128.size a ≤ S65552x128.size a)
theorem k0_mult325_dvd : ∀ (v3534 : BitVec 32) (k0_hw325 : k0_chk325 v3534), 4 ∣ (k0_mult325 v3534).toNat := fun v3534 k0_hw325 => k0_hw325.1
theorem k0_off675_inb : ∀ (v3534 : BitVec 32) (k0_hw325 : k0_chk325 v3534), ∀ a, (k0_off675 v3534) a + S8x128.size a ≤ S65552x128.size a := fun v3534 k0_hw325 => k0_hw325.2

def k0_off676 (v3538 : BitVec 32) : Fin 2 → Nat :=
  let v3539 : BitVec 32 := v3538
  let v3542 : Index := Scalar.indexCast v3539
  let c0_1119 : Index := 0#32
  ![v3542.toNat, 0]

def k0_chk326 (v3538 : BitVec 32) : Prop :=
  (4 ∣ (k0_mult326 v3538).toNat) ∧
  (∀ a, (k0_off676 v3538) a + S8x128.size a ≤ S65552x128.size a)
theorem k0_mult326_dvd : ∀ (v3538 : BitVec 32) (k0_hw326 : k0_chk326 v3538), 4 ∣ (k0_mult326 v3538).toNat := fun v3538 k0_hw326 => k0_hw326.1
theorem k0_off676_inb : ∀ (v3538 : BitVec 32) (k0_hw326 : k0_chk326 v3538), ∀ a, (k0_off676 v3538) a + S8x128.size a ≤ S65552x128.size a := fun v3538 k0_hw326 => k0_hw326.2

def k0_off677 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3551 : Index := Scalar.indexCast v2918
  ![v3551.toNat]
def k0_mult327 (v3552 : BitVec 32) : BitVec 32 :=
  v3552

def k0_off678 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3555 : Index := Scalar.indexCast v2918
  ![v3555.toNat]
def k0_mult328 (v3556 : BitVec 32) : BitVec 32 :=
  v3556

def k0_off679 (v3552 : BitVec 32) : Fin 2 → Nat :=
  let v3553 : BitVec 32 := v3552
  let v3558 : Index := Scalar.indexCast v3553
  let c0_1125 : Index := 0#32
  ![v3558.toNat, 0]

def k0_chk327 (v3552 : BitVec 32) : Prop :=
  (4 ∣ (k0_mult327 v3552).toNat) ∧
  (∀ a, (k0_off679 v3552) a + S8x128.size a ≤ S65552x128.size a)
theorem k0_mult327_dvd : ∀ (v3552 : BitVec 32) (k0_hw327 : k0_chk327 v3552), 4 ∣ (k0_mult327 v3552).toNat := fun v3552 k0_hw327 => k0_hw327.1
theorem k0_off679_inb : ∀ (v3552 : BitVec 32) (k0_hw327 : k0_chk327 v3552), ∀ a, (k0_off679 v3552) a + S8x128.size a ≤ S65552x128.size a := fun v3552 k0_hw327 => k0_hw327.2

def k0_off680 (v3556 : BitVec 32) : Fin 2 → Nat :=
  let v3557 : BitVec 32 := v3556
  let v3560 : Index := Scalar.indexCast v3557
  let c0_1126 : Index := 0#32
  ![v3560.toNat, 0]

def k0_chk328 (v3556 : BitVec 32) : Prop :=
  (4 ∣ (k0_mult328 v3556).toNat) ∧
  (∀ a, (k0_off680 v3556) a + S8x128.size a ≤ S65552x128.size a)
theorem k0_mult328_dvd : ∀ (v3556 : BitVec 32) (k0_hw328 : k0_chk328 v3556), 4 ∣ (k0_mult328 v3556).toNat := fun v3556 k0_hw328 => k0_hw328.1
theorem k0_off680_inb : ∀ (v3556 : BitVec 32) (k0_hw328 : k0_chk328 v3556), ∀ a, (k0_off680 v3556) a + S8x128.size a ≤ S65552x128.size a := fun v3556 k0_hw328 => k0_hw328.2

def k0_off681 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3569 : Index := Scalar.indexCast v2918
  ![v3569.toNat]
def k0_mult329 (v3570 : BitVec 32) : BitVec 32 :=
  v3570

def k0_off682 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3573 : Index := Scalar.indexCast v2918
  ![v3573.toNat]
def k0_mult330 (v3574 : BitVec 32) : BitVec 32 :=
  v3574

def k0_off683 (v3570 : BitVec 32) : Fin 2 → Nat :=
  let v3571 : BitVec 32 := v3570
  let v3576 : Index := Scalar.indexCast v3571
  let c0_1132 : Index := 0#32
  ![v3576.toNat, 0]

def k0_chk329 (v3570 : BitVec 32) : Prop :=
  (4 ∣ (k0_mult329 v3570).toNat) ∧
  (∀ a, (k0_off683 v3570) a + S8x128.size a ≤ S65552x128.size a)
theorem k0_mult329_dvd : ∀ (v3570 : BitVec 32) (k0_hw329 : k0_chk329 v3570), 4 ∣ (k0_mult329 v3570).toNat := fun v3570 k0_hw329 => k0_hw329.1
theorem k0_off683_inb : ∀ (v3570 : BitVec 32) (k0_hw329 : k0_chk329 v3570), ∀ a, (k0_off683 v3570) a + S8x128.size a ≤ S65552x128.size a := fun v3570 k0_hw329 => k0_hw329.2

def k0_off684 (v3574 : BitVec 32) : Fin 2 → Nat :=
  let v3575 : BitVec 32 := v3574
  let v3578 : Index := Scalar.indexCast v3575
  let c0_1133 : Index := 0#32
  ![v3578.toNat, 0]

def k0_chk330 (v3574 : BitVec 32) : Prop :=
  (4 ∣ (k0_mult330 v3574).toNat) ∧
  (∀ a, (k0_off684 v3574) a + S8x128.size a ≤ S65552x128.size a)
theorem k0_mult330_dvd : ∀ (v3574 : BitVec 32) (k0_hw330 : k0_chk330 v3574), 4 ∣ (k0_mult330 v3574).toNat := fun v3574 k0_hw330 => k0_hw330.1
theorem k0_off684_inb : ∀ (v3574 : BitVec 32) (k0_hw330 : k0_chk330 v3574), ∀ a, (k0_off684 v3574) a + S8x128.size a ≤ S65552x128.size a := fun v3574 k0_hw330 => k0_hw330.2

def k0_off685 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3587 : Index := Scalar.indexCast v2918
  ![v3587.toNat]
def k0_mult331 (v3588 : BitVec 32) : BitVec 32 :=
  v3588

def k0_off686 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3591 : Index := Scalar.indexCast v2918
  ![v3591.toNat]
def k0_mult332 (v3592 : BitVec 32) : BitVec 32 :=
  v3592

def k0_off687 (v3588 : BitVec 32) : Fin 2 → Nat :=
  let v3589 : BitVec 32 := v3588
  let v3594 : Index := Scalar.indexCast v3589
  let c0_1139 : Index := 0#32
  ![v3594.toNat, 0]

def k0_chk331 (v3588 : BitVec 32) : Prop :=
  (4 ∣ (k0_mult331 v3588).toNat) ∧
  (∀ a, (k0_off687 v3588) a + S8x128.size a ≤ S65552x128.size a)
theorem k0_mult331_dvd : ∀ (v3588 : BitVec 32) (k0_hw331 : k0_chk331 v3588), 4 ∣ (k0_mult331 v3588).toNat := fun v3588 k0_hw331 => k0_hw331.1
theorem k0_off687_inb : ∀ (v3588 : BitVec 32) (k0_hw331 : k0_chk331 v3588), ∀ a, (k0_off687 v3588) a + S8x128.size a ≤ S65552x128.size a := fun v3588 k0_hw331 => k0_hw331.2

def k0_off688 (v3592 : BitVec 32) : Fin 2 → Nat :=
  let v3593 : BitVec 32 := v3592
  let v3596 : Index := Scalar.indexCast v3593
  let c0_1140 : Index := 0#32
  ![v3596.toNat, 0]

def k0_chk332 (v3592 : BitVec 32) : Prop :=
  (4 ∣ (k0_mult332 v3592).toNat) ∧
  (∀ a, (k0_off688 v3592) a + S8x128.size a ≤ S65552x128.size a)
theorem k0_mult332_dvd : ∀ (v3592 : BitVec 32) (k0_hw332 : k0_chk332 v3592), 4 ∣ (k0_mult332 v3592).toNat := fun v3592 k0_hw332 => k0_hw332.1
theorem k0_off688_inb : ∀ (v3592 : BitVec 32) (k0_hw332 : k0_chk332 v3592), ∀ a, (k0_off688 v3592) a + S8x128.size a ≤ S65552x128.size a := fun v3592 k0_hw332 => k0_hw332.2

def k0_off689 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3605 : Index := Scalar.indexCast v2918
  ![v3605.toNat]
def k0_mult333 (v3606 : BitVec 32) : BitVec 32 :=
  v3606

def k0_off690 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3609 : Index := Scalar.indexCast v2918
  ![v3609.toNat]
def k0_mult334 (v3610 : BitVec 32) : BitVec 32 :=
  v3610

def k0_off691 (v3606 : BitVec 32) : Fin 2 → Nat :=
  let v3607 : BitVec 32 := v3606
  let v3612 : Index := Scalar.indexCast v3607
  let c0_1146 : Index := 0#32
  ![v3612.toNat, 0]

def k0_chk333 (v3606 : BitVec 32) : Prop :=
  (4 ∣ (k0_mult333 v3606).toNat) ∧
  (∀ a, (k0_off691 v3606) a + S8x128.size a ≤ S65552x128.size a)
theorem k0_mult333_dvd : ∀ (v3606 : BitVec 32) (k0_hw333 : k0_chk333 v3606), 4 ∣ (k0_mult333 v3606).toNat := fun v3606 k0_hw333 => k0_hw333.1
theorem k0_off691_inb : ∀ (v3606 : BitVec 32) (k0_hw333 : k0_chk333 v3606), ∀ a, (k0_off691 v3606) a + S8x128.size a ≤ S65552x128.size a := fun v3606 k0_hw333 => k0_hw333.2

def k0_off692 (v3610 : BitVec 32) : Fin 2 → Nat :=
  let v3611 : BitVec 32 := v3610
  let v3614 : Index := Scalar.indexCast v3611
  let c0_1147 : Index := 0#32
  ![v3614.toNat, 0]

def k0_chk334 (v3610 : BitVec 32) : Prop :=
  (4 ∣ (k0_mult334 v3610).toNat) ∧
  (∀ a, (k0_off692 v3610) a + S8x128.size a ≤ S65552x128.size a)
theorem k0_mult334_dvd : ∀ (v3610 : BitVec 32) (k0_hw334 : k0_chk334 v3610), 4 ∣ (k0_mult334 v3610).toNat := fun v3610 k0_hw334 => k0_hw334.1
theorem k0_off692_inb : ∀ (v3610 : BitVec 32) (k0_hw334 : k0_chk334 v3610), ∀ a, (k0_off692 v3610) a + S8x128.size a ≤ S65552x128.size a := fun v3610 k0_hw334 => k0_hw334.2

def k0_off693 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3623 : Index := Scalar.indexCast v2918
  ![v3623.toNat]
def k0_mult335 (v3624 : BitVec 32) : BitVec 32 :=
  v3624

def k0_off694 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3627 : Index := Scalar.indexCast v2918
  ![v3627.toNat]
def k0_mult336 (v3628 : BitVec 32) : BitVec 32 :=
  v3628

def k0_off695 (v3624 : BitVec 32) : Fin 2 → Nat :=
  let v3625 : BitVec 32 := v3624
  let v3630 : Index := Scalar.indexCast v3625
  let c0_1153 : Index := 0#32
  ![v3630.toNat, 0]

def k0_chk335 (v3624 : BitVec 32) : Prop :=
  (4 ∣ (k0_mult335 v3624).toNat) ∧
  (∀ a, (k0_off695 v3624) a + S8x128.size a ≤ S65552x128.size a)
theorem k0_mult335_dvd : ∀ (v3624 : BitVec 32) (k0_hw335 : k0_chk335 v3624), 4 ∣ (k0_mult335 v3624).toNat := fun v3624 k0_hw335 => k0_hw335.1
theorem k0_off695_inb : ∀ (v3624 : BitVec 32) (k0_hw335 : k0_chk335 v3624), ∀ a, (k0_off695 v3624) a + S8x128.size a ≤ S65552x128.size a := fun v3624 k0_hw335 => k0_hw335.2

def k0_off696 (v3628 : BitVec 32) : Fin 2 → Nat :=
  let v3629 : BitVec 32 := v3628
  let v3632 : Index := Scalar.indexCast v3629
  let c0_1154 : Index := 0#32
  ![v3632.toNat, 0]

def k0_chk336 (v3628 : BitVec 32) : Prop :=
  (4 ∣ (k0_mult336 v3628).toNat) ∧
  (∀ a, (k0_off696 v3628) a + S8x128.size a ≤ S65552x128.size a)
theorem k0_mult336_dvd : ∀ (v3628 : BitVec 32) (k0_hw336 : k0_chk336 v3628), 4 ∣ (k0_mult336 v3628).toNat := fun v3628 k0_hw336 => k0_hw336.1
theorem k0_off696_inb : ∀ (v3628 : BitVec 32) (k0_hw336 : k0_chk336 v3628), ∀ a, (k0_off696 v3628) a + S8x128.size a ≤ S65552x128.size a := fun v3628 k0_hw336 => k0_hw336.2

def k0_off697 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3641 : Index := Scalar.indexCast v2918
  ![v3641.toNat]
def k0_mult337 (v3642 : BitVec 32) : BitVec 32 :=
  v3642

def k0_off698 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3645 : Index := Scalar.indexCast v2918
  ![v3645.toNat]
def k0_mult338 (v3646 : BitVec 32) : BitVec 32 :=
  v3646

def k0_off699 (v3642 : BitVec 32) : Fin 2 → Nat :=
  let v3643 : BitVec 32 := v3642
  let v3648 : Index := Scalar.indexCast v3643
  let c0_1160 : Index := 0#32
  ![v3648.toNat, 0]

def k0_chk337 (v3642 : BitVec 32) : Prop :=
  (4 ∣ (k0_mult337 v3642).toNat) ∧
  (∀ a, (k0_off699 v3642) a + S8x128.size a ≤ S65552x128.size a)
theorem k0_mult337_dvd : ∀ (v3642 : BitVec 32) (k0_hw337 : k0_chk337 v3642), 4 ∣ (k0_mult337 v3642).toNat := fun v3642 k0_hw337 => k0_hw337.1
theorem k0_off699_inb : ∀ (v3642 : BitVec 32) (k0_hw337 : k0_chk337 v3642), ∀ a, (k0_off699 v3642) a + S8x128.size a ≤ S65552x128.size a := fun v3642 k0_hw337 => k0_hw337.2

def k0_off700 (v3646 : BitVec 32) : Fin 2 → Nat :=
  let v3647 : BitVec 32 := v3646
  let v3650 : Index := Scalar.indexCast v3647
  let c0_1161 : Index := 0#32
  ![v3650.toNat, 0]

def k0_chk338 (v3646 : BitVec 32) : Prop :=
  (4 ∣ (k0_mult338 v3646).toNat) ∧
  (∀ a, (k0_off700 v3646) a + S8x128.size a ≤ S65552x128.size a)
theorem k0_mult338_dvd : ∀ (v3646 : BitVec 32) (k0_hw338 : k0_chk338 v3646), 4 ∣ (k0_mult338 v3646).toNat := fun v3646 k0_hw338 => k0_hw338.1
theorem k0_off700_inb : ∀ (v3646 : BitVec 32) (k0_hw338 : k0_chk338 v3646), ∀ a, (k0_off700 v3646) a + S8x128.size a ≤ S65552x128.size a := fun v3646 k0_hw338 => k0_hw338.2

def k0_off701 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3659 : Index := Scalar.indexCast v2918
  ![v3659.toNat]
def k0_mult339 (v3660 : BitVec 32) : BitVec 32 :=
  v3660

def k0_off702 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3663 : Index := Scalar.indexCast v2918
  ![v3663.toNat]
def k0_mult340 (v3664 : BitVec 32) : BitVec 32 :=
  v3664

def k0_off703 (v3660 : BitVec 32) : Fin 2 → Nat :=
  let v3661 : BitVec 32 := v3660
  let v3666 : Index := Scalar.indexCast v3661
  let c0_1167 : Index := 0#32
  ![v3666.toNat, 0]

def k0_chk339 (v3660 : BitVec 32) : Prop :=
  (4 ∣ (k0_mult339 v3660).toNat) ∧
  (∀ a, (k0_off703 v3660) a + S8x128.size a ≤ S65552x128.size a)
theorem k0_mult339_dvd : ∀ (v3660 : BitVec 32) (k0_hw339 : k0_chk339 v3660), 4 ∣ (k0_mult339 v3660).toNat := fun v3660 k0_hw339 => k0_hw339.1
theorem k0_off703_inb : ∀ (v3660 : BitVec 32) (k0_hw339 : k0_chk339 v3660), ∀ a, (k0_off703 v3660) a + S8x128.size a ≤ S65552x128.size a := fun v3660 k0_hw339 => k0_hw339.2

def k0_off704 (v3664 : BitVec 32) : Fin 2 → Nat :=
  let v3665 : BitVec 32 := v3664
  let v3668 : Index := Scalar.indexCast v3665
  let c0_1168 : Index := 0#32
  ![v3668.toNat, 0]

def k0_chk340 (v3664 : BitVec 32) : Prop :=
  (4 ∣ (k0_mult340 v3664).toNat) ∧
  (∀ a, (k0_off704 v3664) a + S8x128.size a ≤ S65552x128.size a)
theorem k0_mult340_dvd : ∀ (v3664 : BitVec 32) (k0_hw340 : k0_chk340 v3664), 4 ∣ (k0_mult340 v3664).toNat := fun v3664 k0_hw340 => k0_hw340.1
theorem k0_off704_inb : ∀ (v3664 : BitVec 32) (k0_hw340 : k0_chk340 v3664), ∀ a, (k0_off704 v3664) a + S8x128.size a ≤ S65552x128.size a := fun v3664 k0_hw340 => k0_hw340.2

def k0_off705 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3677 : Index := Scalar.indexCast v2918
  ![v3677.toNat]
def k0_mult341 (v3678 : BitVec 32) : BitVec 32 :=
  v3678

def k0_off706 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3681 : Index := Scalar.indexCast v2918
  ![v3681.toNat]
def k0_mult342 (v3682 : BitVec 32) : BitVec 32 :=
  v3682

def k0_off707 (v3678 : BitVec 32) : Fin 2 → Nat :=
  let v3679 : BitVec 32 := v3678
  let v3684 : Index := Scalar.indexCast v3679
  let c0_1174 : Index := 0#32
  ![v3684.toNat, 0]

def k0_chk341 (v3678 : BitVec 32) : Prop :=
  (4 ∣ (k0_mult341 v3678).toNat) ∧
  (∀ a, (k0_off707 v3678) a + S8x128.size a ≤ S65552x128.size a)
theorem k0_mult341_dvd : ∀ (v3678 : BitVec 32) (k0_hw341 : k0_chk341 v3678), 4 ∣ (k0_mult341 v3678).toNat := fun v3678 k0_hw341 => k0_hw341.1
theorem k0_off707_inb : ∀ (v3678 : BitVec 32) (k0_hw341 : k0_chk341 v3678), ∀ a, (k0_off707 v3678) a + S8x128.size a ≤ S65552x128.size a := fun v3678 k0_hw341 => k0_hw341.2

def k0_off708 (v3682 : BitVec 32) : Fin 2 → Nat :=
  let v3683 : BitVec 32 := v3682
  let v3686 : Index := Scalar.indexCast v3683
  let c0_1175 : Index := 0#32
  ![v3686.toNat, 0]

def k0_chk342 (v3682 : BitVec 32) : Prop :=
  (4 ∣ (k0_mult342 v3682).toNat) ∧
  (∀ a, (k0_off708 v3682) a + S8x128.size a ≤ S65552x128.size a)
theorem k0_mult342_dvd : ∀ (v3682 : BitVec 32) (k0_hw342 : k0_chk342 v3682), 4 ∣ (k0_mult342 v3682).toNat := fun v3682 k0_hw342 => k0_hw342.1
theorem k0_off708_inb : ∀ (v3682 : BitVec 32) (k0_hw342 : k0_chk342 v3682), ∀ a, (k0_off708 v3682) a + S8x128.size a ≤ S65552x128.size a := fun v3682 k0_hw342 => k0_hw342.2

def k0_off709 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3695 : Index := Scalar.indexCast v2918
  ![v3695.toNat]
def k0_mult343 (v3696 : BitVec 32) : BitVec 32 :=
  v3696

def k0_off710 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3699 : Index := Scalar.indexCast v2918
  ![v3699.toNat]
def k0_mult344 (v3700 : BitVec 32) : BitVec 32 :=
  v3700

def k0_off711 (v3696 : BitVec 32) : Fin 2 → Nat :=
  let v3697 : BitVec 32 := v3696
  let v3702 : Index := Scalar.indexCast v3697
  let c0_1181 : Index := 0#32
  ![v3702.toNat, 0]

def k0_chk343 (v3696 : BitVec 32) : Prop :=
  (4 ∣ (k0_mult343 v3696).toNat) ∧
  (∀ a, (k0_off711 v3696) a + S8x128.size a ≤ S65552x128.size a)
theorem k0_mult343_dvd : ∀ (v3696 : BitVec 32) (k0_hw343 : k0_chk343 v3696), 4 ∣ (k0_mult343 v3696).toNat := fun v3696 k0_hw343 => k0_hw343.1
theorem k0_off711_inb : ∀ (v3696 : BitVec 32) (k0_hw343 : k0_chk343 v3696), ∀ a, (k0_off711 v3696) a + S8x128.size a ≤ S65552x128.size a := fun v3696 k0_hw343 => k0_hw343.2

def k0_off712 (v3700 : BitVec 32) : Fin 2 → Nat :=
  let v3701 : BitVec 32 := v3700
  let v3704 : Index := Scalar.indexCast v3701
  let c0_1182 : Index := 0#32
  ![v3704.toNat, 0]

def k0_chk344 (v3700 : BitVec 32) : Prop :=
  (4 ∣ (k0_mult344 v3700).toNat) ∧
  (∀ a, (k0_off712 v3700) a + S8x128.size a ≤ S65552x128.size a)
theorem k0_mult344_dvd : ∀ (v3700 : BitVec 32) (k0_hw344 : k0_chk344 v3700), 4 ∣ (k0_mult344 v3700).toNat := fun v3700 k0_hw344 => k0_hw344.1
theorem k0_off712_inb : ∀ (v3700 : BitVec 32) (k0_hw344 : k0_chk344 v3700), ∀ a, (k0_off712 v3700) a + S8x128.size a ≤ S65552x128.size a := fun v3700 k0_hw344 => k0_hw344.2

def k0_off713 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3713 : Index := Scalar.indexCast v2918
  ![v3713.toNat]
def k0_mult345 (v3714 : BitVec 32) : BitVec 32 :=
  v3714

def k0_off714 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3717 : Index := Scalar.indexCast v2918
  ![v3717.toNat]
def k0_mult346 (v3718 : BitVec 32) : BitVec 32 :=
  v3718

def k0_off715 (v3714 : BitVec 32) : Fin 2 → Nat :=
  let v3715 : BitVec 32 := v3714
  let v3720 : Index := Scalar.indexCast v3715
  let c0_1188 : Index := 0#32
  ![v3720.toNat, 0]

def k0_chk345 (v3714 : BitVec 32) : Prop :=
  (4 ∣ (k0_mult345 v3714).toNat) ∧
  (∀ a, (k0_off715 v3714) a + S8x128.size a ≤ S65552x128.size a)
theorem k0_mult345_dvd : ∀ (v3714 : BitVec 32) (k0_hw345 : k0_chk345 v3714), 4 ∣ (k0_mult345 v3714).toNat := fun v3714 k0_hw345 => k0_hw345.1
theorem k0_off715_inb : ∀ (v3714 : BitVec 32) (k0_hw345 : k0_chk345 v3714), ∀ a, (k0_off715 v3714) a + S8x128.size a ≤ S65552x128.size a := fun v3714 k0_hw345 => k0_hw345.2

def k0_off716 (v3718 : BitVec 32) : Fin 2 → Nat :=
  let v3719 : BitVec 32 := v3718
  let v3722 : Index := Scalar.indexCast v3719
  let c0_1189 : Index := 0#32
  ![v3722.toNat, 0]

def k0_chk346 (v3718 : BitVec 32) : Prop :=
  (4 ∣ (k0_mult346 v3718).toNat) ∧
  (∀ a, (k0_off716 v3718) a + S8x128.size a ≤ S65552x128.size a)
theorem k0_mult346_dvd : ∀ (v3718 : BitVec 32) (k0_hw346 : k0_chk346 v3718), 4 ∣ (k0_mult346 v3718).toNat := fun v3718 k0_hw346 => k0_hw346.1
theorem k0_off716_inb : ∀ (v3718 : BitVec 32) (k0_hw346 : k0_chk346 v3718), ∀ a, (k0_off716 v3718) a + S8x128.size a ≤ S65552x128.size a := fun v3718 k0_hw346 => k0_hw346.2

def k0_off717 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3731 : Index := Scalar.indexCast v2918
  ![v3731.toNat]
def k0_mult347 (v3732 : BitVec 32) : BitVec 32 :=
  v3732

def k0_off718 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3735 : Index := Scalar.indexCast v2918
  ![v3735.toNat]
def k0_mult348 (v3736 : BitVec 32) : BitVec 32 :=
  v3736

def k0_off719 (v3732 : BitVec 32) : Fin 2 → Nat :=
  let v3733 : BitVec 32 := v3732
  let v3738 : Index := Scalar.indexCast v3733
  let c0_1195 : Index := 0#32
  ![v3738.toNat, 0]

def k0_chk347 (v3732 : BitVec 32) : Prop :=
  (4 ∣ (k0_mult347 v3732).toNat) ∧
  (∀ a, (k0_off719 v3732) a + S8x128.size a ≤ S65552x128.size a)
theorem k0_mult347_dvd : ∀ (v3732 : BitVec 32) (k0_hw347 : k0_chk347 v3732), 4 ∣ (k0_mult347 v3732).toNat := fun v3732 k0_hw347 => k0_hw347.1
theorem k0_off719_inb : ∀ (v3732 : BitVec 32) (k0_hw347 : k0_chk347 v3732), ∀ a, (k0_off719 v3732) a + S8x128.size a ≤ S65552x128.size a := fun v3732 k0_hw347 => k0_hw347.2

def k0_off720 (v3736 : BitVec 32) : Fin 2 → Nat :=
  let v3737 : BitVec 32 := v3736
  let v3740 : Index := Scalar.indexCast v3737
  let c0_1196 : Index := 0#32
  ![v3740.toNat, 0]

def k0_chk348 (v3736 : BitVec 32) : Prop :=
  (4 ∣ (k0_mult348 v3736).toNat) ∧
  (∀ a, (k0_off720 v3736) a + S8x128.size a ≤ S65552x128.size a)
theorem k0_mult348_dvd : ∀ (v3736 : BitVec 32) (k0_hw348 : k0_chk348 v3736), 4 ∣ (k0_mult348 v3736).toNat := fun v3736 k0_hw348 => k0_hw348.1
theorem k0_off720_inb : ∀ (v3736 : BitVec 32) (k0_hw348 : k0_chk348 v3736), ∀ a, (k0_off720 v3736) a + S8x128.size a ≤ S65552x128.size a := fun v3736 k0_hw348 => k0_hw348.2

def k0_off721 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3749 : Index := Scalar.indexCast v2918
  ![v3749.toNat]
def k0_mult349 (v3750 : BitVec 32) : BitVec 32 :=
  v3750

def k0_off722 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3753 : Index := Scalar.indexCast v2918
  ![v3753.toNat]
def k0_mult350 (v3754 : BitVec 32) : BitVec 32 :=
  v3754

def k0_off723 (v3750 : BitVec 32) : Fin 2 → Nat :=
  let v3751 : BitVec 32 := v3750
  let v3756 : Index := Scalar.indexCast v3751
  let c0_1202 : Index := 0#32
  ![v3756.toNat, 0]

def k0_chk349 (v3750 : BitVec 32) : Prop :=
  (4 ∣ (k0_mult349 v3750).toNat) ∧
  (∀ a, (k0_off723 v3750) a + S8x128.size a ≤ S65552x128.size a)
theorem k0_mult349_dvd : ∀ (v3750 : BitVec 32) (k0_hw349 : k0_chk349 v3750), 4 ∣ (k0_mult349 v3750).toNat := fun v3750 k0_hw349 => k0_hw349.1
theorem k0_off723_inb : ∀ (v3750 : BitVec 32) (k0_hw349 : k0_chk349 v3750), ∀ a, (k0_off723 v3750) a + S8x128.size a ≤ S65552x128.size a := fun v3750 k0_hw349 => k0_hw349.2

def k0_off724 (v3754 : BitVec 32) : Fin 2 → Nat :=
  let v3755 : BitVec 32 := v3754
  let v3758 : Index := Scalar.indexCast v3755
  let c0_1203 : Index := 0#32
  ![v3758.toNat, 0]

def k0_chk350 (v3754 : BitVec 32) : Prop :=
  (4 ∣ (k0_mult350 v3754).toNat) ∧
  (∀ a, (k0_off724 v3754) a + S8x128.size a ≤ S65552x128.size a)
theorem k0_mult350_dvd : ∀ (v3754 : BitVec 32) (k0_hw350 : k0_chk350 v3754), 4 ∣ (k0_mult350 v3754).toNat := fun v3754 k0_hw350 => k0_hw350.1
theorem k0_off724_inb : ∀ (v3754 : BitVec 32) (k0_hw350 : k0_chk350 v3754), ∀ a, (k0_off724 v3754) a + S8x128.size a ≤ S65552x128.size a := fun v3754 k0_hw350 => k0_hw350.2

def k0_off725 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3767 : Index := Scalar.indexCast v2918
  ![v3767.toNat]
def k0_mult351 (v3768 : BitVec 32) : BitVec 32 :=
  v3768

def k0_off726 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3771 : Index := Scalar.indexCast v2918
  ![v3771.toNat]
def k0_mult352 (v3772 : BitVec 32) : BitVec 32 :=
  v3772

def k0_off727 (v3768 : BitVec 32) : Fin 2 → Nat :=
  let v3769 : BitVec 32 := v3768
  let v3774 : Index := Scalar.indexCast v3769
  let c0_1209 : Index := 0#32
  ![v3774.toNat, 0]

def k0_chk351 (v3768 : BitVec 32) : Prop :=
  (4 ∣ (k0_mult351 v3768).toNat) ∧
  (∀ a, (k0_off727 v3768) a + S8x128.size a ≤ S65552x128.size a)
theorem k0_mult351_dvd : ∀ (v3768 : BitVec 32) (k0_hw351 : k0_chk351 v3768), 4 ∣ (k0_mult351 v3768).toNat := fun v3768 k0_hw351 => k0_hw351.1
theorem k0_off727_inb : ∀ (v3768 : BitVec 32) (k0_hw351 : k0_chk351 v3768), ∀ a, (k0_off727 v3768) a + S8x128.size a ≤ S65552x128.size a := fun v3768 k0_hw351 => k0_hw351.2

def k0_off728 (v3772 : BitVec 32) : Fin 2 → Nat :=
  let v3773 : BitVec 32 := v3772
  let v3776 : Index := Scalar.indexCast v3773
  let c0_1210 : Index := 0#32
  ![v3776.toNat, 0]

def k0_chk352 (v3772 : BitVec 32) : Prop :=
  (4 ∣ (k0_mult352 v3772).toNat) ∧
  (∀ a, (k0_off728 v3772) a + S8x128.size a ≤ S65552x128.size a)
theorem k0_mult352_dvd : ∀ (v3772 : BitVec 32) (k0_hw352 : k0_chk352 v3772), 4 ∣ (k0_mult352 v3772).toNat := fun v3772 k0_hw352 => k0_hw352.1
theorem k0_off728_inb : ∀ (v3772 : BitVec 32) (k0_hw352 : k0_chk352 v3772), ∀ a, (k0_off728 v3772) a + S8x128.size a ≤ S65552x128.size a := fun v3772 k0_hw352 => k0_hw352.2

def k0_off729 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3785 : Index := Scalar.indexCast v2918
  ![v3785.toNat]
def k0_mult353 (v3786 : BitVec 32) : BitVec 32 :=
  v3786

def k0_off730 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3789 : Index := Scalar.indexCast v2918
  ![v3789.toNat]
def k0_mult354 (v3790 : BitVec 32) : BitVec 32 :=
  v3790

def k0_off731 (v3786 : BitVec 32) : Fin 2 → Nat :=
  let v3787 : BitVec 32 := v3786
  let v3792 : Index := Scalar.indexCast v3787
  let c0_1216 : Index := 0#32
  ![v3792.toNat, 0]

def k0_chk353 (v3786 : BitVec 32) : Prop :=
  (4 ∣ (k0_mult353 v3786).toNat) ∧
  (∀ a, (k0_off731 v3786) a + S8x128.size a ≤ S65552x128.size a)
theorem k0_mult353_dvd : ∀ (v3786 : BitVec 32) (k0_hw353 : k0_chk353 v3786), 4 ∣ (k0_mult353 v3786).toNat := fun v3786 k0_hw353 => k0_hw353.1
theorem k0_off731_inb : ∀ (v3786 : BitVec 32) (k0_hw353 : k0_chk353 v3786), ∀ a, (k0_off731 v3786) a + S8x128.size a ≤ S65552x128.size a := fun v3786 k0_hw353 => k0_hw353.2

def k0_off732 (v3790 : BitVec 32) : Fin 2 → Nat :=
  let v3791 : BitVec 32 := v3790
  let v3794 : Index := Scalar.indexCast v3791
  let c0_1217 : Index := 0#32
  ![v3794.toNat, 0]

def k0_chk354 (v3790 : BitVec 32) : Prop :=
  (4 ∣ (k0_mult354 v3790).toNat) ∧
  (∀ a, (k0_off732 v3790) a + S8x128.size a ≤ S65552x128.size a)
theorem k0_mult354_dvd : ∀ (v3790 : BitVec 32) (k0_hw354 : k0_chk354 v3790), 4 ∣ (k0_mult354 v3790).toNat := fun v3790 k0_hw354 => k0_hw354.1
theorem k0_off732_inb : ∀ (v3790 : BitVec 32) (k0_hw354 : k0_chk354 v3790), ∀ a, (k0_off732 v3790) a + S8x128.size a ≤ S65552x128.size a := fun v3790 k0_hw354 => k0_hw354.2

def k0_off733 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3803 : Index := Scalar.indexCast v2918
  ![v3803.toNat]
def k0_mult355 (v3804 : BitVec 32) : BitVec 32 :=
  v3804

def k0_off734 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3807 : Index := Scalar.indexCast v2918
  ![v3807.toNat]
def k0_mult356 (v3808 : BitVec 32) : BitVec 32 :=
  v3808

def k0_off735 (v3804 : BitVec 32) : Fin 2 → Nat :=
  let v3805 : BitVec 32 := v3804
  let v3810 : Index := Scalar.indexCast v3805
  let c0_1223 : Index := 0#32
  ![v3810.toNat, 0]

def k0_chk355 (v3804 : BitVec 32) : Prop :=
  (4 ∣ (k0_mult355 v3804).toNat) ∧
  (∀ a, (k0_off735 v3804) a + S8x128.size a ≤ S65552x128.size a)
theorem k0_mult355_dvd : ∀ (v3804 : BitVec 32) (k0_hw355 : k0_chk355 v3804), 4 ∣ (k0_mult355 v3804).toNat := fun v3804 k0_hw355 => k0_hw355.1
theorem k0_off735_inb : ∀ (v3804 : BitVec 32) (k0_hw355 : k0_chk355 v3804), ∀ a, (k0_off735 v3804) a + S8x128.size a ≤ S65552x128.size a := fun v3804 k0_hw355 => k0_hw355.2

def k0_off736 (v3808 : BitVec 32) : Fin 2 → Nat :=
  let v3809 : BitVec 32 := v3808
  let v3812 : Index := Scalar.indexCast v3809
  let c0_1224 : Index := 0#32
  ![v3812.toNat, 0]

def k0_chk356 (v3808 : BitVec 32) : Prop :=
  (4 ∣ (k0_mult356 v3808).toNat) ∧
  (∀ a, (k0_off736 v3808) a + S8x128.size a ≤ S65552x128.size a)
theorem k0_mult356_dvd : ∀ (v3808 : BitVec 32) (k0_hw356 : k0_chk356 v3808), 4 ∣ (k0_mult356 v3808).toNat := fun v3808 k0_hw356 => k0_hw356.1
theorem k0_off736_inb : ∀ (v3808 : BitVec 32) (k0_hw356 : k0_chk356 v3808), ∀ a, (k0_off736 v3808) a + S8x128.size a ≤ S65552x128.size a := fun v3808 k0_hw356 => k0_hw356.2

def k0_off737 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3821 : Index := Scalar.indexCast v2918
  ![v3821.toNat]
def k0_mult357 (v3822 : BitVec 32) : BitVec 32 :=
  v3822

def k0_off738 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3825 : Index := Scalar.indexCast v2918
  ![v3825.toNat]
def k0_mult358 (v3826 : BitVec 32) : BitVec 32 :=
  v3826

def k0_off739 (v3822 : BitVec 32) : Fin 2 → Nat :=
  let v3823 : BitVec 32 := v3822
  let v3828 : Index := Scalar.indexCast v3823
  let c0_1230 : Index := 0#32
  ![v3828.toNat, 0]

def k0_chk357 (v3822 : BitVec 32) : Prop :=
  (4 ∣ (k0_mult357 v3822).toNat) ∧
  (∀ a, (k0_off739 v3822) a + S8x128.size a ≤ S65552x128.size a)
theorem k0_mult357_dvd : ∀ (v3822 : BitVec 32) (k0_hw357 : k0_chk357 v3822), 4 ∣ (k0_mult357 v3822).toNat := fun v3822 k0_hw357 => k0_hw357.1
theorem k0_off739_inb : ∀ (v3822 : BitVec 32) (k0_hw357 : k0_chk357 v3822), ∀ a, (k0_off739 v3822) a + S8x128.size a ≤ S65552x128.size a := fun v3822 k0_hw357 => k0_hw357.2

def k0_off740 (v3826 : BitVec 32) : Fin 2 → Nat :=
  let v3827 : BitVec 32 := v3826
  let v3830 : Index := Scalar.indexCast v3827
  let c0_1231 : Index := 0#32
  ![v3830.toNat, 0]

def k0_chk358 (v3826 : BitVec 32) : Prop :=
  (4 ∣ (k0_mult358 v3826).toNat) ∧
  (∀ a, (k0_off740 v3826) a + S8x128.size a ≤ S65552x128.size a)
theorem k0_mult358_dvd : ∀ (v3826 : BitVec 32) (k0_hw358 : k0_chk358 v3826), 4 ∣ (k0_mult358 v3826).toNat := fun v3826 k0_hw358 => k0_hw358.1
theorem k0_off740_inb : ∀ (v3826 : BitVec 32) (k0_hw358 : k0_chk358 v3826), ∀ a, (k0_off740 v3826) a + S8x128.size a ≤ S65552x128.size a := fun v3826 k0_hw358 => k0_hw358.2

def k0_off741 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3839 : Index := Scalar.indexCast v2918
  ![v3839.toNat]
def k0_mult359 (v3840 : BitVec 32) : BitVec 32 :=
  v3840

def k0_off742 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3843 : Index := Scalar.indexCast v2918
  ![v3843.toNat]
def k0_mult360 (v3844 : BitVec 32) : BitVec 32 :=
  v3844

def k0_off743 (v3840 : BitVec 32) : Fin 2 → Nat :=
  let v3841 : BitVec 32 := v3840
  let v3846 : Index := Scalar.indexCast v3841
  let c0_1237 : Index := 0#32
  ![v3846.toNat, 0]

def k0_chk359 (v3840 : BitVec 32) : Prop :=
  (4 ∣ (k0_mult359 v3840).toNat) ∧
  (∀ a, (k0_off743 v3840) a + S8x128.size a ≤ S65552x128.size a)
theorem k0_mult359_dvd : ∀ (v3840 : BitVec 32) (k0_hw359 : k0_chk359 v3840), 4 ∣ (k0_mult359 v3840).toNat := fun v3840 k0_hw359 => k0_hw359.1
theorem k0_off743_inb : ∀ (v3840 : BitVec 32) (k0_hw359 : k0_chk359 v3840), ∀ a, (k0_off743 v3840) a + S8x128.size a ≤ S65552x128.size a := fun v3840 k0_hw359 => k0_hw359.2

def k0_off744 (v3844 : BitVec 32) : Fin 2 → Nat :=
  let v3845 : BitVec 32 := v3844
  let v3848 : Index := Scalar.indexCast v3845
  let c0_1238 : Index := 0#32
  ![v3848.toNat, 0]

def k0_chk360 (v3844 : BitVec 32) : Prop :=
  (4 ∣ (k0_mult360 v3844).toNat) ∧
  (∀ a, (k0_off744 v3844) a + S8x128.size a ≤ S65552x128.size a)
theorem k0_mult360_dvd : ∀ (v3844 : BitVec 32) (k0_hw360 : k0_chk360 v3844), 4 ∣ (k0_mult360 v3844).toNat := fun v3844 k0_hw360 => k0_hw360.1
theorem k0_off744_inb : ∀ (v3844 : BitVec 32) (k0_hw360 : k0_chk360 v3844), ∀ a, (k0_off744 v3844) a + S8x128.size a ≤ S65552x128.size a := fun v3844 k0_hw360 => k0_hw360.2

def k0_off745 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3857 : Index := Scalar.indexCast v2918
  ![v3857.toNat]
def k0_mult361 (v3858 : BitVec 32) : BitVec 32 :=
  v3858

def k0_off746 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3861 : Index := Scalar.indexCast v2918
  ![v3861.toNat]
def k0_mult362 (v3862 : BitVec 32) : BitVec 32 :=
  v3862

def k0_off747 (v3858 : BitVec 32) : Fin 2 → Nat :=
  let v3859 : BitVec 32 := v3858
  let v3864 : Index := Scalar.indexCast v3859
  let c0_1244 : Index := 0#32
  ![v3864.toNat, 0]

def k0_chk361 (v3858 : BitVec 32) : Prop :=
  (4 ∣ (k0_mult361 v3858).toNat) ∧
  (∀ a, (k0_off747 v3858) a + S8x128.size a ≤ S65552x128.size a)
theorem k0_mult361_dvd : ∀ (v3858 : BitVec 32) (k0_hw361 : k0_chk361 v3858), 4 ∣ (k0_mult361 v3858).toNat := fun v3858 k0_hw361 => k0_hw361.1
theorem k0_off747_inb : ∀ (v3858 : BitVec 32) (k0_hw361 : k0_chk361 v3858), ∀ a, (k0_off747 v3858) a + S8x128.size a ≤ S65552x128.size a := fun v3858 k0_hw361 => k0_hw361.2

def k0_off748 (v3862 : BitVec 32) : Fin 2 → Nat :=
  let v3863 : BitVec 32 := v3862
  let v3866 : Index := Scalar.indexCast v3863
  let c0_1245 : Index := 0#32
  ![v3866.toNat, 0]

def k0_chk362 (v3862 : BitVec 32) : Prop :=
  (4 ∣ (k0_mult362 v3862).toNat) ∧
  (∀ a, (k0_off748 v3862) a + S8x128.size a ≤ S65552x128.size a)
theorem k0_mult362_dvd : ∀ (v3862 : BitVec 32) (k0_hw362 : k0_chk362 v3862), 4 ∣ (k0_mult362 v3862).toNat := fun v3862 k0_hw362 => k0_hw362.1
theorem k0_off748_inb : ∀ (v3862 : BitVec 32) (k0_hw362 : k0_chk362 v3862), ∀ a, (k0_off748 v3862) a + S8x128.size a ≤ S65552x128.size a := fun v3862 k0_hw362 => k0_hw362.2

def k0_off749 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3875 : Index := Scalar.indexCast v2918
  ![v3875.toNat]
def k0_mult363 (v3876 : BitVec 32) : BitVec 32 :=
  v3876

def k0_off750 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3879 : Index := Scalar.indexCast v2918
  ![v3879.toNat]
def k0_mult364 (v3880 : BitVec 32) : BitVec 32 :=
  v3880

def k0_off751 (v3876 : BitVec 32) : Fin 2 → Nat :=
  let v3877 : BitVec 32 := v3876
  let v3882 : Index := Scalar.indexCast v3877
  let c0_1251 : Index := 0#32
  ![v3882.toNat, 0]

def k0_chk363 (v3876 : BitVec 32) : Prop :=
  (4 ∣ (k0_mult363 v3876).toNat) ∧
  (∀ a, (k0_off751 v3876) a + S8x128.size a ≤ S65552x128.size a)
theorem k0_mult363_dvd : ∀ (v3876 : BitVec 32) (k0_hw363 : k0_chk363 v3876), 4 ∣ (k0_mult363 v3876).toNat := fun v3876 k0_hw363 => k0_hw363.1
theorem k0_off751_inb : ∀ (v3876 : BitVec 32) (k0_hw363 : k0_chk363 v3876), ∀ a, (k0_off751 v3876) a + S8x128.size a ≤ S65552x128.size a := fun v3876 k0_hw363 => k0_hw363.2

def k0_off752 (v3880 : BitVec 32) : Fin 2 → Nat :=
  let v3881 : BitVec 32 := v3880
  let v3884 : Index := Scalar.indexCast v3881
  let c0_1252 : Index := 0#32
  ![v3884.toNat, 0]

def k0_chk364 (v3880 : BitVec 32) : Prop :=
  (4 ∣ (k0_mult364 v3880).toNat) ∧
  (∀ a, (k0_off752 v3880) a + S8x128.size a ≤ S65552x128.size a)
theorem k0_mult364_dvd : ∀ (v3880 : BitVec 32) (k0_hw364 : k0_chk364 v3880), 4 ∣ (k0_mult364 v3880).toNat := fun v3880 k0_hw364 => k0_hw364.1
theorem k0_off752_inb : ∀ (v3880 : BitVec 32) (k0_hw364 : k0_chk364 v3880), ∀ a, (k0_off752 v3880) a + S8x128.size a ≤ S65552x128.size a := fun v3880 k0_hw364 => k0_hw364.2

def k0_off753 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3893 : Index := Scalar.indexCast v2918
  ![v3893.toNat]
def k0_mult365 (v3894 : BitVec 32) : BitVec 32 :=
  v3894

def k0_off754 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3897 : Index := Scalar.indexCast v2918
  ![v3897.toNat]
def k0_mult366 (v3898 : BitVec 32) : BitVec 32 :=
  v3898

def k0_off755 (v3894 : BitVec 32) : Fin 2 → Nat :=
  let v3895 : BitVec 32 := v3894
  let v3900 : Index := Scalar.indexCast v3895
  let c0_1258 : Index := 0#32
  ![v3900.toNat, 0]

def k0_chk365 (v3894 : BitVec 32) : Prop :=
  (4 ∣ (k0_mult365 v3894).toNat) ∧
  (∀ a, (k0_off755 v3894) a + S8x128.size a ≤ S65552x128.size a)
theorem k0_mult365_dvd : ∀ (v3894 : BitVec 32) (k0_hw365 : k0_chk365 v3894), 4 ∣ (k0_mult365 v3894).toNat := fun v3894 k0_hw365 => k0_hw365.1
theorem k0_off755_inb : ∀ (v3894 : BitVec 32) (k0_hw365 : k0_chk365 v3894), ∀ a, (k0_off755 v3894) a + S8x128.size a ≤ S65552x128.size a := fun v3894 k0_hw365 => k0_hw365.2

def k0_off756 (v3898 : BitVec 32) : Fin 2 → Nat :=
  let v3899 : BitVec 32 := v3898
  let v3902 : Index := Scalar.indexCast v3899
  let c0_1259 : Index := 0#32
  ![v3902.toNat, 0]

def k0_chk366 (v3898 : BitVec 32) : Prop :=
  (4 ∣ (k0_mult366 v3898).toNat) ∧
  (∀ a, (k0_off756 v3898) a + S8x128.size a ≤ S65552x128.size a)
theorem k0_mult366_dvd : ∀ (v3898 : BitVec 32) (k0_hw366 : k0_chk366 v3898), 4 ∣ (k0_mult366 v3898).toNat := fun v3898 k0_hw366 => k0_hw366.1
theorem k0_off756_inb : ∀ (v3898 : BitVec 32) (k0_hw366 : k0_chk366 v3898), ∀ a, (k0_off756 v3898) a + S8x128.size a ≤ S65552x128.size a := fun v3898 k0_hw366 => k0_hw366.2

def k0_off757 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3911 : Index := Scalar.indexCast v2918
  ![v3911.toNat]
def k0_mult367 (v3912 : BitVec 32) : BitVec 32 :=
  v3912

def k0_off758 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3915 : Index := Scalar.indexCast v2918
  ![v3915.toNat]
def k0_mult368 (v3916 : BitVec 32) : BitVec 32 :=
  v3916

def k0_off759 (v3912 : BitVec 32) : Fin 2 → Nat :=
  let v3913 : BitVec 32 := v3912
  let v3918 : Index := Scalar.indexCast v3913
  let c0_1265 : Index := 0#32
  ![v3918.toNat, 0]

def k0_chk367 (v3912 : BitVec 32) : Prop :=
  (4 ∣ (k0_mult367 v3912).toNat) ∧
  (∀ a, (k0_off759 v3912) a + S8x128.size a ≤ S65552x128.size a)
theorem k0_mult367_dvd : ∀ (v3912 : BitVec 32) (k0_hw367 : k0_chk367 v3912), 4 ∣ (k0_mult367 v3912).toNat := fun v3912 k0_hw367 => k0_hw367.1
theorem k0_off759_inb : ∀ (v3912 : BitVec 32) (k0_hw367 : k0_chk367 v3912), ∀ a, (k0_off759 v3912) a + S8x128.size a ≤ S65552x128.size a := fun v3912 k0_hw367 => k0_hw367.2

def k0_off760 (v3916 : BitVec 32) : Fin 2 → Nat :=
  let v3917 : BitVec 32 := v3916
  let v3920 : Index := Scalar.indexCast v3917
  let c0_1266 : Index := 0#32
  ![v3920.toNat, 0]

def k0_chk368 (v3916 : BitVec 32) : Prop :=
  (4 ∣ (k0_mult368 v3916).toNat) ∧
  (∀ a, (k0_off760 v3916) a + S8x128.size a ≤ S65552x128.size a)
theorem k0_mult368_dvd : ∀ (v3916 : BitVec 32) (k0_hw368 : k0_chk368 v3916), 4 ∣ (k0_mult368 v3916).toNat := fun v3916 k0_hw368 => k0_hw368.1
theorem k0_off760_inb : ∀ (v3916 : BitVec 32) (k0_hw368 : k0_chk368 v3916), ∀ a, (k0_off760 v3916) a + S8x128.size a ≤ S65552x128.size a := fun v3916 k0_hw368 => k0_hw368.2

def k0_off761 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3929 : Index := Scalar.indexCast v2918
  ![v3929.toNat]
def k0_mult369 (v3930 : BitVec 32) : BitVec 32 :=
  v3930

def k0_off762 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3933 : Index := Scalar.indexCast v2918
  ![v3933.toNat]
def k0_mult370 (v3934 : BitVec 32) : BitVec 32 :=
  v3934

def k0_off763 (v3930 : BitVec 32) : Fin 2 → Nat :=
  let v3931 : BitVec 32 := v3930
  let v3936 : Index := Scalar.indexCast v3931
  let c0_1272 : Index := 0#32
  ![v3936.toNat, 0]

def k0_chk369 (v3930 : BitVec 32) : Prop :=
  (4 ∣ (k0_mult369 v3930).toNat) ∧
  (∀ a, (k0_off763 v3930) a + S8x128.size a ≤ S65552x128.size a)
theorem k0_mult369_dvd : ∀ (v3930 : BitVec 32) (k0_hw369 : k0_chk369 v3930), 4 ∣ (k0_mult369 v3930).toNat := fun v3930 k0_hw369 => k0_hw369.1
theorem k0_off763_inb : ∀ (v3930 : BitVec 32) (k0_hw369 : k0_chk369 v3930), ∀ a, (k0_off763 v3930) a + S8x128.size a ≤ S65552x128.size a := fun v3930 k0_hw369 => k0_hw369.2

def k0_off764 (v3934 : BitVec 32) : Fin 2 → Nat :=
  let v3935 : BitVec 32 := v3934
  let v3938 : Index := Scalar.indexCast v3935
  let c0_1273 : Index := 0#32
  ![v3938.toNat, 0]

def k0_chk370 (v3934 : BitVec 32) : Prop :=
  (4 ∣ (k0_mult370 v3934).toNat) ∧
  (∀ a, (k0_off764 v3934) a + S8x128.size a ≤ S65552x128.size a)
theorem k0_mult370_dvd : ∀ (v3934 : BitVec 32) (k0_hw370 : k0_chk370 v3934), 4 ∣ (k0_mult370 v3934).toNat := fun v3934 k0_hw370 => k0_hw370.1
theorem k0_off764_inb : ∀ (v3934 : BitVec 32) (k0_hw370 : k0_chk370 v3934), ∀ a, (k0_off764 v3934) a + S8x128.size a ≤ S65552x128.size a := fun v3934 k0_hw370 => k0_hw370.2

def k0_off765 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3947 : Index := Scalar.indexCast v2918
  ![v3947.toNat]
def k0_mult371 (v3948 : BitVec 32) : BitVec 32 :=
  v3948

def k0_off766 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3951 : Index := Scalar.indexCast v2918
  ![v3951.toNat]
def k0_mult372 (v3952 : BitVec 32) : BitVec 32 :=
  v3952

def k0_off767 (v3948 : BitVec 32) : Fin 2 → Nat :=
  let v3949 : BitVec 32 := v3948
  let v3954 : Index := Scalar.indexCast v3949
  let c0_1279 : Index := 0#32
  ![v3954.toNat, 0]

def k0_chk371 (v3948 : BitVec 32) : Prop :=
  (4 ∣ (k0_mult371 v3948).toNat) ∧
  (∀ a, (k0_off767 v3948) a + S8x128.size a ≤ S65552x128.size a)
theorem k0_mult371_dvd : ∀ (v3948 : BitVec 32) (k0_hw371 : k0_chk371 v3948), 4 ∣ (k0_mult371 v3948).toNat := fun v3948 k0_hw371 => k0_hw371.1
theorem k0_off767_inb : ∀ (v3948 : BitVec 32) (k0_hw371 : k0_chk371 v3948), ∀ a, (k0_off767 v3948) a + S8x128.size a ≤ S65552x128.size a := fun v3948 k0_hw371 => k0_hw371.2

def k0_off768 (v3952 : BitVec 32) : Fin 2 → Nat :=
  let v3953 : BitVec 32 := v3952
  let v3956 : Index := Scalar.indexCast v3953
  let c0_1280 : Index := 0#32
  ![v3956.toNat, 0]

def k0_chk372 (v3952 : BitVec 32) : Prop :=
  (4 ∣ (k0_mult372 v3952).toNat) ∧
  (∀ a, (k0_off768 v3952) a + S8x128.size a ≤ S65552x128.size a)
theorem k0_mult372_dvd : ∀ (v3952 : BitVec 32) (k0_hw372 : k0_chk372 v3952), 4 ∣ (k0_mult372 v3952).toNat := fun v3952 k0_hw372 => k0_hw372.1
theorem k0_off768_inb : ∀ (v3952 : BitVec 32) (k0_hw372 : k0_chk372 v3952), ∀ a, (k0_off768 v3952) a + S8x128.size a ≤ S65552x128.size a := fun v3952 k0_hw372 => k0_hw372.2

def k0_off769 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3965 : Index := Scalar.indexCast v2918
  ![v3965.toNat]
def k0_mult373 (v3966 : BitVec 32) : BitVec 32 :=
  v3966

def k0_off770 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3969 : Index := Scalar.indexCast v2918
  ![v3969.toNat]
def k0_mult374 (v3970 : BitVec 32) : BitVec 32 :=
  v3970

def k0_off771 (v3966 : BitVec 32) : Fin 2 → Nat :=
  let v3967 : BitVec 32 := v3966
  let v3972 : Index := Scalar.indexCast v3967
  let c0_1286 : Index := 0#32
  ![v3972.toNat, 0]

def k0_chk373 (v3966 : BitVec 32) : Prop :=
  (4 ∣ (k0_mult373 v3966).toNat) ∧
  (∀ a, (k0_off771 v3966) a + S8x128.size a ≤ S65552x128.size a)
theorem k0_mult373_dvd : ∀ (v3966 : BitVec 32) (k0_hw373 : k0_chk373 v3966), 4 ∣ (k0_mult373 v3966).toNat := fun v3966 k0_hw373 => k0_hw373.1
theorem k0_off771_inb : ∀ (v3966 : BitVec 32) (k0_hw373 : k0_chk373 v3966), ∀ a, (k0_off771 v3966) a + S8x128.size a ≤ S65552x128.size a := fun v3966 k0_hw373 => k0_hw373.2

def k0_off772 (v3970 : BitVec 32) : Fin 2 → Nat :=
  let v3971 : BitVec 32 := v3970
  let v3974 : Index := Scalar.indexCast v3971
  let c0_1287 : Index := 0#32
  ![v3974.toNat, 0]

def k0_chk374 (v3970 : BitVec 32) : Prop :=
  (4 ∣ (k0_mult374 v3970).toNat) ∧
  (∀ a, (k0_off772 v3970) a + S8x128.size a ≤ S65552x128.size a)
theorem k0_mult374_dvd : ∀ (v3970 : BitVec 32) (k0_hw374 : k0_chk374 v3970), 4 ∣ (k0_mult374 v3970).toNat := fun v3970 k0_hw374 => k0_hw374.1
theorem k0_off772_inb : ∀ (v3970 : BitVec 32) (k0_hw374 : k0_chk374 v3970), ∀ a, (k0_off772 v3970) a + S8x128.size a ≤ S65552x128.size a := fun v3970 k0_hw374 => k0_hw374.2

def k0_off773 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3983 : Index := Scalar.indexCast v2918
  ![v3983.toNat]
def k0_mult375 (v3984 : BitVec 32) : BitVec 32 :=
  v3984

def k0_off774 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v3987 : Index := Scalar.indexCast v2918
  ![v3987.toNat]
def k0_mult376 (v3988 : BitVec 32) : BitVec 32 :=
  v3988

def k0_off775 (v3984 : BitVec 32) : Fin 2 → Nat :=
  let v3985 : BitVec 32 := v3984
  let v3990 : Index := Scalar.indexCast v3985
  let c0_1293 : Index := 0#32
  ![v3990.toNat, 0]

def k0_chk375 (v3984 : BitVec 32) : Prop :=
  (4 ∣ (k0_mult375 v3984).toNat) ∧
  (∀ a, (k0_off775 v3984) a + S8x128.size a ≤ S65552x128.size a)
theorem k0_mult375_dvd : ∀ (v3984 : BitVec 32) (k0_hw375 : k0_chk375 v3984), 4 ∣ (k0_mult375 v3984).toNat := fun v3984 k0_hw375 => k0_hw375.1
theorem k0_off775_inb : ∀ (v3984 : BitVec 32) (k0_hw375 : k0_chk375 v3984), ∀ a, (k0_off775 v3984) a + S8x128.size a ≤ S65552x128.size a := fun v3984 k0_hw375 => k0_hw375.2

def k0_off776 (v3988 : BitVec 32) : Fin 2 → Nat :=
  let v3989 : BitVec 32 := v3988
  let v3992 : Index := Scalar.indexCast v3989
  let c0_1294 : Index := 0#32
  ![v3992.toNat, 0]

def k0_chk376 (v3988 : BitVec 32) : Prop :=
  (4 ∣ (k0_mult376 v3988).toNat) ∧
  (∀ a, (k0_off776 v3988) a + S8x128.size a ≤ S65552x128.size a)
theorem k0_mult376_dvd : ∀ (v3988 : BitVec 32) (k0_hw376 : k0_chk376 v3988), 4 ∣ (k0_mult376 v3988).toNat := fun v3988 k0_hw376 => k0_hw376.1
theorem k0_off776_inb : ∀ (v3988 : BitVec 32) (k0_hw376 : k0_chk376 v3988), ∀ a, (k0_off776 v3988) a + S8x128.size a ≤ S65552x128.size a := fun v3988 k0_hw376 => k0_hw376.2

def k0_off777 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v4001 : Index := Scalar.indexCast v2918
  ![v4001.toNat]
def k0_mult377 (v4002 : BitVec 32) : BitVec 32 :=
  v4002

def k0_off778 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v4005 : Index := Scalar.indexCast v2918
  ![v4005.toNat]
def k0_mult378 (v4006 : BitVec 32) : BitVec 32 :=
  v4006

def k0_off779 (v4002 : BitVec 32) : Fin 2 → Nat :=
  let v4003 : BitVec 32 := v4002
  let v4008 : Index := Scalar.indexCast v4003
  let c0_1300 : Index := 0#32
  ![v4008.toNat, 0]

def k0_chk377 (v4002 : BitVec 32) : Prop :=
  (4 ∣ (k0_mult377 v4002).toNat) ∧
  (∀ a, (k0_off779 v4002) a + S8x128.size a ≤ S65552x128.size a)
theorem k0_mult377_dvd : ∀ (v4002 : BitVec 32) (k0_hw377 : k0_chk377 v4002), 4 ∣ (k0_mult377 v4002).toNat := fun v4002 k0_hw377 => k0_hw377.1
theorem k0_off779_inb : ∀ (v4002 : BitVec 32) (k0_hw377 : k0_chk377 v4002), ∀ a, (k0_off779 v4002) a + S8x128.size a ≤ S65552x128.size a := fun v4002 k0_hw377 => k0_hw377.2

def k0_off780 (v4006 : BitVec 32) : Fin 2 → Nat :=
  let v4007 : BitVec 32 := v4006
  let v4010 : Index := Scalar.indexCast v4007
  let c0_1301 : Index := 0#32
  ![v4010.toNat, 0]

def k0_chk378 (v4006 : BitVec 32) : Prop :=
  (4 ∣ (k0_mult378 v4006).toNat) ∧
  (∀ a, (k0_off780 v4006) a + S8x128.size a ≤ S65552x128.size a)
theorem k0_mult378_dvd : ∀ (v4006 : BitVec 32) (k0_hw378 : k0_chk378 v4006), 4 ∣ (k0_mult378 v4006).toNat := fun v4006 k0_hw378 => k0_hw378.1
theorem k0_off780_inb : ∀ (v4006 : BitVec 32) (k0_hw378 : k0_chk378 v4006), ∀ a, (k0_off780 v4006) a + S8x128.size a ≤ S65552x128.size a := fun v4006 k0_hw378 => k0_hw378.2

def k0_off781 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v4019 : Index := Scalar.indexCast v2918
  ![v4019.toNat]
def k0_mult379 (v4020 : BitVec 32) : BitVec 32 :=
  v4020

def k0_off782 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v4023 : Index := Scalar.indexCast v2918
  ![v4023.toNat]
def k0_mult380 (v4024 : BitVec 32) : BitVec 32 :=
  v4024

def k0_off783 (v4020 : BitVec 32) : Fin 2 → Nat :=
  let v4021 : BitVec 32 := v4020
  let v4026 : Index := Scalar.indexCast v4021
  let c0_1307 : Index := 0#32
  ![v4026.toNat, 0]

def k0_chk379 (v4020 : BitVec 32) : Prop :=
  (4 ∣ (k0_mult379 v4020).toNat) ∧
  (∀ a, (k0_off783 v4020) a + S8x128.size a ≤ S65552x128.size a)
theorem k0_mult379_dvd : ∀ (v4020 : BitVec 32) (k0_hw379 : k0_chk379 v4020), 4 ∣ (k0_mult379 v4020).toNat := fun v4020 k0_hw379 => k0_hw379.1
theorem k0_off783_inb : ∀ (v4020 : BitVec 32) (k0_hw379 : k0_chk379 v4020), ∀ a, (k0_off783 v4020) a + S8x128.size a ≤ S65552x128.size a := fun v4020 k0_hw379 => k0_hw379.2

def k0_off784 (v4024 : BitVec 32) : Fin 2 → Nat :=
  let v4025 : BitVec 32 := v4024
  let v4028 : Index := Scalar.indexCast v4025
  let c0_1308 : Index := 0#32
  ![v4028.toNat, 0]

def k0_chk380 (v4024 : BitVec 32) : Prop :=
  (4 ∣ (k0_mult380 v4024).toNat) ∧
  (∀ a, (k0_off784 v4024) a + S8x128.size a ≤ S65552x128.size a)
theorem k0_mult380_dvd : ∀ (v4024 : BitVec 32) (k0_hw380 : k0_chk380 v4024), 4 ∣ (k0_mult380 v4024).toNat := fun v4024 k0_hw380 => k0_hw380.1
theorem k0_off784_inb : ∀ (v4024 : BitVec 32) (k0_hw380 : k0_chk380 v4024), ∀ a, (k0_off784 v4024) a + S8x128.size a ≤ S65552x128.size a := fun v4024 k0_hw380 => k0_hw380.2

def k0_off785 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v4037 : Index := Scalar.indexCast v2918
  ![v4037.toNat]
def k0_mult381 (v4038 : BitVec 32) : BitVec 32 :=
  v4038

def k0_off786 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v4041 : Index := Scalar.indexCast v2918
  ![v4041.toNat]
def k0_mult382 (v4042 : BitVec 32) : BitVec 32 :=
  v4042

def k0_off787 (v4038 : BitVec 32) : Fin 2 → Nat :=
  let v4039 : BitVec 32 := v4038
  let v4044 : Index := Scalar.indexCast v4039
  let c0_1314 : Index := 0#32
  ![v4044.toNat, 0]

def k0_chk381 (v4038 : BitVec 32) : Prop :=
  (4 ∣ (k0_mult381 v4038).toNat) ∧
  (∀ a, (k0_off787 v4038) a + S8x128.size a ≤ S65552x128.size a)
theorem k0_mult381_dvd : ∀ (v4038 : BitVec 32) (k0_hw381 : k0_chk381 v4038), 4 ∣ (k0_mult381 v4038).toNat := fun v4038 k0_hw381 => k0_hw381.1
theorem k0_off787_inb : ∀ (v4038 : BitVec 32) (k0_hw381 : k0_chk381 v4038), ∀ a, (k0_off787 v4038) a + S8x128.size a ≤ S65552x128.size a := fun v4038 k0_hw381 => k0_hw381.2

def k0_off788 (v4042 : BitVec 32) : Fin 2 → Nat :=
  let v4043 : BitVec 32 := v4042
  let v4046 : Index := Scalar.indexCast v4043
  let c0_1315 : Index := 0#32
  ![v4046.toNat, 0]

def k0_chk382 (v4042 : BitVec 32) : Prop :=
  (4 ∣ (k0_mult382 v4042).toNat) ∧
  (∀ a, (k0_off788 v4042) a + S8x128.size a ≤ S65552x128.size a)
theorem k0_mult382_dvd : ∀ (v4042 : BitVec 32) (k0_hw382 : k0_chk382 v4042), 4 ∣ (k0_mult382 v4042).toNat := fun v4042 k0_hw382 => k0_hw382.1
theorem k0_off788_inb : ∀ (v4042 : BitVec 32) (k0_hw382 : k0_chk382 v4042), ∀ a, (k0_off788 v4042) a + S8x128.size a ≤ S65552x128.size a := fun v4042 k0_hw382 => k0_hw382.2

def k0_off789 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v4055 : Index := Scalar.indexCast v2918
  ![v4055.toNat]
def k0_mult383 (v4056 : BitVec 32) : BitVec 32 :=
  v4056

def k0_off790 (i : grid0.Coords) (k0_t1 : Fin k0_t1_loop.trips) : Fin 1 → Nat :=
  let arg0 : BitVec 32 := BitVec.ofNat 32 (i 0).val
  let c2_i32 : BitVec 32 := 2#32
  let v0 : BitVec 32 := Scalar.remsi arg0 c2_i32
  let c16384_i32_3 : BitVec 32 := 16384#32
  let v14 : BitVec 32 := Scalar.muli v0 c16384_i32_3
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_876 : BitVec 32 := 1#32
  let v2916 : BitVec 32 := Scalar.addi v2915 c1_i32_876
  let c127_i32_877 : BitVec 32 := 127#32
  let v2917 : BitVec 32 := Scalar.minsi v2916 c127_i32_877
  let v2918 : BitVec 32 := Scalar.addi v14 v2917
  let v4059 : Index := Scalar.indexCast v2918
  ![v4059.toNat]
def k0_mult384 (v4060 : BitVec 32) : BitVec 32 :=
  v4060

def k0_off791 (v4056 : BitVec 32) : Fin 2 → Nat :=
  let v4057 : BitVec 32 := v4056
  let v4062 : Index := Scalar.indexCast v4057
  let c0_1321 : Index := 0#32
  ![v4062.toNat, 0]

def k0_chk383 (v4056 : BitVec 32) : Prop :=
  (4 ∣ (k0_mult383 v4056).toNat) ∧
  (∀ a, (k0_off791 v4056) a + S8x128.size a ≤ S65552x128.size a)
theorem k0_mult383_dvd : ∀ (v4056 : BitVec 32) (k0_hw383 : k0_chk383 v4056), 4 ∣ (k0_mult383 v4056).toNat := fun v4056 k0_hw383 => k0_hw383.1
theorem k0_off791_inb : ∀ (v4056 : BitVec 32) (k0_hw383 : k0_chk383 v4056), ∀ a, (k0_off791 v4056) a + S8x128.size a ≤ S65552x128.size a := fun v4056 k0_hw383 => k0_hw383.2

def k0_off792 (v4060 : BitVec 32) : Fin 2 → Nat :=
  let v4061 : BitVec 32 := v4060
  let v4064 : Index := Scalar.indexCast v4061
  let c0_1322 : Index := 0#32
  ![v4064.toNat, 0]

def k0_chk384 (v4060 : BitVec 32) : Prop :=
  (4 ∣ (k0_mult384 v4060).toNat) ∧
  (∀ a, (k0_off792 v4060) a + S8x128.size a ≤ S65552x128.size a)
theorem k0_mult384_dvd : ∀ (v4060 : BitVec 32) (k0_hw384 : k0_chk384 v4060), 4 ∣ (k0_mult384 v4060).toNat := fun v4060 k0_hw384 => k0_hw384.1
theorem k0_off792_inb : ∀ (v4060 : BitVec 32) (k0_hw384 : k0_chk384 v4060), ∀ a, (k0_off792 v4060) a + S8x128.size a ≤ S65552x128.size a := fun v4060 k0_hw384 => k0_hw384.2

def k0_off793 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let v4072 : Index := Scalar.indexCast v2915
  let c0_1326 : Index := 0#32
  let c0_1327 : Index := 0#32
  ![v4072.toNat, 0, 0]
def k0_off794 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1336 : BitVec 32 := 1#32
  let v4126 : BitVec 32 := Scalar.addi v2915 c1_i32_1336
  let v4127 : Index := Scalar.indexCast v4126
  let c0_1337 : Index := 0#32
  let c0_1338 : Index := 0#32
  ![v4127.toNat, 0, 0]
def k0_off795 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1347 : BitVec 32 := 1#32
  let v4158 : BitVec 32 := Scalar.addi v2915 c1_i32_1347
  let v4159 : Index := Scalar.indexCast v4158
  let c8_1348 : Index := 8#32
  let c0_1349 : Index := 0#32
  ![v4159.toNat, 8, 0]
def k0_off796 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1358 : BitVec 32 := 1#32
  let v4190 : BitVec 32 := Scalar.addi v2915 c1_i32_1358
  let v4191 : Index := Scalar.indexCast v4190
  let c16_1359 : Index := 16#32
  let c0_1360 : Index := 0#32
  ![v4191.toNat, 16, 0]
def k0_off797 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1369 : BitVec 32 := 1#32
  let v4222 : BitVec 32 := Scalar.addi v2915 c1_i32_1369
  let v4223 : Index := Scalar.indexCast v4222
  let c24_1370 : Index := 24#32
  let c0_1371 : Index := 0#32
  ![v4223.toNat, 24, 0]
def k0_off798 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1380 : BitVec 32 := 1#32
  let v4254 : BitVec 32 := Scalar.addi v2915 c1_i32_1380
  let v4255 : Index := Scalar.indexCast v4254
  let c32_1381 : Index := 32#32
  let c0_1382 : Index := 0#32
  ![v4255.toNat, 32, 0]
def k0_off799 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1391 : BitVec 32 := 1#32
  let v4286 : BitVec 32 := Scalar.addi v2915 c1_i32_1391
  let v4287 : Index := Scalar.indexCast v4286
  let c40_1392 : Index := 40#32
  let c0_1393 : Index := 0#32
  ![v4287.toNat, 40, 0]
def k0_off800 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1402 : BitVec 32 := 1#32
  let v4318 : BitVec 32 := Scalar.addi v2915 c1_i32_1402
  let v4319 : Index := Scalar.indexCast v4318
  let c48_1403 : Index := 48#32
  let c0_1404 : Index := 0#32
  ![v4319.toNat, 48, 0]
def k0_off801 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1413 : BitVec 32 := 1#32
  let v4350 : BitVec 32 := Scalar.addi v2915 c1_i32_1413
  let v4351 : Index := Scalar.indexCast v4350
  let c56_1414 : Index := 56#32
  let c0_1415 : Index := 0#32
  ![v4351.toNat, 56, 0]
def k0_off802 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1424 : BitVec 32 := 1#32
  let v4382 : BitVec 32 := Scalar.addi v2915 c1_i32_1424
  let v4383 : Index := Scalar.indexCast v4382
  let c64_1425 : Index := 64#32
  let c0_1426 : Index := 0#32
  ![v4383.toNat, 64, 0]
def k0_off803 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1435 : BitVec 32 := 1#32
  let v4414 : BitVec 32 := Scalar.addi v2915 c1_i32_1435
  let v4415 : Index := Scalar.indexCast v4414
  let c72_1436 : Index := 72#32
  let c0_1437 : Index := 0#32
  ![v4415.toNat, 72, 0]
def k0_off804 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1446 : BitVec 32 := 1#32
  let v4446 : BitVec 32 := Scalar.addi v2915 c1_i32_1446
  let v4447 : Index := Scalar.indexCast v4446
  let c80_1447 : Index := 80#32
  let c0_1448 : Index := 0#32
  ![v4447.toNat, 80, 0]
def k0_off805 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1457 : BitVec 32 := 1#32
  let v4478 : BitVec 32 := Scalar.addi v2915 c1_i32_1457
  let v4479 : Index := Scalar.indexCast v4478
  let c88_1458 : Index := 88#32
  let c0_1459 : Index := 0#32
  ![v4479.toNat, 88, 0]
def k0_off806 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1468 : BitVec 32 := 1#32
  let v4510 : BitVec 32 := Scalar.addi v2915 c1_i32_1468
  let v4511 : Index := Scalar.indexCast v4510
  let c96_1469 : Index := 96#32
  let c0_1470 : Index := 0#32
  ![v4511.toNat, 96, 0]
def k0_off807 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1479 : BitVec 32 := 1#32
  let v4542 : BitVec 32 := Scalar.addi v2915 c1_i32_1479
  let v4543 : Index := Scalar.indexCast v4542
  let c104_1480 : Index := 104#32
  let c0_1481 : Index := 0#32
  ![v4543.toNat, 104, 0]
def k0_off808 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1490 : BitVec 32 := 1#32
  let v4574 : BitVec 32 := Scalar.addi v2915 c1_i32_1490
  let v4575 : Index := Scalar.indexCast v4574
  let c112_1491 : Index := 112#32
  let c0_1492 : Index := 0#32
  ![v4575.toNat, 112, 0]
def k0_off809 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1501 : BitVec 32 := 1#32
  let v4606 : BitVec 32 := Scalar.addi v2915 c1_i32_1501
  let v4607 : Index := Scalar.indexCast v4606
  let c120_1502 : Index := 120#32
  let c0_1503 : Index := 0#32
  ![v4607.toNat, 120, 0]
def k0_off810 (k0_t1 : Fin k0_t1_loop.trips) : Fin 3 → Nat :=
  let c2_i32_874 : BitVec 32 := 2#32
  let c0_i32_265 : BitVec 32 := 0#32
  let c1_i32_266 : BitVec 32 := 1#32
  let arg14 : BitVec 32 := Scf.iv c0_i32_265 c1_i32_266 k0_t1
  let v2914 : BitVec 32 := Scalar.muli c2_i32_874 arg14
  let c1_i32_875 : BitVec 32 := 1#32
  let v2915 : BitVec 32 := Scalar.addi v2914 c1_i32_875
  let c1_i32_1504 : BitVec 32 := 1#32
  let v4611 : BitVec 32 := Scalar.subi v2915 c1_i32_1504
  let c1_i32_1505 : BitVec 32 := 1#32
  let v4612 : BitVec 32 := Scalar.addi v4611 c1_i32_1505
  let v4613 : Index := Scalar.indexCast v4612
  let c0_1506 : Index := 0#32
  let c0_1507 : Index := 0#32
  ![v4613.toNat, 0, 0]
def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32768x1024 : Shape := ⟨2, ![32768, 1024]⟩
abbrev S32768x128 : Shape := ⟨2, ![32768, 128]⟩
abbrev S65536x128 : Shape := ⟨2, ![65536, 128]⟩
abbrev S16384x512 : Shape := ⟨2, ![16384, 512]⟩
abbrev S_ : Shape := ⟨0, ![]⟩
abbrev S16384x1024 : Shape := ⟨2, ![16384, 1024]⟩
abbrev S32768x128x1 : Shape := ⟨3, ![32768, 128, 1]⟩
abbrev S1 : Shape := ⟨1, ![1]⟩
abbrev S1x1x1 : Shape := ⟨3, ![1, 1, 1]⟩
abbrev S32768x128x1024 : Shape := ⟨3, ![32768, 128, 1024]⟩
abbrev S256x128x128 : Shape := ⟨3, ![256, 128, 128]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .i32⟩
  | .hbm, ⟨2, _⟩ => ⟨S32768x128, .f32⟩
  | .hbm, ⟨3, _⟩ => ⟨S65536x128, .i32⟩
  | .hbm, ⟨4, _⟩ => ⟨S16384x512, .i32⟩
  | .hbm, ⟨5, _⟩ => ⟨S_, .i32⟩
  | .hbm, ⟨6, _⟩ => ⟨S16384x512, .i32⟩
  | .hbm, ⟨7, _⟩ => ⟨S16384x512, .i32⟩
  | .hbm, ⟨8, _⟩ => ⟨S16384x512, .f32⟩
  | .hbm, ⟨9, _⟩ => ⟨S_, .i32⟩
  | .hbm, ⟨10, _⟩ => ⟨S16384x512, .i32⟩
  | .hbm, ⟨11, _⟩ => ⟨S16384x512, .i32⟩
  | .hbm, ⟨12, _⟩ => ⟨S16384x512, .f32⟩
  | .hbm, ⟨13, _⟩ => ⟨S16384x1024, .f32⟩
  | .hbm, ⟨14, _⟩ => ⟨S_, .i32⟩
  | .hbm, ⟨15, _⟩ => ⟨S32768x128, .i32⟩
  | .hbm, ⟨16, _⟩ => ⟨S32768x128, .i1⟩
  | .hbm, ⟨17, _⟩ => ⟨S_, .i32⟩
  | .hbm, ⟨18, _⟩ => ⟨S32768x128, .i32⟩
  | .hbm, ⟨19, _⟩ => ⟨S32768x128, .i32⟩
  | .hbm, ⟨20, _⟩ => ⟨S32768x128, .i32⟩
  | .hbm, ⟨21, _⟩ => ⟨S32768x128x1, .i32⟩
  | .hbm, ⟨22, _⟩ => ⟨S1, .i32⟩
  | .hbm, ⟨23, _⟩ => ⟨S_, .i32⟩
  | .hbm, ⟨24, _⟩ => ⟨S32768x128x1, .i32⟩
  | .hbm, ⟨25, _⟩ => ⟨S32768x128x1, .i1⟩
  | .hbm, ⟨26, _⟩ => ⟨S1x1x1, .i32⟩
  | .hbm, ⟨27, _⟩ => ⟨S32768x128x1, .i32⟩
  | .hbm, ⟨28, _⟩ => ⟨S32768x128x1, .i1⟩
  | .hbm, ⟨29, _⟩ => ⟨S32768x128x1, .i1⟩
  | .hbm, ⟨30, _⟩ => ⟨S_, .i1⟩
  | .hbm, ⟨31, _⟩ => ⟨S32768x128, .i1⟩
  | .hbm, ⟨32, _⟩ => ⟨S32768x128x1024, .f32⟩
  | .hbm, ⟨33, _⟩ => ⟨S32768x128x1024, .i1⟩
  | .hbm, ⟨34, _⟩ => ⟨S_, .f32⟩
  | .hbm, ⟨35, _⟩ => ⟨S32768x128x1024, .f32⟩
  | .hbm, ⟨36, _⟩ => ⟨S32768x128x1024, .f32⟩
  | .hbm, ⟨37, _⟩ => ⟨S32768x128, .f32⟩
  | .hbm, ⟨38, _⟩ => ⟨S_, .f32⟩
  | .hbm, ⟨39, _⟩ => ⟨S32768x128, .f32⟩
  | .hbm, ⟨40, _⟩ => ⟨S32768x128, .f32⟩
  | .hbm, ⟨41, _⟩ => ⟨S_, .f32⟩
  | .hbm, ⟨42, _⟩ => ⟨S32768x128, .f32⟩
  | .hbm, ⟨43, _⟩ => ⟨S32768x128, .f32⟩
  | .hbm, ⟨44, _⟩ => ⟨S32768x128, .f32⟩
  | .hbm, ⟨45, _⟩ => ⟨S_, .f32⟩
  | .hbm, ⟨46, _⟩ => ⟨S32768x128, .f32⟩
  | .hbm, ⟨47, _⟩ => ⟨S32768x128, .f32⟩
  | .hbm, ⟨48, _⟩ => ⟨S32768x128, .f32⟩
  | .hbm, ⟨49, _⟩ => ⟨S32768x128, .f32⟩
  | .hbm, ⟨50, _⟩ => ⟨S256x128x128, .f32⟩
  | .hbm, ⟨51, _⟩ => ⟨S256x128x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v8 : Ref sig .tc := ⟨.hbm, 36, rfl⟩
abbrev main_v9 : Ref sig .tc := ⟨.hbm, 37, rfl⟩
abbrev main_cst : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩

abbrev nD : Nat := 1
abbrev τ : Topo := Topo.v7x

variable {F : FTy → Type} [FloatOps F]
-- ==== Kernel2.lean ====
abbrev S32768x512 : Shape := ⟨2, ![32768, 512]⟩
abbrev S32768x1024 : Shape := ⟨2, ![32768, 1024]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S1x512 : Shape := ⟨2, ![1, 512]⟩
abbrev S1x1024 : Shape := ⟨2, ![1, 1024]⟩
abbrev S32768x8x128 : Shape := ⟨3, ![32768, 8, 128]⟩
abbrev S32768x2048 : Shape := ⟨2, ![32768, 2048]⟩
abbrev S512x512 : Shape := ⟨2, ![512, 512]⟩
abbrev S512x1024 : Shape := ⟨2, ![512, 1024]⟩
abbrev S512x8x128 : Shape := ⟨3, ![512, 8, 128]⟩
abbrev S512x2048 : Shape := ⟨2, ![512, 2048]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1024, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x2048, .f32⟩
  | .hbm, ⟨7, _⟩ => ⟨S1024x1024, .bf16⟩
  | .hbm, ⟨8, _⟩ => ⟨S1024x2048, .bf16⟩
  | .hbm, ⟨9, _⟩ => ⟨S32768x512, .bf16⟩
  | .hbm, ⟨10, _⟩ => ⟨S1x512, .f32⟩
  | .hbm, ⟨11, _⟩ => ⟨S1x1024, .f32⟩
  | .hbm, ⟨12, _⟩ => ⟨S32768x1024, .f32⟩
  | .hbm, ⟨13, _⟩ => ⟨S32768x8x128, .f32⟩
  | .hbm, ⟨14, _⟩ => ⟨S32768x2048, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1024x1024, .bf16⟩
  | .local _ .vmem, ⟨8, _⟩ => ⟨S1x1024, .f32⟩
  | .local _ .vmem, ⟨9, _⟩ => ⟨S1024x2048, .bf16⟩
  | .local _ .vmem, ⟨10, _⟩ => ⟨S512x1024, .f32⟩
  | .local _ .vmem, ⟨11, _⟩ => ⟨S512x1024, .f32⟩
  | .local _ .vmem, ⟨12, _⟩ => ⟨S512x8x128, .f32⟩
  | .local _ .vmem, ⟨13, _⟩ => ⟨S512x8x128, .f32⟩
  | .local _ .vmem, ⟨14, _⟩ => ⟨S512x2048, .bf16⟩
  | .local _ .vmem, ⟨15, _⟩ => ⟨S512x2048, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x512 : Shape := ⟨2, ![32768, 512]⟩
abbrev S32768x1024 : Shape := ⟨2, ![32768, 1024]⟩
abbrev S512 : Shape := ⟨1, ![512]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S1x1024 : Shape := ⟨2, ![1, 1024]⟩
abbrev S32768x8x128 : Shape := ⟨3, ![32768, 8, 128]⟩
abbrev S32768x2048 : Shape := ⟨2, ![32768, 2048]⟩

abbrev nBuf : Space → Nat
  | .hbm => 45
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1024, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x2048, .f32⟩
  | .hbm, ⟨7, _⟩ => ⟨S32768x512, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x512, .f32⟩
  | .hbm, ⟨19, _⟩ => ⟨S32768x512, .f32⟩
  | .hbm, ⟨20, _⟩ => ⟨S1x512, .f32⟩
  | .hbm, ⟨21, _⟩ => ⟨S32768x512, .f32⟩
  | .hbm, ⟨22, _⟩ => ⟨S32768x512, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S32768x8x128, .f32⟩
  | .hbm, ⟨43, _⟩ => ⟨S32768x2048, .f32⟩
  | .hbm, ⟨44, _⟩ => ⟨S32768x2048, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x2560 : Shape := ⟨2, ![1024, 2560]⟩
abbrev S64 : Shape := ⟨1, ![64]⟩
abbrev S512 : Shape := ⟨1, ![512]⟩
abbrev S8x128x128 : Shape := ⟨3, ![8, 128, 128]⟩
abbrev S8x128 : Shape := ⟨2, ![8, 128]⟩
abbrev S128x128 : Shape := ⟨2, ![128, 128]⟩
abbrev S_ : Shape := ⟨0, ![]⟩
abbrev S1x1024 : Shape := ⟨2, ![1, 1024]⟩
abbrev S1x64 : Shape := ⟨2, ![1, 64]⟩
abbrev S8x64 : Shape := ⟨2, ![8, 64]⟩
abbrev S1x512 : Shape := ⟨2, ![1, 512]⟩
abbrev S128x8 : Shape := ⟨2, ![128, 8]⟩
abbrev S128x8x64 : Shape := ⟨3, ![128, 8, 64]⟩
abbrev S128x512 : Shape := ⟨2, ![128, 512]⟩
abbrev S32768x512 : Shape := ⟨2, ![32768, 512]⟩
abbrev S512x1024 : Shape := ⟨2, ![512, 1024]⟩
abbrev S512x512 : Shape := ⟨2, ![512, 512]⟩
abbrev S512x1 : Shape := ⟨2, ![512, 1]⟩
abbrev S512x2560 : Shape := ⟨2, ![512, 2560]⟩
abbrev S512x128 : Shape := ⟨2, ![512, 128]⟩
abbrev S1x128 : Shape := ⟨2, ![1, 128]⟩
abbrev S1x128x128 : Shape := ⟨3, ![1, 128, 128]⟩

abbrev nBuf : Space → Nat
  | .hbm => 50
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2560, .f32⟩
  | .hbm, ⟨3, _⟩ => ⟨S64, .f32⟩
  | .hbm, ⟨4, _⟩ => ⟨S64, .f32⟩
  | .hbm, ⟨5, _⟩ => ⟨S512, .f32⟩
  | .hbm, ⟨6, _⟩ => ⟨S8x128x128, .f32⟩
  | .hbm, ⟨7, _⟩ => ⟨S8x128, .f32⟩
  | .hbm, ⟨8, _⟩ => ⟨S512, .f32⟩
  | .hbm, ⟨9, _⟩ => ⟨S128x128, .i32⟩
  | .hbm, ⟨10, _⟩ => ⟨S_, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S128x128, .i32⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i1⟩
  | .hbm, ⟨23, _⟩ => ⟨S128x128, .i1⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S128x128, .bf16⟩
  | .hbm, ⟨31, _⟩ => ⟨S1x1024, .f32⟩
  | .hbm, ⟨32, _⟩ => ⟨S1024x2560, .bf16⟩
  | .hbm, ⟨33, _⟩ => ⟨S1x64, .f32⟩
  | .hbm, ⟨34, _⟩ => ⟨S8x64, .f32⟩
  | .hbm, ⟨35, _⟩ => ⟨S512, .f32⟩
  | .hbm, ⟨36, _⟩ => ⟨S1x512, .f32⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S1x512, .f32⟩
  | .hbm, ⟨41, _⟩ => ⟨S1x512, .f32⟩
  | .hbm, ⟨42, _⟩ => ⟨S128x8, .f32⟩
  | .hbm, ⟨43, _⟩ => ⟨S128x8x64, .f32⟩
  | .hbm, ⟨44, _⟩ => ⟨S128x512, .f32⟩
  | .hbm, ⟨45, _⟩ => ⟨S1x512, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S128x128, .bf16⟩
  | .local _ .vmem, ⟨8, _⟩ => ⟨S8x128x128, .f32⟩
  | .local _ .vmem, ⟨9, _⟩ => ⟨S128x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20_0 : Ref sig .tc := ⟨.hbm, 46, rfl⟩
abbrev main_v20_1 : Ref sig .tc := ⟨.hbm, 47, rfl⟩
abbrev main_v20_2 : Ref sig .tc := ⟨.hbm, 48, rfl⟩
abbrev main_v20_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S32768x1024 : Shape := ⟨2, ![32768, 1024]⟩
abbrev S1024 : Shape := ⟨1, ![1024]⟩
abbrev S1024x2560 : Shape := ⟨2, ![1024, 2560]⟩
abbrev S64 : Shape := ⟨1, ![64]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2560 : Shape := ⟨2, ![32768, 2560]⟩
abbrev S32768x512 : Shape := ⟨2, ![32768, 512]⟩
abbrev S32768x8x64 : Shape := ⟨3, ![32768, 8, 64]⟩
abbrev S32768x8 : Shape := ⟨2, ![32768, 8]⟩
abbrev S32768x8x1 : Shape := ⟨3, ![32768, 8, 1]⟩
abbrev S1x1x64 : Shape := ⟨3, ![1, 1, 64]⟩
abbrev S8x64 : Shape := ⟨2, ![8, 64]⟩
abbrev S1x8x64 : Shape := ⟨3, ![1, 8, 64]⟩
abbrev S256x128x8x64 : Shape := ⟨4, ![256, 128, 8, 64]⟩
abbrev S128x128 : Shape := ⟨2, ![128, 128]⟩
abbrev S1x128x128 : Shape := ⟨3, ![1, 128, 128]⟩
abbrev S8x256x64x128 : Shape := ⟨4, ![8, 256, 64, 128]⟩
abbrev S128x8 : Shape := ⟨2, ![128, 8]⟩
abbrev S128x8x1 : Shape := ⟨3, ![128, 8, 1]⟩
abbrev S1x128x8x1 : Shape := ⟨4, ![1, 128, 8, 1]⟩
abbrev S1x512 : Shape := ⟨2, ![1, 512]⟩

abbrev nBuf : Space → Nat
  | .hbm => 129
  | .vmem => 0
  | .smem => 0
  | _ => 0

abbrev hbmTy0_0 (i : Nat) : BufTy := match i % 128 with
  | 0 => ⟨S32768x1024, .f32⟩
  | 1 => ⟨S1024, .f32⟩
  | 2 => ⟨S1024x2560, .f32⟩
  | 3 => ⟨S64, .f32⟩
  | 4 => ⟨S64, .f32⟩
  | 5 => ⟨S512, .f32⟩
  | 6 => ⟨S8x128x128, .f32⟩
  | 7 => ⟨S8x128, .f32⟩
  | 8 => ⟨S512, .f32⟩
  | 9 => ⟨S32768x1024, .f32⟩
  | 10 => ⟨S_, .f32⟩
  | 11 => ⟨S32768, .f32⟩
  | 12 => ⟨S32768x1, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1024, .f32⟩
  | 21 => ⟨S32768x1024, .f32⟩
  | 22 => ⟨S1x1024, .f32⟩
  | 23 => ⟨S32768x1024, .f32⟩
  | 24 => ⟨S32768x1024, .f32⟩
  | 25 => ⟨S32768x2560, .f32⟩
  | 26 => ⟨S32768x512, .f32⟩
  | 27 => ⟨S32768x512, .f32⟩
  | 28 => ⟨S32768x512, .f32⟩
  | 29 => ⟨S32768x512, .f32⟩
  | 30 => ⟨S32768x512, .f32⟩
  | 31 => ⟨S32768x8x64, .f32⟩
  | 32 => ⟨S32768x8x64, .f32⟩
  | 33 => ⟨S_, .f32⟩
  | 34 => ⟨S32768x8, .f32⟩
  | 35 => ⟨S32768x8x1, .f32⟩
  | 36 => ⟨S_, .f32⟩
  | 37 => ⟨S32768x8x1, .f32⟩
  | 38 => ⟨S32768x8x1, .f32⟩
  | 39 => ⟨S_, .f32⟩
  | 40 => ⟨S32768x8x1, .f32⟩
  | 41 => ⟨S32768x8x1, .f32⟩
  | 42 => ⟨S32768x8x1, .f32⟩
  | 43 => ⟨S32768x8x64, .f32⟩
  | 44 => ⟨S32768x8x64, .f32⟩
  | 45 => ⟨S1x1x64, .f32⟩
  | 46 => ⟨S32768x8x64, .f32⟩
  | 47 => ⟨S32768x8x64, .f32⟩
  | 48 => ⟨S32768x8x64, .f32⟩
  | 49 => ⟨S32768x8x64, .f32⟩
  | 50 => ⟨S_, .f32⟩
  | 51 => ⟨S32768x8, .f32⟩
  | 52 => ⟨S32768x8x1, .f32⟩
  | 53 => ⟨S_, .f32⟩
  | 54 => ⟨S32768x8x1, .f32⟩
  | 55 => ⟨S32768x8x1, .f32⟩
  | 56 => ⟨S_, .f32⟩
  | 57 => ⟨S32768x8x1, .f32⟩
  | 58 => ⟨S32768x8x1, .f32⟩
  | 59 => ⟨S32768x8x1, .f32⟩
  | 60 => ⟨S32768x8x64, .f32⟩
  | 61 => ⟨S32768x8x64, .f32⟩
  | 62 => ⟨S1x1x64, .f32⟩
  | 63 => ⟨S32768x8x64, .f32⟩
  | 64 => ⟨S32768x8x64, .f32⟩
  | 65 => ⟨S32768x8x64, .f32⟩
  | 66 => ⟨S8x64, .f32⟩
  | 67 => ⟨S32768x8x64, .f32⟩
  | 68 => ⟨S_, .f32⟩
  | 69 => ⟨S32768x8, .f32⟩
  | 70 => ⟨S32768x8x1, .f32⟩
  | 71 => ⟨S_, .f32⟩
  | 72 => ⟨S32768x8x1, .f32⟩
  | 73 => ⟨S32768x8x1, .f32⟩
  | 74 => ⟨S_, .f32⟩
  | 75 => ⟨S32768x8x1, .f32⟩
  | 76 => ⟨S32768x8x1, .f32⟩
  | 77 => ⟨S32768x8x1, .f32⟩
  | 78 => ⟨S32768x8x64, .f32⟩
  | 79 => ⟨S32768x8x64, .f32⟩
  | 80 => ⟨S1x8x64, .f32⟩
  | 81 => ⟨S32768x8x64, .f32⟩
  | 82 => ⟨S32768x8x64, .f32⟩
  | 83 => ⟨S256x128x8x64, .f32⟩
  | 84 => ⟨S_, .i1⟩
  | 85 => ⟨S128x128, .i1⟩
  | 86 => ⟨S128x128, .i32⟩
  | 87 => ⟨S_, .i32⟩
  | 88 => ⟨S128x128, .i32⟩
  | 89 => ⟨S128x128, .i32⟩
  | 90 => ⟨S128x128, .i32⟩
  | 91 => ⟨S128x128, .i1⟩
  | 92 => ⟨S_, .i1⟩
  | 93 => ⟨S128x128, .i1⟩
  | 94 => ⟨S128x128, .i1⟩
  | 95 => ⟨S1x128x128, .i1⟩
  | 96 => ⟨S_, .f32⟩
  | 97 => ⟨S_, .f32⟩
  | 98 => ⟨S8x128x128, .i1⟩
  | 99 => ⟨S8x128x128, .f32⟩
  | 100 => ⟨S8x128x128, .f32⟩
  | 101 => ⟨S8x256x64x128, .f32⟩
  | 102 => ⟨S256x128x8x64, .f32⟩
  | 103 => ⟨S128x8, .f32⟩
  | 104 => ⟨S128x8x1, .f32⟩
  | 105 => ⟨S1x128x8x1, .f32⟩
  | 106 => ⟨S256x128x8x64, .f32⟩
  | 107 => ⟨S256x128x8x64, .f32⟩
  | 108 => ⟨S32768x512, .f32⟩
  | 109 => ⟨S32768x512, .f32⟩
  | 110 => ⟨S32768x512, .f32⟩
  | 111 => ⟨S32768x512, .f32⟩
  | 112 => ⟨S32768x512, .f32⟩
  | 113 => ⟨S_, .f32⟩
  | 114 => ⟨S32768, .f32⟩
  | 115 => ⟨S32768x1, .f32⟩
  | 116 => ⟨S_, .f32⟩
  | 117 => ⟨S32768x1, .f32⟩
  | 118 => ⟨S32768x1, .f32⟩
  | 119 => ⟨S_, .f32⟩
  | 120 => ⟨S32768x1, .f32⟩
  | 121 => ⟨S32768x1, .f32⟩
  | 122 => ⟨S32768x1, .f32⟩
  | 123 => ⟨S32768x512, .f32⟩
  | 124 => ⟨S32768x512, .f32⟩
  | 125 => ⟨S1x512, .f32⟩
  | 126 => ⟨S32768x512, .f32⟩
  | 127 => ⟨S32768x512, .f32⟩
  | _ => ⟨S32768x1024, .f32⟩

abbrev hbmTy0_1 (i : Nat) : BufTy := match i % 128 with
  | 0 => ⟨S32768x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c : Ref sig .tc := ⟨.hbm, 84, rfl⟩
abbrev main_v63 : Ref sig .tc := ⟨.hbm, 85, rfl⟩
abbrev main_call0_v0 : Ref sig .tc := ⟨.hbm, 86, rfl⟩
abbrev main_call0_c : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_c_0 : Ref sig .tc := ⟨.hbm, 92, rfl⟩
abbrev main_call0_v5 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_12 : Ref sig .tc := ⟨.hbm, 113, rfl⟩
abbrev main_v79 : Ref sig .tc := ⟨.hbm, 114, rfl⟩
abbrev main_v80 : Ref sig .tc := ⟨.hbm, 115, rfl⟩
abbrev main_cst_13 : Ref sig .tc := ⟨.hbm, 116, rfl⟩
abbrev main_v81 : Ref sig .tc := ⟨.hbm, 117, rfl⟩
abbrev main_v82 : Ref sig .tc := ⟨.hbm, 118, rfl⟩
abbrev main_cst_14 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩

abbrev nD : Nat := 1
abbrev τ : Topo := Topo.v7x

variable {F : FTy → Type} [FloatOps F]
-- ==== Kernel4.lean ====
abbrev S16384x1024 : Shape := ⟨2, ![16384, 1024]⟩
abbrev S65536x128 : Shape := ⟨2, ![65536, 128]⟩
abbrev S512x1024 : Shape := ⟨2, ![512, 1024]⟩
abbrev S2048x128 : Shape := ⟨2, ![2048, 128]⟩
abbrev S512x512 : Shape := ⟨2, ![512, 512]⟩
abbrev S512x128 : Shape := ⟨2, ![512, 128]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S65536x128, .i32⟩
  | .local _ .vmem, ⟨0, _⟩ => ⟨S512x1024, .f32⟩
  | .local _ .vmem, ⟨1, _⟩ => ⟨S512x1024, .f32⟩
  | .local _ .vmem, ⟨2, _⟩ => ⟨S2048x128, .i32⟩
  | .local _ .vmem, ⟨3, _⟩ => ⟨S2048x128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4.lean ====
abbrev S16384x1024 : Shape := ⟨2, ![16384, 1024]⟩
abbrev S16384x512 : Shape := ⟨2, ![16384, 512]⟩
abbrev S_ : Shape := ⟨0, ![]⟩
abbrev S65536x128 : Shape := ⟨2, ![65536, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .i16⟩
  | .hbm, ⟨3, _⟩ => ⟨S16384x1024, .i32⟩
  | .hbm, ⟨4, _⟩ => ⟨S16384x512, .i32⟩
  | .hbm, ⟨5, _⟩ => ⟨S_, .i32⟩
  | .hbm, ⟨6, _⟩ => ⟨S16384x512, .i32⟩
  | .hbm, ⟨7, _⟩ => ⟨S16384x512, .i32⟩
  | .hbm, ⟨8, _⟩ => ⟨S16384x512, .i32⟩
  | .hbm, ⟨9, _⟩ => ⟨S16384x512, .i32⟩
  | .hbm, ⟨10, _⟩ => ⟨S65536x128, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [BitOps F]
-- ==== Proof.PeerU.Prog.lean ====
/- The kernel's grid point as a short structured program: a gather of 64 pairs of table rows, the
   products of one token over its 16 groups of experts, the reduction of one token's products into
   its lane, and a loop of 64 trips over two tokens each. The printed function is this program. -/
module

public import proofs.«01_k».proof.Proof.Gen.KernelIdeal.Skeleton
public import Idealize.ShloMosaic.Lib.Tactic

@[expose] public section

noncomputable section

namespace Cert.KernelIdeal.PeerU

open Idealize.ShloMosaic Idealize.SL.Sem
open Cert.KernelIdeal.Gen

variable {F : FTy → Type} [FloatOps F]

/-- A program of one TensorCore of this kernel. -/
abbrev PR (F : FTy → Type) [FloatOps F] := Prog (TpuEff nD τ sig (Elt F) Λ₀ .tc)

/-- What a row word must satisfy: it names the first row of an expert and eight rows from it exist. -/
def chk (v : BitVec 32) : Prop :=
  (4 ∣ v.toNat) ∧ (∀ a, (![v.toNat, 0] : Fin 2 → Nat) a + S8x128.size a ≤ S65552x128.size a)

instance chk.dec : ∀ v : BitVec 32, Decidable (chk v) :=
  fun v => decidable_of_iff' _ (Iff.of_eq (chk.eq_1 v))

theorem inbWord (n : ℕ) (h : n < 128) : ∀ a, (![128 * n] : Fin 1 → Nat) a + S16512.size a ≤ S32768.size a := by
  intro a; fin_cases a; show 128 * n + 16512 ≤ 32768 + 0; omega

theorem inbPair (p : Fin 64) : ∀ a, (![8 * p.val, 0] : Fin 2 → Nat) a + S8x128.size a ≤ S512x128.size a := by
  intro a; fin_cases a
  · show 8 * p.val + 8 ≤ 512; omega
  · show 0 + 128 ≤ 128; omega

theorem inbStride (j : Fin 16) (s : Fin 4) : ∀ a, S8x128.size a = 0 ∨
    (![32 * j.val + s.val, 0] : Fin 2 → Nat) a + (![4, 1] : Fin 2 → Nat) a * (S8x128.size a - 1) < S512x128.size a := by
  intro a; right; fin_cases a
  · show 32 * j.val + s.val + 4 * (8 - 1) < 512; omega
  · show 0 + 1 * (128 - 1) < 128; omega

theorem inbGroup (row : ℕ) (hrow : row + 1 ≤ 129) (j : Fin 16) :
    ∀ a, (![row, 8 * j.val, 0] : Fin 3 → Nat) a + S1x8x128.size a ≤ S129x128x128.size a := by
  intro a; fin_cases a
  · exact hrow
  · show 8 * j.val + 8 ≤ 128; omega
  · show 0 + 128 ≤ 128; omega

/-- Row numbers 0 to 7 of a pair of row blocks. -/
abbrev sub8 : IVec S8x128 32 := iota .tc S8x128 32 [0] iota_S8x128_d0_w32

section
variable (arg6 : Memref sig .tc .vmem S65552x128 .i32) (arg7 : Memref sig .tc .smem S32768 .i32)
  (st : Memref sig .tc .vmem S512x128 .i32)

/-- Read the row word of expert slot `n`: one word of the index buffer, `128 * n` past the token's offset. -/
def word (off : Fin 1 → Nat) (hoff : ∀ a, off a + S1.size a ≤ S16512.size a) (n : ℕ) (hn : n < 128) :
    PR F (Elt F .i32) :=
  smemLoad (arg7.slice (Rect.unit (s := S32768) ![128 * n] S16512.size (inbWord n hn)) (fun _ => rfl))
    (Rect.unit (s := S16512) off S1.size hoff) numel1_S1 rfl

/-- Gather one pair of experts: two row words, the eight table rows at each, the upper four rows of the first
    and the lower four of the second stored as the pair's eight rows of the stage. -/
def pair (off : Fin 1 → Nat) (hoff : ∀ a, off a + S1.size a ≤ S16512.size a) (p : Fin 64) : PR F PUnit := do
  let w0 : Elt F .i32 ← word arg7 off hoff (2 * p.val) (by omega)
  have h0 : chk w0 := (← Prog.lift (TpuEff.assume (chk w0) (chk.dec w0))).down
  let w1 : Elt F .i32 ← word arg7 off hoff (2 * p.val + 1) (by omega)
  have h1 : chk w1 := (← Prog.lift (TpuEff.assume (chk w1) (chk.dec w1))).down
  let a : Vec F S8x128 .i32 ← Prog.lift (.load arg6 (Rect.unit (s := S65552x128) ![w0.toNat, 0] S8x128.size h0.2).toLoadRect (View.loadsAt_vmem h_S8x128))
  let b : Vec F S8x128 .i32 ← Prog.lift (.load arg6 (Rect.unit (s := S65552x128) ![w1.toNat, 0] S8x128.size h1.2).toLoadRect (View.loadsAt_vmem h_S8x128))
  let _ : Vec F S8x128 .i32 ← Prog.lift (.load st (Rect.unit (s := S512x128) ![8 * p.val, 0] S8x128.size (inbPair p)).toLoadRect (View.loadsAt_vmem h_S8x128))
  Prog.lift (.store st (Rect.unit (s := S512x128) ![8 * p.val, 0] S8x128.size (inbPair p)) (k0_pay73 (F := F) sub8 a b) Finset.univ (View.stores_vmem_bits_univ h_S8x128 rfl) (.inl rfl))

/-- The last `n` pairs of a token's gather. -/
def gather (off : Fin 1 → Nat) (hoff : ∀ a, off a + S1.size a ≤ S16512.size a) : (n : ℕ) → n ≤ 64 → PR F PUnit
  | 0, _ => pure ⟨⟩
  | n + 1, h => do
      pair arg6 arg7 st off hoff ⟨63 - n, by omega⟩
      gather off hoff n (by omega)
end

section
variable (st : Memref sig .tc .vmem S512x128 .i32) (arg10 : Memref sig .tc .vmem S129x128x128 .f32)

/-- The four 8-row words of group `j` against the token's eight rows, stored as eight rows of the token's products. -/
def group (h : Vec F S1x8x128 .f32) (row : ℕ) (hrow : row + 1 ≤ 129) (j : Fin 16) : PR F PUnit := do
  let w0 : Vec F S8x128 .i32 ← Prog.lift (.load st (⟨![32 * j.val + 0, 0], S8x128.size, ![4, 1], inbStride j 0⟩ : LoadRect S512x128) (View.loadsAt_vmem h_S8x128))
  let w1 : Vec F S8x128 .i32 ← Prog.lift (.load st (⟨![32 * j.val + 1, 0], S8x128.size, ![4, 1], inbStride j 1⟩ : LoadRect S512x128) (View.loadsAt_vmem h_S8x128))
  let w2 : Vec F S8x128 .i32 ← Prog.lift (.load st (⟨![32 * j.val + 2, 0], S8x128.size, ![4, 1], inbStride j 2⟩ : LoadRect S512x128) (View.loadsAt_vmem h_S8x128))
  let w3 : Vec F S8x128 .i32 ← Prog.lift (.load st (⟨![32 * j.val + 3, 0], S8x128.size, ![4, 1], inbStride j 3⟩ : LoadRect S512x128) (View.loadsAt_vmem h_S8x128))
  let _ : Vec F S1x8x128 .f32 ← Prog.lift (.load arg10 (Rect.unit (s := S129x128x128) ![row, 8 * j.val, 0] S1x8x128.size (inbGroup row hrow j)).toLoadRect (View.loadsAt_vmem h_S1x8x128))
  Prog.lift (.store arg10 (Rect.unit (s := S129x128x128) ![row, 8 * j.val, 0] S1x8x128.size (inbGroup row hrow j))
    (k0_pay132 (k0_pay77 h) (k0_pay78 h) (k0_pay79 h) (k0_pay80 h) (k0_pay81 h) (k0_pay82 h) (k0_pay83 h) (k0_pay84 h) w0 w1 w2 w3)
    Finset.univ (View.stores_vmem_bits_univ h_S1x8x128 rfl) (.inl rfl))

/-- The last `n` groups of a token's products. -/
def groups (h : Vec F S1x8x128 .f32) (row : ℕ) (hrow : row + 1 ≤ 129) : (n : ℕ) → n ≤ 16 → PR F PUnit
  | 0, _ => pure ⟨⟩
  | n + 1, hn => do
      group st arg10 h row hrow ⟨15 - n, by omega⟩
      groups h row hrow n (by omega)
end

/-- A token's products: its eight rows, then its 16 groups. -/
def products (arg3 : Memref sig .tc .vmem S128x8x128 .f32) (st : Memref sig .tc .vmem S512x128 .i32)
    (arg10 : Memref sig .tc .vmem S129x128x128 .f32)
    (hoff : Fin 3 → Nat) (hh : ∀ a, hoff a + S1x8x128.size a ≤ S128x8x128.size a) (row : ℕ) (hrow : row + 1 ≤ 129) : PR F PUnit := do
  let h : Vec F S1x8x128 .f32 ← Prog.lift (.load arg3 (Rect.unit (s := S128x8x128) hoff S1x8x128.size hh).toLoadRect (View.loadsAt_vmem h_S1x8x128))
  groups st arg10 h row hrow 16 (le_refl _)

/-- Lane numbers of the 128 by 128 block. -/
abbrev lanes : IVec S128x128 32 := iota .tc S128x128 32 [1] iota_S128x128_d1_w32

/-- Sum a token's products along the lanes and store the sums in the token's lane. -/
def reduce (arg10 : Memref sig .tc .vmem S129x128x128 .f32) (arg11 : Memref sig .tc .vmem S128x128 .f32)
    (off : Fin 3 → Nat) (hoff : ∀ a, off a + S1x128x128.size a ≤ S129x128x128.size a) (t : BitVec 32) : PR F PUnit := do
  let v : Vec F S1x128x128 .f32 ← Prog.lift (.load arg10 (Rect.unit (s := S129x128x128) off S1x128x128.size hoff).toLoadRect (View.loadsAt_vmem h_S1x128x128))
  let _ : Vec F S128x128 .f32 ← Prog.lift (.load arg11 (Rect.unit (s := S128x128) ![0, 0] S128x128.size inb_S128x128_S128x128_0_0).toLoadRect (View.loadsAt_vmem h_S128x128))
  Prog.lift (.store arg11 (Rect.unit (s := S128x128) ![0, 0] S128x128.size inb_S128x128_S128x128_0_0) (k0_pay352 v) (IVec.on (k0_pay353 lanes t)) (View.stores_vmem_bits h_S128x128 rfl (fun h => nomatch h)) (.inr (fun _ => rfl)))

section
variable (i : grid0.Coords) (arg1 : Memref sig .tc .hbm S256x16384 .i32) (harg1 : arg1.IsWhole) (arg2 : Memref sig .tc .hbm S65536x128 .i32) (harg2 : arg2.IsWhole) (arg3 : Memref sig .tc .vmem S128x8x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S65552x128 .i32) (harg6 : arg6.IsWhole) (arg7 : Memref sig .tc .smem S32768 .i32) (harg7 : arg7.IsWhole) (arg8 : Memref sig .tc .vmem S512x128 .i32) (harg8 : arg8.IsWhole) (arg9 : Memref sig .tc .vmem S512x128 .i32) (harg9 : arg9.IsWhole) (arg10 : Memref sig .tc .vmem S129x128x128 .f32) (harg10 : arg10.IsWhole) (arg11 : Memref sig .tc .vmem S128x128 .f32) (harg11 : arg11.IsWhole) (arg12 : DmaSems sig S_) (arg13 : DmaSems sig S2)

/-- The word of trip `k`'s first token, and of its second. -/
def tokA (k : Fin k0_t1_loop.trips) : BitVec 32 := Scalar.addi (Scalar.muli 2#32 (Scf.iv 0#32 1#32 k)) 0#32
def tokB (k : Fin k0_t1_loop.trips) : BitVec 32 := Scalar.addi (Scalar.muli 2#32 (Scf.iv 0#32 1#32 k)) 1#32

/-- One trip: for each of two tokens, gather the next token's rows into the other stage, form the token's
    products, and reduce the token before it. -/
def trip (k : Fin k0_t1_loop.trips) : PR F PUnit := do
  gather arg6 arg7 arg9 (k0_off263 i k) (k0_off263_inb i k) 64 (le_refl _)
  products arg3 arg8 arg10 (k0_off519 k) (k0_off519_inb k) (k0_off520 k 0) (k0_off520_inb k 0)
  reduce arg10 arg11 (k0_off536 k) (k0_off536_inb k) (Scalar.subi (tokA k) 1#32)
  gather arg6 arg7 arg8 (k0_off537 i k) (k0_off537_inb i k) 64 (le_refl _)
  products arg3 arg9 arg10 (k0_off793 k) (k0_off793_inb k) (k0_off794 k 0) (k0_off794_inb k 0)
  reduce arg10 arg11 (k0_off810 k) (k0_off810_inb k) (Scalar.subi (tokB k) 1#32)

set_option maxRecDepth 65536 in
set_option maxHeartbeats 40000000 in
theorem trip_eq (v20 : BitVec 32) (v21 : IVec S8x128 32) (v1152 : Vec F S8x128 .i32) (k : Fin k0_t1_loop.trips) :
    k0_t1_body (F := F) i arg1 harg1 arg2 harg2 arg3 harg3 arg4 harg4 arg5 harg5 arg6 harg6 arg7 harg7 arg8 harg8 arg9 harg9 arg10 harg10 arg11 harg11 arg12 arg13
      (Scalar.muli (Scalar.remsi (BitVec.ofNat 32 (i 0).val) 2#32) 16384#32) lanes v20 v21 v1152 k ()
      = trip (F := F) i arg3 arg6 arg7 arg8 arg9 arg10 arg11 k := by
  sl_kernel_rfl

/-- The start of a grid point: at the first one the table and its zero rows are brought in; the point's own
    index row is awaited, and the next point's is sent for. -/
def start : PR F PUnit := do
  if k0_h1 : Scalar.cmpi .ne (Scalar.extui (Scalar.cmpi .eq (BitVec.ofNat 32 (i 0).val) 0#32)) 0#32 = 1#1 then do
    Prog.lift (.enqueueDma ((arg1.slice (Rect.unit (s := S256x16384) ![0, 0] S1x16384.size inb_S256x16384_S1x16384_0_0) (fun _ => rfl)).squeeze S16384 squeezes_S1x16384_S16384)
      (.here (arg7.slice (Rect.unit (s := S32768) ![0] S16384.size inb_S32768_S16384_0) (fun _ => rfl)))
      (.dma ((arg13.slice (Rect.unit (s := S2) ![0] S1.size inb_S2_S1_0)).squeeze S_ squeezes_S1_S_).sem)
      ((View.wordExact_bits rfl).reshape _ _) (View.wordExact_bits rfl) ⟨Or.inl rfl, trivial⟩)
    Prog.lift (.enqueueDma arg2 (.here (arg6.slice (Rect.unit (s := S65552x128) ![8, 0] S65536x128.size inb_S65552x128_S65536x128_8_0) (fun _ => rfl)))
      (.dma arg12.sem) harg2.wordExact (View.wordExact_bits rfl) ⟨Or.inl rfl, trivial⟩)
    let _ : Vec F S8x128 .i32 ← Prog.lift (.load arg6 (Rect.unit (s := S65552x128) ![0, 0] S8x128.size inb_S65552x128_S8x128_0_0).toLoadRect (View.loadsAt_vmem h_S8x128))
    Prog.lift (.store arg6 (Rect.unit (s := S65552x128) ![0, 0] S8x128.size inb_S65552x128_S8x128_0_0) k0_pay280 Finset.univ (View.stores_vmem_bits_univ h_S8x128 rfl) (.inl rfl))
    let _ : Vec F S8x128 .i32 ← Prog.lift (.load arg6 (Rect.unit (s := S65552x128) ![65544, 0] S8x128.size inb_S65552x128_S8x128_65544_0).toLoadRect (View.loadsAt_vmem h_S8x128))
    Prog.lift (.store arg6 (Rect.unit (s := S65552x128) ![65544, 0] S8x128.size inb_S65552x128_S8x128_65544_0) k0_pay281 Finset.univ (View.stores_vmem_bits_univ h_S8x128 rfl) (.inl rfl))
    Prog.lift (.waitDma2 arg12.sem arg2 (arg6.slice (Rect.unit (s := S65552x128) ![8, 0] S65536x128.size inb_S65552x128_S65536x128_8_0) (fun _ => rfl)) harg2.wordExact (View.wordExact_bits rfl))
    pure ⟨⟩
  else do
    pure ⟨⟩
  Prog.lift (.waitDma2 ((arg13.slice (Rect.unit (s := S2) (k0_off1 i) S1.size (k0_off1_inb i))).squeeze S_ squeezes_S1_S_).sem
    ((arg1.slice (Rect.unit (s := S256x16384) (k0_off3 i) S1x16384.size (k0_off3_inb i)) (fun _ => rfl)).squeeze S16384 squeezes_S1x16384_S16384)
    (arg7.slice (Rect.unit (s := S32768) (k0_off2 i) S16384.size (k0_off2_inb i)) (fun _ => rfl)) ((View.wordExact_bits rfl).reshape _ _) (View.wordExact_bits rfl))
  if k0_h2 : k0_cond2 i = 1#1 then do
    Prog.lift (.enqueueDma ((arg1.slice (Rect.unit (s := S256x16384) (k0_off6 i) S1x16384.size (k0_off6_inb i k0_h2)) (fun _ => rfl)).squeeze S16384 squeezes_S1x16384_S16384)
      (.here (arg7.slice (Rect.unit (s := S32768) (k0_off5 i) S16384.size (k0_off5_inb i k0_h2)) (fun _ => rfl)))
      (.dma ((arg13.slice (Rect.unit (s := S2) (k0_off4 i) S1.size (k0_off4_inb i k0_h2))).squeeze S_ squeezes_S1_S_).sem)
      ((View.wordExact_bits rfl).reshape _ _) (View.wordExact_bits rfl) ⟨Or.inl rfl, trivial⟩)
    pure ⟨⟩
  else do
    pure ⟨⟩

/-- The row of products before the first token's is zero. -/
def zeroRow : PR F PUnit := do
  let _ : Vec F S1x128x128 .f32 ← Prog.lift (.load arg10 (Rect.unit (s := S129x128x128) ![0, 0, 0] S1x128x128.size inb_S129x128x128_S1x128x128_0_0_0).toLoadRect (View.loadsAt_vmem h_S1x128x128))
  Prog.lift (.store arg10 (Rect.unit (s := S129x128x128) ![0, 0, 0] S1x128x128.size inb_S129x128x128_S1x128x128_0_0_0) (k0_pay282 (F := F)) Finset.univ (View.stores_vmem_bits_univ h_S1x128x128 rfl) (.inl rfl))

/-- The loop over 64 pairs of tokens, and the last token's reduction. -/
def ring : PR F PUnit := do
  Scf.Loop.for k0_t1_loop k0_t1_ok ⟨⟩ (fun k (_ : Unit) => trip (F := F) i arg3 arg6 arg7 arg8 arg9 arg10 arg11 k)
  reduce arg10 arg11 ![128, 0, 0] inb_S129x128x128_S1x128x128_128_0_0 127#32

/-- The end of a grid point: the gated activation of the dot products. -/
def finish : PR F PUnit := do
  let a : Vec F S128x128 .f32 ← Prog.lift (.load arg11 (Rect.unit (s := S128x128) ![0, 0] S128x128.size inb_S128x128_S128x128_0_0).toLoadRect (View.loadsAt_vmem h_S128x128))
  let g : Vec F S1x128x128 .f32 ← Prog.lift (.load arg4 (Rect.unit (s := S1x128x128) ![0, 0, 0] S1x128x128.size inb_S1x128x128_S1x128x128_0_0_0).toLoadRect (View.loadsAt_vmem h_S1x128x128))
  let _ : Vec F S1x128x128 .f32 ← Prog.lift (.load arg5 (Rect.unit (s := S1x128x128) ![0, 0, 0] S1x128x128.size inb_S1x128x128_S1x128x128_0_0_0).toLoadRect (View.loadsAt_vmem h_S1x128x128))
  Prog.lift (.store arg5 (Rect.unit (s := S1x128x128) ![0, 0, 0] S1x128x128.size inb_S1x128x128_S1x128x128_0_0_0) (k0_pay1 a g) Finset.univ (View.stores_vmem_bits_univ h_S1x128x128 rfl) (.inl rfl))

/-- The whole grid point. -/
def point : PR F PUnit := do
  start (F := F) i arg1 arg2 harg2 arg6 arg7 arg12 arg13
  zeroRow (F := F) arg10
  gather arg6 arg7 arg8 (k0_off7 i) (k0_off7_inb i) 64 (le_refl _)
  ring (F := F) i arg3 arg6 arg7 arg8 arg9 arg10 arg11
  finish (F := F) arg4 arg5 arg11

end

end Cert.KernelIdeal.PeerU

end
-- ==== Proof.PeerU.PointEq.lean ====
/- The kernel's grid point as a short structured program: a gather of 64 pairs of table rows, the
   products of one token over its 16 groups of experts, the reduction of one token's products into
   its lane, and a loop of 64 trips over two tokens each. The printed function is this program. -/
module

public import proofs.«01_k».proof.Proof.PeerU.Prog
public import Idealize.ShloMosaic.Lib.Tactic

@[expose] public section

noncomputable section

namespace Cert.KernelIdeal.PeerU

open Idealize.ShloMosaic Idealize.SL.Sem
open Cert.KernelIdeal.Gen

variable {F : FTy → Type} [FloatOps F]

section
variable (i : grid0.Coords) (arg1 : Memref sig .tc .hbm S256x16384 .i32) (harg1 : arg1.IsWhole) (arg2 : Memref sig .tc .hbm S65536x128 .i32) (harg2 : arg2.IsWhole) (arg3 : Memref sig .tc .vmem S128x8x128 .f32) (harg3 : arg3.IsWhole) (arg4 : Memref sig .tc .vmem S1x128x128 .f32) (harg4 : arg4.IsWhole) (arg5 : Memref sig .tc .vmem S1x128x128 .f32) (harg5 : arg5.IsWhole) (arg6 : Memref sig .tc .vmem S65552x128 .i32) (harg6 : arg6.IsWhole) (arg7 : Memref sig .tc .smem S32768 .i32) (harg7 : arg7.IsWhole) (arg8 : Memref sig .tc .vmem S512x128 .i32) (harg8 : arg8.IsWhole) (arg9 : Memref sig .tc .vmem S512x128 .i32) (harg9 : arg9.IsWhole) (arg10 : Memref sig .tc .vmem S129x128x128 .f32) (harg10 : arg10.IsWhole) (arg11 : Memref sig .tc .vmem S128x128 .f32) (harg11 : arg11.IsWhole) (arg12 : DmaSems sig S_) (arg13 : DmaSems sig S2)

set_option maxRecDepth 65536 in
set_option maxHeartbeats 40000000 in
/-- The printed function is the structured program. -/
theorem point_eq :
    cc0_peer_u (F := F) i arg1 harg1 arg2 harg2 arg3 harg3 arg4 harg4 arg5 harg5 arg6 harg6 arg7 harg7 arg8 harg8 arg9 harg9 arg10 harg10 arg11 harg11 arg12 arg13
      = point (F := F) i arg1 arg2 harg2 arg3 arg4 arg5 arg6 arg7 arg8 arg9 arg10 arg11 arg12 arg13 := by
  rw [cc0_peer_u_eq_skeleton]
  unfold cc0_peer_u_skel point start
  rw [k0_part87_eq_skeleton]
  unfold k0_part87_skel
  by_cases h1 : Scalar.cmpi .ne (Scalar.extui (Scalar.cmpi .eq (BitVec.ofNat 32 (i 0).val) 0#32) : BitVec 32) 0#32 = 1#1
  · by_cases h2 : k0_cond2 i = 1#1
    · simp only [dif_pos h1, dif_pos h2]
      sl_kernel_rfl
    · simp only [dif_pos h1, dif_neg h2]
      sl_kernel_rfl
  · by_cases h2 : k0_cond2 i = 1#1
    · simp only [dif_neg h1, dif_pos h2]
      sl_kernel_rfl
    · simp only [dif_neg h1, dif_neg h2]
      sl_kernel_rfl

end

end Cert.KernelIdeal.PeerU

end
-- ==== Proof.PeerU.Gather.lean ====
/- The memory rules the grid point's pieces go by, each stated on owned buffers, and the gather of one
   token's rows: a stage ends at the rows the token's index words name. -/
module

public import proofs.«01_k».proof.Proof.PeerU.Prog
public import Idealize.ShloMosaic.Lib.Pipeline.FrameBody
public import Idealize.ShloMosaic.Lib.Pipeline.Value
public import Idealize.ShloMosaic.Lib.ValueIdxCore

@[expose] public section

noncomputable section

namespace Cert.KernelIdeal.PeerU

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

/-- A core's program run from the grid point's start. -/
abbrev WP {α : Type} (c : Dev nD) (p : PR F α)
    (Q : α → sProp (MT nD τ sig Unit (Elt F) ℕ (Pipeline.UD sig nD τ) ℕ)) : sProp 𝕄 :=
  wp frame (wpE (defs₀ (F := F)) Variants.none (c : Thread nD τ) none) Set.univ p Q

variable (c : Dev nD) {α : Type}
variable {Q : α → sProp (MT nD τ sig Unit (Elt F) ℕ (Pipeline.UD sig nD τ) ℕ)}

/-- An owned buffer is loaded from at the coordinates. -/
theorem load_own {cs : CoreSpace} {s : Shape} {e : EltTy} {m : Memref sig .tc cs s e} {r : LoadRect s} {hl : m.view.LoadsAt r}
    {k : (r.shape.Idx → Elt F e) → PR F α} {q : PosShare TreeShare} {X : s.Idx → Elt F e} :
    (owns (c : Thread nD τ) m q X : sProp 𝕄)
      ⊢ iprop((owns (c : Thread nD τ) m q X -∗ WP c (k (fun y => X (r.idx y))) Q) -∗ WP c (Prog.lift (.load m r hl) >>= k) Q) := by
  unfold owns
  iintro ⟨%f, %hf, H⟩ Hk
  subst hf
  iapply (wp_load (defs := defs₀ (F := F)) Variants.none (c : Thread nD τ) none Set.univ (m := m) (r := r) (hl := hl)
    (S := m.view.set) (View.setOn_subset_set m.view r.set)) $$ H
  iintro H
  iapply Hk
  iexists f
  isplitr
  · ipureintro; rfl
  · iexact H

/-- An owned buffer is stored to on a mask of a rectangle: what it reads afterwards is the payload on the mask and what
    it read before off it. -/
theorem store_own {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    {k : PUnit → PR F α} {X : s.Idx → Elt F e} :
    (owns (c : Thread nD τ) m fullShare X : sProp 𝕄)
      ⊢ iprop((∀ Y : s.Idx → Elt F e, ⌜(∀ x ∈ Mk, Y (r.emb x) = w x) ∧ ∀ y, y ∉ Mk.map r.emb → Y y = X y⌝
          -∗ owns (c : Thread nD τ) m fullShare Y -∗ WP c (k ⟨⟩) Q) -∗ WP c (Prog.lift (.store m r w Mk hx hm) >>= k) Q) := by
  unfold owns
  iintro ⟨%f, %hf, H⟩ Hk
  subst hf
  iapply (wp_store (defs := defs₀ (F := F)) Variants.none (c : Thread nD τ) none Set.univ (m := m) (r := r) (w := w) (Mk := Mk) (hx := hx) (hm := hm)
    (S := m.view.set) (((m.access r).setOn_subset_set Mk).trans (View.set_slice_subset (v := m.view) r))) $$ H
  iintro H
  iapply Hk $$ %(m.view.read (Elt F) ((m.access r).write (Elt F) f w Mk))
  · ipureintro
    exact ⟨fun x hx => View.read_slice_write_emb (v := m.view) r f w hx, fun y hy => View.read_slice_write_of_not_mem (v := m.view) r f w Mk hy⟩
  · iexists _
    isplitr
    swap
    · iexact H
    · ipureintro; rfl

/-- A checked side condition that holds. -/
theorem assume_own {P : Prop} {d : Decidable P} {k : PLift P → PR F α} (h : P) :
    WP c (k ⟨h⟩) Q ⊢ WP c (Prog.lift (.assume P d) >>= k) Q :=
  wp_assume (defs := defs₀ (F := F)) Variants.none (c : Thread nD τ) none Set.univ h

/-! ## The table, the index words, a stage -/

/-- Row `r`, lane `l` of the table. -/
def tabAt (T : S65552x128.Idx → BitVec 32) (r : ℕ) (l : Fin 128) : BitVec 32 :=
  if h : r < 65552 then T (ix2 ⟨r, h⟩ l) else 0#32

/-- Word `m` of a grid point's index row. -/
def wordAt (I : S16384.Idx → BitVec 32) (m : ℕ) : BitVec 32 :=
  if h : m < 16384 then I (ix1 ⟨m, h⟩) else 0#32

/-- What a stage holds once token `t`'s rows are gathered: four rows for each of 128 experts. -/
def stageOf (T : S65552x128.Idx → BitVec 32) (I : S16384.Idx → BitVec 32) (t : ℕ) : S512x128.Idx → BitVec 32 :=
  fun y => tabAt T ((wordAt I (128 * ((y 0).val / 4) + t)).toNat + (y 0).val % 8) (y 1)

/-- The half of the index buffer that starts at `b`. -/
theorem inbHalf (b : ℕ) (hb : b + 16384 ≤ 32768) : ∀ a, (![b] : Fin 1 → Nat) a + S16384.size a ≤ S32768.size a := by
  intro a; fin_cases a; exact hb

abbrev half (arg7 : Memref sig .tc .smem S32768 .i32) (b : ℕ) (hb : b + 16384 ≤ 32768) : Memref sig .tc .smem S16384 .i32 :=
  arg7.slice (Rect.unit (s := S32768) ![b] S16384.size (inbHalf b hb)) (fun _ => rfl)

section
variable (arg6 : Memref sig .tc .vmem S65552x128 .i32) (arg7 : Memref sig .tc .smem S32768 .i32)
  (st : Memref sig .tc .vmem S512x128 .i32)
variable (b : ℕ) (hb : b + 16384 ≤ 32768) (t : ℕ) (ht : t < 128)

/-- One word is read off the half of the index buffer that holds the grid point's row. -/
theorem word_own (off : Fin 1 → Nat) (hoff : ∀ a, off a + S1.size a ≤ S16512.size a) (ho : off = ![b + t]) (ht : t < 128) (n : ℕ) (hn : n < 128)
    {k : Elt F .i32 → PR F α} {I : S16384.Idx → BitVec 32} :
    (owns (c : Thread nD τ) (half arg7 b hb) fullShare I : sProp 𝕄)
      ⊢ iprop((owns (c : Thread nD τ) (half arg7 b hb) fullShare I -∗ WP c (k (wordAt I (128 * n + t))) Q)
          -∗ WP c (word arg7 off hoff n hn >>= k) Q) := by
  subst ho
  unfold owns
  iintro ⟨%f, %hf, H⟩ Hk
  subst hf
  have hm : 128 * n + t < 16384 := by omega
  have hemb : ∀ x, (((arg7.slice (Rect.unit (s := S32768) ![128 * n] S16512.size (inbWord n hn)) (fun _ => rfl)).access
      (Rect.unit (s := S16512) ![b + t] S1.size hoff)).emb x) = (half arg7 b hb).view.emb (ix1 ⟨128 * n + t, hm⟩) := by
    intro x
    show arg7.view.emb _ = arg7.view.emb _
    congr 1
    funext a
    fin_cases a
    apply Fin.ext
    have hx : (x 0).val = 0 := by have := (x 0).isLt; change (x 0).val < 1 at this; omega
    show 128 * n + 1 * (b + t + 1 * (x 0).val) = b + 1 * (128 * n + t)
    omega
  iapply (wp_smemLoadElt (defs := defs₀ (F := F)) Variants.none (c : Thread nD τ) none Set.univ
    (m := arg7.slice (Rect.unit (s := S32768) ![128 * n] S16512.size (inbWord n hn)) (fun _ => rfl))
    (r := Rect.unit (s := S16512) ![b + t] S1.size hoff) (S := (half arg7 b hb).view.set) (k := k) (hw := View.loads_smem_one rfl numel1_S1) (by
      intro z hz
      obtain ⟨x, -, rfl⟩ := Finset.mem_map.mp hz
      rw [hemb]; exact View.emb_mem_set _ _)) $$ H
  iintro H
  have hv : ((arg7.slice (Rect.unit (s := S32768) ![128 * n] S16512.size (inbWord n hn)) (fun _ => rfl)).access
      (Rect.unit (s := S16512) ![b + t] S1.size hoff)).read (Elt F) f (Shape.Idx.first (numel1_S1.symm ▸ Nat.one_pos))
        = wordAt ((half arg7 b hb).view.read (Elt F) f) (128 * n + t) := by
    unfold wordAt
    rw [dif_pos hm, View.read_apply, View.read_apply, hemb]
  rw [hv]
  iapply Hk
  iexists f
  isplitr
  · ipureintro; rfl
  · iexact H

/-- Row block 0 to 3 of a pair is taken from the first load, 4 to 7 from the second. -/
theorem pay73_apply (a b : Vec F S8x128 .i32) (x : S8x128.Idx) :
    k0_pay73 (F := F) sub8 a b x = if (x 0).val < 4 then a x else b x := by
  unfold k0_pay73
  have hn : ∀ n : Fin 8, Scalar.cmpi .slt (BitVec.ofNat 32 (0 * 8 + n.val)) 4#32 = if n.val < 4 then 1#1 else 0#1 := by decide
  rw [shapeCast_self]
  show Scalar.select (Scalar.cmpi .slt (BitVec.ofNat 32 (0 * 8 + (x 0).val)) 4#32) (a x) (b x) = _
  rw [hn (x 0)]
  by_cases h : (x 0).val < 4
  · simp only [if_pos h]; rfl
  · simp only [if_neg h]; rfl

/-- One pair's store adds the pair's eight rows to those already gathered. -/
theorem stage_step {t : ℕ} {p : Fin 64} {T : S65552x128.Idx → BitVec 32} {I : S16384.Idx → BitVec 32} {D Y : S512x128.Idx → BitVec 32}
    (h0 : ∀ a, (![(wordAt I (128 * (2 * p.val) + t)).toNat, 0] : Fin 2 → Nat) a + S8x128.size a ≤ S65552x128.size a)
    (h1 : ∀ a, (![(wordAt I (128 * (2 * p.val + 1) + t)).toNat, 0] : Fin 2 → Nat) a + S8x128.size a ≤ S65552x128.size a)
    (hD : ∀ y : S512x128.Idx, (y 0).val < 8 * p.val → D y = stageOf T I t y)
    (hY1 : ∀ x ∈ (Finset.univ : Finset S8x128.Idx), Y ((Rect.unit (s := S512x128) ![8 * p.val, 0] S8x128.size (inbPair p)).emb x)
      = k0_pay73 (F := F) sub8 (fun y => T ((Rect.unit (s := S65552x128) ![(wordAt I (128 * (2 * p.val) + t)).toNat, 0] S8x128.size h0).toLoadRect.idx y))
          (fun y => T ((Rect.unit (s := S65552x128) ![(wordAt I (128 * (2 * p.val + 1) + t)).toNat, 0] S8x128.size h1).toLoadRect.idx y)) x)
    (hY2 : ∀ y, y ∉ (Finset.univ : Finset S8x128.Idx).map (Rect.unit (s := S512x128) ![8 * p.val, 0] S8x128.size (inbPair p)).emb → Y y = D y)
    (y : S512x128.Idx) (hy : (y 0).val < 8 * (p.val + 1)) : Y y = stageOf T I t y := by
  by_cases hlt : (y 0).val < 8 * p.val
  · rw [hY2 y, hD y hlt]
    intro hm
    obtain ⟨x, -, rfl⟩ := Finset.mem_map.mp hm
    have : (((Rect.unit (s := S512x128) ![8 * p.val, 0] S8x128.size (inbPair p)).emb x) 0).val = 8 * p.val + 1 * (x 0).val := rfl
    omega
  · have hr0 := h0 0
    have hr1 := h1 0
    change (wordAt I (128 * (2 * p.val) + t)).toNat + 8 ≤ 65552 at hr0
    change (wordAt I (128 * (2 * p.val + 1) + t)).toNat + 8 ≤ 65552 at hr1
    have hx8 : (y 0).val - 8 * p.val < 8 := by omega
    have hyx : y = (Rect.unit (s := S512x128) ![8 * p.val, 0] S8x128.size (inbPair p)).emb (ix2 ⟨(y 0).val - 8 * p.val, hx8⟩ (y 1)) := by
      funext a
      fin_cases a
      · apply Fin.ext
        show (y 0).val = 8 * p.val + 1 * ((y 0).val - 8 * p.val)
        omega
      · apply Fin.ext
        show (y 1).val = 0 + 1 * (y 1).val
        omega
    have e := hY1 (ix2 ⟨(y 0).val - 8 * p.val, hx8⟩ (y 1)) (Finset.mem_univ _)
    rw [← hyx] at e
    rw [e, pay73_apply]
    unfold stageOf tabAt
    by_cases h4 : (y 0).val - 8 * p.val < 4
    · have hd : (y 0).val / 4 = 2 * p.val := by omega
      have hm : (y 0).val % 8 = (y 0).val - 8 * p.val := by omega
      rw [if_pos (show ((ix2 (⟨(y 0).val - 8 * p.val, hx8⟩ : Fin 8) (y 1) : S8x128.Idx) 0).val < 4 from h4), hd, hm, dif_pos (by omega)]
      congr 1
      funext a
      fin_cases a
      · apply Fin.ext
        show (wordAt I (128 * (2 * p.val) + t)).toNat + 1 * ((y 0).val - 8 * p.val) = _ + ((y 0).val - 8 * p.val)
        omega
      · apply Fin.ext
        show 0 + 1 * (y 1).val = (y 1).val
        omega
    · have hd : (y 0).val / 4 = 2 * p.val + 1 := by omega
      have hm : (y 0).val % 8 = (y 0).val - 8 * p.val := by omega
      rw [if_neg (show ¬ ((ix2 (⟨(y 0).val - 8 * p.val, hx8⟩ : Fin 8) (y 1) : S8x128.Idx) 0).val < 4 from h4), hd, hm, dif_pos (by omega)]
      congr 1
      funext a
      fin_cases a
      · apply Fin.ext
        show (wordAt I (128 * (2 * p.val + 1) + t)).toNat + 1 * ((y 0).val - 8 * p.val) = _ + ((y 0).val - 8 * p.val)
        omega
      · apply Fin.ext
        show 0 + 1 * (y 1).val = (y 1).val
        omega

theorem pair_own {off : Fin 1 → Nat} {hoff : ∀ a, off a + S1.size a ≤ S16512.size a} (ho : off = ![b + t]) (ht : t < 128) (p : Fin 64)
    {k : PUnit → PR F α} {T : S65552x128.Idx → BitVec 32} {I : S16384.Idx → BitVec 32} {D : S512x128.Idx → BitVec 32}
    (hc : ∀ e < 128, chk (wordAt I (128 * e + t))) (hD : ∀ y : S512x128.Idx, (y 0).val < 8 * p.val → D y = stageOf T I t y) :
    iprop(owns (c : Thread nD τ) arg6 fullShare T ∗ owns (c : Thread nD τ) (half arg7 b hb) fullShare I
        ∗ owns (c : Thread nD τ) st fullShare D
        ∗ ((∃ D', ⌜∀ y : S512x128.Idx, (y 0).val < 8 * (p.val + 1) → D' y = stageOf T I t y⌝ ∗ owns (c : Thread nD τ) arg6 fullShare T
            ∗ owns (c : Thread nD τ) (half arg7 b hb) fullShare I ∗ owns (c : Thread nD τ) st fullShare D') -∗ WP c (k ⟨⟩) Q) : sProp 𝕄)
      ⊢ WP c (pair arg6 arg7 st off hoff p >>= k) Q := by
  unfold pair
  simp only [bind_assoc]
  iintro ⟨H6, H7, HS, Hk⟩
  have hc0 := hc (2 * p.val) (by omega)
  have hc1 := hc (2 * p.val + 1) (by omega)
  iapply (word_own (F := F) c arg7 b hb t off hoff ho ht (2 * p.val) _) $$ H7
  iintro H7
  iapply (assume_own c hc0)
  iapply (word_own (F := F) c arg7 b hb t off hoff ho ht (2 * p.val + 1) _) $$ H7
  iintro H7
  iapply (assume_own c hc1)
  iapply (load_own c (m := arg6)) $$ H6
  iintro H6
  iapply (load_own c (m := arg6)) $$ H6
  iintro H6
  iapply (load_own c (m := st)) $$ HS
  iintro HS
  iapply (store_own c (m := st)) $$ HS
  iintro %Y %hY HS
  iapply Hk
  iexists Y
  isplitr
  · ipureintro
    intro y hy
    exact stage_step hc0.2 hc1.2 hD hY.1 hY.2 y hy
  isplitl [H6]; · iexact H6
  isplitl [H7]; · iexact H7
  iexact HS

theorem gather_own {off : Fin 1 → Nat} {hoff : ∀ a, off a + S1.size a ≤ S16512.size a} (ho : off = ![b + t]) (ht : t < 128)
    {T : S65552x128.Idx → BitVec 32} {I : S16384.Idx → BitVec 32}
    (hc : ∀ e < 128, chk (wordAt I (128 * e + t))) (n : ℕ) (hn : n ≤ 64) :
    ∀ {k : PUnit → PR F α} {D : S512x128.Idx → BitVec 32} (hD : ∀ y : S512x128.Idx, (y 0).val < 8 * (64 - n) → D y = stageOf T I t y),
    iprop(owns (c : Thread nD τ) arg6 fullShare T ∗ owns (c : Thread nD τ) (half arg7 b hb) fullShare I
        ∗ owns (c : Thread nD τ) st fullShare D
        ∗ ((owns (c : Thread nD τ) arg6 fullShare T
            ∗ owns (c : Thread nD τ) (half arg7 b hb) fullShare I ∗ owns (c : Thread nD τ) st fullShare (stageOf T I t)) -∗ WP c (k ⟨⟩) Q) : sProp 𝕄)
      ⊢ WP c (gather arg6 arg7 st off hoff n hn >>= k) Q := by
  induction n with
  | zero =>
    intro k D hD
    obtain rfl : D = stageOf T I t := funext fun y => hD y (by have := (y 0).isLt; exact this)
    rw [show (gather arg6 arg7 st off hoff 0 hn >>= k) = k ⟨⟩ from rfl]
    iintro ⟨H6, H7, HS, Hk⟩
    iapply Hk
    isplitl [H6]; · iexact H6
    isplitl [H7]; · iexact H7
    iexact HS
  | succ n ih =>
    intro k D hD
    rw [gather.eq_def]
    simp only [bind_assoc]
    iintro ⟨H6, H7, HS, Hk⟩
    iapply (pair_own (F := F) c arg6 arg7 st b hb t ho ht ⟨63 - n, _⟩ hc (D := D) (fun y hy => hD y (by dsimp at hy; omega)))
    isplitl [H6]; · iexact H6
    isplitl [H7]; · iexact H7
    isplitl [HS]; · iexact HS
    iintro ⟨%D', %hD', H6, H7, HS⟩
    iapply (ih _ (D := D') (fun y hy => hD' y (by dsimp; omega)))
    isplitl [H6]; · iexact H6
    isplitl [H7]; · iexact H7
    isplitl [HS]; · iexact HS
    iexact Hk

end

end Cert.KernelIdeal.PeerU

end
-- ==== Proof.PeerU.Transfer.lean ====
/- The transfers a grid point makes for itself: the table's copy at the first point, and the index row of
   the next point, sent one point ahead into the other half of the index buffer. -/
module

public import proofs.«01_k».proof.Proof.PeerU.Gather
public import Idealize.ShloMosaic.Lib.Transfers

@[expose] public section

noncomputable section

namespace Cert.KernelIdeal.PeerU

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

variable (c : Dev nD) {α : Type}
variable {Q : α → sProp (MT nD τ sig Unit (Elt F) ℕ (Pipeline.UD sig nD τ) ℕ)}

/-- A transfer of this core in flight on its cell `sm`, which delivers `D`. -/
abbrev Fly (sm : SemLoc sig) (N : ℕ) (D : sProp (MT nD τ sig Unit (Elt F) ℕ (Pipeline.UD sig nD τ) ℕ)) : sProp 𝕄 :=
  Transfers.Flight (countersEmb (U := Pipeline.UD sig nD τ)) (c : Thread nD τ) sm () N D

/-- A transfer is sent: it will deliver the destination holding what the source reads, and the source back. -/
theorem send_own {sp sp' : Space} {s : Shape} {e : EltTy} {src : Memref sig .tc sp s e} {dst : Memref sig .tc sp' s e} {sm : SemLoc sig}
    {hsrc : src.view.WordExact} {hdst : dst.view.WordExact} {hsem : DmaTarget.Typed (nD := nD) (τ := τ) (p := .tc) sp sm (.here dst)}
    {k : PUnit → PR F α} {q : PosShare TreeShare} {fs : Buf (Elt F) (src.view.loc (c : Thread nD τ))} {Y : s.Idx → Elt F e}
    (hpos : 0 < s.numel) (N : ℕ) (hN : dst.view.amount sm = N) :
    iprop((src.view.loc (c : Thread nD τ) ↦[src.view.set]{q} fs) ∗ owns (c : Thread nD τ) dst fullShare Y ∗ semVal ((c : Thread nD τ), sm) 0)
      ⊢ iprop((Fly c sm N iprop(owns (c : Thread nD τ) dst fullShare (src.view.read (Elt F) fs)
                  ∗ (src.view.loc (c : Thread nD τ) ↦[src.view.set]{q} fs)) -∗ WP c (k ⟨⟩) Q)
          -∗ WP c (Prog.lift (.enqueueDma src (.here dst) sm hsrc hdst hsem) >>= k) Q) := by
  subst hN
  unfold owns
  iintro ⟨Hs, ⟨%f, -, Hd⟩, Hv⟩ Hk
  iapply (Transfers.wp_dmaLocal (countersEmb (U := Pipeline.UD sig nD τ)) (defs := defs₀ (F := F)) Variants.none (c : Thread nD τ) none
    (fs := fs) (Sd := dst.view.set) (fd := f) (q := q) () (dst.view.amount sm) rfl (View.amount_pos dst.view sm hpos) (Finset.Subset.refl _)) $$ [Hs Hd Hv]
  · isplitl [Hs]; · iexact Hs
    isplitl [Hd]; · iexact Hd
    iexact Hv
  iintro HF
  iapply Hk
  iapply (Transfers.Flight_mono (countersEmb (U := Pipeline.UD sig nD τ)) (c : Thread nD τ) ?_) $$ HF
  iintro ⟨H1, H2⟩
  isplitl [H1]
  · iexists _
    isplitr
    swap
    · iexact H1
    · ipureintro
      exact View.read_write_univ _ _
  · iexact H2

/-- A transfer is waited for: what it delivers is held, and its cell is at zero again. -/
theorem wait_own {sp sp' : Space} {s s' : Shape} {e e' : EltTy} {sem : DmaSem sig} {srcw : Memref sig .tc sp' s' e'} {dstw : Memref sig .tc sp s e}
    {hsrc : srcw.view.WordExact} {hdst : dstw.view.WordExact} {k : PUnit → PR F α} (N : ℕ) (hN : dstw.view.dmaCredit = N)
    {D : sProp (MT nD τ sig Unit (Elt F) ℕ (Pipeline.UD sig nD τ) ℕ)} {W : Waits sig Unit} :
    iprop(Fly c (.dma sem) N D ∗ owes (c : Thread nD τ) 0 W)
      ⊢ iprop((iprop(D ∗ semVal ((c : Thread nD τ), .dma sem) 0 ∗ (∃ W', owes (c : Thread nD τ) 0 W')) -∗ WP c (k ⟨⟩) Q)
          -∗ WP c (Prog.lift (.waitDma2 sem srcw dstw hsrc hdst) >>= k) Q) := by
  iintro ⟨HF, HW⟩ Hk
  iapply (Transfers.wp_waitLocal (countersEmb (U := Pipeline.UD sig nD τ)) (defs := defs₀ (F := F)) Variants.none (c : Thread nD τ) none () hN) $$ [HF HW]
  · isplitl [HF]; · iexact HF
    iexact HW
  iintro ⟨HD, Hs, HW⟩
  iapply Hk
  isplitl [HD]; · iexact HD
  isplitl [Hs]; · iexact Hs
  iexists _
  iexact HW

/-! ## A buffer with a rectangle of it given away -/

/-- What is left of a buffer once a rectangle of it is given away. -/
def rest {sp : Space} {s : Shape} {e : EltTy} (m : Memref sig .tc sp s e) (r : Rect s) (X : s.Idx → Elt F e) : sProp 𝕄 :=
  iprop(∃ f, ⌜m.view.read (Elt F) f = X⌝ ∗ (m.view.loc (c : Thread nD τ) ↦[m.view.set \ (m.view.slice r).set]{fullShare} f))

theorem rest_take {sp : Space} {s : Shape} {e : EltTy} {m : Memref sig .tc sp s e} (r : Rect s) (hr : ∀ a, r.stride a = 1) {X : s.Idx → Elt F e} :
    (owns (c : Thread nD τ) m fullShare X : sProp 𝕄)
      ⊢ iprop(owns (c : Thread nD τ) (m.slice r hr) fullShare (fun x => X (r.emb x)) ∗ rest c m r X) := by
  unfold owns rest
  iintro ⟨%f, %hf, H⟩
  subst hf
  icases (pointsTo_split_subset (View.set_slice_subset (v := m.view) r)).1 $$ H with ⟨H1, H2⟩
  isplitl [H1]
  · iexists f
    isplitr
    swap
    · iexact H1
    · ipureintro; rfl
  · iexists f
    isplitr
    swap
    · iexact H2
    · ipureintro; rfl

theorem rest_give {sp : Space} {s : Shape} {e : EltTy} {m : Memref sig .tc sp s e} (r : Rect s) (hr : ∀ a, r.stride a = 1)
    {X : s.Idx → Elt F e} {Y : r.shape.Idx → Elt F e} :
    iprop(owns (c : Thread nD τ) (m.slice r hr) fullShare Y ∗ rest c m r X)
      ⊢ (iprop(∃ Z : s.Idx → Elt F e, ⌜(∀ x, Z (r.emb x) = Y x) ∧ ∀ y, y ∉ r.set → Z y = X y⌝ ∗ owns (c : Thread nD τ) m fullShare Z) : sProp 𝕄) := by
  unfold owns rest
  iintro ⟨⟨%f, %hf, H⟩, ⟨%g, %hg, H'⟩⟩
  subst hf hg
  ihave HH := (pointsTo_join_subset (ℓ := m.view.loc (c : Thread nD τ)) (View.set_slice_subset (v := m.view) r)) $$ [H H']
  · isplitl [H]; · iexact H
    iexact H'
  iexists (m.view.read (Elt F) ((m.view.slice r).set.piecewise f g))
  isplitr
  · ipureintro
    refine ⟨fun x => ?_, fun y hy => ?_⟩
    · show _ = (m.view.slice r).read (Elt F) f x
      rw [View.read_apply, View.read_apply]
      have hx : m.view.emb (r.emb x) ∈ (m.view.slice r).set := View.emb_mem_set (v := m.view.slice r) x
      rw [Finset.piecewise_eq_of_mem _ _ _ hx]
      rfl
    · rw [View.read_apply, View.read_apply]
      have hx : m.view.emb y ∉ (m.view.slice r).set := by
        rw [View.set_slice]
        intro h
        obtain ⟨z, hz, hzy⟩ := Finset.mem_map.mp h
        exact hy (m.view.emb.injective hzy ▸ hz)
      rw [Finset.piecewise_eq_of_notMem _ _ _ hx]
  · iexists _
    isplitr
    swap
    · iexact HH
    · ipureintro; rfl

/-- The two halves of the index buffer are all of it. -/
theorem rest_set {sp : Space} {s : Shape} {e : EltTy} (m : Memref sig .tc sp s e) (r r' : Rect s)
    (h : ∀ y, y ∈ r.set ↔ y ∉ r'.set) : m.view.set \ (m.view.slice r').set = (m.view.slice r).set := by
  ext z
  rw [View.set_slice, View.set_slice, Finset.mem_sdiff]
  constructor
  · rintro ⟨hz, hn⟩
    obtain ⟨y, -, rfl⟩ := Finset.mem_map.mp hz
    refine Finset.mem_map_of_mem _ ((h y).2 fun hy => hn (Finset.mem_map_of_mem _ hy))
  · intro hz
    obtain ⟨y, hy, rfl⟩ := Finset.mem_map.mp hz
    refine ⟨View.emb_mem_set (v := m.view) y, fun hn => ?_⟩
    obtain ⟨y', hy', he⟩ := Finset.mem_map.mp hn
    exact (h y).1 hy (m.view.emb.injective he ▸ hy')

theorem rest_other {sp : Space} {s : Shape} {e : EltTy} {m : Memref sig .tc sp s e} (r r' : Rect s) (hr : ∀ a, r.stride a = 1)
    (h : ∀ y, y ∈ r.set ↔ y ∉ r'.set) {X : s.Idx → Elt F e} :
    (rest c m r' X : sProp 𝕄) ⊢ owns (c : Thread nD τ) (m.slice r hr) fullShare (fun x => X (r.emb x)) := by
  unfold owns rest
  rw [rest_set m r r' h]
  iintro ⟨%f, %hf, H⟩
  subst hf
  iexists f
  isplitr
  swap
  · iexact H
  · ipureintro; rfl

theorem other_rest {sp : Space} {s : Shape} {e : EltTy} {m : Memref sig .tc sp s e} (r r' : Rect s) (hr : ∀ a, r.stride a = 1)
    (h : ∀ y, y ∈ r.set ↔ y ∉ r'.set) {X : r.shape.Idx → Elt F e} :
    owns (c : Thread nD τ) (m.slice r hr) fullShare X ⊢ (iprop(∃ Y, rest c m r' Y) : sProp 𝕄) := by
  unfold owns rest
  rw [rest_set m r r' h]
  iintro ⟨%f, %hf, H⟩
  iexists (m.view.read (Elt F) f)
  iexists f
  isplitr
  swap
  · iexact H
  · ipureintro; rfl

theorem rest_load {cs : CoreSpace} {s : Shape} {e : EltTy} {m : Memref sig .tc cs s e} (r : Rect s) {r' : Rect s}
    (hd : ∀ y, y ∈ r'.set → y ∉ r.set) {hl : m.view.LoadsAt r'.toLoadRect}
    {k : (r'.toLoadRect.shape.Idx → Elt F e) → PR F α} {X : s.Idx → Elt F e} :
    (rest c m r X : sProp 𝕄)
      ⊢ iprop((rest c m r X -∗ WP c (k (fun y => X (r'.emb y))) Q) -∗ WP c (Prog.lift (.load m r'.toLoadRect hl) >>= k) Q) := by
  unfold rest
  iintro ⟨%f, %hf, H⟩ Hk
  subst hf
  iapply (wp_load (defs := defs₀ (F := F)) Variants.none (c : Thread nD τ) none Set.univ (m := m) (r := r'.toLoadRect) (hl := hl)
    (S := m.view.set \ (m.view.slice r).set) (by
      intro z hz
      obtain ⟨y, hy, rfl⟩ := Finset.mem_map.mp hz
      rw [View.set_slice, Finset.mem_sdiff]
      refine ⟨View.emb_mem_set (v := m.view) y, fun hn => ?_⟩
      obtain ⟨y', hy', he⟩ := Finset.mem_map.mp hn
      exact hd y hy (m.view.emb.injective he ▸ hy'))) $$ H
  iintro H
  iapply Hk
  iexists f
  isplitr
  · ipureintro; rfl
  · iexact H

theorem rest_store {cs : CoreSpace} {s : Shape} {e : EltTy} {m : Memref sig .tc cs s e} (r : Rect s) {r' : Rect s}
    (hd : ∀ y, y ∈ r'.set → y ∉ r.set) {w : r'.shape.Idx → Elt F e}
    {hx : (m.access r').Stores Finset.univ} {hm : Finset.univ = Finset.univ ∨ ∀ a, r'.stride a = 1}
    {k : PUnit → PR F α} {X : s.Idx → Elt F e} :
    (rest c m r X : sProp 𝕄)
      ⊢ iprop((∀ Y : s.Idx → Elt F e, ⌜(∀ x, Y (r'.emb x) = w x) ∧ ∀ y, y ∉ r'.set → Y y = X y⌝
          -∗ rest c m r Y -∗ WP c (k ⟨⟩) Q) -∗ WP c (Prog.lift (.store m r' w Finset.univ hx hm) >>= k) Q) := by
  unfold rest
  iintro ⟨%f, %hf, H⟩ Hk
  subst hf
  iapply (wp_store (defs := defs₀ (F := F)) Variants.none (c : Thread nD τ) none Set.univ (m := m) (r := r') (w := w) (Mk := Finset.univ) (hx := hx) (hm := hm)
    (S := m.view.set \ (m.view.slice r).set) (by
      intro z hz
      obtain ⟨x, -, rfl⟩ := Finset.mem_map.mp hz
      rw [View.set_slice, Finset.mem_sdiff]
      refine ⟨View.emb_mem_set (v := m.view) (r'.emb x), fun hn => ?_⟩
      obtain ⟨y', hy', he⟩ := Finset.mem_map.mp hn
      have he' : y' = r'.emb x := m.view.emb.injective he
      refine hd (r'.emb x) ?_ (he' ▸ hy')
      rw [← Rect.map_emb_univ]; exact Finset.mem_map_of_mem _ (Finset.mem_univ _))) $$ H
  iintro H
  iapply Hk $$ %(m.view.read (Elt F) ((m.access r').write (Elt F) f w Finset.univ))
  · ipureintro
    refine ⟨fun x => View.read_slice_write_emb (v := m.view) r' f w (Finset.mem_univ x), fun y hy => ?_⟩
    refine View.read_slice_write_of_not_mem (v := m.view) r' f w Finset.univ ?_
    rw [Rect.map_emb_univ]; exact hy
  · iexists _
    isplitr
    swap
    · iexact H
    · ipureintro; rfl

end Cert.KernelIdeal.PeerU

end

end
-- ==== Proof.PeerU.Start.lean ====
/- The start of a grid point: the first point brings the table in and sends for its own index row, every
   point waits for its row and sends for the next point's. -/
module

public import proofs.«01_k».proof.Proof.PeerU.Transfer
public import Idealize.ShloMosaic.Lib.WordCmp

@[expose] public section

noncomputable section

namespace Cert.KernelIdeal.PeerU

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

variable (c : Dev nD) {α : Type}
variable {Q : α → sProp (MT nD τ sig Unit (Elt F) ℕ (Pipeline.UD sig nD τ) ℕ)}

/-- What the table's buffer holds: the table, eight rows of zeros before it and eight after it. -/
def tabOf (Wd : S65536x128.Idx → BitVec 32) : S65552x128.Idx → BitVec 32 :=
  fun y => if h : 8 ≤ (y 0).val ∧ (y 0).val < 65544 then Wd (ix2 ⟨(y 0).val - 8, by omega⟩ (y 1)) else 0#32

theorem inbRow (r : ℕ) (hr : r < 256) : ∀ a, (![r, 0] : Fin 2 → Nat) a + S1x16384.size a ≤ S256x16384.size a := by
  intro a; fin_cases a
  · show r + 1 ≤ 256; omega
  · show 0 + 16384 ≤ 16384; omega

theorem inbSem (s : ℕ) (hs : s < 2) : ∀ a, (![s] : Fin 1 → Nat) a + S1.size a ≤ S2.size a := by
  intro a; fin_cases a; show s + 1 ≤ 2; omega

/-- Row `r` of the encoded indices. -/
abbrev rowM (arg1 : Memref sig .tc .hbm S256x16384 .i32) (r : ℕ) (hr : r < 256) : Memref sig .tc .hbm S16384 .i32 :=
  (arg1.slice (Rect.unit (s := S256x16384) ![r, 0] S1x16384.size (inbRow r hr)) (fun _ => rfl)).squeeze S16384 squeezes_S1x16384_S16384

/-- The cell of slot `s`. -/
abbrev cellM (arg13 : DmaSems sig S2) (s : ℕ) (hs : s < 2) : DmaSem sig :=
  ((arg13.slice (Rect.unit (s := S2) ![s] S1.size (inbSem s hs))).squeeze S_ squeezes_S1_S_).sem

theorem slotB {s : ℕ} (hs : s < 2) : 16384 * s + 16384 ≤ 32768 := by omega

/-- Slot `s` of the index buffer. -/
abbrev slotM (arg7 : Memref sig .tc .smem S32768 .i32) (s : ℕ) (hs : s < 2) : Memref sig .tc .smem S16384 .i32 :=
  half arg7 (16384 * s) (slotB hs)

section
variable (i : grid0.Coords) (arg1 : Memref sig .tc .hbm S256x16384 .i32) (arg2 : Memref sig .tc .hbm S65536x128 .i32) (harg2 : arg2.IsWhole)
  (arg6 : Memref sig .tc .vmem S65552x128 .i32) (arg7 : Memref sig .tc .smem S32768 .i32) (arg12 : DmaSems sig S_) (arg13 : DmaSems sig S2)
variable (fs : Buf (Elt F) (arg1.view.loc (c : Thread nD τ))) (Wd : S65536x128.Idx → BitVec 32)

/-- What row `r` of the encoded indices reads. -/
abbrev rowX (r : ℕ) (hr : r < 256) : S16384.Idx → BitVec 32 := (rowM arg1 r hr).view.read (Elt F) fs

theorem row_subset (r : ℕ) (hr : r < 256) : (rowM arg1 r hr).view.set ⊆ arg1.view.set := by
  exact (View.set_reshape (v := arg1.view.slice (Rect.unit (s := S256x16384) ![r, 0] S1x16384.size (inbRow r hr))) _).subset.trans
    (View.set_slice_subset (v := arg1.view) _)

/-- Row `r` on its way to slot `s`. -/
def flyRow (r : ℕ) (hr : r < 256) (s : ℕ) (hs : s < 2) : sProp 𝕄 :=
  iprop(Fly c (.dma (cellM arg13 s hs)) (slotM arg7 s hs).view.dmaCredit
      iprop(owns (c : Thread nD τ) (slotM arg7 s hs) fullShare (rowX (F := F) c arg1 fs r hr)
        ∗ ((rowM arg1 r hr).view.loc (c : Thread nD τ) ↦[(rowM arg1 r hr).view.set]{fullShare} fs))
    ∗ (arg1.view.loc (c : Thread nD τ) ↦[arg1.view.set \ (rowM arg1 r hr).view.set]{fullShare} fs))

/-- A row is sent for. -/
theorem send_row {off1 : Fin 2 → ℕ} {h1} {off7 : Fin 1 → ℕ} {h7} {offs : Fin 1 → ℕ} {hss} {p1 p2 p3} (r : ℕ) (hr : r < 256) (s : ℕ) (hs : s < 2)
    (ho1 : off1 = ![r, 0]) (ho7 : off7 = ![16384 * s]) (hos : offs = ![s]) {k : PUnit → PR F α} :
    iprop((arg1.view.loc (c : Thread nD τ) ↦[arg1.view.set]{fullShare} fs) ∗ (∃ Y, owns (c : Thread nD τ) (slotM arg7 s hs) fullShare Y)
        ∗ semVal ((c : Thread nD τ), .dma (cellM arg13 s hs)) 0)
      ⊢ iprop((flyRow c arg1 arg7 arg13 fs r hr s hs -∗ WP c (k ⟨⟩) Q)
          -∗ WP c (Prog.lift (.enqueueDma ((arg1.slice (Rect.unit (s := S256x16384) off1 S1x16384.size h1) (fun _ => rfl)).squeeze S16384 squeezes_S1x16384_S16384)
                (.here (arg7.slice (Rect.unit (s := S32768) off7 S16384.size h7) (fun _ => rfl)))
                (.dma ((arg13.slice (Rect.unit (s := S2) offs S1.size hss)).squeeze S_ squeezes_S1_S_).sem) p1 p2 p3) >>= k) Q) := by
  subst ho1 ho7 hos
  unfold flyRow
  iintro ⟨H1, ⟨%Y, HY⟩, Hs⟩ Hk
  icases (pointsTo_split_subset (row_subset arg1 r hr)).1 $$ H1 with ⟨H1, H2⟩
  iapply (send_own (sm := .dma (cellM arg13 s hs)) (src := rowM arg1 r hr) (dst := slotM arg7 s hs) c (by decide) _ rfl) $$ [H1 HY Hs]
  · isplitl [H1]; · iexact H1
    isplitl [HY]; · iexact HY
    iexact Hs
  iintro HF
  iapply Hk
  isplitl [HF]; · iexact HF
  iexact H2

/-- A row is waited for. -/
theorem wait_row {off1 : Fin 2 → ℕ} {h1} {off7 : Fin 1 → ℕ} {h7} {offs : Fin 1 → ℕ} {hss} {p1 p2} (r : ℕ) (hr : r < 256) (s : ℕ) (hs : s < 2)
    (ho7 : off7 = ![16384 * s]) (hos : offs = ![s]) {k : PUnit → PR F α} {W : Waits sig Unit} :
    iprop(flyRow c arg1 arg7 arg13 fs r hr s hs ∗ owes (c : Thread nD τ) 0 W)
      ⊢ iprop((iprop((arg1.view.loc (c : Thread nD τ) ↦[arg1.view.set]{fullShare} fs)
            ∗ owns (c : Thread nD τ) (slotM arg7 s hs) fullShare (rowX (F := F) c arg1 fs r hr)
            ∗ semVal ((c : Thread nD τ), .dma (cellM arg13 s hs)) 0 ∗ (∃ W', owes (c : Thread nD τ) 0 W')) -∗ WP c (k ⟨⟩) Q)
          -∗ WP c (Prog.lift (.waitDma2 ((arg13.slice (Rect.unit (s := S2) offs S1.size hss)).squeeze S_ squeezes_S1_S_).sem
                ((arg1.slice (Rect.unit (s := S256x16384) off1 S1x16384.size h1) (fun _ => rfl)).squeeze S16384 squeezes_S1x16384_S16384)
                (arg7.slice (Rect.unit (s := S32768) off7 S16384.size h7) (fun _ => rfl)) p1 p2) >>= k) Q) := by
  subst ho7 hos
  unfold flyRow
  iintro ⟨⟨HF, H2⟩, HW⟩ Hk
  iapply (wait_own (sem := cellM arg13 s hs) (dstw := slotM arg7 s hs) c _ rfl) $$ [HF HW]
  · isplitl [HF]; · iexact HF
    iexact HW
  iintro ⟨⟨HD, H1⟩, Hs, HW⟩
  iapply Hk
  isplitl [H1 H2]
  · iapply (pointsTo_split_subset (row_subset arg1 r hr)).2
    isplitl [H1]; · iexact H1
    iexact H2
  isplitl [HD]; · iexact HD
  isplitl [Hs]; · iexact Hs
  iexact HW

theorem slot_set : ∀ y : S32768.Idx, y ∈ (Rect.unit (s := S32768) ![16384 * 1] S16384.size (inbHalf _ (slotB (s := 1) (by decide)))).set
    ↔ y ∉ (Rect.unit (s := S32768) ![16384 * 0] S16384.size (inbHalf _ (slotB (s := 0) (by decide)))).set := by
  intro y
  rw [Rect.mem_set_unit, Rect.mem_set_unit]
  have h : (y 0).val < 32768 := (y 0).isLt
  constructor
  · intro h1 h2
    have a := (h1 0).1
    have b := (h2 0).2
    change 16384 * 1 ≤ (y 0).val at a
    change (y 0).val < 16384 * 0 + 16384 at b
    omega
  · intro h1 a
    obtain rfl : a = 0 := Subsingleton.elim _ _
    by_contra h2
    refine h1 fun a => ?_
    obtain rfl : a = 0 := Subsingleton.elim _ _
    change ¬ (16384 * 1 ≤ (y 0).val ∧ (y 0).val < 16384 * 1 + 16384) at h2
    show 16384 * 0 ≤ (y 0).val ∧ (y 0).val < 16384 * 0 + 16384
    omega

/-- The index buffer is its two slots. -/
theorem slots_take {Y : S32768.Idx → BitVec 32} :
    (owns (c : Thread nD τ) arg7 fullShare Y : sProp 𝕄)
      ⊢ iprop((∃ Y, owns (c : Thread nD τ) (slotM arg7 0 (by decide)) fullShare Y) ∗ (∃ Y, owns (c : Thread nD τ) (slotM arg7 1 (by decide)) fullShare Y)) := by
  iintro H
  icases (rest_take c (Rect.unit (s := S32768) ![16384 * 0] S16384.size (inbHalf _ (slotB (s := 0) (by decide)))) (fun _ => rfl)) $$ H with ⟨H0, H1⟩
  isplitl [H0]
  · iexists _; iexact H0
  · iexists _
    iapply (rest_other c (Rect.unit (s := S32768) ![16384 * 1] S16384.size (inbHalf _ (slotB (s := 1) (by decide)))) _ (fun _ => rfl) slot_set)
    iexact H1

theorem slots_give {Y Y' : S16384.Idx → BitVec 32} :
    iprop(owns (c : Thread nD τ) (slotM arg7 0 (by decide)) fullShare Y ∗ owns (c : Thread nD τ) (slotM arg7 1 (by decide)) fullShare Y')
      ⊢ (iprop(∃ Y, owns (c : Thread nD τ) arg7 fullShare Y) : sProp 𝕄) := by
  iintro ⟨H0, H1⟩
  icases (other_rest c (Rect.unit (s := S32768) ![16384 * 1] S16384.size (inbHalf _ (slotB (s := 1) (by decide)))) _ (fun _ => rfl) slot_set) $$ H1 with ⟨%Z, H1⟩
  icases (rest_give c (Rect.unit (s := S32768) ![16384 * 0] S16384.size (inbHalf _ (slotB (s := 0) (by decide)))) (fun _ => rfl)) $$ [H0 H1] with ⟨%Z', -, H⟩
  · isplitl [H0]; · iexact H0
    iexact H1
  iexists _
  iexact H

theorem tab_dis (n : ℕ) (hn : n + 8 ≤ 8 ∨ n = 65544) (hb) : ∀ y : S65552x128.Idx, y ∈ (Rect.unit (s := S65552x128) ![n, 0] S8x128.size hb).set
    → y ∉ (Rect.unit (s := S65552x128) ![8, 0] S65536x128.size inb_S65552x128_S65536x128_8_0).set := by
  intro y h1 h2
  rw [Rect.mem_set_unit] at h1 h2
  have a := (h1 0).1
  have a' := (h1 0).2
  have b := (h2 0).1
  have b' := (h2 0).2
  change n ≤ (y 0).val at a
  change (y 0).val < n + 8 at a'
  change 8 ≤ (y 0).val at b
  change (y 0).val < 8 + 65536 at b'
  omega

theorem pads_mem (n : ℕ) (hb) (y : S65552x128.Idx) (h : n ≤ (y 0).val) (h' : (y 0).val < n + 8) :
    ∃ x, (Rect.unit (s := S65552x128) ![n, 0] S8x128.size hb).emb x = y := by
  refine ⟨ix2 ⟨(y 0).val - n, by omega⟩ (y 1), ?_⟩
  funext a
  apply Fin.ext
  rw [Rect.emb_apply]
  fin_cases a
  · show n + 1 * ((y 0).val - n) = (y 0).val
    omega
  · show 0 + 1 * (y 1).val = (y 1).val
    omega

theorem tab_final (Z Z1 Z2 Z3 : S65552x128.Idx → BitVec 32)
    (h1 : (∀ x, Z1 ((Rect.unit (s := S65552x128) ![0, 0] S8x128.size inb_S65552x128_S8x128_0_0).emb x) = (0#32 : BitVec 32))
      ∧ ∀ y, y ∉ (Rect.unit (s := S65552x128) ![0, 0] S8x128.size inb_S65552x128_S8x128_0_0).set → Z1 y = Z y)
    (h2 : (∀ x, Z2 ((Rect.unit (s := S65552x128) ![65544, 0] S8x128.size inb_S65552x128_S8x128_65544_0).emb x) = (0#32 : BitVec 32))
      ∧ ∀ y, y ∉ (Rect.unit (s := S65552x128) ![65544, 0] S8x128.size inb_S65552x128_S8x128_65544_0).set → Z2 y = Z1 y)
    (h3 : (∀ x, Z3 ((Rect.unit (s := S65552x128) ![8, 0] S65536x128.size inb_S65552x128_S65536x128_8_0).emb x) = Wd x)
      ∧ ∀ y, y ∉ (Rect.unit (s := S65552x128) ![8, 0] S65536x128.size inb_S65552x128_S65536x128_8_0).set → Z3 y = Z2 y) :
    Z3 = tabOf Wd := by
  funext y
  have hy : (y 0).val < 65552 := (y 0).isLt
  unfold tabOf
  split
  · rename_i h
    have e : (Rect.unit (s := S65552x128) ![8, 0] S65536x128.size inb_S65552x128_S65536x128_8_0).emb (ix2 ⟨(y 0).val - 8, by omega⟩ (y 1)) = y := by
      funext a
      apply Fin.ext
      rw [Rect.emb_apply]
      fin_cases a
      · show 8 + 1 * ((y 0).val - 8) = (y 0).val
        omega
      · show 0 + 1 * (y 1).val = (y 1).val
        omega
    have := h3.1 (ix2 ⟨(y 0).val - 8, by omega⟩ (y 1))
    rwa [e] at this
  · rename_i h
    have hn : y ∉ (Rect.unit (s := S65552x128) ![8, 0] S65536x128.size inb_S65552x128_S65536x128_8_0).set := by
      rw [Rect.mem_set_unit]
      intro hh
      have b := (hh 0).1
      have b' := (hh 0).2
      change 8 ≤ (y 0).val at b
      change (y 0).val < 8 + 65536 at b'
      omega
    rw [h3.2 y hn]
    by_cases hlo : (y 0).val < 8
    · have hn' : y ∉ (Rect.unit (s := S65552x128) ![65544, 0] S8x128.size inb_S65552x128_S8x128_65544_0).set := by
        rw [Rect.mem_set_unit]
        intro hh
        have b := (hh 0).1
        change 65544 ≤ (y 0).val at b
        omega
      rw [h2.2 y hn']
      obtain ⟨x, hx⟩ := pads_mem 0 inb_S65552x128_S8x128_0_0 y (by omega) (by omega)
      have := h1.1 x
      rwa [hx] at this
    · obtain ⟨x, hx⟩ := pads_mem 65544 inb_S65552x128_S8x128_65544_0 y (by omega) (by omega)
      have := h2.1 x
      rwa [hx] at this

variable (f2 : Buf (Elt F) (arg2.view.loc (c : Thread nD τ)))

/-- What a point finds at its start before it waits: its row on the way, the other slot free, the table in place. -/
def pend (r : ℕ) (hr : r < 256) (s : ℕ) (hs : s < 2) (s' : ℕ) (hs' : s' < 2) : sProp 𝕄 :=
  iprop(flyRow c arg1 arg7 arg13 fs r hr s hs ∗ (∃ Y, owns (c : Thread nD τ) (slotM arg7 s' hs') fullShare Y)
    ∗ semVal ((c : Thread nD τ), .dma (cellM arg13 s' hs')) 0 ∗ owns (c : Thread nD τ) arg6 fullShare (tabOf (arg2.view.read (Elt F) f2))
    ∗ (arg2.view.loc (c : Thread nD τ) ↦[arg2.view.set]{fullShare} f2) ∗ semVal ((c : Thread nD τ), .dma arg12.sem) 0)

/-- Nothing on its way: the buffers at anything, every cell at zero. -/
def idle : sProp 𝕄 :=
  iprop((∃ Y, owns (c : Thread nD τ) arg7 fullShare Y) ∗ (∃ Y, owns (c : Thread nD τ) arg6 fullShare Y)
    ∗ (arg1.view.loc (c : Thread nD τ) ↦[arg1.view.set]{fullShare} fs) ∗ (arg2.view.loc (c : Thread nD τ) ↦[arg2.view.set]{fullShare} f2)
    ∗ semVal ((c : Thread nD τ), .dma arg12.sem) 0 ∗ semVal ((c : Thread nD τ), .dma (cellM arg13 0 (by decide))) 0
    ∗ semVal ((c : Thread nD τ), .dma (cellM arg13 1 (by decide))) 0)

theorem slotM_congr {s s' : ℕ} (h : s = s') (hs : s < 2) (hs' : s' < 2) : slotM arg7 s hs = slotM arg7 s' hs' := by subst h; rfl

theorem pend_congr {r s s' t t' : ℕ} (h : s = t) (h' : s' = t') {hr hs hs'} (ht : t < 2) (ht' : t' < 2) :
    pend (F := F) c arg1 arg2 arg6 arg7 arg12 arg13 fs f2 r hr s hs s' hs' = pend c arg1 arg2 arg6 arg7 arg12 arg13 fs f2 r hr t ht t' ht' := by
  subst h h'; rfl

end

/-- The first grid point is the one whose coordinate is zero. -/
theorem first_iff (n : ℕ) (hn : n < 256) :
    (Scalar.cmpi .ne (Scalar.extui (Scalar.cmpi .eq (BitVec.ofNat 32 n) 0#32)) 0#32 : BitVec 1) = 1#1 ↔ n = 0 := by
  have h : ∀ n : Fin 256, (Scalar.cmpi .ne (Scalar.extui (Scalar.cmpi .eq (BitVec.ofNat 32 n.val) 0#32)) 0#32 : BitVec 1) = 1#1 ↔ n.val = 0 := by
    decide
  exact h ⟨n, hn⟩

/-- A row is sent for at every point but the last. -/
theorem more_iff (i : grid0.Coords) : k0_cond2 i = 1#1 ↔ (i 0).val + 1 < 256 := by
  have h : ∀ n : Fin 256, (Scalar.cmpi .ne (Scalar.extui (Scalar.cmpi .slt (Scalar.addi (BitVec.ofNat 32 n.val) 1#32) 256#32)) 0#32 : BitVec 1) = 1#1 ↔ n.val + 1 < 256 := by
    decide
  exact h (i 0)

end Cert.KernelIdeal.PeerU

end

end
-- ==== Proof.PeerU.StartRun.lean ====
/- The start of a grid point, run: from nothing on its way at the first point, or from the point's own row
   on its way at a later one, to the row in its slot and the next point's row on its way. -/
module

public import proofs.«01_k».proof.Proof.PeerU.Start

@[expose] public section

noncomputable section

namespace Cert.KernelIdeal.PeerU

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

variable (c : Dev nD) {α : Type}
variable {Q : α → sProp (MT nD τ sig Unit (Elt F) ℕ (Pipeline.UD sig nD τ) ℕ)}
variable (i : grid0.Coords) (arg1 : Memref sig .tc .hbm S256x16384 .i32) (arg2 : Memref sig .tc .hbm S65536x128 .i32) (harg2 : arg2.IsWhole)
  (arg6 : Memref sig .tc .vmem S65552x128 .i32) (arg7 : Memref sig .tc .smem S32768 .i32) (arg12 : DmaSems sig S_) (arg13 : DmaSems sig S2)
variable (fs : Buf (Elt F) (arg1.view.loc (c : Thread nD τ))) (f2 : Buf (Elt F) (arg2.view.loc (c : Thread nD τ)))

/-- What the first point does beside the rest: it sends for its own row and brings the table in. -/
theorem first_own {p1 p2 p3 p4 p5 p6 p7 p8 p9 p10 p11 p12 p13 p14} {k : PUnit → PR F α} {W : Waits sig Unit} :
    iprop(idle c arg1 arg2 arg6 arg7 arg12 arg13 fs f2 ∗ owes (c : Thread nD τ) 0 W
        ∗ (iprop(pend c arg1 arg2 arg6 arg7 arg12 arg13 fs f2 0 (by decide) 0 (by decide) 1 (by decide) ∗ (∃ W', owes (c : Thread nD τ) 0 W')) -∗ WP c (k ⟨⟩) Q))
      ⊢ WP c (Prog.lift (.enqueueDma ((arg1.slice (Rect.unit (s := S256x16384) ![0, 0] S1x16384.size inb_S256x16384_S1x16384_0_0) (fun _ => rfl)).squeeze S16384 squeezes_S1x16384_S16384)
      (.here (arg7.slice (Rect.unit (s := S32768) ![0] S16384.size inb_S32768_S16384_0) (fun _ => rfl)))
      (.dma ((arg13.slice (Rect.unit (s := S2) ![0] S1.size inb_S2_S1_0)).squeeze S_ squeezes_S1_S_).sem) p1 p2 p3) >>= fun _ =>
    Prog.lift (.enqueueDma arg2 (.here (arg6.slice (Rect.unit (s := S65552x128) ![8, 0] S65536x128.size inb_S65552x128_S65536x128_8_0) (fun _ => rfl)))
      (.dma arg12.sem) p4 p5 p6) >>= fun _ =>
    (Prog.lift (.load arg6 (Rect.unit (s := S65552x128) ![0, 0] S8x128.size inb_S65552x128_S8x128_0_0).toLoadRect p7) : PR F (Vec F S8x128 .i32)) >>= fun _ =>
    Prog.lift (.store arg6 (Rect.unit (s := S65552x128) ![0, 0] S8x128.size inb_S65552x128_S8x128_0_0) k0_pay280 Finset.univ p8 p9) >>= fun _ =>
    (Prog.lift (.load arg6 (Rect.unit (s := S65552x128) ![65544, 0] S8x128.size inb_S65552x128_S8x128_65544_0).toLoadRect p10) : PR F (Vec F S8x128 .i32)) >>= fun _ =>
    Prog.lift (.store arg6 (Rect.unit (s := S65552x128) ![65544, 0] S8x128.size inb_S65552x128_S8x128_65544_0) k0_pay281 Finset.univ p11 p12) >>= fun _ =>
    Prog.lift (.waitDma2 arg12.sem arg2 (arg6.slice (Rect.unit (s := S65552x128) ![8, 0] S65536x128.size inb_S65552x128_S65536x128_8_0) (fun _ => rfl)) p13 p14) >>= k) Q := by
  unfold idle pend
  iintro ⟨⟨⟨%Y7, H7⟩, ⟨%Z, H6⟩, H1, H2, Hq, Hs0, Hs1⟩, HW, Hk⟩
  icases (slots_take c arg7) $$ H7 with ⟨H70, H71⟩
  iapply (send_row c arg1 arg7 arg13 fs 0 (by decide) 0 (by decide) rfl rfl rfl) $$ [H1 H70 Hs0]
  · isplitl [H1]; · iexact H1
    isplitl [H70]; · iexact H70
    iexact Hs0
  iintro Hfly
  icases (rest_take c (Rect.unit (s := S65552x128) ![8, 0] S65536x128.size inb_S65552x128_S65536x128_8_0) (fun _ => rfl)) $$ H6 with ⟨H6, H6r⟩
  iapply (send_own (fs := f2) (Y := fun x => Z ((Rect.unit (s := S65552x128) ![8, 0] S65536x128.size inb_S65552x128_S65536x128_8_0).emb x)) c (by decide) _ rfl) $$ [H2 H6 Hq]
  · isplitl [H2]; · iexact H2
    isplitl [H6]; · iexact H6
    iexact Hq
  iintro Htab
  iapply (rest_load c _ (tab_dis 0 (Or.inl (by decide)) _)) $$ H6r
  iintro H6r
  iapply (rest_store c _ (tab_dis 0 (Or.inl (by decide)) _)) $$ H6r
  iintro %Z1 %hZ1 H6r
  iapply (rest_load c _ (tab_dis 65544 (Or.inr rfl) _)) $$ H6r
  iintro H6r
  iapply (rest_store c _ (tab_dis 65544 (Or.inr rfl) _)) $$ H6r
  iintro %Z2 %hZ2 H6r
  iapply (wait_own c _ rfl) $$ [Htab HW]
  · isplitl [Htab]; · iexact Htab
    iexact HW
  iintro ⟨⟨H6, H2⟩, Hq, HW⟩
  icases (rest_give c (Rect.unit (s := S65552x128) ![8, 0] S65536x128.size inb_S65552x128_S65536x128_8_0) (fun _ => rfl)) $$ [H6 H6r] with ⟨%Z3, %hZ3, H6⟩
  · isplitl [H6]; · iexact H6
    iexact H6r
  have hZ : Z3 = tabOf (arg2.view.read (Elt F) f2) := tab_final _ Z Z1 Z2 Z3 hZ1 hZ2 hZ3
  subst hZ
  iapply Hk
  isplitr [HW]
  · isplitl [Hfly]; · iexact Hfly
    isplitl [H71]; · iexact H71
    isplitl [Hs1]; · iexact Hs1
    isplitl [H6]; · iexact H6
    isplitl [H2]; · iexact H2
    iexact Hq
  · iexact HW

/-- What a point holds of the transfers once its row is in: the next point's row on its way, or nothing after the last. -/
def next (r : ℕ) (s : ℕ) (hs : s < 2) (s' : ℕ) (hs' : s' < 2) : sProp 𝕄 :=
  iprop((if h : r + 1 < 256 then flyRow c arg1 arg7 arg13 fs (r + 1) h s' hs'
      else iprop((arg1.view.loc (c : Thread nD τ) ↦[arg1.view.set]{fullShare} fs)
        ∗ (∃ Y, owns (c : Thread nD τ) (slotM arg7 s' hs') fullShare Y) ∗ semVal ((c : Thread nD τ), .dma (cellM arg13 s' hs')) 0))
    ∗ semVal ((c : Thread nD τ), .dma (cellM arg13 s hs)) 0 ∗ (arg2.view.loc (c : Thread nD τ) ↦[arg2.view.set]{fullShare} f2) ∗ semVal ((c : Thread nD τ), .dma arg12.sem) 0)

theorem mod2 (n : ℕ) : n % 2 < 2 := Nat.mod_lt _ (by decide)

/-- From the point's row on its way: it is waited for, and the next one sent for. -/
theorem later_own {p1 p2} {k : PUnit → PR F α} {W : Waits sig Unit} :
    iprop(pend c arg1 arg2 arg6 arg7 arg12 arg13 fs f2 (i 0).val (i 0).isLt ((i 0).val % 2) (mod2 _) (((i 0).val + 1) % 2) (mod2 _) ∗ owes (c : Thread nD τ) 0 W
        ∗ (iprop(owns (c : Thread nD τ) (slotM arg7 ((i 0).val % 2) (mod2 _)) fullShare (rowX (F := F) c arg1 fs (i 0).val (i 0).isLt)
            ∗ owns (c : Thread nD τ) arg6 fullShare (tabOf (arg2.view.read (Elt F) f2))
            ∗ next c arg1 arg2 arg7 arg12 arg13 fs f2 (i 0).val ((i 0).val % 2) (mod2 _) (((i 0).val + 1) % 2) (mod2 _) ∗ (∃ W', owes (c : Thread nD τ) 0 W')) -∗ WP c (k ⟨⟩) Q))
      ⊢ WP c (Prog.lift (.waitDma2 ((arg13.slice (Rect.unit (s := S2) (k0_off1 i) S1.size (k0_off1_inb i))).squeeze S_ squeezes_S1_S_).sem
    ((arg1.slice (Rect.unit (s := S256x16384) (k0_off3 i) S1x16384.size (k0_off3_inb i)) (fun _ => rfl)).squeeze S16384 squeezes_S1x16384_S16384)
    (arg7.slice (Rect.unit (s := S32768) (k0_off2 i) S16384.size (k0_off2_inb i)) (fun _ => rfl)) p1 p2) >>= fun _ =>
   (if k0_h2 : k0_cond2 i = 1#1 then
    Prog.lift (.enqueueDma ((arg1.slice (Rect.unit (s := S256x16384) (k0_off6 i) S1x16384.size (k0_off6_inb i k0_h2)) (fun _ => rfl)).squeeze S16384 squeezes_S1x16384_S16384)
      (.here (arg7.slice (Rect.unit (s := S32768) (k0_off5 i) S16384.size (k0_off5_inb i k0_h2)) (fun _ => rfl)))
      (.dma ((arg13.slice (Rect.unit (s := S2) (k0_off4 i) S1.size (k0_off4_inb i k0_h2))).squeeze S_ squeezes_S1_S_).sem) ((View.wordExact_bits rfl).reshape _ _) (View.wordExact_bits rfl) ⟨Or.inl rfl, trivial⟩) >>= k
    else k ⟨⟩)) Q := by
  unfold pend next
  have hi : (i 0).val < 256 := (i 0).isLt
  iintro ⟨⟨Hfly, H7, Hs', H6, H2, Hq⟩, HW, Hk⟩
  iapply (wait_row c arg1 arg7 arg13 fs (i 0).val (i 0).isLt ((i 0).val % 2) (mod2 _) (k0_off2_eq i) (k0_off1_eq i)) $$ [Hfly HW]
  · isplitl [Hfly]; · iexact Hfly
    iexact HW
  iintro ⟨H1, HR, Hs, HW⟩
  by_cases h : (i 0).val + 1 < 256
  · rw [dif_pos ((more_iff i).2 h), dif_pos h]
    iapply (send_row c arg1 arg7 arg13 fs ((i 0).val + 1) h (((i 0).val + 1) % 2) (mod2 _) (k0_off6_eq i)
      ((k0_off5_eq i).trans (by congr 1; omega)) ((k0_off4_eq i).trans (by congr 1; omega))) $$ [H1 H7 Hs']
    · isplitl [H1]; · iexact H1
      isplitl [H7]; · iexact H7
      iexact Hs'
    iintro Hfly
    iapply Hk
    isplitl [HR]; · iexact HR
    isplitl [H6]; · iexact H6
    isplitr [HW]
    · isplitl [Hfly]; · iexact Hfly
      isplitl [Hs]; · iexact Hs
      isplitl [H2]; · iexact H2
      iexact Hq
    · iexact HW
  · rw [dif_neg (fun hh => h ((more_iff i).1 hh)), dif_neg h]
    iapply Hk
    isplitl [HR]; · iexact HR
    isplitl [H6]; · iexact H6
    isplitr [HW]
    · isplitl [H1 H7 Hs']
      · isplitl [H1]; · iexact H1
        isplitl [H7]; · iexact H7
        iexact Hs'
      isplitl [Hs]; · iexact Hs
      isplitl [H2]; · iexact H2
      iexact Hq
    · iexact HW

/-- What the transfers are at the start of point `t`, and after the last. -/
def flights (t : ℕ) : sProp 𝕄 :=
  if t = 0 then idle c arg1 arg2 arg6 arg7 arg12 arg13 fs f2
  else if h : t < 256 then pend c arg1 arg2 arg6 arg7 arg12 arg13 fs f2 t h (t % 2) (mod2 _) ((t + 1) % 2) (mod2 _)
  else idle c arg1 arg2 arg6 arg7 arg12 arg13 fs f2

theorem pend_zero {hr0 : 0 < 256} {h0 : 0 < 2} {h1 : 1 < 2} (r : ℕ) (hr : r < 256) (s : ℕ) (hs : s < 2) (s' : ℕ) (hs' : s' < 2) (e : r = 0) (e1 : s = 0) (e2 : s' = 1) :
    pend (F := F) c arg1 arg2 arg6 arg7 arg12 arg13 fs f2 0 hr0 0 h0 1 h1 = pend c arg1 arg2 arg6 arg7 arg12 arg13 fs f2 r hr s hs s' hs' := by
  subst e e1 e2; rfl

/-- The start of a point, run. -/
theorem start_own {k : PUnit → PR F α} {W : Waits sig Unit} :
    iprop(flights c arg1 arg2 arg6 arg7 arg12 arg13 fs f2 (i 0).val ∗ owes (c : Thread nD τ) 0 W
        ∗ (iprop(owns (c : Thread nD τ) (slotM arg7 ((i 0).val % 2) (mod2 _)) fullShare (rowX (F := F) c arg1 fs (i 0).val (i 0).isLt)
            ∗ owns (c : Thread nD τ) arg6 fullShare (tabOf (arg2.view.read (Elt F) f2))
            ∗ next c arg1 arg2 arg7 arg12 arg13 fs f2 (i 0).val ((i 0).val % 2) (mod2 _) (((i 0).val + 1) % 2) (mod2 _) ∗ (∃ W', owes (c : Thread nD τ) 0 W')) -∗ WP c (k ⟨⟩) Q))
      ⊢ WP c (start (F := F) i arg1 arg2 harg2 arg6 arg7 arg12 arg13 >>= k) Q := by
  have hi : (i 0).val < 256 := (i 0).isLt
  have hl : ∀ W', _ := fun W' => later_own (F := F) (Q := Q) c i arg1 arg2 arg6 arg7 arg12 arg13 fs f2 (k := k) (W := W')
    (p1 := (View.wordExact_bits rfl).reshape _ _) (p2 := View.wordExact_bits rfl)
  unfold start flights
  by_cases h0 : (i 0).val = 0
  · rw [if_pos h0, dif_pos ((first_iff _ hi).2 h0)]
    by_cases h2 : k0_cond2 i = 1#1
    · simp only [dif_pos h2, bind_assoc, pure_bind] at hl ⊢
      iintro ⟨Hi, HW, Hk⟩
      iapply (first_own c arg1 arg2 arg6 arg7 arg12 arg13 fs f2)
      isplitl [Hi]; · iexact Hi
      isplitl [HW]; · iexact HW
      iintro ⟨Hp, ⟨%W', HW⟩⟩
      iapply (hl W')
      isplitl [Hp]
      · iapply (Entails.of_eq (pend_zero c arg1 arg2 arg6 arg7 arg12 arg13 fs f2 _ _ _ (mod2 _) _ (mod2 _) h0 (by omega) (by omega)))
        iexact Hp
      isplitl [HW]; · iexact HW
      iexact Hk
    · exact absurd ((more_iff i).2 (by omega)) h2
  · rw [if_neg h0, dif_neg (fun hh => h0 ((first_iff _ hi).1 hh)), dif_pos hi]
    by_cases h2 : k0_cond2 i = 1#1
    · simp only [dif_pos h2, bind_assoc, pure_bind] at hl ⊢
      exact hl W
    · simp only [dif_neg h2, bind_assoc, pure_bind] at hl ⊢
      exact hl W

/-- After the last point nothing is on its way. -/
theorem last_idle {R : S16384.Idx → BitVec 32} (s : ℕ) (hs : s < 2) (s' : ℕ) (hs' : s' < 2) (h : s = 1) (h' : s' = 0) :
    iprop(owns (c : Thread nD τ) (slotM arg7 s hs) fullShare R ∗ owns (c : Thread nD τ) arg6 fullShare (tabOf (arg2.view.read (Elt F) f2))
        ∗ iprop((arg1.view.loc (c : Thread nD τ) ↦[arg1.view.set]{fullShare} fs)
        ∗ (∃ Y, owns (c : Thread nD τ) (slotM arg7 s' hs') fullShare Y) ∗ semVal ((c : Thread nD τ), .dma (cellM arg13 s' hs')) 0)
    ∗ semVal ((c : Thread nD τ), .dma (cellM arg13 s hs)) 0 ∗ (arg2.view.loc (c : Thread nD τ) ↦[arg2.view.set]{fullShare} f2) ∗ semVal ((c : Thread nD τ), .dma arg12.sem) 0)
      ⊢ (idle c arg1 arg2 arg6 arg7 arg12 arg13 fs f2 : sProp 𝕄) := by
  subst h h'
  unfold idle
  iintro ⟨HR, H6, ⟨H1, ⟨%Y, H7⟩, Hs'⟩, Hs, H2, Hq⟩
  isplitl [HR H7]
  · iapply (slots_give c arg7)
    isplitl [H7]; · iexact H7
    iexact HR
  isplitl [H6]; · iexists _; iexact H6
  isplitl [H1]; · iexact H1
  isplitl [H2]; · iexact H2
  isplitl [Hq]; · iexact Hq
  isplitl [Hs']; · iexact Hs'
  iexact Hs

/-- What is held at a point's end is what the next one starts from. -/
theorem flights_succ {R : S16384.Idx → BitVec 32} :
    iprop(owns (c : Thread nD τ) (slotM arg7 ((i 0).val % 2) (mod2 _)) fullShare R ∗ owns (c : Thread nD τ) arg6 fullShare (tabOf (arg2.view.read (Elt F) f2))
        ∗ next c arg1 arg2 arg7 arg12 arg13 fs f2 (i 0).val ((i 0).val % 2) (mod2 _) (((i 0).val + 1) % 2) (mod2 _))
      ⊢ (flights c arg1 arg2 arg6 arg7 arg12 arg13 fs f2 ((i 0).val + 1) : sProp 𝕄) := by
  have hi : (i 0).val < 256 := (i 0).isLt
  unfold flights next
  rw [if_neg (by omega)]
  by_cases h : (i 0).val + 1 < 256
  · rw [dif_pos h, dif_pos h, pend_congr c arg1 arg2 arg6 arg7 arg12 arg13 fs f2 rfl (show ((i 0).val + 1 + 1) % 2 = (i 0).val % 2 by omega) (mod2 _) (mod2 _)]
    unfold pend
    iintro ⟨HR, H6, Hfly, Hs, H2, Hq⟩
    isplitl [Hfly]; · iexact Hfly
    isplitl [HR]; · iexists _; iexact HR
    isplitl [Hs]; · iexact Hs
    isplitl [H6]; · iexact H6
    isplitl [H2]; · iexact H2
    iexact Hq
  · rw [dif_neg h, dif_neg h]
    exact last_idle c arg1 arg2 arg6 arg7 arg12 arg13 fs f2 _ (mod2 _) _ (mod2 _) (by omega) (by omega)

end Cert.KernelIdeal.PeerU

end

end
-- ==== Proof.PeerU.Ring.lean ====
/- The products of one token over its gathered rows, their reduction into the token's lane, the loop over the
   tokens, and the end of a grid point. -/
module

public import proofs.«01_k».proof.Proof.PeerU.Gather
public import Idealize.ShloMosaic.Lib.Scf

@[expose] public section

noncomputable section

namespace Cert.KernelIdeal.PeerU

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

variable (c : Dev nD) {α : Type}
variable {Q : α → sProp (MT nD τ sig Unit (Elt F) ℕ (Pipeline.UD sig nD τ) ℕ)}

/-! ## What the pieces compute -/

/-- The products of one group of eight experts: `h` is the token's eight rows, `D` the gathered stage. -/
def grpVal (h : Vec F S1x8x128 .f32) (D : S512x128.Idx → BitVec 32) (j : Fin 16) : FVec F S1x8x128 .f32 :=
  k0_pay132 (k0_pay77 h) (k0_pay78 h) (k0_pay79 h) (k0_pay80 h) (k0_pay81 h) (k0_pay82 h) (k0_pay83 h) (k0_pay84 h)
    (fun y => D ((⟨![32 * j.val + 0, 0], S8x128.size, ![4, 1], inbStride j 0⟩ : LoadRect S512x128).idx y))
    (fun y => D ((⟨![32 * j.val + 1, 0], S8x128.size, ![4, 1], inbStride j 1⟩ : LoadRect S512x128).idx y))
    (fun y => D ((⟨![32 * j.val + 2, 0], S8x128.size, ![4, 1], inbStride j 2⟩ : LoadRect S512x128).idx y))
    (fun y => D ((⟨![32 * j.val + 3, 0], S8x128.size, ![4, 1], inbStride j 3⟩ : LoadRect S512x128).idx y))

/-- The products of one token: expert `e`, lane `l`. -/
def prodOf (h : Vec F S1x8x128 .f32) (D : S512x128.Idx → BitVec 32) (e l : Fin 128) : F .f32 :=
  grpVal h D ⟨e.val / 8, by omega⟩ (ix3 0 ⟨e.val % 8, by omega⟩ l)

/-- Token `t`'s eight rows. -/
def hRow (X : S128x8x128.Idx → F .f32) (t : ℕ) : Vec F S1x8x128 .f32 :=
  fun z => if h : t < 128 then X (ix3 ⟨t, h⟩ (z 1) (z 2)) else X (ix3 0 (z 1) (z 2))

/-- Token `t`'s products from its rows, the table and the index row. -/
def prodTok (X : S128x8x128.Idx → F .f32) (T : S65552x128.Idx → BitVec 32) (I : S16384.Idx → BitVec 32) (t : ℕ) (e l : Fin 128) : F .f32 :=
  prodOf (hRow X t) (stageOf T I t) e l

/-- The dot products of a grid point's tokens: expert `e`, token `t`. -/
def dots (X : S128x8x128.Idx → F .f32) (T : S65552x128.Idx → BitVec 32) (I : S16384.Idx → BitVec 32) : Vec F S128x128 .f32 :=
  fun y => k0_pay352 (fun z => prodTok X T I (y 1).val (z 1) (z 2)) y

/-- A finished program. -/
theorem ret_own {a : α} : Q a ⊢ WP c (pure a) Q := by
  show Q a ⊢ wp frame _ Set.univ (.ret a) Q
  rw [wp_ret]
  exact BI.fupd_intro

/-! ## The products -/

section
variable (st : Memref sig .tc .vmem S512x128 .i32) (arg10 : Memref sig .tc .vmem S129x128x128 .f32)

theorem group_own (h : Vec F S1x8x128 .f32) (row : ℕ) (hrow : row + 1 ≤ 129) (j : Fin 16) {D : S512x128.Idx → BitVec 32}
    {P : S129x128x128.Idx → F .f32} {k : PUnit → PR F α} :
    iprop(owns (c : Thread nD τ) st fullShare D ∗ owns (c : Thread nD τ) arg10 fullShare P
        ∗ ((∃ P' : S129x128x128.Idx → F .f32, ⌜(∀ y : S129x128x128.Idx, (y 0).val ≠ row → P' y = P y)
              ∧ (∀ y : S129x128x128.Idx, (y 0).val = row → (y 1).val / 8 = j.val → P' y = prodOf h D (y 1) (y 2))
              ∧ (∀ y : S129x128x128.Idx, (y 0).val = row → (y 1).val / 8 ≠ j.val → P' y = P y)⌝
            ∗ owns (c : Thread nD τ) st fullShare D ∗ owns (c : Thread nD τ) arg10 fullShare P') -∗ WP c (k ⟨⟩) Q) : sProp 𝕄)
      ⊢ WP c (group st arg10 h row hrow j >>= k) Q := by
  unfold group
  simp only [bind_assoc]
  iintro ⟨HS, HP, Hk⟩
  iapply (load_own c (m := st)) $$ HS
  iintro HS
  iapply (load_own c (m := st)) $$ HS
  iintro HS
  iapply (load_own c (m := st)) $$ HS
  iintro HS
  iapply (load_own c (m := st)) $$ HS
  iintro HS
  iapply (load_own c (m := arg10)) $$ HP
  iintro HP
  iapply (store_own c (m := arg10)) $$ HP
  iintro %Y %hY HP
  iapply Hk
  iexists Y
  isplitr
  · ipureintro
    have hemb : ∀ x : S1x8x128.Idx, ∀ a, (((Rect.unit (s := S129x128x128) ![row, 8 * j.val, 0] S1x8x128.size (inbGroup row hrow j)).emb x) a).val
        = (![row, 8 * j.val, 0] : Fin 3 → ℕ) a + 1 * (x a).val := fun x a => rfl
    refine ⟨fun y hy => hY.2 y ?_, fun y hy hj => ?_, fun y hy hj => hY.2 y ?_⟩
    · intro hm
      obtain ⟨x, -, hxy⟩ := Finset.mem_map.mp hm
      have h0 := hemb x 0
      have hx : (x 0).val < 1 := (x 0).isLt
      erw [hxy] at h0
      change (y 0).val = row + 1 * (x 0).val at h0
      omega
    · have hyx : y = (Rect.unit (s := S129x128x128) ![row, 8 * j.val, 0] S1x8x128.size (inbGroup row hrow j)).emb
          (ix3 0 ⟨(y 1).val % 8, by omega⟩ (y 2)) := by
        funext a
        fin_cases a
        · apply Fin.ext
          show (y 0).val = row + 1 * 0
          omega
        · apply Fin.ext
          show (y 1).val = 8 * j.val + 1 * ((y 1).val % 8)
          omega
        · apply Fin.ext
          show (y 2).val = 0 + 1 * (y 2).val
          omega
      have e := hY.1 (ix3 0 ⟨(y 1).val % 8, by omega⟩ (y 2)) (Finset.mem_univ _)
      rw [← hyx] at e
      rw [e]
      unfold prodOf
      have hjj : (⟨(y 1).val / 8, by have : (y 1).val < 128 := (y 1).isLt; omega⟩ : Fin 16) = j := Fin.ext hj
      rw [hjj]
      rfl
    · intro hm
      obtain ⟨x, -, hxy⟩ := Finset.mem_map.mp hm
      have h1 := hemb x 1
      have hx : (x 1).val < 8 := (x 1).isLt
      erw [hxy] at h1
      change (y 1).val = 8 * j.val + 1 * (x 1).val at h1
      omega
  isplitl [HS]; · iexact HS
  iexact HP

theorem groups_own (h : Vec F S1x8x128 .f32) (row : ℕ) (hrow : row + 1 ≤ 129) {D : S512x128.Idx → BitVec 32}
    {P0 : S129x128x128.Idx → F .f32} (n : ℕ) (hn : n ≤ 16) :
    ∀ {k : PUnit → PR F α} {P : S129x128x128.Idx → F .f32} (hP0 : ∀ y : S129x128x128.Idx, (y 0).val ≠ row → P y = P0 y)
      (hP : ∀ y : S129x128x128.Idx, (y 0).val = row → (y 1).val / 8 < 16 - n → P y = prodOf h D (y 1) (y 2)),
    iprop(owns (c : Thread nD τ) st fullShare D ∗ owns (c : Thread nD τ) arg10 fullShare P
        ∗ ((∃ P' : S129x128x128.Idx → F .f32, ⌜(∀ y : S129x128x128.Idx, (y 0).val ≠ row → P' y = P0 y)
              ∧ (∀ y : S129x128x128.Idx, (y 0).val = row → P' y = prodOf h D (y 1) (y 2))⌝
            ∗ owns (c : Thread nD τ) st fullShare D ∗ owns (c : Thread nD τ) arg10 fullShare P') -∗ WP c (k ⟨⟩) Q) : sProp 𝕄)
      ⊢ WP c (groups st arg10 h row hrow n hn >>= k) Q := by
  induction n with
  | zero =>
    intro k P hP0 hP
    rw [show (groups st arg10 h row hrow 0 hn >>= k) = k ⟨⟩ from rfl]
    iintro ⟨HS, HP, Hk⟩
    iapply Hk
    iexists P
    isplitr
    · ipureintro
      exact ⟨hP0, fun y hy => hP y hy (by have : (y 1).val < 128 := (y 1).isLt; omega)⟩
    isplitl [HS]; · iexact HS
    iexact HP
  | succ n ih =>
    intro k P hP0 hP
    rw [groups.eq_def]
    simp only [bind_assoc]
    iintro ⟨HS, HP, Hk⟩
    iapply (group_own (F := F) c st arg10 h row hrow ⟨15 - n, _⟩ (D := D) (P := P))
    isplitl [HS]; · iexact HS
    isplitl [HP]; · iexact HP
    iintro ⟨%P', %hP', HS, HP⟩
    iapply (ih _ (P := P') (fun y hy => (hP'.1 y hy).trans (hP0 y hy)) (fun y hy hj => by
      by_cases hjj : (y 1).val / 8 = 15 - n
      · exact hP'.2.1 y hy hjj
      · rw [hP'.2.2 y hy hjj]; exact hP y hy (by omega)))
    isplitl [HS]; · iexact HS
    isplitl [HP]; · iexact HP
    iexact Hk
end

section
variable (arg3 : Memref sig .tc .vmem S128x8x128 .f32) (st : Memref sig .tc .vmem S512x128 .i32)
    (arg10 : Memref sig .tc .vmem S129x128x128 .f32) (arg11 : Memref sig .tc .vmem S128x128 .f32)

theorem products_own {hoff : Fin 3 → Nat} {hh : ∀ a, hoff a + S1x8x128.size a ≤ S128x8x128.size a} {row : ℕ} {hrow : row + 1 ≤ 129}
    (t : ℕ) (ht : t < 128) (hho : hoff = ![t, 0, 0]) {X : S128x8x128.Idx → F .f32} {D : S512x128.Idx → BitVec 32}
    {P : S129x128x128.Idx → F .f32} {k : PUnit → PR F α} :
    iprop(owns (c : Thread nD τ) arg3 fullShare X ∗ owns (c : Thread nD τ) st fullShare D ∗ owns (c : Thread nD τ) arg10 fullShare P
        ∗ ((∃ P' : S129x128x128.Idx → F .f32, ⌜(∀ y : S129x128x128.Idx, (y 0).val ≠ row → P' y = P y)
              ∧ (∀ y : S129x128x128.Idx, (y 0).val = row → P' y = prodOf (hRow X t) D (y 1) (y 2))⌝
            ∗ owns (c : Thread nD τ) arg3 fullShare X ∗ owns (c : Thread nD τ) st fullShare D ∗ owns (c : Thread nD τ) arg10 fullShare P') -∗ WP c (k ⟨⟩) Q) : sProp 𝕄)
      ⊢ WP c (products arg3 st arg10 hoff hh row hrow >>= k) Q := by
  subst hho
  unfold products
  simp only [bind_assoc]
  iintro ⟨HX, HS, HP, Hk⟩
  iapply (load_own c (m := arg3)) $$ HX
  iintro HX
  have hx : (fun y => X ((Rect.unit (s := S128x8x128) ![t, 0, 0] S1x8x128.size hh).toLoadRect.idx y)) = hRow X t := by
    funext z
    unfold hRow
    rw [dif_pos ht]
    congr 1
    funext a
    fin_cases a
    · apply Fin.ext
      have : (z 0).val < 1 := (z 0).isLt
      show t + 1 * (z 0).val = t
      omega
    · apply Fin.ext
      show 0 + 1 * (z 1).val = (z 1).val
      omega
    · apply Fin.ext
      show 0 + 1 * (z 2).val = (z 2).val
      omega
  rw [hx]
  iapply (groups_own (F := F) c st arg10 (hRow X t) row hrow (D := D) (P0 := P) 16 _ (P := P) (fun _ _ => rfl) (fun y _ h => absurd h (by omega)))
  isplitl [HS]; · iexact HS
  isplitl [HP]; · iexact HP
  iintro ⟨%P', %hP', HS, HP⟩
  iapply Hk
  iexists P'
  isplitr
  · ipureintro; exact hP'
  isplitl [HX]; · iexact HX
  isplitl [HS]; · iexact HS
  iexact HP

/-- The mask of a token's lane. -/
theorem pay353_mem (tw : BitVec 32) (y : S128x128.Idx) :
    y ∈ IVec.on (k0_pay353 lanes tw) ↔ BitVec.ofNat 32 (y 1).val = tw := by
  unfold k0_pay353
  show y ∈ IVec.on (shapeCast S128x128 (cmpi .eq lanes (broadcast S128x128 tw)) shapeCasts_S128x128_S128x128) ↔ _
  rw [shapeCast_self, IVec.on, Finset.mem_filter]
  show _ ∧ Scalar.cmpi .eq (BitVec.ofNat 32 (0 * 128 + (y 1).val)) tw = 1#1 ↔ _
  rw [Nat.zero_mul, Nat.zero_add]
  show _ ∧ BitVec.ofBool (BitVec.ofNat 32 (y 1).val == tw) = 1#1 ↔ _
  by_cases h : BitVec.ofNat 32 (y 1).val = tw
  · rw [h]; simp
  · rw [beq_eq_false_iff_ne.mpr h]; simp [h]

theorem reduce_own {off : Fin 3 → Nat} {hoff : ∀ a, off a + S1x128x128.size a ≤ S129x128x128.size a} {tw : BitVec 32} (row : ℕ) (hrow : row < 129)
    (ho : off = ![row, 0, 0]) {P : S129x128x128.Idx → F .f32} {A : S128x128.Idx → F .f32} {k : PUnit → PR F α} :
    iprop(owns (c : Thread nD τ) arg10 fullShare P ∗ owns (c : Thread nD τ) arg11 fullShare A
        ∗ ((∃ A' : S128x128.Idx → F .f32, ⌜(∀ y : S128x128.Idx, BitVec.ofNat 32 (y 1).val = tw → A' y = k0_pay352 (fun z => P (ix3 ⟨row, hrow⟩ (z 1) (z 2))) y)
              ∧ (∀ y : S128x128.Idx, BitVec.ofNat 32 (y 1).val ≠ tw → A' y = A y)⌝
            ∗ owns (c : Thread nD τ) arg10 fullShare P ∗ owns (c : Thread nD τ) arg11 fullShare A') -∗ WP c (k ⟨⟩) Q) : sProp 𝕄)
      ⊢ WP c (reduce arg10 arg11 off hoff tw >>= k) Q := by
  subst ho
  unfold reduce
  simp only [bind_assoc]
  iintro ⟨HP, HA, Hk⟩
  iapply (load_own c (m := arg10)) $$ HP
  iintro HP
  iapply (load_own c (m := arg11)) $$ HA
  iintro HA
  iapply (store_own c (m := arg11)) $$ HA
  iintro %Y %hY HA
  iapply Hk
  iexists Y
  isplitr
  · ipureintro
    have hx : (fun y => P ((Rect.unit (s := S129x128x128) ![row, 0, 0] S1x128x128.size hoff).toLoadRect.idx y))
        = fun z : S1x128x128.Idx => P (ix3 ⟨row, hrow⟩ (z 1) (z 2)) := by
      funext z
      congr 1
      funext a
      fin_cases a
      · apply Fin.ext
        have : (z 0).val < 1 := (z 0).isLt
        show row + 1 * (z 0).val = row
        omega
      · apply Fin.ext
        show 0 + 1 * (z 1).val = (z 1).val
        omega
      · apply Fin.ext
        show 0 + 1 * (z 2).val = (z 2).val
        omega
    rw [hx] at hY
    have hid : ∀ y : S128x128.Idx, (Rect.unit (s := S128x128) ![0, 0] S128x128.size inb_S128x128_S128x128_0_0).emb y = y := by
      intro y
      funext a
      fin_cases a
      · apply Fin.ext
        show 0 + 1 * (y 0).val = (y 0).val
        omega
      · apply Fin.ext
        show 0 + 1 * (y 1).val = (y 1).val
        omega
    refine ⟨fun y hy => ?_, fun y hy => hY.2 y fun hm => ?_⟩
    · have e := hY.1 y ((pay353_mem tw y).mpr hy)
      rw [hid] at e
      exact e
    · obtain ⟨x, hx, rfl⟩ := Finset.mem_map.mp hm
      rw [hid] at hy
      exact hy ((pay353_mem tw x).mp hx)
  isplitl [HP]; · iexact HP
  iexact HA
end

/-! ## A trip, the loop -/

section
variable (i : grid0.Coords) (arg3 : Memref sig .tc .vmem S128x8x128 .f32)
  (arg4 : Memref sig .tc .vmem S1x128x128 .f32) (arg5 : Memref sig .tc .vmem S1x128x128 .f32)
  (arg6 : Memref sig .tc .vmem S65552x128 .i32) (arg7 : Memref sig .tc .smem S32768 .i32) (arg8 arg9 : Memref sig .tc .vmem S512x128 .i32)
  (arg10 : Memref sig .tc .vmem S129x128x128 .f32) (arg11 : Memref sig .tc .vmem S128x128 .f32)
variable (b : ℕ) (hb : b + 16384 ≤ 32768) (hbi : b = 16384 * ((i 0).val % 2))

/-- What holds before trip `k`: the first stage has token `2 * k`'s rows, the products of the tokens before it are
    formed, and all but the last of those are reduced. -/
def inv (X : S128x8x128.Idx → F .f32) (T : S65552x128.Idx → BitVec 32) (I : S16384.Idx → BitVec 32) (k : ℕ) : sProp 𝕄 :=
  iprop(owns (c : Thread nD τ) arg3 fullShare X ∗ owns (c : Thread nD τ) arg6 fullShare T ∗ owns (c : Thread nD τ) (half arg7 b hb) fullShare I
    ∗ owns (c : Thread nD τ) arg8 fullShare (stageOf T I (min (2 * k) 127))
    ∗ (∃ D : S512x128.Idx → BitVec 32, owns (c : Thread nD τ) arg9 fullShare D)
    ∗ (∃ P : S129x128x128.Idx → F .f32, ⌜∀ y : S129x128x128.Idx, 1 ≤ (y 0).val → (y 0).val ≤ 2 * k → P y = prodTok X T I ((y 0).val - 1) (y 1) (y 2)⌝
        ∗ owns (c : Thread nD τ) arg10 fullShare P)
    ∗ (∃ A : S128x128.Idx → F .f32, ⌜∀ y : S128x128.Idx, (y 1).val + 1 < 2 * k → A y = dots X T I y⌝ ∗ owns (c : Thread nD τ) arg11 fullShare A))

theorem trips64 : k0_t1_loop.trips = 64 := by decide +kernel

theorem tokA_word (k : Fin k0_t1_loop.trips) : Scalar.subi (tokA k) 1#32 = BitVec.ofNat 32 (2 * k.val) - 1#32 := by
  revert k; decide +kernel
theorem tokB_word (k : Fin k0_t1_loop.trips) : Scalar.subi (tokB k) 1#32 = BitVec.ofNat 32 (2 * k.val) := by
  revert k; decide +kernel

theorem lane_eq {n m : ℕ} (hn : n < 128) (hm : m < 129) : BitVec.ofNat 32 n = BitVec.ofNat 32 m ↔ n = m := by
  constructor
  · intro h
    have := congrArg BitVec.toNat h
    simp only [BitVec.toNat_ofNat] at this
    omega
  · rintro rfl; rfl

theorem lane_pred {n m : ℕ} (hn : n < 128) (hm : m < 129) : BitVec.ofNat 32 n = BitVec.ofNat 32 m - 1#32 ↔ n + 1 = m := by
  constructor
  · intro h
    have := congrArg BitVec.toNat h
    simp only [BitVec.toNat_ofNat, BitVec.toNat_sub] at this
    omega
  · rintro rfl
    apply BitVec.eq_of_toNat_eq
    simp only [BitVec.toNat_ofNat, BitVec.toNat_sub]
    omega

include hbi in
theorem trip_own {X : S128x8x128.Idx → F .f32} {T : S65552x128.Idx → BitVec 32} {I : S16384.Idx → BitVec 32}
    (hc : ∀ t < 128, ∀ e < 128, chk (wordAt I (128 * e + t))) (k : Fin k0_t1_loop.trips) :
    inv (F := F) c arg3 arg6 arg7 arg8 arg9 arg10 arg11 b hb X T I k.val
      ⊢ WP c (trip (F := F) i arg3 arg6 arg7 arg8 arg9 arg10 arg11 k >>= pure)
          (fun _ => inv (F := F) c arg3 arg6 arg7 arg8 arg9 arg10 arg11 b hb X T I (k.val + 1)) := by
  have hk : k.val < 64 := trips64 ▸ k.isLt
  unfold trip
  simp only [bind_assoc]
  unfold inv
  iintro ⟨H3, H6, H7, H8, ⟨%D9, H9⟩, ⟨%P, %hP, HP⟩, ⟨%A, %hA, HA⟩⟩
  have hmin : min (2 * k.val) 127 = 2 * k.val := by omega
  rw [hmin]
  -- the next token's rows into the second stage
  iapply (gather_own (F := F) c arg6 arg7 arg9 b hb (2 * k.val + 1) ((k0_off263_eq i k).trans (by rw [hbi, Nat.add_assoc])) (by omega)
    (hc (2 * k.val + 1) (by omega)) 64 _ (D := D9) (fun y hy => absurd hy (by omega)))
  isplitl [H6]; · iexact H6
  isplitl [H7]; · iexact H7
  isplitl [H9]; · iexact H9
  iintro ⟨H6, H7, H9⟩
  iapply (products_own (F := F) c arg3 arg8 arg10 (2 * k.val) (by omega) (k0_off519_eq k))
  isplitl [H3]; · iexact H3
  isplitl [H8]; · iexact H8
  isplitl [HP]; · iexact HP
  iintro ⟨%P1, %hP1, H3, H8, HP⟩
  have hr0 : k0_off520 k 0 = 2 * k.val + 1 := by rw [k0_off520_eq k]; rfl
  rw [hr0] at hP1
  iapply (reduce_own (F := F) c arg10 arg11 (2 * k.val) (by omega) (k0_off536_eq k))
  isplitl [HP]; · iexact HP
  isplitl [HA]; · iexact HA
  iintro ⟨%A1, %hA1, HP, HA⟩
  rw [tokA_word] at hA1
  -- and the one after it into the first
  iapply (gather_own (F := F) c arg6 arg7 arg8 b hb (min (2 * k.val + 2) 127) ((k0_off537_eq i k).trans (by rw [hbi])) (by omega)
    (hc (min (2 * k.val + 2) 127) (by omega)) 64 _ (D := stageOf T I (2 * k.val)) (fun y hy => absurd hy (by omega)))
  isplitl [H6]; · iexact H6
  isplitl [H7]; · iexact H7
  isplitl [H8]; · iexact H8
  iintro ⟨H6, H7, H8⟩
  iapply (products_own (F := F) c arg3 arg9 arg10 (2 * k.val + 1) (by omega) (k0_off793_eq k))
  isplitl [H3]; · iexact H3
  isplitl [H9]; · iexact H9
  isplitl [HP]; · iexact HP
  iintro ⟨%P2, %hP2, H3, H9, HP⟩
  have hr1 : k0_off794 k 0 = 2 * k.val + 2 := by rw [k0_off794_eq k]; rfl
  rw [hr1] at hP2
  iapply (reduce_own (F := F) c arg10 arg11 (2 * k.val + 1) (by omega) (k0_off810_eq k))
  isplitl [HP]; · iexact HP
  isplitl [HA]; · iexact HA
  iintro ⟨%A2, %hA2, HP, HA⟩
  rw [tokB_word] at hA2
  iapply (ret_own (F := F) c)
  isplitl [H3]; · iexact H3
  isplitl [H6]; · iexact H6
  isplitl [H7]; · iexact H7
  isplitl [H8]
  · rw [show 2 * (k.val + 1) = 2 * k.val + 2 by omega]; iexact H8
  isplitl [H9]; · iexists _; iexact H9
  -- the products of the tokens so far
  have hPrev1 : ∀ y : S129x128x128.Idx, 1 ≤ (y 0).val → (y 0).val ≤ 2 * k.val + 1 → P1 y = prodTok X T I ((y 0).val - 1) (y 1) (y 2) := by
    intro y h1 h2
    by_cases hy : (y 0).val = 2 * k.val + 1
    · rw [hP1.2 y hy, hy]; rfl
    · rw [hP1.1 y hy]; exact hP y h1 (by omega)
  have hPrev2 : ∀ y : S129x128x128.Idx, 1 ≤ (y 0).val → (y 0).val ≤ 2 * k.val + 2 → P2 y = prodTok X T I ((y 0).val - 1) (y 1) (y 2) := by
    intro y h1 h2
    by_cases hy : (y 0).val = 2 * k.val + 2
    · rw [hP2.2 y hy, hy]; rfl
    · rw [hP2.1 y hy]; exact hPrev1 y h1 (by omega)
  isplitl [HP]
  · iexists P2
    isplitr
    swap
    · iexact HP
    · ipureintro; exact fun y h1 h2 => hPrev2 y h1 (by omega)
  iexists A2
  isplitr
  swap
  · iexact HA
  ipureintro
  intro y hy
  have hl : (y 1).val < 128 := (y 1).isLt
  by_cases h2 : (y 1).val = 2 * k.val
  · rw [hA2.1 y ((lane_eq hl (by omega)).mpr h2)]
    unfold dots
    congr 1
    funext z
    rw [hPrev2 _ (by show 1 ≤ 2 * k.val + 1; omega) (by show 2 * k.val + 1 ≤ 2 * k.val + 2; omega), h2]
    rfl
  · rw [hA2.2 y (fun h => h2 ((lane_eq hl (by omega)).mp h))]
    by_cases h1 : (y 1).val + 1 = 2 * k.val
    · rw [hA1.1 y ((lane_pred hl (by omega)).mpr h1)]
      unfold dots
      congr 1
      funext z
      rw [hPrev1 _ (by show 1 ≤ 2 * k.val; omega) (by show 2 * k.val ≤ 2 * k.val + 1; omega)]
      rw [show (y 1).val = 2 * k.val - 1 by omega]
    · rw [hA1.2 y (fun h => h1 ((lane_pred hl (by omega)).mp h))]
      exact hA y (by omega)

include hbi in
theorem trip_own' {X : S128x8x128.Idx → F .f32} {T : S65552x128.Idx → BitVec 32} {I : S16384.Idx → BitVec 32}
    (hc : ∀ t < 128, ∀ e < 128, chk (wordAt I (128 * e + t))) (k : Fin k0_t1_loop.trips) :
    inv (F := F) c arg3 arg6 arg7 arg8 arg9 arg10 arg11 b hb X T I k.val
      ⊢ WP c (trip (F := F) i arg3 arg6 arg7 arg8 arg9 arg10 arg11 k)
          (fun _ => inv (F := F) c arg3 arg6 arg7 arg8 arg9 arg10 arg11 b hb X T I (k.val + 1)) := by
  rw [← bind_pure (trip (F := F) i arg3 arg6 arg7 arg8 arg9 arg10 arg11 k)]
  exact trip_own (F := F) c i arg3 arg6 arg7 arg8 arg9 arg10 arg11 b hb hbi hc k

include hbi in
set_option maxRecDepth 100000 in
theorem ring_own {X : S128x8x128.Idx → F .f32} {T : S65552x128.Idx → BitVec 32} {I : S16384.Idx → BitVec 32}
    (hc : ∀ t < 128, ∀ e < 128, chk (wordAt I (128 * e + t))) {k : PUnit → PR F α} :
    iprop(inv (F := F) c arg3 arg6 arg7 arg8 arg9 arg10 arg11 b hb X T I 0
        ∗ ((owns (c : Thread nD τ) arg3 fullShare X ∗ owns (c : Thread nD τ) arg6 fullShare T ∗ owns (c : Thread nD τ) (half arg7 b hb) fullShare I
            ∗ (∃ D : S512x128.Idx → BitVec 32, owns (c : Thread nD τ) arg8 fullShare D)
            ∗ (∃ D : S512x128.Idx → BitVec 32, owns (c : Thread nD τ) arg9 fullShare D)
            ∗ (∃ P : S129x128x128.Idx → F .f32, owns (c : Thread nD τ) arg10 fullShare P)
            ∗ owns (c : Thread nD τ) arg11 fullShare (dots X T I)) -∗ WP c (k ⟨⟩) Q))
      ⊢ WP c (ring (F := F) i arg3 arg6 arg7 arg8 arg9 arg10 arg11 >>= k) Q := by
  unfold ring Scf.Loop.for
  simp only [bind_assoc]
  iintro ⟨HI, Hk⟩
  iapply (Scf.wp_for_bind frame (wpE (defs₀ (F := F)) Variants.none (c : Thread nD τ) none) Set.univ k0_t1_loop.lb k0_t1_loop.ub k0_t1_loop.st k0_t1_ok ()
    (fun k (_ : Unit) => trip (F := F) i arg3 arg6 arg7 arg8 arg9 arg10 arg11 k)
    (fun k (_ : Unit) => inv (F := F) c arg3 arg6 arg7 arg8 arg9 arg10 arg11 b hb X T I k)
    (fun k _ => trip_own' (F := F) c i arg3 arg6 arg7 arg8 arg9 arg10 arg11 b hb hbi hc k)) $$ HI
  iintro %_ HI
  rw [show Scf.trips k0_t1_loop.lb k0_t1_loop.ub k0_t1_loop.st = 64 from trips64]
  unfold inv
  icases HI with ⟨H3, H6, H7, H8, H9, ⟨%P, %hP, HP⟩, ⟨%A, %hA, HA⟩⟩
  iapply (reduce_own (F := F) c arg10 arg11 128 (by omega) rfl)
  isplitl [HP]; · iexact HP
  isplitl [HA]; · iexact HA
  iintro ⟨%A2, %hA2, HP, HA⟩
  have hfin : A2 = dots X T I := by
    funext y
    have hl : (y 1).val < 128 := (y 1).isLt
    by_cases h2 : (y 1).val = 127
    · rw [hA2.1 y ((lane_eq hl (m := 127) (by omega)).mpr h2)]
      unfold dots
      congr 1
      funext z
      rw [hP _ (show (1 : ℕ) ≤ 128 by decide) (show (128 : ℕ) ≤ 2 * 64 by decide), h2]
      rfl
    · rw [hA2.2 y (fun h => h2 ((lane_eq hl (m := 127) (by omega)).mp h))]
      exact hA y (by omega)
  rw [hfin]
  iapply Hk
  isplitl [H3]; · iexact H3
  isplitl [H6]; · iexact H6
  isplitl [H7]; · iexact H7
  isplitl [H8]; · iexists _; iexact H8
  isplitl [H9]; · iexact H9
  isplitl [HP]; · iexists _; iexact HP
  iexact HA

/-- What a grid point leaves in the result's block. -/
def blockOut (X : S128x8x128.Idx → F .f32) (G : S1x128x128.Idx → F .f32) (T : S65552x128.Idx → BitVec 32) (I : S16384.Idx → BitVec 32) : Vec F S1x128x128 .f32 :=
  k0_pay1 (dots X T I) G

theorem zeroRow_own {P : S129x128x128.Idx → F .f32} {k : PUnit → PR F α} :
    iprop(owns (c : Thread nD τ) arg10 fullShare P
        ∗ ((∃ P' : S129x128x128.Idx → F .f32, owns (c : Thread nD τ) arg10 fullShare P') -∗ WP c (k ⟨⟩) Q) : sProp 𝕄)
      ⊢ WP c (zeroRow (F := F) arg10 >>= k) Q := by
  unfold zeroRow
  simp only [bind_assoc]
  iintro ⟨HP, Hk⟩
  iapply (load_own c (m := arg10)) $$ HP
  iintro HP
  iapply (store_own c (m := arg10)) $$ HP
  iintro %Y %hY HP
  iapply Hk
  iexists Y
  iexact HP

theorem finish_own {A : S128x128.Idx → F .f32} {G O : S1x128x128.Idx → F .f32} {k : PUnit → PR F α} :
    iprop(owns (c : Thread nD τ) arg11 fullShare A ∗ owns (c : Thread nD τ) arg4 fullShare G ∗ owns (c : Thread nD τ) arg5 fullShare O
        ∗ ((owns (c : Thread nD τ) arg11 fullShare A ∗ owns (c : Thread nD τ) arg4 fullShare G
            ∗ owns (c : Thread nD τ) arg5 fullShare (k0_pay1 A G)) -∗ WP c (k ⟨⟩) Q) : sProp 𝕄)
      ⊢ WP c (finish (F := F) arg4 arg5 arg11 >>= k) Q := by
  unfold finish
  simp only [bind_assoc]
  iintro ⟨HA, HG, HO, Hk⟩
  iapply (load_own c (m := arg11)) $$ HA
  iintro HA
  iapply (load_own c (m := arg4)) $$ HG
  iintro HG
  iapply (load_own c (m := arg5)) $$ HO
  iintro HO
  iapply (store_own c (m := arg5)) $$ HO
  iintro %Y %hY HO
  have h2 : ∀ y : S128x128.Idx, (Rect.unit (s := S128x128) ![0, 0] S128x128.size inb_S128x128_S128x128_0_0).toLoadRect.idx y = y := by
    intro y
    funext a
    fin_cases a
    · exact Fin.ext (by show 0 + 1 * (y 0).val = (y 0).val; omega)
    · exact Fin.ext (by show 0 + 1 * (y 1).val = (y 1).val; omega)
  have h3 : ∀ y : S1x128x128.Idx, (Rect.unit (s := S1x128x128) ![0, 0, 0] S1x128x128.size inb_S1x128x128_S1x128x128_0_0_0).toLoadRect.idx y = y := by
    intro y
    funext a
    fin_cases a
    · exact Fin.ext (by show 0 + 1 * (y 0).val = (y 0).val; omega)
    · exact Fin.ext (by show 0 + 1 * (y 1).val = (y 1).val; omega)
    · exact Fin.ext (by show 0 + 1 * (y 2).val = (y 2).val; omega)
  have hfin : Y = k0_pay1 A G := by
    funext y
    have e := hY.1 y (Finset.mem_univ _)
    simp only [h2, h3] at e
    rw [← e]
    exact congrArg Y (h3 y).symm
  rw [hfin]
  iapply Hk
  isplitl [HA]; · iexact HA
  isplitl [HG]; · iexact HG
  iexact HO

end

end Cert.KernelIdeal.PeerU

end
-- ==== Proof.PeerU.Launch.lean ====
/- The call's run: one grid point from start to end, the proof data of the pipeline (at every point what is on
   its way, `flights`, and the body's own buffers), and the run of the whole program. -/
module

public import proofs.«01_k».proof.Proof.PeerU.PointEq
public import proofs.«01_k».proof.Proof.PeerU.StartRun
public import proofs.«01_k».proof.Proof.PeerU.Ring
public import proofs.«01_k».proof.Proof.Gen.KernelIdeal.Frame

@[expose] public section

set_option maxRecDepth 16384

noncomputable section

namespace Cert.KernelIdeal.PeerU

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (Pipeline.UD sig nD τ) ℕ

section
variable (c : Dev nD)
variable {Q : PUnit → sProp (MT nD τ sig Unit (Elt F) ℕ (Pipeline.UD sig nD τ) ℕ)}
variable (i : grid0.Coords) (arg1 : Memref sig .tc .hbm S256x16384 .i32) (arg2 : Memref sig .tc .hbm S65536x128 .i32) (harg2 : arg2.IsWhole)
  (arg3 : Memref sig .tc .vmem S128x8x128 .f32) (arg4 arg5 : Memref sig .tc .vmem S1x128x128 .f32)
  (arg6 : Memref sig .tc .vmem S65552x128 .i32) (arg7 : Memref sig .tc .smem S32768 .i32) (arg8 arg9 : Memref sig .tc .vmem S512x128 .i32)
  (arg10 : Memref sig .tc .vmem S129x128x128 .f32) (arg11 : Memref sig .tc .vmem S128x128 .f32) (arg12 : DmaSems sig S_) (arg13 : DmaSems sig S2)
variable (fs : Buf (Elt F) (arg1.view.loc (c : Thread nD τ))) (f2 : Buf (Elt F) (arg2.view.loc (c : Thread nD τ)))

/-- The body's own buffers, at contents nothing names. -/
def own4 : sProp 𝕄 :=
  iprop((∃ D : S512x128.Idx → BitVec 32, owns (c : Thread nD τ) arg8 fullShare D)
    ∗ (∃ D : S512x128.Idx → BitVec 32, owns (c : Thread nD τ) arg9 fullShare D)
    ∗ (∃ P : S129x128x128.Idx → F .f32, owns (c : Thread nD τ) arg10 fullShare P)
    ∗ (∃ A : S128x128.Idx → F .f32, owns (c : Thread nD τ) arg11 fullShare A))

/-- One grid point, run. -/
theorem point_own {X : S128x8x128.Idx → F .f32} {G O : S1x128x128.Idx → F .f32} {W : Waits sig Unit}
    (hc : ∀ t < 128, ∀ e < 128, chk (wordAt (rowX (F := F) c arg1 fs (i 0).val (i 0).isLt) (128 * e + t))) :
    iprop(flights c arg1 arg2 arg6 arg7 arg12 arg13 fs f2 (i 0).val ∗ owes (c : Thread nD τ) 0 W
        ∗ own4 (F := F) c arg8 arg9 arg10 arg11
        ∗ owns (c : Thread nD τ) arg3 fullShare X ∗ owns (c : Thread nD τ) arg4 fullShare G ∗ owns (c : Thread nD τ) arg5 fullShare O
        ∗ ((flights c arg1 arg2 arg6 arg7 arg12 arg13 fs f2 ((i 0).val + 1) ∗ (∃ W', owes (c : Thread nD τ) 0 W')
            ∗ own4 (F := F) c arg8 arg9 arg10 arg11
            ∗ owns (c : Thread nD τ) arg3 fullShare X ∗ owns (c : Thread nD τ) arg4 fullShare G
            ∗ owns (c : Thread nD τ) arg5 fullShare (blockOut X G (tabOf (arg2.view.read (Elt F) f2)) (rowX (F := F) c arg1 fs (i 0).val (i 0).isLt))) -∗ Q ⟨⟩))
      ⊢ WP c (point (F := F) i arg1 arg2 harg2 arg3 arg4 arg5 arg6 arg7 arg8 arg9 arg10 arg11 arg12 arg13) Q := by
  unfold point own4
  iintro ⟨HF, HW, ⟨⟨%D8, H8⟩, ⟨%D9, H9⟩, ⟨%P, H10⟩, ⟨%A, H11⟩⟩, H3, H4, H5, Hk⟩
  iapply (start_own c i arg1 arg2 harg2 arg6 arg7 arg12 arg13 fs f2)
  isplitl [HF]; · iexact HF
  isplitl [HW]; · iexact HW
  iintro ⟨Hslot, H6, Hnext, HW⟩
  iapply (zeroRow_own c arg10)
  isplitl [H10]; · iexact H10
  iintro ⟨%P', H10⟩
  unfold slotM
  iapply (gather_own c arg6 arg7 arg8 (16384 * ((i 0).val % 2)) (slotB (mod2 _)) 0 (off := k0_off7 i) (k0_off7_eq i) (by decide)
    (T := tabOf (arg2.view.read (Elt F) f2)) (I := rowX (F := F) c arg1 fs (i 0).val (i 0).isLt) (fun e he => hc 0 (by decide) e he) 64 (le_refl _)
    (D := D8) (fun y hy => absurd hy (by omega)))
  isplitl [H6]; · iexact H6
  isplitl [Hslot]; · iexact Hslot
  isplitl [H8]; · iexact H8
  iintro ⟨H6, Hslot, H8⟩
  iapply (ring_own c i arg3 arg6 arg7 arg8 arg9 arg10 arg11 (16384 * ((i 0).val % 2)) (slotB (mod2 _)) rfl (X := X)
    (T := tabOf (arg2.view.read (Elt F) f2)) (I := rowX (F := F) c arg1 fs (i 0).val (i 0).isLt) hc)
  isplitl [H3 H6 Hslot H8 H9 H10 H11]
  · unfold inv
    isplitl [H3]; · iexact H3
    isplitl [H6]; · iexact H6
    isplitl [Hslot]; · iexact Hslot
    isplitl [H8]; · iexact H8
    isplitl [H9]; · iexists _; iexact H9
    isplitl [H10]
    · iexists _; isplitr; swap; · iexact H10
      ipureintro; intro y h1 h2; omega
    iexists _; isplitr; swap; · iexact H11
    ipureintro; intro y h1; omega
  iintro ⟨H3, H6, Hslot, H8, H9, H10, H11⟩
  rw [show (finish (F := F) arg4 arg5 arg11) = (finish (F := F) arg4 arg5 arg11 >>= fun _ => pure ⟨⟩) from (bind_pure _).symm]
  iapply (finish_own c arg4 arg5 arg11)
  isplitl [H11]; · iexact H11
  isplitl [H4]; · iexact H4
  isplitl [H5]; · iexact H5
  iintro ⟨H11, H4, H5⟩
  iapply (ret_own c)
  iapply Hk
  isplitl [Hslot H6 Hnext]
  · iapply (flights_succ c i arg1 arg2 arg6 arg7 arg12 arg13 fs f2)
    isplitl [Hslot]; · unfold slotM; iexact Hslot
    isplitl [H6]; · iexact H6
    iexact Hnext
  isplitl [HW]; · iexact HW
  isplitl [H8 H9 H10 H11]
  · isplitl [H8]; · iexact H8
    isplitl [H9]; · iexact H9
    isplitl [H10]; · iexact H10
    iexists _; iexact H11
  isplitl [H3]; · iexact H3
  isplitl [H4]; · iexact H4
  unfold blockOut
  iexact H5

end

variable (m : (ℓ : Loc nD τ sig) → Buf (Elt F) ℓ) (ρ : Dev nD → PrngReg)

/-! ## The kit at the algebra with the transfers' counters -/

set_option maxHeartbeats 800000 in
theorem hmain' (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- An input window's buffer holds its block at every point. -/
theorem before_in0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's own cells and the arrays it copies from -/

abbrev osem0 : Fin 3 → SemLoc sig := fun j => (![SemLoc.dma 6, SemLoc.dma 7, SemLoc.dma 8] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0
          ∗ semVal ((c : Thread nD τ), SemLoc.dma 8) 0) := by
  rw [Pipeline.ownSems0_eq_of_list c osem0 [0, 1, 2] (by decide) (by decide)]; rfl

def H0 : Finset (Ref sig .tc) := {main_v11, main_arg3}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v11) ↦{fullShare} V m c main_v11) ∗ (((c : Thread nD τ).loc main_arg3) ↦{fullShare} V m c main_arg3)) := by
  rw [BI.bigSep_eq_bigSepL_of_eq [main_v11, main_arg3] (by decide) (by decide)]; rfl

/-! ## The proof data -/

/-- What is on its way before point `t`, over the call's own buffers. -/
def fl (c : Dev nD) (t : ℕ) : sProp 𝕄 :=
  flights (F := F) c (Memref.whole main_v11) (Memref.whole main_arg3) (Memref.whole cc0_scratch0) (Memref.whole cc0_scratch1) cc0_scratch6 cc0_scratch7
    (V m c main_v11) (V m c main_arg3) t

/-- What holds between points. -/
def Phi (c : Dev nD) (t : ℕ) : sProp 𝕄 :=
  iprop(fl m c t ∗ own4 (F := F) c (Memref.whole cc0_scratch2) (Memref.whole cc0_scratch3) (Memref.whole cc0_scratch4) (Memref.whole cc0_scratch5)
    ∗ (∃ r, prngReg c r))

/-- The index words of block `t`, as the call reads them. -/
def wordsOf (c : Dev nD) (t : Fin 256) : S16384.Idx → BitVec 32 := rowX (F := F) c (Memref.whole main_v11) (V m c main_v11) t.val t.isLt

/-- The row table the call gathers from. -/
def tableOf (c : Dev nD) : S65552x128.Idx → BitVec 32 := tabOf ((Memref.whole main_arg3 : Memref sig .tc .hbm S65536x128 .i32).view.read (Elt F) (V m c main_arg3))

/-- What point `t` leaves in the result's block. -/
def outAt (c : Dev nD) (t : Fin cfg0.N) : Vec F S1x128x128 .f32 :=
  blockOut (F := F) (iblk m c 0 t) (iblk m c 1 t) (tableOf m c) (wordsOf m c (grid0.coords t 0))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := Phi m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem coord0 (t : Fin cfg0.N) : (grid0.coords t 0).val = t.val := by
  have h := Pipeline.Grid.coords_val (G := grid0) t 0 (S := 1) (B := 256) (by decide) (by decide)
  have ht : t.val < 256 := t.isLt
  rw [h]; omega

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- Every index word names four consecutive rows of the table. -/
def WordsOk : Prop := ∀ (c : Dev nD) (r : Fin 256), ∀ t < 128, ∀ e < 128, chk (wordAt (wordsOf m c r) (128 * e + t))

variable (hw : WordsOk m)
include hw

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [point_eq, after0_0, after0_1, after0_2]
  rw [show (dats m 0 c).Φ t.succ = Phi m c ((grid0.coords t 0).val + 1) from by rw [coord0]; rfl]
  rw [show (dats m 0 c).Φ t.castSucc = Phi m c (grid0.coords t 0).val from by rw [coord0]; rfl]
  simp only [before_in0 m (dats m 0 c) (A_eq m c 0) (after0_0 m c), before_in1 m (dats m 0 c) (A_eq m c 1) (after0_1 m c)]
  unfold Dat.owesAt Pipeline.owesWithin
  rw [show (dats m 0 c).owed t.castSucc = 0 from rfl, show (dats m 0 c).owed t.succ = 0 from rfl]
  unfold Phi fl
  iintro ⟨⟨HF, H4, Hg⟩, ⟨%W, -, HW⟩, ⟨%d0, H0⟩, ⟨%d1, H1⟩, ⟨%d2, H2⟩⟩
  iapply (point_own (F := F) c (grid0.coords t) (Memref.whole main_v11) (Memref.whole main_arg3) (Memref.isWhole_whole _) _ _ _ _ _ _ _ _ _ _ _ _ _
    (X := iblk m c 0 t) (G := iblk m c 1 t) (hw c (grid0.coords t 0)))
  isplitl [HF]; · iexact HF
  isplitl [HW]; · iexact HW
  isplitl [H4]; · iexact H4
  isplitl [H0]; · iexact H0
  isplitl [H1]; · iexact H1
  isplitl [H2]; · iexact H2
  iintro ⟨HF, ⟨%W', HW'⟩, H4, H0, H1, H2⟩
  isplitl [HF H4 Hg]
  · isplitl [HF]; · iexact HF
    isplitl [H4]; · iexact H4
    iexact Hg
  isplitl [HW']
  · iexists W'; isplitr; · ipureintro; exact fun _ _ => Or.inl trivial
    iexact HW'
  isplitl [H0]; · iexact H0
  isplitl [H1]; · iexact H1
  unfold outAt tableOf wordsOf
  iexact H2

omit hw in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hw c t) rfl .rfl fun _ => .rfl

omit hw

/-! ## The run and the frame -/

/-- With nothing on its way: the body's buffers, its cells at zero, the two arrays it copies from. -/
theorem phi_idle (c : Dev nD) (t : ℕ) (ht : t = 0 ∨ t = 256) :
    (Phi m c t : sProp 𝕄) = iprop(idle (F := F) c (Memref.whole main_v11) (Memref.whole main_arg3) (Memref.whole cc0_scratch0) (Memref.whole cc0_scratch1) cc0_scratch6 cc0_scratch7
      (V m c main_v11) (V m c main_arg3) ∗ own4 (F := F) c (Memref.whole cc0_scratch2) (Memref.whole cc0_scratch3) (Memref.whole cc0_scratch4) (Memref.whole cc0_scratch5)
    ∗ (∃ r, prngReg c r)) := by
  unfold Phi fl flights
  rcases ht with rfl | rfl
  · rw [if_pos rfl]
  · rw [if_neg (by decide), dif_neg (by decide)]

theorem phi_in (c : Dev nD) : Pipeline.ΦD osem0 spec0 H0 (V m) c ⊢ (Phi m c 0 : sProp 𝕄) := by
  rw [Pipeline.ΦD_eq, scopedRest0_eq, ownSems00_eq, hbmPts0_eq, phi_idle m c 0 (Or.inl rfl)]
  unfold idle own4
  simp only [owns_whole, (Memref.isWhole_whole main_v11).set_eq_univ, (Memref.isWhole_whole main_arg3).set_eq_univ]
  iintro ⟨⟨H6, H8, H9, H10, H11, H7⟩, Hg, ⟨Hq0, Hq1, Hq2⟩, Ha, Hb⟩
  isplitl [H7 H6 Ha Hb Hq0 Hq1 Hq2]
  · isplitl [H7]; · iexact H7
    isplitl [H6]; · iexact H6
    isplitl [Ha]; · iexact Ha
    isplitl [Hb]; · iexact Hb
    isplitl [Hq0]; · iexact Hq0
    isplitl [Hq1]; · iexact Hq1
    iexact Hq2
  isplitl [H8 H9 H10 H11]
  · isplitl [H8]; · iexact H8
    isplitl [H9]; · iexact H9
    isplitl [H10]; · iexact H10
    iexact H11
  iexact Hg

theorem phi_out (c : Dev nD) : (Phi m c 256 : sProp 𝕄) ⊢ Pipeline.ΦD osem0 spec0 H0 (V m) c := by
  rw [Pipeline.ΦD_eq, scopedRest0_eq, ownSems00_eq, hbmPts0_eq, phi_idle m c 256 (Or.inr rfl)]
  unfold idle own4
  simp only [owns_whole, (Memref.isWhole_whole main_v11).set_eq_univ, (Memref.isWhole_whole main_arg3).set_eq_univ]
  iintro ⟨⟨H7, H6, Ha, Hb, Hq0, Hq1, Hq2⟩, ⟨H8, H9, H10, H11⟩, Hg⟩
  isplitl [H6 H8 H9 H10 H11 H7]
  · isplitl [H6]; · iexact H6
    isplitl [H8]; · iexact H8
    isplitl [H9]; · iexact H9
    isplitl [H10]; · iexact H10
    isplitl [H11]; · iexact H11
    iexact H7
  isplitl [Hg]; · iexact Hg
  isplitl [Hq0 Hq1 Hq2]
  · isplitl [Hq0]; · iexact Hq0
    isplitl [Hq1]; · iexact Hq1
    iexact Hq2
  isplitl [Ha]; · iexact Ha
  iexact Hb

include hw in
set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hw c).loose) (hshare := fun c => (dats m 0 c).share_full fun _ => rfl)
    (howed := fun _ _ => rfl) (V := V m) (hmain := hmain' m Variants.none) (hA := A_eq m)
    (hin := fun c => phi_in m c) (hout := fun c => phi_out m c)

/-- The frame and the result: the run leaves the arguments, every counter at zero, and the result's array as the
    pipeline's account of its blocks. -/
theorem run_result (hw : WordsOk m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.mem ((c.tc : Thread nD τ).loc main_v15) = (dats m 0 c).arrAt 2 cfg0.N)
      ∧ r.2.sem = fun _ => 0) :=
  (θ_run defs _ _).mono (fun _ h => ⟨fun c => ⟨⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, (h.1 c).1 2⟩, h.2⟩) (run_main m ρ hw)

end Cert.KernelIdeal.PeerU

end
-- ==== Proof.PeerU.Words.lean ====
/- What the call's operands hold when it starts: the index words (four times the expert, plus eight, less four at
   the odd slots), the tokens and the gates by blocks; and that every index word names rows of the table. -/
module

public import proofs.«01_k».proof.Proof.PeerU.Launch
public import Idealize.ShloMosaic.Lib.StableHlo.Run
public import Idealize.ShloMosaic.Lib.ValueLayout
public import Idealize.ShloMosaic.Lib.IdealHost
public import Idealize.ShloMosaic.Lib.Pipeline.ValueKit.Geometry

@[expose] public section

set_option maxRecDepth 16384

noncomputable section

namespace Cert.KernelIdeal.PeerU

open Cert.KernelIdeal Cert.KernelIdeal.Gen
open Idealize.ShloMosaic Idealize.ShloMosaic.TcCoe Idealize.ShloMosaic.Tactic Idealize.ShloMosaic.StableHlo
open Idealize.ShloMosaic.ValueIdx (ix1 ix2 ix3)

variable {F : FTy → Type} [FloatOps F]
variable (m : (ℓ : Loc nD τ sig) → Buf (Elt F) ℓ) (c : Dev nD)

/-- The four arguments: tokens, experts chosen, gates, and the table's words. -/
def argH : S32768x1024.Idx → F .f32 := m ((c : Thread nD τ).loc main_arg0)
def argE : S32768x128.Idx → BitVec 32 := m ((c : Thread nD τ).loc main_arg1)
def argG : S32768x128.Idx → F .f32 := m ((c : Thread nD τ).loc main_arg2)
def argW : S65536x128.Idx → BitVec 32 := m ((c : Thread nD τ).loc main_arg3)

/-- The table row of each choice: four rows an expert, eight rows of padding before them; at the odd slots the
    word is four less, since those slots take the upper half of the eight rows that are read. -/
def rowWord (E : S32768x128.Idx → BitVec 32) (j : S32768x128.Idx) : BitVec 32 :=
  E j * 4#32 + 8#32 - 4#32 * BitVec.ofNat 32 ((j 1).val % 2)

/-- The sign-corrected remainder by two of a slot number. -/
theorem slot_parity (n : Fin 128) :
    (Scalar.select (Scalar.andi (Scalar.cmpi .ne (Scalar.cmpi .slt (IntOp.remsi .host (BitVec.ofNat 32 n.val) 2#32) 0#32) 0#1)
      (Scalar.cmpi .ne (IntOp.remsi .host (BitVec.ofNat 32 n.val) 2#32) 0#32)) (Scalar.addi (IntOp.remsi .host (BitVec.ofNat 32 n.val) 2#32) 2#32) (IntOp.remsi .host (BitVec.ofNat 32 n.val) 2#32) : BitVec 32)
      = BitVec.ofNat 32 (n.val % 2) := by
  revert n; decide +kernel

set_option maxHeartbeats 2000000 in
theorem V_v11 : V m c main_v11 = shapeCast S256x16384 (transpose S256x128x128 [0, 2, 1]
    (shapeCast S256x128x128 (rowWord (argE m c)) shapeCasts_S32768x128_S256x128x128)
      transposes_S256x128x128_S256x128x128_0_2_1) shapeCasts_S256x128x128_S256x16384 := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  refine congrArg (fun v => shapeCast S256x16384 (transpose S256x128x128 [0, 2, 1]
    (shapeCast S256x128x128 v shapeCasts_S32768x128_S256x128x128)
      transposes_S256x128x128_S256x128x128_0_2_1) shapeCasts_S256x128x128_S256x16384) (funext fun j => ?_)
  exact congrArg (fun w : BitVec 32 => argE m c j * 4#32 + 8#32 - 4#32 * w) (slot_parity (j 1))

set_option maxHeartbeats 2000000 in
theorem V_v12 : V m c main_v12 = shapeCast S32768x8x128 (argH m c) shapeCasts_S32768x1024_S32768x8x128 := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  rfl

set_option maxHeartbeats 2000000 in
theorem V_v14 : V m c main_v14 = transpose S256x128x128 [0, 2, 1]
    (shapeCast S256x128x128 (argG m c) shapeCasts_S32768x128_S256x128x128)
      transposes_S256x128x128_S256x128x128_0_2_1 := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  rfl

/-- Row `r` of a matrix, read as a vector. -/
theorem rowX_apply (G : S256x16384.Idx → BitVec 32) (r : Fin 256) (p : Fin 16384) :
    rowX (F := F) c (Memref.whole main_v11) G r.val r.isLt (ix1 p) = G (ix2 r p) := by
  have e : (Shape.reshapeEquiv squeezes_S1x16384_S16384.numel_eq (ix1 p) : S1x16384.Idx) = ix2 0 p :=
    Shape.reshapeEquiv_eq_of_rowMajor _ (by
      rw [Shape.rowMajor_val_two, Shape.rowMajor_val_one]
      show 0 * 16384 + p.val = p.val
      omega)
  show G ((Rect.unit (s := S256x16384) ![r.val, 0] S1x16384.size (inbRow r.val r.isLt)).emb
    (Shape.reshapeEquiv squeezes_S1x16384_S16384.numel_eq (ix1 p))) = _
  rw [e]
  refine congrArg G ?_
  funext a
  match a with
  | ⟨0, _⟩ => exact Fin.ext (by show r.val + 1 * 0 = r.val; omega)
  | ⟨1, _⟩ => exact Fin.ext (by show 0 + 1 * p.val = p.val; omega)

/-- The index word of choice `e` of token `128 r + t` is entry `128 e + t` of row `r`. -/
theorem wordsOf_apply (r : Fin 256) (t e : ℕ) (ht : t < 128) (he : e < 128) :
    wordAt (wordsOf m c r) (128 * e + t) = rowWord (argE m c) (ix2 ⟨128 * r.val + t, by omega⟩ ⟨e, he⟩) := by
  have hp : 128 * e + t < 16384 := by omega
  unfold wordAt wordsOf
  rw [dif_pos hp, V_v11, rowX_apply]
  refine (shapeCast_apply _ _ _ (ix3 r ⟨e, he⟩ ⟨t, ht⟩) ?_).trans ?_
  · rw [Shape.rowMajor_val_two, Shape.rowMajor_val_three]
    show (r.val * 128 + e) * 128 + t = r.val * 16384 + (128 * e + t)
    omega
  rw [ValueIdx.transpose_ix3_021_apply]
  refine shapeCast_apply _ _ _ _ ?_
  rw [Shape.rowMajor_val_two, Shape.rowMajor_val_three]
  show (128 * r.val + t) * 128 + e = (r.val * 128 + t) * 128 + e
  omega

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem lt256 (t : Fin cfg0.N) : t.val < 256 := t.isLt

/-- The token's rows as the call reads them: eight rows of 128. -/
theorem tok_apply (t : Fin cfg0.N) (a : Fin 128) (b : Fin 8) (l : Fin 128) :
    iblk m c 0 t (ix3 a b l) = argH m c
      (ix2 ⟨128 * t.val + a.val, by have := lt256 t; omega⟩ ⟨128 * b.val + l.val, by omega⟩) := by
  have e : iblk m c 0 t (ix3 a b l) = V m c main_v12 (ix3 ⟨128 * t.val + a.val, by have := lt256 t; omega⟩ b l) := by
    blk_simp [iblk]
    refine congrArg (V m c main_v12) ?_
    blk_ext [idx0 t, show (ix3 a b l : S128x8x128.Idx) 0 = a from rfl, Nat.mul_comm]
  rw [e, V_v12]
  refine shapeCast_apply _ _ _ _ ?_
  rw [Shape.rowMajor_val_two, Shape.rowMajor_val_three]
  show (128 * t.val + a.val) * 1024 + (128 * b.val + l.val) = ((128 * t.val + a.val) * 8 + b.val) * 128 + l.val
  omega

/-- The gates as the call reads them: a block of 128 tokens, turned. -/
theorem gate_apply (t : Fin cfg0.N) (e a : Fin 128) :
    iblk m c 1 t (ix3 0 e a) = argG m c (ix2 ⟨128 * t.val + a.val, by have := lt256 t; omega⟩ e) := by
  have h : iblk m c 1 t (ix3 0 e a) = V m c main_v14 (ix3 ⟨t.val, lt256 t⟩ e a) := by
    blk_simp [iblk]
    refine congrArg (V m c main_v14) ?_
    blk_ext [idx1 t, Nat.mul_comm]
  rw [h, V_v14, ValueIdx.transpose_ix3_021_apply]
  refine shapeCast_apply _ _ _ _ ?_
  rw [Shape.rowMajor_val_two, Shape.rowMajor_val_three]
  show (128 * t.val + a.val) * 128 + e.val = (t.val * 128 + a.val) * 128 + e.val
  omega

theorem rowWord_toNat (E : S32768x128.Idx → BitVec 32) (j : S32768x128.Idx) (h : (E j).toNat < 16384) :
    (rowWord E j).toNat = 4 * (E j).toNat + 8 - 4 * ((j 1).val % 2) := by
  unfold rowWord
  have h2 : (j 1).val % 2 < 2 := Nat.mod_lt _ (by decide)
  simp only [BitVec.toNat_sub, BitVec.toNat_add, BitVec.toNat_mul, BitVec.toNat_ofNat]
  omega

/-- Where every expert exists, every index word names rows of the table. -/
theorem words_ok (hE : ∀ (c : Dev nD) (j : S32768x128.Idx), (argE m c j).toNat < 16384) : WordsOk m := by
  intro c r t ht e he
  rw [wordsOf_apply m c r t e ht he]
  have h := rowWord_toNat _ _ (hE c (ix2 ⟨128 * r.val + t, by omega⟩ ⟨e, he⟩))
  have hE := hE c (ix2 ⟨128 * r.val + t, by omega⟩ ⟨e, he⟩)
  have he2 : e % 2 < 2 := Nat.mod_lt _ (by decide)
  replace h : _ = 4 * _ + 8 - 4 * (e % 2) := h
  unfold chk
  refine ⟨by rw [h]; omega, fun a => ?_⟩
  match a with
  | ⟨0, _⟩ => show _ + 8 ≤ 65552; rw [show ∀ n : ℕ, (![n, 0] : Fin 2 → ℕ) ⟨0, by decide⟩ = n from fun _ => rfl, h]; omega
  | ⟨1, _⟩ => show 0 + 128 ≤ 128; omega

end Cert.KernelIdeal.PeerU

end
-- ==== Proof.PeerU.Range.lean ====
/- What the precondition says of an expert number: read as a natural number it is below 16384. -/
module

public import proofs.«01_k».proof.Proof.PeerU.Words
public import proofs.«01_k».proof.Proof.Gen.Pre_experts_exist
public import Idealize.ShloMosaic.Lib.WordCmp

@[expose] public section

namespace Cert.KernelIdeal.PeerU

open Idealize.ShloMosaic

/-- A word that is at least zero and below 16384 as a signed number is so as a natural number. -/
theorem word_lt (x : BitVec 32) (h : IntOp.andi (IntOp.cmpi .sge x 0#32) (IntOp.cmpi .slt x 16384#32) = 1#1) : x.toNat < 16384 := by
  rw [WordCmp.cmpi_sge_eq, WordCmp.cmpi_slt_eq, WordCmp.andi_ofBool, WordCmp.ofBool_eq_one_iff, Bool.and_eq_true,
    decide_eq_true_iff, decide_eq_true_iff] at h
  have h0 : (0#32 : BitVec 32).toInt = 0 := by decide
  have h1 : (16384#32 : BitVec 32).toInt = 16384 := by decide
  rw [h0, h1] at h
  obtain ⟨ha, hb⟩ := h
  have hx := x.isLt
  have hc := BitVec.toInt_eq_toNat_cond x
  split at hc <;> omega

/-- The precondition, at one choice of one token. -/
theorem expert_lt {F : FTy → Type} [FloatOps F] (a0 : Cert.Pre_experts_exist.S32768x1024.Idx → F .f32) (a1 : Cert.Pre_experts_exist.S32768x128.Idx → BitVec 32)
    (a2 : Cert.Pre_experts_exist.S32768x128.Idx → F .f32) (a3 : Cert.Pre_experts_exist.S65536x128.Idx → BitVec 32)
    (h : @Cert.Pre_experts_exist.fn Cert.Pre_experts_exist.Gen.facts F _ a0 a1 a2 a3 = fun _ => 1#1) (j) : (a1 j).toNat < 16384 :=
  word_lt _ (congrFun h j)

end Cert.KernelIdeal.PeerU

end
-- ==== Proof.PeerU.Same.lean ====
/- The program as printed and the program read at the ideal instance are the same text: at any float values they are
   the same program, so one run serves both. -/
module

public import proofs.«01_k».proof.Defs
public import proofs.«01_k».proof.Proof.Gen.Kernel
public import proofs.«01_k».proof.Proof.Gen.KernelIdeal

@[expose] public section

set_option maxRecDepth 100000

noncomputable section

namespace Cert.KernelIdeal.PeerU

open Idealize.ShloMosaic Idealize.ShloMosaic.TcCoe Idealize.SL.Sem

set_option maxHeartbeats 8000000 in
/-- The call's body. -/
theorem same_body : Cert.Kernel.cc0_peer_u (F := Bits) = Cert.KernelIdeal.cc0_peer_u (F := Bits) := (rfl)

set_option maxHeartbeats 8000000 in
/-- The calls' bodies by label. -/
theorem same_defs₀ : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    show Cert.Kernel.cc0_peer_u (F := Bits) _ _ _ _ _ _ _ _ _ _ _ _ _ _ _ _ _ _ _ _ _ _ _ _ _ = _
    rw [same_body]
    rfl

set_option maxHeartbeats 8000000 in
/-- The programs' definitions. -/
theorem same_defs : Cert.Kernel.defs (F := Bits) = Cert.KernelIdeal.defs (F := Bits) := by
  unfold Cert.Kernel.defs Cert.KernelIdeal.defs
  exact congrArg (Pipeline.defs _) same_defs₀

set_option maxHeartbeats 8000000 in
/-- The programs. -/
theorem same_main : Cert.Kernel.main (F := Bits) = Cert.KernelIdeal.main (F := Bits) := (rfl)

end Cert.KernelIdeal.PeerU

end
-- ==== Proof.PeerU.Halves.lean ====
/- The two halves of a table word at the ideal values: a half read as a bf16 number is the word with the other
   half cleared (the lower half moved up) read as an f32 number. -/
module

public import Idealize.ShloMosaic.Lib.IdealHost

@[expose] public section

namespace Cert.KernelIdeal.PeerU

open Idealize.ShloMosaic

/-- A 16-bit number followed by sixteen zero bits denotes the same value. -/
theorem ofBits_widen (b : BitVec 16) (W : BitVec 32) (hs : W.extractLsb' 31 1 = b.extractLsb' 15 1)
    (he : W.extractLsb' 23 8 = b.extractLsb' 7 8) (hf : (W.extractLsb' 0 23).toNat = (b.extractLsb' 0 7).toNat * 65536) :
    Ideal.ofBits .f32 W = Ideal.ofBits .bf16 b := by
  show Ideal.ieee 8 23 W = Ideal.ieee 8 7 b
  unfold Ideal.ieee
  have e1 : (2 : ℝ) ^ (-133 : ℤ) = 65536 * (2 : ℝ) ^ (-149 : ℤ) := by
    rw [show (65536 : ℝ) = (2 : ℝ) ^ (16 : ℤ) by norm_num, ← zpow_add₀ (by norm_num)]
    norm_num
  have e2 : ∀ n : ℤ, (2 : ℝ) ^ (n - 127 - 7) = 65536 * (2 : ℝ) ^ (n - 127 - 23) := by
    intro n
    rw [show (65536 : ℝ) = (2 : ℝ) ^ (16 : ℤ) by norm_num, ← zpow_add₀ (by norm_num)]
    congr 1; ring
  have hz : (b.extractLsb' 0 7).toNat * 65536 = 0 ↔ (b.extractLsb' 0 7).toNat = 0 := by omega
  simp only [show (8 + 23 : ℕ) = 31 from rfl, show (8 + 7 : ℕ) = 15 from rfl, hs, he, hf, hz]
  split_ifs <;> first
    | rfl
    | (refine congrArg Real.toEReal ?_; push_cast; rw [e1]; ring)
    | (refine congrArg Real.toEReal ?_; push_cast; rw [e2]; ring)

theorem ofBits_low (w : BitVec 32) : Ideal.ofBits .bf16 (w.extractLsb' 0 16) = Ideal.ofBits .f32 (w <<< 16) := by
  refine (ofBits_widen _ _ ?_ ?_ ?_).symm
  · ext i hi; simp; grind
  · ext i hi; simp; grind
  · simp only [BitVec.extractLsb'_toNat, BitVec.toNat_shiftLeft, Nat.shiftRight_zero, Nat.shiftLeft_eq]
    have := w.isLt
    omega

theorem ofBits_high (w : BitVec 32) : Ideal.ofBits .bf16 (w.extractLsb' 16 16) = Ideal.ofBits .f32 (w &&& 4294901760#32) := by
  have hm : w &&& 4294901760#32 = (w >>> 16) <<< 16 := by
    ext i hi
    simp
    interval_cases i <;> simp
  rw [hm]
  refine (ofBits_widen _ _ ?_ ?_ ?_).symm
  · ext i hi; simp; grind
  · ext i hi; simp; grind
  · simp only [BitVec.extractLsb'_toNat, BitVec.toNat_shiftLeft, BitVec.toNat_ushiftRight, Nat.shiftRight_zero, Nat.shiftLeft_eq, Nat.shiftRight_eq_div_pow]
    have := w.isLt
    omega

end Cert.KernelIdeal.PeerU

end
-- ==== Proof.PeerU.Spec.lean ====
/- The mathematics both programs compute, on plain arrays: a token's product with an expert's row of the table,
   the row unpacked from 512 words of two bf16 numbers each, then the gated GELU of it. -/
module

public import proofs.«01_k».proof.Proof.PeerU.Halves
public import Mathlib.Logic.Equiv.Fin.Basic
public import Mathlib.Algebra.BigOperators.Fin

@[expose] public section

noncomputable section

namespace Cert.KernelIdeal.PeerU

open Idealize.ShloMosaic
open Idealize.ShloMosaic.ValueIdx (ix1 ix2 ix3)

/-- The word at row `p`, lane `l` of the packed table. -/
def wAt (W : (⟨2, ![65536, 128]⟩ : Shape).Idx → BitVec 32) (p : ℕ) (l : Fin 128) : BitVec 32 :=
  if h : p < 65536 then W (ix2 ⟨p, h⟩ l) else 0#32

/-- The number in a word's lower half, and the one in its upper half. -/
def loV (w : BitVec 32) : EReal := Ideal.ofBits .f32 (w <<< 16)
def hiV (w : BitVec 32) : EReal := Ideal.ofBits .f32 (w &&& 4294901760#32)

/-- Column `d` of row `r` of the unpacked table: the lower halves are columns 0 to 511, the upper halves the rest. -/
def tabVal (W : (⟨2, ![65536, 128]⟩ : Shape).Idx → BitVec 32) (r : ℕ) (d : ℕ) : EReal :=
  if d < 512 then loV (wAt W (4 * r + d / 128) ⟨d % 128, by omega⟩)
  else hiV (wAt W (4 * r + (d - 512) / 128) ⟨d % 128, by omega⟩)

/-- Token `t`'s product with row `r`. -/
def dotV (H : (⟨2, ![32768, 1024]⟩ : Shape).Idx → EReal) (W : (⟨2, ![65536, 128]⟩ : Shape).Idx → BitVec 32)
    (t : Fin 32768) (r : ℕ) : EReal :=
  ∑ d : Fin 1024, H (ix2 t d) * tabVal W r d.val

/-- The gated GELU of a product. -/
def gateV (g x : EReal) : EReal :=
  g * ((Ideal.ofBits .f32 0x3F000000#32 * x) * (Ideal.ofBits .f32 0x3F800000#32 + Ideal.erf (x * Ideal.ofBits .f32 0x3F3504F3#32)))

/-- What both programs return: at block `j 0`, choice `j 1` and the block's token `j 2`, the gated GELU of the token's
    product with the row its choice names. -/
def resultV (H : (⟨2, ![32768, 1024]⟩ : Shape).Idx → EReal) (E : (⟨2, ![32768, 128]⟩ : Shape).Idx → BitVec 32)
    (G : (⟨2, ![32768, 128]⟩ : Shape).Idx → EReal) (W : (⟨2, ![65536, 128]⟩ : Shape).Idx → BitVec 32)
    (r : Fin 256) (e a : Fin 128) : EReal :=
  gateV (G (ix2 ⟨128 * r.val + a.val, by omega⟩ e))
    (dotV H W ⟨128 * r.val + a.val, by omega⟩ (E (ix2 ⟨128 * r.val + a.val, by omega⟩ e)).toNat)

/-- A sum over 1024 columns, lane by lane. -/
theorem sum_lanes (f : ℕ → EReal) : ∑ d : Fin 1024, f d.val = ∑ l : Fin 128, ∑ b : Fin 8, f (128 * b.val + l.val) := by
  rw [Finset.sum_comm, ← Fintype.sum_prod_type' (f := fun (b : Fin 8) (l : Fin 128) => f (128 * b.val + l.val))]
  refine (Fintype.sum_equiv (finProdFinEquiv (m := 8) (n := 128)) _ _ fun x => ?_).symm
  show f (128 * x.1.val + x.2.val) = f (x.2.val + 128 * x.1.val)
  rw [Nat.add_comm]

theorem tabVal_lo (W) (r : ℕ) (b : ℕ) (hb : b < 4) (l : Fin 128) : tabVal W r (128 * b + l.val) = loV (wAt W (4 * r + b) l) := by
  have h : 128 * b + l.val < 512 := by omega
  have h2 : (⟨(128 * b + l.val) % 128, by omega⟩ : Fin 128) = l := Fin.ext (by show (128 * b + l.val) % 128 = l.val; omega)
  have h3 : (128 * b + l.val) / 128 = b := by omega
  unfold tabVal
  rw [if_pos h, h2, h3]

theorem tabVal_hi (W) (r : ℕ) (b : ℕ) (l : Fin 128) : tabVal W r (128 * (b + 4) + l.val) = hiV (wAt W (4 * r + b) l) := by
  have h : ¬ 128 * (b + 4) + l.val < 512 := by omega
  have h2 : (⟨(128 * (b + 4) + l.val) % 128, by omega⟩ : Fin 128) = l := Fin.ext (by show (128 * (b + 4) + l.val) % 128 = l.val; omega)
  have h3 : (128 * (b + 4) + l.val - 512) / 128 = b := by omega
  unfold tabVal
  rw [if_neg h, h2, h3]

/-- One column's term of the product. -/
def colV (H : (⟨2, ![32768, 1024]⟩ : Shape).Idx → EReal) (W : (⟨2, ![65536, 128]⟩ : Shape).Idx → BitVec 32)
    (t : Fin 32768) (r : ℕ) (n : ℕ) : EReal :=
  (if h : n < 1024 then H (ix2 t ⟨n, h⟩) else 0) * tabVal W r n

/-- The product as the call adds it up: lane by lane, the four word rows' two halves each. -/
theorem dotV_lanes (H) (W) (t : Fin 32768) (r : ℕ) :
    dotV H W t r = ∑ l : Fin 128,
      ((((loV (wAt W (4 * r + 0) l) * H (ix2 t ⟨128 * 0 + l.val, by omega⟩) + hiV (wAt W (4 * r + 0) l) * H (ix2 t ⟨128 * 4 + l.val, by omega⟩))
        + (loV (wAt W (4 * r + 1) l) * H (ix2 t ⟨128 * 1 + l.val, by omega⟩) + hiV (wAt W (4 * r + 1) l) * H (ix2 t ⟨128 * 5 + l.val, by omega⟩)))
        + (loV (wAt W (4 * r + 2) l) * H (ix2 t ⟨128 * 2 + l.val, by omega⟩) + hiV (wAt W (4 * r + 2) l) * H (ix2 t ⟨128 * 6 + l.val, by omega⟩)))
        + (loV (wAt W (4 * r + 3) l) * H (ix2 t ⟨128 * 3 + l.val, by omega⟩) + hiV (wAt W (4 * r + 3) l) * H (ix2 t ⟨128 * 7 + l.val, by omega⟩))) := by
  have hd : dotV H W t r = ∑ d : Fin 1024, colV H W t r d.val := by
    unfold dotV
    refine Finset.sum_congr rfl fun d _ => ?_
    show _ = (if h : d.val < 1024 then H (ix2 t ⟨d.val, h⟩) else 0) * tabVal W r d.val
    rw [dif_pos d.isLt]
  refine hd.trans ((sum_lanes (colV H W t r)).trans ?_)
  refine Finset.sum_congr rfl fun l _ => ?_
  have hl := l.isLt
  have eq : ∀ b : Fin 8, (if h : 128 * b.val + l.val < 1024 then H (ix2 t ⟨128 * b.val + l.val, h⟩) else 0)
      = H (ix2 t ⟨128 * b.val + l.val, by have := b.isLt; omega⟩) := fun b => dif_pos _
  simp only [colV, eq]
  rw [Fin.sum_univ_eight]
  have a0 := tabVal_lo W r 0 (by decide) l
  have a1 := tabVal_lo W r 1 (by decide) l
  have a2 := tabVal_lo W r 2 (by decide) l
  have a3 := tabVal_lo W r 3 (by decide) l
  have b0 := tabVal_hi W r 0 l
  have b1 := tabVal_hi W r 1 l
  have b2 := tabVal_hi W r 2 l
  have b3 := tabVal_hi W r 3 l
  rw [← a0, ← a1, ← a2, ← a3, ← b0, ← b1, ← b2, ← b3]
  simp only [mul_comm (tabVal _ _ _)]
  show _ + _ + _ + _ + _ + _ + _ + _ = _
  ac_rfl

end Cert.KernelIdeal.PeerU

end
-- ==== Proof.PeerU.Cells.lean ====
/- What one grid point computes, at the ideal values: each of its 128 × 128 sums is the product of a token with
   the row of the unpacked table its expert names. -/
module

public import proofs.«01_k».proof.Proof.PeerU.Words
public import proofs.«01_k».proof.Proof.PeerU.Spec
public import Idealize.ShloMosaic.Lib.Pointwise.Reduce

@[expose] public section

set_option maxRecDepth 16384

noncomputable section

namespace Cert.KernelIdeal.PeerU

open Cert.KernelIdeal Cert.KernelIdeal.Gen
open Idealize.ShloMosaic Idealize.ShloMosaic.TcCoe Idealize.ShloMosaic.Tactic Idealize.ShloMosaic.StableHlo

/-- One of a token's eight rows, repeated down eight rows. -/
theorem spread_apply (h : Vec Ideal S1x8x128 .f32) (k : Fin 8) (off : Fin 2 → ℕ) (hoff : off = ![k.val, 0]) (hs : S8x128.Slices off S1x128)
    (r : Fin 8) (l : Fin 128) :
    broadcastTo S8x128 (shapeCast S1x128 (extractStridedSlice S1x128 off (shapeCast S8x128 h shapeCasts_S1x8x128_S8x128) hs)
      shapeCasts_S1x128_S1x128) broadcasts_S1x128_S8x128 (ValueIdx.ix2 r l) = h (ValueIdx.ix3 0 k l) := by
  subst hoff
  rw [shapeCast_self]
  refine (broadcastTo_apply _ _ _ (ValueIdx.ix2 0 l) ?_).trans ?_
  · intro a
    match a with
    | ⟨0, _⟩ => rfl
    | ⟨1, _⟩ => rfl
  refine (extractStridedSlice_apply _ _ _ _ (ValueIdx.ix2 k l) ?_).trans ?_
  · intro a
    match a with
    | ⟨0, _⟩ => show k.val = k.val + 0; omega
    | ⟨1, _⟩ => show l.val = 0 + l.val; omega
  refine shapeCast_apply _ _ _ _ ?_
  rw [Shape.rowMajor_val_two, Shape.rowMajor_val_three]
  show (0 * 8 + k.val) * 128 + l.val = k.val * 128 + l.val
  omega

/-- One expert's product with one token, lane by lane, from the four word rows gathered for it. -/
theorem prodOf_apply (h : Vec Ideal S1x8x128 .f32) (D : S512x128.Idx → BitVec 32) (e l : Fin 128) :
    prodOf h D e l =
      ((((loV (D (ValueIdx.ix2 ⟨4 * e.val + 0, by omega⟩ l)) * h (ValueIdx.ix3 0 0 l) + hiV (D (ValueIdx.ix2 ⟨4 * e.val + 0, by omega⟩ l)) * h (ValueIdx.ix3 0 4 l))
        + (loV (D (ValueIdx.ix2 ⟨4 * e.val + 1, by omega⟩ l)) * h (ValueIdx.ix3 0 1 l) + hiV (D (ValueIdx.ix2 ⟨4 * e.val + 1, by omega⟩ l)) * h (ValueIdx.ix3 0 5 l)))
        + (loV (D (ValueIdx.ix2 ⟨4 * e.val + 2, by omega⟩ l)) * h (ValueIdx.ix3 0 2 l) + hiV (D (ValueIdx.ix2 ⟨4 * e.val + 2, by omega⟩ l)) * h (ValueIdx.ix3 0 6 l)))
        + (loV (D (ValueIdx.ix2 ⟨4 * e.val + 3, by omega⟩ l)) * h (ValueIdx.ix3 0 3 l) + hiV (D (ValueIdx.ix2 ⟨4 * e.val + 3, by omega⟩ l)) * h (ValueIdx.ix3 0 7 l)) : EReal) := by
  have q : ∀ s : Fin 4, D ((⟨![32 * (e.val / 8) + s.val, 0], S8x128.size, ![4, 1], inbStride ⟨e.val / 8, by omega⟩ s⟩ : LoadRect S512x128).idx
      (ValueIdx.ix2 ⟨e.val % 8, by omega⟩ l)) = D (ValueIdx.ix2 ⟨4 * e.val + s.val, by omega⟩ l) := by
    intro s
    refine congrArg D (funext fun a => ?_)
    match a with
    | ⟨0, _⟩ => exact Fin.ext (by show 32 * (e.val / 8) + s.val + 4 * (e.val % 8) = 4 * e.val + s.val; omega)
    | ⟨1, _⟩ => exact Fin.ext (by show 0 + 1 * l.val = l.val; omega)
  have q0 := q 0
  have q1 := q 1
  have q2 := q 2
  have q3 := q 3
  have lo : ∀ w : BitVec 32, Ideal.ofBits .bf16 (w.extractLsb' (0 * 16) 16) = loV w := fun w => ofBits_low w
  have hi : ∀ w : BitVec 32, Ideal.ofBits .bf16 (w.extractLsb' (1 * 16) 16) = hiV w := fun w => ofBits_high w
  have p : ∀ k : Fin 8, ∀ (off : Fin 2 → ℕ) (_ : off = ![k.val, 0]) (hs : S8x128.Slices off S1x128), _ :=
    fun k off hoff hs => spread_apply h k off hoff hs ⟨e.val % 8, by omega⟩ l
  unfold prodOf grpVal k0_pay132
  refine (shapeCast_apply _ _ _ (ValueIdx.ix2 ⟨e.val % 8, by omega⟩ l) ?_).trans ?_
  · rw [Shape.rowMajor_val_two, Shape.rowMajor_val_three]
    show e.val % 8 * 128 + l.val = (0 * 8 + e.val % 8) * 128 + l.val
    omega
  rw [← lo, ← lo, ← lo, ← lo, ← hi, ← hi, ← hi, ← hi]
  rw [← p 0 ![0, 0] rfl slices_S8x128_o0_0_S1x128, ← p 1 ![1, 0] rfl slices_S8x128_o1_0_S1x128,
    ← p 2 ![2, 0] rfl slices_S8x128_o2_0_S1x128, ← p 3 ![3, 0] rfl slices_S8x128_o3_0_S1x128,
    ← p 4 ![4, 0] rfl slices_S8x128_o4_0_S1x128, ← p 5 ![5, 0] rfl slices_S8x128_o5_0_S1x128,
    ← p 6 ![6, 0] rfl slices_S8x128_o6_0_S1x128, ← p 7 ![7, 0] rfl slices_S8x128_o7_0_S1x128]
  erw [← q0, ← q1, ← q2, ← q3]
  rfl

/-- A grid point's sums, read at expert slot `e` and token `a`: the sum of the lanes' products. -/
theorem dots_apply (X : S128x8x128.Idx → Ideal .f32) (T : S65552x128.Idx → BitVec 32) (I : S16384.Idx → BitVec 32) (e a : Fin 128) :
    dots (F := Ideal) X T I (ValueIdx.ix2 e a) = ∑ l : Fin 128, (prodTok (F := Ideal) X T I a.val e l : EReal) := by
  unfold dots k0_pay352
  rw [shapeCast_self, shapeCast_self]
  refine (broadcastTo_apply _ _ _ (ValueIdx.ix2 e 0) ?_).trans ?_
  · intro b
    match b with
    | ⟨0, _⟩ => rfl
    | ⟨1, _⟩ => rfl
  refine (shapeCast_apply _ _ _ (ValueIdx.ix1 e) ?_).trans ?_
  · rw [Shape.rowMajor_val_two, Shape.rowMajor_val_one]
    show e.val = e.val * 1 + 0
    omega
  refine (multiReduction_add_apply _ _ _ _ _ _).trans ?_
  rw [Ideal.reduceAdd_def]
  refine (Ideal.reduceAdd_r2_a1 _ _ _).trans ?_
  refine Finset.sum_congr rfl fun l _ => ?_
  refine (shapeCast_apply _ _ _ (ValueIdx.ix3 0 e l) ?_).trans rfl
  rw [Shape.rowMajor_val_two, Shape.rowMajor_val_three]
  show (0 * 128 + e.val) * 128 + l.val = e.val * 128 + l.val
  omega

variable (m : (ℓ : Loc nD τ sig) → Buf (Elt Ideal) ℓ) (c : Dev nD)

set_option maxHeartbeats 2000000 in
theorem V_arg3 : V m c main_arg3 = argW m c := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  rfl

theorem tableOf_eq : tableOf m c = tabOf (argW m c) := by
  unfold tableOf
  rw [V_arg3]
  rfl

/-- The word rows gathered for choice `e` of token `128 r + t`: the four rows of the expert it names. -/
theorem stage_apply (hE : ∀ (c : Dev nD) (j : S32768x128.Idx), (argE m c j).toNat < 16384) (r : Fin 256) (t e : Fin 128) (s : Fin 4) (l : Fin 128) :
    stageOf (tableOf m c) (wordsOf m c r) t.val (ValueIdx.ix2 ⟨4 * e.val + s.val, by omega⟩ l)
      = wAt (argW m c) (4 * (argE m c (ValueIdx.ix2 ⟨128 * r.val + t.val, by omega⟩ e)).toNat + s.val) l := by
  have hw := wordsOf_apply m c r t.val e.val t.isLt e.isLt
  have hn := rowWord_toNat _ _ (hE c (ValueIdx.ix2 ⟨128 * r.val + t.val, by omega⟩ ⟨e.val, e.isLt⟩))
  have hE := hE c (ValueIdx.ix2 ⟨128 * r.val + t.val, by omega⟩ e)
  rw [← hw] at hn
  replace hn : _ = 4 * (argE m c (ValueIdx.ix2 ⟨128 * r.val + t.val, by omega⟩ e)).toNat + 8 - 4 * (e.val % 2) := hn
  show tabAt (tableOf m c) ((wordAt (wordsOf m c r) (128 * ((4 * e.val + s.val) / 4) + t.val)).toNat + (4 * e.val + s.val) % 8) l = _
  rw [show (4 * e.val + s.val) / 4 = e.val by omega, hn, tableOf_eq]
  generalize (argE m c (ValueIdx.ix2 ⟨128 * r.val + t.val, by omega⟩ e)).toNat = E at hE ⊢
  have hs := s.isLt
  rw [show 4 * E + 8 - 4 * (e.val % 2) + (4 * e.val + s.val) % 8 = 4 * E + s.val + 8 by omega]
  unfold tabAt wAt
  rw [dif_pos (by omega : 4 * E + s.val + 8 < 65552), dif_pos (by omega : 4 * E + s.val < 65536)]
  unfold tabOf
  rw [dif_pos (show 8 ≤ 4 * E + s.val + 8 ∧ 4 * E + s.val + 8 < 65544 by omega)]
  refine congrArg (argW m c) ?_
  funext a
  match a with
  | ⟨0, _⟩ => exact Fin.ext (by show 4 * E + s.val + 8 - 8 = 4 * E + s.val; omega)
  | ⟨1, _⟩ => rfl

/-- The sums of grid point `t`: token `128 t + a`'s product with the row its choice `e` names. -/
theorem point_dots (hE : ∀ (c : Dev nD) (j : S32768x128.Idx), (argE m c j).toNat < 16384) (t : Fin cfg0.N) (e a : Fin 128) :
    dots (F := Ideal) (iblk m c 0 t) (tableOf m c) (wordsOf m c (grid0.coords t 0)) (ValueIdx.ix2 e a)
      = dotV (argH m c) (argW m c) ⟨128 * t.val + a.val, by have := lt256 t; omega⟩
          (argE m c (ValueIdx.ix2 ⟨128 * t.val + a.val, by have := lt256 t; omega⟩ e)).toNat := by
  have hr : (grid0.coords t 0 : Fin 256) = ⟨t.val, lt256 t⟩ := Fin.ext (coord0 t)
  rw [dots_apply, dotV_lanes]
  refine Finset.sum_congr rfl fun l _ => ?_
  unfold prodTok
  rw [prodOf_apply]
  have hS : ∀ s : Fin 4, stageOf (tableOf m c) (wordsOf m c (grid0.coords t 0)) a.val (ValueIdx.ix2 ⟨4 * e.val + s.val, by omega⟩ l)
      = wAt (argW m c) (4 * (argE m c (ValueIdx.ix2 ⟨128 * t.val + a.val, by have := lt256 t; omega⟩ e)).toNat + s.val) l := by
    intro s
    rw [hr]
    exact stage_apply m c hE ⟨t.val, lt256 t⟩ a e s l
  have hH : ∀ b : Fin 8, hRow (F := Ideal) (iblk m c 0 t) a.val (ValueIdx.ix3 0 b l)
      = argH m c (ValueIdx.ix2 ⟨128 * t.val + a.val, by have := lt256 t; omega⟩ ⟨128 * b.val + l.val, by omega⟩) := by
    intro b
    have : hRow (F := Ideal) (iblk m c 0 t) a.val (ValueIdx.ix3 0 b l) = iblk m c 0 t (ValueIdx.ix3 a b l) := dif_pos a.isLt
    rw [this, tok_apply]
  have s0 := hS 0
  have s1 := hS 1
  have s2 := hS 2
  have s3 := hS 3
  simp only [Fin.val_zero, Fin.val_one, Fin.val_two, show ((3 : Fin 4) : ℕ) = 3 from rfl] at s0 s1 s2 s3
  rw [s0, s1, s2, s3, hH 0, hH 1, hH 2, hH 3, hH 4, hH 5, hH 6, hH 7]
  rfl

end Cert.KernelIdeal.PeerU

end
-- ==== Proof.PeerU.Result.lean ====
/- The array the call leaves, entry by entry, at the ideal values. -/
module

public import proofs.«01_k».proof.Proof.PeerU.Cells

@[expose] public section

set_option maxRecDepth 16384

noncomputable section

namespace Cert.KernelIdeal.PeerU

open Cert.KernelIdeal Cert.KernelIdeal.Gen
open Idealize.ShloMosaic Idealize.ShloMosaic.TcCoe Idealize.ShloMosaic.Tactic Idealize.ShloMosaic.StableHlo

/-- The call's last step at one entry: the gated GELU of the sum, times the gate. -/
theorem gate_entry (A : Vec Ideal S128x128 .f32) (G : Vec Ideal S1x128x128 .f32) (e a : Fin 128) :
    (k0_pay1 A G (ValueIdx.ix3 0 e a) : EReal) = gateV (G (ValueIdx.ix3 0 e a)) (A (ValueIdx.ix2 e a)) := by
  unfold k0_pay1
  refine (shapeCast_apply _ _ _ (ValueIdx.ix2 e a) ?_).trans ?_
  · rw [Shape.rowMajor_val_two, Shape.rowMajor_val_three]
    show e.val * 128 + a.val = (0 * 128 + e.val) * 128 + a.val
    omega
  have hg : shapeCast S128x128 G shapeCasts_S1x128x128_S128x128 (ValueIdx.ix2 e a) = G (ValueIdx.ix3 0 e a) := by
    refine shapeCast_apply _ _ _ _ ?_
    rw [Shape.rowMajor_val_two, Shape.rowMajor_val_three]
    show (0 * 128 + e.val) * 128 + a.val = e.val * 128 + a.val
    omega
  unfold gateV
  rw [← hg]
  rfl

variable (m : (ℓ : Loc nD τ sig) → Buf (Elt Ideal) ℓ) (c : Dev nD)

/-- One entry of a grid point's block. -/
theorem point_apply (hE : ∀ (c : Dev nD) (j : S32768x128.Idx), (argE m c j).toNat < 16384) (t : Fin cfg0.N) (e a : Fin 128) :
    (outAt m c t (ValueIdx.ix3 0 e a) : EReal) = resultV (argH m c) (argE m c) (argG m c) (argW m c) ⟨t.val, lt256 t⟩ e a := by
  unfold outAt blockOut
  rw [gate_entry, point_dots m c hE t e a, gate_apply m c t e a]
  rfl

/-- The array the call leaves. -/
theorem result_eq (hE : ∀ (c : Dev nD) (j : S32768x128.Idx), (argE m c j).toNat < 16384) :
    (dats m 0 c).arrAt 2 cfg0.N = (fun y : S256x128x128.Idx => resultV (argH m c) (argE m c) (argG m c) (argW m c) (y 0) (y 1) (y 2)) := by
  refine (dats m 0 c).arrAt_eq_of_covers 2 _ (by decide +kernel) fun t hf y => ?_
  blk_simp
  rw [after0_2]
  obtain ⟨u, e, a, rfl⟩ : ∃ (u : Fin 1) (e a : Fin 128), y = (ValueIdx.ix3 u e a : S1x128x128.Idx) :=
    ⟨y 0, y 1, y 2, funext fun b => by match b with | ⟨0, _⟩ => rfl | ⟨1, _⟩ => rfl | ⟨2, _⟩ => rfl⟩
  obtain rfl : u = 0 := Subsingleton.elim _ _
  refine (point_apply m c hE t e a).trans ?_
  have h0 : ((cfg0.win 2).blk t).view.emb (ValueIdx.ix3 0 e a : S1x128x128.Idx) = (ValueIdx.ix3 ⟨t.val, lt256 t⟩ e a : S256x128x128.Idx) := by
    blk_ext [idx2 t]
  erw [h0]

end Cert.KernelIdeal.PeerU

end
-- ==== Proof.PeerU.Reference.lean ====
/- The reference's result, entry by entry, at the ideal values: the row an expert names taken from the unpacked table,
   the product with the token, the gated GELU. -/
module

public import proofs.«01_k».proof.Proof.Gen.ReferenceIdeal.Run
public import proofs.«01_k».proof.Proof.PeerU.Spec
public import Idealize.ShloMosaic.Lib.Pipeline.Value
public import Idealize.ShloMosaic.Lib.ValueLayout
public import Idealize.ShloMosaic.Lib.ReduceAll
public import Idealize.ShloMosaic.Lib.WordCmp
public import Idealize.ShloMosaic.Lib.MatmulPlain

@[expose] public section

set_option maxRecDepth 16384

noncomputable section

namespace Cert.ReferenceIdeal.PeerU

open Cert.ReferenceIdeal Cert.ReferenceIdeal.Gen
open Idealize.ShloMosaic Idealize.ShloMosaic.TcCoe Idealize.ShloMosaic.Tactic Idealize.ShloMosaic.StableHlo
open Cert.KernelIdeal.PeerU (wAt loV hiV tabVal dotV gateV resultV)

section Take

variable (E : IVec S32768x128 32)

/-- The expert numbers, a negative one counted from the end. -/
def wrapped : IVec S32768x128 32 :=
  select (cmpi .slt E (broadcastInDim S32768x128 ![] bcast_S_S32768x128 (constantI S_ 32 0#32)))
    (addi E (broadcastInDim S32768x128 ![] bcast_S_S32768x128 (constantI S_ 32 16384#32))) E

/-- The same with an axis of one element at the end. -/
def rows : IVec S32768x128x1 32 := broadcastInDim S32768x128x1 ![0, 1] bcast_S32768x128_S32768x128x1_0_1 (wrapped E)

/-- Whether a row number lies in the table. -/
def inside : IVec S32768x128 1 :=
  Host.reduce IntOp.andi (andi (cmpi .sge (rows E) (broadcastInDim S32768x128x1 ![] bcast_S_S32768x128x1 (constantI S_ 32 0#32)))
    (cmpi .sle (rows E) (broadcastInDim S32768x128x1 ![0, 1, 2] bcast_S1x1x1_S32768x128x1_0_1_2
      (broadcastInDim S1x1x1 ![2] bcast_S1_S1x1x1_2 (constantI S1 32 16383#32))))) (constantI S_ 1 1#1)
    reducesTo_S32768x128x1_S32768x128_d2 h_S_

/-- The unpacked table. -/
def table (W : IVec S65536x128 32) : FVec Ideal S16384x1024 .f32 :=
  concatenate S16384x1024 1
    [⟨S16384x512, bitcastToFloat (F := Ideal) .f32 (Host.shli (shapeCast S16384x512 W shapeCasts_S65536x128_S16384x512)
        (broadcastInDim S16384x512 ![] bcast_S_S16384x512 (constantI S_ 32 16#32)))⟩,
     ⟨S16384x512, bitcastToFloat (F := Ideal) .f32 (andi (shapeCast S16384x512 W shapeCasts_S65536x128_S16384x512)
        (broadcastInDim S16384x512 ![] bcast_S_S16384x512 (constantI S_ 32 4294901760#32)))⟩]
    concatenates_S16384x512_S16384x512_S16384x1024_d1

/-- The rows the expert numbers name. -/
def taken (W : IVec S65536x128 32) : FVec Ideal S32768x128x1024 .f32 :=
  select (broadcastInDim S32768x128x1024 ![0, 1] bcast_S32768x128_S32768x128x1024_0_1 (inside E))
    (Host.gather gather_S16384x1024_S32768x128x1_S32768x128x1024_2_0_n_n_0_2_11024 (table W) (rows E))
    (broadcastInDim S32768x128x1024 ![] bcast_S_S32768x128x1024 (constant S_ .f32 0x7FC00000#32))

variable (hE : ∀ j, (E j).toNat < 16384)

theorem not_neg (x : BitVec 32) (h : x.toNat < 16384) : IntOp.cmpi .slt x 0#32 = 0#1 := by
  rw [WordCmp.cmpi_slt_of_lt (by omega) (by decide)]
  rfl

include hE

theorem wrapped_apply (j : S32768x128.Idx) : wrapped E j = E j := by
  show Scalar.select (IntOp.cmpi .slt (E j) 0#32) _ (E j) = E j
  rw [not_neg _ (hE j)]
  rfl

theorem rows_apply (t : Fin 32768) (e : Fin 128) (k : Fin 1) : rows E (ValueIdx.ix3 t e k) = E (ValueIdx.ix2 t e) := by
  refine (broadcastInDim_apply _ _ _ _ (ValueIdx.ix2 t e) ?_).trans (wrapped_apply E hE _)
  intro a
  match a with
  | ⟨0, _⟩ => rfl
  | ⟨1, _⟩ => rfl

theorem inside_apply (j : S32768x128.Idx) : inside E j = 1#1 := by
  refine Host.reduce_andi_one _ _ _ _ _ rfl fun i => ?_
  obtain ⟨t, e, k, rfl⟩ : ∃ (t : Fin 32768) (e : Fin 128) (k : Fin 1), i = (ValueIdx.ix3 t e k : S32768x128x1.Idx) :=
    ⟨i 0, i 1, i 2, funext fun b => by match b with | ⟨0, _⟩ => rfl | ⟨1, _⟩ => rfl | ⟨2, _⟩ => rfl⟩
  show IntOp.andi (IntOp.cmpi .sge (rows E (ValueIdx.ix3 t e k)) 0#32) (IntOp.cmpi .sle (rows E (ValueIdx.ix3 t e k)) 16383#32) = 1#1
  rw [rows_apply E hE]
  have h := hE (ValueIdx.ix2 t e)
  generalize E (ValueIdx.ix2 t e) = x at h
  rw [WordCmp.cmpi_sge_eq, WordCmp.cmpi_sle_eq, WordCmp.toInt_eq_toNat_of_lt_half (x := x) (by omega)]
  rw [show (0#32 : BitVec 32).toInt = 0 from rfl, show (16383#32 : BitVec 32).toInt = 16383 from rfl,
    decide_eq_true (by omega), decide_eq_true (by omega)]
  rfl

theorem taken_eq (W : IVec S65536x128 32) (t : Fin 32768) (e : Fin 128) (d : Fin 1024) :
    taken E W (ValueIdx.ix3 t e d)
      = Host.gather gather_S16384x1024_S32768x128x1_S32768x128x1024_2_0_n_n_0_2_11024 (table W) (rows E) (ValueIdx.ix3 t e d) := by
  have hm : broadcastInDim S32768x128x1024 ![0, 1] bcast_S32768x128_S32768x128x1024_0_1 (inside E) (ValueIdx.ix3 t e d) = 1#1 := by
    refine (broadcastInDim_apply _ _ _ _ (ValueIdx.ix2 t e) ?_).trans (inside_apply E hE _)
    intro a
    match a with
    | ⟨0, _⟩ => rfl
    | ⟨1, _⟩ => rfl
  unfold taken
  show Scalar.select (broadcastInDim S32768x128x1024 ![0, 1] bcast_S32768x128_S32768x128x1024_0_1 (inside E) (ValueIdx.ix3 t e d)) _ _ = _
  rw [hm]
  rfl

/-- Reading rows out of the table: entry `d` of the row that choice `e` of token `t` names. -/
theorem gather_apply (T : S16384x1024.Idx → EReal) (t : Fin 32768) (e : Fin 128) (d : Fin 1024) :
    Host.gather gather_S16384x1024_S32768x128x1_S32768x128x1024_2_0_n_n_0_2_11024 T (rows E) (ValueIdx.ix3 t e d)
      = T (ValueIdx.ix2 ⟨(E (ValueIdx.ix2 t e)).toNat, hE _⟩ d) := by
  have h := hE (ValueIdx.ix2 t e)
  unfold Host.gather
  refine congrArg T (funext fun a => Fin.ext ?_)
  match a with
  | ⟨0, _⟩ =>
    show GatherDims.start _ (ValueIdx.ix3 t e d) (rows E) 0 + GatherDims.batchCoord _ (ValueIdx.ix3 t e d) 0
      + GatherDims.offCoord _ (ValueIdx.ix3 t e d) 0 = (E (ValueIdx.ix2 t e)).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x1024_S32768x128x1_S32768x128x1024_2_0_n_n_0_2_11024.startIndexMap from
      List.mem_singleton.mpr rfl)]
    have hsi : gather_S16384x1024_S32768x128x1_S32768x128x1024_2_0_n_n_0_2_11024.siIdx (ValueIdx.ix3 t e d)
        ⟨List.idxOf (0 : Fin 2) gather_S16384x1024_S32768x128x1_S32768x128x1024_2_0_n_n_0_2_11024.startIndexMap,
          List.idxOf_lt_length_iff.2 (List.mem_singleton.mpr rfl)⟩ = ValueIdx.ix3 t e (0 : Fin 1) := by
      funext b; refine Fin.ext ?_
      match b with
      | ⟨0, _⟩ => rfl
      | ⟨1, _⟩ => rfl
      | ⟨2, _⟩ => rfl
    rw [hsi, rows_apply E hE, WordCmp.toInt_eq_toNat_of_lt_half (by omega)]
    show min ((E (ValueIdx.ix2 t e)).toNat : Int).toNat (16384 - 1) = _
    omega
  | ⟨1, _⟩ =>
    show GatherDims.start _ (ValueIdx.ix3 t e d) (rows E) 1 + GatherDims.batchCoord _ (ValueIdx.ix3 t e d) 1
      + GatherDims.offCoord _ (ValueIdx.ix3 t e d) 1 = d.val
    rw [GatherDims.batchCoord_eq_zero _ _ _ List.not_mem_nil]
    have hm : ¬ (1 : Fin 2) ∈ gather_S16384x1024_S32768x128x1_S32768x128x1024_2_0_n_n_0_2_11024.startIndexMap := by
      show ¬ (1 : Fin 2) ∈ [(0 : Fin 2)]
      decide
    have hk : (1 : Fin 2) ∈ gather_S16384x1024_S32768x128x1_S32768x128x1024_2_0_n_n_0_2_11024.sKept := by
      refine (GatherDims.mem_sKept _ _).mpr ⟨?_, List.not_mem_nil⟩
      show ¬ (1 : Fin 2) ∈ [(0 : Fin 2)]
      decide
    unfold GatherDims.start GatherDims.offCoord
    rw [dif_neg hm, dif_pos hk]
    simp only [Nat.zero_add, Nat.add_zero]
    rfl

omit hE in
/-- The unpacked table at row `r`, column `d`. -/
theorem table_apply (W : IVec S65536x128 32) (r : Fin 16384) (d : Fin 1024) :
    (table W (ValueIdx.ix2 r d) : EReal) = tabVal W r.val d.val := by
  have hw : ∀ c : Fin 512, shapeCast S16384x512 W shapeCasts_S65536x128_S16384x512 (ValueIdx.ix2 r c)
      = wAt W (4 * r.val + c.val / 128) ⟨c.val % 128, by omega⟩ := by
    intro c
    unfold wAt
    rw [dif_pos (by omega)]
    refine shapeCast_apply _ _ _ _ ?_
    rw [Shape.rowMajor_val_two, Shape.rowMajor_val_two]
    show (4 * r.val + c.val / 128) * 128 + c.val % 128 = r.val * 512 + c.val
    omega
  unfold table tabVal
  by_cases hd : d.val < 512
  · rw [if_pos hd]
    refine (concatenate_pair_apply_left (t := S16384x1024) (s₁ := S16384x512) (s₂ := S16384x512) 1 _ _ _ (ValueIdx.ix2 r d) rfl (ValueIdx.ix2 r ⟨d.val, hd⟩) ?_).trans ?_
    · intro b
      match b with
      | ⟨0, _⟩ => rfl
      | ⟨1, _⟩ => rfl
    show Ideal.ofBits .f32 (shapeCast S16384x512 W shapeCasts_S65536x128_S16384x512 (ValueIdx.ix2 r ⟨d.val, hd⟩) <<< (16#32).toNat) = _
    rw [hw]
    rfl
  · rw [if_neg hd]
    refine (concatenate_pair_apply_right (t := S16384x1024) (s₁ := S16384x512) (s₂ := S16384x512) 1 _ _ _ (ValueIdx.ix2 r d) rfl rfl (ValueIdx.ix2 r ⟨d.val - 512, by have := d.isLt; omega⟩) ?_ ?_).trans ?_
    · intro b hb
      match b with
      | ⟨0, _⟩ => rfl
      | ⟨1, _⟩ => exact absurd rfl hb
    · show d.val - 512 + 512 = d.val
      omega
    show Ideal.ofBits .f32 (shapeCast S16384x512 W shapeCasts_S65536x128_S16384x512 (ValueIdx.ix2 r ⟨d.val - 512, _⟩) &&& 4294901760#32) = _
    rw [hw]
    unfold hiV
    congr 3
    exact Fin.ext (by show (d.val - 512) % 128 = d.val % 128; omega)

theorem taken_apply (W : IVec S65536x128 32) (t : Fin 32768) (e : Fin 128) (d : Fin 1024) :
    (taken E W (ValueIdx.ix3 t e d) : EReal) = tabVal W (E (ValueIdx.ix2 t e)).toNat d.val := by
  rw [taken_eq E hE, gather_apply E hE]
  exact table_apply W _ d

end Take

/-- The contraction's index is a column. -/
def colEquiv : dot_S32768x1024_S32768x128x1024_S32768x128_1_2_n_1_0_0.contr.Idx ≃ Fin 1024 :=
  ValueIdx.contrEquiv1 _ 1024 rfl rfl

/-- The host's product at token `t` and choice `e`. -/
theorem dot_apply (H : FVec Ideal S32768x1024 .f32) (R : FVec Ideal S32768x128x1024 .f32) (t : Fin 32768) (e : Fin 128) :
    (Host.dotGeneral dot_S32768x1024_S32768x128x1024_S32768x128_1_2_n_1_0_0 none H R (ValueIdx.ix2 t e) : EReal)
      = ∑ d : Fin 1024, H (ValueIdx.ix2 t d) * R (ValueIdx.ix3 t e d) := by
  unfold Host.dotGeneral
  rw [Ideal.dotGeneral_apply, ← Equiv.sum_comp colEquiv.symm]
  refine Finset.sum_congr rfl fun d _ => ?_
  have hk := ValueIdx.contrEquiv1_symm_val dot_S32768x1024_S32768x128x1024_S32768x128_1_2_n_1_0_0 1024 rfl rfl d
  have el : dot_S32768x1024_S32768x128x1024_S32768x128_1_2_n_1_0_0.lhsIdx (ValueIdx.ix2 t e) (colEquiv.symm d) = ValueIdx.ix2 t d := by
    funext a; apply Fin.ext
    match a with
    | ⟨0, _⟩ => rfl
    | ⟨1, _⟩ => exact hk
  have er : dot_S32768x1024_S32768x128x1024_S32768x128_1_2_n_1_0_0.rhsIdx (ValueIdx.ix2 t e) (colEquiv.symm d) = ValueIdx.ix3 t e d := by
    funext a; apply Fin.ext
    match a with
    | ⟨0, _⟩ => rfl
    | ⟨1, _⟩ => rfl
    | ⟨2, _⟩ => exact hk
  rw [el, er]

/-- The reference's result, from its arguments. -/
def outR (H : FVec Ideal S32768x1024 .f32) (E : IVec S32768x128 32) (G : FVec Ideal S32768x128 .f32) (W : IVec S65536x128 32) :
    FVec Ideal S256x128x128 .f32 :=
  let D := Host.dotGeneral dot_S32768x1024_S32768x128x1024_S32768x128_1_2_n_1_0_0 none H (taken E W)
  transpose S256x128x128 [0, 2, 1] (shapeCast S256x128x128
    (mulf G (mulf (mulf (broadcastInDim S32768x128 ![] bcast_S_S32768x128 (constant S_ .f32 0x3F000000#32)) D)
      (addf (broadcastInDim S32768x128 ![] bcast_S_S32768x128 (constant S_ .f32 0x3F800000#32))
        (Host.erf (mulf D (broadcastInDim S32768x128 ![] bcast_S_S32768x128 (constant S_ .f32 0x3F3504F3#32)))))))
    shapeCasts_S32768x128_S256x128x128) transposes_S256x128x128_S256x128x128_0_2_1

theorem outR_apply (H : FVec Ideal S32768x1024 .f32) (E : IVec S32768x128 32) (G : FVec Ideal S32768x128 .f32) (W : IVec S65536x128 32)
    (hE : ∀ j, (E j).toNat < 16384) (r : Fin 256) (e a : Fin 128) :
    (outR H E G W (ValueIdx.ix3 r e a) : EReal) = resultV H E G W r e a := by
  unfold outR resultV
  refine (ValueIdx.transpose_ix3_021_apply _ _ r e a).trans ?_
  refine (shapeCast_apply _ _ _ (ValueIdx.ix2 ⟨128 * r.val + a.val, by omega⟩ e) ?_).trans ?_
  · rw [Shape.rowMajor_val_two, Shape.rowMajor_val_three]
    show (128 * r.val + a.val) * 128 + e.val = (r.val * 128 + a.val) * 128 + e.val
    omega
  have hd : (Host.dotGeneral dot_S32768x1024_S32768x128x1024_S32768x128_1_2_n_1_0_0 none H (taken E W)
      (ValueIdx.ix2 ⟨128 * r.val + a.val, by omega⟩ e) : EReal)
      = dotV H W ⟨128 * r.val + a.val, by omega⟩ (E (ValueIdx.ix2 ⟨128 * r.val + a.val, by omega⟩ e)).toNat := by
    rw [dot_apply]
    unfold dotV
    exact Finset.sum_congr rfl fun d _ => by rw [taken_apply E hE]
  rw [← hd]
  rfl

/-- The reference program leaves that array. -/
theorem res_eq (m : (ℓ : Loc nD τ sig) → Buf (Elt Ideal) ℓ) (c : Dev nD) :
    Cert.ReferenceIdeal.Value.res_main_v20 m c = outR (m ((c.tc : Thread nD τ).loc main_arg0)) (m ((c.tc : Thread nD τ).loc main_arg1))
      (m ((c.tc : Thread nD τ).loc main_arg2)) (m ((c.tc : Thread nD τ).loc main_arg3)) := by
  unfold Cert.ReferenceIdeal.Value.res_main_v20
  rfl

end Cert.ReferenceIdeal.PeerU

end
-- ==== Proof.PeerU.Equal.lean ====
/- At the ideal values the kernel's program and the reference leave the same array. -/
module

public import proofs.«01_k».proof.Defs
public import proofs.«01_k».proof.Proof.PeerU.Range
public import proofs.«01_k».proof.Proof.PeerU.Result
public import proofs.«01_k».proof.Proof.PeerU.Reference

@[expose] public section

set_option maxRecDepth 16384

noncomputable section

namespace Cert.KernelIdeal.PeerU

open Cert.KernelIdeal Cert.KernelIdeal.Gen
open Idealize.ShloMosaic Idealize.ShloMosaic.TcCoe Idealize.SL.Sem

/-- The kernel's array, at a start the precondition admits. -/
theorem kernel_array (m : (ℓ : Loc nD τ sig) → Buf (Elt Ideal) ℓ) (hE : ∀ (c : Dev nD) (j : S32768x128.Idx), (argE m c j).toNat < 16384)
    (c : Dev nD) : ((dats m 0 c).arrAt 2 cfg0.N : S256x128x128.Idx → EReal)
      = Cert.ReferenceIdeal.PeerU.outR (argH m c) (argE m c) (argG m c) (argW m c) := by
  refine (result_eq m c hE).trans ?_
  funext y
  obtain ⟨r, e, a, rfl⟩ : ∃ (r : Fin 256) (e a : Fin 128), y = (ValueIdx.ix3 r e a : S256x128x128.Idx) :=
    ⟨y 0, y 1, y 2, funext fun b => by match b with | ⟨0, _⟩ => rfl | ⟨1, _⟩ => rfl | ⟨2, _⟩ => rfl⟩
  exact (Cert.ReferenceIdeal.PeerU.outR_apply (argH m c) (argE m c) (argG m c) (argW m c) (hE c) r e a).symm

theorem same_result : @Cert.algebraic_KernelIdeal_ReferenceIdeal Cert.KernelIdeal.Gen.facts Cert.ReferenceIdeal.Gen.facts
    Cert.Pre_experts_exist.Gen.facts := by
  intro m g m' g' hpre hargs
  have hE : ∀ (c : Dev nD) (j : S32768x128.Idx), (argE m c j).toNat < 16384 := fun c => expert_lt _ _ _ _ (hpre c)
  refine ⟨fun c => (dats m 0 c).arrAt 2 cfg0.N, ?_, ?_⟩
  · exact (θ_run Cert.KernelIdeal.defs _ _).mono (fun _ h c => ⟨(h.1 c).2, (h.1 c).1⟩) (run_result (F := Ideal) m g (words_ok m hE))
  · refine (θ_run Cert.ReferenceIdeal.defs _ _).mono (fun _ h c => ⟨(h c).1.trans ?_, (h c).2⟩) (Cert.ReferenceIdeal.Value.run (F := Ideal) m' g')
    obtain ⟨h0, h1, h2, h3⟩ := hargs c
    refine (Cert.ReferenceIdeal.PeerU.res_eq m' c).trans ?_
    rw [h0, h1, h2, h3]
    exact (kernel_array m hE c).symm

end Cert.KernelIdeal.PeerU

end
-- ==== Proof.OutProj.Spec.lean ====
/- What the call computes of one token, on extended reals: the residual stream after the output projection, its
   normalised form, and the queries. -/
module

public import Idealize.ShloMosaic.PureOps.Ideal
public import Idealize.ShloMosaic.Lib.ValueIdx

@[expose] public section

noncomputable section

namespace Cert.OutProj

open Idealize.ShloMosaic

/-- One over the root mean square of a row; `d` is the row's length as a float, and the last constant is the epsilon. -/
def invRms {n : ℕ} (d : BitVec 32) (f : Fin n → EReal) : EReal :=
  Ideal.rsqrt (Ideal.div (∑ k, f k * f k) (Ideal.ofBits .f32 d) + Ideal.ofBits .f32 0x358637BD#32)

/-- A row normalised and scaled. -/
def normed {n : ℕ} (d : BitVec 32) (f g : Fin n → EReal) (k : Fin n) : EReal := f k * invRms d f * g k

/-- The residual stream: the attention row, normalised, through the first 512 rows of the weight, the other row through
    the last 512. -/
def stream (a b : Fin 512 → EReal) (x : Fin 1024 → EReal) (ag : Fin 512 → EReal) (W : Fin 1024 → Fin 1024 → EReal) (j : Fin 1024) : EReal :=
  x j + ((∑ k : Fin 512, normed 0x44000000#32 a ag k * W ⟨k.val, by omega⟩ j) + ∑ k : Fin 512, b k * W ⟨512 + k.val, by omega⟩ j)

/-- The stream normalised over its 1024 entries. -/
def hidden (a b : Fin 512 → EReal) (x : Fin 1024 → EReal) (ag : Fin 512 → EReal) (W : Fin 1024 → Fin 1024 → EReal) (g : Fin 1024 → EReal)
    (j : Fin 1024) : EReal := normed 0x44800000#32 (stream a b x ag W) g j

/-- The queries. -/
def query (a b : Fin 512 → EReal) (x : Fin 1024 → EReal) (ag : Fin 512 → EReal) (W : Fin 1024 → Fin 1024 → EReal) (g : Fin 1024 → EReal)
    (Q : Fin 1024 → Fin 2048 → EReal) (q : Fin 2048) : EReal := ∑ k : Fin 1024, hidden a b x ag W g k * Q k q

end Cert.OutProj

end
-- ==== Proof.OutProj.Block.lean ====
/- What one grid point computes from its blocks, entry by entry, at the ideal values. -/
module

public import proofs.«01_k».proof.Proof.OutProj.Spec
public import proofs.«01_k».proof.Proof.Gen.Kernel2Ideal.Frame
public import Idealize.ShloMosaic.Lib.Pipeline.Value
public import Idealize.ShloMosaic.Lib.MatmulPlain
public import Idealize.ShloMosaic.Lib.Pointwise.Reduce
public import Idealize.ShloMosaic.PureOps.Ideal.Laws
public import Idealize.ShloMosaic.Lib.IdealHost

@[expose] public section

set_option maxRecDepth 16384

noncomputable section

namespace Cert.Kernel2Ideal.OutProj

open Cert.Kernel2Ideal Cert.Kernel2Ideal.Gen Cert.OutProj
open Idealize.ShloMosaic Idealize.ShloMosaic.TcCoe

/-- A column laid across a 512-wide row. -/
theorem across512 (v : FVec Ideal S512x1 .f32) (a k : Fin 512) :
    broadcastTo S512x512 v broadcasts_S512x1_S512x512 (ValueIdx.ix2 a k) = v (ValueIdx.ix2 a 0) := by
  refine broadcastTo_apply v _ _ _ fun b => ?_
  match b with
  | ⟨0, _⟩ => rfl
  | ⟨1, _⟩ => rfl

theorem across1024 (v : FVec Ideal S512x1 .f32) (a : Fin 512) (k : Fin 1024) :
    broadcastTo S512x1024 v broadcasts_S512x1_S512x1024 (ValueIdx.ix2 a k) = v (ValueIdx.ix2 a 0) := by
  refine broadcastTo_apply v _ _ _ fun b => ?_
  match b with
  | ⟨0, _⟩ => rfl
  | ⟨1, _⟩ => rfl

theorem down512 (v : FVec Ideal S1x512 .f32) (a k : Fin 512) :
    broadcastTo S512x512 v broadcasts_S1x512_S512x512 (ValueIdx.ix2 a k) = v (ValueIdx.ix2 0 k) := by
  refine broadcastTo_apply v _ _ _ fun b => ?_
  match b with
  | ⟨0, _⟩ => rfl
  | ⟨1, _⟩ => rfl

theorem down1024 (v : FVec Ideal S1x1024 .f32) (a : Fin 512) (k : Fin 1024) :
    broadcastTo S512x1024 v broadcasts_S1x1024_S512x1024 (ValueIdx.ix2 a k) = v (ValueIdx.ix2 0 k) := by
  refine broadcastTo_apply v _ _ _ fun b => ?_
  match b with
  | ⟨0, _⟩ => rfl
  | ⟨1, _⟩ => rfl

/-- A vector stood up as a column. -/
theorem column (v : FVec Ideal S512 .f32) (a : Fin 512) :
    shapeCast S512x1 v shapeCasts_S512_S512x1 (ValueIdx.ix2 a 0) = v (ValueIdx.ix1 a) := by
  refine shapeCast_apply _ _ _ _ ?_
  rw [Shape.rowMajor_val_two, Shape.rowMajor_val_one]
  show a.val = a.val * 1 + 0
  omega

theorem rowSum512 (v : FVec Ideal S512x512 .f32) (a : Fin 512) :
    multiReduction .add [1] S512 v 0x00000000#32 reduces_S512x512_S512 (.inl rfl) rfl (ValueIdx.ix1 a) = ∑ k : Fin 512, v (ValueIdx.ix2 a k) := by
  refine (multiReduction_add_apply _ _ _ _ _ _).trans ?_
  rw [Ideal.reduceAdd_def]
  exact Ideal.reduceAdd_r2_a1 _ _ _

theorem rowSum1024 (v : FVec Ideal S512x1024 .f32) (a : Fin 512) :
    multiReduction .add [1] S512 v 0x00000000#32 reduces_S512x1024_S512 (.inl rfl) rfl (ValueIdx.ix1 a) = ∑ k : Fin 1024, v (ValueIdx.ix2 a k) := by
  refine (multiReduction_add_apply _ _ _ _ _ _).trans ?_
  rw [Ideal.reduceAdd_def]
  exact Ideal.reduceAdd_r2_a1 _ _ _

/-- The projection's product: 512 rows by 512, by 1024 columns. -/
theorem dot512 (l : FVec Ideal S512x512 .bf16) (r : FVec Ideal S512x1024 .bf16) (a : Fin 512) (j : Fin 1024) :
    matmul dot_S512x512_S512x1024_S512x1024_1_0_0_1_n_n none l r (constant S512x1024 .f32 0x00000000#32) (ValueIdx.ix2 a j)
      = ∑ k : Fin 512, (l (ValueIdx.ix2 a k) : EReal) * r (ValueIdx.ix2 k j) := by
  refine (Ideal.matmul_plain_apply (M := 512) (K := 512) (N := 1024) none l r _ a j).trans ?_
  show Ideal.ofBits .f32 0x00000000#32 + _ = _
  rw [Ideal.ofBits_zero_f32, zero_add]

theorem dot1024 (l : FVec Ideal S512x1024 .bf16) (r : FVec Ideal S1024x2048 .bf16) (a : Fin 512) (j : Fin 2048) :
    matmul dot_S512x1024_S1024x2048_S512x2048_1_0_0_1_n_n none l r (constant S512x2048 .f32 0x00000000#32) (ValueIdx.ix2 a j)
      = ∑ k : Fin 1024, (l (ValueIdx.ix2 a k) : EReal) * r (ValueIdx.ix2 k j) := by
  refine (Ideal.matmul_plain_apply (M := 512) (K := 1024) (N := 2048) none l r _ a j).trans ?_
  show Ideal.ofBits .f32 0x00000000#32 + _ = _
  rw [Ideal.ofBits_zero_f32, zero_add]

/-- The normalised attention block. -/
theorem normed_apply (v0 : Vec Ideal S512x512 .f32) (v1 : Vec Ideal S1x512 .f32) (a k : Fin 512) :
    (mulf (mulf v0 (broadcastTo S512x512 (rsqrt (addf (divf (shapeCast S512x1
        (multiReduction .add [1] S512 (mulf v0 v0) 0x00000000#32 reduces_S512x512_S512 (.inl rfl) rfl) shapeCasts_S512_S512x1)
        (broadcast S512x1 (Scalar.ofBits .f32 0x44000000#32))) (broadcast S512x1 (Scalar.ofBits .f32 0x358637BD#32))))
        broadcasts_S512x1_S512x512)) (broadcastTo S512x512 v1 broadcasts_S1x512_S512x512) : FVec Ideal S512x512 .f32) (ValueIdx.ix2 a k)
      = normed 0x44000000#32 (fun k => v0 (ValueIdx.ix2 a k)) (fun k => v1 (ValueIdx.ix2 0 k)) k := by
  show (v0 (ValueIdx.ix2 a k) : EReal) * broadcastTo S512x512 _ broadcasts_S512x1_S512x512 (ValueIdx.ix2 a k)
    * broadcastTo S512x512 v1 broadcasts_S1x512_S512x512 (ValueIdx.ix2 a k) = _
  rw [across512, down512]
  show (v0 (ValueIdx.ix2 a k) : EReal) * Ideal.rsqrt (Ideal.div (shapeCast S512x1 _ shapeCasts_S512_S512x1 (ValueIdx.ix2 a 0)) _ + _) * _ = _
  rw [column, rowSum512]
  rfl

/-- The stream, one entry. -/
theorem pay4_apply (v0 : Vec Ideal S512x512 .f32) (v1 : Vec Ideal S1x512 .f32) (v16 : Vec Ideal S512x1024 .bf16)
    (v19 : Vec Ideal S512x512 .bf16) (v21 : Vec Ideal S512x1024 .bf16) (v25 : Vec Ideal S512x1024 .f32) (a : Fin 512) (j : Fin 1024) :
    (k0_pay4 v0 v1 v16 v19 v21 v25 (ValueIdx.ix2 a j) : EReal) = v25 (ValueIdx.ix2 a j)
      + ((∑ k : Fin 512, normed 0x44000000#32 (fun k => v0 (ValueIdx.ix2 a k)) (fun k => v1 (ValueIdx.ix2 0 k)) k * v16 (ValueIdx.ix2 k j))
        + ∑ k : Fin 512, (v19 (ValueIdx.ix2 a k) : EReal) * v21 (ValueIdx.ix2 k j)) := by
  unfold k0_pay4
  simp only [shapeCast_self]
  refine (congrArg₂ (fun p q : EReal => (v25 (ValueIdx.ix2 a j) : EReal) + (p + q)) (dot512 _ _ a j) (dot512 _ _ a j)).trans ?_
  refine congrArg (fun z => (v25 (ValueIdx.ix2 a j) : EReal) + (z + _)) (Finset.sum_congr rfl fun k _ => ?_)
  exact congrArg (· * (v16 (ValueIdx.ix2 k j) : EReal)) (normed_apply v0 v1 a k)

/-- One over the root mean square of the stream's row. -/
theorem pay6_apply (v0 : Vec Ideal S512x512 .f32) (v1 : Vec Ideal S1x512 .f32) (v16 : Vec Ideal S512x1024 .bf16)
    (v19 : Vec Ideal S512x512 .bf16) (v21 : Vec Ideal S512x1024 .bf16) (v25 : Vec Ideal S512x1024 .f32) (a : Fin 512) :
    (k0_pay6 v0 v1 v16 v19 v21 v25 (ValueIdx.ix2 a 0) : EReal)
      = invRms 0x44800000#32 (fun j : Fin 1024 => (k0_pay4 v0 v1 v16 v19 v21 v25 (ValueIdx.ix2 a j) : EReal)) := by
  unfold k0_pay6
  generalize k0_pay4 v0 v1 v16 v19 v21 v25 = s
  show Ideal.rsqrt (Ideal.div (shapeCast S512x1 _ shapeCasts_S512_S512x1 (ValueIdx.ix2 a 0)) _ + _) = _
  rw [column, rowSum1024]
  rfl

theorem pay1_apply (s : FVec Ideal S512x1024 .f32) (g : FVec Ideal S1x1024 .f32) (r : FVec Ideal S512x1 .f32) (a : Fin 512) (j : Fin 1024) :
    (k0_pay1 s g r (ValueIdx.ix2 a j) : EReal) = s (ValueIdx.ix2 a j) * r (ValueIdx.ix2 a 0) * g (ValueIdx.ix2 0 j) := by
  unfold k0_pay1
  show (s (ValueIdx.ix2 a j) : EReal) * broadcastTo S512x1024 r broadcasts_S512x1_S512x1024 (ValueIdx.ix2 a j)
    * broadcastTo S512x1024 g broadcasts_S1x1024_S512x1024 (ValueIdx.ix2 a j) = _
  rw [across1024, down1024]

theorem pay2_apply (s : FVec Ideal S512x1024 .f32) (g : FVec Ideal S1x1024 .f32) (r : FVec Ideal S512x1 .f32) (a : Fin 512) (b : Fin 8) (l : Fin 128) :
    (k0_pay2 s g r (ValueIdx.ix3 a b l) : EReal) = k0_pay1 s g r (ValueIdx.ix2 a ⟨128 * b.val + l.val, by omega⟩) := by
  unfold k0_pay2
  refine shapeCast_apply _ _ _ _ ?_
  rw [Shape.rowMajor_val_two, Shape.rowMajor_val_three]
  show a.val * 1024 + (128 * b.val + l.val) = (a.val * 8 + b.val) * 128 + l.val
  omega

theorem pay3_apply (s : FVec Ideal S512x1024 .f32) (g : FVec Ideal S1x1024 .f32) (r : FVec Ideal S512x1 .f32) (Q : Vec Ideal S1024x2048 .bf16)
    (a : Fin 512) (q : Fin 2048) :
    (k0_pay3 s g r Q (ValueIdx.ix2 a q) : EReal) = ∑ k : Fin 1024, (k0_pay1 s g r (ValueIdx.ix2 a k) : EReal) * Q (ValueIdx.ix2 k q) := by
  unfold k0_pay3
  simp only [shapeCast_self]
  exact dot1024 _ _ a q

end Cert.Kernel2Ideal.OutProj

end
-- ==== Proof.OutProj.Arrays.lean ====
/- What the call's windows hold at a grid point, in terms of the program's arguments, and the three arrays the call
   leaves, entry by entry, at the ideal values. -/
module

public import proofs.«01_k».proof.Proof.OutProj.Block
public import Idealize.ShloMosaic.Lib.StableHlo.Run
public import Idealize.ShloMosaic.Lib.ValueLayout
public import Idealize.ShloMosaic.Lib.IdealHost
public import Idealize.ShloMosaic.Lib.Pipeline.ValueKit.Geometry

@[expose] public section

set_option maxRecDepth 16384

noncomputable section

namespace Cert.Kernel2Ideal.OutProj

open Cert.Kernel2Ideal Cert.Kernel2Ideal.Gen Cert.OutProj
open Idealize.ShloMosaic Idealize.ShloMosaic.TcCoe Idealize.ShloMosaic.Tactic Idealize.ShloMosaic.StableHlo Idealize.SL.Sem

variable (m : (ℓ : Loc nD τ sig) → Buf (Elt Ideal) ℓ) (c : Dev nD)

/-- The seven arguments. -/
def argA : S32768x512.Idx → EReal := m ((c : Thread nD τ).loc main_arg0)
def argB : S32768x512.Idx → EReal := m ((c : Thread nD τ).loc main_arg1)
def argX : S32768x1024.Idx → EReal := m ((c : Thread nD τ).loc main_arg2)
def argS : S512.Idx → EReal := m ((c : Thread nD τ).loc main_arg3)
def argW : S1024x1024.Idx → EReal := m ((c : Thread nD τ).loc main_arg4)
def argG : S1024.Idx → EReal := m ((c : Thread nD τ).loc main_arg5)
def argQ : S1024x2048.Idx → EReal := m ((c : Thread nD τ).loc main_arg6)

theorem V_v0 : (V m c main_v0 : S1024x1024.Idx → EReal) = argW m c := by
  unfold V hostOps0
  after_results_simp
  rfl
theorem V_v1 : (V m c main_v1 : S1024x2048.Idx → EReal) = argQ m c := by
  unfold V hostOps0
  after_results_simp
  rfl
theorem V_v2 : (V m c main_v2 : S32768x512.Idx → EReal) = argB m c := by
  unfold V hostOps0
  after_results_simp
  rfl
theorem V_v3 : (V m c main_v3 : S1x512.Idx → EReal) = broadcastInDim S1x512 ![1] bcast_S512_S1x512_1 (argS m c) := by
  unfold V hostOps0
  after_results_simp
  rfl
theorem V_v4 : (V m c main_v4 : S1x1024.Idx → EReal) = broadcastInDim S1x1024 ![1] bcast_S1024_S1x1024_1 (argG m c) := by
  unfold V hostOps0
  after_results_simp
  rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0, 0] := (by decide +kernel : ∀ t : Fin grid0.N, _)
theorem idx9 : ∀ t : Fin cfg0.N, win0_9.index t = ![t.val, 0] := (by decide +kernel : ∀ t : Fin grid0.N, _)

theorem lt64 (t : Fin cfg0.N) : t.val < 64 := t.isLt

/-- The token at a place of a grid point's tile. -/
def tok (t : Fin cfg0.N) (a : Fin 512) : Fin 32768 := ⟨512 * t.val + a.val, by have := lt64 t; omega⟩

theorem blk0 (t : Fin cfg0.N) (a k : Fin 512) : (iblk m c 0 t (ValueIdx.ix2 a k) : EReal) = argA m c (ValueIdx.ix2 (tok t a) k) := by
  have e : iblk m c 0 t (ValueIdx.ix2 a k) = V m c main_arg0 (ValueIdx.ix2 (tok t a) k) := by
    blk_simp [iblk]
    refine congrArg (V m c main_arg0) ?_
    blk_ext [idx0 t, tok, Nat.mul_comm]
  rw [e, V_main_arg0]
  rfl

theorem blk1 (t : Fin cfg0.N) (a k : Fin 512) : (iblk m c 1 t (ValueIdx.ix2 a k) : EReal) = argB m c (ValueIdx.ix2 (tok t a) k) := by
  have e : iblk m c 1 t (ValueIdx.ix2 a k) = V m c main_v2 (ValueIdx.ix2 (tok t a) k) := by
    blk_simp [iblk]
    refine congrArg (V m c main_v2) ?_
    blk_ext [idx1 t, tok, Nat.mul_comm]
  exact e.trans (congrFun (V_v2 m c) _)

theorem blk2 (t : Fin cfg0.N) (a : Fin 512) (k : Fin 1024) : (iblk m c 2 t (ValueIdx.ix2 a k) : EReal) = argX m c (ValueIdx.ix2 (tok t a) k) := by
  have e : iblk m c 2 t (ValueIdx.ix2 a k) = V m c main_arg2 (ValueIdx.ix2 (tok t a) k) := by
    blk_simp [iblk]
    refine congrArg (V m c main_arg2) ?_
    blk_ext [idx2 t, tok, Nat.mul_comm]
  rw [e, V_main_arg2]
  rfl

theorem blk3 (t : Fin cfg0.N) (k : Fin 512) : (iblk m c 3 t (ValueIdx.ix2 0 k) : EReal) = argS m c (ValueIdx.ix1 k) := by
  have e : iblk m c 3 t (ValueIdx.ix2 0 k) = V m c main_v3 (ValueIdx.ix2 0 k) := by
    blk_simp [iblk]
    refine congrArg (V m c main_v3) ?_
    blk_ext [idx3 t]
  refine (e.trans (congrFun (V_v3 m c) _)).trans (broadcastInDim_apply _ _ _ _ _ fun b => ?_)
  match b with
  | ⟨0, _⟩ => rfl

theorem blk4 (t : Fin cfg0.N) (k j : Fin 1024) : (iblk m c 4 t (ValueIdx.ix2 k j) : EReal) = argW m c (ValueIdx.ix2 k j) := by
  have e : iblk m c 4 t (ValueIdx.ix2 k j) = V m c main_v0 (ValueIdx.ix2 k j) := by
    blk_simp [iblk]
    refine congrArg (V m c main_v0) ?_
    blk_ext [idx4 t]
  exact e.trans (congrFun (V_v0 m c) _)

theorem blk5 (t : Fin cfg0.N) (k : Fin 1024) : (iblk m c 5 t (ValueIdx.ix2 0 k) : EReal) = argG m c (ValueIdx.ix1 k) := by
  have e : iblk m c 5 t (ValueIdx.ix2 0 k) = V m c main_v4 (ValueIdx.ix2 0 k) := by
    blk_simp [iblk]
    refine congrArg (V m c main_v4) ?_
    blk_ext [idx5 t]
  refine (e.trans (congrFun (V_v4 m c) _)).trans (broadcastInDim_apply _ _ _ _ _ fun b => ?_)
  match b with
  | ⟨0, _⟩ => rfl

theorem blk6 (t : Fin cfg0.N) (k : Fin 1024) (q : Fin 2048) : (iblk m c 6 t (ValueIdx.ix2 k q) : EReal) = argQ m c (ValueIdx.ix2 k q) := by
  have e : iblk m c 6 t (ValueIdx.ix2 k q) = V m c main_v1 (ValueIdx.ix2 k q) := by
    blk_simp [iblk]
    refine congrArg (V m c main_v1) ?_
    blk_ext [idx6 t]
  exact e.trans (congrFun (V_v1 m c) _)

/-- The three results at a token, from the arguments. -/
def streamAt (A B : S32768x512.Idx → EReal) (X : S32768x1024.Idx → EReal) (S : S512.Idx → EReal) (W : S1024x1024.Idx → EReal)
    (r : Fin 32768) : Fin 1024 → EReal :=
  stream (fun k => A (ValueIdx.ix2 r k)) (fun k => B (ValueIdx.ix2 r k)) (fun j => X (ValueIdx.ix2 r j)) (fun k => S (ValueIdx.ix1 k))
    (fun k j => W (ValueIdx.ix2 k j))
def hiddenAt (A B : S32768x512.Idx → EReal) (X : S32768x1024.Idx → EReal) (S : S512.Idx → EReal) (W : S1024x1024.Idx → EReal)
    (G : S1024.Idx → EReal) (r : Fin 32768) : Fin 1024 → EReal :=
  normed 0x44800000#32 (streamAt A B X S W r) (fun j => G (ValueIdx.ix1 j))
def queryAt (A B : S32768x512.Idx → EReal) (X : S32768x1024.Idx → EReal) (S : S512.Idx → EReal) (W : S1024x1024.Idx → EReal)
    (G : S1024.Idx → EReal) (Q : S1024x2048.Idx → EReal) (r : Fin 32768) (q : Fin 2048) : EReal :=
  ∑ k : Fin 1024, hiddenAt A B X S W G r k * Q (ValueIdx.ix2 k q)

/-- A grid point's block of the stream. -/
def streamB (t : Fin cfg0.N) : FVec Ideal S512x1024 .f32 :=
  k0_pay7 (iblk m c 0 t) (iblk m c 1 t) (iblk m c 2 t) (iblk m c 3 t) (iblk m c 4 t) (iblk m c 5 t) (iblk m c 6 t)
def rmsB (t : Fin cfg0.N) : FVec Ideal S512x1 .f32 :=
  k0_pay9 (iblk m c 0 t) (iblk m c 1 t) (iblk m c 2 t) (iblk m c 3 t) (iblk m c 4 t) (iblk m c 5 t) (iblk m c 6 t)
def gainB (t : Fin cfg0.N) : FVec Ideal S1x1024 .f32 :=
  k0_pay8 (iblk m c 0 t) (iblk m c 1 t) (iblk m c 2 t) (iblk m c 3 t) (iblk m c 4 t) (iblk m c 5 t) (iblk m c 6 t)

theorem zeros2 : (![0, 0] : Fin 2 → Nat) = fun _ => 0 := by
  funext b
  match b with
  | ⟨0, _⟩ => rfl
  | ⟨1, _⟩ => rfl
theorem zeros3 : (![0, 0, 0] : Fin 3 → Nat) = fun _ => 0 := by
  funext b
  match b with
  | ⟨0, _⟩ => rfl
  | ⟨1, _⟩ => rfl
  | ⟨2, _⟩ => rfl

/-- The upper and the lower half of the weight's rows. -/
theorem upper (W : Vec Ideal S1024x1024 .bf16) (k : Fin 512) (j : Fin 1024) :
    View.ld W r0_2 (ValueIdx.ix2 k j) = W (ValueIdx.ix2 ⟨k.val, by omega⟩ j) := by
  rw [View.ld_unit]
  refine extractStridedSlice_apply _ _ _ _ _ fun b => ?_
  match b with
  | ⟨0, _⟩ => exact (Nat.zero_add _).symm
  | ⟨1, _⟩ => exact (Nat.zero_add _).symm
theorem lower (W : Vec Ideal S1024x1024 .bf16) (k : Fin 512) (j : Fin 1024) :
    View.ld W r0_3 (ValueIdx.ix2 k j) = W (ValueIdx.ix2 ⟨512 + k.val, by omega⟩ j) := by
  rw [View.ld_unit]
  refine extractStridedSlice_apply _ _ _ _ _ fun b => ?_
  match b with
  | ⟨0, _⟩ => rfl
  | ⟨1, _⟩ => exact (Nat.zero_add _).symm

theorem streamB_apply (t : Fin cfg0.N) (a : Fin 512) (j : Fin 1024) :
    (streamB m c t (ValueIdx.ix2 a j) : EReal) = streamAt (argA m c) (argB m c) (argX m c) (argS m c) (argW m c) (tok t a) j := by
  unfold streamB k0_pay7
  refine (pay4_apply _ _ _ _ _ _ a j).trans ?_
  rw [View.ld_unit_zero zeros2, View.ld_unit_zero zeros2, View.ld_unit_zero zeros2, View.ld_unit_zero zeros2]
  simp only [blk0, blk1, blk2, blk3]
  unfold streamAt stream
  refine congrArg₂ (fun p q : EReal => argX m c (ValueIdx.ix2 (tok t a) j) + (p + q)) (Finset.sum_congr rfl fun k _ => ?_)
    (Finset.sum_congr rfl fun k _ => ?_)
  · exact congrArg (_ * ·) ((upper _ k j).trans (blk4 m c t _ j))
  · exact congrArg (_ * ·) ((lower _ k j).trans (blk4 m c t _ j))

theorem rmsB_apply (t : Fin cfg0.N) (a : Fin 512) :
    (rmsB m c t (ValueIdx.ix2 a 0) : EReal) = invRms 0x44800000#32 (streamAt (argA m c) (argB m c) (argX m c) (argS m c) (argW m c) (tok t a)) := by
  unfold rmsB k0_pay9
  refine (pay6_apply _ _ _ _ _ _ a).trans ?_
  exact congrArg (invRms 0x44800000#32) (funext fun j => streamB_apply m c t a j)

theorem gainB_apply (t : Fin cfg0.N) (j : Fin 1024) : (gainB m c t (ValueIdx.ix2 0 j) : EReal) = argG m c (ValueIdx.ix1 j) := by
  unfold gainB k0_pay8 k0_pay5
  rw [shapeCast_self, View.ld_unit_zero zeros2]
  exact blk5 m c t j

theorem hiddenB_apply (t : Fin cfg0.N) (a : Fin 512) (j : Fin 1024) :
    (k0_pay1 (streamB m c t) (gainB m c t) (rmsB m c t) (ValueIdx.ix2 a j) : EReal)
      = hiddenAt (argA m c) (argB m c) (argX m c) (argS m c) (argW m c) (argG m c) (tok t a) j := by
  refine (pay1_apply _ _ _ a j).trans ?_
  rw [streamB_apply, rmsB_apply, gainB_apply]
  rfl

end Cert.Kernel2Ideal.OutProj

end
-- ==== Proof.OutProj.Result.lean ====
/- The three arrays the call leaves, and the program's run with them. -/
module

public import proofs.«01_k».proof.Proof.OutProj.Arrays

@[expose] public section

set_option maxRecDepth 16384

noncomputable section

namespace Cert.Kernel2Ideal.OutProj

open Cert.Kernel2Ideal Cert.Kernel2Ideal.Gen Cert.OutProj
open Idealize.ShloMosaic Idealize.ShloMosaic.TcCoe Idealize.ShloMosaic.Tactic Idealize.ShloMosaic.StableHlo Idealize.SL.Sem

variable (m : (ℓ : Loc nD τ sig) → Buf (Elt Ideal) ℓ) (c : Dev nD)

/-- The column of a place of the reshaped result. -/
def col (b : Fin 8) (l : Fin 128) : Fin 1024 := ⟨128 * b.val + l.val, by omega⟩

/-- The three arrays, as functions of the arguments. -/
def streamArr : S32768x1024.Idx → EReal := fun y => streamAt (argA m c) (argB m c) (argX m c) (argS m c) (argW m c) (y 0) (y 1)
def hiddenArr : S32768x8x128.Idx → EReal := fun y =>
  hiddenAt (argA m c) (argB m c) (argX m c) (argS m c) (argW m c) (argG m c) (y 0) (col (y 1) (y 2))
def queryArr : S32768x2048.Idx → EReal := fun y =>
  queryAt (argA m c) (argB m c) (argX m c) (argS m c) (argW m c) (argG m c) (argQ m c) (y 0) (y 1)

theorem result7 : (dats m 0 c).arrAt 7 cfg0.N = streamArr m c := by
  refine (dats m 0 c).arrAt_eq_of_covers 7 _ (by decide +kernel) fun t hf y => ?_
  blk_simp
  rw [after0_7]
  obtain ⟨a, j, rfl⟩ : ∃ (a : Fin 512) (j : Fin 1024), y = (ValueIdx.ix2 a j : S512x1024.Idx) :=
    ⟨y 0, y 1, funext fun b => by match b with | ⟨0, _⟩ => rfl | ⟨1, _⟩ => rfl⟩
  have h0 : ((cfg0.win 7).blk t).view.emb (ValueIdx.ix2 a j : S512x1024.Idx) = (ValueIdx.ix2 (tok t a) j : S32768x1024.Idx) := by
    blk_ext [idx7 t, tok, show (ValueIdx.ix2 a j : S512x1024.Idx) 0 = a from rfl, Nat.mul_comm]
  erw [h0]
  refine Eq.trans ?_ (streamB_apply m c t a j)
  unfold out0_7
  rw [View.canon_unit_zero zeros2]
  rfl

theorem result8 : (dats m 0 c).arrAt 8 cfg0.N = hiddenArr m c := by
  refine (dats m 0 c).arrAt_eq_of_covers 8 _ (by decide +kernel) fun t hf y => ?_
  blk_simp
  rw [after0_8]
  obtain ⟨a, b, l, rfl⟩ : ∃ (a : Fin 512) (b : Fin 8) (l : Fin 128), y = (ValueIdx.ix3 a b l : S512x8x128.Idx) :=
    ⟨y 0, y 1, y 2, funext fun b => by match b with | ⟨0, _⟩ => rfl | ⟨1, _⟩ => rfl | ⟨2, _⟩ => rfl⟩
  have h0 : ((cfg0.win 8).blk t).view.emb (ValueIdx.ix3 a b l : S512x8x128.Idx) = (ValueIdx.ix3 (tok t a) b l : S32768x8x128.Idx) := by
    blk_ext [idx8 t, tok, show (ValueIdx.ix3 a b l : S512x8x128.Idx) 0 = a from rfl, Nat.mul_comm]
  erw [h0]
  refine Eq.trans ?_ ((pay2_apply (streamB m c t) (gainB m c t) (rmsB m c t) a b l).trans (hiddenB_apply m c t a _))
  unfold out0_8
  rw [View.canon_unit_zero zeros3]
  rfl

theorem result9 : (dats m 0 c).arrAt 9 cfg0.N = queryArr m c := by
  refine (dats m 0 c).arrAt_eq_of_covers 9 _ (by decide +kernel) fun t hf y => ?_
  blk_simp
  rw [after0_9]
  obtain ⟨a, q, rfl⟩ : ∃ (a : Fin 512) (q : Fin 2048), y = (ValueIdx.ix2 a q : S512x2048.Idx) :=
    ⟨y 0, y 1, funext fun b => by match b with | ⟨0, _⟩ => rfl | ⟨1, _⟩ => rfl⟩
  have h0 : ((cfg0.win 9).blk t).view.emb (ValueIdx.ix2 a q : S512x2048.Idx) = (ValueIdx.ix2 (tok t a) q : S32768x2048.Idx) := by
    blk_ext [idx9 t, tok, show (ValueIdx.ix2 a q : S512x2048.Idx) 0 = a from rfl, Nat.mul_comm]
  erw [h0]
  have hq : (k0_pay3 (streamB m c t) (gainB m c t) (rmsB m c t) (iblk m c 6 t) (ValueIdx.ix2 a q) : EReal)
      = queryArr m c (ValueIdx.ix2 (tok t a) q) := by
    refine (pay3_apply _ _ _ _ a q).trans ?_
    show _ = ∑ k : Fin 1024, hiddenAt (argA m c) (argB m c) (argX m c) (argS m c) (argW m c) (argG m c) (tok t a) k * argQ m c (ValueIdx.ix2 k q)
    refine (Finset.sum_congr rfl fun k _ => ?_)
    rw [hiddenB_apply, blk6]
  refine Eq.trans ?_ hq
  unfold out0_9
  rw [View.canon_unit_zero zeros2, View.ld_unit_zero zeros2]
  rfl

/-- The program's run: the three results, and the arguments as they were. -/
theorem run_results (ρ : Dev nD → PrngReg) : θ_run defs (onTc (τ := τ) (main (F := Ideal))) ⟨m, fun _ => 0, ρ⟩ fun r => ∀ c : Dev nD,
    (r.2.mem ((c : Thread nD τ).loc main_v5_0) = streamArr m c
      ∧ r.2.mem ((c : Thread nD τ).loc main_v5_1) = hiddenArr m c
      ∧ r.2.mem ((c : Thread nD τ).loc main_v5_2) = queryArr m c)
    ∧ (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => ⟨⟨((h.1 c).1 7).trans (result7 m c), ((h.1 c).1 8).trans (result8 m c),
    ((h.1 c).1 9).trans (result9 m c)⟩, h.2 c⟩) (θ_run_and (run_main m ρ) (unchanged m ρ))

end Cert.Kernel2Ideal.OutProj

end
-- ==== Proof.OutProj.Reference.lean ====
/- The reference's three results, entry by entry, at the ideal values. -/
module

public import proofs.«01_k».proof.Proof.OutProj.Spec
public import proofs.«01_k».proof.Proof.Gen.Reference2Ideal.Read

@[expose] public section

set_option maxRecDepth 16384

noncomputable section

namespace Cert.Reference2Ideal.OutProj

open Cert.Reference2Ideal Cert.Reference2Ideal.Gen Cert.Reference2Ideal.Read Cert.OutProj
open Idealize.ShloMosaic Idealize.ShloMosaic.TcCoe

variable (A B : S32768x512.Idx → Ideal .f32) (X : S32768x1024.Idx → Ideal .f32) (S : S512.Idx → Ideal .f32) (W : S1024x1024.Idx → Ideal .f32)
  (G : S1024.Idx → Ideal .f32) (Q : S1024x2048.Idx → Ideal .f32)

/-- The normalised attention row. -/
theorem normed_ref (r : Fin 32768) (k : Fin 512) : (val_main_v12 (F := Ideal) A S (ValueIdx.ix2 r k) : EReal)
    = normed 0x44000000#32 (fun k => A (ValueIdx.ix2 r k)) (fun k => S (ValueIdx.ix1 k)) k := by
  have hs : (val_main_v7 (F := Ideal) A (ValueIdx.ix2 r 0) : EReal) = invRms 0x44000000#32 (fun k => A (ValueIdx.ix2 r k)) := by
    rw [val_main_v7_apply, val_main_v6_apply, val_main_v4_apply, val_main_v2_apply, val_main_v1_apply, val_main_v3_apply, val_main_v5_apply]
    show Ideal.rsqrt (Ideal.div (Ideal.ofBits .f32 0x00000000#32 + _) _ + _) = _
    rw [Ideal.ofBits_zero_f32, zero_add]
    unfold invRms
    refine congrArg (fun z => Ideal.rsqrt (Ideal.div z _ + _)) (Finset.sum_congr rfl fun k _ => ?_)
    have hi : idx_main_v1 (idx_main_v2 (ValueIdx.ix2 r 0)) k = (ValueIdx.ix2 r k : S32768x512.Idx) :=
      funext fun b => by match b with | ⟨0, _⟩ => rfl | ⟨1, _⟩ => rfl
    rw [hi]
    rfl
  rw [val_main_v12_apply, val_main_v9_apply, val_main_v8_apply, val_main_v11_apply, val_main_v10_apply]
  have h8 : idx_main_v8 (ValueIdx.ix2 r k) = (ValueIdx.ix2 r 0 : S32768x1.Idx) :=
    funext fun b => by match b with | ⟨0, _⟩ => rfl | ⟨1, _⟩ => rfl
  have h10 : idx_main_v10 (idx_main_v11 (ValueIdx.ix2 r k)) = (ValueIdx.ix1 k : S512.Idx) :=
    funext fun b => by match b with | ⟨0, _⟩ => rfl
  rw [h8, h10]
  show (A (ValueIdx.ix2 r k) : EReal) * val_main_v7 (F := Ideal) A (ValueIdx.ix2 r 0) * S (ValueIdx.ix1 k) = _
  rw [hs]
  rfl

/-- The two rows side by side. -/
theorem left_ref (r : Fin 32768) (k : Fin 512) : val_main_v13 (F := Ideal) A B S (ValueIdx.ix2 r ⟨k.val, by omega⟩)
    = val_main_v12 (F := Ideal) A S (ValueIdx.ix2 r k) := by
  unfold val_main_v13
  refine concatenate_pair_apply_left (t := S32768x1024) (s₁ := S32768x512) (s₂ := S32768x512) 1 _ _ _ (ValueIdx.ix2 r ⟨k.val, by omega⟩) rfl
    (ValueIdx.ix2 r k) fun b => ?_
  match b with
  | ⟨0, _⟩ => rfl
  | ⟨1, _⟩ => rfl

theorem right_ref (r : Fin 32768) (k : Fin 512) : val_main_v13 (F := Ideal) A B S (ValueIdx.ix2 r ⟨512 + k.val, by omega⟩)
    = B (ValueIdx.ix2 r k) := by
  unfold val_main_v13
  refine concatenate_pair_apply_right (t := S32768x1024) (s₁ := S32768x512) (s₂ := S32768x512) 1 _ _ _ (ValueIdx.ix2 r ⟨512 + k.val, by omega⟩) rfl rfl
    (ValueIdx.ix2 r k) ?_ ?_
  · intro b hb
    match b with
    | ⟨0, _⟩ => rfl
    | ⟨1, _⟩ => exact absurd rfl hb
  · show k.val + 512 = 512 + k.val
    omega

/-- The stream. -/
theorem stream_ref (r : Fin 32768) (j : Fin 1024) : (val_main_v15 (F := Ideal) A B X S W (ValueIdx.ix2 r j) : EReal)
    = stream (fun k => A (ValueIdx.ix2 r k)) (fun k => B (ValueIdx.ix2 r k)) (fun j => X (ValueIdx.ix2 r j)) (fun k => S (ValueIdx.ix1 k))
        (fun k j => W (ValueIdx.ix2 k j)) j := by
  rw [val_main_v15_apply, val_main_v14_apply]
  unfold stream
  refine congrArg ((X (ValueIdx.ix2 r j) : EReal) + ·) ?_
  refine (Fin.sum_univ_add (a := 512) (b := 512) _).trans ?_
  refine congrArg₂ (fun p q : EReal => p + q) (Finset.sum_congr rfl fun k _ => ?_) (Finset.sum_congr rfl fun k _ => ?_)
  · have h1 : lidx_main_v14 (ValueIdx.ix2 r j) (Fin.castAdd 512 k) = (ValueIdx.ix2 r ⟨k.val, by omega⟩ : S32768x1024.Idx) :=
      funext fun b => by match b with | ⟨0, _⟩ => rfl | ⟨1, _⟩ => rfl
    have h2 : ridx_main_v14 (ValueIdx.ix2 r j) (Fin.castAdd 512 k) = (ValueIdx.ix2 ⟨k.val, by omega⟩ j : S1024x1024.Idx) :=
      funext fun b => by match b with | ⟨0, _⟩ => rfl | ⟨1, _⟩ => rfl
    rw [h1, h2, left_ref, normed_ref]
  · have h1 : lidx_main_v14 (ValueIdx.ix2 r j) (Fin.natAdd 512 k) = (ValueIdx.ix2 r ⟨512 + k.val, by omega⟩ : S32768x1024.Idx) :=
      funext fun b => by match b with | ⟨0, _⟩ => rfl | ⟨1, _⟩ => rfl
    have h2 : ridx_main_v14 (ValueIdx.ix2 r j) (Fin.natAdd 512 k) = (ValueIdx.ix2 ⟨512 + k.val, by omega⟩ j : S1024x1024.Idx) :=
      funext fun b => by match b with | ⟨0, _⟩ => rfl | ⟨1, _⟩ => rfl
    rw [h1, h2, right_ref]

/-- The stream normalised. -/
theorem hidden_ref (r : Fin 32768) (j : Fin 1024) : (val_main_v28 (F := Ideal) A B X S W G (ValueIdx.ix2 r j) : EReal)
    = hidden (fun k => A (ValueIdx.ix2 r k)) (fun k => B (ValueIdx.ix2 r k)) (fun j => X (ValueIdx.ix2 r j)) (fun k => S (ValueIdx.ix1 k))
        (fun k j => W (ValueIdx.ix2 k j)) (fun j => G (ValueIdx.ix1 j)) j := by
  have hs : (val_main_v23 (F := Ideal) A B X S W (ValueIdx.ix2 r 0) : EReal)
      = invRms 0x44800000#32 (fun j : Fin 1024 => (val_main_v15 (F := Ideal) A B X S W (ValueIdx.ix2 r j) : EReal)) := by
    rw [val_main_v23_apply, val_main_v22_apply, val_main_v20_apply, val_main_v18_apply, val_main_v17_apply, val_main_v19_apply, val_main_v21_apply]
    show Ideal.rsqrt (Ideal.div (Ideal.ofBits .f32 0x00000000#32 + _) _ + _) = _
    rw [Ideal.ofBits_zero_f32, zero_add]
    unfold invRms
    refine congrArg (fun z => Ideal.rsqrt (Ideal.div z _ + _)) (Finset.sum_congr rfl fun k _ => ?_)
    have hi : idx_main_v17 (idx_main_v18 (ValueIdx.ix2 r 0)) k = (ValueIdx.ix2 r k : S32768x1024.Idx) :=
      funext fun b => by match b with | ⟨0, _⟩ => rfl | ⟨1, _⟩ => rfl
    rw [hi]
    rfl
  rw [val_main_v28_apply, val_main_v25_apply, val_main_v24_apply, val_main_v27_apply, val_main_v26_apply]
  have h24 : idx_main_v24 (ValueIdx.ix2 r j) = (ValueIdx.ix2 r 0 : S32768x1.Idx) :=
    funext fun b => by match b with | ⟨0, _⟩ => rfl | ⟨1, _⟩ => rfl
  have h26 : idx_main_v26 (idx_main_v27 (ValueIdx.ix2 r j)) = (ValueIdx.ix1 j : S1024.Idx) :=
    funext fun b => by match b with | ⟨0, _⟩ => rfl
  rw [h24, h26]
  show (val_main_v15 (F := Ideal) A B X S W (ValueIdx.ix2 r j) : EReal) * val_main_v23 (F := Ideal) A B X S W (ValueIdx.ix2 r 0) * G (ValueIdx.ix1 j) = _
  rw [hs]
  simp only [stream_ref]
  rfl

theorem reshaped_ref (r : Fin 32768) (b : Fin 8) (l : Fin 128) : val_main_v29 (F := Ideal) A B X S W G (ValueIdx.ix3 r b l)
    = val_main_v28 (F := Ideal) A B X S W G (ValueIdx.ix2 r ⟨128 * b.val + l.val, by omega⟩) := by
  unfold val_main_v29
  refine shapeCast_apply _ _ _ _ ?_
  rw [Shape.rowMajor_val_two, Shape.rowMajor_val_three]
  show r.val * 1024 + (128 * b.val + l.val) = (r.val * 8 + b.val) * 128 + l.val
  omega

/-- The queries. -/
theorem query_ref (r : Fin 32768) (q : Fin 2048) : (val_main_v31 (F := Ideal) A B X S W G Q (ValueIdx.ix2 r q) : EReal)
    = query (fun k => A (ValueIdx.ix2 r k)) (fun k => B (ValueIdx.ix2 r k)) (fun j => X (ValueIdx.ix2 r j)) (fun k => S (ValueIdx.ix1 k))
        (fun k j => W (ValueIdx.ix2 k j)) (fun j => G (ValueIdx.ix1 j)) (fun k q => Q (ValueIdx.ix2 k q)) q := by
  rw [val_main_v31_apply]
  refine (val_main_v30_apply A B X S W G Q (ValueIdx.ix2 r q)).trans ?_
  unfold query
  refine Finset.sum_congr rfl fun k _ => ?_
  have h1 : lidx_main_v30 (ValueIdx.ix2 r q) k = (ValueIdx.ix2 r k : S32768x1024.Idx) :=
    funext fun b => by match b with | ⟨0, _⟩ => rfl | ⟨1, _⟩ => rfl
  have h2 : ridx_main_v30 (ValueIdx.ix2 r q) k = (ValueIdx.ix2 k q : S1024x2048.Idx) :=
    funext fun b => by match b with | ⟨0, _⟩ => rfl | ⟨1, _⟩ => rfl
  rw [h1, h2, hidden_ref]

end Cert.Reference2Ideal.OutProj

end
-- ==== Proof.OutProj.Equal.lean ====
/- At the ideal values the call's program and its reference leave the same three arrays. -/
module

public import proofs.«01_k».proof.Defs
public import proofs.«01_k».proof.Proof.Gen.Kernel2Ideal
public import proofs.«01_k».proof.Proof.Gen.Reference2Ideal
public import proofs.«01_k».proof.Proof.OutProj.Result
public import proofs.«01_k».proof.Proof.OutProj.Reference

@[expose] public section

set_option maxRecDepth 16384

noncomputable section

namespace Cert.Kernel2Ideal.OutProj

open Cert.Kernel2Ideal Cert.Kernel2Ideal.Gen Cert.OutProj
open Idealize.ShloMosaic Idealize.ShloMosaic.TcCoe Idealize.SL.Sem

variable (m : (ℓ : Loc nD τ sig) → Buf (Elt Ideal) ℓ) (c : Dev nD)

theorem stream_same : Cert.Reference2Ideal.Read.val_main_v15 (F := Ideal) (argA m c) (argB m c) (argX m c) (argS m c) (argW m c) = streamArr m c := by
  funext y
  obtain ⟨r, j, rfl⟩ : ∃ (r : Fin 32768) (j : Fin 1024), y = (ValueIdx.ix2 r j : S32768x1024.Idx) :=
    ⟨y 0, y 1, funext fun b => by match b with | ⟨0, _⟩ => rfl | ⟨1, _⟩ => rfl⟩
  exact Cert.Reference2Ideal.OutProj.stream_ref _ _ _ _ _ r j

theorem hidden_same : Cert.Reference2Ideal.Read.val_main_v29 (F := Ideal) (argA m c) (argB m c) (argX m c) (argS m c) (argW m c) (argG m c)
    = hiddenArr m c := by
  funext y
  obtain ⟨r, b, l, rfl⟩ : ∃ (r : Fin 32768) (b : Fin 8) (l : Fin 128), y = (ValueIdx.ix3 r b l : S32768x8x128.Idx) :=
    ⟨y 0, y 1, y 2, funext fun b => by match b with | ⟨0, _⟩ => rfl | ⟨1, _⟩ => rfl | ⟨2, _⟩ => rfl⟩
  exact (Cert.Reference2Ideal.OutProj.reshaped_ref _ _ _ _ _ _ r b l).trans (Cert.Reference2Ideal.OutProj.hidden_ref _ _ _ _ _ _ r _)

theorem query_same : Cert.Reference2Ideal.Read.val_main_v31 (F := Ideal) (argA m c) (argB m c) (argX m c) (argS m c) (argW m c) (argG m c) (argQ m c)
    = queryArr m c := by
  funext y
  obtain ⟨r, q, rfl⟩ : ∃ (r : Fin 32768) (q : Fin 2048), y = (ValueIdx.ix2 r q : S32768x2048.Idx) :=
    ⟨y 0, y 1, funext fun b => by match b with | ⟨0, _⟩ => rfl | ⟨1, _⟩ => rfl⟩
  exact Cert.Reference2Ideal.OutProj.query_ref _ _ _ _ _ _ _ r q

theorem same_results : @Cert.algebraic_Kernel2Ideal_Reference2Ideal Cert.Kernel2Ideal.Gen.facts Cert.Reference2Ideal.Gen.facts := by
  intro m g m' g' _ hargs
  refine ⟨fun c => streamArr m c, fun c => hiddenArr m c, fun c => queryArr m c, ?_, ?_⟩
  · exact (θ_run Cert.Kernel2Ideal.defs _ _).mono (fun _ h c => ⟨(h c).1.1, (h c).1.2.1, (h c).1.2.2, (h c).2⟩) (run_results m g)
  · refine (θ_run Cert.Reference2Ideal.defs _ _).mono (fun _ h c => ⟨(h c).1.trans ?_, (h c).2.1.trans ?_, (h c).2.2.1.trans ?_, (h c).2.2.2⟩)
      (Cert.Reference2Ideal.Value.run (F := Ideal) m' g')
    all_goals obtain ⟨h0, h1, h2, h3, h4, h5, h6⟩ := hargs c
    · rw [Cert.Reference2Ideal.Read.val_main_v15_eq, h0, h1, h2, h3, h4]
      exact stream_same m c
    · rw [Cert.Reference2Ideal.Read.val_main_v29_eq, h0, h1, h2, h3, h4, h5]
      exact hidden_same m c
    · rw [Cert.Reference2Ideal.Read.val_main_v31_eq, h0, h1, h2, h3, h4, h5, h6]
      exact query_same m c

end Cert.Kernel2Ideal.OutProj

end
-- ==== Proof.InProj.Spec.lean ====
/- What the input projection's call computes of a token and of the 128 tokens of its block, on extended reals, and which
   of these values are finite. -/
module

public import proofs.«01_k».proof.Proof.OutProj.Spec
public import Idealize.ShloMosaic.PureOps.Ideal.Laws

@[expose] public section

noncomputable section

namespace Cert.InProj

open Idealize.ShloMosaic Cert.OutProj

/-- A token's projection: its row normalised, through the weight. -/
def proj (x g : Fin 1024 → EReal) (W : Fin 1024 → Fin 2560 → EReal) (j : Fin 2560) : EReal :=
  ∑ k : Fin 1024, normed 0x44800000#32 x g k * W k j

/-- 512 consecutive entries of a projection. -/
def part (p : Fin 2560 → EReal) (o : ℕ) (h : o + 512 ≤ 2560) (j : Fin 512) : EReal := p ⟨o + j.val, by omega⟩

/-- The 64 entries of the head that an entry belongs to. -/
def head (p : Fin 512 → EReal) (j : Fin 512) (e : Fin 64) : EReal := p ⟨64 * (j.val / 64) + e.val, by omega⟩

/-- A row of eight heads, each normalised over its own 64 entries. -/
def perHead (p g : Fin 512 → EReal) (j : Fin 512) : EReal := p j * invRms 0x42800000#32 (head p j) * g j

/-- The mix over the tokens of a block up to the token itself, one weight matrix for each head. -/
def mixed (w : Fin 8 → Fin 128 → Fin 128 → EReal) (b : Fin 8 → Fin 128 → EReal) (s : Fin 128 → Fin 512 → EReal) (t : Fin 128)
    (j : Fin 512) : EReal :=
  (∑ u : Fin 128, (if u ≤ t then w ⟨j.val / 64, by omega⟩ t u else 0) * s u j) + b ⟨j.val / 64, by omega⟩ t

/-- The gated entries of a token of a block, from the projections of the block's tokens. -/
def gated (p : Fin 128 → Fin 2560 → EReal) (sg : Fin 512 → EReal) (w : Fin 8 → Fin 128 → Fin 128 → EReal) (b : Fin 8 → Fin 128 → EReal)
    (t : Fin 128) (j : Fin 512) : EReal :=
  part (p t) 1536 (by norm_num) j * mixed w b (fun u => perHead (part (p u) 2048 (by norm_num)) sg) t j

/-! ## Finite values -/

/-- An extended real that is a real. -/
def IsFin (x : EReal) : Prop := ∃ r : ℝ, x = (r : EReal)

theorem IsFin.add {x y : EReal} : IsFin x → IsFin y → IsFin (x + y) := by
  rintro ⟨a, rfl⟩ ⟨b, rfl⟩
  exact ⟨a + b, (EReal.coe_add a b).symm⟩

theorem IsFin.mul {x y : EReal} : IsFin x → IsFin y → IsFin (x * y) := by
  rintro ⟨a, rfl⟩ ⟨b, rfl⟩
  exact ⟨a * b, (EReal.coe_mul a b).symm⟩

theorem IsFin.sum {n : ℕ} {f : Fin n → EReal} (h : ∀ k, IsFin (f k)) : IsFin (∑ k, f k) := by
  choose r hr using h
  refine ⟨∑ k, r k, ?_⟩
  simp only [hr]
  induction (Finset.univ : Finset (Fin n)) using Finset.induction_on with
  | empty => simp
  | insert a s ha ih => rw [Finset.sum_insert ha, Finset.sum_insert ha, ih, EReal.coe_add]

/-- A finite value less itself is zero. -/
theorem IsFin.sub_self {x : EReal} : IsFin x → x - x = 0 := by
  rintro ⟨a, rfl⟩
  rw [← EReal.coe_sub, _root_.sub_self, EReal.coe_zero]

/-- A sum of squares of finite values is a real that is not negative. -/
theorem sumSq {n : ℕ} {f : Fin n → EReal} (h : ∀ k, IsFin (f k)) : ∃ r : ℝ, 0 ≤ r ∧ (∑ k, f k * f k) = (r : EReal) := by
  choose r hr using h
  refine ⟨∑ k, r k * r k, Finset.sum_nonneg fun k _ => mul_self_nonneg _, ?_⟩
  simp only [hr]
  induction (Finset.univ : Finset (Fin n)) using Finset.induction_on with
  | empty => simp
  | insert a s ha ih => rw [Finset.sum_insert ha, Finset.sum_insert ha, ih, EReal.coe_add, EReal.coe_mul]

/-- The epsilon. -/
theorem eps : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

theorem width1024 : Ideal.ofBits .f32 0x44800000#32 = ((1024 : ℝ) : EReal) := by
  simp [Ideal.ofBits, Ideal.ieee, -EReal.coe_mul]; norm_num

theorem width64 : Ideal.ofBits .f32 0x42800000#32 = ((64 : ℝ) : EReal) := by
  simp [Ideal.ofBits, Ideal.ieee, -EReal.coe_mul]; norm_num

theorem recip64 : Ideal.ofBits .f32 0x3C800000#32 = ((64⁻¹ : ℝ) : EReal) := by
  simp [Ideal.ofBits, Ideal.ieee, -EReal.coe_mul]; norm_num

/-- The mean over 64 entries as a product with the reciprocal. -/
theorem div64 (x : EReal) : Ideal.div x (Ideal.ofBits .f32 0x42800000#32) = x * Ideal.ofBits .f32 0x3C800000#32 := by
  rw [width64, recip64]
  unfold Ideal.div
  rw [if_neg (by norm_num : ¬ ((64 : ℝ) : EReal) = 0), ← EReal.coe_inv]

/-- One over the root mean square of a finite row of 1024 entries is finite. -/
theorem invRms_finite {f : Fin 1024 → EReal} (h : ∀ k, IsFin (f k)) : IsFin (invRms 0x44800000#32 f) := by
  obtain ⟨s, hs, es⟩ := sumSq h
  obtain ⟨e, he, ee⟩ := eps
  unfold invRms
  rw [es, ee, width1024]
  unfold Ideal.div
  rw [if_neg (by norm_num : ¬ ((1024 : ℝ) : EReal) = 0), ← EReal.coe_inv, ← EReal.coe_mul, ← EReal.coe_add]
  have hp : 0 < s * (1024 : ℝ)⁻¹ + e := add_pos_of_nonneg_of_pos (by positivity) he
  refine ⟨(Real.sqrt (s * (1024 : ℝ)⁻¹ + e))⁻¹, ?_⟩
  show (if s * (1024 : ℝ)⁻¹ + e < 0 then (⊥ : EReal) else if s * (1024 : ℝ)⁻¹ + e = 0 then ⊤ else _) = _
  rw [if_neg (not_lt.mpr hp.le), if_neg hp.ne']

theorem sq_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

theorem sq_infinite {x : EReal} (h : ¬ IsFin x) : x * x = ⊤ := by
  induction x using EReal.rec with
  | bot => exact EReal.bot_mul_bot
  | top => exact EReal.top_mul_top
  | coe r => exact absurd ⟨r, rfl⟩ h

/-- One over the root mean square of a row with an infinite entry is zero. -/
theorem invRms_infinite {f : Fin 1024 → EReal} {k : Fin 1024} (h : ¬ IsFin (f k)) : invRms 0x44800000#32 f = 0 := by
  have hs : (∑ i, f i * f i) = ⊤ := top_le_iff.mp ((sq_infinite h).symm.le.trans
    (Finset.single_le_sum (f := fun i => f i * f i) (fun i _ => sq_nonneg (f i)) (Finset.mem_univ k)))
  obtain ⟨e, _, ee⟩ := eps
  unfold invRms
  rw [hs, ee, width1024]
  unfold Ideal.div
  rw [if_neg (by norm_num : ¬ ((1024 : ℝ) : EReal) = 0), ← EReal.coe_inv, EReal.top_mul_coe_of_pos (by norm_num), EReal.top_add_coe]
  rfl

/-- An entry times one over its row's root mean square is finite, whatever the row. -/
theorem scaled_finite (f : Fin 1024 → EReal) (k : Fin 1024) : IsFin (f k * invRms 0x44800000#32 f) := by
  by_cases h : ∀ i, IsFin (f i)
  · exact (h k).mul (invRms_finite h)
  · obtain ⟨i, hi⟩ := not_forall.mp h
    rw [invRms_infinite hi, mul_zero]
    exact ⟨0, EReal.coe_zero.symm⟩

/-- The projection through a finite gain and finite weights is finite. -/
theorem proj_finite (x : Fin 1024 → EReal) {g : Fin 1024 → EReal} {W : Fin 1024 → Fin 2560 → EReal} (hg : ∀ k, IsFin (g k))
    (hW : ∀ k j, IsFin (W k j)) (j : Fin 2560) : IsFin (proj x g W j) :=
  IsFin.sum fun k => ((scaled_finite x k).mul (hg k)).mul (hW k j)

/-- A value whose magnitude is below infinity is finite. -/
theorem finite_of_abs {x : EReal} (h : max x (-x) < ⊤) : IsFin x := by
  induction x using EReal.rec with
  | bot => simp at h
  | top => simp at h
  | coe r => exact ⟨r, rfl⟩

end Cert.InProj

end
-- ==== Proof.InProj.Block.lean ====
/- The operations one grid point applies to its blocks, each as one function, and what they compute entry by entry at the
   ideal values. -/
module

public import proofs.«01_k».proof.Proof.InProj.Spec
public import proofs.«01_k».proof.Proof.Gen.Kernel3Ideal.Frame
public import Idealize.ShloMosaic.Lib.Pipeline.Value
public import Idealize.ShloMosaic.Lib.MatmulPlain
public import Idealize.ShloMosaic.Lib.Pointwise.Reduce
public import Idealize.ShloMosaic.PureOps.Ideal.Laws
public import Idealize.ShloMosaic.Lib.IdealHost

@[expose] public section

set_option maxRecDepth 16384

noncomputable section

namespace Cert.Kernel3Ideal.InProj

open Cert.Kernel3Ideal Cert.Kernel3Ideal.Gen Cert.OutProj Cert.InProj
open Idealize.ShloMosaic Idealize.ShloMosaic.TcCoe

/-! ## Layout -/

theorem across512 (v : FVec Ideal S512x1 .f32) (a k : Fin 512) :
    broadcastTo S512x512 v broadcasts_S512x1_S512x512 (ValueIdx.ix2 a k) = v (ValueIdx.ix2 a 0) := by
  refine broadcastTo_apply v _ _ _ fun b => ?_
  match b with
  | ⟨0, _⟩ => rfl
  | ⟨1, _⟩ => rfl

theorem across1024 (v : FVec Ideal S512x1 .f32) (a : Fin 512) (k : Fin 1024) :
    broadcastTo S512x1024 v broadcasts_S512x1_S512x1024 (ValueIdx.ix2 a k) = v (ValueIdx.ix2 a 0) := by
  refine broadcastTo_apply v _ _ _ fun b => ?_
  match b with
  | ⟨0, _⟩ => rfl
  | ⟨1, _⟩ => rfl

theorem down128 (v : FVec Ideal S1x128 .f32) (a : Fin 512) (k : Fin 128) :
    broadcastTo S512x128 v broadcasts_S1x128_S512x128 (ValueIdx.ix2 a k) = v (ValueIdx.ix2 0 k) := by
  refine broadcastTo_apply v _ _ _ fun b => ?_
  match b with
  | ⟨0, _⟩ => rfl
  | ⟨1, _⟩ => rfl

theorem down512 (v : FVec Ideal S1x512 .f32) (a k : Fin 512) :
    broadcastTo S512x512 v broadcasts_S1x512_S512x512 (ValueIdx.ix2 a k) = v (ValueIdx.ix2 0 k) := by
  refine broadcastTo_apply v _ _ _ fun b => ?_
  match b with
  | ⟨0, _⟩ => rfl
  | ⟨1, _⟩ => rfl

theorem down1024 (v : FVec Ideal S1x1024 .f32) (a : Fin 512) (k : Fin 1024) :
    broadcastTo S512x1024 v broadcasts_S1x1024_S512x1024 (ValueIdx.ix2 a k) = v (ValueIdx.ix2 0 k) := by
  refine broadcastTo_apply v _ _ _ fun b => ?_
  match b with
  | ⟨0, _⟩ => rfl
  | ⟨1, _⟩ => rfl

theorem column (v : FVec Ideal S512 .f32) (a : Fin 512) :
    shapeCast S512x1 v shapeCasts_S512_S512x1 (ValueIdx.ix2 a 0) = v (ValueIdx.ix1 a) := by
  refine shapeCast_apply _ _ _ _ ?_
  rw [Shape.rowMajor_val_two, Shape.rowMajor_val_one]
  show a.val = a.val * 1 + 0
  omega

theorem rowSum512 (v : FVec Ideal S512x512 .f32) (a : Fin 512) :
    multiReduction .add [1] S512 v 0x00000000#32 reduces_S512x512_S512 (.inl rfl) rfl (ValueIdx.ix1 a) = ∑ k : Fin 512, v (ValueIdx.ix2 a k) := by
  refine (multiReduction_add_apply _ _ _ _ _ _).trans ?_
  rw [Ideal.reduceAdd_def]
  exact Ideal.reduceAdd_r2_a1 _ _ _

theorem rowSum1024 (v : FVec Ideal S512x1024 .f32) (a : Fin 512) :
    multiReduction .add [1] S512 v 0x00000000#32 reduces_S512x1024_S512 (.inl rfl) rfl (ValueIdx.ix1 a) = ∑ k : Fin 1024, v (ValueIdx.ix2 a k) := by
  refine (multiReduction_add_apply _ _ _ _ _ _).trans ?_
  rw [Ideal.reduceAdd_def]
  exact Ideal.reduceAdd_r2_a1 _ _ _

/-! ## Products -/

theorem dotProj (l : FVec Ideal S512x1024 .bf16) (r : FVec Ideal S1024x2560 .bf16) (a : Fin 512) (j : Fin 2560) :
    matmul dot_S512x1024_S1024x2560_S512x2560_1_0_0_1_n_n none l r (constant S512x2560 .f32 0x00000000#32) (ValueIdx.ix2 a j)
      = ∑ k : Fin 1024, (l (ValueIdx.ix2 a k) : EReal) * r (ValueIdx.ix2 k j) := by
  refine (Ideal.matmul_plain_apply (M := 512) (K := 1024) (N := 2560) none l r _ a j).trans ?_
  show Ideal.ofBits .f32 0x00000000#32 + _ = _
  rw [Ideal.ofBits_zero_f32, zero_add]

theorem dotGroup (l : FVec Ideal S512x128 .bf16) (r : FVec Ideal S128x128 .bf16) (a : Fin 512) (j : Fin 128) :
    matmul dot_S512x128_S128x128_S512x128_1_0_0_1_n_n none l r (constant S512x128 .f32 0x00000000#32) (ValueIdx.ix2 a j)
      = ∑ k : Fin 128, (l (ValueIdx.ix2 a k) : EReal) * r (ValueIdx.ix2 k j) := by
  refine (Ideal.matmul_plain_apply (M := 512) (K := 128) (N := 128) none l r _ a j).trans ?_
  show Ideal.ofBits .f32 0x00000000#32 + _ = _
  rw [Ideal.ofBits_zero_f32, zero_add]

theorem dotMix (l r : FVec Ideal S128x128 .bf16) (a j : Fin 128) :
    matmul dot_S128x128_S128x128_S128x128_1_0_0_1_n_n none l r (constant S128x128 .f32 0x00000000#32) (ValueIdx.ix2 a j)
      = ∑ k : Fin 128, (l (ValueIdx.ix2 a k) : EReal) * r (ValueIdx.ix2 k j) := by
  refine (Ideal.matmul_plain_apply (M := 128) (K := 128) (N := 128) none l r _ a j).trans ?_
  show Ideal.ofBits .f32 0x00000000#32 + _ = _
  rw [Ideal.ofBits_zero_f32, zero_add]

/-! ## The projection -/

theorem projB_apply (v0 : Vec Ideal S512x1024 .f32) (v1 : Vec Ideal S1x1024 .f32) (v16 : Vec Ideal S1024x2560 .bf16) (a : Fin 512) (j : Fin 2560) :
    (k0_pay2 v0 v1 v16 (ValueIdx.ix2 a j) : EReal)
      = proj (fun k => v0 (ValueIdx.ix2 a k)) (fun k => v1 (ValueIdx.ix2 0 k)) (fun k j => v16 (ValueIdx.ix2 k j)) j := by
  unfold k0_pay2
  simp only [shapeCast_self]
  refine (dotProj _ _ a j).trans (Finset.sum_congr rfl fun k _ => congrArg (· * (v16 (ValueIdx.ix2 k j) : EReal)) ?_)
  show (v0 (ValueIdx.ix2 a k) : EReal) * broadcastTo S512x1024 _ broadcasts_S512x1_S512x1024 (ValueIdx.ix2 a k)
    * broadcastTo S512x1024 v1 broadcasts_S1x1024_S512x1024 (ValueIdx.ix2 a k) = _
  rw [across1024, down1024]
  show (v0 (ValueIdx.ix2 a k) : EReal) * Ideal.rsqrt (Ideal.div (shapeCast S512x1 _ shapeCasts_S512_S512x1 (ValueIdx.ix2 a 0)) _ + _) * _ = _
  rw [column, rowSum1024]
  rfl

/-! ## Two heads, normalised over the entries of each -/

/-- One over the root mean square over the half of a row's 128 entries that an entry lies in: the squares in two parts
    through the matrix of ones on each half. -/
def halfRms (t : FVec Ideal S512x128 .f32) (bd : FVec Ideal S128x128 .bf16) : FVec Ideal S512x128 .f32 :=
  rsqrt (addf (mulf (addf
      (matmul dot_S512x128_S128x128_S512x128_1_0_0_1_n_n none (truncf .bf16 (mulf t t) bitsLt_bf16_f32) bd (constant S512x128 .f32 0x00000000#32))
      (matmul dot_S512x128_S128x128_S512x128_1_0_0_1_n_n none
        (truncf .bf16 (subf (mulf t t) (extf .f32 (truncf .bf16 (mulf t t) bitsLt_bf16_f32) bitsLt_bf16_f32)) bitsLt_bf16_f32) bd
        (constant S512x128 .f32 0x00000000#32)))
    (broadcast S512x128 (Scalar.ofBits .f32 0x3C800000#32))) (broadcast S512x128 (Scalar.ofBits .f32 0x358637BD#32)))

/-- The two heads scaled. -/
def pair (t : FVec Ideal S512x128 .f32) (bd : FVec Ideal S128x128 .bf16) (g : FVec Ideal S1x128 .f32) : FVec Ideal S512x128 .f32 :=
  mulf (mulf t (halfRms t bd)) (broadcastTo S512x128 (shapeCast S1x128 g shapeCasts_S1x128_S1x128) broadcasts_S1x128_S512x128)

/-- The matrix of ones on each half. -/
def IsHalves (bd : FVec Ideal S128x128 .bf16) : Prop :=
  ∀ k j : Fin 128, (bd (ValueIdx.ix2 k j) : EReal) = if k.val / 64 = j.val / 64 then 1 else 0

/-- A sum over the 128 entries against the matrix is the sum over the entry's half. -/
theorem halfSum (f : Fin 128 → EReal) (j : Fin 128) :
    (∑ k : Fin 128, f k * (if k.val / 64 = j.val / 64 then (1 : EReal) else 0)) = ∑ e : Fin 64, f ⟨64 * (j.val / 64) + e.val, by omega⟩ := by
  refine (Fin.sum_univ_add (a := 64) (b := 64) _).trans ?_
  have hj : j.val / 64 = 0 ∨ j.val / 64 = 1 := by omega
  have c0 : ∀ e : Fin 64, (Fin.castAdd 64 e : Fin 128).val / 64 = 0 := fun e => by
    show e.val / 64 = 0
    omega
  have c1 : ∀ e : Fin 64, (Fin.natAdd 64 e : Fin 128).val / 64 = 1 := fun e => by
    show (64 + e.val) / 64 = 1
    omega
  simp only [c0, c1]
  rcases hj with h | h
  · simp only [h, if_true, mul_one, show ¬ ((1 : ℕ) = 0) from by decide, if_false, mul_zero, Finset.sum_const_zero, add_zero]
    refine Finset.sum_congr rfl fun e _ => congrArg f (Fin.ext ?_)
    show e.val = 64 * 0 + e.val
    omega
  · simp only [h, if_true, mul_one, show ¬ ((0 : ℕ) = 1) from by decide, if_false, mul_zero, Finset.sum_const_zero, zero_add]
    refine Finset.sum_congr rfl fun e _ => congrArg f (Fin.ext ?_)
    show 64 + e.val = 64 * 1 + e.val
    omega

theorem halfRms_apply (t : FVec Ideal S512x128 .f32) (bd : FVec Ideal S128x128 .bf16) (hb : IsHalves bd) (a : Fin 512)
    (ht : ∀ k : Fin 128, IsFin (t (ValueIdx.ix2 a k))) (j : Fin 128) :
    (halfRms t bd (ValueIdx.ix2 a j) : EReal)
      = invRms 0x42800000#32 (fun e : Fin 64 => t (ValueIdx.ix2 a ⟨64 * (j.val / 64) + e.val, by omega⟩)) := by
  unfold halfRms invRms
  rw [div64]
  refine congrArg (fun z : EReal => Ideal.rsqrt (z * Ideal.ofBits .f32 0x3C800000#32 + Ideal.ofBits .f32 0x358637BD#32)) ?_
  refine (congrArg₂ (fun p q : EReal => p + q) (dotGroup _ _ a j) (dotGroup _ _ a j)).trans ?_
  have h1 : (∑ k : Fin 128, ((truncf .bf16 (mulf t t) bitsLt_bf16_f32 : FVec Ideal S512x128 .bf16) (ValueIdx.ix2 a k) : EReal) * bd (ValueIdx.ix2 k j))
      = ∑ e : Fin 64, (fun k : Fin 128 => (t (ValueIdx.ix2 a k) : EReal) * t (ValueIdx.ix2 a k)) ⟨64 * (j.val / 64) + e.val, by omega⟩ := by
    refine (Finset.sum_congr rfl fun k _ => ?_).trans (halfSum (fun k : Fin 128 => (t (ValueIdx.ix2 a k) : EReal) * t (ValueIdx.ix2 a k)) j)
    rw [hb k j]
    rfl
  have h2 : (∑ k : Fin 128, ((truncf .bf16 (subf (mulf t t) (extf .f32 (truncf .bf16 (mulf t t) bitsLt_bf16_f32) bitsLt_bf16_f32)) bitsLt_bf16_f32 :
      FVec Ideal S512x128 .bf16) (ValueIdx.ix2 a k) : EReal) * bd (ValueIdx.ix2 k j)) = 0 := by
    refine Finset.sum_eq_zero fun k _ => ?_
    have hz : ((truncf .bf16 (subf (mulf t t) (extf .f32 (truncf .bf16 (mulf t t) bitsLt_bf16_f32) bitsLt_bf16_f32)) bitsLt_bf16_f32 :
      FVec Ideal S512x128 .bf16) (ValueIdx.ix2 a k) : EReal) = 0 := ((ht k).mul (ht k)).sub_self
    rw [hz, zero_mul]
  rw [h1, h2, add_zero]

theorem pair_apply (t : FVec Ideal S512x128 .f32) (bd : FVec Ideal S128x128 .bf16) (g : FVec Ideal S1x128 .f32) (hb : IsHalves bd) (a : Fin 512)
    (ht : ∀ k : Fin 128, IsFin (t (ValueIdx.ix2 a k))) (j : Fin 128) :
    (pair t bd g (ValueIdx.ix2 a j) : EReal) = t (ValueIdx.ix2 a j)
      * invRms 0x42800000#32 (fun e : Fin 64 => t (ValueIdx.ix2 a ⟨64 * (j.val / 64) + e.val, by omega⟩)) * g (ValueIdx.ix2 0 j) := by
  unfold pair
  rw [shapeCast_self]
  show (t (ValueIdx.ix2 a j) : EReal) * halfRms t bd (ValueIdx.ix2 a j) * broadcastTo S512x128 g broadcasts_S1x128_S512x128 (ValueIdx.ix2 a j) = _
  rw [halfRms_apply t bd hb a ht j, down128]

/-! ## The mix over a block of 128 tokens -/

/-- A head's weight matrix, zero above the diagonal. -/
def lowerW (w : FVec Ideal S1x128x128 .f32) : FVec Ideal S128x128 .bf16 :=
  truncf .bf16 (select k0_pay17 (shapeCast S128x128 w shapeCasts_S1x128x128_S128x128) (broadcast S128x128 (Scalar.ofBits .f32 0x00000000#32))) bitsLt_bf16_f32

/-- A block's mix for two heads, one on the left and one on the right 64 columns. -/
def mixB (wl wr : FVec Ideal S128x128 .bf16) (b : FVec Ideal S128x128 .f32) (s : FVec Ideal S128x128 .bf16) : FVec Ideal S128x128 .f32 :=
  addf (select k0_pay18
      (matmul dot_S128x128_S128x128_S128x128_1_0_0_1_n_n none wl s (constant S128x128 .f32 0x00000000#32))
      (matmul dot_S128x128_S128x128_S128x128_1_0_0_1_n_n none wr s (constant S128x128 .f32 0x00000000#32)))
    (shapeCast S128x128 b shapeCasts_S128x128_S128x128)

/-- Four blocks' mix, and the gating. -/
def gateB (u : FVec Ideal S512x128 .f32) (wl wr : FVec Ideal S128x128 .bf16) (b : FVec Ideal S128x128 .f32) (s : FVec Ideal S512x128 .bf16) :
    FVec Ideal S512x128 .f32 :=
  mulf u (concatenate S512x128 0
    [⟨S128x128, mixB wl wr b (extractStridedSlice S128x128 ![0, 0] s slices_S512x128_o0_0_S128x128)⟩,
     ⟨S128x128, mixB wl wr b (extractStridedSlice S128x128 ![128, 0] s slices_S512x128_o128_0_S128x128)⟩,
     ⟨S128x128, mixB wl wr b (extractStridedSlice S128x128 ![256, 0] s slices_S512x128_o256_0_S128x128)⟩,
     ⟨S128x128, mixB wl wr b (extractStridedSlice S128x128 ![384, 0] s slices_S512x128_o384_0_S128x128)⟩]
    concatenates_S128x128_S128x128_S128x128_S128x128_S512x128_d0)

theorem causal : ∀ t u : Fin 128, k0_pay17 (ValueIdx.ix2 t u : S128x128.Idx) = if u ≤ t then 1#1 else 0#1 := by decide +kernel
theorem left64 : ∀ t j : Fin 128, k0_pay18 (ValueIdx.ix2 t j : S128x128.Idx) = if j.val < 64 then 1#1 else 0#1 := by decide +kernel

theorem lowerW_apply (w : FVec Ideal S1x128x128 .f32) (t u : Fin 128) :
    (lowerW w (ValueIdx.ix2 t u) : EReal) = if u ≤ t then w (ValueIdx.ix3 0 t u) else 0 := by
  have e : shapeCast S128x128 w shapeCasts_S1x128x128_S128x128 (ValueIdx.ix2 t u) = w (ValueIdx.ix3 0 t u) := by
    refine shapeCast_apply _ _ _ _ ?_
    rw [Shape.rowMajor_val_two, Shape.rowMajor_val_three]
    show (0 * 128 + t.val) * 128 + u.val = t.val * 128 + u.val
    omega
  show Scalar.select (k0_pay17 (ValueIdx.ix2 t u)) (shapeCast S128x128 w shapeCasts_S1x128x128_S128x128 (ValueIdx.ix2 t u)) (Ideal.ofBits .f32 0x00000000#32) = _
  rw [causal, e, Ideal.ofBits_zero_f32]
  unfold Scalar.select
  by_cases h : u ≤ t
  · simp [h]
  · simp [h]

theorem mixB_apply (wl wr : FVec Ideal S128x128 .bf16) (b : FVec Ideal S128x128 .f32) (s : FVec Ideal S128x128 .bf16) (t j : Fin 128) :
    (mixB wl wr b s (ValueIdx.ix2 t j) : EReal)
      = (∑ u : Fin 128, ((if j.val < 64 then wl else wr) (ValueIdx.ix2 t u) : EReal) * s (ValueIdx.ix2 u j)) + b (ValueIdx.ix2 t j) := by
  unfold mixB
  rw [shapeCast_self]
  refine congrArg (fun z : EReal => z + b (ValueIdx.ix2 t j)) ?_
  show Scalar.select (k0_pay18 (ValueIdx.ix2 t j)) _ _ = _
  rw [left64]
  unfold Scalar.select
  by_cases h : j.val < 64
  · simp only [h, if_true]
    exact (if_pos rfl).trans (dotMix wl s t j)
  · simp only [h, if_false]
    exact (if_neg (by decide)).trans (dotMix wr s t j)

end Cert.Kernel3Ideal.InProj

end
-- ==== Proof.InProj.Tile.lean ====
/- The four results of one grid point from its blocks, entry by entry, at the ideal values. -/
module

public import proofs.«01_k».proof.Proof.InProj.Block
public import Idealize.ShloMosaic.Lib.Pipeline.CanonAppend

@[expose] public section

set_option maxRecDepth 16384

noncomputable section

namespace Cert.Kernel3Ideal.InProj

open Cert.Kernel3Ideal Cert.Kernel3Ideal.Gen Cert.OutProj Cert.InProj
open Idealize.ShloMosaic Idealize.ShloMosaic.TcCoe

/-! ## Columns and rows -/

theorem colsP (o : ℕ) (ho : o + 128 ≤ 2560) (p : FVec Ideal S512x2560 .f32) (h : S512x2560.Slices ![0, o] S512x128) (a : Fin 512) (k : Fin 128) :
    extractStridedSlice S512x128 ![0, o] p h (ValueIdx.ix2 a k) = p (ValueIdx.ix2 a ⟨o + k.val, by omega⟩) := by
  refine extractStridedSlice_apply _ _ _ _ _ fun b => ?_
  match b with
  | ⟨0, _⟩ => exact (Nat.zero_add _).symm
  | ⟨1, _⟩ => rfl

theorem colsG (c : ℕ) (hc : c + 128 ≤ 512) (g : FVec Ideal S1x512 .f32) (h : S1x512.Slices ![0, c] S1x128) (k : Fin 128) :
    extractStridedSlice S1x128 ![0, c] g h (ValueIdx.ix2 0 k) = g (ValueIdx.ix2 0 ⟨c + k.val, by omega⟩) := by
  refine extractStridedSlice_apply _ _ _ _ _ fun b => ?_
  match b with
  | ⟨0, _⟩ => rfl
  | ⟨1, _⟩ => rfl

theorem colsB (c : ℕ) (hc : c + 128 ≤ 512) (g : FVec Ideal S128x512 .f32) (h : S128x512.Slices ![0, c] S128x128) (t k : Fin 128) :
    extractStridedSlice S128x128 ![0, c] g h (ValueIdx.ix2 t k) = g (ValueIdx.ix2 t ⟨c + k.val, by omega⟩) := by
  refine extractStridedSlice_apply _ _ _ _ _ fun b => ?_
  match b with
  | ⟨0, _⟩ => exact (Nat.zero_add _).symm
  | ⟨1, _⟩ => rfl

theorem matW (i : ℕ) (hi : i + 1 ≤ 8) (w : FVec Ideal S8x128x128 .f32) (h : S8x128x128.Slices ![i, 0, 0] S1x128x128) (t u : Fin 128) :
    extractStridedSlice S1x128x128 ![i, 0, 0] w h (ValueIdx.ix3 0 t u) = w (ValueIdx.ix3 ⟨i, by omega⟩ t u) := by
  refine extractStridedSlice_apply _ _ _ _ _ fun b => ?_
  match b with
  | ⟨0, _⟩ => rfl
  | ⟨1, _⟩ => exact (Nat.zero_add _).symm
  | ⟨2, _⟩ => exact (Nat.zero_add _).symm

theorem rowsS (o : ℕ) (ho : o + 128 ≤ 512) (s : FVec Ideal S512x128 .bf16) (h : S512x128.Slices ![o, 0] S128x128) (u k : Fin 128) :
    extractStridedSlice S128x128 ![o, 0] s h (ValueIdx.ix2 u k) = s (ValueIdx.ix2 ⟨o + u.val, by omega⟩ k) := by
  refine extractStridedSlice_apply _ _ _ _ _ fun b => ?_
  match b with
  | ⟨0, _⟩ => rfl
  | ⟨1, _⟩ => exact (Nat.zero_add _).symm

/-- The row of a tile at a place of one of its four blocks. -/
def row4 (n : Fin 4) (t : Fin 128) : Fin 512 := ⟨128 * n.val + t.val, by omega⟩

theorem four_rows (m0 m1 m2 m3 : FVec Ideal S128x128 .f32) (n : Fin 4) (t k : Fin 128) :
    concatenate S512x128 0 [⟨S128x128, m0⟩, ⟨S128x128, m1⟩, ⟨S128x128, m2⟩, ⟨S128x128, m3⟩]
      concatenates_S128x128_S128x128_S128x128_S128x128_S512x128_d0 (ValueIdx.ix2 (row4 n t) k)
      = (![m0, m1, m2, m3] : Fin 4 → FVec Ideal S128x128 .f32) n (ValueIdx.ix2 t k) := by
  refine concatenate_ofFn_apply (t := S512x128) (s₁ := S128x128) 0 (![m0, m1, m2, m3] : Fin 4 → FVec Ideal S128x128 .f32)
    concatenates_S128x128_S128x128_S128x128_S128x128_S512x128_d0 rfl 128 rfl (ValueIdx.ix2 (row4 n t) k) n ?_ (ValueIdx.ix2 t k) ?_ ?_
  · show (128 * n.val + t.val) / 128 = n.val
    omega
  · show t.val = (128 * n.val + t.val) % 128
    omega
  · intro b hb
    match b with
    | ⟨0, _⟩ => exact absurd rfl hb
    | ⟨1, _⟩ => rfl

theorem four_cols (m0 m1 m2 m3 : FVec Ideal S512x128 .f32) (n : Fin 4) (a : Fin 512) (k : Fin 128) :
    concatenate S512x512 1 [⟨S512x128, m0⟩, ⟨S512x128, m1⟩, ⟨S512x128, m2⟩, ⟨S512x128, m3⟩]
      concatenates_S512x128_S512x128_S512x128_S512x128_S512x512_d1 (ValueIdx.ix2 a (row4 n k))
      = (![m0, m1, m2, m3] : Fin 4 → FVec Ideal S512x128 .f32) n (ValueIdx.ix2 a k) := by
  refine concatenate_ofFn_apply (t := S512x512) (s₁ := S512x128) 1 (![m0, m1, m2, m3] : Fin 4 → FVec Ideal S512x128 .f32)
    concatenates_S512x128_S512x128_S512x128_S512x128_S512x512_d1 rfl 128 rfl (ValueIdx.ix2 a (row4 n k)) n ?_ (ValueIdx.ix2 a k) ?_ ?_
  · show (128 * n.val + k.val) / 128 = n.val
    omega
  · show k.val = (128 * n.val + k.val) % 128
    omega
  · intro b hb
    match b with
    | ⟨0, _⟩ => rfl
    | ⟨1, _⟩ => exact absurd rfl hb

theorem row4_surj (a : Fin 512) : ∃ (n : Fin 4) (t : Fin 128), a = row4 n t :=
  ⟨⟨a.val / 128, by omega⟩, ⟨a.val % 128, by omega⟩, Fin.ext (by show a.val = 128 * (a.val / 128) + a.val % 128; omega)⟩

/-! ## The normalised heads -/

/-- Two heads of a row of a projection's 512 entries. -/
theorem pair_cols (p : FVec Ideal S512x2560 .f32) (bd : FVec Ideal S128x128 .bf16) (g : FVec Ideal S1x512 .f32) (hb : IsHalves bd)
    (hp : ∀ a j, IsFin (p (ValueIdx.ix2 a j))) (o : ℕ) (ho : o + 512 ≤ 2560) (c : ℕ) (hc : c + 128 ≤ 512) (hc64 : c % 64 = 0)
    (hs : S512x2560.Slices ![0, o + c] S512x128) (hg : S1x512.Slices ![0, c] S1x128) (a : Fin 512) (k : Fin 128) :
    (pair (extractStridedSlice S512x128 ![0, o + c] p hs) bd (extractStridedSlice S1x128 ![0, c] g hg) (ValueIdx.ix2 a k) : EReal)
      = perHead (part (fun j => p (ValueIdx.ix2 a j)) o ho) (fun j => g (ValueIdx.ix2 0 j)) ⟨c + k.val, by omega⟩ := by
  have e : ∀ k : Fin 128, extractStridedSlice S512x128 ![0, o + c] p hs (ValueIdx.ix2 a k) = p (ValueIdx.ix2 a ⟨o + (c + k.val), by omega⟩) := fun k =>
    (colsP (o + c) (by omega) p hs a k).trans (congrArg (fun z => p (ValueIdx.ix2 a z)) (Fin.ext (Nat.add_assoc o c k.val)))
  refine (pair_apply _ bd _ hb a (fun k => by rw [e k]; exact hp _ _) k).trans ?_
  rw [colsG c hc g hg k]
  simp only [e]
  unfold perHead
  refine congrArg₂ (fun x y : EReal => x * y) (congrArg₂ (fun x y : EReal => x * y) rfl (congrArg (invRms 0x42800000#32) ?_)) rfl
  funext q
  show (p (ValueIdx.ix2 a ⟨o + (c + (64 * (k.val / 64) + q.val)), _⟩) : EReal) = p (ValueIdx.ix2 a ⟨o + (64 * ((c + k.val) / 64) + q.val), _⟩)
  refine congrArg (fun z => p (ValueIdx.ix2 a z)) (Fin.ext ?_)
  show o + (c + (64 * (k.val / 64) + q.val)) = o + (64 * ((c + k.val) / 64) + q.val)
  omega

/-! ## The gated rows -/

theorem gateB_apply (u : FVec Ideal S512x128 .f32) (wl wr : FVec Ideal S128x128 .bf16) (b : FVec Ideal S128x128 .f32) (s : FVec Ideal S512x128 .bf16)
    (n : Fin 4) (t k : Fin 128) :
    (gateB u wl wr b s (ValueIdx.ix2 (row4 n t) k) : EReal) = u (ValueIdx.ix2 (row4 n t) k)
      * ((∑ q : Fin 128, ((if k.val < 64 then wl else wr) (ValueIdx.ix2 t q) : EReal) * s (ValueIdx.ix2 (row4 n q) k)) + b (ValueIdx.ix2 t k)) := by
  unfold gateB
  refine congrArg (fun z : EReal => (u (ValueIdx.ix2 (row4 n t) k) : EReal) * z) ?_
  refine (four_rows _ _ _ _ n t k).trans ?_
  have main : ∀ (o : ℕ) (ho : o + 128 ≤ 512) (h : S512x128.Slices ![o, 0] S128x128) (hn : o = 128 * n.val),
      (mixB wl wr b (extractStridedSlice S128x128 ![o, 0] s h) (ValueIdx.ix2 t k) : EReal)
        = (∑ q : Fin 128, ((if k.val < 64 then wl else wr) (ValueIdx.ix2 t q) : EReal) * s (ValueIdx.ix2 (row4 n q) k)) + b (ValueIdx.ix2 t k) := by
    intro o ho h hn
    subst hn
    rw [mixB_apply]
    refine congrArg (fun z : EReal => z + b (ValueIdx.ix2 t k)) (Finset.sum_congr rfl fun q _ => ?_)
    rw [rowsS (128 * n.val) ho s h q k]
    rfl
  match n with
  | ⟨0, _⟩ => exact main 0 (by norm_num) _ rfl
  | ⟨1, _⟩ => exact main 128 (by norm_num) _ rfl
  | ⟨2, _⟩ => exact main 256 (by norm_num) _ rfl
  | ⟨3, _⟩ => exact main 384 (by norm_num) _ rfl

/-- Two heads' columns of the gated rows. -/
theorem gate_cols (p : FVec Ideal S512x2560 .f32) (bd : FVec Ideal S128x128 .bf16) (sg : FVec Ideal S1x512 .f32) (w : FVec Ideal S8x128x128 .f32)
    (b : FVec Ideal S128x512 .f32) (hb : IsHalves bd) (hp : ∀ a j, IsFin (p (ValueIdx.ix2 a j)))
    (c : ℕ) (hc : c + 128 ≤ 512) (hc64 : c % 64 = 0) (i : ℕ) (hi : i + 2 ≤ 8) (hic : c / 64 = i)
    (hu : S512x2560.Slices ![0, 1536 + c] S512x128) (hs : S512x2560.Slices ![0, 2048 + c] S512x128) (hg : S1x512.Slices ![0, c] S1x128)
    (hl : S8x128x128.Slices ![i, 0, 0] S1x128x128) (hr : S8x128x128.Slices ![i + 1, 0, 0] S1x128x128) (hB : S128x512.Slices ![0, c] S128x128)
    (bw : Fin 8 → Fin 128 → EReal) (hbw : ∀ (t : Fin 128) (j : Fin 512), (b (ValueIdx.ix2 t j) : EReal) = bw ⟨j.val / 64, by omega⟩ t)
    (n : Fin 4) (t k : Fin 128) :
    (gateB (extractStridedSlice S512x128 ![0, 1536 + c] p hu) (lowerW (extractStridedSlice S1x128x128 ![i, 0, 0] w hl))
        (lowerW (extractStridedSlice S1x128x128 ![i + 1, 0, 0] w hr)) (extractStridedSlice S128x128 ![0, c] b hB)
        (truncf .bf16 (pair (extractStridedSlice S512x128 ![0, 2048 + c] p hs) bd (extractStridedSlice S1x128 ![0, c] sg hg)) bitsLt_bf16_f32)
        (ValueIdx.ix2 (row4 n t) k) : EReal)
      = gated (fun u j => p (ValueIdx.ix2 (row4 n u) j)) (fun j => sg (ValueIdx.ix2 0 j)) (fun h t u => w (ValueIdx.ix3 h t u)) bw t ⟨c + k.val, by omega⟩ := by
  rw [gateB_apply, colsP (1536 + c) (by omega) p hu, colsB c hc b hB, hbw]
  unfold gated mixed
  refine congrArg₂ (fun x y : EReal => x * y) (congrArg (fun z => p (ValueIdx.ix2 (row4 n t) z)) (Fin.ext (Nat.add_assoc 1536 c k.val))) ?_
  refine congrArg (fun z : EReal => z + _) (Finset.sum_congr rfl fun u _ => ?_)
  refine congrArg₂ (fun x y : EReal => x * y) ?_ (pair_cols p bd sg hb hp 2048 (by norm_num) c hc hc64 hs hg (row4 n u) k)
  by_cases hk : k.val < 64
  · rw [if_pos hk, lowerW_apply, matW i (by omega) w hl]
    refine congrArg (fun z : EReal => if u ≤ t then z else 0) (congrArg (fun z => w (ValueIdx.ix3 z t u)) (Fin.ext ?_))
    show i = (c + k.val) / 64
    omega
  · rw [if_neg hk, lowerW_apply, matW (i + 1) (by omega) w hr]
    refine congrArg (fun z : EReal => if u ≤ t then z else 0) (congrArg (fun z => w (ValueIdx.ix3 z t u)) (Fin.ext ?_))
    show i + 1 = (c + k.val) / 64
    omega

/-- A row normalised over its 512 entries. -/
def rowScale (v : FVec Ideal S512x512 .f32) (g : FVec Ideal S1x512 .f32) : FVec Ideal S512x512 .bf16 :=
  truncf .bf16 (mulf (mulf v (broadcastTo S512x512 (rsqrt (addf (divf (shapeCast S512x1
        (multiReduction .add [1] S512 (mulf v v) 0x00000000#32 reduces_S512x512_S512 (.inl rfl) rfl) shapeCasts_S512_S512x1)
        (broadcast S512x1 (Scalar.ofBits .f32 0x44000000#32))) (broadcast S512x1 (Scalar.ofBits .f32 0x358637BD#32))))
        broadcasts_S512x1_S512x512)) (broadcastTo S512x512 (shapeCast S1x512 g shapeCasts_S1x512_S1x512) broadcasts_S1x512_S512x512)) bitsLt_bf16_f32

theorem rowScale_apply (v : FVec Ideal S512x512 .f32) (g : FVec Ideal S1x512 .f32) (a j : Fin 512) :
    (rowScale v g (ValueIdx.ix2 a j) : EReal) = normed 0x44000000#32 (fun j => v (ValueIdx.ix2 a j)) (fun j => g (ValueIdx.ix2 0 j)) j := by
  unfold rowScale
  rw [shapeCast_self]
  show (v (ValueIdx.ix2 a j) : EReal) * broadcastTo S512x512 _ broadcasts_S512x1_S512x512 (ValueIdx.ix2 a j)
    * broadcastTo S512x512 g broadcasts_S1x512_S512x512 (ValueIdx.ix2 a j) = _
  rw [across512, down512]
  show (v (ValueIdx.ix2 a j) : EReal) * Ideal.rsqrt (Ideal.div (shapeCast S512x1 _ shapeCasts_S512_S512x1 (ValueIdx.ix2 a 0)) _ + _) * _ = _
  rw [column, rowSum512]
  rfl

end Cert.Kernel3Ideal.InProj

end
-- ==== Proof.InProj.Out.lean ====
/- The four output blocks of one grid point as functions of its input blocks, at the ideal values. -/
module

public import proofs.«01_k».proof.Proof.InProj.Tile

@[expose] public section

set_option maxRecDepth 16384

noncomputable section

namespace Cert.Kernel3Ideal.InProj

open Cert.Kernel3Ideal Cert.Kernel3Ideal.Gen Cert.OutProj Cert.InProj
open Idealize.ShloMosaic Idealize.ShloMosaic.TcCoe

theorem zeros2 : (![0, 0] : Fin 2 → Nat) = fun _ => 0 := by
  funext b
  match b with
  | ⟨0, _⟩ => rfl
  | ⟨1, _⟩ => rfl

variable (x0 : Vec Ideal S512x1024 .f32) (x1 : Vec Ideal S1x1024 .f32) (x2 : Vec Ideal S1024x2560 .bf16) (x3 x4 x5 : Vec Ideal S1x512 .f32)
  (x6 : Vec Ideal S128x128 .bf16) (x7 : Vec Ideal S8x128x128 .f32) (x8 : Vec Ideal S128x512 .f32) (x9 : Vec Ideal S1x512 .f32)

/-- The projections of the tile's 512 tokens. -/
def projT : FVec Ideal S512x2560 .f32 := k0_pay2 x0 x1 x2

/-- The normalised heads of the tile, from 512 columns of the projections. -/
def headsT (p : FVec Ideal S512x2560 .f32) (o : ℕ) (ho : o + 512 ≤ 2560) (g : Vec Ideal S1x512 .f32) : S512x512.Idx → EReal := fun y =>
  perHead (part (fun j => p (ValueIdx.ix2 (y 0) j)) o ho) (fun j => g (ValueIdx.ix2 0 j)) (y 1)

theorem ix2_eta {s0 s1 : ℕ} (x : (⟨2, ![s0, s1]⟩ : Shape).Idx) : ∃ (a : Fin s0) (k : Fin s1), x = ValueIdx.ix2 a k :=
  ⟨x 0, x 1, funext fun b => by match b with | ⟨0, _⟩ => rfl | ⟨1, _⟩ => rfl⟩

/-- A piece of 128 columns, at its place among the 512. -/
theorem piece_heads (p : FVec Ideal S512x2560 .f32) (bd : FVec Ideal S128x128 .bf16) (g : Vec Ideal S1x512 .f32) (hb : IsHalves bd)
    (hp : ∀ a j, IsFin (p (ValueIdx.ix2 a j))) (o : ℕ) (ho : o + 512 ≤ 2560) (c : ℕ) (hc : c + 128 ≤ 512) (hc64 : c % 64 = 0)
    (hs : S512x2560.Slices ![0, o + c] S512x128) (hg : S1x512.Slices ![0, c] S1x128)
    (inb : ∀ a, (![0, c] : Fin 2 → Nat) a + S512x128.size a ≤ S512x512.size a) (x : S512x128.Idx) :
    (pair (extractStridedSlice S512x128 ![0, o + c] p hs) bd (extractStridedSlice S1x128 ![0, c] g hg) x : EReal)
      = headsT p o ho g ((Rect.unit (s := S512x512) ![0, c] S512x128.size inb).emb x) := by
  obtain ⟨a, k, rfl⟩ := ix2_eta x
  refine (pair_cols p bd g hb hp o ho c hc hc64 hs hg a k).trans ?_
  have e : (Rect.unit (s := S512x512) ![0, c] S512x128.size inb).emb (ValueIdx.ix2 a k) = (ValueIdx.ix2 a ⟨c + k.val, by omega⟩ : S512x512.Idx) := by
    funext b
    match b with
    | ⟨0, _⟩ => exact Fin.ext (by show 0 + 1 * a.val = a.val; omega)
    | ⟨1, _⟩ => exact Fin.ext (by show c + 1 * k.val = c + k.val; omega)
  rw [e]
  rfl

/-- Four pieces of 128 columns that agree with one function make that function. -/
theorem canon4 (G : S512x512.Idx → Elt Ideal .f32) (p0 p1 p2 p3 : Vec Ideal S512x128 .f32) (h0 : ∀ x, p0 x = G (r0_11.emb x))
    (h1 : ∀ x, p1 x = G (r0_9.emb x)) (h2 : ∀ x, p2 x = G (r0_7.emb x)) (h3 : ∀ x, p3 x = G (r0_5.emb x)) :
    View.canon ([⟨r0_11, p0⟩, ⟨r0_9, p1⟩, ⟨r0_7, p2⟩, ⟨r0_5, p3⟩] : List (View.Piece (Elt Ideal) S512x512 .f32)) = G := by
  funext y
  have h := View.canon_append_of_pieces G []
    ([⟨r0_11, p0⟩, ⟨r0_9, p1⟩, ⟨r0_7, p2⟩, ⟨r0_5, p3⟩] : List (View.Piece (Elt Ideal) S512x512 .f32))
    (List.forall_mem_cons.mpr ⟨h0, List.forall_mem_cons.mpr ⟨h1, List.forall_mem_cons.mpr ⟨h2,
      List.forall_mem_cons.mpr ⟨h3, fun _ h => absurd h List.not_mem_nil⟩⟩⟩⟩) y (cover0_10 p0 p1 p2 p3 y)
  rwa [List.append_nil] at h

theorem out10_eq (hb : IsHalves x6) (hp : ∀ a j, IsFin (projT x0 x1 x2 (ValueIdx.ix2 a j))) :
    out0_10 x0 x1 x2 x3 x4 x5 x6 x7 x8 x9 = headsT (projT x0 x1 x2) 0 (by norm_num) x3 := by
  unfold out0_10 k0_pay53 k0_pay54
  rw [View.ld_unit_zero zeros2, View.ld_unit_zero zeros2, View.ld_unit_zero zeros2, View.ld_unit_zero zeros2]
  rw [View.ld_unit, View.ld_unit, View.ld_unit, View.ld_unit]
  have hx6 : k0_pay3 x6 = x6 := by unfold k0_pay3; exact shapeCast_self _ _
  rw [hx6]
  refine canon4 _ _ _ _ _ (fun x => ?_) (fun x => ?_) (fun x => ?_) (fun x => ?_)
  · exact piece_heads (projT x0 x1 x2) x6 x3 hb hp 0 (by norm_num) 384 (by norm_num) rfl slices_S512x2560_o0_384_S512x128 _ inb_S512x512_S512x128_0_384 x
  · exact piece_heads (projT x0 x1 x2) x6 x3 hb hp 0 (by norm_num) 256 (by norm_num) rfl slices_S512x2560_o0_256_S512x128 _ inb_S512x512_S512x128_0_256 x
  · exact piece_heads (projT x0 x1 x2) x6 x3 hb hp 0 (by norm_num) 128 (by norm_num) rfl slices_S512x2560_o0_128_S512x128 _ inb_S512x512_S512x128_0_128 x
  · refine Eq.trans ?_ (piece_heads (projT x0 x1 x2) x6 x3 hb hp 0 (by norm_num) 0 (by norm_num) rfl slices_S512x2560_o0_0_S512x128 ⟨rfl, inb_S1x512_S1x128_0_0⟩ inb_S512x512_S512x128_0_0 x)
    show k0_pay4 x0 x1 x2 x6 _ x = _
    unfold k0_pay4
    rw [hx6]
    rfl

theorem out11_eq (hb : IsHalves x6) (hp : ∀ a j, IsFin (projT x0 x1 x2 (ValueIdx.ix2 a j))) :
    out0_11 x0 x1 x2 x3 x4 x5 x6 x7 x8 x9 = headsT (projT x0 x1 x2) 512 (by norm_num) x4 := by
  unfold out0_11 k0_pay53 k0_pay54
  rw [View.ld_unit_zero zeros2, View.ld_unit_zero zeros2, View.ld_unit_zero zeros2, View.ld_unit_zero zeros2]
  rw [View.ld_unit, View.ld_unit, View.ld_unit, View.ld_unit]
  have hx6 : k0_pay3 x6 = x6 := by unfold k0_pay3; exact shapeCast_self _ _
  rw [hx6]
  refine canon4 _ _ _ _ _ (fun x => ?_) (fun x => ?_) (fun x => ?_) (fun x => ?_)
  · exact piece_heads (projT x0 x1 x2) x6 x4 hb hp 512 (by norm_num) 384 (by norm_num) rfl slices_S512x2560_o0_896_S512x128 _ inb_S512x512_S512x128_0_384 x
  · exact piece_heads (projT x0 x1 x2) x6 x4 hb hp 512 (by norm_num) 256 (by norm_num) rfl slices_S512x2560_o0_768_S512x128 _ inb_S512x512_S512x128_0_256 x
  · exact piece_heads (projT x0 x1 x2) x6 x4 hb hp 512 (by norm_num) 128 (by norm_num) rfl slices_S512x2560_o0_640_S512x128 _ inb_S512x512_S512x128_0_128 x
  · exact piece_heads (projT x0 x1 x2) x6 x4 hb hp 512 (by norm_num) 0 (by norm_num) rfl slices_S512x2560_o0_512_S512x128 _ inb_S512x512_S512x128_0_0 x

/-- The values: the 512 columns as they are. -/
theorem out12_eq (a j : Fin 512) : (out0_12 x0 x1 x2 x3 x4 x5 x6 x7 x8 x9 (ValueIdx.ix2 a j) : EReal)
    = part (fun j => projT x0 x1 x2 (ValueIdx.ix2 a j)) 1024 (by norm_num) j := by
  unfold out0_12 k0_pay53
  rw [View.ld_unit_zero zeros2, View.ld_unit_zero zeros2, View.ld_unit_zero zeros2, View.canon_unit_zero zeros2]
  unfold k0_pay16
  refine extractStridedSlice_apply _ _ _ _ _ fun b => ?_
  match b with
  | ⟨0, _⟩ => exact (Nat.zero_add _).symm
  | ⟨1, _⟩ => rfl

/-- The gated rows of the tile, before their normalisation. -/
def gatedT (p : FVec Ideal S512x2560 .f32) (bd : FVec Ideal S128x128 .bf16) (g : FVec Ideal S1x512 .f32) (w : FVec Ideal S8x128x128 .f32)
    (b : FVec Ideal S128x512 .f32) : FVec Ideal S512x512 .f32 :=
  concatenate S512x512 1
    [⟨S512x128, gateB (extractStridedSlice S512x128 ![0, 1536] p slices_S512x2560_o0_1536_S512x128)
      (lowerW (extractStridedSlice S1x128x128 ![0, 0, 0] w ⟨rfl, inb_S8x128x128_S1x128x128_0_0_0⟩))
      (lowerW (extractStridedSlice S1x128x128 ![1, 0, 0] w ⟨rfl, inb_S8x128x128_S1x128x128_1_0_0⟩))
      (extractStridedSlice S128x128 ![0, 0] b ⟨rfl, inb_S128x512_S128x128_0_0⟩)
      (truncf .bf16 (pair (extractStridedSlice S512x128 ![0, 2048] p slices_S512x2560_o0_2048_S512x128) bd
        (extractStridedSlice S1x128 ![0, 0] g ⟨rfl, inb_S1x512_S1x128_0_0⟩)) bitsLt_bf16_f32)⟩,
     ⟨S512x128, gateB (extractStridedSlice S512x128 ![0, 1664] p slices_S512x2560_o0_1664_S512x128)
      (lowerW (extractStridedSlice S1x128x128 ![2, 0, 0] w ⟨rfl, inb_S8x128x128_S1x128x128_2_0_0⟩))
      (lowerW (extractStridedSlice S1x128x128 ![3, 0, 0] w ⟨rfl, inb_S8x128x128_S1x128x128_3_0_0⟩))
      (extractStridedSlice S128x128 ![0, 128] b ⟨rfl, inb_S128x512_S128x128_0_128⟩)
      (truncf .bf16 (pair (extractStridedSlice S512x128 ![0, 2176] p slices_S512x2560_o0_2176_S512x128) bd
        (extractStridedSlice S1x128 ![0, 128] g ⟨rfl, inb_S1x512_S1x128_0_128⟩)) bitsLt_bf16_f32)⟩,
     ⟨S512x128, gateB (extractStridedSlice S512x128 ![0, 1792] p slices_S512x2560_o0_1792_S512x128)
      (lowerW (extractStridedSlice S1x128x128 ![4, 0, 0] w ⟨rfl, inb_S8x128x128_S1x128x128_4_0_0⟩))
      (lowerW (extractStridedSlice S1x128x128 ![5, 0, 0] w ⟨rfl, inb_S8x128x128_S1x128x128_5_0_0⟩))
      (extractStridedSlice S128x128 ![0, 256] b ⟨rfl, inb_S128x512_S128x128_0_256⟩)
      (truncf .bf16 (pair (extractStridedSlice S512x128 ![0, 2304] p slices_S512x2560_o0_2304_S512x128) bd
        (extractStridedSlice S1x128 ![0, 256] g ⟨rfl, inb_S1x512_S1x128_0_256⟩)) bitsLt_bf16_f32)⟩,
     ⟨S512x128, gateB (extractStridedSlice S512x128 ![0, 1920] p slices_S512x2560_o0_1920_S512x128)
      (lowerW (extractStridedSlice S1x128x128 ![6, 0, 0] w ⟨rfl, inb_S8x128x128_S1x128x128_6_0_0⟩))
      (lowerW (extractStridedSlice S1x128x128 ![7, 0, 0] w ⟨rfl, inb_S8x128x128_S1x128x128_7_0_0⟩))
      (extractStridedSlice S128x128 ![0, 384] b ⟨rfl, inb_S128x512_S128x128_0_384⟩)
      (truncf .bf16 (pair (extractStridedSlice S512x128 ![0, 2432] p slices_S512x2560_o0_2432_S512x128) bd
        (extractStridedSlice S1x128 ![0, 384] g ⟨rfl, inb_S1x512_S1x128_0_384⟩)) bitsLt_bf16_f32)⟩]
    concatenates_S512x128_S512x128_S512x128_S512x128_S512x512_d1

theorem gatedT_apply (p : FVec Ideal S512x2560 .f32) (bd : FVec Ideal S128x128 .bf16) (g : FVec Ideal S1x512 .f32) (w : FVec Ideal S8x128x128 .f32)
    (b : FVec Ideal S128x512 .f32) (hb : IsHalves bd) (hp : ∀ a j, IsFin (p (ValueIdx.ix2 a j)))
    (bw : Fin 8 → Fin 128 → EReal) (hbw : ∀ (t : Fin 128) (j : Fin 512), (b (ValueIdx.ix2 t j) : EReal) = bw ⟨j.val / 64, by omega⟩ t)
    (n : Fin 4) (t : Fin 128) (j : Fin 512) :
    (gatedT p bd g w b (ValueIdx.ix2 (row4 n t) j) : EReal)
      = gated (fun u j => p (ValueIdx.ix2 (row4 n u) j)) (fun j => g (ValueIdx.ix2 0 j)) (fun h t u => w (ValueIdx.ix3 h t u)) bw t j := by
  obtain ⟨i, k, rfl⟩ := row4_surj j
  unfold gatedT
  refine (four_cols _ _ _ _ i (row4 n t) k).trans ?_
  match i with
  | ⟨0, _⟩ => exact gate_cols p bd g w b hb hp 0 (by norm_num) rfl 0 (by norm_num) rfl _ _ _ _ _ _ bw hbw n t k
  | ⟨1, _⟩ => exact gate_cols p bd g w b hb hp 128 (by norm_num) rfl 2 (by norm_num) rfl _ _ _ _ _ _ bw hbw n t k
  | ⟨2, _⟩ => exact gate_cols p bd g w b hb hp 256 (by norm_num) rfl 4 (by norm_num) rfl _ _ _ _ _ _ bw hbw n t k
  | ⟨3, _⟩ => exact gate_cols p bd g w b hb hp 384 (by norm_num) rfl 6 (by norm_num) rfl _ _ _ _ _ _ bw hbw n t k

theorem out13_eq : out0_13 x0 x1 x2 x3 x4 x5 x6 x7 x8 x9 = rowScale (gatedT (projT x0 x1 x2) x6 x5 x7 x8) x9 := by
  have hx6 : k0_pay3 x6 = x6 := by unfold k0_pay3; exact shapeCast_self _ _
  unfold out0_13
  rw [View.canon_unit_zero zeros2]
  unfold k0_pay58 k0_pay57 k0_pay56 k0_pay55 k0_pay54 k0_pay53
  rw [View.ld_unit_zero zeros2, View.ld_unit_zero zeros2, View.ld_unit_zero zeros2, View.ld_unit_zero zeros2, View.ld_unit_zero zeros2, hx6]
  simp only [View.ld_unit]
  rfl

end Cert.Kernel3Ideal.InProj

end
-- ==== Proof.InProj.Start.lean ====
/- What the call's operands hold when it starts, in terms of the program's arguments, at the ideal values. -/
module

public import proofs.«01_k».proof.Proof.InProj.Out
public import Idealize.ShloMosaic.Lib.StableHlo.Run
public import Idealize.ShloMosaic.Lib.ValueLayout
public import Idealize.ShloMosaic.Lib.IdealHost
public import Idealize.ShloMosaic.Lib.Pipeline.ValueKit.Geometry

@[expose] public section

set_option maxRecDepth 16384

noncomputable section

namespace Cert.Kernel3Ideal.InProj

open Cert.Kernel3Ideal Cert.Kernel3Ideal.Gen Cert.OutProj Cert.InProj
open Idealize.ShloMosaic Idealize.ShloMosaic.TcCoe Idealize.ShloMosaic.Tactic Idealize.ShloMosaic.StableHlo Idealize.SL.Sem

variable (m : (ℓ : Loc nD τ sig) → Buf (Elt Ideal) ℓ) (c : Dev nD)

/-- The nine arguments. -/
def argX : S32768x1024.Idx → EReal := m ((c : Thread nD τ).loc main_arg0)
def argG1 : S1024.Idx → EReal := m ((c : Thread nD τ).loc main_arg1)
def argW : S1024x2560.Idx → EReal := m ((c : Thread nD τ).loc main_arg2)
def argQg : S64.Idx → EReal := m ((c : Thread nD τ).loc main_arg3)
def argKg : S64.Idx → EReal := m ((c : Thread nD τ).loc main_arg4)
def argSg : S512.Idx → EReal := m ((c : Thread nD τ).loc main_arg5)
def argWs : S8x128x128.Idx → EReal := m ((c : Thread nD τ).loc main_arg6)
def argBs : S8x128.Idx → EReal := m ((c : Thread nD τ).loc main_arg7)
def argSo : S512.Idx → EReal := m ((c : Thread nD τ).loc main_arg8)

/-- The sign of a word. -/
def sgn (n : BitVec 32) : BitVec 32 := if n = 0 then 0 else if n.msb then -1 else 1

/-- The sign-corrected quotient by 64 of a row number. -/
def quot (n : BitVec 32) : BitVec 32 :=
  Scalar.select (Scalar.andi (Scalar.cmpi .ne (sgn n) (sgn 64#32)) (Scalar.cmpi .ne (IntOp.remsi .host n 64#32) 0#32))
    (Scalar.subi (IntOp.divsi .host n 64#32) 1#32) (IntOp.divsi .host n 64#32)

theorem quot_eq (n : Fin 128) : quot (BitVec.ofNat 32 n.val) = BitVec.ofNat 32 (n.val / 64) := by
  revert n; decide +kernel

theorem same_half : ∀ a b : Fin 128, IntOp.cmpi .eq (BitVec.ofNat 32 (a.val / 64)) (BitVec.ofNat 32 (b.val / 64))
    = if a.val / 64 = b.val / 64 then 1#1 else 0#1 := by
  decide +kernel

/-- The matrix of ones within each half. -/
def halves : S128x128.Idx → EReal := fun y => if (y 0).val / 64 = (y 1).val / 64 then 1 else 0

set_option maxHeartbeats 2000000 in
theorem V_v4 : (V m c main_v4 : S128x128.Idx → EReal) = halves := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  funext y
  show (FloatOps.uitofp (F := Ideal) .bf16 (IntOp.cmpi .eq (quot (BitVec.ofNat 32 (y 0).val)) (quot (BitVec.ofNat 32 (y 1).val))) : EReal) = _
  rw [quot_eq (y 0), quot_eq (y 1)]
  rw [same_half (y 0) (y 1)]
  unfold halves
  split
  · exact (congrArg (fun n : ℕ => ((n : ℝ) : EReal)) (show (1#1 : BitVec 1).toNat = 1 from rfl)).trans (by norm_num)
  · exact (congrArg (fun n : ℕ => ((n : ℝ) : EReal)) (show (0#1 : BitVec 1).toNat = 0 from rfl)).trans (by norm_num)

set_option maxHeartbeats 2000000 in
theorem V_v5 : (V m c main_v5 : S1x1024.Idx → EReal) = broadcastInDim S1x1024 ![1] bcast_S1024_S1x1024_1 (argG1 m c) := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  rfl

set_option maxHeartbeats 2000000 in
theorem V_v6 : (V m c main_v6 : S1024x2560.Idx → EReal) = argW m c := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  rfl

set_option maxHeartbeats 2000000 in
theorem V_v10 : (V m c main_v10 : S1x512.Idx → EReal) = broadcastInDim S1x512 ![1] bcast_S512_S1x512_1
    (shapeCast S512 (broadcastInDim S8x64 ![0, 1] bcast_S1x64_S8x64_0_1 (shapeCast S1x64 (argQg m c) shapeCasts_S64_S1x64)) shapeCasts_S8x64_S512) := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  rfl

set_option maxHeartbeats 2000000 in
theorem V_v14 : (V m c main_v14 : S1x512.Idx → EReal) = broadcastInDim S1x512 ![1] bcast_S512_S1x512_1
    (shapeCast S512 (broadcastInDim S8x64 ![0, 1] bcast_S1x64_S8x64_0_1 (shapeCast S1x64 (argKg m c) shapeCasts_S64_S1x64)) shapeCasts_S8x64_S512) := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  rfl

set_option maxHeartbeats 2000000 in
theorem V_v15 : (V m c main_v15 : S1x512.Idx → EReal) = broadcastInDim S1x512 ![1] bcast_S512_S1x512_1 (argSg m c) := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  rfl

set_option maxHeartbeats 2000000 in
theorem V_v18 : (V m c main_v18 : S128x512.Idx → EReal) = shapeCast S128x512 (broadcastInDim S128x8x64 ![0, 1] bcast_S128x8_S128x8x64_0_1
    (transpose S128x8 [1, 0] (argBs m c) transposes_S8x128_S128x8_1_0)) shapeCasts_S128x8x64_S128x512 := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  rfl

set_option maxHeartbeats 2000000 in
theorem V_v19 : (V m c main_v19 : S1x512.Idx → EReal) = broadcastInDim S1x512 ![1] bcast_S512_S1x512_1 (argSo m c) := by
  unfold V hostOps0 hostOps0_1 hostOps0_2
  simp only [List.flatten_cons, List.flatten_nil, List.append_nil, List.cons_append, List.nil_append,
    TRef.binary, TRef.nullary, TRef.ternary, TRef.unary, TRef.toBuf, TRef.ofBuf, cast_eq]
  after_results_simp
  rfl

end Cert.Kernel3Ideal.InProj

end
-- ==== Proof.InProj.Tokens.lean ====
/- The four results of the input projection at a token, from the arguments, on extended reals. -/
module

public import proofs.«01_k».proof.Proof.InProj.Spec
public import Idealize.ShloMosaic.Lib.ValueIdx

@[expose] public section

noncomputable section

namespace Cert.InProj

open Idealize.ShloMosaic Cert.OutProj

variable (X : (⟨2, ![32768, 1024]⟩ : Shape).Idx → EReal) (G : (⟨1, ![1024]⟩ : Shape).Idx → EReal) (W : (⟨2, ![1024, 2560]⟩ : Shape).Idx → EReal)

/-- A token's projection. -/
def projAt (r : Fin 32768) : Fin 2560 → EReal :=
  proj (fun k => X (ValueIdx.ix2 r k)) (fun k => G (ValueIdx.ix1 k)) (fun k j => W (ValueIdx.ix2 k j))

/-- A gain of 64 entries, repeated for the eight heads. -/
def eightfold (g : (⟨1, ![64]⟩ : Shape).Idx → EReal) (j : Fin 512) : EReal := g (ValueIdx.ix1 ⟨j.val % 64, by omega⟩)

/-- The queries or the keys of a token: eight normalised heads. -/
def headsAt (o : ℕ) (ho : o + 512 ≤ 2560) (g : (⟨1, ![64]⟩ : Shape).Idx → EReal) (r : Fin 32768) : Fin 512 → EReal :=
  perHead (part (projAt X G W r) o ho) (eightfold g)

/-- The values of a token. -/
def valuesAt (r : Fin 32768) : Fin 512 → EReal := part (projAt X G W r) 1024 (by norm_num)

/-- Token `u` of the block of 128 that a token lies in. -/
def mate (r : Fin 32768) (u : Fin 128) : Fin 32768 := ⟨128 * (r.val / 128) + u.val, by omega⟩

variable (sg : (⟨1, ![512]⟩ : Shape).Idx → EReal) (ws : (⟨3, ![8, 128, 128]⟩ : Shape).Idx → EReal) (bs : (⟨2, ![8, 128]⟩ : Shape).Idx → EReal)
  (so : (⟨1, ![512]⟩ : Shape).Idx → EReal)

/-- The gated entries of a token. -/
def gatedAt (r : Fin 32768) : Fin 512 → EReal :=
  gated (fun u => projAt X G W (mate r u)) (fun j => sg (ValueIdx.ix1 j)) (fun h t u => ws (ValueIdx.ix3 h t u)) (fun h t => bs (ValueIdx.ix2 h t))
    ⟨r.val % 128, by omega⟩

/-- The gated entries of a token, normalised. -/
def gateAt (r : Fin 32768) : Fin 512 → EReal := normed 0x44000000#32 (gatedAt X G W sg ws bs r) (fun j => so (ValueIdx.ix1 j))

end Cert.InProj

end
-- ==== Proof.InProj.Arrays.lean ====
/- What the call's windows hold at a grid point, in terms of the program's arguments, at the ideal values. -/
module

public import proofs.«01_k».proof.Proof.InProj.Start
public import proofs.«01_k».proof.Proof.InProj.Tokens

@[expose] public section

set_option maxRecDepth 16384

noncomputable section

namespace Cert.Kernel3Ideal.InProj

open Cert.Kernel3Ideal Cert.Kernel3Ideal.Gen Cert.OutProj Cert.InProj
open Idealize.ShloMosaic Idealize.ShloMosaic.TcCoe Idealize.ShloMosaic.Tactic Idealize.ShloMosaic.StableHlo Idealize.SL.Sem

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

theorem lt64 (t : Fin cfg0.N) : t.val < 64 := t.isLt

/-- The token at a place of a grid point's tile. -/
def tok (t : Fin cfg0.N) (a : Fin 512) : Fin 32768 := ⟨512 * t.val + a.val, by have := lt64 t; omega⟩

theorem blk0 (t : Fin cfg0.N) (a : Fin 512) (k : Fin 1024) : (iblk m c 0 t (ValueIdx.ix2 a k) : EReal) = argX m c (ValueIdx.ix2 (tok t a) k) := by
  have e : iblk m c 0 t (ValueIdx.ix2 a k) = V m c main_arg0 (ValueIdx.ix2 (tok t a) k) := by
    blk_simp [iblk]
    refine congrArg (V m c main_arg0) ?_
    blk_ext [idx0 t, tok, Nat.mul_comm]
  rw [e, V_main_arg0]
  rfl

theorem blk1 (t : Fin cfg0.N) (k : Fin 1024) : (iblk m c 1 t (ValueIdx.ix2 0 k) : EReal) = argG1 m c (ValueIdx.ix1 k) := by
  have e : iblk m c 1 t (ValueIdx.ix2 0 k) = V m c main_v5 (ValueIdx.ix2 0 k) := by
    blk_simp [iblk]
    refine congrArg (V m c main_v5) ?_
    blk_ext [idx1 t]
  refine (e.trans (congrFun (V_v5 m c) _)).trans (broadcastInDim_apply _ _ _ _ _ fun b => ?_)
  match b with
  | ⟨0, _⟩ => rfl

theorem blk2 (t : Fin cfg0.N) (k : Fin 1024) (j : Fin 2560) : (iblk m c 2 t (ValueIdx.ix2 k j) : EReal) = argW m c (ValueIdx.ix2 k j) := by
  have e : iblk m c 2 t (ValueIdx.ix2 k j) = V m c main_v6 (ValueIdx.ix2 k j) := by
    blk_simp [iblk]
    refine congrArg (V m c main_v6) ?_
    blk_ext [idx2 t]
  exact e.trans (congrFun (V_v6 m c) _)

/-- A gain of 64 entries spread over 512 columns. -/
theorem spread (g : S64.Idx → EReal) (j : Fin 512) : broadcastInDim S1x512 ![1] bcast_S512_S1x512_1
    (shapeCast S512 (broadcastInDim S8x64 ![0, 1] bcast_S1x64_S8x64_0_1 (shapeCast S1x64 g shapeCasts_S64_S1x64)) shapeCasts_S8x64_S512) (ValueIdx.ix2 0 j)
      = eightfold g j := by
  refine (broadcastInDim_apply _ _ _ _ (ValueIdx.ix1 j) fun b => ?_).trans ?_
  · match b with
    | ⟨0, _⟩ => rfl
  refine (shapeCast_apply _ _ _ (ValueIdx.ix2 ⟨j.val / 64, by omega⟩ ⟨j.val % 64, by omega⟩) ?_).trans ?_
  · rw [Shape.rowMajor_val_two, Shape.rowMajor_val_one]
    show j.val / 64 * 64 + j.val % 64 = j.val
    omega
  refine (broadcastInDim_apply _ _ _ _ (ValueIdx.ix2 0 ⟨j.val % 64, by omega⟩) fun b => ?_).trans ?_
  · match b with
    | ⟨0, _⟩ => rfl
    | ⟨1, _⟩ => rfl
  refine shapeCast_apply _ _ _ _ ?_
  rw [Shape.rowMajor_val_two, Shape.rowMajor_val_one]
  show j.val % 64 = 0 * 64 + j.val % 64
  omega

theorem blk3 (t : Fin cfg0.N) (j : Fin 512) : (iblk m c 3 t (ValueIdx.ix2 0 j) : EReal) = eightfold (argQg m c) j := by
  have e : iblk m c 3 t (ValueIdx.ix2 0 j) = V m c main_v10 (ValueIdx.ix2 0 j) := by
    blk_simp [iblk]
    refine congrArg (V m c main_v10) ?_
    blk_ext [idx3 t]
  exact (e.trans (congrFun (V_v10 m c) _)).trans (spread _ j)

theorem blk4 (t : Fin cfg0.N) (j : Fin 512) : (iblk m c 4 t (ValueIdx.ix2 0 j) : EReal) = eightfold (argKg m c) j := by
  have e : iblk m c 4 t (ValueIdx.ix2 0 j) = V m c main_v14 (ValueIdx.ix2 0 j) := by
    blk_simp [iblk]
    refine congrArg (V m c main_v14) ?_
    blk_ext [idx4 t]
  exact (e.trans (congrFun (V_v14 m c) _)).trans (spread _ j)

theorem blk5 (t : Fin cfg0.N) (k : Fin 512) : (iblk m c 5 t (ValueIdx.ix2 0 k) : EReal) = argSg m c (ValueIdx.ix1 k) := by
  have e : iblk m c 5 t (ValueIdx.ix2 0 k) = V m c main_v15 (ValueIdx.ix2 0 k) := by
    blk_simp [iblk]
    refine congrArg (V m c main_v15) ?_
    blk_ext [idx5 t]
  refine (e.trans (congrFun (V_v15 m c) _)).trans (broadcastInDim_apply _ _ _ _ _ fun b => ?_)
  match b with
  | ⟨0, _⟩ => rfl

theorem blk6 (t : Fin cfg0.N) : IsHalves (iblk m c 6 t) := fun k j => by
  have e : iblk m c 6 t (ValueIdx.ix2 k j) = V m c main_v4 (ValueIdx.ix2 k j) := by
    blk_simp [iblk]
    refine congrArg (V m c main_v4) ?_
    blk_ext [idx6 t]
  exact e.trans (congrFun (V_v4 m c) _)

theorem blk7 (t : Fin cfg0.N) (h : Fin 8) (k j : Fin 128) : (iblk m c 7 t (ValueIdx.ix3 h k j) : EReal) = argWs m c (ValueIdx.ix3 h k j) := by
  have e : iblk m c 7 t (ValueIdx.ix3 h k j) = V m c main_arg6 (ValueIdx.ix3 h k j) := by
    blk_simp [iblk]
    refine congrArg (V m c main_arg6) ?_
    blk_ext [idx7 t]
  rw [e, V_main_arg6]
  rfl

theorem blk8 (t : Fin cfg0.N) (k : Fin 128) (j : Fin 512) : (iblk m c 8 t (ValueIdx.ix2 k j) : EReal)
    = argBs m c (ValueIdx.ix2 ⟨j.val / 64, by omega⟩ k) := by
  have e : iblk m c 8 t (ValueIdx.ix2 k j) = V m c main_v18 (ValueIdx.ix2 k j) := by
    blk_simp [iblk]
    refine congrArg (V m c main_v18) ?_
    blk_ext [idx8 t]
  refine (e.trans (congrFun (V_v18 m c) _)).trans ?_
  refine (shapeCast_apply _ _ _ (ValueIdx.ix3 k ⟨j.val / 64, by omega⟩ ⟨j.val % 64, by omega⟩) ?_).trans ?_
  · rw [Shape.rowMajor_val_two, Shape.rowMajor_val_three]
    show (k.val * 8 + j.val / 64) * 64 + j.val % 64 = k.val * 512 + j.val
    omega
  refine (broadcastInDim_apply _ _ _ _ (ValueIdx.ix2 k ⟨j.val / 64, by omega⟩) fun b => ?_).trans ?_
  · match b with
    | ⟨0, _⟩ => rfl
    | ⟨1, _⟩ => rfl
  refine transpose_apply _ _ _ _ _ fun b => ?_
  match b with
  | ⟨0, _⟩ => rfl
  | ⟨1, _⟩ => rfl

theorem blk9 (t : Fin cfg0.N) (k : Fin 512) : (iblk m c 9 t (ValueIdx.ix2 0 k) : EReal) = argSo m c (ValueIdx.ix1 k) := by
  have e : iblk m c 9 t (ValueIdx.ix2 0 k) = V m c main_v19 (ValueIdx.ix2 0 k) := by
    blk_simp [iblk]
    refine congrArg (V m c main_v19) ?_
    blk_ext [idx9 t]
  refine (e.trans (congrFun (V_v19 m c) _)).trans (broadcastInDim_apply _ _ _ _ _ fun b => ?_)
  match b with
  | ⟨0, _⟩ => rfl

/-- A grid point's projections. -/
def projB (t : Fin cfg0.N) : FVec Ideal S512x2560 .f32 := projT (iblk m c 0 t) (iblk m c 1 t) (iblk m c 2 t)

theorem projB_eq (t : Fin cfg0.N) (a : Fin 512) (j : Fin 2560) :
    (projB m c t (ValueIdx.ix2 a j) : EReal) = projAt (argX m c) (argG1 m c) (argW m c) (tok t a) j := by
  refine (projB_apply (iblk m c 0 t) (iblk m c 1 t) (iblk m c 2 t) a j).trans ?_
  simp only [blk0, blk1, blk2]
  rfl

/-- The gain and the weights are finite. -/
def FiniteArgs : Prop := (∀ y, IsFin (argG1 m c y)) ∧ ∀ y, IsFin (argW m c y)

theorem projB_finite (h : FiniteArgs m c) (t : Fin cfg0.N) (a : Fin 512) (j : Fin 2560) : IsFin (projB m c t (ValueIdx.ix2 a j)) := by
  rw [projB_eq]
  exact proj_finite _ (fun k => h.1 _) (fun k j => h.2 _) j

end Cert.Kernel3Ideal.InProj

end
-- ==== Proof.InProj.Result.lean ====
/- The four arrays the call leaves, and the program's run with them. -/
module

public import proofs.«01_k».proof.Proof.InProj.Arrays

@[expose] public section

set_option maxRecDepth 16384

noncomputable section

namespace Cert.Kernel3Ideal.InProj

open Cert.Kernel3Ideal Cert.Kernel3Ideal.Gen Cert.OutProj Cert.InProj
open Idealize.ShloMosaic Idealize.ShloMosaic.TcCoe Idealize.ShloMosaic.Tactic Idealize.ShloMosaic.StableHlo Idealize.SL.Sem

variable (m : (ℓ : Loc nD τ sig) → Buf (Elt Ideal) ℓ) (c : Dev nD)

/-- The four arrays, as functions of the arguments. -/
def queryArr : S32768x512.Idx → EReal := fun y => headsAt (argX m c) (argG1 m c) (argW m c) 0 (by norm_num) (argQg m c) (y 0) (y 1)
def keyArr : S32768x512.Idx → EReal := fun y => headsAt (argX m c) (argG1 m c) (argW m c) 512 (by norm_num) (argKg m c) (y 0) (y 1)
def valueArr : S32768x512.Idx → EReal := fun y => valuesAt (argX m c) (argG1 m c) (argW m c) (y 0) (y 1)
def gateArr : S32768x512.Idx → EReal := fun y =>
  gateAt (argX m c) (argG1 m c) (argW m c) (argSg m c) (argWs m c) (argBs m c) (argSo m c) (y 0) (y 1)

theorem projRow (t : Fin cfg0.N) (a : Fin 512) : (fun j => (projB m c t (ValueIdx.ix2 a j) : EReal))
    = projAt (argX m c) (argG1 m c) (argW m c) (tok t a) := funext fun j => projB_eq m c t a j

theorem heads_tile (t : Fin cfg0.N) (o : ℕ) (ho : o + 512 ≤ 2560) (x : Vec Ideal S1x512 .f32) (g : S64.Idx → EReal)
    (hx : ∀ j : Fin 512, (x (ValueIdx.ix2 0 j) : EReal) = eightfold g j) (a j : Fin 512) :
    headsT (projB m c t) o ho x (ValueIdx.ix2 a j) = headsAt (argX m c) (argG1 m c) (argW m c) o ho g (tok t a) j := by
  show perHead (part (fun j => projB m c t (ValueIdx.ix2 a j)) o ho) (fun j => x (ValueIdx.ix2 0 j)) j = _
  rw [projRow, funext hx]
  rfl

/-- The tokens of a tile's block of 128. -/
theorem mate_tok (t : Fin cfg0.N) (n : Fin 4) (s u : Fin 128) : mate (tok t (row4 n s)) u = tok t (row4 n u) := by
  refine Fin.ext ?_
  show 128 * ((512 * t.val + (128 * n.val + s.val)) / 128) + u.val = 512 * t.val + (128 * n.val + u.val)
  omega

theorem gated_tile (h : FiniteArgs m c) (t : Fin cfg0.N) (n : Fin 4) (s : Fin 128) (j : Fin 512) :
    (gatedT (projB m c t) (iblk m c 6 t) (iblk m c 5 t) (iblk m c 7 t) (iblk m c 8 t) (ValueIdx.ix2 (row4 n s) j) : EReal)
      = gatedAt (argX m c) (argG1 m c) (argW m c) (argSg m c) (argWs m c) (argBs m c) (tok t (row4 n s)) j := by
  refine (gatedT_apply _ _ _ _ _ (blk6 m c t) (projB_finite m c h t) (fun h t => argBs m c (ValueIdx.ix2 h t)) (fun k j => blk8 m c t k j) n s j).trans ?_
  have e5 : (fun j : Fin 512 => (iblk m c 5 t (ValueIdx.ix2 0 j) : EReal)) = fun j => argSg m c (ValueIdx.ix1 j) := funext fun j => blk5 m c t j
  have e7 : (fun (h : Fin 8) (k u : Fin 128) => (iblk m c 7 t (ValueIdx.ix3 h k u) : EReal)) = fun h k u => argWs m c (ValueIdx.ix3 h k u) :=
    funext fun h => funext fun k => funext fun u => blk7 m c t h k u
  have ep : (fun (u : Fin 128) (j : Fin 2560) => (projB m c t (ValueIdx.ix2 (row4 n u) j) : EReal))
      = fun u => projAt (argX m c) (argG1 m c) (argW m c) (mate (tok t (row4 n s)) u) :=
    funext fun u => (projRow m c t (row4 n u)).trans (congrArg _ (mate_tok t n s u).symm)
  have es : s = (⟨(tok t (row4 n s)).val % 128, by omega⟩ : Fin 128) := Fin.ext (by
    show s.val = (512 * t.val + (128 * n.val + s.val)) % 128
    omega)
  have e5' := congrArg (fun f => gated (fun (u : Fin 128) (j : Fin 2560) => (projB m c t (ValueIdx.ix2 (row4 n u) j) : EReal)) f
    (fun (h : Fin 8) (k u : Fin 128) => (iblk m c 7 t (ValueIdx.ix3 h k u) : EReal)) (fun h t => argBs m c (ValueIdx.ix2 h t)) s j) e5
  refine e5'.trans ?_
  show gated (fun (u : Fin 128) (j : Fin 2560) => (projB m c t (ValueIdx.ix2 (row4 n u) j) : EReal)) _
    (fun (h : Fin 8) (k u : Fin 128) => (iblk m c 7 t (ValueIdx.ix3 h k u) : EReal)) _ s j = _
  rw [e7, ep]
  exact congrArg (fun q => gated (fun u => projAt (argX m c) (argG1 m c) (argW m c) (mate (tok t (row4 n s)) u)) (fun j => argSg m c (ValueIdx.ix1 j))
    (fun h k u => argWs m c (ValueIdx.ix3 h k u)) (fun h t => argBs m c (ValueIdx.ix2 h t)) q j) es

theorem gate_tile (h : FiniteArgs m c) (t : Fin cfg0.N) (a j : Fin 512) :
    (rowScale (gatedT (projB m c t) (iblk m c 6 t) (iblk m c 5 t) (iblk m c 7 t) (iblk m c 8 t)) (iblk m c 9 t) (ValueIdx.ix2 a j) : EReal)
      = gateAt (argX m c) (argG1 m c) (argW m c) (argSg m c) (argWs m c) (argBs m c) (argSo m c) (tok t a) j := by
  obtain ⟨n, s, rfl⟩ := row4_surj a
  refine (rowScale_apply _ _ _ j).trans ?_
  exact congrArg₂ (fun f g => normed 0x44000000#32 f g j) (funext fun j => gated_tile m c h t n s j) (funext fun j => blk9 m c t j)

theorem result10 (h : FiniteArgs m c) : (dats m 0 c).arrAt 10 cfg0.N = queryArr m c := by
  refine (dats m 0 c).arrAt_eq_of_covers 10 _ (by decide +kernel) fun t hf y => ?_
  blk_simp
  rw [after0_10]
  obtain ⟨a, j, rfl⟩ : ∃ (a j : Fin 512), y = (ValueIdx.ix2 a j : S512x512.Idx) := ix2_eta y
  have h0 : ((cfg0.win 10).blk t).view.emb (ValueIdx.ix2 a j : S512x512.Idx) = (ValueIdx.ix2 (tok t a) j : S32768x512.Idx) := by
    blk_ext [idx10 t, tok, show (ValueIdx.ix2 a j : S512x512.Idx) 0 = a from rfl, Nat.mul_comm]
  erw [h0]
  rw [out10_eq _ _ _ _ _ _ _ _ _ _ (blk6 m c t) (projB_finite m c h t)]
  exact heads_tile m c t 0 (by norm_num) _ _ (blk3 m c t) a j

theorem result11 (h : FiniteArgs m c) : (dats m 0 c).arrAt 11 cfg0.N = keyArr m c := by
  refine (dats m 0 c).arrAt_eq_of_covers 11 _ (by decide +kernel) fun t hf y => ?_
  blk_simp
  rw [after0_11]
  obtain ⟨a, j, rfl⟩ : ∃ (a j : Fin 512), y = (ValueIdx.ix2 a j : S512x512.Idx) := ix2_eta y
  have h0 : ((cfg0.win 11).blk t).view.emb (ValueIdx.ix2 a j : S512x512.Idx) = (ValueIdx.ix2 (tok t a) j : S32768x512.Idx) := by
    blk_ext [idx11 t, tok, show (ValueIdx.ix2 a j : S512x512.Idx) 0 = a from rfl, Nat.mul_comm]
  erw [h0]
  rw [out11_eq _ _ _ _ _ _ _ _ _ _ (blk6 m c t) (projB_finite m c h t)]
  exact heads_tile m c t 512 (by norm_num) _ _ (blk4 m c t) a j

theorem result12 (h : FiniteArgs m c) : (dats m 0 c).arrAt 12 cfg0.N = valueArr m c := by
  refine (dats m 0 c).arrAt_eq_of_covers 12 _ (by decide +kernel) fun t hf y => ?_
  blk_simp
  rw [after0_12]
  obtain ⟨a, j, rfl⟩ : ∃ (a j : Fin 512), y = (ValueIdx.ix2 a j : S512x512.Idx) := ix2_eta y
  have h0 : ((cfg0.win 12).blk t).view.emb (ValueIdx.ix2 a j : S512x512.Idx) = (ValueIdx.ix2 (tok t a) j : S32768x512.Idx) := by
    blk_ext [idx12 t, tok, show (ValueIdx.ix2 a j : S512x512.Idx) 0 = a from rfl, Nat.mul_comm]
  erw [h0]
  refine (out12_eq _ _ _ _ _ _ _ _ _ _ a j).trans ?_
  exact congrArg (fun p => part p 1024 (by norm_num) j) (projRow m c t a)

theorem result13 (h : FiniteArgs m c) : (dats m 0 c).arrAt 13 cfg0.N = gateArr m c := by
  refine (dats m 0 c).arrAt_eq_of_covers 13 _ (by decide +kernel) fun t hf y => ?_
  blk_simp
  rw [after0_13]
  obtain ⟨a, j, rfl⟩ : ∃ (a j : Fin 512), y = (ValueIdx.ix2 a j : S512x512.Idx) := ix2_eta y
  have h0 : ((cfg0.win 13).blk t).view.emb (ValueIdx.ix2 a j : S512x512.Idx) = (ValueIdx.ix2 (tok t a) j : S32768x512.Idx) := by
    blk_ext [idx13 t, tok, show (ValueIdx.ix2 a j : S512x512.Idx) 0 = a from rfl, Nat.mul_comm]
  erw [h0]
  rw [out13_eq]
  exact gate_tile m c h t a j

/-- The program's run: the four results, and the arguments as they were. -/
theorem run_results (h : ∀ c, FiniteArgs m c) (ρ : Dev nD → PrngReg) : θ_run defs (onTc (τ := τ) (main (F := Ideal))) ⟨m, fun _ => 0, ρ⟩ fun r => ∀ c : Dev nD,
    (r.2.mem ((c : Thread nD τ).loc main_v20_0) = queryArr m c
      ∧ r.2.mem ((c : Thread nD τ).loc main_v20_1) = keyArr m c
      ∧ r.2.mem ((c : Thread nD τ).loc main_v20_2) = valueArr m c
      ∧ r.2.mem ((c : Thread nD τ).loc main_v20_3) = gateArr m c)
    ∧ (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun r hr c => ⟨⟨((hr.1 c).1 10).trans (result10 m c (h c)), ((hr.1 c).1 11).trans (result11 m c (h c)),
    ((hr.1 c).1 12).trans (result12 m c (h c)), ((hr.1 c).1 13).trans (result13 m c (h c))⟩, hr.2 c⟩) (θ_run_and (run_main m ρ) (unchanged m ρ))

end Cert.Kernel3Ideal.InProj

end
-- ==== Proof.InProj.Range.lean ====
/- What the precondition says of an entry: it is a real number. -/
module

public import proofs.«01_k».proof.Proof.InProj.Arrays
public import proofs.«01_k».proof.Proof.Gen.Pre_finite

@[expose] public section

namespace Cert.Kernel3Ideal.InProj

open Idealize.ShloMosaic Cert.InProj

theorem infinity : Ideal.ofBits .f32 0x7F800000#32 = ⊤ := by
  simp [Ideal.ofBits, Ideal.ieee]

/-- An entry whose magnitude is below infinity is finite. -/
theorem entry_finite (x : EReal) (h : FloatOps.cmpf (F := Ideal) (φ := .f32) .olt (FloatOps.absf (F := Ideal) (φ := .f32) x) (Ideal.ofBits .f32 0x7F800000#32) = 1#1) :
    IsFin x := by
  refine finite_of_abs ?_
  rw [infinity] at h
  have h' : BitVec.ofBool (decide (max x (-x) < ⊤)) = 1#1 := h
  by_contra hn
  rw [decide_eq_false hn] at h'
  exact absurd h' (by decide)

end Cert.Kernel3Ideal.InProj
-- ==== Proof.InProj.Heads.lean ====
/- The reference's projections and normalised heads, entry by entry, at the ideal values. -/
module

public import proofs.«01_k».proof.Proof.InProj.Tokens
public import proofs.«01_k».proof.Proof.Gen.Reference3Ideal.Read

@[expose] public section

set_option maxRecDepth 16384

noncomputable section

namespace Cert.Reference3Ideal.InProj

open Cert.Reference3Ideal Cert.Reference3Ideal.Gen Cert.Reference3Ideal.Read Cert.OutProj Cert.InProj
open Idealize.ShloMosaic Idealize.ShloMosaic.TcCoe

variable (X : S32768x1024.Idx → Ideal .f32) (G : S1024.Idx → Ideal .f32) (W : S1024x2560.Idx → Ideal .f32)
  (qg kg : S64.Idx → Ideal .f32) (sg : S512.Idx → Ideal .f32)

/-- A token's row normalised. -/
theorem normed_ref (r : Fin 32768) (k : Fin 1024) : (val_main_v12 (F := Ideal) X G (ValueIdx.ix2 r k) : EReal)
    = normed 0x44800000#32 (fun k => X (ValueIdx.ix2 r k)) (fun k => G (ValueIdx.ix1 k)) k := by
  have hs : (val_main_v7 (F := Ideal) X (ValueIdx.ix2 r 0) : EReal) = invRms 0x44800000#32 (fun k => X (ValueIdx.ix2 r k)) := by
    rw [val_main_v7_apply, val_main_v6_apply, val_main_v4_apply, val_main_v2_apply, val_main_v1_apply, val_main_v3_apply, val_main_v5_apply]
    show Ideal.rsqrt (Ideal.div (Ideal.ofBits .f32 0x00000000#32 + _) _ + _) = _
    rw [Ideal.ofBits_zero_f32, zero_add]
    unfold invRms
    refine congrArg (fun z => Ideal.rsqrt (Ideal.div z _ + _)) (Finset.sum_congr rfl fun k _ => ?_)
    have hi : idx_main_v1 (idx_main_v2 (ValueIdx.ix2 r 0)) k = (ValueIdx.ix2 r k : S32768x1024.Idx) :=
      funext fun b => by match b with | ⟨0, _⟩ => rfl | ⟨1, _⟩ => rfl
    rw [hi]
    rfl
  rw [val_main_v12_apply, val_main_v9_apply, val_main_v8_apply, val_main_v11_apply, val_main_v10_apply]
  have h8 : idx_main_v8 (ValueIdx.ix2 r k) = (ValueIdx.ix2 r 0 : S32768x1.Idx) :=
    funext fun b => by match b with | ⟨0, _⟩ => rfl | ⟨1, _⟩ => rfl
  have h10 : idx_main_v10 (idx_main_v11 (ValueIdx.ix2 r k)) = (ValueIdx.ix1 k : S1024.Idx) :=
    funext fun b => by match b with | ⟨0, _⟩ => rfl
  rw [h8, h10]
  show (X (ValueIdx.ix2 r k) : EReal) * val_main_v7 (F := Ideal) X (ValueIdx.ix2 r 0) * G (ValueIdx.ix1 k) = _
  rw [hs]
  rfl

/-- A token's projection. -/
theorem proj_ref (r : Fin 32768) (j : Fin 2560) : (val_main_v13 (F := Ideal) X G W (ValueIdx.ix2 r j) : EReal) = projAt X G W r j := by
  refine (val_main_v13_apply X G W (ValueIdx.ix2 r j)).trans ?_
  unfold projAt proj
  refine Finset.sum_congr rfl fun k _ => ?_
  have h1 : lidx_main_v13 (ValueIdx.ix2 r j) k = (ValueIdx.ix2 r k : S32768x1024.Idx) :=
    funext fun b => by match b with | ⟨0, _⟩ => rfl | ⟨1, _⟩ => rfl
  have h2 : ridx_main_v13 (ValueIdx.ix2 r j) k = (ValueIdx.ix2 k j : S1024x2560.Idx) :=
    funext fun b => by match b with | ⟨0, _⟩ => rfl | ⟨1, _⟩ => rfl
  rw [h1, h2, normed_ref]

theorem part14 (r : Fin 32768) (j : Fin 512) : (val_main_v14 (F := Ideal) X G W (ValueIdx.ix2 r j) : EReal)
    = part (projAt X G W r) 0 (by norm_num) j := by
  rw [val_main_v14_apply]
  have h : idx_main_v14 (ValueIdx.ix2 r j) = (ValueIdx.ix2 r ⟨0 + j.val, by omega⟩ : S32768x2560.Idx) := by
    funext b
    match b with
    | ⟨0, _⟩ => rfl
    | ⟨1, _⟩ => exact Fin.ext (by show j.val = 0 + j.val; omega)
  rw [h, proj_ref]
  rfl

theorem part15 (r : Fin 32768) (j : Fin 512) : (val_main_v15 (F := Ideal) X G W (ValueIdx.ix2 r j) : EReal)
    = part (projAt X G W r) 512 (by norm_num) j := by
  rw [val_main_v15_apply]
  have h : idx_main_v15 (ValueIdx.ix2 r j) = (ValueIdx.ix2 r ⟨512 + j.val, by omega⟩ : S32768x2560.Idx) := by
    funext b
    match b with
    | ⟨0, _⟩ => rfl
    | ⟨1, _⟩ => exact Fin.ext (by show 512 + j.val = 512 + j.val; omega)
  rw [h, proj_ref]
  rfl

theorem part16 (r : Fin 32768) (j : Fin 512) : (val_main_v16 (F := Ideal) X G W (ValueIdx.ix2 r j) : EReal)
    = part (projAt X G W r) 1024 (by norm_num) j := by
  rw [val_main_v16_apply]
  have h : idx_main_v16 (ValueIdx.ix2 r j) = (ValueIdx.ix2 r ⟨1024 + j.val, by omega⟩ : S32768x2560.Idx) := by
    funext b
    match b with
    | ⟨0, _⟩ => rfl
    | ⟨1, _⟩ => exact Fin.ext (by show 1024 + j.val = 1024 + j.val; omega)
  rw [h, proj_ref]
  rfl

theorem part17 (r : Fin 32768) (j : Fin 512) : (val_main_v17 (F := Ideal) X G W (ValueIdx.ix2 r j) : EReal)
    = part (projAt X G W r) 1536 (by norm_num) j := by
  rw [val_main_v17_apply]
  have h : idx_main_v17 (ValueIdx.ix2 r j) = (ValueIdx.ix2 r ⟨1536 + j.val, by omega⟩ : S32768x2560.Idx) := by
    funext b
    match b with
    | ⟨0, _⟩ => rfl
    | ⟨1, _⟩ => exact Fin.ext (by show 1536 + j.val = 1536 + j.val; omega)
  rw [h, proj_ref]
  rfl

theorem part18 (r : Fin 32768) (j : Fin 512) : (val_main_v18 (F := Ideal) X G W (ValueIdx.ix2 r j) : EReal)
    = part (projAt X G W r) 2048 (by norm_num) j := by
  rw [val_main_v18_apply]
  have h : idx_main_v18 (ValueIdx.ix2 r j) = (ValueIdx.ix2 r ⟨2048 + j.val, by omega⟩ : S32768x2560.Idx) := by
    funext b
    match b with
    | ⟨0, _⟩ => rfl
    | ⟨1, _⟩ => exact Fin.ext (by show 2048 + j.val = 2048 + j.val; omega)
  rw [h, proj_ref]
  rfl

/-- Entry `e` of head `h`, among the 512. -/
def place (h : Fin 8) (e : Fin 64) : Fin 512 := ⟨64 * h.val + e.val, by omega⟩

theorem head_place (p : Fin 512 → EReal) (h : Fin 8) (e : Fin 64) : head p (place h e) = fun e' => p (place h e') := by
  funext e'
  refine congrArg p (Fin.ext ?_)
  show 64 * ((64 * h.val + e.val) / 64) + e'.val = 64 * h.val + e'.val
  omega

/-- The queries, by heads. -/
theorem query_resh (r : Fin 32768) (h : Fin 8) (e : Fin 64) : (val_main_v19 (F := Ideal) X G W (ValueIdx.ix3 r h e) : EReal)
    = part (projAt X G W r) 0 (by norm_num) (place h e) := by
  rw [val_main_v19_apply]
  have hi : idx_main_v19 (ValueIdx.ix3 r h e) = (ValueIdx.ix2 r (place h e) : S32768x512.Idx) := by
    funext b
    match b with
    | ⟨0, _⟩ => exact Fin.ext (by show ((r.val * 8 + h.val) * 64 + e.val) / 512 = r.val; omega)
    | ⟨1, _⟩ => exact Fin.ext (by show ((r.val * 8 + h.val) * 64 + e.val) % 512 = 64 * h.val + e.val; omega)
  rw [hi, part14]

theorem query_ref (r : Fin 32768) (h : Fin 8) (e : Fin 64) : (val_main_v32 (F := Ideal) X G W qg (ValueIdx.ix3 r h e) : EReal)
    = perHead (part (projAt X G W r) 0 (by norm_num)) (eightfold qg) (place h e) := by
  have hs : (val_main_v27 (F := Ideal) X G W (ValueIdx.ix3 r h 0) : EReal)
      = invRms 0x42800000#32 (fun e => part (projAt X G W r) 0 (by norm_num) (place h e)) := by
    rw [val_main_v27_apply, val_main_v26_apply, val_main_v24_apply, val_main_v22_apply, val_main_v21_apply, val_main_v23_apply, val_main_v25_apply]
    show Ideal.rsqrt (Ideal.div (Ideal.ofBits .f32 0x00000000#32 + _) _ + _) = _
    rw [Ideal.ofBits_zero_f32, zero_add]
    unfold invRms
    refine congrArg (fun z => Ideal.rsqrt (Ideal.div z _ + _)) (Finset.sum_congr rfl fun k _ => ?_)
    have hi : idx_main_v21 (idx_main_v22 (ValueIdx.ix3 r h 0)) k = (ValueIdx.ix3 r h k : S32768x8x64.Idx) :=
      funext fun b => by match b with | ⟨0, _⟩ => rfl | ⟨1, _⟩ => rfl | ⟨2, _⟩ => rfl
    rw [hi, val_main_v20_apply, query_resh]
    rfl
  rw [val_main_v32_apply, val_main_v29_apply, val_main_v28_apply, val_main_v31_apply, val_main_v30_apply]
  have h8 : idx_main_v28 (ValueIdx.ix3 r h e) = (ValueIdx.ix3 r h 0 : S32768x8x1.Idx) :=
    funext fun b => by match b with | ⟨0, _⟩ => rfl | ⟨1, _⟩ => rfl | ⟨2, _⟩ => rfl
  have hg : qg (idx_main_v30 (idx_main_v31 (ValueIdx.ix3 r h e))) = eightfold qg (place h e) := by
    refine congrArg qg (funext fun b => ?_)
    match b with
    | ⟨0, _⟩ => exact Fin.ext (by show e.val = (64 * h.val + e.val) % 64; omega)
  rw [h8, hg, query_resh, hs]
  unfold perHead
  rw [head_place]
  rfl

theorem query_flat (r : Fin 32768) (j : Fin 512) : (val_main_v76 (F := Ideal) X G W qg (ValueIdx.ix2 r j) : EReal)
    = headsAt X G W 0 (by norm_num) qg r j := by
  rw [val_main_v76_apply]
  have hi : idx_main_v76 (ValueIdx.ix2 r j) = (ValueIdx.ix3 r ⟨j.val / 64, by omega⟩ ⟨j.val % 64, by omega⟩ : S32768x8x64.Idx) := by
    funext b
    match b with
    | ⟨0, _⟩ => exact Fin.ext (by show (r.val * 512 + j.val) / 512 = r.val; omega)
    | ⟨1, _⟩ => exact Fin.ext (by show (r.val * 512 + j.val) / 64 % 8 = j.val / 64; omega)
    | ⟨2, _⟩ => exact Fin.ext (by show (r.val * 512 + j.val) % 64 = j.val % 64; omega)
  rw [hi, query_ref]
  exact congrArg (headsAt X G W 0 (by norm_num) qg r) (Fin.ext (by show 64 * (j.val / 64) + j.val % 64 = j.val; omega))

/-- The keys, by heads. -/
theorem key_resh (r : Fin 32768) (h : Fin 8) (e : Fin 64) : (val_main_v33 (F := Ideal) X G W (ValueIdx.ix3 r h e) : EReal)
    = part (projAt X G W r) 512 (by norm_num) (place h e) := by
  rw [val_main_v33_apply]
  have hi : idx_main_v33 (ValueIdx.ix3 r h e) = (ValueIdx.ix2 r (place h e) : S32768x512.Idx) := by
    funext b
    match b with
    | ⟨0, _⟩ => exact Fin.ext (by show ((r.val * 8 + h.val) * 64 + e.val) / 512 = r.val; omega)
    | ⟨1, _⟩ => exact Fin.ext (by show ((r.val * 8 + h.val) * 64 + e.val) % 512 = 64 * h.val + e.val; omega)
  rw [hi, part15]

theorem key_ref (r : Fin 32768) (h : Fin 8) (e : Fin 64) : (val_main_v46 (F := Ideal) X G W kg (ValueIdx.ix3 r h e) : EReal)
    = perHead (part (projAt X G W r) 512 (by norm_num)) (eightfold kg) (place h e) := by
  have hs : (val_main_v41 (F := Ideal) X G W (ValueIdx.ix3 r h 0) : EReal)
      = invRms 0x42800000#32 (fun e => part (projAt X G W r) 512 (by norm_num) (place h e)) := by
    rw [val_main_v41_apply, val_main_v40_apply, val_main_v38_apply, val_main_v36_apply, val_main_v35_apply, val_main_v37_apply, val_main_v39_apply]
    show Ideal.rsqrt (Ideal.div (Ideal.ofBits .f32 0x00000000#32 + _) _ + _) = _
    rw [Ideal.ofBits_zero_f32, zero_add]
    unfold invRms
    refine congrArg (fun z => Ideal.rsqrt (Ideal.div z _ + _)) (Finset.sum_congr rfl fun k _ => ?_)
    have hi : idx_main_v35 (idx_main_v36 (ValueIdx.ix3 r h 0)) k = (ValueIdx.ix3 r h k : S32768x8x64.Idx) :=
      funext fun b => by match b with | ⟨0, _⟩ => rfl | ⟨1, _⟩ => rfl | ⟨2, _⟩ => rfl
    rw [hi, val_main_v34_apply, key_resh]
    rfl
  rw [val_main_v46_apply, val_main_v43_apply, val_main_v42_apply, val_main_v45_apply, val_main_v44_apply]
  have h8 : idx_main_v42 (ValueIdx.ix3 r h e) = (ValueIdx.ix3 r h 0 : S32768x8x1.Idx) :=
    funext fun b => by match b with | ⟨0, _⟩ => rfl | ⟨1, _⟩ => rfl | ⟨2, _⟩ => rfl
  have hg : kg (idx_main_v44 (idx_main_v45 (ValueIdx.ix3 r h e))) = eightfold kg (place h e) := by
    refine congrArg kg (funext fun b => ?_)
    match b with
    | ⟨0, _⟩ => exact Fin.ext (by show e.val = (64 * h.val + e.val) % 64; omega)
  rw [h8, hg, key_resh, hs]
  unfold perHead
  rw [head_place]
  rfl

theorem key_flat (r : Fin 32768) (j : Fin 512) : (val_main_v77 (F := Ideal) X G W kg (ValueIdx.ix2 r j) : EReal)
    = headsAt X G W 512 (by norm_num) kg r j := by
  rw [val_main_v77_apply]
  have hi : idx_main_v77 (ValueIdx.ix2 r j) = (ValueIdx.ix3 r ⟨j.val / 64, by omega⟩ ⟨j.val % 64, by omega⟩ : S32768x8x64.Idx) := by
    funext b
    match b with
    | ⟨0, _⟩ => exact Fin.ext (by show (r.val * 512 + j.val) / 512 = r.val; omega)
    | ⟨1, _⟩ => exact Fin.ext (by show (r.val * 512 + j.val) / 64 % 8 = j.val / 64; omega)
    | ⟨2, _⟩ => exact Fin.ext (by show (r.val * 512 + j.val) % 64 = j.val % 64; omega)
  rw [hi, key_ref]
  exact congrArg (headsAt X G W 512 (by norm_num) kg r) (Fin.ext (by show 64 * (j.val / 64) + j.val % 64 = j.val; omega))

/-- The gate rows, by heads. -/
theorem gate_resh (r : Fin 32768) (h : Fin 8) (e : Fin 64) : (val_main_v47 (F := Ideal) X G W (ValueIdx.ix3 r h e) : EReal)
    = part (projAt X G W r) 2048 (by norm_num) (place h e) := by
  rw [val_main_v47_apply]
  have hi : idx_main_v47 (ValueIdx.ix3 r h e) = (ValueIdx.ix2 r (place h e) : S32768x512.Idx) := by
    funext b
    match b with
    | ⟨0, _⟩ => exact Fin.ext (by show ((r.val * 8 + h.val) * 64 + e.val) / 512 = r.val; omega)
    | ⟨1, _⟩ => exact Fin.ext (by show ((r.val * 8 + h.val) * 64 + e.val) % 512 = 64 * h.val + e.val; omega)
  rw [hi, part18]

theorem gate_ref (r : Fin 32768) (h : Fin 8) (e : Fin 64) : (val_main_v61 (F := Ideal) X G W sg (ValueIdx.ix3 r h e) : EReal)
    = perHead (part (projAt X G W r) 2048 (by norm_num)) (fun j => sg (ValueIdx.ix1 j)) (place h e) := by
  have hs : (val_main_v56 (F := Ideal) X G W (ValueIdx.ix3 r h 0) : EReal)
      = invRms 0x42800000#32 (fun e => part (projAt X G W r) 2048 (by norm_num) (place h e)) := by
    rw [val_main_v56_apply, val_main_v55_apply, val_main_v53_apply, val_main_v51_apply, val_main_v50_apply, val_main_v52_apply, val_main_v54_apply]
    show Ideal.rsqrt (Ideal.div (Ideal.ofBits .f32 0x00000000#32 + _) _ + _) = _
    rw [Ideal.ofBits_zero_f32, zero_add]
    unfold invRms
    refine congrArg (fun z => Ideal.rsqrt (Ideal.div z _ + _)) (Finset.sum_congr rfl fun k _ => ?_)
    have hi : idx_main_v50 (idx_main_v51 (ValueIdx.ix3 r h 0)) k = (ValueIdx.ix3 r h k : S32768x8x64.Idx) :=
      funext fun b => by match b with | ⟨0, _⟩ => rfl | ⟨1, _⟩ => rfl | ⟨2, _⟩ => rfl
    rw [hi, val_main_v49_apply, gate_resh]
    rfl
  rw [val_main_v61_apply, val_main_v58_apply, val_main_v57_apply, val_main_v60_apply, val_main_v59_apply]
  have h8 : idx_main_v57 (ValueIdx.ix3 r h e) = (ValueIdx.ix3 r h 0 : S32768x8x1.Idx) :=
    funext fun b => by match b with | ⟨0, _⟩ => rfl | ⟨1, _⟩ => rfl | ⟨2, _⟩ => rfl
  have hg : val_main_v48 (F := Ideal) sg (idx_main_v59 (idx_main_v60 (ValueIdx.ix3 r h e))) = sg (ValueIdx.ix1 (place h e)) := by
    rw [val_main_v48_apply]
    refine congrArg sg (funext fun b => ?_)
    match b with
    | ⟨0, _⟩ => exact Fin.ext (by show h.val * 64 + e.val = 64 * h.val + e.val; omega)
  rw [h8, hg, gate_resh, hs]
  unfold perHead
  rw [head_place]
  rfl

end Cert.Reference3Ideal.InProj

end
-- ==== Proof.InProj.Gate.lean ====
/- The reference's gated rows, entry by entry, at the ideal values. -/
module

public import proofs.«01_k».proof.Proof.InProj.Heads

@[expose] public section

set_option maxRecDepth 16384

noncomputable section

namespace Cert.Reference3Ideal.InProj

open Cert.Reference3Ideal Cert.Reference3Ideal.Gen Cert.Reference3Ideal.Read Cert.OutProj Cert.InProj
open Idealize.ShloMosaic Idealize.ShloMosaic.TcCoe

variable (X : S32768x1024.Idx → Ideal .f32) (G : S1024.Idx → Ideal .f32) (W : S1024x2560.Idx → Ideal .f32)
  (sg : S512.Idx → Ideal .f32) (ws : S8x128x128.Idx → Ideal .f32) (bs : S8x128.Idx → Ideal .f32) (so : S512.Idx → Ideal .f32)

/-- The lower triangle. -/
theorem tri : ∀ t u : Fin 128, (Scalar.select (IntOp.cmpi .sge (IntOp.addi (BitVec.ofNat 32 t.val) 0#32) (BitVec.ofNat 32 u.val)) 1#1 0#1 : BitVec 1)
    = if u ≤ t then 1#1 else 0#1 := by
  decide +kernel

/-- The weights at and below the diagonal. -/
theorem lower_ref (h : Fin 8) (t u : Fin 128) : (val_main_v66 (F := Ideal) ws (ValueIdx.ix3 h t u) : EReal)
    = if u ≤ t then ws (ValueIdx.ix3 h t u) else 0 := by
  rw [val_main_v66_apply, val_main_call1_v1_apply, val_main_v65_apply, val_main_v64_apply, val_main_call0_v4_apply, val_main_call0_v2_apply,
    val_main_call0_v1_apply, val_main_v63_apply, val_main_call0_v5_apply, val_main_call1_v2_apply]
  show Scalar.select (Scalar.select (IntOp.cmpi .sge (IntOp.addi (BitVec.ofNat 32 t.val) 0#32) (BitVec.ofNat 32 u.val)) 1#1 0#1 : BitVec 1)
    (ws (ValueIdx.ix3 h t u)) (Ideal.ofBits .f32 0x00000000#32) = _
  rw [tri, Ideal.ofBits_zero_f32]
  unfold Scalar.select
  by_cases hu : u ≤ t
  · rw [if_pos hu, if_pos (by rfl : (1#1 : BitVec 1) = 1), if_pos hu]
  · rw [if_neg hu, if_neg (by decide), if_neg hu]

/-- A place of the blocked rows: block, token of the block, head, entry. -/
def at4 (c : Fin 256) (t : Fin 128) (h : Fin 8) (e : Fin 64) : S256x128x8x64.Idx := fun b => match b with
  | ⟨0, _⟩ => c
  | ⟨1, _⟩ => t
  | ⟨2, _⟩ => h
  | ⟨3, _⟩ => e

/-- The normalised gate rows, by blocks. -/
theorem blocked_ref (c : Fin 256) (t : Fin 128) (h : Fin 8) (e : Fin 64) : (val_main_v62 (F := Ideal) X G W sg (at4 c t h e) : EReal)
    = perHead (part (projAt X G W ⟨128 * c.val + t.val, by omega⟩) 2048 (by norm_num)) (fun j => sg (ValueIdx.ix1 j)) (place h e) := by
  rw [val_main_v62_apply]
  have hi : idx_main_v62 (at4 c t h e) = (ValueIdx.ix3 ⟨128 * c.val + t.val, by omega⟩ h e : S32768x8x64.Idx) := by
    funext b
    match b with
    | ⟨0, _⟩ => exact Fin.ext (by show (((c.val * 128 + t.val) * 8 + h.val) * 64 + e.val) / 512 = 128 * c.val + t.val; omega)
    | ⟨1, _⟩ => exact Fin.ext (by show (((c.val * 128 + t.val) * 8 + h.val) * 64 + e.val) / 64 % 8 = h.val; omega)
    | ⟨2, _⟩ => exact Fin.ext (by show (((c.val * 128 + t.val) * 8 + h.val) * 64 + e.val) % 64 = e.val; omega)
  rw [hi, gate_ref]

/-- The mix over the tokens of a block. -/
theorem mixed_ref (c : Fin 256) (t : Fin 128) (h : Fin 8) (e : Fin 64) : (val_main_v73 (F := Ideal) X G W sg ws bs (at4 c t h e) : EReal)
    = (∑ u : Fin 128, (if u ≤ t then (ws (ValueIdx.ix3 h t u) : EReal) else 0)
        * perHead (part (projAt X G W ⟨128 * c.val + u.val, by omega⟩) 2048 (by norm_num)) (fun j => sg (ValueIdx.ix1 j)) (place h e))
      + bs (ValueIdx.ix2 h t) := by
  rw [val_main_v73_apply, val_main_v68_apply, val_main_v72_apply, val_main_v71_apply, val_main_v70_apply, val_main_v69_apply]
  have hb : idx_main_v69 (idx_main_v70 (idx_main_v71 (idx_main_v72 (at4 c t h e)))) = (ValueIdx.ix2 h t : S8x128.Idx) :=
    funext fun b => by match b with | ⟨0, _⟩ => rfl | ⟨1, _⟩ => rfl
  rw [hb]
  refine congrArg (fun z : EReal => z + bs (ValueIdx.ix2 h t)) ?_
  refine (val_main_v67_apply X G W sg ws (idx_main_v68 (at4 c t h e))).trans (Finset.sum_congr rfl fun u _ => ?_)
  have hl : lidx_main_v67 (idx_main_v68 (at4 c t h e)) u = at4 c u h e :=
    funext fun b => by match b with | ⟨0, _⟩ => rfl | ⟨1, _⟩ => rfl | ⟨2, _⟩ => rfl | ⟨3, _⟩ => rfl
  have hr : ridx_main_v67 (idx_main_v68 (at4 c t h e)) u = (ValueIdx.ix3 h t u : S8x128x128.Idx) :=
    funext fun b => by match b with | ⟨0, _⟩ => rfl | ⟨1, _⟩ => rfl | ⟨2, _⟩ => rfl
  rw [hl, hr, blocked_ref, lower_ref]
  exact mul_comm _ _

/-- The gated rows. -/
theorem gated_ref (r : Fin 32768) (j : Fin 512) : (val_main_v75 (F := Ideal) X G W sg ws bs (ValueIdx.ix2 r j) : EReal)
    = gatedAt X G W sg ws bs r j := by
  rw [val_main_v75_apply, val_main_v74_apply]
  have hi : idx_main_v74 (ValueIdx.ix2 r j) = at4 ⟨r.val / 128, by omega⟩ ⟨r.val % 128, by omega⟩ ⟨j.val / 64, by omega⟩ ⟨j.val % 64, by omega⟩ := by
    funext b
    match b with
    | ⟨0, _⟩ => exact Fin.ext (by show (r.val * 512 + j.val) / 65536 = r.val / 128; omega)
    | ⟨1, _⟩ => exact Fin.ext (by show (r.val * 512 + j.val) / 512 % 128 = r.val % 128; omega)
    | ⟨2, _⟩ => exact Fin.ext (by show (r.val * 512 + j.val) / 64 % 8 = j.val / 64; omega)
    | ⟨3, _⟩ => exact Fin.ext (by show (r.val * 512 + j.val) % 64 = j.val % 64; omega)
  have hj : place ⟨j.val / 64, by omega⟩ ⟨j.val % 64, by omega⟩ = j := Fin.ext (by show 64 * (j.val / 64) + j.val % 64 = j.val; omega)
  have hm : mate r ⟨r.val % 128, by omega⟩ = r := Fin.ext (by show 128 * (r.val / 128) + r.val % 128 = r.val; omega)
  rw [hi, part17, mixed_ref, hj]
  unfold gatedAt gated mixed
  show (part (projAt X G W r) 1536 (by norm_num) j : EReal) * _ = part (projAt X G W (mate r ⟨r.val % 128, by omega⟩)) 1536 (by norm_num) j * _
  rw [hm]
  rfl

/-- The gated rows normalised. -/
theorem gateNormed_ref (r : Fin 32768) (j : Fin 512) : (val_main_v91 (F := Ideal) X G W sg ws bs so (ValueIdx.ix2 r j) : EReal)
    = gateAt X G W sg ws bs so r j := by
  have hs : (val_main_v85 (F := Ideal) X G W sg ws bs (ValueIdx.ix2 r 0) : EReal) = invRms 0x44000000#32 (gatedAt X G W sg ws bs r) := by
    rw [val_main_v85_apply, val_main_v84_apply, val_main_v82_apply, val_main_v80_apply, val_main_v79_apply, val_main_v81_apply, val_main_v83_apply]
    show Ideal.rsqrt (Ideal.div (Ideal.ofBits .f32 0x00000000#32 + _) _ + _) = _
    rw [Ideal.ofBits_zero_f32, zero_add]
    unfold invRms
    refine congrArg (fun z => Ideal.rsqrt (Ideal.div z _ + _)) (Finset.sum_congr rfl fun k _ => ?_)
    have hi : idx_main_v79 (idx_main_v80 (ValueIdx.ix2 r 0)) k = (ValueIdx.ix2 r k : S32768x512.Idx) :=
      funext fun b => by match b with | ⟨0, _⟩ => rfl | ⟨1, _⟩ => rfl
    rw [hi, val_main_v78_apply, gated_ref]
    rfl
  rw [val_main_v91_apply, val_main_v90_apply, val_main_v87_apply, val_main_v86_apply, val_main_v89_apply, val_main_v88_apply]
  have h86 : idx_main_v86 (ValueIdx.ix2 r j) = (ValueIdx.ix2 r 0 : S32768x1.Idx) :=
    funext fun b => by match b with | ⟨0, _⟩ => rfl | ⟨1, _⟩ => rfl
  have h88 : idx_main_v88 (idx_main_v89 (ValueIdx.ix2 r j)) = (ValueIdx.ix1 j : S512.Idx) :=
    funext fun b => by match b with | ⟨0, _⟩ => rfl
  rw [h86, h88, hs, gated_ref]
  rfl

end Cert.Reference3Ideal.InProj

end
-- ==== Proof.InProj.Equal.lean ====
/- At the ideal values the call's program and its reference leave the same four arrays. -/
module

public import proofs.«01_k».proof.Defs
public import proofs.«01_k».proof.Proof.Gen.Kernel3Ideal
public import proofs.«01_k».proof.Proof.Gen.Reference3Ideal
public import proofs.«01_k».proof.Proof.Gen.Pre_finite
public import proofs.«01_k».proof.Proof.InProj.Result
public import proofs.«01_k».proof.Proof.InProj.Range
public import proofs.«01_k».proof.Proof.InProj.Gate

@[expose] public section

set_option maxRecDepth 16384

noncomputable section

namespace Cert.Kernel3Ideal.InProj

open Cert.Kernel3Ideal Cert.Kernel3Ideal.Gen Cert.OutProj Cert.InProj
open Idealize.ShloMosaic Idealize.ShloMosaic.TcCoe Idealize.SL.Sem

variable (m : (ℓ : Loc nD τ sig) → Buf (Elt Ideal) ℓ) (c : Dev nD)

theorem query_same : Cert.Reference3Ideal.Read.val_main_v76 (F := Ideal) (argX m c) (argG1 m c) (argW m c) (argQg m c) = queryArr m c := by
  funext y
  obtain ⟨r, j, rfl⟩ : ∃ (r : Fin 32768) (j : Fin 512), y = (ValueIdx.ix2 r j : S32768x512.Idx) := ix2_eta y
  exact Cert.Reference3Ideal.InProj.query_flat _ _ _ _ r j

theorem key_same : Cert.Reference3Ideal.Read.val_main_v77 (F := Ideal) (argX m c) (argG1 m c) (argW m c) (argKg m c) = keyArr m c := by
  funext y
  obtain ⟨r, j, rfl⟩ : ∃ (r : Fin 32768) (j : Fin 512), y = (ValueIdx.ix2 r j : S32768x512.Idx) := ix2_eta y
  exact Cert.Reference3Ideal.InProj.key_flat _ _ _ _ r j

theorem value_same : Cert.Reference3Ideal.Read.val_main_v16 (F := Ideal) (argX m c) (argG1 m c) (argW m c) = valueArr m c := by
  funext y
  obtain ⟨r, j, rfl⟩ : ∃ (r : Fin 32768) (j : Fin 512), y = (ValueIdx.ix2 r j : S32768x512.Idx) := ix2_eta y
  exact Cert.Reference3Ideal.InProj.part16 _ _ _ r j

theorem gate_same : Cert.Reference3Ideal.Read.val_main_v91 (F := Ideal) (argX m c) (argG1 m c) (argW m c) (argSg m c) (argWs m c) (argBs m c) (argSo m c)
    = gateArr m c := by
  funext y
  obtain ⟨r, j, rfl⟩ : ∃ (r : Fin 32768) (j : Fin 512), y = (ValueIdx.ix2 r j : S32768x512.Idx) := ix2_eta y
  exact Cert.Reference3Ideal.InProj.gateNormed_ref _ _ _ _ _ _ _ r j

/-- The precondition makes the gain and the weights finite. -/
theorem finite_args (h : @Cert.Pre_Kernel3Ideal_finite Cert.Pre_finite.Gen.facts m) (c : Dev nD) : FiniteArgs m c :=
  ⟨fun y => entry_finite _ (congrFun (h c).1 y), fun y => entry_finite _ (congrFun (h c).2 y)⟩

theorem same_results : @Cert.algebraic_Kernel3Ideal_Reference3Ideal_pre_finite Cert.Kernel3Ideal.Gen.facts Cert.Reference3Ideal.Gen.facts Cert.Pre_finite.Gen.facts := by
  intro m g m' g' hpre hargs
  refine ⟨fun c => queryArr m c, fun c => keyArr m c, fun c => valueArr m c, fun c => gateArr m c, ?_, ?_⟩
  · exact (θ_run Cert.Kernel3Ideal.defs _ _).mono (fun _ h c => ⟨(h c).1.1, (h c).1.2.1, (h c).1.2.2.1, (h c).1.2.2.2, (h c).2⟩)
      (run_results m (finite_args m hpre) g)
  · refine (θ_run Cert.Reference3Ideal.defs _ _).mono (fun _ h c => ⟨(h c).1.trans ?_, (h c).2.1.trans ?_, (h c).2.2.1.trans ?_, (h c).2.2.2.1.trans ?_,
      (h c).2.2.2.2⟩) (Cert.Reference3Ideal.Value.run (F := Ideal) m' g')
    all_goals obtain ⟨h0, h1, h2, h3, h4, h5, h6, h7, h8⟩ := hargs c
    · rw [Cert.Reference3Ideal.Read.val_main_v76_eq, h0, h1, h2, h3]
      exact query_same m c
    · rw [Cert.Reference3Ideal.Read.val_main_v77_eq, h0, h1, h2, h4]
      exact key_same m c
    · rw [Cert.Reference3Ideal.Read.val_main_v16_eq, h0, h1, h2]
      exact value_same m c
    · rw [Cert.Reference3Ideal.Read.val_main_v91_eq, h0, h1, h2, h5, h6, h7, h8]
      exact gate_same m c

end Cert.Kernel3Ideal.InProj

end
-- ==== Proof.PackTable.Body.lean ====
/- One grid point of the packing call: it leaves, in row `4 e + s` of its block, the words of columns `128 s` to
   `128 s + 127` of expert `e`. -/
module

public import proofs.«01_k».proof.Proof.Gen.Kernel4.Frame
public import Idealize.ShloMosaic.Lib.Pipeline.Value
public import Idealize.ShloMosaic.Lib.ValueIdxCore

@[expose] public section

set_option maxRecDepth 16384

noncomputable section

namespace Cert.Kernel4.PackTable

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [BitOps F]

local notation "𝕄" => MT nD τ sig Unit (Elt F) ℕ (UR sig nD τ) ℕ

/-- A core's program run from the grid point's start. -/
abbrev WP (c : Dev nD) (p : Prog (TpuEff nD τ sig (Elt F) Λ₀ .tc) PUnit)
    (Q : PUnit → sProp (MT nD τ sig Unit (Elt F) ℕ (UR sig nD τ) ℕ)) : sProp 𝕄 :=
  wp frame (wpE (defs₀ (F := F)) Variants.none (c : Thread nD τ) none) Set.univ p Q

variable (c : Dev nD)
variable {Q : PUnit → sProp (MT nD τ sig Unit (Elt F) ℕ (UR sig nD τ) ℕ)}

/-- An owned buffer is loaded from at the coordinates. -/
theorem load_own {cs : CoreSpace} {s : Shape} {e : EltTy} {m : Memref sig .tc cs s e} {r : LoadRect s} {hl : m.view.LoadsAt r}
    {k : (r.shape.Idx → Elt F e) → Prog (TpuEff nD τ sig (Elt F) Λ₀ .tc) PUnit} {q : PosShare TreeShare} {X : s.Idx → Elt F e} :
    (owns (c : Thread nD τ) m q X : sProp 𝕄)
      ⊢ iprop((owns (c : Thread nD τ) m q X -∗ WP c (k (fun y => X (r.idx y))) Q) -∗ WP c (Prog.lift (.load m r hl) >>= k) Q) := by
  unfold owns
  iintro ⟨%f, %hf, H⟩ Hk
  subst hf
  iapply (wp_load (defs := defs₀ (F := F)) Variants.none (c : Thread nD τ) none Set.univ (m := m) (r := r) (hl := hl)
    (S := m.view.set) (View.setOn_subset_set m.view r.set)) $$ H
  iintro H
  iapply Hk
  iexists f
  isplitr
  · ipureintro; rfl
  · iexact H

/-- An owned buffer is stored to on a rectangle: what it reads afterwards is the payload on the rectangle and what it
    read before off it. -/
theorem store_own {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    {k : PUnit → Prog (TpuEff nD τ sig (Elt F) Λ₀ .tc) PUnit} {X : s.Idx → Elt F e} :
    (owns (c : Thread nD τ) m fullShare X : sProp 𝕄)
      ⊢ iprop((∀ Y : s.Idx → Elt F e, ⌜(∀ x ∈ Mk, Y (r.emb x) = w x) ∧ ∀ y, y ∉ Mk.map r.emb → Y y = X y⌝
          -∗ owns (c : Thread nD τ) m fullShare Y -∗ WP c (k ⟨⟩) Q) -∗ WP c (Prog.lift (.store m r w Mk hx hm) >>= k) Q) := by
  unfold owns
  iintro ⟨%f, %hf, H⟩ Hk
  subst hf
  iapply (wp_store (defs := defs₀ (F := F)) Variants.none (c : Thread nD τ) none Set.univ (m := m) (r := r) (w := w) (Mk := Mk) (hx := hx) (hm := hm)
    (S := m.view.set) (((m.access r).setOn_subset_set Mk).trans (View.set_slice_subset (v := m.view) r))) $$ H
  iintro H
  iapply Hk $$ %(m.view.read (Elt F) ((m.access r).write (Elt F) f w Mk))
  · ipureintro
    exact ⟨fun x hx => View.read_slice_write_emb (v := m.view) r f w hx, fun y hy => View.read_slice_write_of_not_mem (v := m.view) r f w Mk hy⟩
  · iexists _
    isplitr
    swap
    · iexact H
    · ipureintro; rfl

/-- A finished program. -/
theorem ret_own : Q ⟨⟩ ⊢ WP c (pure ⟨⟩) Q := by
  show Q ⟨⟩ ⊢ wp frame _ Set.univ (.ret ⟨⟩) Q
  rw [wp_ret]
  exact BI.fupd_intro

/-- The word of two entries: the first rounded to bf16 in the lower half, the second in the upper. -/
def word (a b : F .f32) : BitVec 32 :=
  BitOps.toBits (FloatOps.truncf .bf16 (by decide) b) ++ BitOps.toBits (FloatOps.truncf .bf16 (by decide) a)

/-- Where in an expert's row the two entries of word `l` of its word row `s` stand. -/
def lo (s : ℕ) (l : Fin 128) : Fin 1024 := ⟨128 * (s % 4) + l.val, by omega⟩
def hi (s : ℕ) (l : Fin 128) : Fin 1024 := ⟨512 + (128 * (s % 4) + l.val), by omega⟩

/-- What a grid point leaves of its block of 512 experts. -/
def outBlk (x : S512x1024.Idx → F .f32) : S2048x128.Idx → BitVec 32 := fun y =>
  word (x (ix2 ⟨(y 0).val / 4, by have : (y 0).val < 2048 := (y 0).isLt; omega⟩ (lo (y 0).val (y 1))))
    (x (ix2 ⟨(y 0).val / 4, by have : (y 0).val < 2048 := (y 0).isLt; omega⟩ (hi (y 0).val (y 1))))

/-- The rows from `s` on, every fourth. -/
abbrev fourth (s : ℕ) (h : ∀ a, S512x128.size a = 0 ∨ (![s, 0] : Fin 2 → ℕ) a + (![4, 1] : Fin 2 → ℕ) a * (S512x128.size a - 1) < S2048x128.size a)
    (hp : ∀ a, 0 < (![4, 1] : Fin 2 → ℕ) a) : Rect S2048x128 :=
  ⟨(⟨![s, 0], S512x128.size, ![4, 1], h⟩ : LoadRect S2048x128), hp⟩

/-- A store to them: they hold the payload's rows in order, and the other rows are kept. -/
theorem rows_stored (s : ℕ) (hs : s < 4) (h) (hp) (w : S512x128.Idx → BitVec 32) (X Y : S2048x128.Idx → BitVec 32)
    (hY : (∀ x ∈ (Finset.univ : Finset (fourth s h hp).shape.Idx), Y ((fourth s h hp).emb x) = w x)
      ∧ ∀ y, y ∉ (Finset.univ : Finset (fourth s h hp).shape.Idx).map (fourth s h hp).emb → Y y = X y) (y : S2048x128.Idx) :
    Y y = if (y 0).val % 4 = s then w (ix2 ⟨(y 0).val / 4, by have : (y 0).val < 2048 := (y 0).isLt; omega⟩ (y 1)) else X y := by
  split_ifs with hc
  · have hyx : y = (fourth s h hp).emb (ix2 ⟨(y 0).val / 4, by have : (y 0).val < 2048 := (y 0).isLt; omega⟩ (y 1) : S512x128.Idx) := by
      funext a
      fin_cases a
      · apply Fin.ext
        show (y 0).val = s + 4 * ((y 0).val / 4)
        omega
      · apply Fin.ext
        show (y 1).val = 0 + 1 * (y 1).val
        omega
    have e := hY.1 (ix2 ⟨(y 0).val / 4, by have : (y 0).val < 2048 := (y 0).isLt; omega⟩ (y 1) : S512x128.Idx) (Finset.mem_univ _)
    rw [← hyx] at e
    exact e
  · refine hY.2 y fun hm => hc ?_
    obtain ⟨x, -, hxy⟩ := Finset.mem_map.mp hm
    have h0 : (((fourth s h hp).emb x) 0).val = s + 4 * (x 0).val := rfl
    rw [hxy] at h0
    omega

/-- The words of one quarter of the columns of a block. -/
theorem quarter_apply (x : S512x1024.Idx → F .f32) (s : ℕ) (hs : s < 4) (off : Fin 2 → ℕ) (hoff : off = ![0, 128 * s]) (h : S512x512.Slices off S512x128)
    (r : Fin 2048) (hr : r.val % 4 = s) (l : Fin 128) :
    extractStridedSlice S512x128 off
        (packElementwise (fun y => x ((Rect.unit (s := S512x1024) ![0, 0] S512x512.size inb_S512x1024_S512x512_0_0).toLoadRect.idx y))
          (fun y => x ((Rect.unit (s := S512x1024) ![0, 512] S512x512.size inb_S512x1024_S512x512_0_512).toLoadRect.idx y)) : IVec S512x512 32) h
        (ix2 ⟨r.val / 4, by omega⟩ l) = outBlk x (ix2 r l) := by
  subst hoff
  refine (extractStridedSlice_apply _ _ _ _ (ix2 ⟨r.val / 4, by omega⟩ ⟨128 * s + l.val, by omega⟩ : S512x512.Idx) ?_).trans ?_
  · intro a
    match a with
    | ⟨0, _⟩ => show r.val / 4 = 0 + r.val / 4; omega
    | ⟨1, _⟩ => show 128 * s + l.val = 128 * s + l.val; rfl
  have h0 : (Rect.unit (s := S512x1024) ![0, 0] S512x512.size inb_S512x1024_S512x512_0_0).toLoadRect.idx
      (ix2 ⟨r.val / 4, by omega⟩ ⟨128 * s + l.val, by omega⟩ : S512x512.Idx) = (ix2 ⟨r.val / 4, by omega⟩ (lo r.val l) : S512x1024.Idx) := by
    funext a
    match a with
    | ⟨0, _⟩ => exact Fin.ext (by show 0 + 1 * (r.val / 4) = r.val / 4; omega)
    | ⟨1, _⟩ => exact Fin.ext (by show 0 + 1 * (128 * s + l.val) = 128 * (r.val % 4) + l.val; omega)
  have h1 : (Rect.unit (s := S512x1024) ![0, 512] S512x512.size inb_S512x1024_S512x512_0_512).toLoadRect.idx
      (ix2 ⟨r.val / 4, by omega⟩ ⟨128 * s + l.val, by omega⟩ : S512x512.Idx) = (ix2 ⟨r.val / 4, by omega⟩ (hi r.val l) : S512x1024.Idx) := by
    funext a
    match a with
    | ⟨0, _⟩ => exact Fin.ext (by show 0 + 1 * (r.val / 4) = r.val / 4; omega)
    | ⟨1, _⟩ => exact Fin.ext (by show 512 + 1 * (128 * s + l.val) = 512 + (128 * (r.val % 4) + l.val); omega)
  show word (x _) (x _) = word (x _) (x _)
  rw [h0, h1]

/-- The body: four stores, each to every fourth row. -/
theorem body_own (i : grid0.Coords) (arg1 : Memref sig .tc .vmem S512x1024 .f32) (harg1 : arg1.IsWhole) (arg2 : Memref sig .tc .vmem S2048x128 .i32) (harg2 : arg2.IsWhole)
    (x : S512x1024.Idx → F .f32) (d : S2048x128.Idx → BitVec 32) :
    iprop(owns (c : Thread nD τ) arg1 fullShare x ∗ owns (c : Thread nD τ) arg2 fullShare d
        ∗ (iprop(owns (c : Thread nD τ) arg1 fullShare x ∗ owns (c : Thread nD τ) arg2 fullShare (outBlk x)) -∗ Q ⟨⟩))
      ⊢ WP c (cc0_pack_table (F := F) i arg1 harg1 arg2 harg2) Q := by
  unfold cc0_pack_table
  dsimp only
  iintro ⟨H1, H2, Hk⟩
  iapply (load_own c (m := arg1)) $$ H1
  iintro H1
  iapply (load_own c (m := arg1)) $$ H1
  iintro H1
  iapply (load_own c (m := arg2)) $$ H2
  iintro H2
  iapply (store_own c (m := arg2)) $$ H2
  iintro %Y0 %h0 H2
  iapply (load_own c (m := arg2)) $$ H2
  iintro H2
  iapply (store_own c (m := arg2)) $$ H2
  iintro %Y1 %h1 H2
  iapply (load_own c (m := arg2)) $$ H2
  iintro H2
  iapply (store_own c (m := arg2)) $$ H2
  iintro %Y2 %h2 H2
  iapply (load_own c (m := arg2)) $$ H2
  iintro H2
  iapply (store_own c (m := arg2)) $$ H2
  iintro %Y3 %h3 H2
  have e : Y3 = outBlk x := by
    funext y
    obtain ⟨r, l, rfl⟩ : ∃ (r : Fin 2048) (l : Fin 128), y = (ix2 r l : S2048x128.Idx) :=
      ⟨y 0, y 1, funext fun b => by match b with | ⟨0, _⟩ => rfl | ⟨1, _⟩ => rfl⟩
    have k0 := rows_stored 0 (by omega) _ _ _ _ _ h0 (ix2 r l)
    have k1 := rows_stored 1 (by omega) _ _ _ _ _ h1 (ix2 r l)
    have k2 := rows_stored 2 (by omega) _ _ _ _ _ h2 (ix2 r l)
    have k3 := rows_stored 3 (by omega) _ _ _ _ _ h3 (ix2 r l)
    change Y0 (ix2 r l) = if r.val % 4 = 0 then _ else _ at k0
    change Y1 (ix2 r l) = if r.val % 4 = 1 then _ else _ at k1
    change Y2 (ix2 r l) = if r.val % 4 = 2 then _ else _ at k2
    change Y3 (ix2 r l) = if r.val % 4 = 3 then _ else _ at k3
    have hr : r.val % 4 = 0 ∨ r.val % 4 = 1 ∨ r.val % 4 = 2 ∨ r.val % 4 = 3 := by omega
    rcases hr with hr | hr | hr | hr
    · rw [k3, if_neg (by omega), k2, if_neg (by omega), k1, if_neg (by omega), k0, if_pos hr]
      exact quarter_apply x 0 (by omega) _ rfl _ r hr l
    · rw [k3, if_neg (by omega), k2, if_neg (by omega), k1, if_pos hr]
      exact quarter_apply x 1 (by omega) _ rfl _ r hr l
    · rw [k3, if_neg (by omega), k2, if_pos hr]
      exact quarter_apply x 2 (by omega) _ rfl _ r hr l
    · rw [k3, if_pos hr]
      exact quarter_apply x 3 (by omega) _ rfl _ r hr l
  subst e
  iapply (ret_own c (Q := Q))
  iapply Hk
  isplitl [H1]; · iexact H1
  iexact H2

end Cert.Kernel4.PackTable

end
-- ==== Proof.PackTable.Launch.lean ====
/- The packing call's run: what the grid's points leave, and the arguments and counters at the end. -/
module

public import proofs.«01_k».proof.Proof.PackTable.Body

@[expose] public section

set_option maxRecDepth 16384

noncomputable section

namespace Cert.Kernel4.PackTable

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What the windows hold after each point: the input's its block, the output's the packed words. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlk (F := F) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outBlk (F := F) (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-- What a point starts with and what it ends with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, after0_0, after0_1]
  iintro ⟨HΦ, Ho, ⟨%d0, H0⟩, ⟨%d1, H1⟩⟩
  iapply (body_own (F := F) c (grid0.coords t) _ _ _ _ (iblk m c 0 t) _)
  isplitl [H0]; · iexact H0
  isplitl [H1]; · iexact H1
  iintro ⟨H0, H1⟩
  isplitl [HΦ]; · iexact HΦ
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array at the pipeline's account of it, every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument is kept, the result is the account of its blocks, and every counter ends at zero. -/
theorem run_result : θ_run defs (onTc (τ := τ) (main (F := F))) ⟨m, fun _ => 0, ρ⟩ (fun r => (∀ c : Dev nD,
      r.2.mem ((c.tc : Thread nD τ).loc main_v0) = (dats m 0 c).arrAt 1 cfg0.N
      ∧ r.2.mem ((c.tc : Thread nD τ).loc main_arg0) = m ((c.tc : Thread nD τ).loc main_arg0))
      ∧ r.2.sem = fun _ => 0) :=
  (θ_run defs _ _).mono (fun _ h => ⟨fun c => ⟨(h.1 c).1 1, ((h.1 c).1 0).trans (((dats m 0 c).arrAt_in 0 rfl _).trans ((A_eq m c 0).trans (V_main_arg0 m c)))⟩,
    h.2⟩) (run_main m ρ)

end Cert.Kernel4.PackTable

end
-- ==== Proof.PackTable.Equal.lean ====
/- The packing call and its reference leave the same words. -/
module

public import proofs.«01_k».proof.Defs
public import proofs.«01_k».proof.Proof.Gen.Kernel4
public import proofs.«01_k».proof.Proof.Gen.Reference4.Run
public import proofs.«01_k».proof.Proof.Gen.Reference4.Read
public import proofs.«01_k».proof.Proof.PackTable.Launch
public import Idealize.ShloMosaic.Lib.ValueLayout
public import Idealize.ShloMosaic.Lib.Pipeline.ValueKit.Geometry

@[expose] public section

set_option maxRecDepth 16384

noncomputable section

namespace Cert.Kernel4.PackTable

open Cert.Kernel4 Cert.Kernel4.Gen
open Idealize.ShloMosaic Idealize.ShloMosaic.TcCoe Idealize.ShloMosaic.Tactic Idealize.SL.Sem
open Idealize.ShloMosaic.ValueIdx (ix1 ix2 ix3)

/-- Two halves put side by side are the upper one moved up and the lower one joined by "or". -/
theorem halves_joined (h l : BitVec 16) : (h ++ l : BitVec 32) = (h.setWidth 32 <<< 16) ||| l.setWidth 32 := by
  ext i hi
  simp [BitVec.getElem_append]
  grind

section
variable {F : FTy → Type} [BitOps F]
variable (m : (ℓ : Loc nD τ sig) → Buf (Elt F) ℓ) (c : Dev nD)

/-- The table. -/
def argT : S16384x1024.Idx → F .f32 := m ((c : Thread nD τ).loc main_arg0)

/-- The packed table: row `4 e + s` holds the words of columns `128 s` to `128 s + 127` of expert `e`. -/
def packed (x : S16384x1024.Idx → F .f32) : S65536x128.Idx → BitVec 32 := fun y =>
  word (x (ix2 ⟨(y 0).val / 4, by have : (y 0).val < 65536 := (y 0).isLt; omega⟩ (lo (y 0).val (y 1))))
    (x (ix2 ⟨(y 0).val / 4, by have : (y 0).val < 65536 := (y 0).isLt; omega⟩ (hi (y 0).val (y 1))))

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem points (t : Fin cfg0.N) : t.val < 32 := (t.isLt : t.val < grid0.N)

/-- The block of experts at a grid point. -/
theorem blk0 (t : Fin cfg0.N) (a : Fin 512) (j : Fin 1024) :
    iblk m c 0 t (ix2 a j : S512x1024.Idx) = argT m c (ix2 ⟨512 * t.val + a.val, by have := points t; omega⟩ j) := by
  have h0 : ((cfg0.win 0).blk t).view.emb (ix2 a j : S512x1024.Idx) = (ix2 ⟨512 * t.val + a.val, by have := points t; omega⟩ j : S16384x1024.Idx) := by
    blk_ext [idx0 t, show (ix2 a j : S512x1024.Idx) 0 = a from rfl, Nat.mul_comm]
  exact congrArg (argT m c) h0

theorem result : (dats m 0 c).arrAt 1 cfg0.N = packed (argT m c) := by
  refine (dats m 0 c).arrAt_eq_of_covers 1 _ (by decide +kernel) fun t hf y => ?_
  blk_simp
  rw [after0_1]
  obtain ⟨r, l, rfl⟩ : ∃ (r : Fin 2048) (l : Fin 128), y = (ix2 r l : S2048x128.Idx) :=
    ⟨y 0, y 1, funext fun b => by match b with | ⟨0, _⟩ => rfl | ⟨1, _⟩ => rfl⟩
  have h0 : ((cfg0.win 1).blk t).view.emb (ix2 r l : S2048x128.Idx) = (ix2 ⟨2048 * t.val + r.val, by have := points t; omega⟩ l : S65536x128.Idx) := by
    blk_ext [idx1 t, show (ix2 r l : S2048x128.Idx) 0 = r from rfl, Nat.mul_comm]
  erw [h0]
  show word (iblk m c 0 t (ix2 (⟨r.val / 4, _⟩ : Fin 512) (lo r.val l) : S512x1024.Idx)) (iblk m c 0 t (ix2 (⟨r.val / 4, _⟩ : Fin 512) (hi r.val l) : S512x1024.Idx))
    = word (argT m c (ix2 (⟨(2048 * t.val + r.val) / 4, _⟩ : Fin 16384) (lo (2048 * t.val + r.val) l))) (argT m c (ix2 (⟨(2048 * t.val + r.val) / 4, _⟩ : Fin 16384) (hi (2048 * t.val + r.val) l)))
  have e0 : ∀ h h', (⟨512 * t.val + r.val / 4, h⟩ : Fin 16384) = ⟨(2048 * t.val + r.val) / 4, h'⟩ := fun h h' => Fin.ext (by show 512 * t.val + r.val / 4 = (2048 * t.val + r.val) / 4; omega)
  have e1 : lo r.val l = lo (2048 * t.val + r.val) l := Fin.ext (by show 128 * (r.val % 4) + l.val = 128 * ((2048 * t.val + r.val) % 4) + l.val; omega)
  have e2 : hi r.val l = hi (2048 * t.val + r.val) l := Fin.ext (by show 512 + (128 * (r.val % 4) + l.val) = 512 + (128 * ((2048 * t.val + r.val) % 4) + l.val); omega)
  rw [blk0, blk0, e0, e1, e2]

/-- The reference's array is the packed table. -/
theorem reference_packed (x : S16384x1024.Idx → F .f32) : Cert.Reference4.Read.val_main_v8 (F := F) x = packed x := by
  funext y
  obtain ⟨r, l, rfl⟩ : ∃ (r : Fin 65536) (l : Fin 128), y = (ix2 r l : S65536x128.Idx) :=
    ⟨y 0, y 1, funext fun b => by match b with | ⟨0, _⟩ => rfl | ⟨1, _⟩ => rfl⟩
  rw [Cert.Reference4.Read.val_main_v8_apply, Cert.Reference4.Read.val_main_v7_apply, Cert.Reference4.Read.val_main_v5_apply, Cert.Reference4.Read.val_main_v4_apply,
    Cert.Reference4.Read.val_main_c_apply, Cert.Reference4.Read.val_main_v3_apply, Cert.Reference4.Read.val_main_v6_apply, Cert.Reference4.Read.val_main_v2_apply,
    Cert.Reference4.Read.val_main_v2_apply, Cert.Reference4.Read.val_main_v1_apply, Cert.Reference4.Read.val_main_v1_apply, Cert.Reference4.Read.val_main_v0_apply,
    Cert.Reference4.Read.val_main_v0_apply]
  have h0 : Cert.Reference4.Read.idx_main_v6 (Cert.Reference4.Read.idx_main_v8 (ix2 r l)) = (ix2 ⟨r.val / 4, by omega⟩ (lo r.val l) : S16384x1024.Idx) := by
    funext a
    match a with
    | ⟨0, _⟩ => exact Fin.ext (by show (r.val * 128 + l.val) / 512 = r.val / 4; omega)
    | ⟨1, _⟩ => exact Fin.ext (by show (r.val * 128 + l.val) % 512 = 128 * (r.val % 4) + l.val; omega)
  have h1 : Cert.Reference4.Read.idx_main_v3 (Cert.Reference4.Read.idx_main_v8 (ix2 r l)) = (ix2 ⟨r.val / 4, by omega⟩ (hi r.val l) : S16384x1024.Idx) := by
    funext a
    match a with
    | ⟨0, _⟩ => exact Fin.ext (by show (r.val * 128 + l.val) / 512 = r.val / 4; omega)
    | ⟨1, _⟩ => exact Fin.ext (by show 512 + (r.val * 128 + l.val) % 512 = 512 + (128 * (r.val % 4) + l.val); omega)
  erw [h0, h1]
  exact (halves_joined _ _).symm

end

theorem same_words : @Cert.bitexact_Kernel4_Reference4 Cert.Kernel4.Gen.facts Cert.Reference4.Gen.facts := by
  intro m g m' g' hpre hargs
  refine ⟨fun c => packed (F := Bits) (argT m c), ?_, ?_⟩
  · exact (θ_run Cert.Kernel4.defs _ _).mono (fun _ h c => ⟨((h.1 c).1).trans (result m c), (h.1 c).2⟩) (run_result (F := Bits) m g)
  · refine (θ_run Cert.Reference4.defs _ _).mono (fun _ h c => ⟨(h c).1.trans ?_, (h c).2⟩) (Cert.Reference4.Value.run (F := Bits) m' g')
    rw [Cert.Reference4.Read.val_main_v8_eq, hargs c]
    exact reference_packed (F := Bits) (argT m c)

end Cert.Kernel4.PackTable

end
-- ==== Proof.lean ====
/- The claims about the expert-products call (`peer_u`), the output-projection call (`out_proj`) and the
   input-projection call (`in_proj`): for each, the frames of the kernel, of its reading at the ideal instance and of the reference, and that the kernel computes the
   reference at the ideal instance. And about the packing call (`pack_table`): the frames of the kernel and of the
   reference, and that both leave the same words.

   Modules about the expert products, in the order they build on one another (proof/Proof/PeerU/):
     Prog      the body's parts, written once each: gathering a token's rows, multiplying, the ring over tokens
     PointEq   one grid point's body is those parts, in order
     Gather    the gather's run
     Ring      the products' and the ring's run
     Transfer  the transfers' run; what a transfer leaves
     Start     what is on its way between grid points
     StartRun  the run of a point's transfers
     Launch    the run of the whole program
     Words     what the operands hold when the call starts
     Range     what the precondition says
     Same      the program as printed and as read at the ideal instance are one program
     Halves    a word's two halves, as bf16 numbers, are the numbers the host's shift and mask give
     Spec      the mathematics on plain arrays
     Cells     what a grid point computes
     Result    the array the call leaves
     Reference the array the reference leaves
     Equal     the two are the same

   Modules about the output-projection call (`out_proj`; proof/Proof/OutProj/):
     Spec      the mathematics of one token
     Block     what a grid point computes from its blocks
     Arrays    what the blocks hold, from the arguments
     Result    the three arrays the call leaves
     Reference the three arrays the reference leaves
     Equal     they are the same

   Modules about the input-projection call (`in_proj`; proof/Proof/InProj/):
     Spec      the mathematics of one token and of its block of 128 tokens, and which values are finite
     Block     the parts a grid point's body is made of, entry by entry
     Tile      the same parts at their places in a tile of 512 tokens
     Out       the four output blocks of a grid point
     Tokens    the four results at a token, from the arguments
     Start     what the operands hold when the call starts
     Arrays    what the blocks hold, from the arguments
     Range     what the precondition says
     Result    the four arrays the call leaves
     Heads     the reference's projections and normalised heads
     Gate      the reference's gated rows
     Equal     they are the same

   Modules about the packing call (`pack_table`; proof/Proof/PackTable/):
     Body      what a grid point leaves of its block of experts
     Launch    the run of the whole program
     Equal     the array the call leaves, and that the reference leaves the same -/
module

public import proofs.«01_k».proof.Defs
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.Gen.Pre_experts_exist
public import proofs.«01_k».proof.Proof.PeerU.Range
public import proofs.«01_k».proof.Proof.PeerU.Same
public import proofs.«01_k».proof.Proof.PeerU.Equal
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.OutProj.Equal
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Pre_finite
public import proofs.«01_k».proof.Proof.InProj.Equal
public import proofs.«01_k».proof.Proof.Gen.Kernel4.Frame
public import proofs.«01_k».proof.Proof.Gen.Reference4.Run
public import proofs.«01_k».proof.Proof.Gen.Reference4.Read
public import proofs.«01_k».proof.Proof.PackTable.Equal

@[expose] public section

noncomputable section

namespace Cert.Proof

open Idealize.ShloMosaic Idealize.ShloMosaic.TcCoe Idealize.SL.Sem

/-- A run of a program is a run of an equal one. -/
theorem run_congr {nD : ℕ} {τ : Topo} {sig : RefSig} {Val : EltTy → Type} {Λ : Labels} {d₁ d₂ : Defs nD τ sig Val Λ}
    {p₁ p₂ : (c : Thread nD τ) → Prog (TpuEff nD τ sig Val Λ c.2) PUnit} (hd : d₁ = d₂) (hp : p₁ = p₂) {s : MemSt nD τ sig Val}
    {P : PUnit × MemSt nD τ sig Val → Prop} (h : θ_run d₂ p₂ s P) : θ_run d₁ p₁ s P := by
  subst hd hp
  exact h

set_option maxRecDepth 100000 in
set_option maxHeartbeats 8000000 in
theorem frame_kernel : Cert.quiescent_Kernel := fun m ρ hpre =>
  run_congr Cert.KernelIdeal.PeerU.same_defs (congrArg (fun p => onTc (τ := Cert.KernelIdeal.τ) p) Cert.KernelIdeal.PeerU.same_main)
    ((θ_run Cert.KernelIdeal.defs _ _).mono (fun _ h => ⟨fun c => (h.1 c).1, h.2⟩)
      (Cert.KernelIdeal.PeerU.run_result (F := Bits) m ρ
        (Cert.KernelIdeal.PeerU.words_ok m fun c => Cert.KernelIdeal.PeerU.expert_lt _ _ _ _ (hpre c))))

theorem frame_kernelIdeal : Cert.quiescent_KernelIdeal := fun m ρ hpre =>
  (θ_run Cert.KernelIdeal.defs _ _).mono (fun _ h => ⟨fun c => (h.1 c).1, h.2⟩)
    (Cert.KernelIdeal.PeerU.run_result (F := Ideal) m ρ
      (Cert.KernelIdeal.PeerU.words_ok m fun c => Cert.KernelIdeal.PeerU.expert_lt _ _ _ _ (hpre c)))

theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The frames of the output projection's programs. -/
theorem frame_kernel2 : @Cert.quiescent_Kernel2 Cert.Kernel2.Gen.facts := fun m ρ _ => Cert.Kernel2.Gen.frame (F := Bits) m ρ

theorem frame_kernel2Ideal : @Cert.quiescent_Kernel2Ideal Cert.Kernel2Ideal.Gen.facts := fun m ρ _ => Cert.Kernel2Ideal.Gen.frame (F := Ideal) m ρ

theorem frame_reference2Ideal : @Cert.quiescent_Reference2Ideal Cert.Reference2Ideal.Gen.facts := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

/-- The frames of the input projection's programs. -/
theorem frame_kernel3 : @Cert.quiescent_Kernel3 Cert.Kernel3.Gen.facts := fun m ρ _ => Cert.Kernel3.Gen.frame (F := Bits) m ρ

theorem frame_kernel3Ideal : @Cert.quiescent_Kernel3Ideal Cert.Kernel3Ideal.Gen.facts := fun m ρ _ => Cert.Kernel3Ideal.Gen.frame (F := Ideal) m ρ

theorem frame_kernel3Ideal_finite : @Cert.quiescent_Kernel3Ideal_pre_finite Cert.Kernel3Ideal.Gen.facts Cert.Pre_finite.Gen.facts := fun m ρ _ =>
  Cert.Kernel3Ideal.Gen.frame (F := Ideal) m ρ

theorem frame_reference3Ideal : @Cert.quiescent_Reference3Ideal Cert.Reference3Ideal.Gen.facts := fun m ρ _ =>
  (θ_run Cert.Reference3Ideal.defs _ _).mono
    (fun r h => ⟨fun c => (h c).2.2.2.2, Idealize.ShloMosaic.sem_eq_zero_of_no_sems (by decide) r.2⟩)
    (Cert.Reference3Ideal.Value.run (F := Ideal) m ρ)

theorem frame_reference3Ideal_finite : @Cert.quiescent_Reference3Ideal_pre_finite Cert.Reference3Ideal.Gen.facts Cert.Pre_finite.Gen.facts :=
  fun m ρ _ => frame_reference3Ideal m ρ trivial

/-- The frames of the packing's programs. -/
theorem frame_kernel4 : @Cert.quiescent_Kernel4 Cert.Kernel4.Gen.facts := fun m ρ _ =>
  (θ_run Cert.Kernel4.defs _ _).mono (fun _ h => ⟨fun c => (h.1 c).2, h.2⟩) (Cert.Kernel4.PackTable.run_result (F := Bits) m ρ)

theorem frame_reference4 : @Cert.quiescent_Reference4 Cert.Reference4.Gen.facts := fun m ρ _ =>
  (θ_run Cert.Reference4.defs _ _).mono
    (fun r h => ⟨fun c => (h c).2, Idealize.ShloMosaic.sem_eq_zero_of_no_sems (by decide) r.2⟩)
    (Cert.Reference4.Value.run (F := Bits) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Reference4.Gen.facts, Cert.Pre_experts_exist.Gen.facts, Cert.Pre_finite.Gen.facts,
  frame_kernel, frame_kernelIdeal, frame_referenceIdeal, frame_kernel2, frame_kernel2Ideal, frame_reference2Ideal,
  frame_kernel3, frame_kernel3Ideal, frame_kernel3Ideal_finite, frame_reference3Ideal, frame_reference3Ideal_finite,
  frame_kernel4, frame_reference4,
  trivial, Cert.KernelIdeal.PeerU.same_result, trivial, Cert.Kernel2Ideal.OutProj.same_results, trivial, Cert.Kernel3Ideal.InProj.same_results,
  Cert.Kernel4.PackTable.same_words⟩

end Cert.Proof

end
